-- ==== Defs.lean ====
def Pre_Branch (m : (ℓ : Loc Cert.Branch.nD Cert.Branch.τ Cert.Branch.sig) → Buf (Elt Bits) ℓ) : Prop :=
  True

def Pre_BranchIdeal (m : (ℓ : Loc Cert.BranchIdeal.nD Cert.BranchIdeal.τ Cert.BranchIdeal.sig) → Buf (Elt Ideal) ℓ) : Prop :=
  True

def Pre_RefBranchIdeal (m : (ℓ : Loc Cert.RefBranchIdeal.nD Cert.RefBranchIdeal.τ Cert.RefBranchIdeal.sig) → Buf (Elt Ideal) ℓ) : Prop :=
  True

def Pre_Outnorm (m : (ℓ : Loc Cert.Outnorm.nD Cert.Outnorm.τ Cert.Outnorm.sig) → Buf (Elt Bits) ℓ) : Prop :=
  True

def Pre_OutnormIdeal (m : (ℓ : Loc Cert.OutnormIdeal.nD Cert.OutnormIdeal.τ Cert.OutnormIdeal.sig) → Buf (Elt Ideal) ℓ) : Prop :=
  True

def Pre_RefOutnormIdeal (m : (ℓ : Loc Cert.RefOutnormIdeal.nD Cert.RefOutnormIdeal.τ Cert.RefOutnormIdeal.sig) → Buf (Elt Ideal) ℓ) : Prop :=
  True

def Pre_Ffnup (m : (ℓ : Loc Cert.Ffnup.nD Cert.Ffnup.τ Cert.Ffnup.sig) → Buf (Elt Bits) ℓ) : Prop :=
  True

def Pre_FfnupIdeal (m : (ℓ : Loc Cert.FfnupIdeal.nD Cert.FfnupIdeal.τ Cert.FfnupIdeal.sig) → Buf (Elt Ideal) ℓ) : Prop :=
  True

def Pre_RefFfnupIdeal (m : (ℓ : Loc Cert.RefFfnupIdeal.nD Cert.RefFfnupIdeal.τ Cert.RefFfnupIdeal.sig) → Buf (Elt Ideal) ℓ) : Prop :=
  True

def Pre_Ffndown (m : (ℓ : Loc Cert.Ffndown.nD Cert.Ffndown.τ Cert.Ffndown.sig) → Buf (Elt Bits) ℓ) : Prop :=
  True

def Pre_FfndownIdeal (m : (ℓ : Loc Cert.FfndownIdeal.nD Cert.FfndownIdeal.τ Cert.FfndownIdeal.sig) → Buf (Elt Ideal) ℓ) : Prop :=
  True

def Pre_RefFfndownIdeal (m : (ℓ : Loc Cert.RefFfndownIdeal.nD Cert.RefFfndownIdeal.τ Cert.RefFfndownIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojIdeal_finite [hPre_finite : Cert.Pre_finite.Facts] (m : (ℓ : Loc Cert.InprojIdeal.nD Cert.InprojIdeal.τ Cert.InprojIdeal.sig) → Buf (Elt Ideal) ℓ) : Prop :=
  ∀ c : Dev Cert.InprojIdeal.nD,
    (Cert.Pre_finite.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3))) = (fun _ => 1#1)

def Pre_RefInprojIdeal (m : (ℓ : Loc Cert.RefInprojIdeal.nD Cert.RefInprojIdeal.τ Cert.RefInprojIdeal.sig) → Buf (Elt Ideal) ℓ) : Prop :=
  True

def Pre_RefInprojIdeal_finite [hPre_finite : Cert.Pre_finite.Facts] (m : (ℓ : Loc Cert.RefInprojIdeal.nD Cert.RefInprojIdeal.τ Cert.RefInprojIdeal.sig) → Buf (Elt Ideal) ℓ) : Prop :=
  ∀ c : Dev Cert.RefInprojIdeal.nD,
    (Cert.Pre_finite.fn (F := Ideal) (m ((c.tc : Thread Cert.RefInprojIdeal.nD Cert.RefInprojIdeal.τ).loc Cert.RefInprojIdeal.main_arg0)) (m ((c.tc : Thread Cert.RefInprojIdeal.nD Cert.RefInprojIdeal.τ).loc Cert.RefInprojIdeal.main_arg1)) (m ((c.tc : Thread Cert.RefInprojIdeal.nD Cert.RefInprojIdeal.τ).loc Cert.RefInprojIdeal.main_arg2)) (m ((c.tc : Thread Cert.RefInprojIdeal.nD Cert.RefInprojIdeal.τ).loc Cert.RefInprojIdeal.main_arg3))) = (fun _ => 1#1)

def Pre_Downsample (m : (ℓ : Loc Cert.Downsample.nD Cert.Downsample.τ Cert.Downsample.sig) → Buf (Elt Bits) ℓ) : Prop :=
  True

def Pre_DownsampleIdeal (m : (ℓ : Loc Cert.DownsampleIdeal.nD Cert.DownsampleIdeal.τ Cert.DownsampleIdeal.sig) → Buf (Elt Ideal) ℓ) : Prop :=
  True

def Pre_RefDownsampleIdeal (m : (ℓ : Loc Cert.RefDownsampleIdeal.nD Cert.RefDownsampleIdeal.τ Cert.RefDownsampleIdeal.sig) → Buf (Elt Ideal) ℓ) : Prop :=
  True

def Pre_Insample (m : (ℓ : Loc Cert.Insample.nD Cert.Insample.τ Cert.Insample.sig) → Buf (Elt Bits) ℓ) : Prop :=
  True

def Pre_InsampleIdeal (m : (ℓ : Loc Cert.InsampleIdeal.nD Cert.InsampleIdeal.τ Cert.InsampleIdeal.sig) → Buf (Elt Ideal) ℓ) : Prop :=
  True

def Pre_InsampleIdeal_finite_sample [hPre_finite_sample : Cert.Pre_finite_sample.Facts] (m : (ℓ : Loc Cert.InsampleIdeal.nD Cert.InsampleIdeal.τ Cert.InsampleIdeal.sig) → Buf (Elt Ideal) ℓ) : Prop :=
  ∀ c : Dev Cert.InsampleIdeal.nD,
    (Cert.Pre_finite_sample.fn (F := Ideal) (m ((c.tc : Thread Cert.InsampleIdeal.nD Cert.InsampleIdeal.τ).loc Cert.InsampleIdeal.main_arg0)) (m ((c.tc : Thread Cert.InsampleIdeal.nD Cert.InsampleIdeal.τ).loc Cert.InsampleIdeal.main_arg1)) (m ((c.tc : Thread Cert.InsampleIdeal.nD Cert.InsampleIdeal.τ).loc Cert.InsampleIdeal.main_arg2)) (m ((c.tc : Thread Cert.InsampleIdeal.nD Cert.InsampleIdeal.τ).loc Cert.InsampleIdeal.main_arg3))) = (fun _ => 1#1)

def Pre_RefInsampleIdeal (m : (ℓ : Loc Cert.RefInsampleIdeal.nD Cert.RefInsampleIdeal.τ Cert.RefInsampleIdeal.sig) → Buf (Elt Ideal) ℓ) : Prop :=
  True

def Pre_RefInsampleIdeal_finite_sample [hPre_finite_sample : Cert.Pre_finite_sample.Facts] (m : (ℓ : Loc Cert.RefInsampleIdeal.nD Cert.RefInsampleIdeal.τ Cert.RefInsampleIdeal.sig) → Buf (Elt Ideal) ℓ) : Prop :=
  ∀ c : Dev Cert.RefInsampleIdeal.nD,
    (Cert.Pre_finite_sample.fn (F := Ideal) (m ((c.tc : Thread Cert.RefInsampleIdeal.nD Cert.RefInsampleIdeal.τ).loc Cert.RefInsampleIdeal.main_arg0)) (m ((c.tc : Thread Cert.RefInsampleIdeal.nD Cert.RefInsampleIdeal.τ).loc Cert.RefInsampleIdeal.main_arg1)) (m ((c.tc : Thread Cert.RefInsampleIdeal.nD Cert.RefInsampleIdeal.τ).loc Cert.RefInsampleIdeal.main_arg2)) (m ((c.tc : Thread Cert.RefInsampleIdeal.nD Cert.RefInsampleIdeal.τ).loc Cert.RefInsampleIdeal.main_arg3))) = (fun _ => 1#1)

def Pre_Upsample (m : (ℓ : Loc Cert.Upsample.nD Cert.Upsample.τ Cert.Upsample.sig) → Buf (Elt Bits) ℓ) : Prop :=
  True

def Pre_UpsampleIdeal (m : (ℓ : Loc Cert.UpsampleIdeal.nD Cert.UpsampleIdeal.τ Cert.UpsampleIdeal.sig) → Buf (Elt Ideal) ℓ) : Prop :=
  True

def Pre_RefUpsampleIdeal (m : (ℓ : Loc Cert.RefUpsampleIdeal.nD Cert.RefUpsampleIdeal.τ Cert.RefUpsampleIdeal.sig) → Buf (Elt Ideal) ℓ) : Prop :=
  True

def quiescent_Branch [hBranch : Cert.Branch.Facts] : Prop :=
  ∀ (m : (ℓ : Loc Cert.Branch.nD Cert.Branch.τ Cert.Branch.sig) → Buf (Elt Bits) ℓ) (g : Dev Cert.Branch.nD → PrngReg), Pre_Branch m →
    θ_run (Cert.Branch.defs (F := Bits)) (onTc (τ := Cert.Branch.τ) (Cert.Branch.main (F := Bits))) ⟨m, fun _ => 0, g⟩ (fun r => (∀ c : Dev Cert.Branch.nD,
      r.2.mem ((c.tc : Thread Cert.Branch.nD Cert.Branch.τ).loc Cert.Branch.main_arg0) = m ((c.tc : Thread Cert.Branch.nD Cert.Branch.τ).loc Cert.Branch.main_arg0)
      ∧ r.2.mem ((c.tc : Thread Cert.Branch.nD Cert.Branch.τ).loc Cert.Branch.main_arg1) = m ((c.tc : Thread Cert.Branch.nD Cert.Branch.τ).loc Cert.Branch.main_arg1)
      ∧ r.2.mem ((c.tc : Thread Cert.Branch.nD Cert.Branch.τ).loc Cert.Branch.main_arg2) = m ((c.tc : Thread Cert.Branch.nD Cert.Branch.τ).loc Cert.Branch.main_arg2)
      ∧ r.2.mem ((c.tc : Thread Cert.Branch.nD Cert.Branch.τ).loc Cert.Branch.main_arg3) = m ((c.tc : Thread Cert.Branch.nD Cert.Branch.τ).loc Cert.Branch.main_arg3))
      ∧ r.2.sem = fun _ => 0)

def quiescent_BranchIdeal [hBranchIdeal : Cert.BranchIdeal.Facts] : Prop :=
  ∀ (m : (ℓ : Loc Cert.BranchIdeal.nD Cert.BranchIdeal.τ Cert.BranchIdeal.sig) → Buf (Elt Ideal) ℓ) (g : Dev Cert.BranchIdeal.nD → PrngReg), Pre_BranchIdeal m →
    θ_run (Cert.BranchIdeal.defs (F := Ideal)) (onTc (τ := Cert.BranchIdeal.τ) (Cert.BranchIdeal.main (F := Ideal))) ⟨m, fun _ => 0, g⟩ (fun r => (∀ c : Dev Cert.BranchIdeal.nD,
      r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
      ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1)
      ∧ r.2.mem ((c.tc : Thread Cert.BranchIdeal.nD Cert.BranchIdeal.τ).loc Cert.BranchIdeal.main_arg2) = m ((c.tc : Thread Cert.BranchIdeal.nD Cert.BranchIdeal.τ).loc Cert.BranchIdeal.main_arg2)
      ∧ r.2.mem ((c.tc : Thread Cert.BranchIdeal.nD Cert.BranchIdeal.τ).loc Cert.BranchIdeal.main_arg3) = m ((c.tc : Thread Cert.BranchIdeal.nD Cert.BranchIdeal.τ).loc Cert.BranchIdeal.main_arg3))
      ∧ r.2.sem = fun _ => 0)

def quiescent_RefBranchIdeal [hRefBranchIdeal : Cert.RefBranchIdeal.Facts] : Prop :=
  ∀ (m : (ℓ : Loc Cert.RefBranchIdeal.nD Cert.RefBranchIdeal.τ Cert.RefBranchIdeal.sig) → Buf (Elt Ideal) ℓ) (g : Dev Cert.RefBranchIdeal.nD → PrngReg), Pre_RefBranchIdeal m →
    θ_run (Cert.RefBranchIdeal.defs (F := Ideal)) (onTc (τ := Cert.RefBranchIdeal.τ) (Cert.RefBranchIdeal.main (F := Ideal))) ⟨m, fun _ => 0, g⟩ (fun r => (∀ c : Dev Cert.RefBranchIdeal.nD,
      r.2.mem ((c.tc : Thread Cert.RefBranchIdeal.nD Cert.RefBranchIdeal.τ).loc Cert.RefBranchIdeal.main_arg0) = m ((c.tc : Thread Cert.RefBranchIdeal.nD Cert.RefBranchIdeal.τ).loc Cert.RefBranchIdeal.main_arg0)
      ∧ r.2.mem ((c.tc : Thread Cert.RefBranchIdeal.nD Cert.RefBranchIdeal.τ).loc Cert.RefBranchIdeal.main_arg1) = m ((c.tc : Thread Cert.RefBranchIdeal.nD Cert.RefBranchIdeal.τ).loc Cert.RefBranchIdeal.main_arg1)
      ∧ r.2.mem ((c.tc : Thread Cert.RefBranchIdeal.nD Cert.RefBranchIdeal.τ).loc Cert.RefBranchIdeal.main_arg2) = m ((c.tc : Thread Cert.RefBranchIdeal.nD Cert.RefBranchIdeal.τ).loc Cert.RefBranchIdeal.main_arg2)
      ∧ r.2.mem ((c.tc : Thread Cert.RefBranchIdeal.nD Cert.RefBranchIdeal.τ).loc Cert.RefBranchIdeal.main_arg3) = m ((c.tc : Thread Cert.RefBranchIdeal.nD Cert.RefBranchIdeal.τ).loc Cert.RefBranchIdeal.main_arg3))
      ∧ r.2.sem = fun _ => 0)

def quiescent_Outnorm [hOutnorm : Cert.Outnorm.Facts] : Prop :=
  ∀ (m : (ℓ : Loc Cert.Outnorm.nD Cert.Outnorm.τ Cert.Outnorm.sig) → Buf (Elt Bits) ℓ) (g : Dev Cert.Outnorm.nD → PrngReg), Pre_Outnorm m →
    θ_run (Cert.Outnorm.defs (F := Bits)) (onTc (τ := Cert.Outnorm.τ) (Cert.Outnorm.main (F := Bits))) ⟨m, fun _ => 0, g⟩ (fun r => (∀ c : Dev Cert.Outnorm.nD,
      r.2.mem ((c.tc : Thread Cert.Outnorm.nD Cert.Outnorm.τ).loc Cert.Outnorm.main_arg0) = m ((c.tc : Thread Cert.Outnorm.nD Cert.Outnorm.τ).loc Cert.Outnorm.main_arg0)
      ∧ r.2.mem ((c.tc : Thread Cert.Outnorm.nD Cert.Outnorm.τ).loc Cert.Outnorm.main_arg1) = m ((c.tc : Thread Cert.Outnorm.nD Cert.Outnorm.τ).loc Cert.Outnorm.main_arg1)
      ∧ r.2.mem ((c.tc : Thread Cert.Outnorm.nD Cert.Outnorm.τ).loc Cert.Outnorm.main_arg2) = m ((c.tc : Thread Cert.Outnorm.nD Cert.Outnorm.τ).loc Cert.Outnorm.main_arg2)
      ∧ r.2.mem ((c.tc : Thread Cert.Outnorm.nD Cert.Outnorm.τ).loc Cert.Outnorm.main_arg3) = m ((c.tc : Thread Cert.Outnorm.nD Cert.Outnorm.τ).loc Cert.Outnorm.main_arg3)
      ∧ r.2.mem ((c.tc : Thread Cert.Outnorm.nD Cert.Outnorm.τ).loc Cert.Outnorm.main_arg4) = m ((c.tc : Thread Cert.Outnorm.nD Cert.Outnorm.τ).loc Cert.Outnorm.main_arg4)
      ∧ r.2.mem ((c.tc : Thread Cert.Outnorm.nD Cert.Outnorm.τ).loc Cert.Outnorm.main_arg5) = m ((c.tc : Thread Cert.Outnorm.nD Cert.Outnorm.τ).loc Cert.Outnorm.main_arg5)
      ∧ r.2.mem ((c.tc : Thread Cert.Outnorm.nD Cert.Outnorm.τ).loc Cert.Outnorm.main_arg6) = m ((c.tc : Thread Cert.Outnorm.nD Cert.Outnorm.τ).loc Cert.Outnorm.main_arg6))
      ∧ r.2.sem = fun _ => 0)

def quiescent_OutnormIdeal [hOutnormIdeal : Cert.OutnormIdeal.Facts] : Prop :=
  ∀ (m : (ℓ : Loc Cert.OutnormIdeal.nD Cert.OutnormIdeal.τ Cert.OutnormIdeal.sig) → Buf (Elt Ideal) ℓ) (g : Dev Cert.OutnormIdeal.nD → PrngReg), Pre_OutnormIdeal m →
    θ_run (Cert.OutnormIdeal.defs (F := Ideal)) (onTc (τ := Cert.OutnormIdeal.τ) (Cert.OutnormIdeal.main (F := Ideal))) ⟨m, fun _ => 0, g⟩ (fun r => (∀ c : Dev Cert.OutnormIdeal.nD,
      r.2.mem ((c.tc : Thread Cert.OutnormIdeal.nD Cert.OutnormIdeal.τ).loc Cert.OutnormIdeal.main_arg0) = m ((c.tc : Thread Cert.OutnormIdeal.nD Cert.OutnormIdeal.τ).loc Cert.OutnormIdeal.main_arg0)
      ∧ r.2.mem ((c.tc : Thread Cert.OutnormIdeal.nD Cert.OutnormIdeal.τ).loc Cert.OutnormIdeal.main_arg1) = m ((c.tc : Thread Cert.OutnormIdeal.nD Cert.OutnormIdeal.τ).loc Cert.OutnormIdeal.main_arg1)
      ∧ r.2.mem ((c.tc : Thread Cert.OutnormIdeal.nD Cert.OutnormIdeal.τ).loc Cert.OutnormIdeal.main_arg2) = m ((c.tc : Thread Cert.OutnormIdeal.nD Cert.OutnormIdeal.τ).loc Cert.OutnormIdeal.main_arg2)
      ∧ r.2.mem ((c.tc : Thread Cert.OutnormIdeal.nD Cert.OutnormIdeal.τ).loc Cert.OutnormIdeal.main_arg3) = m ((c.tc : Thread Cert.OutnormIdeal.nD Cert.OutnormIdeal.τ).loc Cert.OutnormIdeal.main_arg3)
      ∧ r.2.mem ((c.tc : Thread Cert.OutnormIdeal.nD Cert.OutnormIdeal.τ).loc Cert.OutnormIdeal.main_arg4) = m ((c.tc : Thread Cert.OutnormIdeal.nD Cert.OutnormIdeal.τ).loc Cert.OutnormIdeal.main_arg4)
      ∧ r.2.mem ((c.tc : Thread Cert.OutnormIdeal.nD Cert.OutnormIdeal.τ).loc Cert.OutnormIdeal.main_arg5) = m ((c.tc : Thread Cert.OutnormIdeal.nD Cert.OutnormIdeal.τ).loc Cert.OutnormIdeal.main_arg5)
      ∧ r.2.mem ((c.tc : Thread Cert.OutnormIdeal.nD Cert.OutnormIdeal.τ).loc Cert.OutnormIdeal.main_arg6) = m ((c.tc : Thread Cert.OutnormIdeal.nD Cert.OutnormIdeal.τ).loc Cert.OutnormIdeal.main_arg6))
      ∧ r.2.sem = fun _ => 0)

def quiescent_RefOutnormIdeal [hRefOutnormIdeal : Cert.RefOutnormIdeal.Facts] : Prop :=
  ∀ (m : (ℓ : Loc Cert.RefOutnormIdeal.nD Cert.RefOutnormIdeal.τ Cert.RefOutnormIdeal.sig) → Buf (Elt Ideal) ℓ) (g : Dev Cert.RefOutnormIdeal.nD → PrngReg), Pre_RefOutnormIdeal m →
    θ_run (Cert.RefOutnormIdeal.defs (F := Ideal)) (onTc (τ := Cert.RefOutnormIdeal.τ) (Cert.RefOutnormIdeal.main (F := Ideal))) ⟨m, fun _ => 0, g⟩ (fun r => (∀ c : Dev Cert.RefOutnormIdeal.nD,
      r.2.mem ((c.tc : Thread Cert.RefOutnormIdeal.nD Cert.RefOutnormIdeal.τ).loc Cert.RefOutnormIdeal.main_arg0) = m ((c.tc : Thread Cert.RefOutnormIdeal.nD Cert.RefOutnormIdeal.τ).loc Cert.RefOutnormIdeal.main_arg0)
      ∧ r.2.mem ((c.tc : Thread Cert.RefOutnormIdeal.nD Cert.RefOutnormIdeal.τ).loc Cert.RefOutnormIdeal.main_arg1) = m ((c.tc : Thread Cert.RefOutnormIdeal.nD Cert.RefOutnormIdeal.τ).loc Cert.RefOutnormIdeal.main_arg1)
      ∧ r.2.mem ((c.tc : Thread Cert.RefOutnormIdeal.nD Cert.RefOutnormIdeal.τ).loc Cert.RefOutnormIdeal.main_arg2) = m ((c.tc : Thread Cert.RefOutnormIdeal.nD Cert.RefOutnormIdeal.τ).loc Cert.RefOutnormIdeal.main_arg2)
      ∧ r.2.mem ((c.tc : Thread Cert.RefOutnormIdeal.nD Cert.RefOutnormIdeal.τ).loc Cert.RefOutnormIdeal.main_arg3) = m ((c.tc : Thread Cert.RefOutnormIdeal.nD Cert.RefOutnormIdeal.τ).loc Cert.RefOutnormIdeal.main_arg3)
      ∧ r.2.mem ((c.tc : Thread Cert.RefOutnormIdeal.nD Cert.RefOutnormIdeal.τ).loc Cert.RefOutnormIdeal.main_arg4) = m ((c.tc : Thread Cert.RefOutnormIdeal.nD Cert.RefOutnormIdeal.τ).loc Cert.RefOutnormIdeal.main_arg4)
      ∧ r.2.mem ((c.tc : Thread Cert.RefOutnormIdeal.nD Cert.RefOutnormIdeal.τ).loc Cert.RefOutnormIdeal.main_arg5) = m ((c.tc : Thread Cert.RefOutnormIdeal.nD Cert.RefOutnormIdeal.τ).loc Cert.RefOutnormIdeal.main_arg5)
      ∧ r.2.mem ((c.tc : Thread Cert.RefOutnormIdeal.nD Cert.RefOutnormIdeal.τ).loc Cert.RefOutnormIdeal.main_arg6) = m ((c.tc : Thread Cert.RefOutnormIdeal.nD Cert.RefOutnormIdeal.τ).loc Cert.RefOutnormIdeal.main_arg6))
      ∧ r.2.sem = fun _ => 0)

def quiescent_Ffnup [hFfnup : Cert.Ffnup.Facts] : Prop :=
  ∀ (m : (ℓ : Loc Cert.Ffnup.nD Cert.Ffnup.τ Cert.Ffnup.sig) → Buf (Elt Bits) ℓ) (g : Dev Cert.Ffnup.nD → PrngReg), Pre_Ffnup m →
    θ_run (Cert.Ffnup.defs (F := Bits)) (onTc (τ := Cert.Ffnup.τ) (Cert.Ffnup.main (F := Bits))) ⟨m, fun _ => 0, g⟩ (fun r => (∀ c : Dev Cert.Ffnup.nD,
      r.2.mem ((c.tc : Thread Cert.Ffnup.nD Cert.Ffnup.τ).loc Cert.Ffnup.main_arg0) = m ((c.tc : Thread Cert.Ffnup.nD Cert.Ffnup.τ).loc Cert.Ffnup.main_arg0)
      ∧ r.2.mem ((c.tc : Thread Cert.Ffnup.nD Cert.Ffnup.τ).loc Cert.Ffnup.main_arg1) = m ((c.tc : Thread Cert.Ffnup.nD Cert.Ffnup.τ).loc Cert.Ffnup.main_arg1)
      ∧ r.2.mem ((c.tc : Thread Cert.Ffnup.nD Cert.Ffnup.τ).loc Cert.Ffnup.main_arg2) = m ((c.tc : Thread Cert.Ffnup.nD Cert.Ffnup.τ).loc Cert.Ffnup.main_arg2)
      ∧ r.2.mem ((c.tc : Thread Cert.Ffnup.nD Cert.Ffnup.τ).loc Cert.Ffnup.main_arg3) = m ((c.tc : Thread Cert.Ffnup.nD Cert.Ffnup.τ).loc Cert.Ffnup.main_arg3)
      ∧ r.2.mem ((c.tc : Thread Cert.Ffnup.nD Cert.Ffnup.τ).loc Cert.Ffnup.main_arg4) = m ((c.tc : Thread Cert.Ffnup.nD Cert.Ffnup.τ).loc Cert.Ffnup.main_arg4))
      ∧ r.2.sem = fun _ => 0)

def quiescent_FfnupIdeal [hFfnupIdeal : Cert.FfnupIdeal.Facts] : Prop :=
  ∀ (m : (ℓ : Loc Cert.FfnupIdeal.nD Cert.FfnupIdeal.τ Cert.FfnupIdeal.sig) → Buf (Elt Ideal) ℓ) (g : Dev Cert.FfnupIdeal.nD → PrngReg), Pre_FfnupIdeal m →
    θ_run (Cert.FfnupIdeal.defs (F := Ideal)) (onTc (τ := Cert.FfnupIdeal.τ) (Cert.FfnupIdeal.main (F := Ideal))) ⟨m, fun _ => 0, g⟩ (fun r => (∀ c : Dev Cert.FfnupIdeal.nD,
      r.2.mem ((c.tc : Thread Cert.FfnupIdeal.nD Cert.FfnupIdeal.τ).loc Cert.FfnupIdeal.main_arg0) = m ((c.tc : Thread Cert.FfnupIdeal.nD Cert.FfnupIdeal.τ).loc Cert.FfnupIdeal.main_arg0)
      ∧ r.2.mem ((c.tc : Thread Cert.FfnupIdeal.nD Cert.FfnupIdeal.τ).loc Cert.FfnupIdeal.main_arg1) = m ((c.tc : Thread Cert.FfnupIdeal.nD Cert.FfnupIdeal.τ).loc Cert.FfnupIdeal.main_arg1)
      ∧ r.2.mem ((c.tc : Thread Cert.FfnupIdeal.nD Cert.FfnupIdeal.τ).loc Cert.FfnupIdeal.main_arg2) = m ((c.tc : Thread Cert.FfnupIdeal.nD Cert.FfnupIdeal.τ).loc Cert.FfnupIdeal.main_arg2)
      ∧ r.2.mem ((c.tc : Thread Cert.FfnupIdeal.nD Cert.FfnupIdeal.τ).loc Cert.FfnupIdeal.main_arg3) = m ((c.tc : Thread Cert.FfnupIdeal.nD Cert.FfnupIdeal.τ).loc Cert.FfnupIdeal.main_arg3)
      ∧ r.2.mem ((c.tc : Thread Cert.FfnupIdeal.nD Cert.FfnupIdeal.τ).loc Cert.FfnupIdeal.main_arg4) = m ((c.tc : Thread Cert.FfnupIdeal.nD Cert.FfnupIdeal.τ).loc Cert.FfnupIdeal.main_arg4))
      ∧ r.2.sem = fun _ => 0)

def quiescent_RefFfnupIdeal [hRefFfnupIdeal : Cert.RefFfnupIdeal.Facts] : Prop :=
  ∀ (m : (ℓ : Loc Cert.RefFfnupIdeal.nD Cert.RefFfnupIdeal.τ Cert.RefFfnupIdeal.sig) → Buf (Elt Ideal) ℓ) (g : Dev Cert.RefFfnupIdeal.nD → PrngReg), Pre_RefFfnupIdeal m →
    θ_run (Cert.RefFfnupIdeal.defs (F := Ideal)) (onTc (τ := Cert.RefFfnupIdeal.τ) (Cert.RefFfnupIdeal.main (F := Ideal))) ⟨m, fun _ => 0, g⟩ (fun r => (∀ c : Dev Cert.RefFfnupIdeal.nD,
      r.2.mem ((c.tc : Thread Cert.RefFfnupIdeal.nD Cert.RefFfnupIdeal.τ).loc Cert.RefFfnupIdeal.main_arg0) = m ((c.tc : Thread Cert.RefFfnupIdeal.nD Cert.RefFfnupIdeal.τ).loc Cert.RefFfnupIdeal.main_arg0)
      ∧ r.2.mem ((c.tc : Thread Cert.RefFfnupIdeal.nD Cert.RefFfnupIdeal.τ).loc Cert.RefFfnupIdeal.main_arg1) = m ((c.tc : Thread Cert.RefFfnupIdeal.nD Cert.RefFfnupIdeal.τ).loc Cert.RefFfnupIdeal.main_arg1)
      ∧ r.2.mem ((c.tc : Thread Cert.RefFfnupIdeal.nD Cert.RefFfnupIdeal.τ).loc Cert.RefFfnupIdeal.main_arg2) = m ((c.tc : Thread Cert.RefFfnupIdeal.nD Cert.RefFfnupIdeal.τ).loc Cert.RefFfnupIdeal.main_arg2)
      ∧ r.2.mem ((c.tc : Thread Cert.RefFfnupIdeal.nD Cert.RefFfnupIdeal.τ).loc Cert.RefFfnupIdeal.main_arg3) = m ((c.tc : Thread Cert.RefFfnupIdeal.nD Cert.RefFfnupIdeal.τ).loc Cert.RefFfnupIdeal.main_arg3)
      ∧ r.2.mem ((c.tc : Thread Cert.RefFfnupIdeal.nD Cert.RefFfnupIdeal.τ).loc Cert.RefFfnupIdeal.main_arg4) = m ((c.tc : Thread Cert.RefFfnupIdeal.nD Cert.RefFfnupIdeal.τ).loc Cert.RefFfnupIdeal.main_arg4))
      ∧ r.2.sem = fun _ => 0)

def quiescent_Ffndown [hFfndown : Cert.Ffndown.Facts] : Prop :=
  ∀ (m : (ℓ : Loc Cert.Ffndown.nD Cert.Ffndown.τ Cert.Ffndown.sig) → Buf (Elt Bits) ℓ) (g : Dev Cert.Ffndown.nD → PrngReg), Pre_Ffndown m →
    θ_run (Cert.Ffndown.defs (F := Bits)) (onTc (τ := Cert.Ffndown.τ) (Cert.Ffndown.main (F := Bits))) ⟨m, fun _ => 0, g⟩ (fun r => (∀ c : Dev Cert.Ffndown.nD,
      r.2.mem ((c.tc : Thread Cert.Ffndown.nD Cert.Ffndown.τ).loc Cert.Ffndown.main_arg0) = m ((c.tc : Thread Cert.Ffndown.nD Cert.Ffndown.τ).loc Cert.Ffndown.main_arg0)
      ∧ r.2.mem ((c.tc : Thread Cert.Ffndown.nD Cert.Ffndown.τ).loc Cert.Ffndown.main_arg1) = m ((c.tc : Thread Cert.Ffndown.nD Cert.Ffndown.τ).loc Cert.Ffndown.main_arg1)
      ∧ r.2.mem ((c.tc : Thread Cert.Ffndown.nD Cert.Ffndown.τ).loc Cert.Ffndown.main_arg2) = m ((c.tc : Thread Cert.Ffndown.nD Cert.Ffndown.τ).loc Cert.Ffndown.main_arg2)
      ∧ r.2.mem ((c.tc : Thread Cert.Ffndown.nD Cert.Ffndown.τ).loc Cert.Ffndown.main_arg3) = m ((c.tc : Thread Cert.Ffndown.nD Cert.Ffndown.τ).loc Cert.Ffndown.main_arg3))
      ∧ r.2.sem = fun _ => 0)

def quiescent_FfndownIdeal [hFfndownIdeal : Cert.FfndownIdeal.Facts] : Prop :=
  ∀ (m : (ℓ : Loc Cert.FfndownIdeal.nD Cert.FfndownIdeal.τ Cert.FfndownIdeal.sig) → Buf (Elt Ideal) ℓ) (g : Dev Cert.FfndownIdeal.nD → PrngReg), Pre_FfndownIdeal m →
    θ_run (Cert.FfndownIdeal.defs (F := Ideal)) (onTc (τ := Cert.FfndownIdeal.τ) (Cert.FfndownIdeal.main (F := Ideal))) ⟨m, fun _ => 0, g⟩ (fun r => (∀ c : Dev Cert.FfndownIdeal.nD,
      r.2.mem ((c.tc : Thread Cert.FfndownIdeal.nD Cert.FfndownIdeal.τ).loc Cert.FfndownIdeal.main_arg0) = m ((c.tc : Thread Cert.FfndownIdeal.nD Cert.FfndownIdeal.τ).loc Cert.FfndownIdeal.main_arg0)
      ∧ r.2.mem ((c.tc : Thread Cert.FfndownIdeal.nD Cert.FfndownIdeal.τ).loc Cert.FfndownIdeal.main_arg1) = m ((c.tc : Thread Cert.FfndownIdeal.nD Cert.FfndownIdeal.τ).loc Cert.FfndownIdeal.main_arg1)
      ∧ r.2.mem ((c.tc : Thread Cert.FfndownIdeal.nD Cert.FfndownIdeal.τ).loc Cert.FfndownIdeal.main_arg2) = m ((c.tc : Thread Cert.FfndownIdeal.nD Cert.FfndownIdeal.τ).loc Cert.FfndownIdeal.main_arg2)
      ∧ r.2.mem ((c.tc : Thread Cert.FfndownIdeal.nD Cert.FfndownIdeal.τ).loc Cert.FfndownIdeal.main_arg3) = m ((c.tc : Thread Cert.FfndownIdeal.nD Cert.FfndownIdeal.τ).loc Cert.FfndownIdeal.main_arg3))
      ∧ r.2.sem = fun _ => 0)

def quiescent_RefFfndownIdeal [hRefFfndownIdeal : Cert.RefFfndownIdeal.Facts] : Prop :=
  ∀ (m : (ℓ : Loc Cert.RefFfndownIdeal.nD Cert.RefFfndownIdeal.τ Cert.RefFfndownIdeal.sig) → Buf (Elt Ideal) ℓ) (g : Dev Cert.RefFfndownIdeal.nD → PrngReg), Pre_RefFfndownIdeal m →
    θ_run (Cert.RefFfndownIdeal.defs (F := Ideal)) (onTc (τ := Cert.RefFfndownIdeal.τ) (Cert.RefFfndownIdeal.main (F := Ideal))) ⟨m, fun _ => 0, g⟩ (fun r => (∀ c : Dev Cert.RefFfndownIdeal.nD,
      r.2.mem ((c.tc : Thread Cert.RefFfndownIdeal.nD Cert.RefFfndownIdeal.τ).loc Cert.RefFfndownIdeal.main_arg0) = m ((c.tc : Thread Cert.RefFfndownIdeal.nD Cert.RefFfndownIdeal.τ).loc Cert.RefFfndownIdeal.main_arg0)
      ∧ r.2.mem ((c.tc : Thread Cert.RefFfndownIdeal.nD Cert.RefFfndownIdeal.τ).loc Cert.RefFfndownIdeal.main_arg1) = m ((c.tc : Thread Cert.RefFfndownIdeal.nD Cert.RefFfndownIdeal.τ).loc Cert.RefFfndownIdeal.main_arg1)
      ∧ r.2.mem ((c.tc : Thread Cert.RefFfndownIdeal.nD Cert.RefFfndownIdeal.τ).loc Cert.RefFfndownIdeal.main_arg2) = m ((c.tc : Thread Cert.RefFfndownIdeal.nD Cert.RefFfndownIdeal.τ).loc Cert.RefFfndownIdeal.main_arg2)
      ∧ r.2.mem ((c.tc : Thread Cert.RefFfndownIdeal.nD Cert.RefFfndownIdeal.τ).loc Cert.RefFfndownIdeal.main_arg3) = m ((c.tc : Thread Cert.RefFfndownIdeal.nD Cert.RefFfndownIdeal.τ).loc Cert.RefFfndownIdeal.main_arg3))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ r.2.sem = fun _ => 0)

def quiescent_InprojIdeal_pre_finite [hInprojIdeal : Cert.InprojIdeal.Facts] [hPre_finite : Cert.Pre_finite.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal_finite m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ r.2.sem = fun _ => 0)

def quiescent_RefInprojIdeal [hRefInprojIdeal : Cert.RefInprojIdeal.Facts] : Prop :=
  ∀ (m : (ℓ : Loc Cert.RefInprojIdeal.nD Cert.RefInprojIdeal.τ Cert.RefInprojIdeal.sig) → Buf (Elt Ideal) ℓ) (g : Dev Cert.RefInprojIdeal.nD → PrngReg), Pre_RefInprojIdeal m →
    θ_run (Cert.RefInprojIdeal.defs (F := Ideal)) (onTc (τ := Cert.RefInprojIdeal.τ) (Cert.RefInprojIdeal.main (F := Ideal))) ⟨m, fun _ => 0, g⟩ (fun r => (∀ c : Dev Cert.RefInprojIdeal.nD,
      r.2.mem ((c.tc : Thread Cert.RefInprojIdeal.nD Cert.RefInprojIdeal.τ).loc Cert.RefInprojIdeal.main_arg0) = m ((c.tc : Thread Cert.RefInprojIdeal.nD Cert.RefInprojIdeal.τ).loc Cert.RefInprojIdeal.main_arg0)
      ∧ r.2.mem ((c.tc : Thread Cert.RefInprojIdeal.nD Cert.RefInprojIdeal.τ).loc Cert.RefInprojIdeal.main_arg1) = m ((c.tc : Thread Cert.RefInprojIdeal.nD Cert.RefInprojIdeal.τ).loc Cert.RefInprojIdeal.main_arg1)
      ∧ r.2.mem ((c.tc : Thread Cert.RefInprojIdeal.nD Cert.RefInprojIdeal.τ).loc Cert.RefInprojIdeal.main_arg2) = m ((c.tc : Thread Cert.RefInprojIdeal.nD Cert.RefInprojIdeal.τ).loc Cert.RefInprojIdeal.main_arg2)
      ∧ r.2.mem ((c.tc : Thread Cert.RefInprojIdeal.nD Cert.RefInprojIdeal.τ).loc Cert.RefInprojIdeal.main_arg3) = m ((c.tc : Thread Cert.RefInprojIdeal.nD Cert.RefInprojIdeal.τ).loc Cert.RefInprojIdeal.main_arg3))
      ∧ r.2.sem = fun _ => 0)

def quiescent_RefInprojIdeal_pre_finite [hRefInprojIdeal : Cert.RefInprojIdeal.Facts] [hPre_finite : Cert.Pre_finite.Facts] : Prop :=
  ∀ (m : (ℓ : Loc Cert.RefInprojIdeal.nD Cert.RefInprojIdeal.τ Cert.RefInprojIdeal.sig) → Buf (Elt Ideal) ℓ) (g : Dev Cert.RefInprojIdeal.nD → PrngReg), Pre_RefInprojIdeal_finite m →
    θ_run (Cert.RefInprojIdeal.defs (F := Ideal)) (onTc (τ := Cert.RefInprojIdeal.τ) (Cert.RefInprojIdeal.main (F := Ideal))) ⟨m, fun _ => 0, g⟩ (fun r => (∀ c : Dev Cert.RefInprojIdeal.nD,
      r.2.mem ((c.tc : Thread Cert.RefInprojIdeal.nD Cert.RefInprojIdeal.τ).loc Cert.RefInprojIdeal.main_arg0) = m ((c.tc : Thread Cert.RefInprojIdeal.nD Cert.RefInprojIdeal.τ).loc Cert.RefInprojIdeal.main_arg0)
      ∧ r.2.mem ((c.tc : Thread Cert.RefInprojIdeal.nD Cert.RefInprojIdeal.τ).loc Cert.RefInprojIdeal.main_arg1) = m ((c.tc : Thread Cert.RefInprojIdeal.nD Cert.RefInprojIdeal.τ).loc Cert.RefInprojIdeal.main_arg1)
      ∧ r.2.mem ((c.tc : Thread Cert.RefInprojIdeal.nD Cert.RefInprojIdeal.τ).loc Cert.RefInprojIdeal.main_arg2) = m ((c.tc : Thread Cert.RefInprojIdeal.nD Cert.RefInprojIdeal.τ).loc Cert.RefInprojIdeal.main_arg2)
      ∧ r.2.mem ((c.tc : Thread Cert.RefInprojIdeal.nD Cert.RefInprojIdeal.τ).loc Cert.RefInprojIdeal.main_arg3) = m ((c.tc : Thread Cert.RefInprojIdeal.nD Cert.RefInprojIdeal.τ).loc Cert.RefInprojIdeal.main_arg3))
      ∧ r.2.sem = fun _ => 0)

def quiescent_Downsample [hDownsample : Cert.Downsample.Facts] : Prop :=
  ∀ (m : (ℓ : Loc Cert.Downsample.nD Cert.Downsample.τ Cert.Downsample.sig) → Buf (Elt Bits) ℓ) (g : Dev Cert.Downsample.nD → PrngReg), Pre_Downsample m →
    θ_run (Cert.Downsample.defs (F := Bits)) (onTc (τ := Cert.Downsample.τ) (Cert.Downsample.main (F := Bits))) ⟨m, fun _ => 0, g⟩ (fun r => (∀ c : Dev Cert.Downsample.nD,
      r.2.mem ((c.tc : Thread Cert.Downsample.nD Cert.Downsample.τ).loc Cert.Downsample.main_arg0) = m ((c.tc : Thread Cert.Downsample.nD Cert.Downsample.τ).loc Cert.Downsample.main_arg0)
      ∧ r.2.mem ((c.tc : Thread Cert.Downsample.nD Cert.Downsample.τ).loc Cert.Downsample.main_arg1) = m ((c.tc : Thread Cert.Downsample.nD Cert.Downsample.τ).loc Cert.Downsample.main_arg1)
      ∧ r.2.mem ((c.tc : Thread Cert.Downsample.nD Cert.Downsample.τ).loc Cert.Downsample.main_arg2) = m ((c.tc : Thread Cert.Downsample.nD Cert.Downsample.τ).loc Cert.Downsample.main_arg2)
      ∧ r.2.mem ((c.tc : Thread Cert.Downsample.nD Cert.Downsample.τ).loc Cert.Downsample.main_arg3) = m ((c.tc : Thread Cert.Downsample.nD Cert.Downsample.τ).loc Cert.Downsample.main_arg3))
      ∧ r.2.sem = fun _ => 0)

def quiescent_DownsampleIdeal [hDownsampleIdeal : Cert.DownsampleIdeal.Facts] : Prop :=
  ∀ (m : (ℓ : Loc Cert.DownsampleIdeal.nD Cert.DownsampleIdeal.τ Cert.DownsampleIdeal.sig) → Buf (Elt Ideal) ℓ) (g : Dev Cert.DownsampleIdeal.nD → PrngReg), Pre_DownsampleIdeal m →
    θ_run (Cert.DownsampleIdeal.defs (F := Ideal)) (onTc (τ := Cert.DownsampleIdeal.τ) (Cert.DownsampleIdeal.main (F := Ideal))) ⟨m, fun _ => 0, g⟩ (fun r => (∀ c : Dev Cert.DownsampleIdeal.nD,
      r.2.mem ((c.tc : Thread Cert.DownsampleIdeal.nD Cert.DownsampleIdeal.τ).loc Cert.DownsampleIdeal.main_arg0) = m ((c.tc : Thread Cert.DownsampleIdeal.nD Cert.DownsampleIdeal.τ).loc Cert.DownsampleIdeal.main_arg0)
      ∧ r.2.mem ((c.tc : Thread Cert.DownsampleIdeal.nD Cert.DownsampleIdeal.τ).loc Cert.DownsampleIdeal.main_arg1) = m ((c.tc : Thread Cert.DownsampleIdeal.nD Cert.DownsampleIdeal.τ).loc Cert.DownsampleIdeal.main_arg1)
      ∧ r.2.mem ((c.tc : Thread Cert.DownsampleIdeal.nD Cert.DownsampleIdeal.τ).loc Cert.DownsampleIdeal.main_arg2) = m ((c.tc : Thread Cert.DownsampleIdeal.nD Cert.DownsampleIdeal.τ).loc Cert.DownsampleIdeal.main_arg2)
      ∧ r.2.mem ((c.tc : Thread Cert.DownsampleIdeal.nD Cert.DownsampleIdeal.τ).loc Cert.DownsampleIdeal.main_arg3) = m ((c.tc : Thread Cert.DownsampleIdeal.nD Cert.DownsampleIdeal.τ).loc Cert.DownsampleIdeal.main_arg3))
      ∧ r.2.sem = fun _ => 0)

def quiescent_RefDownsampleIdeal [hRefDownsampleIdeal : Cert.RefDownsampleIdeal.Facts] : Prop :=
  ∀ (m : (ℓ : Loc Cert.RefDownsampleIdeal.nD Cert.RefDownsampleIdeal.τ Cert.RefDownsampleIdeal.sig) → Buf (Elt Ideal) ℓ) (g : Dev Cert.RefDownsampleIdeal.nD → PrngReg), Pre_RefDownsampleIdeal m →
    θ_run (Cert.RefDownsampleIdeal.defs (F := Ideal)) (onTc (τ := Cert.RefDownsampleIdeal.τ) (Cert.RefDownsampleIdeal.main (F := Ideal))) ⟨m, fun _ => 0, g⟩ (fun r => (∀ c : Dev Cert.RefDownsampleIdeal.nD,
      r.2.mem ((c.tc : Thread Cert.RefDownsampleIdeal.nD Cert.RefDownsampleIdeal.τ).loc Cert.RefDownsampleIdeal.main_arg0) = m ((c.tc : Thread Cert.RefDownsampleIdeal.nD Cert.RefDownsampleIdeal.τ).loc Cert.RefDownsampleIdeal.main_arg0)
      ∧ r.2.mem ((c.tc : Thread Cert.RefDownsampleIdeal.nD Cert.RefDownsampleIdeal.τ).loc Cert.RefDownsampleIdeal.main_arg1) = m ((c.tc : Thread Cert.RefDownsampleIdeal.nD Cert.RefDownsampleIdeal.τ).loc Cert.RefDownsampleIdeal.main_arg1)
      ∧ r.2.mem ((c.tc : Thread Cert.RefDownsampleIdeal.nD Cert.RefDownsampleIdeal.τ).loc Cert.RefDownsampleIdeal.main_arg2) = m ((c.tc : Thread Cert.RefDownsampleIdeal.nD Cert.RefDownsampleIdeal.τ).loc Cert.RefDownsampleIdeal.main_arg2)
      ∧ r.2.mem ((c.tc : Thread Cert.RefDownsampleIdeal.nD Cert.RefDownsampleIdeal.τ).loc Cert.RefDownsampleIdeal.main_arg3) = m ((c.tc : Thread Cert.RefDownsampleIdeal.nD Cert.RefDownsampleIdeal.τ).loc Cert.RefDownsampleIdeal.main_arg3))
      ∧ r.2.sem = fun _ => 0)

def quiescent_Insample [hInsample : Cert.Insample.Facts] : Prop :=
  ∀ (m : (ℓ : Loc Cert.Insample.nD Cert.Insample.τ Cert.Insample.sig) → Buf (Elt Bits) ℓ) (g : Dev Cert.Insample.nD → PrngReg), Pre_Insample m →
    θ_run (Cert.Insample.defs (F := Bits)) (onTc (τ := Cert.Insample.τ) (Cert.Insample.main (F := Bits))) ⟨m, fun _ => 0, g⟩ (fun r => (∀ c : Dev Cert.Insample.nD,
      r.2.mem ((c.tc : Thread Cert.Insample.nD Cert.Insample.τ).loc Cert.Insample.main_arg0) = m ((c.tc : Thread Cert.Insample.nD Cert.Insample.τ).loc Cert.Insample.main_arg0)
      ∧ r.2.mem ((c.tc : Thread Cert.Insample.nD Cert.Insample.τ).loc Cert.Insample.main_arg1) = m ((c.tc : Thread Cert.Insample.nD Cert.Insample.τ).loc Cert.Insample.main_arg1)
      ∧ r.2.mem ((c.tc : Thread Cert.Insample.nD Cert.Insample.τ).loc Cert.Insample.main_arg2) = m ((c.tc : Thread Cert.Insample.nD Cert.Insample.τ).loc Cert.Insample.main_arg2)
      ∧ r.2.mem ((c.tc : Thread Cert.Insample.nD Cert.Insample.τ).loc Cert.Insample.main_arg3) = m ((c.tc : Thread Cert.Insample.nD Cert.Insample.τ).loc Cert.Insample.main_arg3))
      ∧ r.2.sem = fun _ => 0)

def quiescent_InsampleIdeal [hInsampleIdeal : Cert.InsampleIdeal.Facts] : Prop :=
  ∀ (m : (ℓ : Loc Cert.InsampleIdeal.nD Cert.InsampleIdeal.τ Cert.InsampleIdeal.sig) → Buf (Elt Ideal) ℓ) (g : Dev Cert.InsampleIdeal.nD → PrngReg), Pre_InsampleIdeal m →
    θ_run (Cert.InsampleIdeal.defs (F := Ideal)) (onTc (τ := Cert.InsampleIdeal.τ) (Cert.InsampleIdeal.main (F := Ideal))) ⟨m, fun _ => 0, g⟩ (fun r => (∀ c : Dev Cert.InsampleIdeal.nD,
      r.2.mem ((c.tc : Thread Cert.InsampleIdeal.nD Cert.InsampleIdeal.τ).loc Cert.InsampleIdeal.main_arg0) = m ((c.tc : Thread Cert.InsampleIdeal.nD Cert.InsampleIdeal.τ).loc Cert.InsampleIdeal.main_arg0)
      ∧ r.2.mem ((c.tc : Thread Cert.InsampleIdeal.nD Cert.InsampleIdeal.τ).loc Cert.InsampleIdeal.main_arg1) = m ((c.tc : Thread Cert.InsampleIdeal.nD Cert.InsampleIdeal.τ).loc Cert.InsampleIdeal.main_arg1)
      ∧ r.2.mem ((c.tc : Thread Cert.InsampleIdeal.nD Cert.InsampleIdeal.τ).loc Cert.InsampleIdeal.main_arg2) = m ((c.tc : Thread Cert.InsampleIdeal.nD Cert.InsampleIdeal.τ).loc Cert.InsampleIdeal.main_arg2)
      ∧ r.2.mem ((c.tc : Thread Cert.InsampleIdeal.nD Cert.InsampleIdeal.τ).loc Cert.InsampleIdeal.main_arg3) = m ((c.tc : Thread Cert.InsampleIdeal.nD Cert.InsampleIdeal.τ).loc Cert.InsampleIdeal.main_arg3))
      ∧ r.2.sem = fun _ => 0)

def quiescent_InsampleIdeal_pre_finite_sample [hInsampleIdeal : Cert.InsampleIdeal.Facts] [hPre_finite_sample : Cert.Pre_finite_sample.Facts] : Prop :=
  ∀ (m : (ℓ : Loc Cert.InsampleIdeal.nD Cert.InsampleIdeal.τ Cert.InsampleIdeal.sig) → Buf (Elt Ideal) ℓ) (g : Dev Cert.InsampleIdeal.nD → PrngReg), Pre_InsampleIdeal_finite_sample m →
    θ_run (Cert.InsampleIdeal.defs (F := Ideal)) (onTc (τ := Cert.InsampleIdeal.τ) (Cert.InsampleIdeal.main (F := Ideal))) ⟨m, fun _ => 0, g⟩ (fun r => (∀ c : Dev Cert.InsampleIdeal.nD,
      r.2.mem ((c.tc : Thread Cert.InsampleIdeal.nD Cert.InsampleIdeal.τ).loc Cert.InsampleIdeal.main_arg0) = m ((c.tc : Thread Cert.InsampleIdeal.nD Cert.InsampleIdeal.τ).loc Cert.InsampleIdeal.main_arg0)
      ∧ r.2.mem ((c.tc : Thread Cert.InsampleIdeal.nD Cert.InsampleIdeal.τ).loc Cert.InsampleIdeal.main_arg1) = m ((c.tc : Thread Cert.InsampleIdeal.nD Cert.InsampleIdeal.τ).loc Cert.InsampleIdeal.main_arg1)
      ∧ r.2.mem ((c.tc : Thread Cert.InsampleIdeal.nD Cert.InsampleIdeal.τ).loc Cert.InsampleIdeal.main_arg2) = m ((c.tc : Thread Cert.InsampleIdeal.nD Cert.InsampleIdeal.τ).loc Cert.InsampleIdeal.main_arg2)
      ∧ r.2.mem ((c.tc : Thread Cert.InsampleIdeal.nD Cert.InsampleIdeal.τ).loc Cert.InsampleIdeal.main_arg3) = m ((c.tc : Thread Cert.InsampleIdeal.nD Cert.InsampleIdeal.τ).loc Cert.InsampleIdeal.main_arg3))
      ∧ r.2.sem = fun _ => 0)

def quiescent_RefInsampleIdeal [hRefInsampleIdeal : Cert.RefInsampleIdeal.Facts] : Prop :=
  ∀ (m : (ℓ : Loc Cert.RefInsampleIdeal.nD Cert.RefInsampleIdeal.τ Cert.RefInsampleIdeal.sig) → Buf (Elt Ideal) ℓ) (g : Dev Cert.RefInsampleIdeal.nD → PrngReg), Pre_RefInsampleIdeal m →
    θ_run (Cert.RefInsampleIdeal.defs (F := Ideal)) (onTc (τ := Cert.RefInsampleIdeal.τ) (Cert.RefInsampleIdeal.main (F := Ideal))) ⟨m, fun _ => 0, g⟩ (fun r => (∀ c : Dev Cert.RefInsampleIdeal.nD,
      r.2.mem ((c.tc : Thread Cert.RefInsampleIdeal.nD Cert.RefInsampleIdeal.τ).loc Cert.RefInsampleIdeal.main_arg0) = m ((c.tc : Thread Cert.RefInsampleIdeal.nD Cert.RefInsampleIdeal.τ).loc Cert.RefInsampleIdeal.main_arg0)
      ∧ r.2.mem ((c.tc : Thread Cert.RefInsampleIdeal.nD Cert.RefInsampleIdeal.τ).loc Cert.RefInsampleIdeal.main_arg1) = m ((c.tc : Thread Cert.RefInsampleIdeal.nD Cert.RefInsampleIdeal.τ).loc Cert.RefInsampleIdeal.main_arg1)
      ∧ r.2.mem ((c.tc : Thread Cert.RefInsampleIdeal.nD Cert.RefInsampleIdeal.τ).loc Cert.RefInsampleIdeal.main_arg2) = m ((c.tc : Thread Cert.RefInsampleIdeal.nD Cert.RefInsampleIdeal.τ).loc Cert.RefInsampleIdeal.main_arg2)
      ∧ r.2.mem ((c.tc : Thread Cert.RefInsampleIdeal.nD Cert.RefInsampleIdeal.τ).loc Cert.RefInsampleIdeal.main_arg3) = m ((c.tc : Thread Cert.RefInsampleIdeal.nD Cert.RefInsampleIdeal.τ).loc Cert.RefInsampleIdeal.main_arg3))
      ∧ r.2.sem = fun _ => 0)

def quiescent_RefInsampleIdeal_pre_finite_sample [hRefInsampleIdeal : Cert.RefInsampleIdeal.Facts] [hPre_finite_sample : Cert.Pre_finite_sample.Facts] : Prop :=
  ∀ (m : (ℓ : Loc Cert.RefInsampleIdeal.nD Cert.RefInsampleIdeal.τ Cert.RefInsampleIdeal.sig) → Buf (Elt Ideal) ℓ) (g : Dev Cert.RefInsampleIdeal.nD → PrngReg), Pre_RefInsampleIdeal_finite_sample m →
    θ_run (Cert.RefInsampleIdeal.defs (F := Ideal)) (onTc (τ := Cert.RefInsampleIdeal.τ) (Cert.RefInsampleIdeal.main (F := Ideal))) ⟨m, fun _ => 0, g⟩ (fun r => (∀ c : Dev Cert.RefInsampleIdeal.nD,
      r.2.mem ((c.tc : Thread Cert.RefInsampleIdeal.nD Cert.RefInsampleIdeal.τ).loc Cert.RefInsampleIdeal.main_arg0) = m ((c.tc : Thread Cert.RefInsampleIdeal.nD Cert.RefInsampleIdeal.τ).loc Cert.RefInsampleIdeal.main_arg0)
      ∧ r.2.mem ((c.tc : Thread Cert.RefInsampleIdeal.nD Cert.RefInsampleIdeal.τ).loc Cert.RefInsampleIdeal.main_arg1) = m ((c.tc : Thread Cert.RefInsampleIdeal.nD Cert.RefInsampleIdeal.τ).loc Cert.RefInsampleIdeal.main_arg1)
      ∧ r.2.mem ((c.tc : Thread Cert.RefInsampleIdeal.nD Cert.RefInsampleIdeal.τ).loc Cert.RefInsampleIdeal.main_arg2) = m ((c.tc : Thread Cert.RefInsampleIdeal.nD Cert.RefInsampleIdeal.τ).loc Cert.RefInsampleIdeal.main_arg2)
      ∧ r.2.mem ((c.tc : Thread Cert.RefInsampleIdeal.nD Cert.RefInsampleIdeal.τ).loc Cert.RefInsampleIdeal.main_arg3) = m ((c.tc : Thread Cert.RefInsampleIdeal.nD Cert.RefInsampleIdeal.τ).loc Cert.RefInsampleIdeal.main_arg3))
      ∧ r.2.sem = fun _ => 0)

def quiescent_Upsample [hUpsample : Cert.Upsample.Facts] : Prop :=
  ∀ (m : (ℓ : Loc Cert.Upsample.nD Cert.Upsample.τ Cert.Upsample.sig) → Buf (Elt Bits) ℓ) (g : Dev Cert.Upsample.nD → PrngReg), Pre_Upsample m →
    θ_run (Cert.Upsample.defs (F := Bits)) (onTc (τ := Cert.Upsample.τ) (Cert.Upsample.main (F := Bits))) ⟨m, fun _ => 0, g⟩ (fun r => (∀ c : Dev Cert.Upsample.nD,
      r.2.mem ((c.tc : Thread Cert.Upsample.nD Cert.Upsample.τ).loc Cert.Upsample.main_arg0) = m ((c.tc : Thread Cert.Upsample.nD Cert.Upsample.τ).loc Cert.Upsample.main_arg0)
      ∧ r.2.mem ((c.tc : Thread Cert.Upsample.nD Cert.Upsample.τ).loc Cert.Upsample.main_arg1) = m ((c.tc : Thread Cert.Upsample.nD Cert.Upsample.τ).loc Cert.Upsample.main_arg1)
      ∧ r.2.mem ((c.tc : Thread Cert.Upsample.nD Cert.Upsample.τ).loc Cert.Upsample.main_arg2) = m ((c.tc : Thread Cert.Upsample.nD Cert.Upsample.τ).loc Cert.Upsample.main_arg2)
      ∧ r.2.mem ((c.tc : Thread Cert.Upsample.nD Cert.Upsample.τ).loc Cert.Upsample.main_arg3) = m ((c.tc : Thread Cert.Upsample.nD Cert.Upsample.τ).loc Cert.Upsample.main_arg3)
      ∧ r.2.mem ((c.tc : Thread Cert.Upsample.nD Cert.Upsample.τ).loc Cert.Upsample.main_arg4) = m ((c.tc : Thread Cert.Upsample.nD Cert.Upsample.τ).loc Cert.Upsample.main_arg4)
      ∧ r.2.mem ((c.tc : Thread Cert.Upsample.nD Cert.Upsample.τ).loc Cert.Upsample.main_arg5) = m ((c.tc : Thread Cert.Upsample.nD Cert.Upsample.τ).loc Cert.Upsample.main_arg5))
      ∧ r.2.sem = fun _ => 0)

def quiescent_UpsampleIdeal [hUpsampleIdeal : Cert.UpsampleIdeal.Facts] : Prop :=
  ∀ (m : (ℓ : Loc Cert.UpsampleIdeal.nD Cert.UpsampleIdeal.τ Cert.UpsampleIdeal.sig) → Buf (Elt Ideal) ℓ) (g : Dev Cert.UpsampleIdeal.nD → PrngReg), Pre_UpsampleIdeal m →
    θ_run (Cert.UpsampleIdeal.defs (F := Ideal)) (onTc (τ := Cert.UpsampleIdeal.τ) (Cert.UpsampleIdeal.main (F := Ideal))) ⟨m, fun _ => 0, g⟩ (fun r => (∀ c : Dev Cert.UpsampleIdeal.nD,
      r.2.mem ((c.tc : Thread Cert.UpsampleIdeal.nD Cert.UpsampleIdeal.τ).loc Cert.UpsampleIdeal.main_arg0) = m ((c.tc : Thread Cert.UpsampleIdeal.nD Cert.UpsampleIdeal.τ).loc Cert.UpsampleIdeal.main_arg0)
      ∧ r.2.mem ((c.tc : Thread Cert.UpsampleIdeal.nD Cert.UpsampleIdeal.τ).loc Cert.UpsampleIdeal.main_arg1) = m ((c.tc : Thread Cert.UpsampleIdeal.nD Cert.UpsampleIdeal.τ).loc Cert.UpsampleIdeal.main_arg1)
      ∧ r.2.mem ((c.tc : Thread Cert.UpsampleIdeal.nD Cert.UpsampleIdeal.τ).loc Cert.UpsampleIdeal.main_arg2) = m ((c.tc : Thread Cert.UpsampleIdeal.nD Cert.UpsampleIdeal.τ).loc Cert.UpsampleIdeal.main_arg2)
      ∧ r.2.mem ((c.tc : Thread Cert.UpsampleIdeal.nD Cert.UpsampleIdeal.τ).loc Cert.UpsampleIdeal.main_arg3) = m ((c.tc : Thread Cert.UpsampleIdeal.nD Cert.UpsampleIdeal.τ).loc Cert.UpsampleIdeal.main_arg3)
      ∧ r.2.mem ((c.tc : Thread Cert.UpsampleIdeal.nD Cert.UpsampleIdeal.τ).loc Cert.UpsampleIdeal.main_arg4) = m ((c.tc : Thread Cert.UpsampleIdeal.nD Cert.UpsampleIdeal.τ).loc Cert.UpsampleIdeal.main_arg4)
      ∧ r.2.mem ((c.tc : Thread Cert.UpsampleIdeal.nD Cert.UpsampleIdeal.τ).loc Cert.UpsampleIdeal.main_arg5) = m ((c.tc : Thread Cert.UpsampleIdeal.nD Cert.UpsampleIdeal.τ).loc Cert.UpsampleIdeal.main_arg5))
      ∧ r.2.sem = fun _ => 0)

def quiescent_RefUpsampleIdeal [hRefUpsampleIdeal : Cert.RefUpsampleIdeal.Facts] : Prop :=
  ∀ (m : (ℓ : Loc Cert.RefUpsampleIdeal.nD Cert.RefUpsampleIdeal.τ Cert.RefUpsampleIdeal.sig) → Buf (Elt Ideal) ℓ) (g : Dev Cert.RefUpsampleIdeal.nD → PrngReg), Pre_RefUpsampleIdeal m →
    θ_run (Cert.RefUpsampleIdeal.defs (F := Ideal)) (onTc (τ := Cert.RefUpsampleIdeal.τ) (Cert.RefUpsampleIdeal.main (F := Ideal))) ⟨m, fun _ => 0, g⟩ (fun r => (∀ c : Dev Cert.RefUpsampleIdeal.nD,
      r.2.mem ((c.tc : Thread Cert.RefUpsampleIdeal.nD Cert.RefUpsampleIdeal.τ).loc Cert.RefUpsampleIdeal.main_arg0) = m ((c.tc : Thread Cert.RefUpsampleIdeal.nD Cert.RefUpsampleIdeal.τ).loc Cert.RefUpsampleIdeal.main_arg0)
      ∧ r.2.mem ((c.tc : Thread Cert.RefUpsampleIdeal.nD Cert.RefUpsampleIdeal.τ).loc Cert.RefUpsampleIdeal.main_arg1) = m ((c.tc : Thread Cert.RefUpsampleIdeal.nD Cert.RefUpsampleIdeal.τ).loc Cert.RefUpsampleIdeal.main_arg1)
      ∧ r.2.mem ((c.tc : Thread Cert.RefUpsampleIdeal.nD Cert.RefUpsampleIdeal.τ).loc Cert.RefUpsampleIdeal.main_arg2) = m ((c.tc : Thread Cert.RefUpsampleIdeal.nD Cert.RefUpsampleIdeal.τ).loc Cert.RefUpsampleIdeal.main_arg2)
      ∧ r.2.mem ((c.tc : Thread Cert.RefUpsampleIdeal.nD Cert.RefUpsampleIdeal.τ).loc Cert.RefUpsampleIdeal.main_arg3) = m ((c.tc : Thread Cert.RefUpsampleIdeal.nD Cert.RefUpsampleIdeal.τ).loc Cert.RefUpsampleIdeal.main_arg3)
      ∧ r.2.mem ((c.tc : Thread Cert.RefUpsampleIdeal.nD Cert.RefUpsampleIdeal.τ).loc Cert.RefUpsampleIdeal.main_arg4) = m ((c.tc : Thread Cert.RefUpsampleIdeal.nD Cert.RefUpsampleIdeal.τ).loc Cert.RefUpsampleIdeal.main_arg4)
      ∧ r.2.mem ((c.tc : Thread Cert.RefUpsampleIdeal.nD Cert.RefUpsampleIdeal.τ).loc Cert.RefUpsampleIdeal.main_arg5) = m ((c.tc : Thread Cert.RefUpsampleIdeal.nD Cert.RefUpsampleIdeal.τ).loc Cert.RefUpsampleIdeal.main_arg5))
      ∧ r.2.sem = fun _ => 0)

def preserves_Branch_BranchIdeal : Prop :=
  True

def algebraic_BranchIdeal_RefBranchIdeal [hBranchIdeal : Cert.BranchIdeal.Facts] [hRefBranchIdeal : Cert.RefBranchIdeal.Facts] : Prop :=
  ∀ (m : (ℓ : Loc Cert.BranchIdeal.nD Cert.BranchIdeal.τ Cert.BranchIdeal.sig) → Buf (Elt Ideal) ℓ) (g : Dev Cert.BranchIdeal.nD → PrngReg)
    (m' : (ℓ : Loc Cert.RefBranchIdeal.nD Cert.RefBranchIdeal.τ Cert.RefBranchIdeal.sig) → Buf (Elt Ideal) ℓ) (g' : Dev Cert.RefBranchIdeal.nD → PrngReg), Pre_BranchIdeal m →
    (∀ c : Dev Cert.BranchIdeal.nD,
      m' ((c.tc : Thread Cert.RefBranchIdeal.nD Cert.RefBranchIdeal.τ).loc Cert.RefBranchIdeal.main_arg0) = m ((c.tc : Thread Cert.BranchIdeal.nD Cert.BranchIdeal.τ).loc Cert.BranchIdeal.main_arg0)
      ∧ m' ((c.tc : Thread Cert.RefBranchIdeal.nD Cert.RefBranchIdeal.τ).loc Cert.RefBranchIdeal.main_arg1) = m ((c.tc : Thread Cert.BranchIdeal.nD Cert.BranchIdeal.τ).loc Cert.BranchIdeal.main_arg1)
      ∧ m' ((c.tc : Thread Cert.RefBranchIdeal.nD Cert.RefBranchIdeal.τ).loc Cert.RefBranchIdeal.main_arg2) = m ((c.tc : Thread Cert.BranchIdeal.nD Cert.BranchIdeal.τ).loc Cert.BranchIdeal.main_arg2)
      ∧ m' ((c.tc : Thread Cert.RefBranchIdeal.nD Cert.RefBranchIdeal.τ).loc Cert.RefBranchIdeal.main_arg3) = m ((c.tc : Thread Cert.BranchIdeal.nD Cert.BranchIdeal.τ).loc Cert.BranchIdeal.main_arg3)) →
    ∃ (v0 : (c : Dev Cert.BranchIdeal.nD) → Buf (Elt Ideal) ((c.tc : Thread Cert.BranchIdeal.nD Cert.BranchIdeal.τ).loc Cert.BranchIdeal.main_v0)),
      θ_run (Cert.BranchIdeal.defs (F := Ideal)) (onTc (τ := Cert.BranchIdeal.τ) (Cert.BranchIdeal.main (F := Ideal))) ⟨m, fun _ => 0, g⟩ (fun r => ∀ c : Dev Cert.BranchIdeal.nD,
          r.2.mem ((c.tc : Thread Cert.BranchIdeal.nD Cert.BranchIdeal.τ).loc Cert.BranchIdeal.main_v0) = v0 c
          ∧ r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
          ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1)
          ∧ r.2.mem ((c.tc : Thread Cert.BranchIdeal.nD Cert.BranchIdeal.τ).loc Cert.BranchIdeal.main_arg2) = m ((c.tc : Thread Cert.BranchIdeal.nD Cert.BranchIdeal.τ).loc Cert.BranchIdeal.main_arg2)
          ∧ r.2.mem ((c.tc : Thread Cert.BranchIdeal.nD Cert.BranchIdeal.τ).loc Cert.BranchIdeal.main_arg3) = m ((c.tc : Thread Cert.BranchIdeal.nD Cert.BranchIdeal.τ).loc Cert.BranchIdeal.main_arg3))
      ∧ θ_run (Cert.RefBranchIdeal.defs (F := Ideal)) (onTc (τ := Cert.RefBranchIdeal.τ) (Cert.RefBranchIdeal.main (F := Ideal))) ⟨m', fun _ => 0, g'⟩ (fun r => ∀ c : Dev Cert.RefBranchIdeal.nD,
          r.2.mem ((c.tc : Thread Cert.RefBranchIdeal.nD Cert.RefBranchIdeal.τ).loc Cert.RefBranchIdeal.main_v14) = v0 c
          ∧ r.2.mem ((c.tc : Thread Cert.RefBranchIdeal.nD Cert.RefBranchIdeal.τ).loc Cert.RefBranchIdeal.main_arg0) = m' ((c.tc : Thread Cert.RefBranchIdeal.nD Cert.RefBranchIdeal.τ).loc Cert.RefBranchIdeal.main_arg0)
          ∧ r.2.mem ((c.tc : Thread Cert.RefBranchIdeal.nD Cert.RefBranchIdeal.τ).loc Cert.RefBranchIdeal.main_arg1) = m' ((c.tc : Thread Cert.RefBranchIdeal.nD Cert.RefBranchIdeal.τ).loc Cert.RefBranchIdeal.main_arg1)
          ∧ r.2.mem ((c.tc : Thread Cert.RefBranchIdeal.nD Cert.RefBranchIdeal.τ).loc Cert.RefBranchIdeal.main_arg2) = m' ((c.tc : Thread Cert.RefBranchIdeal.nD Cert.RefBranchIdeal.τ).loc Cert.RefBranchIdeal.main_arg2)
          ∧ r.2.mem ((c.tc : Thread Cert.RefBranchIdeal.nD Cert.RefBranchIdeal.τ).loc Cert.RefBranchIdeal.main_arg3) = m' ((c.tc : Thread Cert.RefBranchIdeal.nD Cert.RefBranchIdeal.τ).loc Cert.RefBranchIdeal.main_arg3))

def preserves_Outnorm_OutnormIdeal : Prop :=
  True

def algebraic_OutnormIdeal_RefOutnormIdeal [hOutnormIdeal : Cert.OutnormIdeal.Facts] [hRefOutnormIdeal : Cert.RefOutnormIdeal.Facts] : Prop :=
  ∀ (m : (ℓ : Loc Cert.OutnormIdeal.nD Cert.OutnormIdeal.τ Cert.OutnormIdeal.sig) → Buf (Elt Ideal) ℓ) (g : Dev Cert.OutnormIdeal.nD → PrngReg)
    (m' : (ℓ : Loc Cert.RefOutnormIdeal.nD Cert.RefOutnormIdeal.τ Cert.RefOutnormIdeal.sig) → Buf (Elt Ideal) ℓ) (g' : Dev Cert.RefOutnormIdeal.nD → PrngReg), Pre_OutnormIdeal m →
    (∀ c : Dev Cert.OutnormIdeal.nD,
      m' ((c.tc : Thread Cert.RefOutnormIdeal.nD Cert.RefOutnormIdeal.τ).loc Cert.RefOutnormIdeal.main_arg0) = m ((c.tc : Thread Cert.OutnormIdeal.nD Cert.OutnormIdeal.τ).loc Cert.OutnormIdeal.main_arg0)
      ∧ m' ((c.tc : Thread Cert.RefOutnormIdeal.nD Cert.RefOutnormIdeal.τ).loc Cert.RefOutnormIdeal.main_arg1) = m ((c.tc : Thread Cert.OutnormIdeal.nD Cert.OutnormIdeal.τ).loc Cert.OutnormIdeal.main_arg1)
      ∧ m' ((c.tc : Thread Cert.RefOutnormIdeal.nD Cert.RefOutnormIdeal.τ).loc Cert.RefOutnormIdeal.main_arg2) = m ((c.tc : Thread Cert.OutnormIdeal.nD Cert.OutnormIdeal.τ).loc Cert.OutnormIdeal.main_arg2)
      ∧ m' ((c.tc : Thread Cert.RefOutnormIdeal.nD Cert.RefOutnormIdeal.τ).loc Cert.RefOutnormIdeal.main_arg3) = m ((c.tc : Thread Cert.OutnormIdeal.nD Cert.OutnormIdeal.τ).loc Cert.OutnormIdeal.main_arg3)
      ∧ m' ((c.tc : Thread Cert.RefOutnormIdeal.nD Cert.RefOutnormIdeal.τ).loc Cert.RefOutnormIdeal.main_arg4) = m ((c.tc : Thread Cert.OutnormIdeal.nD Cert.OutnormIdeal.τ).loc Cert.OutnormIdeal.main_arg4)
      ∧ m' ((c.tc : Thread Cert.RefOutnormIdeal.nD Cert.RefOutnormIdeal.τ).loc Cert.RefOutnormIdeal.main_arg5) = m ((c.tc : Thread Cert.OutnormIdeal.nD Cert.OutnormIdeal.τ).loc Cert.OutnormIdeal.main_arg5)
      ∧ m' ((c.tc : Thread Cert.RefOutnormIdeal.nD Cert.RefOutnormIdeal.τ).loc Cert.RefOutnormIdeal.main_arg6) = m ((c.tc : Thread Cert.OutnormIdeal.nD Cert.OutnormIdeal.τ).loc Cert.OutnormIdeal.main_arg6)) →
    ∃ (v0 : (c : Dev Cert.OutnormIdeal.nD) → Buf (Elt Ideal) ((c.tc : Thread Cert.OutnormIdeal.nD Cert.OutnormIdeal.τ).loc Cert.OutnormIdeal.main_v4_0)) (v1 : (c : Dev Cert.OutnormIdeal.nD) → Buf (Elt Ideal) ((c.tc : Thread Cert.OutnormIdeal.nD Cert.OutnormIdeal.τ).loc Cert.OutnormIdeal.main_v4_1)),
      θ_run (Cert.OutnormIdeal.defs (F := Ideal)) (onTc (τ := Cert.OutnormIdeal.τ) (Cert.OutnormIdeal.main (F := Ideal))) ⟨m, fun _ => 0, g⟩ (fun r => ∀ c : Dev Cert.OutnormIdeal.nD,
          r.2.mem ((c.tc : Thread Cert.OutnormIdeal.nD Cert.OutnormIdeal.τ).loc Cert.OutnormIdeal.main_v4_0) = v0 c
          ∧ r.2.mem ((c.tc : Thread Cert.OutnormIdeal.nD Cert.OutnormIdeal.τ).loc Cert.OutnormIdeal.main_v4_1) = v1 c
          ∧ r.2.mem ((c.tc : Thread Cert.OutnormIdeal.nD Cert.OutnormIdeal.τ).loc Cert.OutnormIdeal.main_arg0) = m ((c.tc : Thread Cert.OutnormIdeal.nD Cert.OutnormIdeal.τ).loc Cert.OutnormIdeal.main_arg0)
          ∧ r.2.mem ((c.tc : Thread Cert.OutnormIdeal.nD Cert.OutnormIdeal.τ).loc Cert.OutnormIdeal.main_arg1) = m ((c.tc : Thread Cert.OutnormIdeal.nD Cert.OutnormIdeal.τ).loc Cert.OutnormIdeal.main_arg1)
          ∧ r.2.mem ((c.tc : Thread Cert.OutnormIdeal.nD Cert.OutnormIdeal.τ).loc Cert.OutnormIdeal.main_arg2) = m ((c.tc : Thread Cert.OutnormIdeal.nD Cert.OutnormIdeal.τ).loc Cert.OutnormIdeal.main_arg2)
          ∧ r.2.mem ((c.tc : Thread Cert.OutnormIdeal.nD Cert.OutnormIdeal.τ).loc Cert.OutnormIdeal.main_arg3) = m ((c.tc : Thread Cert.OutnormIdeal.nD Cert.OutnormIdeal.τ).loc Cert.OutnormIdeal.main_arg3)
          ∧ r.2.mem ((c.tc : Thread Cert.OutnormIdeal.nD Cert.OutnormIdeal.τ).loc Cert.OutnormIdeal.main_arg4) = m ((c.tc : Thread Cert.OutnormIdeal.nD Cert.OutnormIdeal.τ).loc Cert.OutnormIdeal.main_arg4)
          ∧ r.2.mem ((c.tc : Thread Cert.OutnormIdeal.nD Cert.OutnormIdeal.τ).loc Cert.OutnormIdeal.main_arg5) = m ((c.tc : Thread Cert.OutnormIdeal.nD Cert.OutnormIdeal.τ).loc Cert.OutnormIdeal.main_arg5)
          ∧ r.2.mem ((c.tc : Thread Cert.OutnormIdeal.nD Cert.OutnormIdeal.τ).loc Cert.OutnormIdeal.main_arg6) = m ((c.tc : Thread Cert.OutnormIdeal.nD Cert.OutnormIdeal.τ).loc Cert.OutnormIdeal.main_arg6))
      ∧ θ_run (Cert.RefOutnormIdeal.defs (F := Ideal)) (onTc (τ := Cert.RefOutnormIdeal.τ) (Cert.RefOutnormIdeal.main (F := Ideal))) ⟨m', fun _ => 0, g'⟩ (fun r => ∀ c : Dev Cert.RefOutnormIdeal.nD,
          r.2.mem ((c.tc : Thread Cert.RefOutnormIdeal.nD Cert.RefOutnormIdeal.τ).loc Cert.RefOutnormIdeal.main_v33) = v0 c
          ∧ r.2.mem ((c.tc : Thread Cert.RefOutnormIdeal.nD Cert.RefOutnormIdeal.τ).loc Cert.RefOutnormIdeal.main_v35) = v1 c
          ∧ r.2.mem ((c.tc : Thread Cert.RefOutnormIdeal.nD Cert.RefOutnormIdeal.τ).loc Cert.RefOutnormIdeal.main_arg0) = m' ((c.tc : Thread Cert.RefOutnormIdeal.nD Cert.RefOutnormIdeal.τ).loc Cert.RefOutnormIdeal.main_arg0)
          ∧ r.2.mem ((c.tc : Thread Cert.RefOutnormIdeal.nD Cert.RefOutnormIdeal.τ).loc Cert.RefOutnormIdeal.main_arg1) = m' ((c.tc : Thread Cert.RefOutnormIdeal.nD Cert.RefOutnormIdeal.τ).loc Cert.RefOutnormIdeal.main_arg1)
          ∧ r.2.mem ((c.tc : Thread Cert.RefOutnormIdeal.nD Cert.RefOutnormIdeal.τ).loc Cert.RefOutnormIdeal.main_arg2) = m' ((c.tc : Thread Cert.RefOutnormIdeal.nD Cert.RefOutnormIdeal.τ).loc Cert.RefOutnormIdeal.main_arg2)
          ∧ r.2.mem ((c.tc : Thread Cert.RefOutnormIdeal.nD Cert.RefOutnormIdeal.τ).loc Cert.RefOutnormIdeal.main_arg3) = m' ((c.tc : Thread Cert.RefOutnormIdeal.nD Cert.RefOutnormIdeal.τ).loc Cert.RefOutnormIdeal.main_arg3)
          ∧ r.2.mem ((c.tc : Thread Cert.RefOutnormIdeal.nD Cert.RefOutnormIdeal.τ).loc Cert.RefOutnormIdeal.main_arg4) = m' ((c.tc : Thread Cert.RefOutnormIdeal.nD Cert.RefOutnormIdeal.τ).loc Cert.RefOutnormIdeal.main_arg4)
          ∧ r.2.mem ((c.tc : Thread Cert.RefOutnormIdeal.nD Cert.RefOutnormIdeal.τ).loc Cert.RefOutnormIdeal.main_arg5) = m' ((c.tc : Thread Cert.RefOutnormIdeal.nD Cert.RefOutnormIdeal.τ).loc Cert.RefOutnormIdeal.main_arg5)
          ∧ r.2.mem ((c.tc : Thread Cert.RefOutnormIdeal.nD Cert.RefOutnormIdeal.τ).loc Cert.RefOutnormIdeal.main_arg6) = m' ((c.tc : Thread Cert.RefOutnormIdeal.nD Cert.RefOutnormIdeal.τ).loc Cert.RefOutnormIdeal.main_arg6))

def preserves_Ffnup_FfnupIdeal : Prop :=
  True

def algebraic_FfnupIdeal_RefFfnupIdeal [hFfnupIdeal : Cert.FfnupIdeal.Facts] [hRefFfnupIdeal : Cert.RefFfnupIdeal.Facts] : Prop :=
  ∀ (m : (ℓ : Loc Cert.FfnupIdeal.nD Cert.FfnupIdeal.τ Cert.FfnupIdeal.sig) → Buf (Elt Ideal) ℓ) (g : Dev Cert.FfnupIdeal.nD → PrngReg)
    (m' : (ℓ : Loc Cert.RefFfnupIdeal.nD Cert.RefFfnupIdeal.τ Cert.RefFfnupIdeal.sig) → Buf (Elt Ideal) ℓ) (g' : Dev Cert.RefFfnupIdeal.nD → PrngReg), Pre_FfnupIdeal m →
    (∀ c : Dev Cert.FfnupIdeal.nD,
      m' ((c.tc : Thread Cert.RefFfnupIdeal.nD Cert.RefFfnupIdeal.τ).loc Cert.RefFfnupIdeal.main_arg0) = m ((c.tc : Thread Cert.FfnupIdeal.nD Cert.FfnupIdeal.τ).loc Cert.FfnupIdeal.main_arg0)
      ∧ m' ((c.tc : Thread Cert.RefFfnupIdeal.nD Cert.RefFfnupIdeal.τ).loc Cert.RefFfnupIdeal.main_arg1) = m ((c.tc : Thread Cert.FfnupIdeal.nD Cert.FfnupIdeal.τ).loc Cert.FfnupIdeal.main_arg1)
      ∧ m' ((c.tc : Thread Cert.RefFfnupIdeal.nD Cert.RefFfnupIdeal.τ).loc Cert.RefFfnupIdeal.main_arg2) = m ((c.tc : Thread Cert.FfnupIdeal.nD Cert.FfnupIdeal.τ).loc Cert.FfnupIdeal.main_arg2)
      ∧ m' ((c.tc : Thread Cert.RefFfnupIdeal.nD Cert.RefFfnupIdeal.τ).loc Cert.RefFfnupIdeal.main_arg3) = m ((c.tc : Thread Cert.FfnupIdeal.nD Cert.FfnupIdeal.τ).loc Cert.FfnupIdeal.main_arg3)
      ∧ m' ((c.tc : Thread Cert.RefFfnupIdeal.nD Cert.RefFfnupIdeal.τ).loc Cert.RefFfnupIdeal.main_arg4) = m ((c.tc : Thread Cert.FfnupIdeal.nD Cert.FfnupIdeal.τ).loc Cert.FfnupIdeal.main_arg4)) →
    ∃ (v0 : (c : Dev Cert.FfnupIdeal.nD) → Buf (Elt Ideal) ((c.tc : Thread Cert.FfnupIdeal.nD Cert.FfnupIdeal.τ).loc Cert.FfnupIdeal.main_v2_0)) (v1 : (c : Dev Cert.FfnupIdeal.nD) → Buf (Elt Ideal) ((c.tc : Thread Cert.FfnupIdeal.nD Cert.FfnupIdeal.τ).loc Cert.FfnupIdeal.main_v2_1)),
      θ_run (Cert.FfnupIdeal.defs (F := Ideal)) (onTc (τ := Cert.FfnupIdeal.τ) (Cert.FfnupIdeal.main (F := Ideal))) ⟨m, fun _ => 0, g⟩ (fun r => ∀ c : Dev Cert.FfnupIdeal.nD,
          r.2.mem ((c.tc : Thread Cert.FfnupIdeal.nD Cert.FfnupIdeal.τ).loc Cert.FfnupIdeal.main_v2_0) = v0 c
          ∧ r.2.mem ((c.tc : Thread Cert.FfnupIdeal.nD Cert.FfnupIdeal.τ).loc Cert.FfnupIdeal.main_v2_1) = v1 c
          ∧ r.2.mem ((c.tc : Thread Cert.FfnupIdeal.nD Cert.FfnupIdeal.τ).loc Cert.FfnupIdeal.main_arg0) = m ((c.tc : Thread Cert.FfnupIdeal.nD Cert.FfnupIdeal.τ).loc Cert.FfnupIdeal.main_arg0)
          ∧ r.2.mem ((c.tc : Thread Cert.FfnupIdeal.nD Cert.FfnupIdeal.τ).loc Cert.FfnupIdeal.main_arg1) = m ((c.tc : Thread Cert.FfnupIdeal.nD Cert.FfnupIdeal.τ).loc Cert.FfnupIdeal.main_arg1)
          ∧ r.2.mem ((c.tc : Thread Cert.FfnupIdeal.nD Cert.FfnupIdeal.τ).loc Cert.FfnupIdeal.main_arg2) = m ((c.tc : Thread Cert.FfnupIdeal.nD Cert.FfnupIdeal.τ).loc Cert.FfnupIdeal.main_arg2)
          ∧ r.2.mem ((c.tc : Thread Cert.FfnupIdeal.nD Cert.FfnupIdeal.τ).loc Cert.FfnupIdeal.main_arg3) = m ((c.tc : Thread Cert.FfnupIdeal.nD Cert.FfnupIdeal.τ).loc Cert.FfnupIdeal.main_arg3)
          ∧ r.2.mem ((c.tc : Thread Cert.FfnupIdeal.nD Cert.FfnupIdeal.τ).loc Cert.FfnupIdeal.main_arg4) = m ((c.tc : Thread Cert.FfnupIdeal.nD Cert.FfnupIdeal.τ).loc Cert.FfnupIdeal.main_arg4))
      ∧ θ_run (Cert.RefFfnupIdeal.defs (F := Ideal)) (onTc (τ := Cert.RefFfnupIdeal.τ) (Cert.RefFfnupIdeal.main (F := Ideal))) ⟨m', fun _ => 0, g'⟩ (fun r => ∀ c : Dev Cert.RefFfnupIdeal.nD,
          r.2.mem ((c.tc : Thread Cert.RefFfnupIdeal.nD Cert.RefFfnupIdeal.τ).loc Cert.RefFfnupIdeal.main_v52) = v0 c
          ∧ r.2.mem ((c.tc : Thread Cert.RefFfnupIdeal.nD Cert.RefFfnupIdeal.τ).loc Cert.RefFfnupIdeal.main_v54) = v1 c
          ∧ r.2.mem ((c.tc : Thread Cert.RefFfnupIdeal.nD Cert.RefFfnupIdeal.τ).loc Cert.RefFfnupIdeal.main_arg0) = m' ((c.tc : Thread Cert.RefFfnupIdeal.nD Cert.RefFfnupIdeal.τ).loc Cert.RefFfnupIdeal.main_arg0)
          ∧ r.2.mem ((c.tc : Thread Cert.RefFfnupIdeal.nD Cert.RefFfnupIdeal.τ).loc Cert.RefFfnupIdeal.main_arg1) = m' ((c.tc : Thread Cert.RefFfnupIdeal.nD Cert.RefFfnupIdeal.τ).loc Cert.RefFfnupIdeal.main_arg1)
          ∧ r.2.mem ((c.tc : Thread Cert.RefFfnupIdeal.nD Cert.RefFfnupIdeal.τ).loc Cert.RefFfnupIdeal.main_arg2) = m' ((c.tc : Thread Cert.RefFfnupIdeal.nD Cert.RefFfnupIdeal.τ).loc Cert.RefFfnupIdeal.main_arg2)
          ∧ r.2.mem ((c.tc : Thread Cert.RefFfnupIdeal.nD Cert.RefFfnupIdeal.τ).loc Cert.RefFfnupIdeal.main_arg3) = m' ((c.tc : Thread Cert.RefFfnupIdeal.nD Cert.RefFfnupIdeal.τ).loc Cert.RefFfnupIdeal.main_arg3)
          ∧ r.2.mem ((c.tc : Thread Cert.RefFfnupIdeal.nD Cert.RefFfnupIdeal.τ).loc Cert.RefFfnupIdeal.main_arg4) = m' ((c.tc : Thread Cert.RefFfnupIdeal.nD Cert.RefFfnupIdeal.τ).loc Cert.RefFfnupIdeal.main_arg4))

def preserves_Ffndown_FfndownIdeal : Prop :=
  True

def algebraic_FfndownIdeal_RefFfndownIdeal [hFfndownIdeal : Cert.FfndownIdeal.Facts] [hRefFfndownIdeal : Cert.RefFfndownIdeal.Facts] : Prop :=
  ∀ (m : (ℓ : Loc Cert.FfndownIdeal.nD Cert.FfndownIdeal.τ Cert.FfndownIdeal.sig) → Buf (Elt Ideal) ℓ) (g : Dev Cert.FfndownIdeal.nD → PrngReg)
    (m' : (ℓ : Loc Cert.RefFfndownIdeal.nD Cert.RefFfndownIdeal.τ Cert.RefFfndownIdeal.sig) → Buf (Elt Ideal) ℓ) (g' : Dev Cert.RefFfndownIdeal.nD → PrngReg), Pre_FfndownIdeal m →
    (∀ c : Dev Cert.FfndownIdeal.nD,
      m' ((c.tc : Thread Cert.RefFfndownIdeal.nD Cert.RefFfndownIdeal.τ).loc Cert.RefFfndownIdeal.main_arg0) = m ((c.tc : Thread Cert.FfndownIdeal.nD Cert.FfndownIdeal.τ).loc Cert.FfndownIdeal.main_arg0)
      ∧ m' ((c.tc : Thread Cert.RefFfndownIdeal.nD Cert.RefFfndownIdeal.τ).loc Cert.RefFfndownIdeal.main_arg1) = m ((c.tc : Thread Cert.FfndownIdeal.nD Cert.FfndownIdeal.τ).loc Cert.FfndownIdeal.main_arg1)
      ∧ m' ((c.tc : Thread Cert.RefFfndownIdeal.nD Cert.RefFfndownIdeal.τ).loc Cert.RefFfndownIdeal.main_arg2) = m ((c.tc : Thread Cert.FfndownIdeal.nD Cert.FfndownIdeal.τ).loc Cert.FfndownIdeal.main_arg2)
      ∧ m' ((c.tc : Thread Cert.RefFfndownIdeal.nD Cert.RefFfndownIdeal.τ).loc Cert.RefFfndownIdeal.main_arg3) = m ((c.tc : Thread Cert.FfndownIdeal.nD Cert.FfndownIdeal.τ).loc Cert.FfndownIdeal.main_arg3)) →
    ∃ (v0 : (c : Dev Cert.FfndownIdeal.nD) → Buf (Elt Ideal) ((c.tc : Thread Cert.FfndownIdeal.nD Cert.FfndownIdeal.τ).loc Cert.FfndownIdeal.main_v1)),
      θ_run (Cert.FfndownIdeal.defs (F := Ideal)) (onTc (τ := Cert.FfndownIdeal.τ) (Cert.FfndownIdeal.main (F := Ideal))) ⟨m, fun _ => 0, g⟩ (fun r => ∀ c : Dev Cert.FfndownIdeal.nD,
          r.2.mem ((c.tc : Thread Cert.FfndownIdeal.nD Cert.FfndownIdeal.τ).loc Cert.FfndownIdeal.main_v1) = v0 c
          ∧ r.2.mem ((c.tc : Thread Cert.FfndownIdeal.nD Cert.FfndownIdeal.τ).loc Cert.FfndownIdeal.main_arg0) = m ((c.tc : Thread Cert.FfndownIdeal.nD Cert.FfndownIdeal.τ).loc Cert.FfndownIdeal.main_arg0)
          ∧ r.2.mem ((c.tc : Thread Cert.FfndownIdeal.nD Cert.FfndownIdeal.τ).loc Cert.FfndownIdeal.main_arg1) = m ((c.tc : Thread Cert.FfndownIdeal.nD Cert.FfndownIdeal.τ).loc Cert.FfndownIdeal.main_arg1)
          ∧ r.2.mem ((c.tc : Thread Cert.FfndownIdeal.nD Cert.FfndownIdeal.τ).loc Cert.FfndownIdeal.main_arg2) = m ((c.tc : Thread Cert.FfndownIdeal.nD Cert.FfndownIdeal.τ).loc Cert.FfndownIdeal.main_arg2)
          ∧ r.2.mem ((c.tc : Thread Cert.FfndownIdeal.nD Cert.FfndownIdeal.τ).loc Cert.FfndownIdeal.main_arg3) = m ((c.tc : Thread Cert.FfndownIdeal.nD Cert.FfndownIdeal.τ).loc Cert.FfndownIdeal.main_arg3))
      ∧ θ_run (Cert.RefFfndownIdeal.defs (F := Ideal)) (onTc (τ := Cert.RefFfndownIdeal.τ) (Cert.RefFfndownIdeal.main (F := Ideal))) ⟨m', fun _ => 0, g'⟩ (fun r => ∀ c : Dev Cert.RefFfndownIdeal.nD,
          r.2.mem ((c.tc : Thread Cert.RefFfndownIdeal.nD Cert.RefFfndownIdeal.τ).loc Cert.RefFfndownIdeal.main_v10) = v0 c
          ∧ r.2.mem ((c.tc : Thread Cert.RefFfndownIdeal.nD Cert.RefFfndownIdeal.τ).loc Cert.RefFfndownIdeal.main_arg0) = m' ((c.tc : Thread Cert.RefFfndownIdeal.nD Cert.RefFfndownIdeal.τ).loc Cert.RefFfndownIdeal.main_arg0)
          ∧ r.2.mem ((c.tc : Thread Cert.RefFfndownIdeal.nD Cert.RefFfndownIdeal.τ).loc Cert.RefFfndownIdeal.main_arg1) = m' ((c.tc : Thread Cert.RefFfndownIdeal.nD Cert.RefFfndownIdeal.τ).loc Cert.RefFfndownIdeal.main_arg1)
          ∧ r.2.mem ((c.tc : Thread Cert.RefFfndownIdeal.nD Cert.RefFfndownIdeal.τ).loc Cert.RefFfndownIdeal.main_arg2) = m' ((c.tc : Thread Cert.RefFfndownIdeal.nD Cert.RefFfndownIdeal.τ).loc Cert.RefFfndownIdeal.main_arg2)
          ∧ r.2.mem ((c.tc : Thread Cert.RefFfndownIdeal.nD Cert.RefFfndownIdeal.τ).loc Cert.RefFfndownIdeal.main_arg3) = m' ((c.tc : Thread Cert.RefFfndownIdeal.nD Cert.RefFfndownIdeal.τ).loc Cert.RefFfndownIdeal.main_arg3))

def preserves_Inproj_InprojIdeal : Prop :=
  True

def algebraic_InprojIdeal_RefInprojIdeal_pre_finite [hInprojIdeal : Cert.InprojIdeal.Facts] [hRefInprojIdeal : Cert.RefInprojIdeal.Facts] [hPre_finite : Cert.Pre_finite.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.RefInprojIdeal.nD Cert.RefInprojIdeal.τ Cert.RefInprojIdeal.sig) → Buf (Elt Ideal) ℓ) (g' : Dev Cert.RefInprojIdeal.nD → PrngReg), Pre_InprojIdeal_finite m →
    (∀ c : Dev Cert.InprojIdeal.nD,
      m' ((c.tc : Thread Cert.RefInprojIdeal.nD Cert.RefInprojIdeal.τ).loc Cert.RefInprojIdeal.main_arg0) = m ((c.tc : Thread Cert.InprojIdeal.nD Cert.InprojIdeal.τ).loc Cert.InprojIdeal.main_arg0)
      ∧ m' ((c.tc : Thread Cert.RefInprojIdeal.nD Cert.RefInprojIdeal.τ).loc Cert.RefInprojIdeal.main_arg1) = m ((c.tc : Thread Cert.InprojIdeal.nD Cert.InprojIdeal.τ).loc Cert.InprojIdeal.main_arg1)
      ∧ m' ((c.tc : Thread Cert.RefInprojIdeal.nD Cert.RefInprojIdeal.τ).loc Cert.RefInprojIdeal.main_arg2) = m ((c.tc : Thread Cert.InprojIdeal.nD Cert.InprojIdeal.τ).loc Cert.InprojIdeal.main_arg2)
      ∧ m' ((c.tc : Thread Cert.RefInprojIdeal.nD Cert.RefInprojIdeal.τ).loc Cert.RefInprojIdeal.main_arg3) = m ((c.tc : Thread Cert.InprojIdeal.nD Cert.InprojIdeal.τ).loc Cert.InprojIdeal.main_arg3)) →
    ∃ (v0 : (c : Dev Cert.InprojIdeal.nD) → Buf (Elt Ideal) ((c.tc : Thread Cert.InprojIdeal.nD Cert.InprojIdeal.τ).loc Cert.InprojIdeal.main_v23)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v23) = v0 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ θ_run (Cert.RefInprojIdeal.defs (F := Ideal)) (onTc (τ := Cert.RefInprojIdeal.τ) (Cert.RefInprojIdeal.main (F := Ideal))) ⟨m', fun _ => 0, g'⟩ (fun r => ∀ c : Dev Cert.RefInprojIdeal.nD,
          r.2.mem ((c.tc : Thread Cert.RefInprojIdeal.nD Cert.RefInprojIdeal.τ).loc Cert.RefInprojIdeal.main_v86) = v0 c
          ∧ r.2.mem ((c.tc : Thread Cert.RefInprojIdeal.nD Cert.RefInprojIdeal.τ).loc Cert.RefInprojIdeal.main_arg0) = m' ((c.tc : Thread Cert.RefInprojIdeal.nD Cert.RefInprojIdeal.τ).loc Cert.RefInprojIdeal.main_arg0)
          ∧ r.2.mem ((c.tc : Thread Cert.RefInprojIdeal.nD Cert.RefInprojIdeal.τ).loc Cert.RefInprojIdeal.main_arg1) = m' ((c.tc : Thread Cert.RefInprojIdeal.nD Cert.RefInprojIdeal.τ).loc Cert.RefInprojIdeal.main_arg1)
          ∧ r.2.mem ((c.tc : Thread Cert.RefInprojIdeal.nD Cert.RefInprojIdeal.τ).loc Cert.RefInprojIdeal.main_arg2) = m' ((c.tc : Thread Cert.RefInprojIdeal.nD Cert.RefInprojIdeal.τ).loc Cert.RefInprojIdeal.main_arg2)
          ∧ r.2.mem ((c.tc : Thread Cert.RefInprojIdeal.nD Cert.RefInprojIdeal.τ).loc Cert.RefInprojIdeal.main_arg3) = m' ((c.tc : Thread Cert.RefInprojIdeal.nD Cert.RefInprojIdeal.τ).loc Cert.RefInprojIdeal.main_arg3))

def preserves_Downsample_DownsampleIdeal : Prop :=
  True

def algebraic_DownsampleIdeal_RefDownsampleIdeal [hDownsampleIdeal : Cert.DownsampleIdeal.Facts] [hRefDownsampleIdeal : Cert.RefDownsampleIdeal.Facts] : Prop :=
  ∀ (m : (ℓ : Loc Cert.DownsampleIdeal.nD Cert.DownsampleIdeal.τ Cert.DownsampleIdeal.sig) → Buf (Elt Ideal) ℓ) (g : Dev Cert.DownsampleIdeal.nD → PrngReg)
    (m' : (ℓ : Loc Cert.RefDownsampleIdeal.nD Cert.RefDownsampleIdeal.τ Cert.RefDownsampleIdeal.sig) → Buf (Elt Ideal) ℓ) (g' : Dev Cert.RefDownsampleIdeal.nD → PrngReg), Pre_DownsampleIdeal m →
    (∀ c : Dev Cert.DownsampleIdeal.nD,
      m' ((c.tc : Thread Cert.RefDownsampleIdeal.nD Cert.RefDownsampleIdeal.τ).loc Cert.RefDownsampleIdeal.main_arg0) = m ((c.tc : Thread Cert.DownsampleIdeal.nD Cert.DownsampleIdeal.τ).loc Cert.DownsampleIdeal.main_arg0)
      ∧ m' ((c.tc : Thread Cert.RefDownsampleIdeal.nD Cert.RefDownsampleIdeal.τ).loc Cert.RefDownsampleIdeal.main_arg1) = m ((c.tc : Thread Cert.DownsampleIdeal.nD Cert.DownsampleIdeal.τ).loc Cert.DownsampleIdeal.main_arg1)
      ∧ m' ((c.tc : Thread Cert.RefDownsampleIdeal.nD Cert.RefDownsampleIdeal.τ).loc Cert.RefDownsampleIdeal.main_arg2) = m ((c.tc : Thread Cert.DownsampleIdeal.nD Cert.DownsampleIdeal.τ).loc Cert.DownsampleIdeal.main_arg2)
      ∧ m' ((c.tc : Thread Cert.RefDownsampleIdeal.nD Cert.RefDownsampleIdeal.τ).loc Cert.RefDownsampleIdeal.main_arg3) = m ((c.tc : Thread Cert.DownsampleIdeal.nD Cert.DownsampleIdeal.τ).loc Cert.DownsampleIdeal.main_arg3)) →
    ∃ (v0 : (c : Dev Cert.DownsampleIdeal.nD) → Buf (Elt Ideal) ((c.tc : Thread Cert.DownsampleIdeal.nD Cert.DownsampleIdeal.τ).loc Cert.DownsampleIdeal.main_v2)),
      θ_run (Cert.DownsampleIdeal.defs (F := Ideal)) (onTc (τ := Cert.DownsampleIdeal.τ) (Cert.DownsampleIdeal.main (F := Ideal))) ⟨m, fun _ => 0, g⟩ (fun r => ∀ c : Dev Cert.DownsampleIdeal.nD,
          r.2.mem ((c.tc : Thread Cert.DownsampleIdeal.nD Cert.DownsampleIdeal.τ).loc Cert.DownsampleIdeal.main_v2) = v0 c
          ∧ r.2.mem ((c.tc : Thread Cert.DownsampleIdeal.nD Cert.DownsampleIdeal.τ).loc Cert.DownsampleIdeal.main_arg0) = m ((c.tc : Thread Cert.DownsampleIdeal.nD Cert.DownsampleIdeal.τ).loc Cert.DownsampleIdeal.main_arg0)
          ∧ r.2.mem ((c.tc : Thread Cert.DownsampleIdeal.nD Cert.DownsampleIdeal.τ).loc Cert.DownsampleIdeal.main_arg1) = m ((c.tc : Thread Cert.DownsampleIdeal.nD Cert.DownsampleIdeal.τ).loc Cert.DownsampleIdeal.main_arg1)
          ∧ r.2.mem ((c.tc : Thread Cert.DownsampleIdeal.nD Cert.DownsampleIdeal.τ).loc Cert.DownsampleIdeal.main_arg2) = m ((c.tc : Thread Cert.DownsampleIdeal.nD Cert.DownsampleIdeal.τ).loc Cert.DownsampleIdeal.main_arg2)
          ∧ r.2.mem ((c.tc : Thread Cert.DownsampleIdeal.nD Cert.DownsampleIdeal.τ).loc Cert.DownsampleIdeal.main_arg3) = m ((c.tc : Thread Cert.DownsampleIdeal.nD Cert.DownsampleIdeal.τ).loc Cert.DownsampleIdeal.main_arg3))
      ∧ θ_run (Cert.RefDownsampleIdeal.defs (F := Ideal)) (onTc (τ := Cert.RefDownsampleIdeal.τ) (Cert.RefDownsampleIdeal.main (F := Ideal))) ⟨m', fun _ => 0, g'⟩ (fun r => ∀ c : Dev Cert.RefDownsampleIdeal.nD,
          r.2.mem ((c.tc : Thread Cert.RefDownsampleIdeal.nD Cert.RefDownsampleIdeal.τ).loc Cert.RefDownsampleIdeal.main_v10) = v0 c
          ∧ r.2.mem ((c.tc : Thread Cert.RefDownsampleIdeal.nD Cert.RefDownsampleIdeal.τ).loc Cert.RefDownsampleIdeal.main_arg0) = m' ((c.tc : Thread Cert.RefDownsampleIdeal.nD Cert.RefDownsampleIdeal.τ).loc Cert.RefDownsampleIdeal.main_arg0)
          ∧ r.2.mem ((c.tc : Thread Cert.RefDownsampleIdeal.nD Cert.RefDownsampleIdeal.τ).loc Cert.RefDownsampleIdeal.main_arg1) = m' ((c.tc : Thread Cert.RefDownsampleIdeal.nD Cert.RefDownsampleIdeal.τ).loc Cert.RefDownsampleIdeal.main_arg1)
          ∧ r.2.mem ((c.tc : Thread Cert.RefDownsampleIdeal.nD Cert.RefDownsampleIdeal.τ).loc Cert.RefDownsampleIdeal.main_arg2) = m' ((c.tc : Thread Cert.RefDownsampleIdeal.nD Cert.RefDownsampleIdeal.τ).loc Cert.RefDownsampleIdeal.main_arg2)
          ∧ r.2.mem ((c.tc : Thread Cert.RefDownsampleIdeal.nD Cert.RefDownsampleIdeal.τ).loc Cert.RefDownsampleIdeal.main_arg3) = m' ((c.tc : Thread Cert.RefDownsampleIdeal.nD Cert.RefDownsampleIdeal.τ).loc Cert.RefDownsampleIdeal.main_arg3))

def preserves_Insample_InsampleIdeal : Prop :=
  True

def algebraic_InsampleIdeal_RefInsampleIdeal_pre_finite_sample [hInsampleIdeal : Cert.InsampleIdeal.Facts] [hRefInsampleIdeal : Cert.RefInsampleIdeal.Facts] [hPre_finite_sample : Cert.Pre_finite_sample.Facts] : Prop :=
  ∀ (m : (ℓ : Loc Cert.InsampleIdeal.nD Cert.InsampleIdeal.τ Cert.InsampleIdeal.sig) → Buf (Elt Ideal) ℓ) (g : Dev Cert.InsampleIdeal.nD → PrngReg)
    (m' : (ℓ : Loc Cert.RefInsampleIdeal.nD Cert.RefInsampleIdeal.τ Cert.RefInsampleIdeal.sig) → Buf (Elt Ideal) ℓ) (g' : Dev Cert.RefInsampleIdeal.nD → PrngReg), Pre_InsampleIdeal_finite_sample m →
    (∀ c : Dev Cert.InsampleIdeal.nD,
      m' ((c.tc : Thread Cert.RefInsampleIdeal.nD Cert.RefInsampleIdeal.τ).loc Cert.RefInsampleIdeal.main_arg0) = m ((c.tc : Thread Cert.InsampleIdeal.nD Cert.InsampleIdeal.τ).loc Cert.InsampleIdeal.main_arg0)
      ∧ m' ((c.tc : Thread Cert.RefInsampleIdeal.nD Cert.RefInsampleIdeal.τ).loc Cert.RefInsampleIdeal.main_arg1) = m ((c.tc : Thread Cert.InsampleIdeal.nD Cert.InsampleIdeal.τ).loc Cert.InsampleIdeal.main_arg1)
      ∧ m' ((c.tc : Thread Cert.RefInsampleIdeal.nD Cert.RefInsampleIdeal.τ).loc Cert.RefInsampleIdeal.main_arg2) = m ((c.tc : Thread Cert.InsampleIdeal.nD Cert.InsampleIdeal.τ).loc Cert.InsampleIdeal.main_arg2)
      ∧ m' ((c.tc : Thread Cert.RefInsampleIdeal.nD Cert.RefInsampleIdeal.τ).loc Cert.RefInsampleIdeal.main_arg3) = m ((c.tc : Thread Cert.InsampleIdeal.nD Cert.InsampleIdeal.τ).loc Cert.InsampleIdeal.main_arg3)) →
    ∃ (v0 : (c : Dev Cert.InsampleIdeal.nD) → Buf (Elt Ideal) ((c.tc : Thread Cert.InsampleIdeal.nD Cert.InsampleIdeal.τ).loc Cert.InsampleIdeal.main_v23)),
      θ_run (Cert.InsampleIdeal.defs (F := Ideal)) (onTc (τ := Cert.InsampleIdeal.τ) (Cert.InsampleIdeal.main (F := Ideal))) ⟨m, fun _ => 0, g⟩ (fun r => ∀ c : Dev Cert.InsampleIdeal.nD,
          r.2.mem ((c.tc : Thread Cert.InsampleIdeal.nD Cert.InsampleIdeal.τ).loc Cert.InsampleIdeal.main_v23) = v0 c
          ∧ r.2.mem ((c.tc : Thread Cert.InsampleIdeal.nD Cert.InsampleIdeal.τ).loc Cert.InsampleIdeal.main_arg0) = m ((c.tc : Thread Cert.InsampleIdeal.nD Cert.InsampleIdeal.τ).loc Cert.InsampleIdeal.main_arg0)
          ∧ r.2.mem ((c.tc : Thread Cert.InsampleIdeal.nD Cert.InsampleIdeal.τ).loc Cert.InsampleIdeal.main_arg1) = m ((c.tc : Thread Cert.InsampleIdeal.nD Cert.InsampleIdeal.τ).loc Cert.InsampleIdeal.main_arg1)
          ∧ r.2.mem ((c.tc : Thread Cert.InsampleIdeal.nD Cert.InsampleIdeal.τ).loc Cert.InsampleIdeal.main_arg2) = m ((c.tc : Thread Cert.InsampleIdeal.nD Cert.InsampleIdeal.τ).loc Cert.InsampleIdeal.main_arg2)
          ∧ r.2.mem ((c.tc : Thread Cert.InsampleIdeal.nD Cert.InsampleIdeal.τ).loc Cert.InsampleIdeal.main_arg3) = m ((c.tc : Thread Cert.InsampleIdeal.nD Cert.InsampleIdeal.τ).loc Cert.InsampleIdeal.main_arg3))
      ∧ θ_run (Cert.RefInsampleIdeal.defs (F := Ideal)) (onTc (τ := Cert.RefInsampleIdeal.τ) (Cert.RefInsampleIdeal.main (F := Ideal))) ⟨m', fun _ => 0, g'⟩ (fun r => ∀ c : Dev Cert.RefInsampleIdeal.nD,
          r.2.mem ((c.tc : Thread Cert.RefInsampleIdeal.nD Cert.RefInsampleIdeal.τ).loc Cert.RefInsampleIdeal.main_v86) = v0 c
          ∧ r.2.mem ((c.tc : Thread Cert.RefInsampleIdeal.nD Cert.RefInsampleIdeal.τ).loc Cert.RefInsampleIdeal.main_arg0) = m' ((c.tc : Thread Cert.RefInsampleIdeal.nD Cert.RefInsampleIdeal.τ).loc Cert.RefInsampleIdeal.main_arg0)
          ∧ r.2.mem ((c.tc : Thread Cert.RefInsampleIdeal.nD Cert.RefInsampleIdeal.τ).loc Cert.RefInsampleIdeal.main_arg1) = m' ((c.tc : Thread Cert.RefInsampleIdeal.nD Cert.RefInsampleIdeal.τ).loc Cert.RefInsampleIdeal.main_arg1)
          ∧ r.2.mem ((c.tc : Thread Cert.RefInsampleIdeal.nD Cert.RefInsampleIdeal.τ).loc Cert.RefInsampleIdeal.main_arg2) = m' ((c.tc : Thread Cert.RefInsampleIdeal.nD Cert.RefInsampleIdeal.τ).loc Cert.RefInsampleIdeal.main_arg2)
          ∧ r.2.mem ((c.tc : Thread Cert.RefInsampleIdeal.nD Cert.RefInsampleIdeal.τ).loc Cert.RefInsampleIdeal.main_arg3) = m' ((c.tc : Thread Cert.RefInsampleIdeal.nD Cert.RefInsampleIdeal.τ).loc Cert.RefInsampleIdeal.main_arg3))

def preserves_Upsample_UpsampleIdeal : Prop :=
  True

def algebraic_UpsampleIdeal_RefUpsampleIdeal [hUpsampleIdeal : Cert.UpsampleIdeal.Facts] [hRefUpsampleIdeal : Cert.RefUpsampleIdeal.Facts] : Prop :=
  ∀ (m : (ℓ : Loc Cert.UpsampleIdeal.nD Cert.UpsampleIdeal.τ Cert.UpsampleIdeal.sig) → Buf (Elt Ideal) ℓ) (g : Dev Cert.UpsampleIdeal.nD → PrngReg)
    (m' : (ℓ : Loc Cert.RefUpsampleIdeal.nD Cert.RefUpsampleIdeal.τ Cert.RefUpsampleIdeal.sig) → Buf (Elt Ideal) ℓ) (g' : Dev Cert.RefUpsampleIdeal.nD → PrngReg), Pre_UpsampleIdeal m →
    (∀ c : Dev Cert.UpsampleIdeal.nD,
      m' ((c.tc : Thread Cert.RefUpsampleIdeal.nD Cert.RefUpsampleIdeal.τ).loc Cert.RefUpsampleIdeal.main_arg0) = m ((c.tc : Thread Cert.UpsampleIdeal.nD Cert.UpsampleIdeal.τ).loc Cert.UpsampleIdeal.main_arg0)
      ∧ m' ((c.tc : Thread Cert.RefUpsampleIdeal.nD Cert.RefUpsampleIdeal.τ).loc Cert.RefUpsampleIdeal.main_arg1) = m ((c.tc : Thread Cert.UpsampleIdeal.nD Cert.UpsampleIdeal.τ).loc Cert.UpsampleIdeal.main_arg1)
      ∧ m' ((c.tc : Thread Cert.RefUpsampleIdeal.nD Cert.RefUpsampleIdeal.τ).loc Cert.RefUpsampleIdeal.main_arg2) = m ((c.tc : Thread Cert.UpsampleIdeal.nD Cert.UpsampleIdeal.τ).loc Cert.UpsampleIdeal.main_arg2)
      ∧ m' ((c.tc : Thread Cert.RefUpsampleIdeal.nD Cert.RefUpsampleIdeal.τ).loc Cert.RefUpsampleIdeal.main_arg3) = m ((c.tc : Thread Cert.UpsampleIdeal.nD Cert.UpsampleIdeal.τ).loc Cert.UpsampleIdeal.main_arg3)
      ∧ m' ((c.tc : Thread Cert.RefUpsampleIdeal.nD Cert.RefUpsampleIdeal.τ).loc Cert.RefUpsampleIdeal.main_arg4) = m ((c.tc : Thread Cert.UpsampleIdeal.nD Cert.UpsampleIdeal.τ).loc Cert.UpsampleIdeal.main_arg4)
      ∧ m' ((c.tc : Thread Cert.RefUpsampleIdeal.nD Cert.RefUpsampleIdeal.τ).loc Cert.RefUpsampleIdeal.main_arg5) = m ((c.tc : Thread Cert.UpsampleIdeal.nD Cert.UpsampleIdeal.τ).loc Cert.UpsampleIdeal.main_arg5)) →
    ∃ (v0 : (c : Dev Cert.UpsampleIdeal.nD) → Buf (Elt Ideal) ((c.tc : Thread Cert.UpsampleIdeal.nD Cert.UpsampleIdeal.τ).loc Cert.UpsampleIdeal.main_v9_0)) (v1 : (c : Dev Cert.UpsampleIdeal.nD) → Buf (Elt Ideal) ((c.tc : Thread Cert.UpsampleIdeal.nD Cert.UpsampleIdeal.τ).loc Cert.UpsampleIdeal.main_v9_1)),
      θ_run (Cert.UpsampleIdeal.defs (F := Ideal)) (onTc (τ := Cert.UpsampleIdeal.τ) (Cert.UpsampleIdeal.main (F := Ideal))) ⟨m, fun _ => 0, g⟩ (fun r => ∀ c : Dev Cert.UpsampleIdeal.nD,
          r.2.mem ((c.tc : Thread Cert.UpsampleIdeal.nD Cert.UpsampleIdeal.τ).loc Cert.UpsampleIdeal.main_v9_0) = v0 c
          ∧ r.2.mem ((c.tc : Thread Cert.UpsampleIdeal.nD Cert.UpsampleIdeal.τ).loc Cert.UpsampleIdeal.main_v9_1) = v1 c
          ∧ r.2.mem ((c.tc : Thread Cert.UpsampleIdeal.nD Cert.UpsampleIdeal.τ).loc Cert.UpsampleIdeal.main_arg0) = m ((c.tc : Thread Cert.UpsampleIdeal.nD Cert.UpsampleIdeal.τ).loc Cert.UpsampleIdeal.main_arg0)
          ∧ r.2.mem ((c.tc : Thread Cert.UpsampleIdeal.nD Cert.UpsampleIdeal.τ).loc Cert.UpsampleIdeal.main_arg1) = m ((c.tc : Thread Cert.UpsampleIdeal.nD Cert.UpsampleIdeal.τ).loc Cert.UpsampleIdeal.main_arg1)
          ∧ r.2.mem ((c.tc : Thread Cert.UpsampleIdeal.nD Cert.UpsampleIdeal.τ).loc Cert.UpsampleIdeal.main_arg2) = m ((c.tc : Thread Cert.UpsampleIdeal.nD Cert.UpsampleIdeal.τ).loc Cert.UpsampleIdeal.main_arg2)
          ∧ r.2.mem ((c.tc : Thread Cert.UpsampleIdeal.nD Cert.UpsampleIdeal.τ).loc Cert.UpsampleIdeal.main_arg3) = m ((c.tc : Thread Cert.UpsampleIdeal.nD Cert.UpsampleIdeal.τ).loc Cert.UpsampleIdeal.main_arg3)
          ∧ r.2.mem ((c.tc : Thread Cert.UpsampleIdeal.nD Cert.UpsampleIdeal.τ).loc Cert.UpsampleIdeal.main_arg4) = m ((c.tc : Thread Cert.UpsampleIdeal.nD Cert.UpsampleIdeal.τ).loc Cert.UpsampleIdeal.main_arg4)
          ∧ r.2.mem ((c.tc : Thread Cert.UpsampleIdeal.nD Cert.UpsampleIdeal.τ).loc Cert.UpsampleIdeal.main_arg5) = m ((c.tc : Thread Cert.UpsampleIdeal.nD Cert.UpsampleIdeal.τ).loc Cert.UpsampleIdeal.main_arg5))
      ∧ θ_run (Cert.RefUpsampleIdeal.defs (F := Ideal)) (onTc (τ := Cert.RefUpsampleIdeal.τ) (Cert.RefUpsampleIdeal.main (F := Ideal))) ⟨m', fun _ => 0, g'⟩ (fun r => ∀ c : Dev Cert.RefUpsampleIdeal.nD,
          r.2.mem ((c.tc : Thread Cert.RefUpsampleIdeal.nD Cert.RefUpsampleIdeal.τ).loc Cert.RefUpsampleIdeal.main_v51) = v0 c
          ∧ r.2.mem ((c.tc : Thread Cert.RefUpsampleIdeal.nD Cert.RefUpsampleIdeal.τ).loc Cert.RefUpsampleIdeal.main_v52) = v1 c
          ∧ r.2.mem ((c.tc : Thread Cert.RefUpsampleIdeal.nD Cert.RefUpsampleIdeal.τ).loc Cert.RefUpsampleIdeal.main_arg0) = m' ((c.tc : Thread Cert.RefUpsampleIdeal.nD Cert.RefUpsampleIdeal.τ).loc Cert.RefUpsampleIdeal.main_arg0)
          ∧ r.2.mem ((c.tc : Thread Cert.RefUpsampleIdeal.nD Cert.RefUpsampleIdeal.τ).loc Cert.RefUpsampleIdeal.main_arg1) = m' ((c.tc : Thread Cert.RefUpsampleIdeal.nD Cert.RefUpsampleIdeal.τ).loc Cert.RefUpsampleIdeal.main_arg1)
          ∧ r.2.mem ((c.tc : Thread Cert.RefUpsampleIdeal.nD Cert.RefUpsampleIdeal.τ).loc Cert.RefUpsampleIdeal.main_arg2) = m' ((c.tc : Thread Cert.RefUpsampleIdeal.nD Cert.RefUpsampleIdeal.τ).loc Cert.RefUpsampleIdeal.main_arg2)
          ∧ r.2.mem ((c.tc : Thread Cert.RefUpsampleIdeal.nD Cert.RefUpsampleIdeal.τ).loc Cert.RefUpsampleIdeal.main_arg3) = m' ((c.tc : Thread Cert.RefUpsampleIdeal.nD Cert.RefUpsampleIdeal.τ).loc Cert.RefUpsampleIdeal.main_arg3)
          ∧ r.2.mem ((c.tc : Thread Cert.RefUpsampleIdeal.nD Cert.RefUpsampleIdeal.τ).loc Cert.RefUpsampleIdeal.main_arg4) = m' ((c.tc : Thread Cert.RefUpsampleIdeal.nD Cert.RefUpsampleIdeal.τ).loc Cert.RefUpsampleIdeal.main_arg4)
          ∧ r.2.mem ((c.tc : Thread Cert.RefUpsampleIdeal.nD Cert.RefUpsampleIdeal.τ).loc Cert.RefUpsampleIdeal.main_arg5) = m' ((c.tc : Thread Cert.RefUpsampleIdeal.nD Cert.RefUpsampleIdeal.τ).loc Cert.RefUpsampleIdeal.main_arg5))

def Claim : Prop :=
  ∃ (hBranch : Cert.Branch.Facts) (hBranchIdeal : Cert.BranchIdeal.Facts) (hRefBranchIdeal : Cert.RefBranchIdeal.Facts) (hOutnorm : Cert.Outnorm.Facts) (hOutnormIdeal : Cert.OutnormIdeal.Facts) (hRefOutnormIdeal : Cert.RefOutnormIdeal.Facts) (hFfnup : Cert.Ffnup.Facts) (hFfnupIdeal : Cert.FfnupIdeal.Facts) (hRefFfnupIdeal : Cert.RefFfnupIdeal.Facts) (hFfndown : Cert.Ffndown.Facts) (hFfndownIdeal : Cert.FfndownIdeal.Facts) (hRefFfndownIdeal : Cert.RefFfndownIdeal.Facts) (hInproj : Cert.Inproj.Facts) (hInprojIdeal : Cert.InprojIdeal.Facts) (hRefInprojIdeal : Cert.RefInprojIdeal.Facts) (hDownsample : Cert.Downsample.Facts) (hDownsampleIdeal : Cert.DownsampleIdeal.Facts) (hRefDownsampleIdeal : Cert.RefDownsampleIdeal.Facts) (hInsample : Cert.Insample.Facts) (hInsampleIdeal : Cert.InsampleIdeal.Facts) (hRefInsampleIdeal : Cert.RefInsampleIdeal.Facts) (hUpsample : Cert.Upsample.Facts) (hUpsampleIdeal : Cert.UpsampleIdeal.Facts) (hRefUpsampleIdeal : Cert.RefUpsampleIdeal.Facts) (hPre_finite : Cert.Pre_finite.Facts) (hPre_finite_sample : Cert.Pre_finite_sample.Facts),
    quiescent_Branch (hBranch := hBranch)
    ∧ quiescent_BranchIdeal (hBranchIdeal := hBranchIdeal)
    ∧ quiescent_RefBranchIdeal (hRefBranchIdeal := hRefBranchIdeal)
    ∧ quiescent_Outnorm (hOutnorm := hOutnorm)
    ∧ quiescent_OutnormIdeal (hOutnormIdeal := hOutnormIdeal)
    ∧ quiescent_RefOutnormIdeal (hRefOutnormIdeal := hRefOutnormIdeal)
    ∧ quiescent_Ffnup (hFfnup := hFfnup)
    ∧ quiescent_FfnupIdeal (hFfnupIdeal := hFfnupIdeal)
    ∧ quiescent_RefFfnupIdeal (hRefFfnupIdeal := hRefFfnupIdeal)
    ∧ quiescent_Ffndown (hFfndown := hFfndown)
    ∧ quiescent_FfndownIdeal (hFfndownIdeal := hFfndownIdeal)
    ∧ quiescent_RefFfndownIdeal (hRefFfndownIdeal := hRefFfndownIdeal)
    ∧ quiescent_Inproj (hInproj := hInproj)
    ∧ quiescent_InprojIdeal (hInprojIdeal := hInprojIdeal)
    ∧ quiescent_InprojIdeal_pre_finite (hInprojIdeal := hInprojIdeal) (hPre_finite := hPre_finite)
    ∧ quiescent_RefInprojIdeal (hRefInprojIdeal := hRefInprojIdeal)
    ∧ quiescent_RefInprojIdeal_pre_finite (hRefInprojIdeal := hRefInprojIdeal) (hPre_finite := hPre_finite)
    ∧ quiescent_Downsample (hDownsample := hDownsample)
    ∧ quiescent_DownsampleIdeal (hDownsampleIdeal := hDownsampleIdeal)
    ∧ quiescent_RefDownsampleIdeal (hRefDownsampleIdeal := hRefDownsampleIdeal)
    ∧ quiescent_Insample (hInsample := hInsample)
    ∧ quiescent_InsampleIdeal (hInsampleIdeal := hInsampleIdeal)
    ∧ quiescent_InsampleIdeal_pre_finite_sample (hInsampleIdeal := hInsampleIdeal) (hPre_finite_sample := hPre_finite_sample)
    ∧ quiescent_RefInsampleIdeal (hRefInsampleIdeal := hRefInsampleIdeal)
    ∧ quiescent_RefInsampleIdeal_pre_finite_sample (hRefInsampleIdeal := hRefInsampleIdeal) (hPre_finite_sample := hPre_finite_sample)
    ∧ quiescent_Upsample (hUpsample := hUpsample)
    ∧ quiescent_UpsampleIdeal (hUpsampleIdeal := hUpsampleIdeal)
    ∧ quiescent_RefUpsampleIdeal (hRefUpsampleIdeal := hRefUpsampleIdeal)
    ∧ preserves_Branch_BranchIdeal
    ∧ algebraic_BranchIdeal_RefBranchIdeal (hBranchIdeal := hBranchIdeal) (hRefBranchIdeal := hRefBranchIdeal)
    ∧ preserves_Outnorm_OutnormIdeal
    ∧ algebraic_OutnormIdeal_RefOutnormIdeal (hOutnormIdeal := hOutnormIdeal) (hRefOutnormIdeal := hRefOutnormIdeal)
    ∧ preserves_Ffnup_FfnupIdeal
    ∧ algebraic_FfnupIdeal_RefFfnupIdeal (hFfnupIdeal := hFfnupIdeal) (hRefFfnupIdeal := hRefFfnupIdeal)
    ∧ preserves_Ffndown_FfndownIdeal
    ∧ algebraic_FfndownIdeal_RefFfndownIdeal (hFfndownIdeal := hFfndownIdeal) (hRefFfndownIdeal := hRefFfndownIdeal)
    ∧ preserves_Inproj_InprojIdeal
    ∧ algebraic_InprojIdeal_RefInprojIdeal_pre_finite (hInprojIdeal := hInprojIdeal) (hRefInprojIdeal := hRefInprojIdeal) (hPre_finite := hPre_finite)
    ∧ preserves_Downsample_DownsampleIdeal
    ∧ algebraic_DownsampleIdeal_RefDownsampleIdeal (hDownsampleIdeal := hDownsampleIdeal) (hRefDownsampleIdeal := hRefDownsampleIdeal)
    ∧ preserves_Insample_InsampleIdeal
    ∧ algebraic_InsampleIdeal_RefInsampleIdeal_pre_finite_sample (hInsampleIdeal := hInsampleIdeal) (hRefInsampleIdeal := hRefInsampleIdeal) (hPre_finite_sample := hPre_finite_sample)
    ∧ preserves_Upsample_UpsampleIdeal
    ∧ algebraic_UpsampleIdeal_RefUpsampleIdeal (hUpsampleIdeal := hUpsampleIdeal) (hRefUpsampleIdeal := hRefUpsampleIdeal)
-- ==== Pre_finite.lean ====
abbrev S8192x2048 : Shape := ⟨2, ![8192, 2048]⟩
abbrev S2x2048x8752 : Shape := ⟨3, ![2, 2048, 8752]⟩
abbrev S2x64 : Shape := ⟨2, ![2, 64]⟩
abbrev S_ : Shape := ⟨0, ![]⟩

class Facts : Prop where
  bitsLt_bf16_f32 : FTy.bits .bf16 < FTy.bits .f32
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2x2048x8752 : S_.BroadcastsInDim S2x2048x8752 (![] : Fin 0 → Fin S2x2048x8752.rank)
  reducesTo_S2x2048x8752_S_d0_1_2 : S2x2048x8752.ReducesTo [0, 1, 2] S_

variable [Facts]

def fn {F : FTy → Type} [FloatOps F] (main_arg0 : FVec F S8192x2048 .bf16) (main_arg1 : FVec F S2x2048x8752 .f32) (main_arg2 : FVec F S2x64 .f32) (main_arg3 : FVec F S2x64 .f32) : IVec S_ 1 :=
  let main_v0 : FVec F S8192x2048 .f32 := (extf .f32 · bitsLt_bf16_f32) main_arg0
  let main_v1 : FVec F S8192x2048 .f32 := Host.absf main_v0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  let main_c : IVec S_ 1 := constantI S_ 1 1#1
  let main_v4 : IVec S_ 1 := (fun x v => Host.reduce IntOp.andi x v reducesTo_S8192x2048_S_d0_1 h_S_) main_v3 main_c
  let main_v5 : FVec F S2x2048x8752 .f32 := Host.absf main_arg1
  let main_cst_0 : FVec F S_ .f32 := constant S_ .f32 0x7F800000#32
  let main_v6 : FVec F S2x2048x8752 .f32 := broadcastInDim S2x2048x8752 ![] bcast_S_S2x2048x8752 main_cst_0
  let main_v7 : IVec S2x2048x8752 1 := cmpf .olt main_v5 main_v6
  let main_c_1 : IVec S_ 1 := constantI S_ 1 1#1
  let main_v8 : IVec S_ 1 := (fun x v => Host.reduce IntOp.andi x v reducesTo_S2x2048x8752_S_d0_1_2 h_S_) main_v7 main_c_1
  let main_v9 : IVec S_ 1 := andi main_v4 main_v8
  main_v9
-- ==== Pre_finite_sample.lean ====
abbrev S64x2048 : Shape := ⟨2, ![64, 2048]⟩
abbrev S2x2048x8752 : Shape := ⟨3, ![2, 2048, 8752]⟩
abbrev S2x64 : Shape := ⟨2, ![2, 64]⟩
abbrev S_ : Shape := ⟨0, ![]⟩

class Facts : Prop where
  bitsLt_bf16_f32 : FTy.bits .bf16 < FTy.bits .f32
  bcast_S_S64x2048 : S_.BroadcastsInDim S64x2048 (![] : Fin 0 → Fin S64x2048.rank)
  reducesTo_S64x2048_S_d0_1 : S64x2048.ReducesTo [0, 1] S_
  h_S_ : 0 < S_.numel
  bcast_S_S2x2048x8752 : S_.BroadcastsInDim S2x2048x8752 (![] : Fin 0 → Fin S2x2048x8752.rank)
  reducesTo_S2x2048x8752_S_d0_1_2 : S2x2048x8752.ReducesTo [0, 1, 2] S_

variable [Facts]

def fn {F : FTy → Type} [FloatOps F] (main_arg0 : FVec F S64x2048 .bf16) (main_arg1 : FVec F S2x2048x8752 .f32) (main_arg2 : FVec F S2x64 .f32) (main_arg3 : FVec F S2x64 .f32) : IVec S_ 1 :=
  let main_v0 : FVec F S64x2048 .f32 := (extf .f32 · bitsLt_bf16_f32) main_arg0
  let main_v1 : FVec F S64x2048 .f32 := Host.absf main_v0
  let main_cst : FVec F S_ .f32 := constant S_ .f32 0x7F800000#32
  let main_v2 : FVec F S64x2048 .f32 := broadcastInDim S64x2048 ![] bcast_S_S64x2048 main_cst
  let main_v3 : IVec S64x2048 1 := cmpf .olt main_v1 main_v2
  let main_c : IVec S_ 1 := constantI S_ 1 1#1
  let main_v4 : IVec S_ 1 := (fun x v => Host.reduce IntOp.andi x v reducesTo_S64x2048_S_d0_1 h_S_) main_v3 main_c
  let main_v5 : FVec F S2x2048x8752 .f32 := Host.absf main_arg1
  let main_cst_0 : FVec F S_ .f32 := constant S_ .f32 0x7F800000#32
  let main_v6 : FVec F S2x2048x8752 .f32 := broadcastInDim S2x2048x8752 ![] bcast_S_S2x2048x8752 main_cst_0
  let main_v7 : IVec S2x2048x8752 1 := cmpf .olt main_v5 main_v6
  let main_c_1 : IVec S_ 1 := constantI S_ 1 1#1
  let main_v8 : IVec S_ 1 := (fun x v => Host.reduce IntOp.andi x v reducesTo_S2x2048x8752_S_d0_1_2 h_S_) main_v7 main_c_1
  let main_v9 : IVec S_ 1 := andi main_v4 main_v8
  main_v9
-- ==== Branch.lean ====
abbrev S8192x1024 : Shape := ⟨2, ![8192, 1024]⟩
abbrev S2x2048x2048 : Shape := ⟨3, ![2, 2048, 2048]⟩
abbrev S8192x9216 : Shape := ⟨2, ![8192, 9216]⟩
abbrev S8192x2048 : Shape := ⟨2, ![8192, 2048]⟩
abbrev S1024x1024 : Shape := ⟨2, ![1024, 1024]⟩
abbrev S1x2048x512 : Shape := ⟨3, ![1, 2048, 512]⟩
abbrev S1024x512 : Shape := ⟨2, ![1024, 512]⟩
abbrev S2048x512 : Shape := ⟨2, ![2048, 512]⟩
abbrev S256x1024 : Shape := ⟨2, ![256, 1024]⟩
abbrev S256x512 : Shape := ⟨2, ![256, 512]⟩

abbrev nBuf : Space → Nat
  | .hbm => 5
  | .vmem => 13
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S2x2048x2048, .f32⟩
  | .hbm, ⟨3, _⟩ => ⟨S8192x9216, .f32⟩
  | .hbm, ⟨4, _⟩ => ⟨S8192x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x2048x512, .f32⟩
  | .local _ .vmem, ⟨5, _⟩ => ⟨S1x2048x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .bf16⟩
  | .local _ .vmem, ⟨11, _⟩ => ⟨S1024x512, .bf16⟩
  | .local _ .vmem, ⟨12, _⟩ => ⟨S2048x512, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi c9_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.addi c13_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== RefBranchIdeal.lean ====
abbrev S8192x1024 : Shape := ⟨2, ![8192, 1024]⟩
abbrev S2x2048x2048 : Shape := ⟨3, ![2, 2048, 2048]⟩
abbrev S8192x9216 : Shape := ⟨2, ![8192, 9216]⟩
abbrev S8192x4096 : Shape := ⟨2, ![8192, 4096]⟩
abbrev S1x1024x2048 : Shape := ⟨3, ![1, 1024, 2048]⟩
abbrev S1024x2048 : Shape := ⟨2, ![1024, 2048]⟩
abbrev S8192x2048 : Shape := ⟨2, ![8192, 2048]⟩

abbrev nBuf : Space → Nat
  | .hbm => 19
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S2x2048x2048, .f32⟩
  | .hbm, ⟨3, _⟩ => ⟨S8192x9216, .f32⟩
  | .hbm, ⟨4, _⟩ => ⟨S8192x4096, .f32⟩
  | .hbm, ⟨5, _⟩ => ⟨S8192x1024, .f32⟩
  | .hbm, ⟨6, _⟩ => ⟨S1x1024x2048, .f32⟩
  | .hbm, ⟨7, _⟩ => ⟨S1024x2048, .f32⟩
  | .hbm, ⟨8, _⟩ => ⟨S8192x2048, .f32⟩
  | .hbm, ⟨9, _⟩ => ⟨S8192x1024, .f32⟩
  | .hbm, ⟨10, _⟩ => ⟨S1x1024x2048, .f32⟩
  | .hbm, ⟨11, _⟩ => ⟨S1024x2048, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]
-- ==== Outnorm.lean ====
abbrev S8192x2048 : Shape := ⟨2, ![8192, 2048]⟩
abbrev S2x2048x2048 : Shape := ⟨3, ![2, 2048, 2048]⟩
abbrev S2x2048 : Shape := ⟨2, ![2, 2048]⟩
abbrev S2x1x2048 : Shape := ⟨3, ![2, 1, 2048]⟩
abbrev S512x2048 : Shape := ⟨2, ![512, 2048]⟩
abbrev S1x2048x2048 : Shape := ⟨3, ![1, 2048, 2048]⟩
abbrev S1x1x2048 : Shape := ⟨3, ![1, 1, 2048]⟩
abbrev S2048x2048 : Shape := ⟨2, ![2048, 2048]⟩
abbrev S1x2048x512 : Shape := ⟨3, ![1, 2048, 512]⟩
abbrev S2048x512 : Shape := ⟨2, ![2048, 512]⟩
abbrev S256x2048 : Shape := ⟨2, ![256, 2048]⟩
abbrev S1x2048 : Shape := ⟨2, ![1, 2048]⟩
abbrev S256 : Shape := ⟨1, ![256]⟩
abbrev S256x1 : Shape := ⟨2, ![256, 1]⟩

abbrev nBuf : Space → Nat
  | .hbm => 13
  | .vmem => 17
  | .smem => 0
  | _ => 0

abbrev bufTy : (tb : Table) → Fin (tcTables nBuf tb) → BufTy
  | .hbm, ⟨0, _⟩ => ⟨S8192x2048, .bf16⟩
  | .hbm, ⟨1, _⟩ => ⟨S2x2048x2048, .f32⟩
  | .hbm, ⟨2, _⟩ => ⟨S8192x2048, .f32⟩
  | .hbm, ⟨3, _⟩ => ⟨S2x2048, .f32⟩
  | .hbm, ⟨4, _⟩ => ⟨S2x2048, .f32⟩
  | .hbm, ⟨5, _⟩ => ⟨S2x2048, .f32⟩
  | .hbm, ⟨6, _⟩ => ⟨S2x2048, .f32⟩
  | .hbm, ⟨7, _⟩ => ⟨S2x1x2048, .f32⟩
  | .hbm, ⟨8, _⟩ => ⟨S2x1x2048, .f32⟩
  | .hbm, ⟨9, _⟩ => ⟨S2x1x2048, .f32⟩
  | .hbm, ⟨10, _⟩ => ⟨S2x1x2048, .f32⟩
  | .hbm, ⟨11, _⟩ => ⟨S8192x2048, .f32⟩
  | .hbm, ⟨12, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S1x2048x2048, .f32⟩
  | .local _ .vmem, ⟨3, _⟩ => ⟨S512x2048, .f32⟩
  | .local _ .vmem, ⟨4, _⟩ => ⟨S512x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x1x2048, .f32⟩
  | .local _ .vmem, ⟨12, _⟩ => ⟨S512x2048, .f32⟩
  | .local _ .vmem, ⟨13, _⟩ => ⟨S512x2048, .f32⟩
  | .local _ .vmem, ⟨14, _⟩ => ⟨S512x2048, .bf16⟩
  | .local _ .vmem, ⟨15, _⟩ => ⟨S512x2048, .bf16⟩
  | .local _ .vmem, ⟨16, _⟩ => ⟨S2048x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== RefOutnormIdeal.lean ====
abbrev S8192x2048 : Shape := ⟨2, ![8192, 2048]⟩
abbrev S2x2048x2048 : Shape := ⟨3, ![2, 2048, 2048]⟩
abbrev S2x2048 : Shape := ⟨2, ![2, 2048]⟩
abbrev S1x2048x2048 : Shape := ⟨3, ![1, 2048, 2048]⟩
abbrev S2048x2048 : Shape := ⟨2, ![2048, 2048]⟩
abbrev S2x4096x2048 : Shape := ⟨3, ![2, 4096, 2048]⟩
abbrev S2x1x2048 : Shape := ⟨3, ![2, 1, 2048]⟩
abbrev S_ : Shape := ⟨0, ![]⟩
abbrev S2x4096 : Shape := ⟨2, ![2, 4096]⟩
abbrev S2x4096x1 : Shape := ⟨3, ![2, 4096, 1]⟩
abbrev S1x2048 : Shape := ⟨2, ![1, 2048]⟩
abbrev S2048 : Shape := ⟨1, ![2048]⟩
abbrev S1x1x2048 : Shape := ⟨3, ![1, 1, 2048]⟩

abbrev nBuf : Space → Nat
  | .hbm => 47
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x2048, .f32⟩
  | .hbm, ⟨2, _⟩ => ⟨S8192x2048, .f32⟩
  | .hbm, ⟨3, _⟩ => ⟨S2x2048, .f32⟩
  | .hbm, ⟨4, _⟩ => ⟨S2x2048, .f32⟩
  | .hbm, ⟨5, _⟩ => ⟨S2x2048, .f32⟩
  | .hbm, ⟨6, _⟩ => ⟨S2x2048, .f32⟩
  | .hbm, ⟨7, _⟩ => ⟨S8192x2048, .f32⟩
  | .hbm, ⟨8, _⟩ => ⟨S1x2048x2048, .f32⟩
  | .hbm, ⟨9, _⟩ => ⟨S2048x2048, .f32⟩
  | .hbm, ⟨10, _⟩ => ⟨S8192x2048, .f32⟩
  | .hbm, ⟨11, _⟩ => ⟨S2x4096x2048, .f32⟩
  | .hbm, ⟨12, _⟩ => ⟨S2x4096x2048, .f32⟩
  | .hbm, ⟨13, _⟩ => ⟨S2x1x2048, .f32⟩
  | .hbm, ⟨14, _⟩ => ⟨S2x4096x2048, .f32⟩
  | .hbm, ⟨15, _⟩ => ⟨S2x4096x2048, .f32⟩
  | .hbm, ⟨16, _⟩ => ⟨S2x4096x2048, .f32⟩
  | .hbm, ⟨17, _⟩ => ⟨S2x4096x2048, .f32⟩
  | .hbm, ⟨18, _⟩ => ⟨S_, .f32⟩
  | .hbm, ⟨19, _⟩ => ⟨S2x4096, .f32⟩
  | .hbm, ⟨20, _⟩ => ⟨S2x4096x1, .f32⟩
  | .hbm, ⟨21, _⟩ => ⟨S_, .f32⟩
  | .hbm, ⟨22, _⟩ => ⟨S2x4096x1, .f32⟩
  | .hbm, ⟨23, _⟩ => ⟨S2x4096x1, .f32⟩
  | .hbm, ⟨24, _⟩ => ⟨S_, .f32⟩
  | .hbm, ⟨25, _⟩ => ⟨S2x4096x1, .f32⟩
  | .hbm, ⟨26, _⟩ => ⟨S2x4096x1, .f32⟩
  | .hbm, ⟨27, _⟩ => ⟨S2x4096x1, .f32⟩
  | .hbm, ⟨28, _⟩ => ⟨S2x4096x2048, .f32⟩
  | .hbm, ⟨29, _⟩ => ⟨S2x4096x2048, .f32⟩
  | .hbm, ⟨30, _⟩ => ⟨S1x2048, .f32⟩
  | .hbm, ⟨31, _⟩ => ⟨S2048, .f32⟩
  | .hbm, ⟨32, _⟩ => ⟨S1x1x2048, .f32⟩
  | .hbm, ⟨33, _⟩ => ⟨S2x4096x2048, .f32⟩
  | .hbm, ⟨34, _⟩ => ⟨S2x4096x2048, .f32⟩
  | .hbm, ⟨35, _⟩ => ⟨S2x1x2048, .f32⟩
  | .hbm, ⟨36, _⟩ => ⟨S_, .f32⟩
  | .hbm, ⟨37, _⟩ => ⟨S2x1x2048, .f32⟩
  | .hbm, ⟨38, _⟩ => ⟨S2x1x2048, .f32⟩
  | .hbm, ⟨39, _⟩ => ⟨S2x4096x2048, .f32⟩
  | .hbm, ⟨40, _⟩ => ⟨S2x4096x2048, .f32⟩
  | .hbm, ⟨41, _⟩ => ⟨S2x1x2048, .f32⟩
  | .hbm, ⟨42, _⟩ => ⟨S2x4096x2048, .f32⟩
  | .hbm, ⟨43, _⟩ => ⟨S2x4096x2048, .f32⟩
  | .hbm, ⟨44, _⟩ => ⟨S8192x2048, .f32⟩
  | .hbm, ⟨45, _⟩ => ⟨S2x4096x2048, .bf16⟩
  | .hbm, ⟨46, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== Ffnup.lean ====
abbrev S8192x2048 : Shape := ⟨2, ![8192, 2048]⟩
abbrev S2x2048x5632 : Shape := ⟨3, ![2, 2048, 5632]⟩
abbrev S2x3x5632 : Shape := ⟨3, ![2, 3, 5632]⟩
abbrev S2x5632 : Shape := ⟨2, ![2, 5632]⟩
abbrev S_ : Shape := ⟨0, ![]⟩
abbrev S8x5632 : Shape := ⟨2, ![8, 5632]⟩
abbrev S2x1x5632 : Shape := ⟨3, ![2, 1, 5632]⟩
abbrev S8192x5632 : Shape := ⟨2, ![8192, 5632]⟩
abbrev S8x8x5632 : Shape := ⟨3, ![8, 8, 5632]⟩
abbrev S1024x2048 : Shape := ⟨2, ![1024, 2048]⟩
abbrev S1x2048x512 : Shape := ⟨3, ![1, 2048, 512]⟩
abbrev S1x3x512 : Shape := ⟨3, ![1, 3, 512]⟩
abbrev S1x1x512 : Shape := ⟨3, ![1, 1, 512]⟩
abbrev S8x512 : Shape := ⟨2, ![8, 512]⟩
abbrev S1024x512 : Shape := ⟨2, ![1024, 512]⟩
abbrev S1x8x512 : Shape := ⟨3, ![1, 8, 512]⟩
abbrev S2048x512 : Shape := ⟨2, ![2048, 512]⟩
abbrev S1032x512 : Shape := ⟨2, ![1032, 512]⟩
abbrev S128x2048 : Shape := ⟨2, ![128, 2048]⟩
abbrev S128x512 : Shape := ⟨2, ![128, 512]⟩
abbrev S1x512 : Shape := ⟨2, ![1, 512]⟩

abbrev nBuf : Space → Nat
  | .hbm => 10
  | .vmem => 21
  | .smem => 0
  | _ => 0

abbrev bufTy : (tb : Table) → Fin (tcTables nBuf tb) → BufTy
  | .hbm, ⟨0, _⟩ => ⟨S8192x2048, .bf16⟩
  | .hbm, ⟨1, _⟩ => ⟨S2x2048x5632, .f32⟩
  | .hbm, ⟨2, _⟩ => ⟨S2x2048x5632, .f32⟩
  | .hbm, ⟨3, _⟩ => ⟨S2x3x5632, .f32⟩
  | .hbm, ⟨4, _⟩ => ⟨S2x5632, .f32⟩
  | .hbm, ⟨5, _⟩ => ⟨S_, .f32⟩
  | .hbm, ⟨6, _⟩ => ⟨S8x5632, .f32⟩
  | .hbm, ⟨7, _⟩ => ⟨S2x1x5632, .f32⟩
  | .hbm, ⟨8, _⟩ => ⟨S8192x5632, .bf16⟩
  | .hbm, ⟨9, _⟩ => ⟨S8x8x5632, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x3x512, .f32⟩
  | .local _ .vmem, ⟨7, _⟩ => ⟨S1x3x512, .f32⟩
  | .local _ .vmem, ⟨8, _⟩ => ⟨S1x1x512, .f32⟩
  | .local _ .vmem, ⟨9, _⟩ => ⟨S1x1x512, .f32⟩
  | .local _ .vmem, ⟨10, _⟩ => ⟨S8x512, .f32⟩
  | .local _ .vmem, ⟨11, _⟩ => ⟨S8x512, .f32⟩
  | .local _ .vmem, ⟨12, _⟩ => ⟨S8x512, .f32⟩
  | .local _ .vmem, ⟨13, _⟩ => ⟨S8x512, .f32⟩
  | .local _ .vmem, ⟨14, _⟩ => ⟨S1024x512, .bf16⟩
  | .local _ .vmem, ⟨15, _⟩ => ⟨S1024x512, .bf16⟩
  | .local _ .vmem, ⟨16, _⟩ => ⟨S1x8x512, .f32⟩
  | .local _ .vmem, ⟨17, _⟩ => ⟨S1x8x512, .f32⟩
  | .local _ .vmem, ⟨18, _⟩ => ⟨S2048x512, .bf16⟩
  | .local _ .vmem, ⟨19, _⟩ => ⟨S2048x512, .bf16⟩
  | .local _ .vmem, ⟨20, _⟩ => ⟨S1032x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![11, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== RefFfnupIdeal.lean ====
abbrev S8192x2048 : Shape := ⟨2, ![8192, 2048]⟩
abbrev S2x2048x5632 : Shape := ⟨3, ![2, 2048, 5632]⟩
abbrev S2x3x5632 : Shape := ⟨3, ![2, 3, 5632]⟩
abbrev S2x5632 : Shape := ⟨2, ![2, 5632]⟩
abbrev S2x4096x2048 : Shape := ⟨3, ![2, 4096, 2048]⟩
abbrev S1x2048x5632 : Shape := ⟨3, ![1, 2048, 5632]⟩
abbrev S2048x5632 : Shape := ⟨2, ![2048, 5632]⟩
abbrev S2x4096x5632 : Shape := ⟨3, ![2, 4096, 5632]⟩
abbrev S_ : Shape := ⟨0, ![]⟩
abbrev S2x2x5632 : Shape := ⟨3, ![2, 2, 5632]⟩
abbrev S2x4098x5632 : Shape := ⟨3, ![2, 4098, 5632]⟩
abbrev S1x1x5632 : Shape := ⟨3, ![1, 1, 5632]⟩
abbrev S5632 : Shape := ⟨1, ![5632]⟩
abbrev S1x5632 : Shape := ⟨2, ![1, 5632]⟩
abbrev S8192x5632 : Shape := ⟨2, ![8192, 5632]⟩
abbrev S8x1024x5632 : Shape := ⟨3, ![8, 1024, 5632]⟩
abbrev S8x8x5632 : Shape := ⟨3, ![8, 8, 5632]⟩

abbrev nBuf : Space → Nat
  | .hbm => 66
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x5632, .f32⟩
  | .hbm, ⟨2, _⟩ => ⟨S2x2048x5632, .f32⟩
  | .hbm, ⟨3, _⟩ => ⟨S2x3x5632, .f32⟩
  | .hbm, ⟨4, _⟩ => ⟨S2x5632, .f32⟩
  | .hbm, ⟨5, _⟩ => ⟨S8192x2048, .f32⟩
  | .hbm, ⟨6, _⟩ => ⟨S2x4096x2048, .f32⟩
  | .hbm, ⟨7, _⟩ => ⟨S1x2048x5632, .f32⟩
  | .hbm, ⟨8, _⟩ => ⟨S2048x5632, .f32⟩
  | .hbm, ⟨9, _⟩ => ⟨S2x4096x5632, .f32⟩
  | .hbm, ⟨10, _⟩ => ⟨S1x2048x5632, .f32⟩
  | .hbm, ⟨11, _⟩ => ⟨S2048x5632, .f32⟩
  | .hbm, ⟨12, _⟩ => ⟨S2x4096x5632, .f32⟩
  | .hbm, ⟨13, _⟩ => ⟨S_, .f32⟩
  | .hbm, ⟨14, _⟩ => ⟨S2x2x5632, .f32⟩
  | .hbm, ⟨15, _⟩ => ⟨S2x4098x5632, .f32⟩
  | .hbm, ⟨16, _⟩ => ⟨S2x4096x5632, .f32⟩
  | .hbm, ⟨17, _⟩ => ⟨S1x1x5632, .f32⟩
  | .hbm, ⟨18, _⟩ => ⟨S5632, .f32⟩
  | .hbm, ⟨19, _⟩ => ⟨S1x1x5632, .f32⟩
  | .hbm, ⟨20, _⟩ => ⟨S2x4096x5632, .f32⟩
  | .hbm, ⟨21, _⟩ => ⟨S2x4096x5632, .f32⟩
  | .hbm, ⟨22, _⟩ => ⟨S_, .f32⟩
  | .hbm, ⟨23, _⟩ => ⟨S2x4096x5632, .f32⟩
  | .hbm, ⟨24, _⟩ => ⟨S2x4096x5632, .f32⟩
  | .hbm, ⟨25, _⟩ => ⟨S2x4096x5632, .f32⟩
  | .hbm, ⟨26, _⟩ => ⟨S1x1x5632, .f32⟩
  | .hbm, ⟨27, _⟩ => ⟨S5632, .f32⟩
  | .hbm, ⟨28, _⟩ => ⟨S1x1x5632, .f32⟩
  | .hbm, ⟨29, _⟩ => ⟨S2x4096x5632, .f32⟩
  | .hbm, ⟨30, _⟩ => ⟨S2x4096x5632, .f32⟩
  | .hbm, ⟨31, _⟩ => ⟨S2x4096x5632, .f32⟩
  | .hbm, ⟨32, _⟩ => ⟨S2x4096x5632, .f32⟩
  | .hbm, ⟨33, _⟩ => ⟨S1x1x5632, .f32⟩
  | .hbm, ⟨34, _⟩ => ⟨S5632, .f32⟩
  | .hbm, ⟨35, _⟩ => ⟨S1x1x5632, .f32⟩
  | .hbm, ⟨36, _⟩ => ⟨S2x4096x5632, .f32⟩
  | .hbm, ⟨37, _⟩ => ⟨S2x4096x5632, .f32⟩
  | .hbm, ⟨38, _⟩ => ⟨S2x4096x5632, .f32⟩
  | .hbm, ⟨39, _⟩ => ⟨S1x5632, .f32⟩
  | .hbm, ⟨40, _⟩ => ⟨S5632, .f32⟩
  | .hbm, ⟨41, _⟩ => ⟨S1x1x5632, .f32⟩
  | .hbm, ⟨42, _⟩ => ⟨S2x4096x5632, .f32⟩
  | .hbm, ⟨43, _⟩ => ⟨S2x4096x5632, .f32⟩
  | .hbm, ⟨44, _⟩ => ⟨S2x4096x5632, .f32⟩
  | .hbm, ⟨45, _⟩ => ⟨S2x4096x5632, .f32⟩
  | .hbm, ⟨46, _⟩ => ⟨S_, .f32⟩
  | .hbm, ⟨47, _⟩ => ⟨S2x4096x5632, .f32⟩
  | .hbm, ⟨48, _⟩ => ⟨S2x4096x5632, .f32⟩
  | .hbm, ⟨49, _⟩ => ⟨S2x4096x5632, .f32⟩
  | .hbm, ⟨50, _⟩ => ⟨S_, .f32⟩
  | .hbm, ⟨51, _⟩ => ⟨S2x4096x5632, .f32⟩
  | .hbm, ⟨52, _⟩ => ⟨S2x4096x5632, .f32⟩
  | .hbm, ⟨53, _⟩ => ⟨S2x4096x5632, .f32⟩
  | .hbm, ⟨54, _⟩ => ⟨S_, .f32⟩
  | .hbm, ⟨55, _⟩ => ⟨S2x4096x5632, .f32⟩
  | .hbm, ⟨56, _⟩ => ⟨S2x4096x5632, .f32⟩
  | .hbm, ⟨57, _⟩ => ⟨S_, .f32⟩
  | .hbm, ⟨58, _⟩ => ⟨S2x4096x5632, .f32⟩
  | .hbm, ⟨59, _⟩ => ⟨S2x4096x5632, .f32⟩
  | .hbm, ⟨60, _⟩ => ⟨S2x4096x5632, .f32⟩
  | .hbm, ⟨61, _⟩ => ⟨S2x4096x5632, .f32⟩
  | .hbm, ⟨62, _⟩ => ⟨S2x4096x5632, .bf16⟩
  | .hbm, ⟨63, _⟩ => ⟨S8192x5632, .bf16⟩
  | .hbm, ⟨64, _⟩ => ⟨S8x1024x5632, .f32⟩
  | .hbm, ⟨65, _⟩ => ⟨S8x8x5632, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_cst_1 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_cst_2 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_cst_3 : Ref sig .tc := ⟨.hbm, 54, rfl⟩
abbrev main_v45 : Ref sig .tc := ⟨.hbm, 55, rfl⟩
abbrev main_v46 : Ref sig .tc := ⟨.hbm, 56, rfl⟩
abbrev main_cst_4 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩

abbrev nD : Nat := 1
abbrev τ : Topo := Topo.v7x

variable {F : FTy → Type} [FloatOps F]
-- ==== Ffndown.lean ====
abbrev S8192x5632 : Shape := ⟨2, ![8192, 5632]⟩
abbrev S2x5632x2048 : Shape := ⟨3, ![2, 5632, 2048]⟩
abbrev S8192x2048 : Shape := ⟨2, ![8192, 2048]⟩
abbrev S2x2048 : Shape := ⟨2, ![2, 2048]⟩
abbrev S2x1x2048 : Shape := ⟨3, ![2, 1, 2048]⟩
abbrev S1024x5632 : Shape := ⟨2, ![1024, 5632]⟩
abbrev S1x5632x512 : Shape := ⟨3, ![1, 5632, 512]⟩
abbrev S1024x512 : Shape := ⟨2, ![1024, 512]⟩
abbrev S1x1x512 : Shape := ⟨3, ![1, 1, 512]⟩
abbrev S5632x512 : Shape := ⟨2, ![5632, 512]⟩
abbrev S1x512 : Shape := ⟨2, ![1, 512]⟩
abbrev S256x512 : Shape := ⟨2, ![256, 512]⟩
abbrev S256x5632 : Shape := ⟨2, ![256, 5632]⟩

abbrev nBuf : Space → Nat
  | .hbm => 6
  | .vmem => 10
  | .smem => 0
  | _ => 0

abbrev bufTy : (tb : Table) → Fin (tcTables nBuf tb) → BufTy
  | .hbm, ⟨0, _⟩ => ⟨S8192x5632, .bf16⟩
  | .hbm, ⟨1, _⟩ => ⟨S2x5632x2048, .f32⟩
  | .hbm, ⟨2, _⟩ => ⟨S8192x2048, .f32⟩
  | .hbm, ⟨3, _⟩ => ⟨S2x2048, .f32⟩
  | .hbm, ⟨4, _⟩ => ⟨S2x1x2048, .f32⟩
  | .hbm, ⟨5, _⟩ => ⟨S8192x2048, .f32⟩
  | .local _ .vmem, ⟨0, _⟩ => ⟨S1024x5632, .bf16⟩
  | .local _ .vmem, ⟨1, _⟩ => ⟨S1024x5632, .bf16⟩
  | .local _ .vmem, ⟨2, _⟩ => ⟨S1x5632x512, .f32⟩
  | .local _ .vmem, ⟨3, _⟩ => ⟨S1024x512, .f32⟩
  | .local _ .vmem, ⟨4, _⟩ => ⟨S1024x512, .f32⟩
  | .local _ .vmem, ⟨5, _⟩ => ⟨S1x1x512, .f32⟩
  | .local _ .vmem, ⟨6, _⟩ => ⟨S1x1x512, .f32⟩
  | .local _ .vmem, ⟨7, _⟩ => ⟨S1024x512, .f32⟩
  | .local _ .vmem, ⟨8, _⟩ => ⟨S1024x512, .f32⟩
  | .local _ .vmem, ⟨9, _⟩ => ⟨S5632x512, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x5632x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== RefFfndownIdeal.lean ====
abbrev S8192x5632 : Shape := ⟨2, ![8192, 5632]⟩
abbrev S2x5632x2048 : Shape := ⟨3, ![2, 5632, 2048]⟩
abbrev S8192x2048 : Shape := ⟨2, ![8192, 2048]⟩
abbrev S2x2048 : Shape := ⟨2, ![2, 2048]⟩
abbrev S1x5632x2048 : Shape := ⟨3, ![1, 5632, 2048]⟩
abbrev S5632x2048 : Shape := ⟨2, ![5632, 2048]⟩
abbrev S2x4096x2048 : Shape := ⟨3, ![2, 4096, 2048]⟩
abbrev S2x1x2048 : Shape := ⟨3, ![2, 1, 2048]⟩

abbrev nBuf : Space → Nat
  | .hbm => 15
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S2x5632x2048, .f32⟩
  | .hbm, ⟨2, _⟩ => ⟨S8192x2048, .f32⟩
  | .hbm, ⟨3, _⟩ => ⟨S2x2048, .f32⟩
  | .hbm, ⟨4, _⟩ => ⟨S8192x5632, .f32⟩
  | .hbm, ⟨5, _⟩ => ⟨S1x5632x2048, .f32⟩
  | .hbm, ⟨6, _⟩ => ⟨S5632x2048, .f32⟩
  | .hbm, ⟨7, _⟩ => ⟨S8192x2048, .f32⟩
  | .hbm, ⟨8, _⟩ => ⟨S2x4096x2048, .f32⟩
  | .hbm, ⟨9, _⟩ => ⟨S2x4096x2048, .f32⟩
  | .hbm, ⟨10, _⟩ => ⟨S2x1x2048, .f32⟩
  | .hbm, ⟨11, _⟩ => ⟨S2x4096x2048, .f32⟩
  | .hbm, ⟨12, _⟩ => ⟨S2x4096x2048, .f32⟩
  | .hbm, ⟨13, _⟩ => ⟨S2x4096x2048, .f32⟩
  | .hbm, ⟨14, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Inproj.lean ====
abbrev S8192x2048 : Shape := ⟨2, ![8192, 2048]⟩
abbrev S2x2048x8752 : Shape := ⟨3, ![2, 2048, 8752]⟩
abbrev S2x64 : Shape := ⟨2, ![2, 64]⟩
abbrev S2x8752x2048 : Shape := ⟨3, ![2, 8752, 2048]⟩
abbrev S1x2x1x64 : Shape := ⟨4, ![1, 2, 1, 64]⟩
abbrev S1x2x8x64 : Shape := ⟨4, ![1, 2, 8, 64]⟩
abbrev S2x512 : Shape := ⟨2, ![2, 512]⟩
abbrev S2x1x512 : Shape := ⟨3, ![2, 1, 512]⟩
abbrev S1x1x512 : Shape := ⟨3, ![1, 1, 512]⟩
abbrev S1x512 : Shape := ⟨2, ![1, 512]⟩
abbrev S512 : Shape := ⟨1, ![512]⟩
abbrev S512x1 : Shape := ⟨2, ![512, 1]⟩
abbrev S_ : Shape := ⟨0, ![]⟩
abbrev S512x512 : Shape := ⟨2, ![512, 512]⟩
abbrev S8192x9216 : Shape := ⟨2, ![8192, 9216]⟩
abbrev S1024x2048 : Shape := ⟨2, ![1024, 2048]⟩
abbrev S1x512x2048 : Shape := ⟨3, ![1, 512, 2048]⟩
abbrev S1024x512 : Shape := ⟨2, ![1024, 512]⟩
abbrev S2048x512 : Shape := ⟨2, ![2048, 512]⟩
abbrev S512x2048 : Shape := ⟨2, ![512, 2048]⟩
abbrev S256x2048 : Shape := ⟨2, ![256, 2048]⟩
abbrev S256x512 : Shape := ⟨2, ![256, 512]⟩

abbrev nBuf : Space → Nat
  | .hbm => 66
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S2x2048x8752, .f32⟩
  | .hbm, ⟨2, _⟩ => ⟨S2x64, .f32⟩
  | .hbm, ⟨3, _⟩ => ⟨S2x64, .f32⟩
  | .hbm, ⟨4, _⟩ => ⟨S2x8752x2048, .f32⟩
  | .hbm, ⟨5, _⟩ => ⟨S1x2x1x64, .f32⟩
  | .hbm, ⟨6, _⟩ => ⟨S1x2x8x64, .f32⟩
  | .hbm, ⟨7, _⟩ => ⟨S2x512, .f32⟩
  | .hbm, ⟨8, _⟩ => ⟨S2x1x512, .f32⟩
  | .hbm, ⟨9, _⟩ => ⟨S1x2x1x64, .f32⟩
  | .hbm, ⟨10, _⟩ => ⟨S1x2x8x64, .f32⟩
  | .hbm, ⟨11, _⟩ => ⟨S2x512, .f32⟩
  | .hbm, ⟨12, _⟩ => ⟨S2x1x512, .f32⟩
  | .hbm, ⟨13, _⟩ => ⟨S1x1x512, .f32⟩
  | .hbm, ⟨14, _⟩ => ⟨S1x512, .f32⟩
  | .hbm, ⟨15, _⟩ => ⟨S1x1x512, .f32⟩
  | .hbm, ⟨16, _⟩ => ⟨S1x512, .f32⟩
  | .hbm, ⟨17, _⟩ => ⟨S512, .i32⟩
  | .hbm, ⟨18, _⟩ => ⟨S512x1, .i32⟩
  | .hbm, ⟨19, _⟩ => ⟨S_, .i32⟩
  | .hbm, ⟨20, _⟩ => ⟨S_, .i32⟩
  | .hbm, ⟨21, _⟩ => ⟨S512x1, .i32⟩
  | .hbm, ⟨22, _⟩ => ⟨S512x1, .i32⟩
  | .hbm, ⟨23, _⟩ => ⟨S512x1, .i32⟩
  | .hbm, ⟨24, _⟩ => ⟨S_, .i32⟩
  | .hbm, ⟨25, _⟩ => ⟨S512x1, .i32⟩
  | .hbm, ⟨26, _⟩ => ⟨S512x1, .i1⟩
  | .hbm, ⟨27, _⟩ => ⟨S512x1, .i32⟩
  | .hbm, ⟨28, _⟩ => ⟨S512x1, .i32⟩
  | .hbm, ⟨29, _⟩ => ⟨S_, .i32⟩
  | .hbm, ⟨30, _⟩ => ⟨S512x1, .i32⟩
  | .hbm, ⟨31, _⟩ => ⟨S512x1, .i1⟩
  | .hbm, ⟨32, _⟩ => ⟨S512x1, .i1⟩
  | .hbm, ⟨33, _⟩ => ⟨S_, .i32⟩
  | .hbm, ⟨34, _⟩ => ⟨S512x1, .i32⟩
  | .hbm, ⟨35, _⟩ => ⟨S512x1, .i32⟩
  | .hbm, ⟨36, _⟩ => ⟨S512x1, .i32⟩
  | .hbm, ⟨37, _⟩ => ⟨S1x512, .i32⟩
  | .hbm, ⟨38, _⟩ => ⟨S_, .i32⟩
  | .hbm, ⟨39, _⟩ => ⟨S_, .i32⟩
  | .hbm, ⟨40, _⟩ => ⟨S1x512, .i32⟩
  | .hbm, ⟨41, _⟩ => ⟨S1x512, .i32⟩
  | .hbm, ⟨42, _⟩ => ⟨S1x512, .i32⟩
  | .hbm, ⟨43, _⟩ => ⟨S_, .i32⟩
  | .hbm, ⟨44, _⟩ => ⟨S1x512, .i32⟩
  | .hbm, ⟨45, _⟩ => ⟨S1x512, .i1⟩
  | .hbm, ⟨46, _⟩ => ⟨S1x512, .i32⟩
  | .hbm, ⟨47, _⟩ => ⟨S1x512, .i32⟩
  | .hbm, ⟨48, _⟩ => ⟨S_, .i32⟩
  | .hbm, ⟨49, _⟩ => ⟨S1x512, .i32⟩
  | .hbm, ⟨50, _⟩ => ⟨S1x512, .i1⟩
  | .hbm, ⟨51, _⟩ => ⟨S1x512, .i1⟩
  | .hbm, ⟨52, _⟩ => ⟨S_, .i32⟩
  | .hbm, ⟨53, _⟩ => ⟨S1x512, .i32⟩
  | .hbm, ⟨54, _⟩ => ⟨S1x512, .i32⟩
  | .hbm, ⟨55, _⟩ => ⟨S1x512, .i32⟩
  | .hbm, ⟨56, _⟩ => ⟨S512x512, .i32⟩
  | .hbm, ⟨57, _⟩ => ⟨S512x512, .i32⟩
  | .hbm, ⟨58, _⟩ => ⟨S512x512, .i1⟩
  | .hbm, ⟨59, _⟩ => ⟨S_, .f32⟩
  | .hbm, ⟨60, _⟩ => ⟨S_, .f32⟩
  | .hbm, ⟨61, _⟩ => ⟨S512x512, .f32⟩
  | .hbm, ⟨62, _⟩ => ⟨S512x512, .f32⟩
  | .hbm, ⟨63, _⟩ => ⟨S512x512, .f32⟩
  | .hbm, ⟨64, _⟩ => ⟨S512x512, .bf16⟩
  | .hbm, ⟨65, _⟩ => ⟨S8192x9216, .f32⟩
  | .local _ .vmem, ⟨0, _⟩ => ⟨S1024x2048, .bf16⟩
  | .local _ .vmem, ⟨1, _⟩ => ⟨S1024x2048, .bf16⟩
  | .local _ .vmem, ⟨2, _⟩ => ⟨S1x512x2048, .f32⟩
  | .local _ .vmem, ⟨3, _⟩ => ⟨S1x512x2048, .f32⟩
  | .local _ .vmem, ⟨4, _⟩ => ⟨S1x512x2048, .f32⟩
  | .local _ .vmem, ⟨5, _⟩ => ⟨S1x512x2048, .f32⟩
  | .local _ .vmem, ⟨6, _⟩ => ⟨S1x512, .f32⟩
  | .local _ .vmem, ⟨7, _⟩ => ⟨S1x512, .f32⟩
  | .local _ .vmem, ⟨8, _⟩ => ⟨S512x512, .bf16⟩
  | .local _ .vmem, ⟨9, _⟩ => ⟨S1024x512, .f32⟩
  | .local _ .vmem, ⟨10, _⟩ => ⟨S1024x512, .f32⟩
  | .local _ .vmem, ⟨11, _⟩ => ⟨S2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_c : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_c : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_0 : Ref sig .tc := ⟨.hbm, 33, rfl⟩
abbrev main_call0_v12 : Ref sig .tc := ⟨.hbm, 34, rfl⟩
abbrev main_call0_v13 : Ref sig .tc := ⟨.hbm, 35, rfl⟩
abbrev main_v15 : Ref sig .tc := ⟨.hbm, 36, rfl⟩
abbrev main_v16 : Ref sig .tc := ⟨.hbm, 37, rfl⟩
abbrev main_c_0 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_c : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_c_0 : Ref sig .tc := ⟨.hbm, 52, rfl⟩
abbrev main_call1_v12 : Ref sig .tc := ⟨.hbm, 53, rfl⟩
abbrev main_call1_v13 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_cst : Ref sig .tc := ⟨.hbm, 59, rfl⟩
abbrev main_cst_1 : Ref sig .tc := ⟨.hbm, 60, rfl⟩
abbrev main_call2_v0 : Ref sig .tc := ⟨.hbm, 61, rfl⟩
abbrev main_call2_v1 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![18, 8], ![false, false]⟩

def k0_mult1 (i : grid0.Coords) : BitVec 32 :=
  let c8_i32 : BitVec 32 := 8#32
  let c0_i32 : BitVec 32 := 0#32
  let arg0 : BitVec 32 := BitVec.ofNat 32 (i 0).val
  let c9_i32 : BitVec 32 := 9#32
  let v0 : BitVec 32 := Scalar.subi arg0 c9_i32
  let v1 : BitVec 32 := Scalar.maxsi c0_i32 v0
  let v2 : BitVec 32 := Scalar.minsi c8_i32 v1
  let c8_i32_0 : BitVec 32 := 8#32
  let v3 : BitVec 1 := Scalar.cmpi .eq v2 c8_i32_0
  let c4608_i32 : BitVec 32 := 4608#32
  let c4656_i32 : BitVec 32 := 4656#32
  let c512_i32 : BitVec 32 := 512#32
  let v4 : BitVec 32 := Scalar.muli v2 c512_i32
  let v5 : BitVec 32 := Scalar.addi c4656_i32 v4
  let v6 : BitVec 32 := Scalar.select v3 c4608_i32 v5
  v6
def k0_cond3 (i : grid0.Coords) : BitVec 1 :=
  let arg0 : BitVec 32 := BitVec.ofNat 32 (i 0).val
  let c4_i32 : BitVec 32 := 4#32
  let v10 : BitVec 1 := Scalar.cmpi .slt arg0 c4_i32
  let v11 : BitVec 32 := Scalar.extui v10
  let c0_i32_4 : BitVec 32 := 0#32
  let v12 : BitVec 1 := Scalar.cmpi .ne v11 c0_i32_4
  v12

def k0_cond4 (i : grid0.Coords) : BitVec 1 :=
  let arg0 : BitVec 32 := BitVec.ofNat 32 (i 0).val
  let c4_i32_5 : BitVec 32 := 4#32
  let v13 : BitVec 1 := Scalar.cmpi .eq arg0 c4_i32_5
  let c5_i32 : BitVec 32 := 5#32
  let v14 : BitVec 1 := Scalar.cmpi .eq arg0 c5_i32
  let v15 : BitVec 1 := Scalar.ori v13 v14
  let v16 : BitVec 32 := Scalar.extui v15
  let c0_i32_6 : BitVec 32 := 0#32
  let v17 : BitVec 1 := Scalar.cmpi .ne v16 c0_i32_6
  v17

def k0_cond5 (i : grid0.Coords) : BitVec 1 :=
  let arg0 : BitVec 32 := BitVec.ofNat 32 (i 0).val
  let c6_i32 : BitVec 32 := 6#32
  let v18 : BitVec 1 := Scalar.cmpi .eq arg0 c6_i32
  let v19 : BitVec 32 := Scalar.extui v18
  let c0_i32_7 : BitVec 32 := 0#32
  let v20 : BitVec 1 := Scalar.cmpi .ne v19 c0_i32_7
  v20

def k0_cond6 (i : grid0.Coords) : BitVec 1 :=
  let arg0 : BitVec 32 := BitVec.ofNat 32 (i 0).val
  let c7_i32 : BitVec 32 := 7#32
  let v21 : BitVec 1 := Scalar.cmpi .eq arg0 c7_i32
  let c8_i32 : BitVec 32 := 8#32
  let v22 : BitVec 1 := Scalar.cmpi .eq arg0 c8_i32
  let v23 : BitVec 1 := Scalar.ori v21 v22
  let v24 : BitVec 32 := Scalar.extui v23
  let c0_i32_8 : BitVec 32 := 0#32
  let v25 : BitVec 1 := Scalar.cmpi .ne v24 c0_i32_8
  v25

def k0_cond7 (i : grid0.Coords) : BitVec 1 :=
  let arg0 : BitVec 32 := BitVec.ofNat 32 (i 0).val
  let c9_i32_9 : BitVec 32 := 9#32
  let v26 : BitVec 1 := Scalar.cmpi .sge arg0 c9_i32_9
  let v27 : BitVec 32 := Scalar.extui v26
  let c0_i32_10 : BitVec 32 := 0#32
  let v28 : BitVec 1 := Scalar.cmpi .ne v27 c0_i32_10
  v28

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.minsi arg0 c8_i32
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c9_i32 : BitVec 32 := 9#32
  let v0 : BitVec 32 := Scalar.subi arg0 c9_i32
  let c0_i32 : BitVec 32 := 0#32
  let c8_i32 : BitVec 32 := 8#32
  let v1 : BitVec 32 := Scalar.maxsi c0_i32 v0
  let v2 : BitVec 32 := Scalar.minsi c8_i32 v1
  let c8_i32_0 : BitVec 32 := 8#32
  let v3 : BitVec 1 := Scalar.cmpi .eq v2 c8_i32_0
  let c512_i32 : BitVec 32 := 512#32
  let v4 : BitVec 32 := Scalar.muli v2 c512_i32
  let c4656_i32 : BitVec 32 := 4656#32
  let v5 : BitVec 32 := Scalar.addi c4656_i32 v4
  let c4608_i32 : BitVec 32 := 4608#32
  let v6 : BitVec 32 := Scalar.select v3 c4608_i32 v5
  let v7 : BitVec 32 := v6
  let c0_i32_1 : BitVec 32 := 0#32
  let c0_i32_2 : BitVec 32 := 0#32
  let c0_i32_3 : BitVec 32 := 0#32
  ![c0_i32_1.toNat, v7.toNat, c0_i32_2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== RefInprojIdeal.lean ====
abbrev S8192x2048 : Shape := ⟨2, ![8192, 2048]⟩
abbrev S2x2048x8752 : Shape := ⟨3, ![2, 2048, 8752]⟩
abbrev S2x64 : Shape := ⟨2, ![2, 64]⟩
abbrev S1x2048x8752 : Shape := ⟨3, ![1, 2048, 8752]⟩
abbrev S2048x8752 : Shape := ⟨2, ![2048, 8752]⟩
abbrev S8192x8752 : Shape := ⟨2, ![8192, 8752]⟩
abbrev S_ : Shape := ⟨0, ![]⟩
abbrev S8192x1024 : Shape := ⟨2, ![8192, 1024]⟩
abbrev S8192x16x64 : Shape := ⟨3, ![8192, 16, 64]⟩
abbrev S1x64 : Shape := ⟨2, ![1, 64]⟩
abbrev S64 : Shape := ⟨1, ![64]⟩
abbrev S8192x16 : Shape := ⟨2, ![8192, 16]⟩
abbrev S8192x16x1 : Shape := ⟨3, ![8192, 16, 1]⟩
abbrev S1x1x64 : Shape := ⟨3, ![1, 1, 64]⟩
abbrev S8192x1536 : Shape := ⟨2, ![8192, 1536]⟩
abbrev S8192x6x4x64 : Shape := ⟨4, ![8192, 6, 4, 64]⟩
abbrev S8192x1x4x64 : Shape := ⟨4, ![8192, 1, 4, 64]⟩
abbrev S8192x4x64 : Shape := ⟨3, ![8192, 4, 64]⟩
abbrev S8192x4 : Shape := ⟨2, ![8192, 4]⟩
abbrev S8192x4x1 : Shape := ⟨3, ![8192, 4, 1]⟩
abbrev S8192x256 : Shape := ⟨2, ![8192, 256]⟩
abbrev S8192x4144 : Shape := ⟨2, ![8192, 4144]⟩
abbrev S8192x512 : Shape := ⟨2, ![8192, 512]⟩
abbrev S8192x4096 : Shape := ⟨2, ![8192, 4096]⟩
abbrev S8192x9216 : Shape := ⟨2, ![8192, 9216]⟩

abbrev nBuf : Space → Nat
  | .hbm => 106
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x8752, .f32⟩
  | .hbm, ⟨2, _⟩ => ⟨S2x64, .f32⟩
  | .hbm, ⟨3, _⟩ => ⟨S2x64, .f32⟩
  | .hbm, ⟨4, _⟩ => ⟨S8192x2048, .f32⟩
  | .hbm, ⟨5, _⟩ => ⟨S1x2048x8752, .f32⟩
  | .hbm, ⟨6, _⟩ => ⟨S2048x8752, .f32⟩
  | .hbm, ⟨7, _⟩ => ⟨S8192x8752, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S8192x2048, .f32⟩
  | .hbm, ⟨21, _⟩ => ⟨S8192x2048, .f32⟩
  | .hbm, ⟨22, _⟩ => ⟨S_, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x1024, .f32⟩
  | .hbm, ⟨27, _⟩ => ⟨S8192x16x64, .f32⟩
  | .hbm, ⟨28, _⟩ => ⟨S1x64, .f32⟩
  | .hbm, ⟨29, _⟩ => ⟨S64, .f32⟩
  | .hbm, ⟨30, _⟩ => ⟨S8192x16x64, .f32⟩
  | .hbm, ⟨31, _⟩ => ⟨S_, .f32⟩
  | .hbm, ⟨32, _⟩ => ⟨S8192x16, .f32⟩
  | .hbm, ⟨33, _⟩ => ⟨S8192x16x1, .f32⟩
  | .hbm, ⟨34, _⟩ => ⟨S_, .f32⟩
  | .hbm, ⟨35, _⟩ => ⟨S8192x16x1, .f32⟩
  | .hbm, ⟨36, _⟩ => ⟨S8192x16x1, .f32⟩
  | .hbm, ⟨37, _⟩ => ⟨S_, .f32⟩
  | .hbm, ⟨38, _⟩ => ⟨S8192x16x1, .f32⟩
  | .hbm, ⟨39, _⟩ => ⟨S8192x16x1, .f32⟩
  | .hbm, ⟨40, _⟩ => ⟨S8192x16x1, .f32⟩
  | .hbm, ⟨41, _⟩ => ⟨S8192x16x64, .f32⟩
  | .hbm, ⟨42, _⟩ => ⟨S8192x16x64, .f32⟩
  | .hbm, ⟨43, _⟩ => ⟨S1x1x64, .f32⟩
  | .hbm, ⟨44, _⟩ => ⟨S8192x16x64, .f32⟩
  | .hbm, ⟨45, _⟩ => ⟨S8192x16x64, .f32⟩
  | .hbm, ⟨46, _⟩ => ⟨S8192x1024, .f32⟩
  | .hbm, ⟨47, _⟩ => ⟨S8192x1536, .f32⟩
  | .hbm, ⟨48, _⟩ => ⟨S8192x6x4x64, .f32⟩
  | .hbm, ⟨49, _⟩ => ⟨S8192x1x4x64, .f32⟩
  | .hbm, ⟨50, _⟩ => ⟨S8192x4x64, .f32⟩
  | .hbm, ⟨51, _⟩ => ⟨S1x64, .f32⟩
  | .hbm, ⟨52, _⟩ => ⟨S64, .f32⟩
  | .hbm, ⟨53, _⟩ => ⟨S8192x4x64, .f32⟩
  | .hbm, ⟨54, _⟩ => ⟨S_, .f32⟩
  | .hbm, ⟨55, _⟩ => ⟨S8192x4, .f32⟩
  | .hbm, ⟨56, _⟩ => ⟨S8192x4x1, .f32⟩
  | .hbm, ⟨57, _⟩ => ⟨S_, .f32⟩
  | .hbm, ⟨58, _⟩ => ⟨S8192x4x1, .f32⟩
  | .hbm, ⟨59, _⟩ => ⟨S8192x4x1, .f32⟩
  | .hbm, ⟨60, _⟩ => ⟨S_, .f32⟩
  | .hbm, ⟨61, _⟩ => ⟨S8192x4x1, .f32⟩
  | .hbm, ⟨62, _⟩ => ⟨S8192x4x1, .f32⟩
  | .hbm, ⟨63, _⟩ => ⟨S8192x4x1, .f32⟩
  | .hbm, ⟨64, _⟩ => ⟨S8192x4x64, .f32⟩
  | .hbm, ⟨65, _⟩ => ⟨S8192x4x64, .f32⟩
  | .hbm, ⟨66, _⟩ => ⟨S1x1x64, .f32⟩
  | .hbm, ⟨67, _⟩ => ⟨S8192x4x64, .f32⟩
  | .hbm, ⟨68, _⟩ => ⟨S8192x4x64, .f32⟩
  | .hbm, ⟨69, _⟩ => ⟨S8192x256, .f32⟩
  | .hbm, ⟨70, _⟩ => ⟨S8192x1x4x64, .f32⟩
  | .hbm, ⟨71, _⟩ => ⟨S8192x4x64, .f32⟩
  | .hbm, ⟨72, _⟩ => ⟨S1x64, .f32⟩
  | .hbm, ⟨73, _⟩ => ⟨S64, .f32⟩
  | .hbm, ⟨74, _⟩ => ⟨S8192x4x64, .f32⟩
  | .hbm, ⟨75, _⟩ => ⟨S_, .f32⟩
  | .hbm, ⟨76, _⟩ => ⟨S8192x4, .f32⟩
  | .hbm, ⟨77, _⟩ => ⟨S8192x4x1, .f32⟩
  | .hbm, ⟨78, _⟩ => ⟨S_, .f32⟩
  | .hbm, ⟨79, _⟩ => ⟨S8192x4x1, .f32⟩
  | .hbm, ⟨80, _⟩ => ⟨S8192x4x1, .f32⟩
  | .hbm, ⟨81, _⟩ => ⟨S_, .f32⟩
  | .hbm, ⟨82, _⟩ => ⟨S8192x4x1, .f32⟩
  | .hbm, ⟨83, _⟩ => ⟨S8192x4x1, .f32⟩
  | .hbm, ⟨84, _⟩ => ⟨S8192x4x1, .f32⟩
  | .hbm, ⟨85, _⟩ => ⟨S8192x4x64, .f32⟩
  | .hbm, ⟨86, _⟩ => ⟨S8192x4x64, .f32⟩
  | .hbm, ⟨87, _⟩ => ⟨S1x1x64, .f32⟩
  | .hbm, ⟨88, _⟩ => ⟨S8192x4x64, .f32⟩
  | .hbm, ⟨89, _⟩ => ⟨S8192x4x64, .f32⟩
  | .hbm, ⟨90, _⟩ => ⟨S8192x256, .f32⟩
  | .hbm, ⟨91, _⟩ => ⟨S8192x4144, .f32⟩
  | .hbm, ⟨92, _⟩ => ⟨S8192x4144, .f32⟩
  | .hbm, ⟨93, _⟩ => ⟨S8192x4144, .f32⟩
  | .hbm, ⟨94, _⟩ => ⟨S_, .f32⟩
  | .hbm, ⟨95, _⟩ => ⟨S8192x4144, .f32⟩
  | .hbm, ⟨96, _⟩ => ⟨S8192x4144, .f32⟩
  | .hbm, ⟨97, _⟩ => ⟨S_, .f32⟩
  | .hbm, ⟨98, _⟩ => ⟨S8192x4144, .f32⟩
  | .hbm, ⟨99, _⟩ => ⟨S8192x4144, .f32⟩
  | .hbm, ⟨100, _⟩ => ⟨S8192x512, .f32⟩
  | .hbm, ⟨101, _⟩ => ⟨S8192x256, .f32⟩
  | .hbm, ⟨102, _⟩ => ⟨S8192x256, .f32⟩
  | .hbm, ⟨103, _⟩ => ⟨S8192x4096, .f32⟩
  | .hbm, ⟨104, _⟩ => ⟨S8192x512, .f32⟩
  | .hbm, ⟨105, _⟩ => ⟨S8192x9216, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_6 : Ref sig .tc := ⟨.hbm, 54, rfl⟩
abbrev main_v43 : Ref sig .tc := ⟨.hbm, 55, rfl⟩
abbrev main_v44 : Ref sig .tc := ⟨.hbm, 56, rfl⟩
abbrev main_cst_7 : Ref sig .tc := ⟨.hbm, 57, rfl⟩
abbrev main_v45 : Ref sig .tc := ⟨.hbm, 58, rfl⟩
abbrev main_v46 : Ref sig .tc := ⟨.hbm, 59, rfl⟩
abbrev main_cst_8 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_cst_9 : Ref sig .tc := ⟨.hbm, 75, rfl⟩
abbrev main_v61 : Ref sig .tc := ⟨.hbm, 76, rfl⟩
abbrev main_v62 : Ref sig .tc := ⟨.hbm, 77, rfl⟩
abbrev main_cst_10 : Ref sig .tc := ⟨.hbm, 78, rfl⟩
abbrev main_v63 : Ref sig .tc := ⟨.hbm, 79, rfl⟩
abbrev main_v64 : Ref sig .tc := ⟨.hbm, 80, rfl⟩
abbrev main_cst_11 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_cst_12 : Ref sig .tc := ⟨.hbm, 94, rfl⟩
abbrev main_v77 : Ref sig .tc := ⟨.hbm, 95, rfl⟩
abbrev main_v78 : Ref sig .tc := ⟨.hbm, 96, rfl⟩
abbrev main_cst_13 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩

abbrev nD : Nat := 1
abbrev τ : Topo := Topo.v7x

variable {F : FTy → Type} [FloatOps F]
-- ==== Downsample.lean ====
abbrev S64x5632 : Shape := ⟨2, ![64, 5632]⟩
abbrev S2x5632x2048 : Shape := ⟨3, ![2, 5632, 2048]⟩
abbrev S64x2048 : Shape := ⟨2, ![64, 2048]⟩
abbrev S8x2048 : Shape := ⟨2, ![8, 2048]⟩
abbrev S8x8x2048 : Shape := ⟨3, ![8, 8, 2048]⟩
abbrev S1x5632x512 : Shape := ⟨3, ![1, 5632, 512]⟩
abbrev S64x512 : Shape := ⟨2, ![64, 512]⟩
abbrev S5632x512 : Shape := ⟨2, ![5632, 512]⟩

abbrev nBuf : Space → Nat
  | .hbm => 7
  | .vmem => 9
  | .smem => 0
  | _ => 0

abbrev bufTy : (tb : Table) → Fin (tcTables nBuf tb) → BufTy
  | .hbm, ⟨0, _⟩ => ⟨S64x5632, .bf16⟩
  | .hbm, ⟨1, _⟩ => ⟨S2x5632x2048, .f32⟩
  | .hbm, ⟨2, _⟩ => ⟨S64x2048, .f32⟩
  | .hbm, ⟨3, _⟩ => ⟨S8x2048, .f32⟩
  | .hbm, ⟨4, _⟩ => ⟨S8x8x2048, .f32⟩
  | .hbm, ⟨5, _⟩ => ⟨S64x2048, .f32⟩
  | .hbm, ⟨6, _⟩ => ⟨S64x2048, .f32⟩
  | .local _ .vmem, ⟨0, _⟩ => ⟨S64x5632, .bf16⟩
  | .local _ .vmem, ⟨1, _⟩ => ⟨S1x5632x512, .f32⟩
  | .local _ .vmem, ⟨2, _⟩ => ⟨S64x512, .f32⟩
  | .local _ .vmem, ⟨3, _⟩ => ⟨S64x512, .f32⟩
  | .local _ .vmem, ⟨4, _⟩ => ⟨S64x512, .f32⟩
  | .local _ .vmem, ⟨5, _⟩ => ⟨S64x512, .f32⟩
  | .local _ .vmem, ⟨6, _⟩ => ⟨S64x512, .f32⟩
  | .local _ .vmem, ⟨7, _⟩ => ⟨S64x512, .f32⟩
  | .local _ .vmem, ⟨8, _⟩ => ⟨S5632x512, .bf16⟩
  | _, _ => ⟨S64x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S64x5632 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S1x5632x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== RefDownsampleIdeal.lean ====
abbrev S64x5632 : Shape := ⟨2, ![64, 5632]⟩
abbrev S2x5632x2048 : Shape := ⟨3, ![2, 5632, 2048]⟩
abbrev S64x2048 : Shape := ⟨2, ![64, 2048]⟩
abbrev S8x2048 : Shape := ⟨2, ![8, 2048]⟩
abbrev S1x5632x2048 : Shape := ⟨3, ![1, 5632, 2048]⟩
abbrev S5632x2048 : Shape := ⟨2, ![5632, 2048]⟩
abbrev S8x8x2048 : Shape := ⟨3, ![8, 8, 2048]⟩
abbrev S8x1x2048 : Shape := ⟨3, ![8, 1, 2048]⟩

abbrev nBuf : Space → Nat
  | .hbm => 15
  | .vmem => 0
  | .smem => 0
  | _ => 0

abbrev bufTy : (tb : Table) → Fin (tcTables nBuf tb) → BufTy
  | .hbm, ⟨0, _⟩ => ⟨S64x5632, .bf16⟩
  | .hbm, ⟨1, _⟩ => ⟨S2x5632x2048, .f32⟩
  | .hbm, ⟨2, _⟩ => ⟨S64x2048, .f32⟩
  | .hbm, ⟨3, _⟩ => ⟨S8x2048, .f32⟩
  | .hbm, ⟨4, _⟩ => ⟨S64x5632, .f32⟩
  | .hbm, ⟨5, _⟩ => ⟨S1x5632x2048, .f32⟩
  | .hbm, ⟨6, _⟩ => ⟨S5632x2048, .f32⟩
  | .hbm, ⟨7, _⟩ => ⟨S64x2048, .f32⟩
  | .hbm, ⟨8, _⟩ => ⟨S8x8x2048, .f32⟩
  | .hbm, ⟨9, _⟩ => ⟨S8x8x2048, .f32⟩
  | .hbm, ⟨10, _⟩ => ⟨S8x1x2048, .f32⟩
  | .hbm, ⟨11, _⟩ => ⟨S8x8x2048, .f32⟩
  | .hbm, ⟨12, _⟩ => ⟨S8x8x2048, .f32⟩
  | .hbm, ⟨13, _⟩ => ⟨S8x8x2048, .f32⟩
  | .hbm, ⟨14, _⟩ => ⟨S64x2048, .f32⟩
  | _, _ => ⟨S64x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Insample.lean ====
abbrev S64x2048 : Shape := ⟨2, ![64, 2048]⟩
abbrev S2x2048x8752 : Shape := ⟨3, ![2, 2048, 8752]⟩
abbrev S2x64 : Shape := ⟨2, ![2, 64]⟩
abbrev S2x8752x2048 : Shape := ⟨3, ![2, 8752, 2048]⟩
abbrev S1x2x1x64 : Shape := ⟨4, ![1, 2, 1, 64]⟩
abbrev S1x2x8x64 : Shape := ⟨4, ![1, 2, 8, 64]⟩
abbrev S2x512 : Shape := ⟨2, ![2, 512]⟩
abbrev S2x1x512 : Shape := ⟨3, ![2, 1, 512]⟩
abbrev S1x1x512 : Shape := ⟨3, ![1, 1, 512]⟩
abbrev S1x512 : Shape := ⟨2, ![1, 512]⟩
abbrev S512 : Shape := ⟨1, ![512]⟩
abbrev S512x1 : Shape := ⟨2, ![512, 1]⟩
abbrev S_ : Shape := ⟨0, ![]⟩
abbrev S512x512 : Shape := ⟨2, ![512, 512]⟩
abbrev S64x9216 : Shape := ⟨2, ![64, 9216]⟩
abbrev S1x512x2048 : Shape := ⟨3, ![1, 512, 2048]⟩
abbrev S64x512 : Shape := ⟨2, ![64, 512]⟩
abbrev S2048x512 : Shape := ⟨2, ![2048, 512]⟩
abbrev S512x2048 : Shape := ⟨2, ![512, 2048]⟩

abbrev nBuf : Space → Nat
  | .hbm => 66
  | .vmem => 11
  | .smem => 0
  | _ => 0

abbrev bufTy : (tb : Table) → Fin (tcTables nBuf tb) → BufTy
  | .hbm, ⟨0, _⟩ => ⟨S64x2048, .bf16⟩
  | .hbm, ⟨1, _⟩ => ⟨S2x2048x8752, .f32⟩
  | .hbm, ⟨2, _⟩ => ⟨S2x64, .f32⟩
  | .hbm, ⟨3, _⟩ => ⟨S2x64, .f32⟩
  | .hbm, ⟨4, _⟩ => ⟨S2x8752x2048, .f32⟩
  | .hbm, ⟨5, _⟩ => ⟨S1x2x1x64, .f32⟩
  | .hbm, ⟨6, _⟩ => ⟨S1x2x8x64, .f32⟩
  | .hbm, ⟨7, _⟩ => ⟨S2x512, .f32⟩
  | .hbm, ⟨8, _⟩ => ⟨S2x1x512, .f32⟩
  | .hbm, ⟨9, _⟩ => ⟨S1x2x1x64, .f32⟩
  | .hbm, ⟨10, _⟩ => ⟨S1x2x8x64, .f32⟩
  | .hbm, ⟨11, _⟩ => ⟨S2x512, .f32⟩
  | .hbm, ⟨12, _⟩ => ⟨S2x1x512, .f32⟩
  | .hbm, ⟨13, _⟩ => ⟨S1x1x512, .f32⟩
  | .hbm, ⟨14, _⟩ => ⟨S1x512, .f32⟩
  | .hbm, ⟨15, _⟩ => ⟨S1x1x512, .f32⟩
  | .hbm, ⟨16, _⟩ => ⟨S1x512, .f32⟩
  | .hbm, ⟨17, _⟩ => ⟨S512, .i32⟩
  | .hbm, ⟨18, _⟩ => ⟨S512x1, .i32⟩
  | .hbm, ⟨19, _⟩ => ⟨S_, .i32⟩
  | .hbm, ⟨20, _⟩ => ⟨S_, .i32⟩
  | .hbm, ⟨21, _⟩ => ⟨S512x1, .i32⟩
  | .hbm, ⟨22, _⟩ => ⟨S512x1, .i32⟩
  | .hbm, ⟨23, _⟩ => ⟨S512x1, .i32⟩
  | .hbm, ⟨24, _⟩ => ⟨S_, .i32⟩
  | .hbm, ⟨25, _⟩ => ⟨S512x1, .i32⟩
  | .hbm, ⟨26, _⟩ => ⟨S512x1, .i1⟩
  | .hbm, ⟨27, _⟩ => ⟨S512x1, .i32⟩
  | .hbm, ⟨28, _⟩ => ⟨S512x1, .i32⟩
  | .hbm, ⟨29, _⟩ => ⟨S_, .i32⟩
  | .hbm, ⟨30, _⟩ => ⟨S512x1, .i32⟩
  | .hbm, ⟨31, _⟩ => ⟨S512x1, .i1⟩
  | .hbm, ⟨32, _⟩ => ⟨S512x1, .i1⟩
  | .hbm, ⟨33, _⟩ => ⟨S_, .i32⟩
  | .hbm, ⟨34, _⟩ => ⟨S512x1, .i32⟩
  | .hbm, ⟨35, _⟩ => ⟨S512x1, .i32⟩
  | .hbm, ⟨36, _⟩ => ⟨S512x1, .i32⟩
  | .hbm, ⟨37, _⟩ => ⟨S1x512, .i32⟩
  | .hbm, ⟨38, _⟩ => ⟨S_, .i32⟩
  | .hbm, ⟨39, _⟩ => ⟨S_, .i32⟩
  | .hbm, ⟨40, _⟩ => ⟨S1x512, .i32⟩
  | .hbm, ⟨41, _⟩ => ⟨S1x512, .i32⟩
  | .hbm, ⟨42, _⟩ => ⟨S1x512, .i32⟩
  | .hbm, ⟨43, _⟩ => ⟨S_, .i32⟩
  | .hbm, ⟨44, _⟩ => ⟨S1x512, .i32⟩
  | .hbm, ⟨45, _⟩ => ⟨S1x512, .i1⟩
  | .hbm, ⟨46, _⟩ => ⟨S1x512, .i32⟩
  | .hbm, ⟨47, _⟩ => ⟨S1x512, .i32⟩
  | .hbm, ⟨48, _⟩ => ⟨S_, .i32⟩
  | .hbm, ⟨49, _⟩ => ⟨S1x512, .i32⟩
  | .hbm, ⟨50, _⟩ => ⟨S1x512, .i1⟩
  | .hbm, ⟨51, _⟩ => ⟨S1x512, .i1⟩
  | .hbm, ⟨52, _⟩ => ⟨S_, .i32⟩
  | .hbm, ⟨53, _⟩ => ⟨S1x512, .i32⟩
  | .hbm, ⟨54, _⟩ => ⟨S1x512, .i32⟩
  | .hbm, ⟨55, _⟩ => ⟨S1x512, .i32⟩
  | .hbm, ⟨56, _⟩ => ⟨S512x512, .i32⟩
  | .hbm, ⟨57, _⟩ => ⟨S512x512, .i32⟩
  | .hbm, ⟨58, _⟩ => ⟨S512x512, .i1⟩
  | .hbm, ⟨59, _⟩ => ⟨S_, .f32⟩
  | .hbm, ⟨60, _⟩ => ⟨S_, .f32⟩
  | .hbm, ⟨61, _⟩ => ⟨S512x512, .f32⟩
  | .hbm, ⟨62, _⟩ => ⟨S512x512, .f32⟩
  | .hbm, ⟨63, _⟩ => ⟨S512x512, .f32⟩
  | .hbm, ⟨64, _⟩ => ⟨S512x512, .bf16⟩
  | .hbm, ⟨65, _⟩ => ⟨S64x9216, .f32⟩
  | .local _ .vmem, ⟨0, _⟩ => ⟨S64x2048, .bf16⟩
  | .local _ .vmem, ⟨1, _⟩ => ⟨S1x512x2048, .f32⟩
  | .local _ .vmem, ⟨2, _⟩ => ⟨S1x512x2048, .f32⟩
  | .local _ .vmem, ⟨3, _⟩ => ⟨S1x512x2048, .f32⟩
  | .local _ .vmem, ⟨4, _⟩ => ⟨S1x512x2048, .f32⟩
  | .local _ .vmem, ⟨5, _⟩ => ⟨S1x512, .f32⟩
  | .local _ .vmem, ⟨6, _⟩ => ⟨S1x512, .f32⟩
  | .local _ .vmem, ⟨7, _⟩ => ⟨S512x512, .bf16⟩
  | .local _ .vmem, ⟨8, _⟩ => ⟨S64x512, .f32⟩
  | .local _ .vmem, ⟨9, _⟩ => ⟨S64x512, .f32⟩
  | .local _ .vmem, ⟨10, _⟩ => ⟨S2048x512, .bf16⟩
  | _, _ => ⟨S64x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_c : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_c : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_0 : Ref sig .tc := ⟨.hbm, 33, rfl⟩
abbrev main_call0_v12 : Ref sig .tc := ⟨.hbm, 34, rfl⟩
abbrev main_call0_v13 : Ref sig .tc := ⟨.hbm, 35, rfl⟩
abbrev main_v15 : Ref sig .tc := ⟨.hbm, 36, rfl⟩
abbrev main_v16 : Ref sig .tc := ⟨.hbm, 37, rfl⟩
abbrev main_c_0 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_c : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_c_0 : Ref sig .tc := ⟨.hbm, 52, rfl⟩
abbrev main_call1_v12 : Ref sig .tc := ⟨.hbm, 53, rfl⟩
abbrev main_call1_v13 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_cst : Ref sig .tc := ⟨.hbm, 59, rfl⟩
abbrev main_cst_1 : Ref sig .tc := ⟨.hbm, 60, rfl⟩
abbrev main_call2_v0 : Ref sig .tc := ⟨.hbm, 61, rfl⟩
abbrev main_call2_v1 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![18, 1], ![false, false]⟩

def k0_mult1 (i : grid0.Coords) : BitVec 32 :=
  let c8_i32 : BitVec 32 := 8#32
  let c0_i32 : BitVec 32 := 0#32
  let arg0 : BitVec 32 := BitVec.ofNat 32 (i 0).val
  let c9_i32 : BitVec 32 := 9#32
  let v0 : BitVec 32 := Scalar.subi arg0 c9_i32
  let v1 : BitVec 32 := Scalar.maxsi c0_i32 v0
  let v2 : BitVec 32 := Scalar.minsi c8_i32 v1
  let c8_i32_0 : BitVec 32 := 8#32
  let v3 : BitVec 1 := Scalar.cmpi .eq v2 c8_i32_0
  let c4608_i32 : BitVec 32 := 4608#32
  let c4656_i32 : BitVec 32 := 4656#32
  let c512_i32 : BitVec 32 := 512#32
  let v4 : BitVec 32 := Scalar.muli v2 c512_i32
  let v5 : BitVec 32 := Scalar.addi c4656_i32 v4
  let v6 : BitVec 32 := Scalar.select v3 c4608_i32 v5
  v6
def k0_cond3 (i : grid0.Coords) : BitVec 1 :=
  let arg0 : BitVec 32 := BitVec.ofNat 32 (i 0).val
  let c4_i32 : BitVec 32 := 4#32
  let v10 : BitVec 1 := Scalar.cmpi .slt arg0 c4_i32
  let v11 : BitVec 32 := Scalar.extui v10
  let c0_i32_4 : BitVec 32 := 0#32
  let v12 : BitVec 1 := Scalar.cmpi .ne v11 c0_i32_4
  v12

def k0_cond4 (i : grid0.Coords) : BitVec 1 :=
  let arg0 : BitVec 32 := BitVec.ofNat 32 (i 0).val
  let c4_i32_5 : BitVec 32 := 4#32
  let v13 : BitVec 1 := Scalar.cmpi .eq arg0 c4_i32_5
  let c5_i32 : BitVec 32 := 5#32
  let v14 : BitVec 1 := Scalar.cmpi .eq arg0 c5_i32
  let v15 : BitVec 1 := Scalar.ori v13 v14
  let v16 : BitVec 32 := Scalar.extui v15
  let c0_i32_6 : BitVec 32 := 0#32
  let v17 : BitVec 1 := Scalar.cmpi .ne v16 c0_i32_6
  v17

def k0_cond5 (i : grid0.Coords) : BitVec 1 :=
  let arg0 : BitVec 32 := BitVec.ofNat 32 (i 0).val
  let c6_i32 : BitVec 32 := 6#32
  let v18 : BitVec 1 := Scalar.cmpi .eq arg0 c6_i32
  let v19 : BitVec 32 := Scalar.extui v18
  let c0_i32_7 : BitVec 32 := 0#32
  let v20 : BitVec 1 := Scalar.cmpi .ne v19 c0_i32_7
  v20

def k0_cond6 (i : grid0.Coords) : BitVec 1 :=
  let arg0 : BitVec 32 := BitVec.ofNat 32 (i 0).val
  let c7_i32 : BitVec 32 := 7#32
  let v21 : BitVec 1 := Scalar.cmpi .eq arg0 c7_i32
  let c8_i32 : BitVec 32 := 8#32
  let v22 : BitVec 1 := Scalar.cmpi .eq arg0 c8_i32
  let v23 : BitVec 1 := Scalar.ori v21 v22
  let v24 : BitVec 32 := Scalar.extui v23
  let c0_i32_8 : BitVec 32 := 0#32
  let v25 : BitVec 1 := Scalar.cmpi .ne v24 c0_i32_8
  v25

def k0_cond7 (i : grid0.Coords) : BitVec 1 :=
  let arg0 : BitVec 32 := BitVec.ofNat 32 (i 0).val
  let c9_i32_9 : BitVec 32 := 9#32
  let v26 : BitVec 1 := Scalar.cmpi .sge arg0 c9_i32_9
  let v27 : BitVec 32 := Scalar.extui v26
  let c0_i32_10 : BitVec 32 := 0#32
  let v28 : BitVec 1 := Scalar.cmpi .ne v27 c0_i32_10
  v28

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.minsi arg0 c8_i32
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c9_i32 : BitVec 32 := 9#32
  let v0 : BitVec 32 := Scalar.subi arg0 c9_i32
  let c0_i32 : BitVec 32 := 0#32
  let c8_i32 : BitVec 32 := 8#32
  let v1 : BitVec 32 := Scalar.maxsi c0_i32 v0
  let v2 : BitVec 32 := Scalar.minsi c8_i32 v1
  let c8_i32_0 : BitVec 32 := 8#32
  let v3 : BitVec 1 := Scalar.cmpi .eq v2 c8_i32_0
  let c512_i32 : BitVec 32 := 512#32
  let v4 : BitVec 32 := Scalar.muli v2 c512_i32
  let c4656_i32 : BitVec 32 := 4656#32
  let v5 : BitVec 32 := Scalar.addi c4656_i32 v4
  let c4608_i32 : BitVec 32 := 4608#32
  let v6 : BitVec 32 := Scalar.select v3 c4608_i32 v5
  let v7 : BitVec 32 := v6
  let c0_i32_1 : BitVec 32 := 0#32
  let c0_i32_2 : BitVec 32 := 0#32
  let c0_i32_3 : BitVec 32 := 0#32
  ![c0_i32_1.toNat, v7.toNat, c0_i32_2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S64x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== RefInsampleIdeal.lean ====
abbrev S64x2048 : Shape := ⟨2, ![64, 2048]⟩
abbrev S2x2048x8752 : Shape := ⟨3, ![2, 2048, 8752]⟩
abbrev S2x64 : Shape := ⟨2, ![2, 64]⟩
abbrev S1x2048x8752 : Shape := ⟨3, ![1, 2048, 8752]⟩
abbrev S2048x8752 : Shape := ⟨2, ![2048, 8752]⟩
abbrev S64x8752 : Shape := ⟨2, ![64, 8752]⟩
abbrev S_ : Shape := ⟨0, ![]⟩
abbrev S64x1024 : Shape := ⟨2, ![64, 1024]⟩
abbrev S64x16x64 : Shape := ⟨3, ![64, 16, 64]⟩
abbrev S1x64 : Shape := ⟨2, ![1, 64]⟩
abbrev S64 : Shape := ⟨1, ![64]⟩
abbrev S64x16 : Shape := ⟨2, ![64, 16]⟩
abbrev S64x16x1 : Shape := ⟨3, ![64, 16, 1]⟩
abbrev S1x1x64 : Shape := ⟨3, ![1, 1, 64]⟩
abbrev S64x1536 : Shape := ⟨2, ![64, 1536]⟩
abbrev S64x6x4x64 : Shape := ⟨4, ![64, 6, 4, 64]⟩
abbrev S64x1x4x64 : Shape := ⟨4, ![64, 1, 4, 64]⟩
abbrev S64x4x64 : Shape := ⟨3, ![64, 4, 64]⟩
abbrev S64x4 : Shape := ⟨2, ![64, 4]⟩
abbrev S64x4x1 : Shape := ⟨3, ![64, 4, 1]⟩
abbrev S64x256 : Shape := ⟨2, ![64, 256]⟩
abbrev S64x4144 : Shape := ⟨2, ![64, 4144]⟩
abbrev S64x512 : Shape := ⟨2, ![64, 512]⟩
abbrev S64x4096 : Shape := ⟨2, ![64, 4096]⟩
abbrev S64x9216 : Shape := ⟨2, ![64, 9216]⟩

abbrev nBuf : Space → Nat
  | .hbm => 106
  | .vmem => 0
  | .smem => 0
  | _ => 0

abbrev bufTy : (tb : Table) → Fin (tcTables nBuf tb) → BufTy
  | .hbm, ⟨0, _⟩ => ⟨S64x2048, .bf16⟩
  | .hbm, ⟨1, _⟩ => ⟨S2x2048x8752, .f32⟩
  | .hbm, ⟨2, _⟩ => ⟨S2x64, .f32⟩
  | .hbm, ⟨3, _⟩ => ⟨S2x64, .f32⟩
  | .hbm, ⟨4, _⟩ => ⟨S64x2048, .f32⟩
  | .hbm, ⟨5, _⟩ => ⟨S1x2048x8752, .f32⟩
  | .hbm, ⟨6, _⟩ => ⟨S2048x8752, .f32⟩
  | .hbm, ⟨7, _⟩ => ⟨S64x8752, .f32⟩
  | .hbm, ⟨8, _⟩ => ⟨S64x2048, .f32⟩
  | .hbm, ⟨9, _⟩ => ⟨S64x2048, .f32⟩
  | .hbm, ⟨10, _⟩ => ⟨S64x2048, .f32⟩
  | .hbm, ⟨11, _⟩ => ⟨S_, .f32⟩
  | .hbm, ⟨12, _⟩ => ⟨S64x2048, .f32⟩
  | .hbm, ⟨13, _⟩ => ⟨S64x2048, .f32⟩
  | .hbm, ⟨14, _⟩ => ⟨S64x2048, .f32⟩
  | .hbm, ⟨15, _⟩ => ⟨S_, .f32⟩
  | .hbm, ⟨16, _⟩ => ⟨S64x2048, .f32⟩
  | .hbm, ⟨17, _⟩ => ⟨S64x2048, .f32⟩
  | .hbm, ⟨18, _⟩ => ⟨S64x2048, .f32⟩
  | .hbm, ⟨19, _⟩ => ⟨S_, .f32⟩
  | .hbm, ⟨20, _⟩ => ⟨S64x2048, .f32⟩
  | .hbm, ⟨21, _⟩ => ⟨S64x2048, .f32⟩
  | .hbm, ⟨22, _⟩ => ⟨S_, .f32⟩
  | .hbm, ⟨23, _⟩ => ⟨S64x2048, .f32⟩
  | .hbm, ⟨24, _⟩ => ⟨S64x2048, .f32⟩
  | .hbm, ⟨25, _⟩ => ⟨S64x2048, .f32⟩
  | .hbm, ⟨26, _⟩ => ⟨S64x1024, .f32⟩
  | .hbm, ⟨27, _⟩ => ⟨S64x16x64, .f32⟩
  | .hbm, ⟨28, _⟩ => ⟨S1x64, .f32⟩
  | .hbm, ⟨29, _⟩ => ⟨S64, .f32⟩
  | .hbm, ⟨30, _⟩ => ⟨S64x16x64, .f32⟩
  | .hbm, ⟨31, _⟩ => ⟨S_, .f32⟩
  | .hbm, ⟨32, _⟩ => ⟨S64x16, .f32⟩
  | .hbm, ⟨33, _⟩ => ⟨S64x16x1, .f32⟩
  | .hbm, ⟨34, _⟩ => ⟨S_, .f32⟩
  | .hbm, ⟨35, _⟩ => ⟨S64x16x1, .f32⟩
  | .hbm, ⟨36, _⟩ => ⟨S64x16x1, .f32⟩
  | .hbm, ⟨37, _⟩ => ⟨S_, .f32⟩
  | .hbm, ⟨38, _⟩ => ⟨S64x16x1, .f32⟩
  | .hbm, ⟨39, _⟩ => ⟨S64x16x1, .f32⟩
  | .hbm, ⟨40, _⟩ => ⟨S64x16x1, .f32⟩
  | .hbm, ⟨41, _⟩ => ⟨S64x16x64, .f32⟩
  | .hbm, ⟨42, _⟩ => ⟨S64x16x64, .f32⟩
  | .hbm, ⟨43, _⟩ => ⟨S1x1x64, .f32⟩
  | .hbm, ⟨44, _⟩ => ⟨S64x16x64, .f32⟩
  | .hbm, ⟨45, _⟩ => ⟨S64x16x64, .f32⟩
  | .hbm, ⟨46, _⟩ => ⟨S64x1024, .f32⟩
  | .hbm, ⟨47, _⟩ => ⟨S64x1536, .f32⟩
  | .hbm, ⟨48, _⟩ => ⟨S64x6x4x64, .f32⟩
  | .hbm, ⟨49, _⟩ => ⟨S64x1x4x64, .f32⟩
  | .hbm, ⟨50, _⟩ => ⟨S64x4x64, .f32⟩
  | .hbm, ⟨51, _⟩ => ⟨S1x64, .f32⟩
  | .hbm, ⟨52, _⟩ => ⟨S64, .f32⟩
  | .hbm, ⟨53, _⟩ => ⟨S64x4x64, .f32⟩
  | .hbm, ⟨54, _⟩ => ⟨S_, .f32⟩
  | .hbm, ⟨55, _⟩ => ⟨S64x4, .f32⟩
  | .hbm, ⟨56, _⟩ => ⟨S64x4x1, .f32⟩
  | .hbm, ⟨57, _⟩ => ⟨S_, .f32⟩
  | .hbm, ⟨58, _⟩ => ⟨S64x4x1, .f32⟩
  | .hbm, ⟨59, _⟩ => ⟨S64x4x1, .f32⟩
  | .hbm, ⟨60, _⟩ => ⟨S_, .f32⟩
  | .hbm, ⟨61, _⟩ => ⟨S64x4x1, .f32⟩
  | .hbm, ⟨62, _⟩ => ⟨S64x4x1, .f32⟩
  | .hbm, ⟨63, _⟩ => ⟨S64x4x1, .f32⟩
  | .hbm, ⟨64, _⟩ => ⟨S64x4x64, .f32⟩
  | .hbm, ⟨65, _⟩ => ⟨S64x4x64, .f32⟩
  | .hbm, ⟨66, _⟩ => ⟨S1x1x64, .f32⟩
  | .hbm, ⟨67, _⟩ => ⟨S64x4x64, .f32⟩
  | .hbm, ⟨68, _⟩ => ⟨S64x4x64, .f32⟩
  | .hbm, ⟨69, _⟩ => ⟨S64x256, .f32⟩
  | .hbm, ⟨70, _⟩ => ⟨S64x1x4x64, .f32⟩
  | .hbm, ⟨71, _⟩ => ⟨S64x4x64, .f32⟩
  | .hbm, ⟨72, _⟩ => ⟨S1x64, .f32⟩
  | .hbm, ⟨73, _⟩ => ⟨S64, .f32⟩
  | .hbm, ⟨74, _⟩ => ⟨S64x4x64, .f32⟩
  | .hbm, ⟨75, _⟩ => ⟨S_, .f32⟩
  | .hbm, ⟨76, _⟩ => ⟨S64x4, .f32⟩
  | .hbm, ⟨77, _⟩ => ⟨S64x4x1, .f32⟩
  | .hbm, ⟨78, _⟩ => ⟨S_, .f32⟩
  | .hbm, ⟨79, _⟩ => ⟨S64x4x1, .f32⟩
  | .hbm, ⟨80, _⟩ => ⟨S64x4x1, .f32⟩
  | .hbm, ⟨81, _⟩ => ⟨S_, .f32⟩
  | .hbm, ⟨82, _⟩ => ⟨S64x4x1, .f32⟩
  | .hbm, ⟨83, _⟩ => ⟨S64x4x1, .f32⟩
  | .hbm, ⟨84, _⟩ => ⟨S64x4x1, .f32⟩
  | .hbm, ⟨85, _⟩ => ⟨S64x4x64, .f32⟩
  | .hbm, ⟨86, _⟩ => ⟨S64x4x64, .f32⟩
  | .hbm, ⟨87, _⟩ => ⟨S1x1x64, .f32⟩
  | .hbm, ⟨88, _⟩ => ⟨S64x4x64, .f32⟩
  | .hbm, ⟨89, _⟩ => ⟨S64x4x64, .f32⟩
  | .hbm, ⟨90, _⟩ => ⟨S64x256, .f32⟩
  | .hbm, ⟨91, _⟩ => ⟨S64x4144, .f32⟩
  | .hbm, ⟨92, _⟩ => ⟨S64x4144, .f32⟩
  | .hbm, ⟨93, _⟩ => ⟨S64x4144, .f32⟩
  | .hbm, ⟨94, _⟩ => ⟨S_, .f32⟩
  | .hbm, ⟨95, _⟩ => ⟨S64x4144, .f32⟩
  | .hbm, ⟨96, _⟩ => ⟨S64x4144, .f32⟩
  | .hbm, ⟨97, _⟩ => ⟨S_, .f32⟩
  | .hbm, ⟨98, _⟩ => ⟨S64x4144, .f32⟩
  | .hbm, ⟨99, _⟩ => ⟨S64x4144, .f32⟩
  | .hbm, ⟨100, _⟩ => ⟨S64x512, .f32⟩
  | .hbm, ⟨101, _⟩ => ⟨S64x256, .f32⟩
  | .hbm, ⟨102, _⟩ => ⟨S64x256, .f32⟩
  | .hbm, ⟨103, _⟩ => ⟨S64x4096, .f32⟩
  | .hbm, ⟨104, _⟩ => ⟨S64x512, .f32⟩
  | .hbm, ⟨105, _⟩ => ⟨S64x9216, .f32⟩
  | _, _ => ⟨S64x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_6 : Ref sig .tc := ⟨.hbm, 54, rfl⟩
abbrev main_v43 : Ref sig .tc := ⟨.hbm, 55, rfl⟩
abbrev main_v44 : Ref sig .tc := ⟨.hbm, 56, rfl⟩
abbrev main_cst_7 : Ref sig .tc := ⟨.hbm, 57, rfl⟩
abbrev main_v45 : Ref sig .tc := ⟨.hbm, 58, rfl⟩
abbrev main_v46 : Ref sig .tc := ⟨.hbm, 59, rfl⟩
abbrev main_cst_8 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_cst_9 : Ref sig .tc := ⟨.hbm, 75, rfl⟩
abbrev main_v61 : Ref sig .tc := ⟨.hbm, 76, rfl⟩
abbrev main_v62 : Ref sig .tc := ⟨.hbm, 77, rfl⟩
abbrev main_cst_10 : Ref sig .tc := ⟨.hbm, 78, rfl⟩
abbrev main_v63 : Ref sig .tc := ⟨.hbm, 79, rfl⟩
abbrev main_v64 : Ref sig .tc := ⟨.hbm, 80, rfl⟩
abbrev main_cst_11 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_cst_12 : Ref sig .tc := ⟨.hbm, 94, rfl⟩
abbrev main_v77 : Ref sig .tc := ⟨.hbm, 95, rfl⟩
abbrev main_v78 : Ref sig .tc := ⟨.hbm, 96, rfl⟩
abbrev main_cst_13 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩

abbrev nD : Nat := 1
abbrev τ : Topo := Topo.v7x

variable {F : FTy → Type} [FloatOps F]
-- ==== Upsample.lean ====
abbrev S64x2048 : Shape := ⟨2, ![64, 2048]⟩
abbrev S2x2048x5632 : Shape := ⟨3, ![2, 2048, 5632]⟩
abbrev S2x3x5632 : Shape := ⟨3, ![2, 3, 5632]⟩
abbrev S2x5632 : Shape := ⟨2, ![2, 5632]⟩
abbrev S8x2x5632 : Shape := ⟨3, ![8, 2, 5632]⟩
abbrev S8x1x5632 : Shape := ⟨3, ![8, 1, 5632]⟩
abbrev S8x5632 : Shape := ⟨2, ![8, 5632]⟩
abbrev S8x8x5632 : Shape := ⟨3, ![8, 8, 5632]⟩
abbrev S64x5632 : Shape := ⟨2, ![64, 5632]⟩
abbrev S2x1x5632 : Shape := ⟨3, ![2, 1, 5632]⟩
abbrev S1x64x5632 : Shape := ⟨3, ![1, 64, 5632]⟩
abbrev S1x2048x512 : Shape := ⟨3, ![1, 2048, 512]⟩
abbrev S1x3x512 : Shape := ⟨3, ![1, 3, 512]⟩
abbrev S1x1x512 : Shape := ⟨3, ![1, 1, 512]⟩
abbrev S64x512 : Shape := ⟨2, ![64, 512]⟩
abbrev S1x64x512 : Shape := ⟨3, ![1, 64, 512]⟩
abbrev S2048x512 : Shape := ⟨2, ![2048, 512]⟩
abbrev S72x512 : Shape := ⟨2, ![72, 512]⟩
abbrev S8x512 : Shape := ⟨2, ![8, 512]⟩
abbrev S64x1 : Shape := ⟨2, ![64, 1]⟩
abbrev S1x512 : Shape := ⟨2, ![1, 512]⟩

abbrev nBuf : Space → Nat
  | .hbm => 17
  | .vmem => 20
  | .smem => 0
  | _ => 0

abbrev bufTy : (tb : Table) → Fin (tcTables nBuf tb) → BufTy
  | .hbm, ⟨0, _⟩ => ⟨S64x2048, .bf16⟩
  | .hbm, ⟨1, _⟩ => ⟨S2x2048x5632, .f32⟩
  | .hbm, ⟨2, _⟩ => ⟨S2x2048x5632, .f32⟩
  | .hbm, ⟨3, _⟩ => ⟨S2x3x5632, .f32⟩
  | .hbm, ⟨4, _⟩ => ⟨S2x5632, .f32⟩
  | .hbm, ⟨5, _⟩ => ⟨S8x2x5632, .f32⟩
  | .hbm, ⟨6, _⟩ => ⟨S8x1x5632, .f32⟩
  | .hbm, ⟨7, _⟩ => ⟨S8x5632, .f32⟩
  | .hbm, ⟨8, _⟩ => ⟨S8x8x5632, .f32⟩
  | .hbm, ⟨9, _⟩ => ⟨S64x5632, .f32⟩
  | .hbm, ⟨10, _⟩ => ⟨S8x1x5632, .f32⟩
  | .hbm, ⟨11, _⟩ => ⟨S8x5632, .f32⟩
  | .hbm, ⟨12, _⟩ => ⟨S8x8x5632, .f32⟩
  | .hbm, ⟨13, _⟩ => ⟨S64x5632, .f32⟩
  | .hbm, ⟨14, _⟩ => ⟨S2x1x5632, .f32⟩
  | .hbm, ⟨15, _⟩ => ⟨S64x5632, .bf16⟩
  | .hbm, ⟨16, _⟩ => ⟨S1x64x5632, .f32⟩
  | .local _ .vmem, ⟨0, _⟩ => ⟨S64x2048, .bf16⟩
  | .local _ .vmem, ⟨1, _⟩ => ⟨S1x2048x512, .f32⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x3x512, .f32⟩
  | .local _ .vmem, ⟨6, _⟩ => ⟨S1x3x512, .f32⟩
  | .local _ .vmem, ⟨7, _⟩ => ⟨S1x1x512, .f32⟩
  | .local _ .vmem, ⟨8, _⟩ => ⟨S1x1x512, .f32⟩
  | .local _ .vmem, ⟨9, _⟩ => ⟨S64x512, .f32⟩
  | .local _ .vmem, ⟨10, _⟩ => ⟨S64x512, .f32⟩
  | .local _ .vmem, ⟨11, _⟩ => ⟨S64x512, .f32⟩
  | .local _ .vmem, ⟨12, _⟩ => ⟨S64x512, .f32⟩
  | .local _ .vmem, ⟨13, _⟩ => ⟨S64x512, .bf16⟩
  | .local _ .vmem, ⟨14, _⟩ => ⟨S64x512, .bf16⟩
  | .local _ .vmem, ⟨15, _⟩ => ⟨S1x64x512, .f32⟩
  | .local _ .vmem, ⟨16, _⟩ => ⟨S1x64x512, .f32⟩
  | .local _ .vmem, ⟨17, _⟩ => ⟨S2048x512, .bf16⟩
  | .local _ .vmem, ⟨18, _⟩ => ⟨S2048x512, .bf16⟩
  | .local _ .vmem, ⟨19, _⟩ => ⟨S72x512, .f32⟩
  | _, _ => ⟨S64x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![11, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 1 → Memref sig .tc .vmem S64x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x64x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== RefUpsampleIdeal.lean ====
abbrev S64x2048 : Shape := ⟨2, ![64, 2048]⟩
abbrev S2x2048x5632 : Shape := ⟨3, ![2, 2048, 5632]⟩
abbrev S2x3x5632 : Shape := ⟨3, ![2, 3, 5632]⟩
abbrev S2x5632 : Shape := ⟨2, ![2, 5632]⟩
abbrev S8x2x5632 : Shape := ⟨3, ![8, 2, 5632]⟩
abbrev S8x8x2048 : Shape := ⟨3, ![8, 8, 2048]⟩
abbrev S1x2048x5632 : Shape := ⟨3, ![1, 2048, 5632]⟩
abbrev S2048x5632 : Shape := ⟨2, ![2048, 5632]⟩
abbrev S8x8x5632 : Shape := ⟨3, ![8, 8, 5632]⟩
abbrev S8x10x5632 : Shape := ⟨3, ![8, 10, 5632]⟩
abbrev S1x1x5632 : Shape := ⟨3, ![1, 1, 5632]⟩
abbrev S5632 : Shape := ⟨1, ![5632]⟩
abbrev S_ : Shape := ⟨0, ![]⟩
abbrev S1x5632 : Shape := ⟨2, ![1, 5632]⟩
abbrev S64x5632 : Shape := ⟨2, ![64, 5632]⟩
abbrev S1x64x5632 : Shape := ⟨3, ![1, 64, 5632]⟩

abbrev nBuf : Space → Nat
  | .hbm => 64
  | .vmem => 0
  | .smem => 0
  | _ => 0

abbrev bufTy : (tb : Table) → Fin (tcTables nBuf tb) → BufTy
  | .hbm, ⟨0, _⟩ => ⟨S64x2048, .bf16⟩
  | .hbm, ⟨1, _⟩ => ⟨S2x2048x5632, .f32⟩
  | .hbm, ⟨2, _⟩ => ⟨S2x2048x5632, .f32⟩
  | .hbm, ⟨3, _⟩ => ⟨S2x3x5632, .f32⟩
  | .hbm, ⟨4, _⟩ => ⟨S2x5632, .f32⟩
  | .hbm, ⟨5, _⟩ => ⟨S8x2x5632, .f32⟩
  | .hbm, ⟨6, _⟩ => ⟨S64x2048, .f32⟩
  | .hbm, ⟨7, _⟩ => ⟨S8x8x2048, .f32⟩
  | .hbm, ⟨8, _⟩ => ⟨S1x2048x5632, .f32⟩
  | .hbm, ⟨9, _⟩ => ⟨S2048x5632, .f32⟩
  | .hbm, ⟨10, _⟩ => ⟨S8x8x5632, .f32⟩
  | .hbm, ⟨11, _⟩ => ⟨S1x2048x5632, .f32⟩
  | .hbm, ⟨12, _⟩ => ⟨S2048x5632, .f32⟩
  | .hbm, ⟨13, _⟩ => ⟨S8x8x5632, .f32⟩
  | .hbm, ⟨14, _⟩ => ⟨S8x10x5632, .f32⟩
  | .hbm, ⟨15, _⟩ => ⟨S8x8x5632, .f32⟩
  | .hbm, ⟨16, _⟩ => ⟨S1x1x5632, .f32⟩
  | .hbm, ⟨17, _⟩ => ⟨S5632, .f32⟩
  | .hbm, ⟨18, _⟩ => ⟨S1x1x5632, .f32⟩
  | .hbm, ⟨19, _⟩ => ⟨S8x8x5632, .f32⟩
  | .hbm, ⟨20, _⟩ => ⟨S8x8x5632, .f32⟩
  | .hbm, ⟨21, _⟩ => ⟨S_, .f32⟩
  | .hbm, ⟨22, _⟩ => ⟨S8x8x5632, .f32⟩
  | .hbm, ⟨23, _⟩ => ⟨S8x8x5632, .f32⟩
  | .hbm, ⟨24, _⟩ => ⟨S8x8x5632, .f32⟩
  | .hbm, ⟨25, _⟩ => ⟨S1x1x5632, .f32⟩
  | .hbm, ⟨26, _⟩ => ⟨S5632, .f32⟩
  | .hbm, ⟨27, _⟩ => ⟨S1x1x5632, .f32⟩
  | .hbm, ⟨28, _⟩ => ⟨S8x8x5632, .f32⟩
  | .hbm, ⟨29, _⟩ => ⟨S8x8x5632, .f32⟩
  | .hbm, ⟨30, _⟩ => ⟨S8x8x5632, .f32⟩
  | .hbm, ⟨31, _⟩ => ⟨S8x8x5632, .f32⟩
  | .hbm, ⟨32, _⟩ => ⟨S1x1x5632, .f32⟩
  | .hbm, ⟨33, _⟩ => ⟨S5632, .f32⟩
  | .hbm, ⟨34, _⟩ => ⟨S1x1x5632, .f32⟩
  | .hbm, ⟨35, _⟩ => ⟨S8x8x5632, .f32⟩
  | .hbm, ⟨36, _⟩ => ⟨S8x8x5632, .f32⟩
  | .hbm, ⟨37, _⟩ => ⟨S8x8x5632, .f32⟩
  | .hbm, ⟨38, _⟩ => ⟨S1x5632, .f32⟩
  | .hbm, ⟨39, _⟩ => ⟨S5632, .f32⟩
  | .hbm, ⟨40, _⟩ => ⟨S1x1x5632, .f32⟩
  | .hbm, ⟨41, _⟩ => ⟨S8x8x5632, .f32⟩
  | .hbm, ⟨42, _⟩ => ⟨S8x8x5632, .f32⟩
  | .hbm, ⟨43, _⟩ => ⟨S8x8x5632, .f32⟩
  | .hbm, ⟨44, _⟩ => ⟨S8x8x5632, .f32⟩
  | .hbm, ⟨45, _⟩ => ⟨S_, .f32⟩
  | .hbm, ⟨46, _⟩ => ⟨S8x8x5632, .f32⟩
  | .hbm, ⟨47, _⟩ => ⟨S8x8x5632, .f32⟩
  | .hbm, ⟨48, _⟩ => ⟨S8x8x5632, .f32⟩
  | .hbm, ⟨49, _⟩ => ⟨S_, .f32⟩
  | .hbm, ⟨50, _⟩ => ⟨S8x8x5632, .f32⟩
  | .hbm, ⟨51, _⟩ => ⟨S8x8x5632, .f32⟩
  | .hbm, ⟨52, _⟩ => ⟨S8x8x5632, .f32⟩
  | .hbm, ⟨53, _⟩ => ⟨S_, .f32⟩
  | .hbm, ⟨54, _⟩ => ⟨S8x8x5632, .f32⟩
  | .hbm, ⟨55, _⟩ => ⟨S8x8x5632, .f32⟩
  | .hbm, ⟨56, _⟩ => ⟨S_, .f32⟩
  | .hbm, ⟨57, _⟩ => ⟨S8x8x5632, .f32⟩
  | .hbm, ⟨58, _⟩ => ⟨S8x8x5632, .f32⟩
  | .hbm, ⟨59, _⟩ => ⟨S8x8x5632, .f32⟩
  | .hbm, ⟨60, _⟩ => ⟨S8x8x5632, .f32⟩
  | .hbm, ⟨61, _⟩ => ⟨S8x8x5632, .bf16⟩
  | .hbm, ⟨62, _⟩ => ⟨S64x5632, .bf16⟩
  | .hbm, ⟨63, _⟩ => ⟨S1x64x5632, .f32⟩
  | _, _ => ⟨S64x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_cst_0 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_cst_1 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_cst_2 : Ref sig .tc := ⟨.hbm, 53, rfl⟩
abbrev main_v44 : Ref sig .tc := ⟨.hbm, 54, rfl⟩
abbrev main_v45 : Ref sig .tc := ⟨.hbm, 55, rfl⟩
abbrev main_cst_3 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩

abbrev nD : Nat := 1
abbrev τ : Topo := Topo.v7x

variable {F : FTy → Type} [FloatOps F]
-- ==== Proof.BranchValue.lean ====
module

public import proofs.«01_k».proof.Proof.Gen.BranchIdeal.Value
public import Idealize.ShloMosaic.Lib.Pipeline.ValueKit.Point
public import Idealize.ShloMosaic.Lib.WholeRead
public import Idealize.ShloMosaic.Lib.Writes
public import Idealize.ShloMosaic.Lib.Tactic
public import Idealize.ShloMosaic.Lib.StableHlo.Run

@[expose] public section

set_option maxRecDepth 16384

noncomputable section

namespace Cert.BranchIdeal.Value

open Cert.BranchIdeal Cert.BranchIdeal.Gen Idealize.ShloMosaic Idealize.ShloMosaic.TcCoe Idealize.SL.Sem

local notation "I" => Idealize.ShloMosaic.Ideal

/-- The tile a grid point leaves: each gate tile times the product of its branch rows with its half of the weight rows,
    added. -/
def tile (a b : Vec I S1024x1024 .bf16) (w : Vec I S2048x512 .bf16) (g h : Vec I S1024x512 .f32) :
    Vec I S1024x512 .bf16 := fun y =>
  (g y * ∑ k : Fin 1024, a (ix2 (y 0) k) * w (ix2 (Fin.castLE (by omega) k) (y 1)) +
    h y * ∑ k : Fin 1024, b (ix2 (y 0) k) * w (ix2 (Fin.natAdd 1024 k) (y 1)) : EReal)

/-- At a point that keeps the weight scratch, the output tile is `tile` of the carried scratch. -/
theorem out_B (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1x2048x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x512 .bf16) (harg7 : arg7.IsWhole) (arg8 : Memref sig .tc .vmem S2048x512 .bf16) (harg8 : arg8.IsWhole) (hc0 : ¬cond0_0 i)
    (x0 : Vec I S1024x1024 .bf16) (x1 : Vec I S1024x1024 .bf16) (x2 : Vec I S1x2048x512 .f32) (x3 : Vec I S1024x512 .f32) (x4 : Vec I S1024x512 .f32) (xs0 : Vec I S2048x512 .bf16) :
    out0_B_5 c i arg2 harg2 arg3 harg3 arg4 harg4 arg5 harg5 arg6 harg6 arg7 harg7 arg8 harg8 hc0 x0 x1 x2 x3 x4 xs0 = tile x0 x1 xs0 x3 x4 := by
  funext y
  unfold out0_B_5
  refine View.read_writes_apply_of_pieces _ _ (tile x0 x1 xs0 x3 x4) _ ?_ y (cover0_B_5 c i arg2 harg2 arg3 harg3 arg4 harg4 arg5 harg5 arg6 harg6 arg7 harg7 arg8 harg8 hc0 x0 x1 x2 x3 x4 xs0 y)
  unfold kernelRun0_B
  dsimp only
  sl_unfold_words
  simp only [List.forall_mem_cons]
  refine ⟨?_, ?_, ?_, ?_, by simp⟩
  · intro x
    try unfold k0_pay1
    try unfold k0_pay3
    try unfold k0_pay6
    try unfold k0_pay7
    try unfold k0_pay4
    try unfold k0_pay5
    try unfold k0_pay8
    try unfold k0_pay9
    unfold tile
    pointwise
    simp only [Memref.IsWhole.readAt_unread]
    (with_reducible congr!) <;> (funext a; fin_cases a <;> first | rfl | exact Fin.ext (by show 0 + 1 * _ = _; omega) | (apply Fin.ext; simp [ix2, ix3]; done) | (apply Fin.ext; simp [ix2, ix3]; omega))
  · intro x
    try unfold k0_pay1
    try unfold k0_pay3
    try unfold k0_pay6
    try unfold k0_pay7
    try unfold k0_pay4
    try unfold k0_pay5
    try unfold k0_pay8
    try unfold k0_pay9
    unfold tile
    pointwise
    simp only [Memref.IsWhole.readAt_unread]
    (with_reducible congr!) <;> (funext a; fin_cases a <;> first | rfl | exact Fin.ext (by show 0 + 1 * _ = _; omega) | (apply Fin.ext; simp [ix2, ix3]; done) | (apply Fin.ext; simp [ix2, ix3]; omega))
  · intro x
    try unfold k0_pay1
    try unfold k0_pay3
    try unfold k0_pay6
    try unfold k0_pay7
    try unfold k0_pay4
    try unfold k0_pay5
    try unfold k0_pay8
    try unfold k0_pay9
    unfold tile
    pointwise
    simp only [Memref.IsWhole.readAt_unread]
    (with_reducible congr!) <;> (funext a; fin_cases a <;> first | rfl | exact Fin.ext (by show 0 + 1 * _ = _; omega) | (apply Fin.ext; simp [ix2, ix3]; done) | (apply Fin.ext; simp [ix2, ix3]; omega))
  · intro x
    try unfold k0_pay1
    try unfold k0_pay3
    try unfold k0_pay6
    try unfold k0_pay7
    try unfold k0_pay4
    try unfold k0_pay5
    try unfold k0_pay8
    try unfold k0_pay9
    unfold tile
    pointwise
    simp only [Memref.IsWhole.readAt_unread]
    (with_reducible congr!) <;> (funext a; fin_cases a <;> first | rfl | exact Fin.ext (by show 0 + 1 * _ = _; omega) | (apply Fin.ext; simp [ix2, ix3]; done) | (apply Fin.ext; simp [ix2, ix3]; omega))

/-- At the first point of a column sweep the scratch takes the weight block (its rounding to bf16 is the identity on
    extended reals). -/
theorem sout_A (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1x2048x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x512 .bf16) (harg7 : arg7.IsWhole) (arg8 : Memref sig .tc .vmem S2048x512 .bf16) (harg8 : arg8.IsWhole) (hc0 : cond0_0 i)
    (x0 : Vec I S1024x1024 .bf16) (x1 : Vec I S1024x1024 .bf16) (x2 : Vec I S1x2048x512 .f32) (x3 : Vec I S1024x512 .f32) (x4 : Vec I S1024x512 .f32) :
    sout0_A_0 c i arg2 harg2 arg3 harg3 arg4 harg4 arg5 harg5 arg6 harg6 arg7 harg7 arg8 harg8 hc0 x0 x1 x2 x3 x4 = fun y => x2 (ix3 0 (y 0) (y 1)) := by
  funext y
  unfold sout0_A_0
  rw [View.read_writes_eq_canon _ _ _ (scover0_A_0 c i arg2 harg2 arg3 harg3 arg4 harg4 arg5 harg5 arg6 harg6 arg7 harg7 arg8 harg8 hc0 x0 x1 x2 x3 x4)]
  unfold kernelRun0_A
  dsimp only
  sl_unfold_words
  rw [View.canon_unit_zero (by funext a; fin_cases a <;> rfl)]
  unfold k0_pay2
  pointwise
  simp only [Memref.IsWhole.readAt_unread]
  (with_reducible congr!) <;> (funext a; fin_cases a <;> first | rfl | exact Fin.ext (by show 0 + 1 * _ = _; omega) | (apply Fin.ext; simp [ix2, ix3]; done) | (apply Fin.ext; simp [ix2, ix3]; omega))

/-- At the first point of a column sweep the output tile is `tile` of the weight block just stored. -/
theorem out_A (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1x2048x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x512 .bf16) (harg7 : arg7.IsWhole) (arg8 : Memref sig .tc .vmem S2048x512 .bf16) (harg8 : arg8.IsWhole) (hc0 : cond0_0 i)
    (x0 : Vec I S1024x1024 .bf16) (x1 : Vec I S1024x1024 .bf16) (x2 : Vec I S1x2048x512 .f32) (x3 : Vec I S1024x512 .f32) (x4 : Vec I S1024x512 .f32) :
    out0_A_5 c i arg2 harg2 arg3 harg3 arg4 harg4 arg5 harg5 arg6 harg6 arg7 harg7 arg8 harg8 hc0 x0 x1 x2 x3 x4 = tile x0 x1 (fun y => x2 (ix3 0 (y 0) (y 1))) x3 x4 := by
  funext y
  unfold out0_A_5
  refine View.read_writes_apply_of_pieces _ _ (tile x0 x1 (fun y => x2 (ix3 0 (y 0) (y 1))) x3 x4) _ ?_ y (cover0_A_5 c i arg2 harg2 arg3 harg3 arg4 harg4 arg5 harg5 arg6 harg6 arg7 harg7 arg8 harg8 hc0 x0 x1 x2 x3 x4 y)
  unfold kernelRun0_A
  dsimp only
  sl_unfold_words
  have hz : (![0, 0] : Fin 2 → Nat) = fun _ => 0 := by funext a; fin_cases a <;> rfl
  simp only [View.readCov_eq_canon', View.canon_unit_zero (S := S2048x512) hz]
  simp only [List.forall_mem_cons]
  refine ⟨?_, ?_, ?_, ?_, by simp⟩
  · intro x
    try unfold k0_pay1
    try unfold k0_pay3
    try unfold k0_pay6
    try unfold k0_pay7
    try unfold k0_pay4
    try unfold k0_pay5
    try unfold k0_pay8
    try unfold k0_pay9
    try unfold k0_pay2
    unfold tile
    pointwise
    simp only [Memref.IsWhole.readAt_unread]
    (with_reducible congr!) <;> (funext a; fin_cases a <;> first | rfl | exact Fin.ext (by show 0 + 1 * _ = _; omega) | (apply Fin.ext; simp [ix2, ix3]; done) | (apply Fin.ext; simp [ix2, ix3]; omega))
  · intro x
    try unfold k0_pay1
    try unfold k0_pay3
    try unfold k0_pay6
    try unfold k0_pay7
    try unfold k0_pay4
    try unfold k0_pay5
    try unfold k0_pay8
    try unfold k0_pay9
    try unfold k0_pay2
    unfold tile
    pointwise
    simp only [Memref.IsWhole.readAt_unread]
    (with_reducible congr!) <;> (funext a; fin_cases a <;> first | rfl | exact Fin.ext (by show 0 + 1 * _ = _; omega) | (apply Fin.ext; simp [ix2, ix3]; done) | (apply Fin.ext; simp [ix2, ix3]; omega))
  · intro x
    try unfold k0_pay1
    try unfold k0_pay3
    try unfold k0_pay6
    try unfold k0_pay7
    try unfold k0_pay4
    try unfold k0_pay5
    try unfold k0_pay8
    try unfold k0_pay9
    try unfold k0_pay2
    unfold tile
    pointwise
    simp only [Memref.IsWhole.readAt_unread]
    (with_reducible congr!) <;> (funext a; fin_cases a <;> first | rfl | exact Fin.ext (by show 0 + 1 * _ = _; omega) | (apply Fin.ext; simp [ix2, ix3]; done) | (apply Fin.ext; simp [ix2, ix3]; omega))
  · intro x
    try unfold k0_pay1
    try unfold k0_pay3
    try unfold k0_pay6
    try unfold k0_pay7
    try unfold k0_pay4
    try unfold k0_pay5
    try unfold k0_pay8
    try unfold k0_pay9
    try unfold k0_pay2
    unfold tile
    pointwise
    simp only [Memref.IsWhole.readAt_unread]
    (with_reducible congr!) <;> (funext a; fin_cases a <;> first | rfl | exact Fin.ext (by show 0 + 1 * _ = _; omega) | (apply Fin.ext; simp [ix2, ix3]; done) | (apply Fin.ext; simp [ix2, ix3]; omega))

/-! ## The blocks the points read, at coordinates -/

theorem idx0 : ∀ t : Fin cfg0.N, win0_0.index t = ![t.val % 8, 0] := by decide +kernel
theorem idx1 : ∀ t : Fin cfg0.N, win0_1.index t = ![t.val % 8, 0] := by decide +kernel
theorem idx2 : ∀ t : Fin cfg0.N, win0_2.index t = ![0, 0, t.val / 8] := by decide +kernel
theorem idx3 : ∀ t : Fin cfg0.N, win0_3.index t = ![t.val % 8, 9 + t.val / 8] := by decide +kernel
theorem idx4 : ∀ t : Fin cfg0.N, win0_4.index t = ![t.val % 8, 13 + t.val / 8] := by decide +kernel

variable (m : (ℓ : Loc nD τ sig) → Buf (Elt I) ℓ)

/-- The block of rows of the first branch at a point, read at an index. -/
theorem blk0 (c : Dev nD) (t : Fin cfg0.N) (y : S1024x1024.Idx) (i : S8192x1024.Idx)
    (h0 : (i 0).val = 1024 * (t.val % 8) + (y 0).val) (h1 : (i 1).val = (y 1).val) :
    (iblk m c 0 t : Vec I S1024x1024 .bf16) y = m ((c : Thread nD τ).loc main_arg0) i := by
  blk_ext! [iblk, V, idx0 t]

/-- The block of rows of the second branch at a point, read at an index. -/
theorem blk1 (c : Dev nD) (t : Fin cfg0.N) (y : S1024x1024.Idx) (i : S8192x1024.Idx)
    (h0 : (i 0).val = 1024 * (t.val % 8) + (y 0).val) (h1 : (i 1).val = (y 1).val) :
    (iblk m c 1 t : Vec I S1024x1024 .bf16) y = m ((c : Thread nD τ).loc main_arg1) i := by
  blk_ext! [iblk, V, idx1 t]

/-- The weight block of a point, read at an index. -/
theorem blk2 (c : Dev nD) (t : Fin cfg0.N) (y : S1x2048x512.Idx) (i : S2x2048x2048.Idx)
    (h0 : (i 0).val = 0) (h1 : (i 1).val = (y 1).val) (h2 : (i 2).val = 512 * (t.val / 8) + (y 2).val) :
    (iblk m c 2 t : Vec I S1x2048x512 .f32) y = m ((c : Thread nD τ).loc main_arg2) i := by
  blk_ext! [iblk, V, idx2 t]

/-- The first gate block of a point, read at an index. -/
theorem blk3 (c : Dev nD) (t : Fin cfg0.N) (y : S1024x512.Idx) (i : S8192x9216.Idx)
    (h0 : (i 0).val = 1024 * (t.val % 8) + (y 0).val) (h1 : (i 1).val = 4608 + 512 * (t.val / 8) + (y 1).val) :
    (iblk m c 3 t : Vec I S1024x512 .f32) y = m ((c : Thread nD τ).loc main_arg3) i := by
  blk_ext! [iblk, V, idx3 t]

/-- The second gate block of a point, read at an index. -/
theorem blk4 (c : Dev nD) (t : Fin cfg0.N) (y : S1024x512.Idx) (i : S8192x9216.Idx)
    (h0 : (i 0).val = 1024 * (t.val % 8) + (y 0).val) (h1 : (i 1).val = 6656 + 512 * (t.val / 8) + (y 1).val) :
    (iblk m c 4 t : Vec I S1024x512 .f32) y = m ((c : Thread nD τ).loc main_arg3) i := by
  blk_ext! [iblk, V, idx4 t]

/-! ## The carried weight scratch and the output -/

/-- After every point the scratch holds the weight columns of the point's sweep. -/
theorem scratch (c : Dev nD) : ∀ (n : ℕ) (h : n < cfg0.N) (y : S2048x512.Idx) (i : S2x2048x2048.Idx),
    (i 0).val = 0 → (i 1).val = (y 0).val → (i 2).val = 512 * (n / 8) + (y 1).val →
    (outsAt0 m c n h).2 y = m ((c : Thread nD τ).loc main_arg2) i := by
  intro n
  induction n with
  | zero =>
    intro h y i e0 e1 e2
    rw [outsAt0_A m c ⟨0, h⟩ rfl]
    dsimp only
    rw [sout_A]
    exact blk2 m c ⟨0, h⟩ _ i e0 e1 e2
  | succ n ih =>
    intro h y i e0 e1 e2
    by_cases h8 : (n + 1) % 8 = 0
    · rw [outsAt0_A m c ⟨n + 1, h⟩ h8]
      dsimp only
      rw [sout_A]
      exact blk2 m c ⟨n + 1, h⟩ _ i e0 e1 e2
    · rw [outsAt0_B m c ⟨n + 1, h⟩ h8]
      exact ih _ y i e0 e1 (by omega)

/-- The gated sum of the two projected branches, one element: each merge gate of the row times the row of its branch by
    the column of its half of the weights. -/
def merged (a b : Vec I S8192x1024 .bf16) (w : Vec I S2x2048x2048 .f32) (p : Vec I S8192x9216 .f32) :
    Vec I S8192x2048 .bf16 := fun i =>
  (p (ix2 (i 0) ⟨4608 + (i 1).val, by have : (i 1).val < 2048 := (i 1).isLt; omega⟩) *
      ∑ k : Fin 1024, a (ix2 (i 0) k) * w (ix3 0 (Fin.castLE (by omega) k) (i 1)) +
    p (ix2 (i 0) ⟨4608 + (2048 + (i 1).val), by have : (i 1).val < 2048 := (i 1).isLt; omega⟩) *
      ∑ k : Fin 1024, b (ix2 (i 0) k) * w (ix3 0 (Fin.natAdd 1024 k) (i 1)) : EReal)

/-- The kernel's result array is `merged` of its arguments. -/
theorem G5_eq (c : Dev nD) : G5 m c = merged (m ((c : Thread nD τ).loc main_arg0)) (m ((c : Thread nD τ).loc main_arg1))
    (m ((c : Thread nD τ).loc main_arg2)) (m ((c : Thread nD τ).loc main_arg3)) := by
  funext i
  idx_bounds i
  have hN : cfg0.N = 32 := N_0
  have hp : pt5Of i < cfg0.N := by unfold pt5Of run5Of; omega
  have hG : G5 m c i = (outsAt0 m c (pt5Of i) hp).1 (loc5Of i) := by
    unfold G5
    rw [dif_pos hp, outsAt0_sweep m c (pt5Of i) hp]
  rw [hG]
  have hq8 : pt5Of i % 8 = (i 0).val / 1024 := by unfold pt5Of run5Of; omega
  have hd8 : pt5Of i / 8 = (i 1).val / 512 := by unfold pt5Of run5Of; omega
  have l0 : (loc5Of i 0).val = (i 0).val % 1024 := rfl
  have l1 : (loc5Of i 1).val = (i 1).val % 512 := rfl
  have key : ∀ (w : Vec I S2048x512 .bf16), (∀ (y : S2048x512.Idx) (j : S2x2048x2048.Idx),
      (j 0).val = 0 → (j 1).val = (y 0).val → (j 2).val = 512 * (pt5Of i / 8) + (y 1).val →
      w y = m ((c : Thread nD τ).loc main_arg2) j) →
      tile (iblk m c 0 ⟨pt5Of i, hp⟩) (iblk m c 1 ⟨pt5Of i, hp⟩) w (iblk m c 3 ⟨pt5Of i, hp⟩) (iblk m c 4 ⟨pt5Of i, hp⟩) (loc5Of i) =
      merged (m ((c : Thread nD τ).loc main_arg0)) (m ((c : Thread nD τ).loc main_arg1))
        (m ((c : Thread nD τ).loc main_arg2)) (m ((c : Thread nD τ).loc main_arg3)) i := by
    intro w hw
    unfold tile merged
    rw [blk3 m c ⟨pt5Of i, hp⟩ (loc5Of i) (ix2 (i 0) ⟨4608 + (i 1).val, by omega⟩)
        (by show (i 0).val = 1024 * (pt5Of i % 8) + (loc5Of i 0).val; omega)
        (by show 4608 + (i 1).val = 4608 + 512 * (pt5Of i / 8) + (loc5Of i 1).val; omega),
      blk4 m c ⟨pt5Of i, hp⟩ (loc5Of i) (ix2 (i 0) ⟨4608 + (2048 + (i 1).val), by omega⟩)
        (by show (i 0).val = 1024 * (pt5Of i % 8) + (loc5Of i 0).val; omega)
        (by show 4608 + (2048 + (i 1).val) = 6656 + 512 * (pt5Of i / 8) + (loc5Of i 1).val; omega)]
    refine congrArg₂ _ (congrArg _ (Finset.sum_congr rfl fun k _ => ?_)) (congrArg _ (Finset.sum_congr rfl fun k _ => ?_))
    · rw [blk0 m c ⟨pt5Of i, hp⟩ (ix2 (loc5Of i 0) k) (ix2 (i 0) k) (by show (i 0).val = 1024 * (pt5Of i % 8) + (loc5Of i 0).val; omega) rfl,
        hw _ (ix3 0 (Fin.castLE (by omega) k) (i 1)) rfl rfl (by show (i 1).val = 512 * (pt5Of i / 8) + (loc5Of i 1).val; omega)]
    · rw [blk1 m c ⟨pt5Of i, hp⟩ (ix2 (loc5Of i 0) k) (ix2 (i 0) k) (by show (i 0).val = 1024 * (pt5Of i % 8) + (loc5Of i 0).val; omega) rfl,
        hw _ (ix3 0 (Fin.natAdd 1024 k) (i 1)) rfl rfl (by show (i 1).val = 512 * (pt5Of i / 8) + (loc5Of i 1).val; omega)]
  by_cases h8 : pt5Of i % 8 = 0
  · rw [outsAt0_A m c ⟨pt5Of i, hp⟩ h8]
    dsimp only
    rw [out_A]
    exact key _ fun y j e0 e1 e2 => blk2 m c ⟨pt5Of i, hp⟩ _ j e0 e1 e2
  · rw [outsAt0_B m c ⟨pt5Of i, hp⟩ h8]
    dsimp only
    rw [out_B]
    exact key _ fun y j e0 e1 e2 => scratch m c _ _ y j e0 e1 (by rw [e2]; show _ = 512 * ((pt5Of i - 1) / 8) + _; omega)

end Cert.BranchIdeal.Value
-- ==== Proof.BranchTie.lean ====
module

public import proofs.«01_k».proof.Defs
public import proofs.«01_k».proof.Proof.BranchValue
public import proofs.«01_k».proof.Proof.Gen.RefBranchIdeal.Run
public import Idealize.ShloMosaic.Lib.Quiescent
public import Idealize.ShloMosaic.Lib.Tactic.ValueTie

@[expose] public section

set_option maxRecDepth 16384

noncomputable section

namespace Cert.Proof

open Idealize.ShloMosaic Idealize.SL.Sem

/-- The reference of the branch merge leaves its semaphores at zero and its arguments as they were. -/
theorem quiescent_RefBranchIdeal : quiescent_RefBranchIdeal := fun m ρ _ =>
  (θ_run Cert.RefBranchIdeal.defs _ _).mono (fun r h => ⟨fun c => (h c).2, sem_eq_zero_of_no_sems (by decide) r.2⟩)
    (Cert.RefBranchIdeal.Value.run (F := Ideal) m ρ)

/-- From equal arguments the branch merge kernel and its reference leave the same array. -/
theorem algebraic_BranchIdeal_RefBranchIdeal : algebraic_BranchIdeal_RefBranchIdeal := by
  intro m ρ m' ρ' _ hagree
  refine ⟨_, Cert.BranchIdeal.Value.run (F := Ideal) m ρ, ?_⟩
  refine (θ_run Cert.RefBranchIdeal.defs _ _).mono (fun _ h c => ⟨?_, (h c).2⟩) (Cert.RefBranchIdeal.Value.run (F := Ideal) m' ρ')
  rw [(h c).1]
  simp only [hagree c]
  rw [Cert.BranchIdeal.Value.G5_eq]
  refine funext fun i => ?_
  unfold Cert.BranchIdeal.Value.merged
  clean_types
  pointwise
  rfl

end Cert.Proof

end
-- ==== Proof.OutnormValue.lean ====
module

public import proofs.«01_k».proof.Proof.Gen.OutnormIdeal.Value
public import Idealize.ShloMosaic.Lib.Pipeline.ValueKit.Point
public import Idealize.ShloMosaic.Lib.WholeRead
public import Idealize.ShloMosaic.Lib.Writes
public import Idealize.ShloMosaic.Lib.Tactic
public import Idealize.ShloMosaic.Lib.StableHlo.Run

@[expose] public section

set_option maxRecDepth 16384

noncomputable section

namespace Cert.OutnormIdeal.Value

open Cert.OutnormIdeal Cert.OutnormIdeal.Gen Idealize.ShloMosaic Idealize.ShloMosaic.TcCoe Idealize.SL.Sem

local notation "I" => Idealize.ShloMosaic.Ideal

/-- The residual tile a grid point leaves: the residual rows plus the gate row times the product with the weights. -/
def tile (a : Vec I S512x2048 .bf16) (w : Vec I S2048x2048 .bf16) (x : Vec I S512x2048 .f32) (g : Vec I S1x1x2048 .f32) :
    Vec I S512x2048 .f32 := fun y =>
  (x y + g (ix3 0 0 (y 1)) * ∑ k : Fin 2048, a (ix2 (y 0) k) * w (ix2 k (y 1)) : EReal)

/-- The weight block as a matrix. -/
def wcols (w : Vec I S1x2048x2048 .f32) : Vec I S2048x2048 .bf16 := fun y => w (ix3 0 (y 0) (y 1))

/-- A tile normalized by the root mean square of its rows, then scaled by the norm weight, modulated and shifted. -/
def tileN (x : Vec I S512x2048 .f32) (n b s : Vec I S1x1x2048 .f32) : Vec I S512x2048 .bf16 := fun y =>
  ((x y * Ideal.rsqrt (Ideal.div (∑ k : Fin 2048, x (ix2 (y 0) k) * x (ix2 (y 0) k)) (Ideal.ofBits FTy.f32 1157627904#32) +
      Ideal.ofBits FTy.f32 897988541#32) * n (ix3 0 0 (y 1)) * (1 + s (ix3 0 0 (y 1)))) + b (ix3 0 0 (y 1)) : EReal)

/-- In case B output window 7 takes its tile. -/
theorem outX_B (c : Dev nD) (i : grid0.Coords) (arg1 : Memref sig .tc .vmem S512x2048 .bf16) (harg1 : arg1.IsWhole) (arg2 : Memref sig .tc .vmem S1x2048x2048 .f32) (harg2 : arg2.IsWhole) (arg3 : Memref sig .tc .vmem S512x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S2048x2048 .bf16) (harg10 : arg10.IsWhole) (hc0 : ¬cond0_0 i)
    (x0 : Vec I S512x2048 .bf16) (x1 : Vec I S1x2048x2048 .f32) (x2 : Vec I S512x2048 .f32) (x3 : Vec I S1x1x2048 .f32) (x4 : Vec I S1x1x2048 .f32) (x5 : Vec I S1x1x2048 .f32) (x6 : Vec I S1x1x2048 .f32) (xs0 : Vec I S2048x2048 .bf16) :
    out0_B_7 c i arg1 harg1 arg2 harg2 arg3 harg3 arg4 harg4 arg5 harg5 arg6 harg6 arg7 harg7 arg8 harg8 arg9 harg9 arg10 harg10 hc0 x0 x1 x2 x3 x4 x5 x6 xs0 = tile x0 xs0 x2 x3 := by
  funext y
  unfold out0_B_7
  refine View.read_writes_apply_of_pieces _ _ (tile x0 xs0 x2 x3) _ ?_ y (cover0_B_7 c i arg1 harg1 arg2 harg2 arg3 harg3 arg4 harg4 arg5 harg5 arg6 harg6 arg7 harg7 arg8 harg8 arg9 harg9 arg10 harg10 hc0 x0 x1 x2 x3 x4 x5 x6 xs0 y)
  unfold kernelRun0_B
  dsimp only
  sl_unfold_words
  simp only [List.forall_mem_cons]
  refine ⟨?_, ?_, by simp⟩
  · intro x
    try unfold k0_pay1
    try unfold k0_pay8
    try unfold k0_pay7
    try unfold k0_pay10
    try unfold k0_pay11
    try unfold k0_pay6
    try unfold k0_pay9
    unfold tile
    pointwise
    simp only [Memref.IsWhole.readAt_unread]
    (with_reducible congr!) <;> first | done | (funext a; fin_cases a <;> first | rfl | exact Fin.ext (by show 0 + 1 * _ = _; omega) | (apply Fin.ext; simp [ix2, ix3]; done) | (apply Fin.ext; simp [ix2, ix3]; omega))
  · intro x
    try unfold k0_pay1
    try unfold k0_pay8
    try unfold k0_pay7
    try unfold k0_pay10
    try unfold k0_pay11
    try unfold k0_pay6
    try unfold k0_pay9
    unfold tile
    pointwise
    simp only [Memref.IsWhole.readAt_unread]
    (with_reducible congr!) <;> first | done | (funext a; fin_cases a <;> first | rfl | exact Fin.ext (by show 0 + 1 * _ = _; omega) | (apply Fin.ext; simp [ix2, ix3]; done) | (apply Fin.ext; simp [ix2, ix3]; omega))

/-- In case B output window 8 takes its tile. -/
theorem outN_B (c : Dev nD) (i : grid0.Coords) (arg1 : Memref sig .tc .vmem S512x2048 .bf16) (harg1 : arg1.IsWhole) (arg2 : Memref sig .tc .vmem S1x2048x2048 .f32) (harg2 : arg2.IsWhole) (arg3 : Memref sig .tc .vmem S512x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S2048x2048 .bf16) (harg10 : arg10.IsWhole) (hc0 : ¬cond0_0 i)
    (x0 : Vec I S512x2048 .bf16) (x1 : Vec I S1x2048x2048 .f32) (x2 : Vec I S512x2048 .f32) (x3 : Vec I S1x1x2048 .f32) (x4 : Vec I S1x1x2048 .f32) (x5 : Vec I S1x1x2048 .f32) (x6 : Vec I S1x1x2048 .f32) (xs0 : Vec I S2048x2048 .bf16) :
    out0_B_8 c i arg1 harg1 arg2 harg2 arg3 harg3 arg4 harg4 arg5 harg5 arg6 harg6 arg7 harg7 arg8 harg8 arg9 harg9 arg10 harg10 hc0 x0 x1 x2 x3 x4 x5 x6 xs0 = tileN (tile x0 xs0 x2 x3) x4 x5 x6 := by
  funext y
  unfold out0_B_8
  refine View.read_writes_apply_of_pieces _ _ (tileN (tile x0 xs0 x2 x3) x4 x5 x6) _ ?_ y (cover0_B_8 c i arg1 harg1 arg2 harg2 arg3 harg3 arg4 harg4 arg5 harg5 arg6 harg6 arg7 harg7 arg8 harg8 arg9 harg9 arg10 harg10 hc0 x0 x1 x2 x3 x4 x5 x6 xs0 y)
  unfold kernelRun0_B
  dsimp only
  sl_unfold_words
  simp only [List.forall_mem_cons]
  refine ⟨?_, ?_, by simp⟩
  · intro x
    try unfold k0_pay1
    try unfold k0_pay8
    try unfold k0_pay7
    try unfold k0_pay10
    try unfold k0_pay11
    try unfold k0_pay6
    try unfold k0_pay9
    unfold tileN tile
    pointwise
    simp only [Memref.IsWhole.readAt_unread]
    (with_reducible congr!) <;> first | done | (funext a; fin_cases a <;> first | rfl | exact Fin.ext (by show 0 + 1 * _ = _; omega) | (apply Fin.ext; simp [ix2, ix3]; done) | (apply Fin.ext; simp [ix2, ix3]; omega))
  · intro x
    try unfold k0_pay1
    try unfold k0_pay8
    try unfold k0_pay7
    try unfold k0_pay10
    try unfold k0_pay11
    try unfold k0_pay6
    try unfold k0_pay9
    unfold tileN tile
    pointwise
    simp only [Memref.IsWhole.readAt_unread]
    (with_reducible congr!) <;> first | done | (funext a; fin_cases a <;> first | rfl | exact Fin.ext (by show 0 + 1 * _ = _; omega) | (apply Fin.ext; simp [ix2, ix3]; done) | (apply Fin.ext; simp [ix2, ix3]; omega))

/-- What the four column stores leave in the weight scratch: the weight block. -/
theorem wcanon (c : Dev nD) (i : grid0.Coords) (arg1 : Memref sig .tc .vmem S512x2048 .bf16) (harg1 : arg1.IsWhole) (arg2 : Memref sig .tc .vmem S1x2048x2048 .f32) (harg2 : arg2.IsWhole) (arg3 : Memref sig .tc .vmem S512x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S2048x2048 .bf16) (harg10 : arg10.IsWhole) (hc0 : cond0_0 i)
    (x0 : Vec I S512x2048 .bf16) (x1 : Vec I S1x2048x2048 .f32) (x2 : Vec I S512x2048 .f32) (x3 : Vec I S1x1x2048 .f32) (x4 : Vec I S1x1x2048 .f32) (x5 : Vec I S1x1x2048 .f32) (x6 : Vec I S1x1x2048 .f32) :
    View.canon [⟨Rect.unit ![0, 1536] ![2048, 512] inb_S2048x2048_S2048x512_0_1536, k0_pay5 (View.readAt (Elt I) arg2.view
        (Rect.unit ![0, 0, 1536] ![1, 2048, 512] inb_S1x2048x2048_S1x2048x512_0_0_1536).toLoadRect (harg2.unread x1))⟩,
      ⟨Rect.unit ![0, 1024] ![2048, 512] inb_S2048x2048_S2048x512_0_1024, k0_pay4 (View.readAt (Elt I) arg2.view
        (Rect.unit ![0, 0, 1024] ![1, 2048, 512] inb_S1x2048x2048_S1x2048x512_0_0_1024).toLoadRect (harg2.unread x1))⟩,
      ⟨Rect.unit ![0, 512] ![2048, 512] inb_S2048x2048_S2048x512_0_512, k0_pay3 (View.readAt (Elt I) arg2.view
        (Rect.unit ![0, 0, 512] ![1, 2048, 512] inb_S1x2048x2048_S1x2048x512_0_0_512).toLoadRect (harg2.unread x1))⟩,
      ⟨Rect.unit ![0, 0] ![2048, 512] inb_S2048x2048_S2048x512_0_0, k0_pay2 (View.readAt (Elt I) arg2.view
        (Rect.unit ![0, 0, 0] ![1, 2048, 512] inb_S1x2048x2048_S1x2048x512_0_0_0).toLoadRect (harg2.unread x1))⟩] = (wcols x1) := by
  funext y
  refine View.canon_apply_of_pieces (wcols x1) _ ?_ y (scover0_A_0 c i arg1 harg1 arg2 harg2 arg3 harg3 arg4 harg4 arg5 harg5 arg6 harg6 arg7 harg7 arg8 harg8 arg9 harg9 arg10 harg10 hc0 x0 x1 x2 x3 x4 x5 x6 y)
  simp only [List.forall_mem_cons]
  refine ⟨?_, ?_, ?_, ?_, by simp⟩
  · intro x
    unfold k0_pay5 wcols
    pointwise
    simp only [Memref.IsWhole.readAt_unread]
    (with_reducible congr!) <;> first | done | (funext a; fin_cases a <;> first | rfl | exact Fin.ext (by show 0 + 1 * _ = _; omega) | (apply Fin.ext; simp [ix2, ix3]; done) | (apply Fin.ext; simp [ix2, ix3]; omega))
  · intro x
    unfold k0_pay4 wcols
    pointwise
    simp only [Memref.IsWhole.readAt_unread]
    (with_reducible congr!) <;> first | done | (funext a; fin_cases a <;> first | rfl | exact Fin.ext (by show 0 + 1 * _ = _; omega) | (apply Fin.ext; simp [ix2, ix3]; done) | (apply Fin.ext; simp [ix2, ix3]; omega))
  · intro x
    unfold k0_pay3 wcols
    pointwise
    simp only [Memref.IsWhole.readAt_unread]
    (with_reducible congr!) <;> first | done | (funext a; fin_cases a <;> first | rfl | exact Fin.ext (by show 0 + 1 * _ = _; omega) | (apply Fin.ext; simp [ix2, ix3]; done) | (apply Fin.ext; simp [ix2, ix3]; omega))
  · intro x
    unfold k0_pay2 wcols
    pointwise
    simp only [Memref.IsWhole.readAt_unread]
    (with_reducible congr!) <;> first | done | (funext a; fin_cases a <;> first | rfl | exact Fin.ext (by show 0 + 1 * _ = _; omega) | (apply Fin.ext; simp [ix2, ix3]; done) | (apply Fin.ext; simp [ix2, ix3]; omega))

/-- At the first point the scratch takes the weight block. -/
theorem sout_A (c : Dev nD) (i : grid0.Coords) (arg1 : Memref sig .tc .vmem S512x2048 .bf16) (harg1 : arg1.IsWhole) (arg2 : Memref sig .tc .vmem S1x2048x2048 .f32) (harg2 : arg2.IsWhole) (arg3 : Memref sig .tc .vmem S512x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S2048x2048 .bf16) (harg10 : arg10.IsWhole) (hc0 : cond0_0 i)
    (x0 : Vec I S512x2048 .bf16) (x1 : Vec I S1x2048x2048 .f32) (x2 : Vec I S512x2048 .f32) (x3 : Vec I S1x1x2048 .f32) (x4 : Vec I S1x1x2048 .f32) (x5 : Vec I S1x1x2048 .f32) (x6 : Vec I S1x1x2048 .f32) :
    sout0_A_0 c i arg1 harg1 arg2 harg2 arg3 harg3 arg4 harg4 arg5 harg5 arg6 harg6 arg7 harg7 arg8 harg8 arg9 harg9 arg10 harg10 hc0 x0 x1 x2 x3 x4 x5 x6 = (wcols x1) := by
  unfold sout0_A_0
  refine Eq.trans ?_ (wcanon c i arg1 harg1 arg2 harg2 arg3 harg3 arg4 harg4 arg5 harg5 arg6 harg6 arg7 harg7 arg8 harg8 arg9 harg9 arg10 harg10 hc0 x0 x1 x2 x3 x4 x5 x6)
  funext y
  rw [View.read_writes_eq_canon _ _ _ (scover0_A_0 c i arg1 harg1 arg2 harg2 arg3 harg3 arg4 harg4 arg5 harg5 arg6 harg6 arg7 harg7 arg8 harg8 arg9 harg9 arg10 harg10 hc0 x0 x1 x2 x3 x4 x5 x6)]
  unfold kernelRun0_A
  dsimp only
  sl_unfold_words
  rfl

/-- In case A output window 7 takes its tile. -/
theorem outX_A (c : Dev nD) (i : grid0.Coords) (arg1 : Memref sig .tc .vmem S512x2048 .bf16) (harg1 : arg1.IsWhole) (arg2 : Memref sig .tc .vmem S1x2048x2048 .f32) (harg2 : arg2.IsWhole) (arg3 : Memref sig .tc .vmem S512x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S2048x2048 .bf16) (harg10 : arg10.IsWhole) (hc0 : cond0_0 i)
    (x0 : Vec I S512x2048 .bf16) (x1 : Vec I S1x2048x2048 .f32) (x2 : Vec I S512x2048 .f32) (x3 : Vec I S1x1x2048 .f32) (x4 : Vec I S1x1x2048 .f32) (x5 : Vec I S1x1x2048 .f32) (x6 : Vec I S1x1x2048 .f32) :
    out0_A_7 c i arg1 harg1 arg2 harg2 arg3 harg3 arg4 harg4 arg5 harg5 arg6 harg6 arg7 harg7 arg8 harg8 arg9 harg9 arg10 harg10 hc0 x0 x1 x2 x3 x4 x5 x6 = tile x0 (wcols x1) x2 x3 := by
  funext y
  unfold out0_A_7
  refine View.read_writes_apply_of_pieces _ _ (tile x0 (wcols x1) x2 x3) _ ?_ y (cover0_A_7 c i arg1 harg1 arg2 harg2 arg3 harg3 arg4 harg4 arg5 harg5 arg6 harg6 arg7 harg7 arg8 harg8 arg9 harg9 arg10 harg10 hc0 x0 x1 x2 x3 x4 x5 x6 y)
  unfold kernelRun0_A
  dsimp only
  sl_unfold_words
  simp only [View.readCov_eq_canon', wcanon c i arg1 harg1 arg2 harg2 arg3 harg3 arg4 harg4 arg5 harg5 arg6 harg6 arg7 harg7 arg8 harg8 arg9 harg9 arg10 harg10 hc0 x0 x1 x2 x3 x4 x5 x6]
  simp only [List.forall_mem_cons]
  refine ⟨?_, ?_, by simp⟩
  · intro x
    try unfold k0_pay1
    try unfold k0_pay8
    try unfold k0_pay7
    try unfold k0_pay10
    try unfold k0_pay11
    try unfold k0_pay6
    try unfold k0_pay9
    unfold tile wcols
    pointwise
    simp only [Memref.IsWhole.readAt_unread]
    (with_reducible congr!) <;> first | done | (funext a; fin_cases a <;> first | rfl | exact Fin.ext (by show 0 + 1 * _ = _; omega) | (apply Fin.ext; simp [ix2, ix3]; done) | (apply Fin.ext; simp [ix2, ix3]; omega))
  · intro x
    try unfold k0_pay1
    try unfold k0_pay8
    try unfold k0_pay7
    try unfold k0_pay10
    try unfold k0_pay11
    try unfold k0_pay6
    try unfold k0_pay9
    unfold tile wcols
    pointwise
    simp only [Memref.IsWhole.readAt_unread]
    (with_reducible congr!) <;> first | done | (funext a; fin_cases a <;> first | rfl | exact Fin.ext (by show 0 + 1 * _ = _; omega) | (apply Fin.ext; simp [ix2, ix3]; done) | (apply Fin.ext; simp [ix2, ix3]; omega))

/-- In case A output window 8 takes its tile. -/
theorem outN_A (c : Dev nD) (i : grid0.Coords) (arg1 : Memref sig .tc .vmem S512x2048 .bf16) (harg1 : arg1.IsWhole) (arg2 : Memref sig .tc .vmem S1x2048x2048 .f32) (harg2 : arg2.IsWhole) (arg3 : Memref sig .tc .vmem S512x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S2048x2048 .bf16) (harg10 : arg10.IsWhole) (hc0 : cond0_0 i)
    (x0 : Vec I S512x2048 .bf16) (x1 : Vec I S1x2048x2048 .f32) (x2 : Vec I S512x2048 .f32) (x3 : Vec I S1x1x2048 .f32) (x4 : Vec I S1x1x2048 .f32) (x5 : Vec I S1x1x2048 .f32) (x6 : Vec I S1x1x2048 .f32) :
    out0_A_8 c i arg1 harg1 arg2 harg2 arg3 harg3 arg4 harg4 arg5 harg5 arg6 harg6 arg7 harg7 arg8 harg8 arg9 harg9 arg10 harg10 hc0 x0 x1 x2 x3 x4 x5 x6 = tileN (tile x0 (wcols x1) x2 x3) x4 x5 x6 := by
  funext y
  unfold out0_A_8
  refine View.read_writes_apply_of_pieces _ _ (tileN (tile x0 (wcols x1) x2 x3) x4 x5 x6) _ ?_ y (cover0_A_8 c i arg1 harg1 arg2 harg2 arg3 harg3 arg4 harg4 arg5 harg5 arg6 harg6 arg7 harg7 arg8 harg8 arg9 harg9 arg10 harg10 hc0 x0 x1 x2 x3 x4 x5 x6 y)
  unfold kernelRun0_A
  dsimp only
  sl_unfold_words
  simp only [View.readCov_eq_canon', wcanon c i arg1 harg1 arg2 harg2 arg3 harg3 arg4 harg4 arg5 harg5 arg6 harg6 arg7 harg7 arg8 harg8 arg9 harg9 arg10 harg10 hc0 x0 x1 x2 x3 x4 x5 x6]
  simp only [List.forall_mem_cons]
  refine ⟨?_, ?_, by simp⟩
  · intro x
    try unfold k0_pay1
    try unfold k0_pay8
    try unfold k0_pay7
    try unfold k0_pay10
    try unfold k0_pay11
    try unfold k0_pay6
    try unfold k0_pay9
    unfold tileN tile wcols
    pointwise
    simp only [Memref.IsWhole.readAt_unread]
    (with_reducible congr!) <;> first | done | (funext a; fin_cases a <;> first | rfl | exact Fin.ext (by show 0 + 1 * _ = _; omega) | (apply Fin.ext; simp [ix2, ix3]; done) | (apply Fin.ext; simp [ix2, ix3]; omega))
  · intro x
    try unfold k0_pay1
    try unfold k0_pay8
    try unfold k0_pay7
    try unfold k0_pay10
    try unfold k0_pay11
    try unfold k0_pay6
    try unfold k0_pay9
    unfold tileN tile wcols
    pointwise
    simp only [Memref.IsWhole.readAt_unread]
    (with_reducible congr!) <;> first | done | (funext a; fin_cases a <;> first | rfl | exact Fin.ext (by show 0 + 1 * _ = _; omega) | (apply Fin.ext; simp [ix2, ix3]; done) | (apply Fin.ext; simp [ix2, ix3]; omega))

/-! ## The blocks the points read, at coordinates -/

theorem idx0 : ∀ t : Fin cfg0.N, win0_0.index t = ![t.val, 0] := by decide +kernel
theorem idx1 : ∀ t : Fin cfg0.N, win0_1.index t = ![0, 0, 0] := by decide +kernel
theorem idx2 : ∀ t : Fin cfg0.N, win0_2.index t = ![t.val, 0] := by decide +kernel
theorem idx3 : ∀ t : Fin cfg0.N, win0_3.index t = ![t.val / 8, 0, 0] := by decide +kernel
theorem idx4 : ∀ t : Fin cfg0.N, win0_4.index t = ![0, 0, 0] := by decide +kernel
theorem idx5 : ∀ t : Fin cfg0.N, win0_5.index t = ![t.val / 8, 0, 0] := by decide +kernel
theorem idx6 : ∀ t : Fin cfg0.N, win0_6.index t = ![t.val / 8, 0, 0] := by decide +kernel

variable (m : (ℓ : Loc nD τ sig) → Buf (Elt I) ℓ)

/-- At a point, a block of rows of the left factor at an index. -/
theorem blk0 (c : Dev nD) (t : Fin cfg0.N) (y : S512x2048.Idx) (i : S8192x2048.Idx)
    (h0 : (i 0).val = 512 * t.val + (y 0).val) (h1 : (i 1).val = (y 1).val) :
    (iblk m c 0 t : Vec I S512x2048 .bf16) y = m ((c : Thread nD τ).loc main_arg0) i := by
  have y0 : (y 0).val < 512 := (y 0).isLt
  have y1 : (y 1).val < 2048 := (y 1).isLt
  blk_ext! [iblk, V, idx0 t]

/-- At a point, the weight block at an index. -/
theorem blk1 (c : Dev nD) (t : Fin cfg0.N) (y : S1x2048x2048.Idx) (i : S2x2048x2048.Idx)
    (h0 : (i 0).val = 0) (h1 : (i 1).val = (y 1).val) (h2 : (i 2).val = (y 2).val) :
    (iblk m c 1 t : Vec I S1x2048x2048 .f32) y = m ((c : Thread nD τ).loc main_arg1) i := by
  have y0 : (y 0).val < 1 := (y 0).isLt
  have y1 : (y 1).val < 2048 := (y 1).isLt
  blk_ext! [iblk, V, idx1 t]

/-- At a point, a block of residual rows at an index. -/
theorem blk2 (c : Dev nD) (t : Fin cfg0.N) (y : S512x2048.Idx) (i : S8192x2048.Idx)
    (h0 : (i 0).val = 512 * t.val + (y 0).val) (h1 : (i 1).val = (y 1).val) :
    (iblk m c 2 t : Vec I S512x2048 .f32) y = m ((c : Thread nD τ).loc main_arg2) i := by
  have y0 : (y 0).val < 512 := (y 0).isLt
  have y1 : (y 1).val < 2048 := (y 1).isLt
  blk_ext! [iblk, V, idx2 t]

/-- At a point, the gate row at an index. -/
theorem blk3 (c : Dev nD) (t : Fin cfg0.N) (y : S1x1x2048.Idx) (i : S2x2048.Idx)
    (h0 : (i 0).val = t.val / 8) (h1 : (i 1).val = (y 2).val) :
    (iblk m c 3 t : Vec I S1x1x2048 .f32) y = m ((c : Thread nD τ).loc main_arg3) i := by
  have y0 : (y 0).val < 1 := (y 0).isLt
  have y1 : (y 1).val < 1 := (y 1).isLt
  blk_ext! [iblk, V, idx3 t]

/-- At a point, the norm weight row at an index. -/
theorem blk4 (c : Dev nD) (t : Fin cfg0.N) (y : S1x1x2048.Idx) (i : S2x2048.Idx)
    (h0 : (i 0).val = 0) (h1 : (i 1).val = (y 2).val) :
    (iblk m c 4 t : Vec I S1x1x2048 .f32) y = m ((c : Thread nD τ).loc main_arg4) i := by
  have y0 : (y 0).val < 1 := (y 0).isLt
  have y1 : (y 1).val < 1 := (y 1).isLt
  blk_ext! [iblk, V, idx4 t]

/-- At a point, the shift row at an index. -/
theorem blk5 (c : Dev nD) (t : Fin cfg0.N) (y : S1x1x2048.Idx) (i : S2x2048.Idx)
    (h0 : (i 0).val = t.val / 8) (h1 : (i 1).val = (y 2).val) :
    (iblk m c 5 t : Vec I S1x1x2048 .f32) y = m ((c : Thread nD τ).loc main_arg5) i := by
  have y0 : (y 0).val < 1 := (y 0).isLt
  have y1 : (y 1).val < 1 := (y 1).isLt
  blk_ext! [iblk, V, idx5 t]

/-- At a point, the scale row at an index. -/
theorem blk6 (c : Dev nD) (t : Fin cfg0.N) (y : S1x1x2048.Idx) (i : S2x2048.Idx)
    (h0 : (i 0).val = t.val / 8) (h1 : (i 1).val = (y 2).val) :
    (iblk m c 6 t : Vec I S1x1x2048 .f32) y = m ((c : Thread nD τ).loc main_arg6) i := by
  have y0 : (y 0).val < 1 := (y 0).isLt
  have y1 : (y 1).val < 1 := (y 1).isLt
  blk_ext! [iblk, V, idx6 t]

/-! ## The carried weight scratch and the outputs -/

/-- After every point the scratch holds the weights. -/
theorem scratch (c : Dev nD) : ∀ (n : ℕ) (h : n < cfg0.N) (y : S2048x2048.Idx) (i : S2x2048x2048.Idx),
    (i 0).val = 0 → (i 1).val = (y 0).val → (i 2).val = (y 1).val →
    (outsAt0 m c n h).2.2 y = m ((c : Thread nD τ).loc main_arg1) i := by
  intro n
  induction n with
  | zero =>
    intro h y i e0 e1 e2
    rw [outsAt0_A m c ⟨0, h⟩ rfl]
    dsimp only
    rw [sout_A]
    exact blk1 m c ⟨0, h⟩ (ix3 0 (y 0) (y 1)) i e0 e1 e2
  | succ n ih =>
    intro h y i e0 e1 e2
    have hN : cfg0.N = 16 := N_0
    rw [outsAt0_B m c ⟨n + 1, h⟩ (by show ¬(n + 1) % 16 = 0; omega)]
    dsimp only
    unfold sout0_B_0
    exact ih (Nat.lt_of_succ_lt h) y i e0 e1 e2

/-- The new residual, one element: the residual plus the gate of the row's sequence times the row by column product. -/
def resid (a : Vec I S8192x2048 .bf16) (w : Vec I S2x2048x2048 .f32) (x : Vec I S8192x2048 .f32) (g : Vec I S2x2048 .f32) :
    Vec I S8192x2048 .f32 := fun i =>
  (x i + g (ix2 ⟨(i 0).val / 4096, by have : (i 0).val < 8192 := (i 0).isLt; omega⟩ (i 1)) *
    ∑ k : Fin 2048, a (ix2 (i 0) k) * w (ix3 0 k (i 1)) : EReal)

/-- A residual row divided by the root of its mean square, times the norm weight, scaled and shifted by its sequence's
    modulation. -/
def normed (x : Vec I S8192x2048 .f32) (n b s : Vec I S2x2048 .f32) : Vec I S8192x2048 .bf16 := fun i =>
  ((x i * Ideal.rsqrt (Ideal.div (∑ k : Fin 2048, x (ix2 (i 0) k) * x (ix2 (i 0) k)) (Ideal.ofBits FTy.f32 1157627904#32) +
      Ideal.ofBits FTy.f32 897988541#32) * n (ix2 0 (i 1)) *
      (1 + s (ix2 ⟨(i 0).val / 4096, by have : (i 0).val < 8192 := (i 0).isLt; omega⟩ (i 1)))) +
    b (ix2 ⟨(i 0).val / 4096, by have : (i 0).val < 8192 := (i 0).isLt; omega⟩ (i 1)) : EReal)

/-- At every point the residual window is `tile` of the point's blocks and some weights that are the argument's. -/
theorem point (c : Dev nD) (t : Fin cfg0.N) : ∃ w : Vec I S2048x2048 .bf16,
    (∀ (y : S2048x2048.Idx) (j : S2x2048x2048.Idx), (j 0).val = 0 → (j 1).val = (y 0).val → (j 2).val = (y 1).val →
      w y = m ((c : Thread nD τ).loc main_arg1) j) ∧
    (outsAt0 m c t.val t.isLt).1 = tile (iblk m c 0 t) w (iblk m c 2 t) (iblk m c 3 t) ∧
    (outsAt0 m c t.val t.isLt).2.1 =
      tileN (tile (iblk m c 0 t) w (iblk m c 2 t) (iblk m c 3 t)) (iblk m c 4 t) (iblk m c 5 t) (iblk m c 6 t) := by
  by_cases h0 : t.val % 16 = 0
  · refine ⟨wcols (iblk m c 1 t), fun y j e0 e1 e2 => blk1 m c t (ix3 0 (y 0) (y 1)) j e0 e1 e2, ?_, ?_⟩
    · rw [outsAt0_A m c t h0]
      dsimp only
      rw [outX_A]
    · rw [outsAt0_A m c t h0]
      dsimp only
      rw [outN_A]
  · refine ⟨_, fun y j e0 e1 e2 => scratch m c (t.val - 1) (Nat.lt_of_le_of_lt (Nat.sub_le _ _) t.isLt) y j e0 e1 e2, ?_, ?_⟩
    · rw [outsAt0_B m c t h0]
      dsimp only
      rw [outX_B]
    · rw [outsAt0_B m c t h0]
      dsimp only
      rw [outN_B]

/-- A point's residual tile is its rows of `resid`. -/
theorem tile_eq (c : Dev nD) (t : Fin cfg0.N) (w : Vec I S2048x2048 .bf16)
    (hw : ∀ (y : S2048x2048.Idx) (j : S2x2048x2048.Idx), (j 0).val = 0 → (j 1).val = (y 0).val → (j 2).val = (y 1).val →
      w y = m ((c : Thread nD τ).loc main_arg1) j) (y : S512x2048.Idx) (i : S8192x2048.Idx)
    (e0 : (i 0).val = 512 * t.val + (y 0).val) (e1 : (i 1).val = (y 1).val) :
    tile (iblk m c 0 t) w (iblk m c 2 t) (iblk m c 3 t) y =
      resid (m ((c : Thread nD τ).loc main_arg0)) (m ((c : Thread nD τ).loc main_arg1))
        (m ((c : Thread nD τ).loc main_arg2)) (m ((c : Thread nD τ).loc main_arg3)) i := by
  have b0 : (y 0).val < 512 := (y 0).isLt
  unfold tile resid
  rw [blk2 m c t y i e0 e1, blk3 m c t (ix3 0 0 (y 1)) (ix2 ⟨(i 0).val / 4096, by have : (i 0).val < 8192 := (i 0).isLt; omega⟩ (i 1))
    (by show (i 0).val / 4096 = t.val / 8; omega) e1]
  refine congrArg _ (congrArg _ (Finset.sum_congr rfl fun k _ => ?_))
  rw [blk0 m c t (ix2 (y 0) k) (ix2 (i 0) k) e0 rfl, hw (ix2 k (y 1)) (ix3 0 k (i 1)) rfl rfl e1]

/-- The kernel's residual array is `resid` of its arguments. -/
theorem G7_eq (c : Dev nD) : G7 m c = resid (m ((c : Thread nD τ).loc main_arg0)) (m ((c : Thread nD τ).loc main_arg1))
    (m ((c : Thread nD τ).loc main_arg2)) (m ((c : Thread nD τ).loc main_arg3)) := by
  funext i
  idx_bounds i
  have hN : cfg0.N = 16 := N_0
  have hp : pt7Of i < cfg0.N := by unfold pt7Of run7Of; omega
  have hG : G7 m c i = (outsAt0 m c (pt7Of i) hp).1 (loc7Of i) := by
    unfold G7
    rw [dif_pos hp, outsAt0_sweep m c (pt7Of i) hp]
  have hq : pt7Of i = (i 0).val / 512 := by unfold pt7Of run7Of; omega
  have l0 : (loc7Of i 0).val = (i 0).val % 512 := rfl
  have l1 : (loc7Of i 1).val = (i 1).val % 2048 := rfl
  obtain ⟨w, hw, hx, -⟩ := point m c ⟨pt7Of i, hp⟩
  rw [hG]
  exact (congrFun hx _).trans (tile_eq m c ⟨pt7Of i, hp⟩ w hw (loc7Of i) i
    (by show (i 0).val = 512 * pt7Of i + (loc7Of i 0).val; omega) (by omega))

/-- The kernel's normalized array is `normed` of its residual array. -/
theorem G8_eq (c : Dev nD) : G8 m c = normed (resid (m ((c : Thread nD τ).loc main_arg0)) (m ((c : Thread nD τ).loc main_arg1))
    (m ((c : Thread nD τ).loc main_arg2)) (m ((c : Thread nD τ).loc main_arg3)))
    (m ((c : Thread nD τ).loc main_arg4)) (m ((c : Thread nD τ).loc main_arg5)) (m ((c : Thread nD τ).loc main_arg6)) := by
  funext i
  idx_bounds i
  have hN : cfg0.N = 16 := N_0
  have hp : pt8Of i < cfg0.N := by unfold pt8Of run8Of; omega
  have hG : G8 m c i = (outsAt0 m c (pt8Of i) hp).2.1 (loc8Of i) := by
    unfold G8
    rw [dif_pos hp, outsAt0_sweep m c (pt8Of i) hp]
  have hq : pt8Of i = (i 0).val / 512 := by unfold pt8Of run8Of; omega
  have l0 : (loc8Of i 0).val = (i 0).val % 512 := rfl
  have l1 : (loc8Of i 1).val = (i 1).val % 2048 := rfl
  obtain ⟨w, hw, -, hx⟩ := point m c ⟨pt8Of i, hp⟩
  rw [hG]
  refine (congrFun hx _).trans ?_
  have ht := tile_eq m c ⟨pt8Of i, hp⟩ w hw
  have e0 : (i 0).val = 512 * pt8Of i + (loc8Of i 0).val := by omega
  have e1 : (i 1).val = (loc8Of i 1).val := by omega
  have er : (i 0).val / 4096 = pt8Of i / 8 := by omega
  unfold tileN normed
  rw [ht (loc8Of i) i e0 e1,
    blk4 m c ⟨pt8Of i, hp⟩ (ix3 0 0 (loc8Of i 1)) (ix2 0 (i 1)) rfl e1,
    blk5 m c ⟨pt8Of i, hp⟩ (ix3 0 0 (loc8Of i 1)) (ix2 ⟨(i 0).val / 4096, by omega⟩ (i 1)) er e1,
    blk6 m c ⟨pt8Of i, hp⟩ (ix3 0 0 (loc8Of i 1)) (ix2 ⟨(i 0).val / 4096, by omega⟩ (i 1)) er e1,
    Finset.sum_congr rfl fun k _ => by rw [ht (ix2 (loc8Of i 0) k) (ix2 (i 0) k) e0 rfl]]

end Cert.OutnormIdeal.Value
-- ==== Proof.OutnormTie.lean ====
module

public import proofs.«01_k».proof.Defs
public import proofs.«01_k».proof.Proof.OutnormValue
public import proofs.«01_k».proof.Proof.Gen.RefOutnormIdeal.Run
public import Idealize.ShloMosaic.Lib.Quiescent
public import Idealize.ShloMosaic.Lib.Tactic.ValueTie

@[expose] public section

set_option maxRecDepth 16384

noncomputable section

namespace Cert.Proof

open Idealize.ShloMosaic Idealize.SL.Sem

/-- The reference of the output projection with its norm leaves its semaphores at zero and its arguments as they were. -/
theorem quiescent_RefOutnormIdeal : quiescent_RefOutnormIdeal := fun m ρ _ =>
  (θ_run Cert.RefOutnormIdeal.defs _ _).mono (fun r h => ⟨fun c => (h c).2.2, sem_eq_zero_of_no_sems (by decide) r.2⟩)
    (Cert.RefOutnormIdeal.Value.run (F := Ideal) m ρ)

/-- From equal arguments the output projection kernel and its reference leave the same two arrays. -/
theorem algebraic_OutnormIdeal_RefOutnormIdeal : algebraic_OutnormIdeal_RefOutnormIdeal := by
  intro m ρ m' ρ' _ hagree
  refine ⟨_, _, Cert.OutnormIdeal.Value.run (F := Ideal) m ρ, ?_⟩
  refine (θ_run Cert.RefOutnormIdeal.defs _ _).mono (fun _ h c => ⟨?_, ?_, (h c).2.2⟩) (Cert.RefOutnormIdeal.Value.run (F := Ideal) m' ρ')
  · rw [(h c).1]
    simp only [hagree c]
    rw [Cert.OutnormIdeal.Value.G7_eq]
    refine funext fun i => ?_
    unfold Cert.OutnormIdeal.Value.resid
    clean_types
    pointwise
  · rw [(h c).2.1]
    simp only [hagree c]
    rw [Cert.OutnormIdeal.Value.G8_eq]
    refine funext fun i => ?_
    unfold Cert.OutnormIdeal.Value.normed Cert.OutnormIdeal.Value.resid
    clean_types
    pointwise

end Cert.Proof

end
-- ==== Proof.FfnupTile.lean ====
module

public import proofs.«01_k».proof.Proof.Gen.FfnupIdeal.Value
public import Idealize.ShloMosaic.Lib.Pipeline.ValueKit.Point
public import Idealize.ShloMosaic.Lib.WholeRead
public import Idealize.ShloMosaic.Lib.Writes
public import Idealize.ShloMosaic.Lib.WritesUnit
public import Idealize.ShloMosaic.Lib.Tactic
public import Idealize.ShloMosaic.Lib.StableHlo.Run

@[expose] public section

set_option maxRecDepth 16384

noncomputable section

namespace Cert.FfnupIdeal.Value

open Cert.FfnupIdeal Cert.FfnupIdeal.Gen Idealize.ShloMosaic Idealize.ShloMosaic.TcCoe Idealize.SL.Sem

local notation "I" => Idealize.ShloMosaic.Ideal

/-- The rows a point works on below eight carried rows: row `8 + r` is row `r` of the product of the point's rows with the
    first weight columns, the rows above it are the carried ones. -/
def ab (x : Vec I S1024x2048 .bf16) (w : Vec I S2048x512 .bf16) (z : Vec I S1032x512 .f32) : Vec I S1032x512 .f32 := fun y =>
  if h : 8 ≤ (y 0).val then
    (∑ k : Fin 2048, x (ix2 ⟨(y 0).val - 8, by have : (y 0).val < 1032 := (y 0).isLt; omega⟩ k) * w (ix2 k (y 1)) : EReal)
  else z y

/-- The tanh form of the Gaussian error linear unit. -/
def gel (v : EReal) : EReal :=
  v * (Ideal.ofBits FTy.f32 1056964608#32 * (1 + Ideal.tanh (Ideal.ofBits FTy.f32 1061962282#32 *
    (v + Ideal.ofBits FTy.f32 1027024659#32 * (v * (v * v))))))

/-- The unit with the cube associated to the left. -/
theorem gel_comm (v : EReal) : gel v = v * (Ideal.ofBits FTy.f32 1056964608#32 * (1 + Ideal.tanh (Ideal.ofBits FTy.f32 1061962282#32 *
    (v + Ideal.ofBits FTy.f32 1027024659#32 * (v * v * v))))) := by
  unfold gel
  rw [mul_comm v (v * v)]

/-- The hidden tile a point leaves: the unit applied to the width-three convolution down the rows, times the product with
    the second weight columns. -/
def hidT (x : Vec I S1024x2048 .bf16) (w v : Vec I S2048x512 .bf16) (z : Vec I S1032x512 .f32)
    (cw : Vec I S1x3x512 .f32) (cb : Vec I S1x1x512 .f32) : Vec I S1024x512 .bf16 := fun y =>
  have hy : (y 0).val < 1024 := (y 0).isLt
  (gel ((ab x w z (ix2 ⟨6 + (y 0).val, by omega⟩ (y 1)) : EReal) * cw (ix3 0 0 (y 1)) +
      (ab x w z (ix2 ⟨7 + (y 0).val, by omega⟩ (y 1)) : EReal) * cw (ix3 0 1 (y 1)) +
      (∑ k : Fin 2048, x (ix2 (y 0) k) * w (ix2 k (y 1)) : EReal) * cw (ix3 0 2 (y 1)) + cb (ix3 0 0 (y 1))) *
    (∑ k : Fin 2048, x (ix2 (y 0) k) * v (ix2 k (y 1)) : EReal) : EReal)

/-- A weight block as a matrix. -/
def wcols (w : Vec I S1x2048x512 .f32) : Vec I S2048x512 .bf16 := fun y => w (ix3 0 (y 0) (y 1))

/-- Rows `o` to `o + n` of the row buffer hold the index `(r, c)` just when `r` is among them. -/
theorem mem_rows {o n : ℕ} {inb : ∀ a : Fin 2, (![o, 0] : Fin 2 → ℕ) a + (![n, 512] : Fin 2 → ℕ) a ≤ S1032x512.size a}
    (r : Fin 1032) (c : Fin 512) :
    (ix2 r c : S1032x512.Idx) ∈ (Rect.unit (s := S1032x512) ![o, 0] ![n, 512] inb).set ↔ o ≤ r.val ∧ r.val < o + n := by
  rw [Rect.mem_set_unit]
  constructor
  · intro h
    exact h 0
  · intro h a
    fin_cases a
    · exact h
    · exact ⟨Nat.zero_le _, by show c.val < 0 + 512; omega⟩

/-- A load of rows of the buffer after stores that are all rows of one function `G` reads `G`, when they cover the load. -/
theorem rd {κ : Kind} {sp : Space} {sig : RefSig} (v : View sig κ sp S1032x512 .f32) (G : Vec I S1032x512 .f32) {o n : ℕ}
    {inb : ∀ a : Fin 2, (![o, 0] : Fin 2 → ℕ) a + (![n, 512] : Fin 2 → ℕ) a ≤ S1032x512.size a}
    (hn : o + n ≤ 1032) (L : List (View.Piece (Elt I) S1032x512 .f32))
    (hL : ∀ p ∈ L, ∀ x : p.1.shape.Idx, p.2 x = G (p.1.emb x))
    (hc : ∀ r : Fin 1032, ∀ c : Fin 512, o ≤ r.val → r.val < o + n → ∃ p ∈ L, (ix2 r c : S1032x512.Idx) ∈ p.1.set)
    (y : (Rect.unit (s := S1032x512) ![o, 0] ![n, 512] inb).shape.Idx) :
    v.readCov L (Rect.unit (s := S1032x512) ![o, 0] ![n, 512] inb).toLoadRect y =
      G (ix2 ⟨o + (y 0).val, by have : (y 0).val < n := (y 0).isLt; omega⟩ (y 1)) := by
  have h0 : (y 0).val < n := (y 0).isLt
  have e : (Rect.unit (s := S1032x512) ![o, 0] ![n, 512] inb).toLoadRect.idx y =
      (ix2 ⟨o + (y 0).val, by omega⟩ (y 1) : S1032x512.Idx) := by
    funext a
    fin_cases a
    · exact Fin.ext (by show o + 1 * (y 0).val = o + (y 0).val; omega)
    · exact Fin.ext (by show 0 + 1 * (y 1).val = (y 1).val; omega)
  rw [View.readCov_eq_canon']
  show View.canon L ((Rect.unit (s := S1032x512) ![o, 0] ![n, 512] inb).toLoadRect.idx y) = _
  refine (congrArg (View.canon L) e).trans ?_
  exact View.canon_apply_of_pieces G L hL _ (hc _ _ (by show o ≤ o + (y 0).val; omega) (by show o + (y 0).val < o + n; omega))

/-- The same load when only the first product rows are stored over carried contents. -/
theorem rdB {arg13 : Memref sig .tc .vmem S1032x512 .f32} (harg13 : arg13.IsWhole) (x : Vec I S1024x2048 .bf16)
    (w : Vec I S2048x512 .bf16) (z : Vec I S1032x512 .f32) {o : ℕ}
    {inb : ∀ a : Fin 2, (![o, 0] : Fin 2 → ℕ) a + (![128, 512] : Fin 2 → ℕ) a ≤ S1032x512.size a} (ho : o ≤ 8)
    (P : Vec I S128x512 .f32)
    (hP : ∀ j : (Rect.unit (s := S1032x512) ![8, 0] ![128, 512] inb_S1032x512_S128x512_8_0).shape.Idx,
      P j = ab x w z ((Rect.unit (s := S1032x512) ![8, 0] ![128, 512] inb_S1032x512_S128x512_8_0).emb j))
    (y : (Rect.unit (s := S1032x512) ![o, 0] ![128, 512] inb).shape.Idx) :
    View.readAt (Elt I) arg13.view (Rect.unit (s := S1032x512) ![o, 0] ![128, 512] inb).toLoadRect
      (arg13.view.writes (Elt I) (harg13.unread z)
        [⟨Rect.unit (s := S1032x512) ![8, 0] ![128, 512] inb_S1032x512_S128x512_8_0, P⟩]) y =
      ab x w z (ix2 ⟨o + (y 0).val, by have : (y 0).val < 128 := (y 0).isLt; omega⟩ (y 1)) := by
  have h0 : (y 0).val < 128 := (y 0).isLt
  have e : (Rect.unit (s := S1032x512) ![o, 0] ![128, 512] inb).toLoadRect.idx y =
      (ix2 ⟨o + (y 0).val, by omega⟩ (y 1) : S1032x512.Idx) := by
    funext a
    fin_cases a
    · exact Fin.ext (by show o + 1 * (y 0).val = o + (y 0).val; omega)
    · exact Fin.ext (by show 0 + 1 * (y 1).val = (y 1).val; omega)
  rw [View.readAt_apply]
  refine (congrArg _ e).trans ?_
  by_cases hr : 8 ≤ o + (y 0).val
  · refine (View.read_writes_cons_rows_of_mem _ _ inb_S1032x512_S128x512_8_0 P [] _
      (ix2 ⟨o + (y 0).val - 8, by omega⟩ (y 1) : S128x512.Idx) rfl (by show o + (y 0).val = 8 + (o + (y 0).val - 8); omega) rfl).trans ?_
    rw [hP]
    refine congrArg _ ?_
    funext a
    fin_cases a
    · exact Fin.ext (by show 8 + 1 * (o + (y 0).val - 8) = o + (y 0).val; omega)
    · exact Fin.ext (by show 0 + 1 * (y 1).val = (y 1).val; omega)
  · refine (View.read_writes_cons_rows_of_not_mem _ _ inb_S1032x512_S128x512_8_0 P [] _ rfl rfl
      (Or.inl (by show o + (y 0).val < 8; omega))).trans ?_
    have hf : arg13.view.read (Elt I) (harg13.unread z) = z := harg13.read_unread z
    refine (congrFun hf _).trans ?_
    unfold ab
    rw [dif_neg (by show ¬8 ≤ o + (y 0).val; omega)]

/-- The carried rows of the buffer are zero at the start of a sequence. -/
theorem pz (x : Vec I S1024x2048 .bf16) (w : Vec I S2048x512 .bf16)
    (j : (Rect.unit (s := S1032x512) ![0, 0] ![8, 512] inb_S1032x512_S8x512_0_0).shape.Idx) :
    (k0_pay5 (F := I)) j = ab x w (fun _ => (0 : EReal)) ((Rect.unit (s := S1032x512) ![0, 0] ![8, 512] inb_S1032x512_S8x512_0_0).emb j) := by
  have hj : (j 0).val < 8 := (j 0).isLt
  unfold ab
  rw [dif_neg (by show ¬8 ≤ 0 + 1 * (j 0).val; omega)]
  unfold k0_pay5
  pointwise

/-- The stored product of rows 0 to 127 is rows of `ab`. -/
theorem st0 (x : Vec I S1024x2048 .bf16) (w : Vec I S2048x512 .bf16) (z : Vec I S1032x512 .f32) {h : Vec I S128x2048 .bf16}
    {W : Vec I S2048x512 .bf16}
    (hh : ∀ y : S128x2048.Idx, h y = x (ix2 ⟨0 + (y 0).val, by have : (y 0).val < 128 := (y 0).isLt; omega⟩ (y 1)))
    (hW : ∀ y, W y = w y) (j : (Rect.unit (s := S1032x512) ![8, 0] ![128, 512] inb_S1032x512_S128x512_8_0).shape.Idx) :
    k0_pay8 h W j = ab x w z ((Rect.unit (s := S1032x512) ![8, 0] ![128, 512] inb_S1032x512_S128x512_8_0).emb j) := by
  obtain rfl : W = w := funext hW
  unfold ab
  rw [dif_pos (by show 8 ≤ 8 + 1 * (j 0).val; omega)]
  unfold k0_pay8 k0_pay6
  pointwise
  refine Finset.sum_congr rfl fun k _ => ?_
  rw [hh]
  refine congrArg₂ _ (congrArg x ?_) (congrArg W ?_)
  · funext a
    fin_cases a
    · exact Fin.ext (by show 0 + (j 0).val = 8 + 1 * (j 0).val - 8; omega)
    · rfl
  · funext a
    fin_cases a
    · rfl
    · exact Fin.ext (by show (j 1).val = 0 + 1 * (j 1).val; omega)

/-- The stored product of rows 128 to 255 is rows of `ab`. -/
theorem st1 (x : Vec I S1024x2048 .bf16) (w : Vec I S2048x512 .bf16) (z : Vec I S1032x512 .f32) {h : Vec I S128x2048 .bf16}
    {W : Vec I S2048x512 .bf16}
    (hh : ∀ y : S128x2048.Idx, h y = x (ix2 ⟨128 + (y 0).val, by have : (y 0).val < 128 := (y 0).isLt; omega⟩ (y 1)))
    (hW : ∀ y, W y = w y) (j : (Rect.unit (s := S1032x512) ![136, 0] ![128, 512] inb_S1032x512_S128x512_136_0).shape.Idx) :
    k0_pay13 (k0_pay11 h W) j = ab x w z ((Rect.unit (s := S1032x512) ![136, 0] ![128, 512] inb_S1032x512_S128x512_136_0).emb j) := by
  obtain rfl : W = w := funext hW
  unfold ab
  rw [dif_pos (by show 8 ≤ 136 + 1 * (j 0).val; omega)]
  unfold k0_pay13 k0_pay11
  pointwise
  refine Finset.sum_congr rfl fun k _ => ?_
  rw [hh]
  refine congrArg₂ _ (congrArg x ?_) (congrArg W ?_)
  · funext a
    fin_cases a
    · exact Fin.ext (by show 128 + (j 0).val = 136 + 1 * (j 0).val - 8; omega)
    · rfl
  · funext a
    fin_cases a
    · rfl
    · exact Fin.ext (by show (j 1).val = 0 + 1 * (j 1).val; omega)

/-- The stored product of rows 256 to 383 is rows of `ab`. -/
theorem st2 (x : Vec I S1024x2048 .bf16) (w : Vec I S2048x512 .bf16) (z : Vec I S1032x512 .f32) {h : Vec I S128x2048 .bf16}
    {W : Vec I S2048x512 .bf16}
    (hh : ∀ y : S128x2048.Idx, h y = x (ix2 ⟨256 + (y 0).val, by have : (y 0).val < 128 := (y 0).isLt; omega⟩ (y 1)))
    (hW : ∀ y, W y = w y) (j : (Rect.unit (s := S1032x512) ![264, 0] ![128, 512] inb_S1032x512_S128x512_264_0).shape.Idx) :
    k0_pay18 h W j = ab x w z ((Rect.unit (s := S1032x512) ![264, 0] ![128, 512] inb_S1032x512_S128x512_264_0).emb j) := by
  obtain rfl : W = w := funext hW
  unfold ab
  rw [dif_pos (by show 8 ≤ 264 + 1 * (j 0).val; omega)]
  unfold k0_pay18 k0_pay16
  pointwise
  refine Finset.sum_congr rfl fun k _ => ?_
  rw [hh]
  refine congrArg₂ _ (congrArg x ?_) (congrArg W ?_)
  · funext a
    fin_cases a
    · exact Fin.ext (by show 256 + (j 0).val = 264 + 1 * (j 0).val - 8; omega)
    · rfl
  · funext a
    fin_cases a
    · rfl
    · exact Fin.ext (by show (j 1).val = 0 + 1 * (j 1).val; omega)

/-- The stored product of rows 384 to 511 is rows of `ab`. -/
theorem st3 (x : Vec I S1024x2048 .bf16) (w : Vec I S2048x512 .bf16) (z : Vec I S1032x512 .f32) {h : Vec I S128x2048 .bf16}
    {W : Vec I S2048x512 .bf16}
    (hh : ∀ y : S128x2048.Idx, h y = x (ix2 ⟨384 + (y 0).val, by have : (y 0).val < 128 := (y 0).isLt; omega⟩ (y 1)))
    (hW : ∀ y, W y = w y) (j : (Rect.unit (s := S1032x512) ![392, 0] ![128, 512] inb_S1032x512_S128x512_392_0).shape.Idx) :
    k0_pay24 h W j = ab x w z ((Rect.unit (s := S1032x512) ![392, 0] ![128, 512] inb_S1032x512_S128x512_392_0).emb j) := by
  obtain rfl : W = w := funext hW
  unfold ab
  rw [dif_pos (by show 8 ≤ 392 + 1 * (j 0).val; omega)]
  unfold k0_pay24 k0_pay22
  pointwise
  refine Finset.sum_congr rfl fun k _ => ?_
  rw [hh]
  refine congrArg₂ _ (congrArg x ?_) (congrArg W ?_)
  · funext a
    fin_cases a
    · exact Fin.ext (by show 384 + (j 0).val = 392 + 1 * (j 0).val - 8; omega)
    · rfl
  · funext a
    fin_cases a
    · rfl
    · exact Fin.ext (by show (j 1).val = 0 + 1 * (j 1).val; omega)

/-- The stored product of rows 512 to 639 is rows of `ab`. -/
theorem st4 (x : Vec I S1024x2048 .bf16) (w : Vec I S2048x512 .bf16) (z : Vec I S1032x512 .f32) {h : Vec I S128x2048 .bf16}
    {W : Vec I S2048x512 .bf16}
    (hh : ∀ y : S128x2048.Idx, h y = x (ix2 ⟨512 + (y 0).val, by have : (y 0).val < 128 := (y 0).isLt; omega⟩ (y 1)))
    (hW : ∀ y, W y = w y) (j : (Rect.unit (s := S1032x512) ![520, 0] ![128, 512] inb_S1032x512_S128x512_520_0).shape.Idx) :
    k0_pay29 h W j = ab x w z ((Rect.unit (s := S1032x512) ![520, 0] ![128, 512] inb_S1032x512_S128x512_520_0).emb j) := by
  obtain rfl : W = w := funext hW
  unfold ab
  rw [dif_pos (by show 8 ≤ 520 + 1 * (j 0).val; omega)]
  unfold k0_pay29 k0_pay27
  pointwise
  refine Finset.sum_congr rfl fun k _ => ?_
  rw [hh]
  refine congrArg₂ _ (congrArg x ?_) (congrArg W ?_)
  · funext a
    fin_cases a
    · exact Fin.ext (by show 512 + (j 0).val = 520 + 1 * (j 0).val - 8; omega)
    · rfl
  · funext a
    fin_cases a
    · rfl
    · exact Fin.ext (by show (j 1).val = 0 + 1 * (j 1).val; omega)

/-- The stored product of rows 640 to 767 is rows of `ab`. -/
theorem st5 (x : Vec I S1024x2048 .bf16) (w : Vec I S2048x512 .bf16) (z : Vec I S1032x512 .f32) {h : Vec I S128x2048 .bf16}
    {W : Vec I S2048x512 .bf16}
    (hh : ∀ y : S128x2048.Idx, h y = x (ix2 ⟨640 + (y 0).val, by have : (y 0).val < 128 := (y 0).isLt; omega⟩ (y 1)))
    (hW : ∀ y, W y = w y) (j : (Rect.unit (s := S1032x512) ![648, 0] ![128, 512] inb_S1032x512_S128x512_648_0).shape.Idx) :
    k0_pay33 h W j = ab x w z ((Rect.unit (s := S1032x512) ![648, 0] ![128, 512] inb_S1032x512_S128x512_648_0).emb j) := by
  obtain rfl : W = w := funext hW
  unfold ab
  rw [dif_pos (by show 8 ≤ 648 + 1 * (j 0).val; omega)]
  unfold k0_pay33 k0_pay31
  pointwise
  refine Finset.sum_congr rfl fun k _ => ?_
  rw [hh]
  refine congrArg₂ _ (congrArg x ?_) (congrArg W ?_)
  · funext a
    fin_cases a
    · exact Fin.ext (by show 640 + (j 0).val = 648 + 1 * (j 0).val - 8; omega)
    · rfl
  · funext a
    fin_cases a
    · rfl
    · exact Fin.ext (by show (j 1).val = 0 + 1 * (j 1).val; omega)

/-- The stored product of rows 768 to 895 is rows of `ab`. -/
theorem st6 (x : Vec I S1024x2048 .bf16) (w : Vec I S2048x512 .bf16) (z : Vec I S1032x512 .f32) {h : Vec I S128x2048 .bf16}
    {W : Vec I S2048x512 .bf16}
    (hh : ∀ y : S128x2048.Idx, h y = x (ix2 ⟨768 + (y 0).val, by have : (y 0).val < 128 := (y 0).isLt; omega⟩ (y 1)))
    (hW : ∀ y, W y = w y) (j : (Rect.unit (s := S1032x512) ![776, 0] ![128, 512] inb_S1032x512_S128x512_776_0).shape.Idx) :
    k0_pay39 h W j = ab x w z ((Rect.unit (s := S1032x512) ![776, 0] ![128, 512] inb_S1032x512_S128x512_776_0).emb j) := by
  obtain rfl : W = w := funext hW
  unfold ab
  rw [dif_pos (by show 8 ≤ 776 + 1 * (j 0).val; omega)]
  unfold k0_pay39 k0_pay37
  pointwise
  refine Finset.sum_congr rfl fun k _ => ?_
  rw [hh]
  refine congrArg₂ _ (congrArg x ?_) (congrArg W ?_)
  · funext a
    fin_cases a
    · exact Fin.ext (by show 768 + (j 0).val = 776 + 1 * (j 0).val - 8; omega)
    · rfl
  · funext a
    fin_cases a
    · rfl
    · exact Fin.ext (by show (j 1).val = 0 + 1 * (j 1).val; omega)

/-- The stored product of rows 896 to 1023 is rows of `ab`. -/
theorem st7 (x : Vec I S1024x2048 .bf16) (w : Vec I S2048x512 .bf16) (z : Vec I S1032x512 .f32) {h : Vec I S128x2048 .bf16}
    {W : Vec I S2048x512 .bf16}
    (hh : ∀ y : S128x2048.Idx, h y = x (ix2 ⟨896 + (y 0).val, by have : (y 0).val < 128 := (y 0).isLt; omega⟩ (y 1)))
    (hW : ∀ y, W y = w y) (j : (Rect.unit (s := S1032x512) ![904, 0] ![128, 512] inb_S1032x512_S128x512_904_0).shape.Idx) :
    k0_pay44 h W j = ab x w z ((Rect.unit (s := S1032x512) ![904, 0] ![128, 512] inb_S1032x512_S128x512_904_0).emb j) := by
  obtain rfl : W = w := funext hW
  unfold ab
  rw [dif_pos (by show 8 ≤ 904 + 1 * (j 0).val; omega)]
  unfold k0_pay44 k0_pay42
  pointwise
  refine Finset.sum_congr rfl fun k _ => ?_
  rw [hh]
  refine congrArg₂ _ (congrArg x ?_) (congrArg W ?_)
  · funext a
    fin_cases a
    · exact Fin.ext (by show 896 + (j 0).val = 904 + 1 * (j 0).val - 8; omega)
    · rfl
  · funext a
    fin_cases a
    · rfl
    · exact Fin.ext (by show (j 1).val = 0 + 1 * (j 1).val; omega)

/-- The stored hidden rows 0 to 127 are rows of `hidT`. -/
theorem hd0 {x : Vec I S1024x2048 .bf16} {w v : Vec I S2048x512 .bf16} {z : Vec I S1032x512 .f32}
    {cw : Vec I S1x3x512 .f32} {cbv : Vec I S1x1x512 .f32} {h : Vec I S128x2048 .bf16} {W V : Vec I S2048x512 .bf16}
    {a1 a2 : Vec I S128x512 .f32} {c0 c1 c2 cb : Vec I S1x1x512 .f32}
    (hh : ∀ y : S128x2048.Idx, h y = x (ix2 ⟨0 + (y 0).val, by have : (y 0).val < 128 := (y 0).isLt; omega⟩ (y 1)))
    (hW : ∀ y, W y = w y) (hV : ∀ y, V y = v y)
    (h1 : ∀ y : S128x512.Idx, a1 y = ab x w z (ix2 ⟨7 + (y 0).val, by have : (y 0).val < 128 := (y 0).isLt; omega⟩ (y 1)))
    (h2 : ∀ y : S128x512.Idx, a2 y = ab x w z (ix2 ⟨6 + (y 0).val, by have : (y 0).val < 128 := (y 0).isLt; omega⟩ (y 1)))
    (e0 : ∀ y : S1x1x512.Idx, c0 y = cw (ix3 0 0 (y 2))) (e1 : ∀ y : S1x1x512.Idx, c1 y = cw (ix3 0 1 (y 2)))
    (e2 : ∀ y : S1x1x512.Idx, c2 y = cw (ix3 0 2 (y 2))) (eb : ∀ y : S1x1x512.Idx, cb y = cbv (ix3 0 0 (y 2)))
    (j : (Rect.unit (s := S1024x512) ![0, 0] ![128, 512] inb_S1024x512_S128x512_0_0).shape.Idx) :
    k0_pay10 (k0_pay6 h W) (k0_pay7 h V) a1 a2 (k0_pay9 c0) c1 c2 cb j = hidT x w v z cw cbv ((Rect.unit (s := S1024x512) ![0, 0] ![128, 512] inb_S1024x512_S128x512_0_0).emb j) := by
  obtain rfl : W = w := funext hW
  obtain rfl : V = v := funext hV
  have hh' : ∀ y : S128x2048.Idx, h y = x (ix2 ⟨(y 0).val, by have : (y 0).val < 128 := (y 0).isLt; omega⟩ (y 1)) := fun y =>
    (hh y).trans (congrArg (fun q => x (ix2 q (y 1))) (Fin.ext (Nat.zero_add _)))
  have hj : (j 0).val < 128 := (j 0).isLt
  have j0 : ((Rect.unit (s := S1024x512) ![0, 0] ![128, 512] inb_S1024x512_S128x512_0_0).emb j) =
      (ix2 ⟨0 + (j 0).val, by omega⟩ (j 1) : S1024x512.Idx) := by
    funext a
    fin_cases a
    · exact Fin.ext (by show 0 + 1 * (j 0).val = 0 + (j 0).val; omega)
    · exact Fin.ext (by show 0 + 1 * (j 1).val = (j 1).val; omega)
  rw [j0]
  unfold k0_pay10 k0_pay6 k0_pay7 k0_pay9
  pointwise
  unfold hidT gel
  simp only [hh', h1, h2, e0, e1, e2, eb]
  show _ = (gel ((ab x W z (ix2 ⟨6 + (j 0).val, _⟩ (j 1)) : EReal) * cw (ix3 0 0 (j 1)) +
      (ab x W z (ix2 ⟨7 + (j 0).val, _⟩ (j 1)) : EReal) * cw (ix3 0 1 (j 1)) +
      (∑ k : Fin 2048, x (ix2 ⟨(j 0).val, _⟩ k) * W (ix2 k (j 1)) : EReal) * cw (ix3 0 2 (j 1)) + cbv (ix3 0 0 (j 1))) *
    (∑ k : Fin 2048, x (ix2 ⟨(j 0).val, _⟩ k) * V (ix2 k (j 1)) : EReal) : EReal)
  rfl

/-- The stored hidden rows 128 to 255 are rows of `hidT`. -/
theorem hd1 {x : Vec I S1024x2048 .bf16} {w v : Vec I S2048x512 .bf16} {z : Vec I S1032x512 .f32}
    {cw : Vec I S1x3x512 .f32} {cbv : Vec I S1x1x512 .f32} {h : Vec I S128x2048 .bf16} {W V : Vec I S2048x512 .bf16}
    {a1 a2 : Vec I S128x512 .f32} {c0 c1 c2 cb : Vec I S1x1x512 .f32}
    (hh : ∀ y : S128x2048.Idx, h y = x (ix2 ⟨128 + (y 0).val, by have : (y 0).val < 128 := (y 0).isLt; omega⟩ (y 1)))
    (hW : ∀ y, W y = w y) (hV : ∀ y, V y = v y)
    (h1 : ∀ y : S128x512.Idx, a1 y = ab x w z (ix2 ⟨135 + (y 0).val, by have : (y 0).val < 128 := (y 0).isLt; omega⟩ (y 1)))
    (h2 : ∀ y : S128x512.Idx, a2 y = ab x w z (ix2 ⟨134 + (y 0).val, by have : (y 0).val < 128 := (y 0).isLt; omega⟩ (y 1)))
    (e0 : ∀ y : S1x1x512.Idx, c0 y = cw (ix3 0 0 (y 2))) (e1 : ∀ y : S1x1x512.Idx, c1 y = cw (ix3 0 1 (y 2)))
    (e2 : ∀ y : S1x1x512.Idx, c2 y = cw (ix3 0 2 (y 2))) (eb : ∀ y : S1x1x512.Idx, cb y = cbv (ix3 0 0 (y 2)))
    (j : (Rect.unit (s := S1024x512) ![128, 0] ![128, 512] inb_S1024x512_S128x512_128_0).shape.Idx) :
    k0_pay15 (k0_pay12 h V (constant S128x512 .f32 0x00000000#32)) (k0_pay14 (k0_pay11 h W) a1 a2 c0 c1 c2 cb) j = hidT x w v z cw cbv ((Rect.unit (s := S1024x512) ![128, 0] ![128, 512] inb_S1024x512_S128x512_128_0).emb j) := by
  obtain rfl : W = w := funext hW
  obtain rfl : V = v := funext hV
  have hj : (j 0).val < 128 := (j 0).isLt
  have j0 : ((Rect.unit (s := S1024x512) ![128, 0] ![128, 512] inb_S1024x512_S128x512_128_0).emb j) =
      (ix2 ⟨128 + (j 0).val, by omega⟩ (j 1) : S1024x512.Idx) := by
    funext a
    fin_cases a
    · exact Fin.ext (by show 128 + 1 * (j 0).val = 128 + (j 0).val; omega)
    · exact Fin.ext (by show 0 + 1 * (j 1).val = (j 1).val; omega)
  rw [j0]
  unfold k0_pay15 k0_pay12 k0_pay14 k0_pay11
  pointwise
  unfold hidT gel
  simp only [hh, h1, h2, e0, e1, e2, eb]
  have r7 : (⟨7 + (128 + (j 0).val), by omega⟩ : Fin 1032) = ⟨135 + (j 0).val, by omega⟩ := Fin.ext (by show 7 + (128 + (j 0).val) = 135 + (j 0).val; omega)
  have r6 : (⟨6 + (128 + (j 0).val), by omega⟩ : Fin 1032) = ⟨134 + (j 0).val, by omega⟩ := Fin.ext (by show 6 + (128 + (j 0).val) = 134 + (j 0).val; omega)
  show _ = (gel ((ab x W z (ix2 ⟨6 + (128 + (j 0).val), _⟩ (j 1)) : EReal) * cw (ix3 0 0 (j 1)) +
      (ab x W z (ix2 ⟨7 + (128 + (j 0).val), _⟩ (j 1)) : EReal) * cw (ix3 0 1 (j 1)) +
      (∑ k : Fin 2048, x (ix2 ⟨128 + (j 0).val, _⟩ k) * W (ix2 k (j 1)) : EReal) * cw (ix3 0 2 (j 1)) + cbv (ix3 0 0 (j 1))) *
    (∑ k : Fin 2048, x (ix2 ⟨128 + (j 0).val, _⟩ k) * V (ix2 k (j 1)) : EReal) : EReal)
  rw [r7, r6]
  rfl

/-- The stored hidden rows 256 to 383 are rows of `hidT`. -/
theorem hd2 {x : Vec I S1024x2048 .bf16} {w v : Vec I S2048x512 .bf16} {z : Vec I S1032x512 .f32}
    {cw : Vec I S1x3x512 .f32} {cbv : Vec I S1x1x512 .f32} {h : Vec I S128x2048 .bf16} {W V : Vec I S2048x512 .bf16}
    {a1 a2 : Vec I S128x512 .f32} {c0 c1 c2 cb : Vec I S1x1x512 .f32}
    (hh : ∀ y : S128x2048.Idx, h y = x (ix2 ⟨256 + (y 0).val, by have : (y 0).val < 128 := (y 0).isLt; omega⟩ (y 1)))
    (hW : ∀ y, W y = w y) (hV : ∀ y, V y = v y)
    (h1 : ∀ y : S128x512.Idx, a1 y = ab x w z (ix2 ⟨263 + (y 0).val, by have : (y 0).val < 128 := (y 0).isLt; omega⟩ (y 1)))
    (h2 : ∀ y : S128x512.Idx, a2 y = ab x w z (ix2 ⟨262 + (y 0).val, by have : (y 0).val < 128 := (y 0).isLt; omega⟩ (y 1)))
    (e0 : ∀ y : S1x1x512.Idx, c0 y = cw (ix3 0 0 (y 2))) (e1 : ∀ y : S1x1x512.Idx, c1 y = cw (ix3 0 1 (y 2)))
    (e2 : ∀ y : S1x1x512.Idx, c2 y = cw (ix3 0 2 (y 2))) (eb : ∀ y : S1x1x512.Idx, cb y = cbv (ix3 0 0 (y 2)))
    (j : (Rect.unit (s := S1024x512) ![256, 0] ![128, 512] inb_S1024x512_S128x512_256_0).shape.Idx) :
    k0_pay21 (k0_pay17 h V) (k0_pay19 h W a1 a2 c0 c1 c2) (k0_pay20 cb) j = hidT x w v z cw cbv ((Rect.unit (s := S1024x512) ![256, 0] ![128, 512] inb_S1024x512_S128x512_256_0).emb j) := by
  obtain rfl : W = w := funext hW
  obtain rfl : V = v := funext hV
  have hj : (j 0).val < 128 := (j 0).isLt
  have j0 : ((Rect.unit (s := S1024x512) ![256, 0] ![128, 512] inb_S1024x512_S128x512_256_0).emb j) =
      (ix2 ⟨256 + (j 0).val, by omega⟩ (j 1) : S1024x512.Idx) := by
    funext a
    fin_cases a
    · exact Fin.ext (by show 256 + 1 * (j 0).val = 256 + (j 0).val; omega)
    · exact Fin.ext (by show 0 + 1 * (j 1).val = (j 1).val; omega)
  rw [j0]
  unfold k0_pay21 k0_pay17 k0_pay19 k0_pay20 k0_pay16
  pointwise
  unfold hidT gel
  simp only [hh, h1, h2, e0, e1, e2, eb]
  have r7 : (⟨7 + (256 + (j 0).val), by omega⟩ : Fin 1032) = ⟨263 + (j 0).val, by omega⟩ := Fin.ext (by show 7 + (256 + (j 0).val) = 263 + (j 0).val; omega)
  have r6 : (⟨6 + (256 + (j 0).val), by omega⟩ : Fin 1032) = ⟨262 + (j 0).val, by omega⟩ := Fin.ext (by show 6 + (256 + (j 0).val) = 262 + (j 0).val; omega)
  show _ = (gel ((ab x W z (ix2 ⟨6 + (256 + (j 0).val), _⟩ (j 1)) : EReal) * cw (ix3 0 0 (j 1)) +
      (ab x W z (ix2 ⟨7 + (256 + (j 0).val), _⟩ (j 1)) : EReal) * cw (ix3 0 1 (j 1)) +
      (∑ k : Fin 2048, x (ix2 ⟨256 + (j 0).val, _⟩ k) * W (ix2 k (j 1)) : EReal) * cw (ix3 0 2 (j 1)) + cbv (ix3 0 0 (j 1))) *
    (∑ k : Fin 2048, x (ix2 ⟨256 + (j 0).val, _⟩ k) * V (ix2 k (j 1)) : EReal) : EReal)
  rw [r7, r6]
  rfl

/-- The stored hidden rows 384 to 511 are rows of `hidT`. -/
theorem hd3 {x : Vec I S1024x2048 .bf16} {w v : Vec I S2048x512 .bf16} {z : Vec I S1032x512 .f32}
    {cw : Vec I S1x3x512 .f32} {cbv : Vec I S1x1x512 .f32} {h : Vec I S128x2048 .bf16} {W V : Vec I S2048x512 .bf16}
    {a1 a2 : Vec I S128x512 .f32} {c0 c1 c2 cb : Vec I S1x1x512 .f32}
    (hh : ∀ y : S128x2048.Idx, h y = x (ix2 ⟨384 + (y 0).val, by have : (y 0).val < 128 := (y 0).isLt; omega⟩ (y 1)))
    (hW : ∀ y, W y = w y) (hV : ∀ y, V y = v y)
    (h1 : ∀ y : S128x512.Idx, a1 y = ab x w z (ix2 ⟨391 + (y 0).val, by have : (y 0).val < 128 := (y 0).isLt; omega⟩ (y 1)))
    (h2 : ∀ y : S128x512.Idx, a2 y = ab x w z (ix2 ⟨390 + (y 0).val, by have : (y 0).val < 128 := (y 0).isLt; omega⟩ (y 1)))
    (e0 : ∀ y : S1x1x512.Idx, c0 y = cw (ix3 0 0 (y 2))) (e1 : ∀ y : S1x1x512.Idx, c1 y = cw (ix3 0 1 (y 2)))
    (e2 : ∀ y : S1x1x512.Idx, c2 y = cw (ix3 0 2 (y 2))) (eb : ∀ y : S1x1x512.Idx, cb y = cbv (ix3 0 0 (y 2)))
    (j : (Rect.unit (s := S1024x512) ![384, 0] ![128, 512] inb_S1024x512_S128x512_384_0).shape.Idx) :
    k0_pay26 (k0_pay22 h W) (k0_pay23 h V) a1 (k0_pay25 a2 c0) c1 c2 cb j = hidT x w v z cw cbv ((Rect.unit (s := S1024x512) ![384, 0] ![128, 512] inb_S1024x512_S128x512_384_0).emb j) := by
  obtain rfl : W = w := funext hW
  obtain rfl : V = v := funext hV
  have hj : (j 0).val < 128 := (j 0).isLt
  have j0 : ((Rect.unit (s := S1024x512) ![384, 0] ![128, 512] inb_S1024x512_S128x512_384_0).emb j) =
      (ix2 ⟨384 + (j 0).val, by omega⟩ (j 1) : S1024x512.Idx) := by
    funext a
    fin_cases a
    · exact Fin.ext (by show 384 + 1 * (j 0).val = 384 + (j 0).val; omega)
    · exact Fin.ext (by show 0 + 1 * (j 1).val = (j 1).val; omega)
  rw [j0]
  unfold k0_pay26 k0_pay22 k0_pay23 k0_pay25
  pointwise
  unfold hidT gel
  simp only [hh, h1, h2, e0, e1, e2, eb]
  have r7 : (⟨7 + (384 + (j 0).val), by omega⟩ : Fin 1032) = ⟨391 + (j 0).val, by omega⟩ := Fin.ext (by show 7 + (384 + (j 0).val) = 391 + (j 0).val; omega)
  have r6 : (⟨6 + (384 + (j 0).val), by omega⟩ : Fin 1032) = ⟨390 + (j 0).val, by omega⟩ := Fin.ext (by show 6 + (384 + (j 0).val) = 390 + (j 0).val; omega)
  show _ = (gel ((ab x W z (ix2 ⟨6 + (384 + (j 0).val), _⟩ (j 1)) : EReal) * cw (ix3 0 0 (j 1)) +
      (ab x W z (ix2 ⟨7 + (384 + (j 0).val), _⟩ (j 1)) : EReal) * cw (ix3 0 1 (j 1)) +
      (∑ k : Fin 2048, x (ix2 ⟨384 + (j 0).val, _⟩ k) * W (ix2 k (j 1)) : EReal) * cw (ix3 0 2 (j 1)) + cbv (ix3 0 0 (j 1))) *
    (∑ k : Fin 2048, x (ix2 ⟨384 + (j 0).val, _⟩ k) * V (ix2 k (j 1)) : EReal) : EReal)
  rw [r7, r6]
  rfl

/-- The stored hidden rows 512 to 639 are rows of `hidT`. -/
theorem hd4 {x : Vec I S1024x2048 .bf16} {w v : Vec I S2048x512 .bf16} {z : Vec I S1032x512 .f32}
    {cw : Vec I S1x3x512 .f32} {cbv : Vec I S1x1x512 .f32} {h : Vec I S128x2048 .bf16} {W V : Vec I S2048x512 .bf16}
    {a1 a2 : Vec I S128x512 .f32} {c0 c1 c2 cb : Vec I S1x1x512 .f32}
    (hh : ∀ y : S128x2048.Idx, h y = x (ix2 ⟨512 + (y 0).val, by have : (y 0).val < 128 := (y 0).isLt; omega⟩ (y 1)))
    (hW : ∀ y, W y = w y) (hV : ∀ y, V y = v y)
    (h1 : ∀ y : S128x512.Idx, a1 y = ab x w z (ix2 ⟨519 + (y 0).val, by have : (y 0).val < 128 := (y 0).isLt; omega⟩ (y 1)))
    (h2 : ∀ y : S128x512.Idx, a2 y = ab x w z (ix2 ⟨518 + (y 0).val, by have : (y 0).val < 128 := (y 0).isLt; omega⟩ (y 1)))
    (e0 : ∀ y : S1x1x512.Idx, c0 y = cw (ix3 0 0 (y 2))) (e1 : ∀ y : S1x1x512.Idx, c1 y = cw (ix3 0 1 (y 2)))
    (e2 : ∀ y : S1x1x512.Idx, c2 y = cw (ix3 0 2 (y 2))) (eb : ∀ y : S1x1x512.Idx, cb y = cbv (ix3 0 0 (y 2)))
    (j : (Rect.unit (s := S1024x512) ![512, 0] ![128, 512] inb_S1024x512_S128x512_512_0).shape.Idx) :
    k0_pay30 (k0_pay27 h W) (k0_pay28 h V) a1 a2 c0 c1 c2 cb j = hidT x w v z cw cbv ((Rect.unit (s := S1024x512) ![512, 0] ![128, 512] inb_S1024x512_S128x512_512_0).emb j) := by
  obtain rfl : W = w := funext hW
  obtain rfl : V = v := funext hV
  have hj : (j 0).val < 128 := (j 0).isLt
  have j0 : ((Rect.unit (s := S1024x512) ![512, 0] ![128, 512] inb_S1024x512_S128x512_512_0).emb j) =
      (ix2 ⟨512 + (j 0).val, by omega⟩ (j 1) : S1024x512.Idx) := by
    funext a
    fin_cases a
    · exact Fin.ext (by show 512 + 1 * (j 0).val = 512 + (j 0).val; omega)
    · exact Fin.ext (by show 0 + 1 * (j 1).val = (j 1).val; omega)
  rw [j0]
  unfold k0_pay30 k0_pay27 k0_pay28
  pointwise
  unfold hidT gel
  simp only [hh, h1, h2, e0, e1, e2, eb]
  have r7 : (⟨7 + (512 + (j 0).val), by omega⟩ : Fin 1032) = ⟨519 + (j 0).val, by omega⟩ := Fin.ext (by show 7 + (512 + (j 0).val) = 519 + (j 0).val; omega)
  have r6 : (⟨6 + (512 + (j 0).val), by omega⟩ : Fin 1032) = ⟨518 + (j 0).val, by omega⟩ := Fin.ext (by show 6 + (512 + (j 0).val) = 518 + (j 0).val; omega)
  show _ = (gel ((ab x W z (ix2 ⟨6 + (512 + (j 0).val), _⟩ (j 1)) : EReal) * cw (ix3 0 0 (j 1)) +
      (ab x W z (ix2 ⟨7 + (512 + (j 0).val), _⟩ (j 1)) : EReal) * cw (ix3 0 1 (j 1)) +
      (∑ k : Fin 2048, x (ix2 ⟨512 + (j 0).val, _⟩ k) * W (ix2 k (j 1)) : EReal) * cw (ix3 0 2 (j 1)) + cbv (ix3 0 0 (j 1))) *
    (∑ k : Fin 2048, x (ix2 ⟨512 + (j 0).val, _⟩ k) * V (ix2 k (j 1)) : EReal) : EReal)
  rw [r7, r6]
  rfl

/-- The stored hidden rows 640 to 767 are rows of `hidT`. -/
theorem hd5 {x : Vec I S1024x2048 .bf16} {w v : Vec I S2048x512 .bf16} {z : Vec I S1032x512 .f32}
    {cw : Vec I S1x3x512 .f32} {cbv : Vec I S1x1x512 .f32} {h : Vec I S128x2048 .bf16} {W V : Vec I S2048x512 .bf16}
    {a1 a2 : Vec I S128x512 .f32} {c0 c1 c2 cb : Vec I S1x1x512 .f32}
    (hh : ∀ y : S128x2048.Idx, h y = x (ix2 ⟨640 + (y 0).val, by have : (y 0).val < 128 := (y 0).isLt; omega⟩ (y 1)))
    (hW : ∀ y, W y = w y) (hV : ∀ y, V y = v y)
    (h1 : ∀ y : S128x512.Idx, a1 y = ab x w z (ix2 ⟨647 + (y 0).val, by have : (y 0).val < 128 := (y 0).isLt; omega⟩ (y 1)))
    (h2 : ∀ y : S128x512.Idx, a2 y = ab x w z (ix2 ⟨646 + (y 0).val, by have : (y 0).val < 128 := (y 0).isLt; omega⟩ (y 1)))
    (e0 : ∀ y : S1x1x512.Idx, c0 y = cw (ix3 0 0 (y 2))) (e1 : ∀ y : S1x1x512.Idx, c1 y = cw (ix3 0 1 (y 2)))
    (e2 : ∀ y : S1x1x512.Idx, c2 y = cw (ix3 0 2 (y 2))) (eb : ∀ y : S1x1x512.Idx, cb y = cbv (ix3 0 0 (y 2)))
    (j : (Rect.unit (s := S1024x512) ![640, 0] ![128, 512] inb_S1024x512_S128x512_640_0).shape.Idx) :
    k0_pay36 (k0_pay32 h V) (k0_pay34 h W a1 a2 c0 c1 c2 cb) (k0_pay35 h W a1 a2 c0 c1 c2 cb) j = hidT x w v z cw cbv ((Rect.unit (s := S1024x512) ![640, 0] ![128, 512] inb_S1024x512_S128x512_640_0).emb j) := by
  obtain rfl : W = w := funext hW
  obtain rfl : V = v := funext hV
  have hj : (j 0).val < 128 := (j 0).isLt
  have j0 : ((Rect.unit (s := S1024x512) ![640, 0] ![128, 512] inb_S1024x512_S128x512_640_0).emb j) =
      (ix2 ⟨640 + (j 0).val, by omega⟩ (j 1) : S1024x512.Idx) := by
    funext a
    fin_cases a
    · exact Fin.ext (by show 640 + 1 * (j 0).val = 640 + (j 0).val; omega)
    · exact Fin.ext (by show 0 + 1 * (j 1).val = (j 1).val; omega)
  rw [j0]
  unfold k0_pay36 k0_pay32 k0_pay35 k0_pay34 k0_pay31
  pointwise
  unfold hidT gel
  simp only [hh, h1, h2, e0, e1, e2, eb]
  have r7 : (⟨7 + (640 + (j 0).val), by omega⟩ : Fin 1032) = ⟨647 + (j 0).val, by omega⟩ := Fin.ext (by show 7 + (640 + (j 0).val) = 647 + (j 0).val; omega)
  have r6 : (⟨6 + (640 + (j 0).val), by omega⟩ : Fin 1032) = ⟨646 + (j 0).val, by omega⟩ := Fin.ext (by show 6 + (640 + (j 0).val) = 646 + (j 0).val; omega)
  show _ = (gel ((ab x W z (ix2 ⟨6 + (640 + (j 0).val), _⟩ (j 1)) : EReal) * cw (ix3 0 0 (j 1)) +
      (ab x W z (ix2 ⟨7 + (640 + (j 0).val), _⟩ (j 1)) : EReal) * cw (ix3 0 1 (j 1)) +
      (∑ k : Fin 2048, x (ix2 ⟨640 + (j 0).val, _⟩ k) * W (ix2 k (j 1)) : EReal) * cw (ix3 0 2 (j 1)) + cbv (ix3 0 0 (j 1))) *
    (∑ k : Fin 2048, x (ix2 ⟨640 + (j 0).val, _⟩ k) * V (ix2 k (j 1)) : EReal) : EReal)
  rw [r7, r6]
  rfl

/-- The stored hidden rows 768 to 895 are rows of `hidT`. -/
theorem hd6 {x : Vec I S1024x2048 .bf16} {w v : Vec I S2048x512 .bf16} {z : Vec I S1032x512 .f32}
    {cw : Vec I S1x3x512 .f32} {cbv : Vec I S1x1x512 .f32} {h : Vec I S128x2048 .bf16} {W V : Vec I S2048x512 .bf16}
    {a1 a2 : Vec I S128x512 .f32} {c0 c1 c2 cb : Vec I S1x1x512 .f32}
    (hh : ∀ y : S128x2048.Idx, h y = x (ix2 ⟨768 + (y 0).val, by have : (y 0).val < 128 := (y 0).isLt; omega⟩ (y 1)))
    (hW : ∀ y, W y = w y) (hV : ∀ y, V y = v y)
    (h1 : ∀ y : S128x512.Idx, a1 y = ab x w z (ix2 ⟨775 + (y 0).val, by have : (y 0).val < 128 := (y 0).isLt; omega⟩ (y 1)))
    (h2 : ∀ y : S128x512.Idx, a2 y = ab x w z (ix2 ⟨774 + (y 0).val, by have : (y 0).val < 128 := (y 0).isLt; omega⟩ (y 1)))
    (e0 : ∀ y : S1x1x512.Idx, c0 y = cw (ix3 0 0 (y 2))) (e1 : ∀ y : S1x1x512.Idx, c1 y = cw (ix3 0 1 (y 2)))
    (e2 : ∀ y : S1x1x512.Idx, c2 y = cw (ix3 0 2 (y 2))) (eb : ∀ y : S1x1x512.Idx, cb y = cbv (ix3 0 0 (y 2)))
    (j : (Rect.unit (s := S1024x512) ![768, 0] ![128, 512] inb_S1024x512_S128x512_768_0).shape.Idx) :
    k0_pay41 (k0_pay37 h W) (k0_pay38 h V) (k0_pay40 a1 a2 c0 c1) c2 cb j = hidT x w v z cw cbv ((Rect.unit (s := S1024x512) ![768, 0] ![128, 512] inb_S1024x512_S128x512_768_0).emb j) := by
  obtain rfl : W = w := funext hW
  obtain rfl : V = v := funext hV
  have hj : (j 0).val < 128 := (j 0).isLt
  have j0 : ((Rect.unit (s := S1024x512) ![768, 0] ![128, 512] inb_S1024x512_S128x512_768_0).emb j) =
      (ix2 ⟨768 + (j 0).val, by omega⟩ (j 1) : S1024x512.Idx) := by
    funext a
    fin_cases a
    · exact Fin.ext (by show 768 + 1 * (j 0).val = 768 + (j 0).val; omega)
    · exact Fin.ext (by show 0 + 1 * (j 1).val = (j 1).val; omega)
  rw [j0]
  unfold k0_pay41 k0_pay37 k0_pay38 k0_pay40
  pointwise
  unfold hidT gel
  simp only [hh, h1, h2, e0, e1, e2, eb]
  have r7 : (⟨7 + (768 + (j 0).val), by omega⟩ : Fin 1032) = ⟨775 + (j 0).val, by omega⟩ := Fin.ext (by show 7 + (768 + (j 0).val) = 775 + (j 0).val; omega)
  have r6 : (⟨6 + (768 + (j 0).val), by omega⟩ : Fin 1032) = ⟨774 + (j 0).val, by omega⟩ := Fin.ext (by show 6 + (768 + (j 0).val) = 774 + (j 0).val; omega)
  show _ = (gel ((ab x W z (ix2 ⟨6 + (768 + (j 0).val), _⟩ (j 1)) : EReal) * cw (ix3 0 0 (j 1)) +
      (ab x W z (ix2 ⟨7 + (768 + (j 0).val), _⟩ (j 1)) : EReal) * cw (ix3 0 1 (j 1)) +
      (∑ k : Fin 2048, x (ix2 ⟨768 + (j 0).val, _⟩ k) * W (ix2 k (j 1)) : EReal) * cw (ix3 0 2 (j 1)) + cbv (ix3 0 0 (j 1))) *
    (∑ k : Fin 2048, x (ix2 ⟨768 + (j 0).val, _⟩ k) * V (ix2 k (j 1)) : EReal) : EReal)
  rw [r7, r6]
  rfl

/-- The stored hidden rows 896 to 1023 are rows of `hidT`. -/
theorem hd7 {x : Vec I S1024x2048 .bf16} {w v : Vec I S2048x512 .bf16} {z : Vec I S1032x512 .f32}
    {cw : Vec I S1x3x512 .f32} {cbv : Vec I S1x1x512 .f32} {h : Vec I S128x2048 .bf16} {W V : Vec I S2048x512 .bf16}
    {a1 a2 : Vec I S128x512 .f32} {c0 c1 c2 cb : Vec I S1x1x512 .f32}
    (hh : ∀ y : S128x2048.Idx, h y = x (ix2 ⟨896 + (y 0).val, by have : (y 0).val < 128 := (y 0).isLt; omega⟩ (y 1)))
    (hW : ∀ y, W y = w y) (hV : ∀ y, V y = v y)
    (h1 : ∀ y : S128x512.Idx, a1 y = ab x w z (ix2 ⟨903 + (y 0).val, by have : (y 0).val < 128 := (y 0).isLt; omega⟩ (y 1)))
    (h2 : ∀ y : S128x512.Idx, a2 y = ab x w z (ix2 ⟨902 + (y 0).val, by have : (y 0).val < 128 := (y 0).isLt; omega⟩ (y 1)))
    (e0 : ∀ y : S1x1x512.Idx, c0 y = cw (ix3 0 0 (y 2))) (e1 : ∀ y : S1x1x512.Idx, c1 y = cw (ix3 0 1 (y 2)))
    (e2 : ∀ y : S1x1x512.Idx, c2 y = cw (ix3 0 2 (y 2))) (eb : ∀ y : S1x1x512.Idx, cb y = cbv (ix3 0 0 (y 2)))
    (j : (Rect.unit (s := S1024x512) ![896, 0] ![128, 512] inb_S1024x512_S128x512_896_0).shape.Idx) :
    k0_pay45 (k0_pay42 h W) (k0_pay43 h V) a1 a2 c0 c1 c2 cb j = hidT x w v z cw cbv ((Rect.unit (s := S1024x512) ![896, 0] ![128, 512] inb_S1024x512_S128x512_896_0).emb j) := by
  obtain rfl : W = w := funext hW
  obtain rfl : V = v := funext hV
  have hj : (j 0).val < 128 := (j 0).isLt
  have j0 : ((Rect.unit (s := S1024x512) ![896, 0] ![128, 512] inb_S1024x512_S128x512_896_0).emb j) =
      (ix2 ⟨896 + (j 0).val, by omega⟩ (j 1) : S1024x512.Idx) := by
    funext a
    fin_cases a
    · exact Fin.ext (by show 896 + 1 * (j 0).val = 896 + (j 0).val; omega)
    · exact Fin.ext (by show 0 + 1 * (j 1).val = (j 1).val; omega)
  rw [j0]
  unfold k0_pay45 k0_pay42 k0_pay43
  pointwise
  unfold hidT gel
  simp only [hh, h1, h2, e0, e1, e2, eb]
  have r7 : (⟨7 + (896 + (j 0).val), by omega⟩ : Fin 1032) = ⟨903 + (j 0).val, by omega⟩ := Fin.ext (by show 7 + (896 + (j 0).val) = 903 + (j 0).val; omega)
  have r6 : (⟨6 + (896 + (j 0).val), by omega⟩ : Fin 1032) = ⟨902 + (j 0).val, by omega⟩ := Fin.ext (by show 6 + (896 + (j 0).val) = 902 + (j 0).val; omega)
  show _ = (gel ((ab x W z (ix2 ⟨6 + (896 + (j 0).val), _⟩ (j 1)) : EReal) * cw (ix3 0 0 (j 1)) +
      (ab x W z (ix2 ⟨7 + (896 + (j 0).val), _⟩ (j 1)) : EReal) * cw (ix3 0 1 (j 1)) +
      (∑ k : Fin 2048, x (ix2 ⟨896 + (j 0).val, _⟩ k) * W (ix2 k (j 1)) : EReal) * cw (ix3 0 2 (j 1)) + cbv (ix3 0 0 (j 1))) *
    (∑ k : Fin 2048, x (ix2 ⟨896 + (j 0).val, _⟩ k) * V (ix2 k (j 1)) : EReal) : EReal)
  rw [r7, r6]
  rfl

end Cert.FfnupIdeal.Value
-- ==== Proof.FfnupValue.lean ====
module

public import proofs.«01_k».proof.Proof.FfnupTile
public import Idealize.ShloMosaic.Lib.Pipeline.ValueKit.Point
public import Idealize.ShloMosaic.Lib.WholeRead
public import Idealize.ShloMosaic.Lib.Writes
public import Idealize.ShloMosaic.Lib.WritesUnit
public import Idealize.ShloMosaic.Lib.Tactic
public import Idealize.ShloMosaic.Lib.StableHlo.Run

@[expose] public section

set_option maxRecDepth 16384

noncomputable section

namespace Cert.FfnupIdeal.Value

open Cert.FfnupIdeal Cert.FfnupIdeal.Gen Idealize.ShloMosaic Idealize.ShloMosaic.TcCoe Idealize.SL.Sem

local notation "I" => Idealize.ShloMosaic.Ideal

/-! ## Loads at coordinates -/

/-- A load of 128 rows of the point's rows. -/
theorem ldH {a : Memref sig .tc .vmem S1024x2048 .bf16} (ha : a.IsWhole) (x : Vec I S1024x2048 .bf16) {o : ℕ}
    {inb : ∀ a : Fin 2, (![o, 0] : Fin 2 → ℕ) a + (![128, 2048] : Fin 2 → ℕ) a ≤ S1024x2048.size a} (ho : o + 128 ≤ 1024)
    (y : S128x2048.Idx) :
    View.readAt (Elt I) a.view (Rect.unit (s := S1024x2048) ![o, 0] ![128, 2048] inb).toLoadRect (ha.unread x) y =
      x (ix2 ⟨o + (y 0).val, by have : (y 0).val < 128 := (y 0).isLt; omega⟩ (y 1)) := by
  rw [Memref.IsWhole.readAt_unread]
  refine congrArg x ?_
  funext a
  fin_cases a
  · exact Fin.ext (by show o + 1 * (y 0).val = o + (y 0).val; omega)
  · exact Fin.ext (by show 0 + 1 * (y 1).val = (y 1).val; omega)

/-- A load of the whole weight scratch. -/
theorem ldS {a : Memref sig .tc .vmem S2048x512 .bf16} (ha : a.IsWhole) (x : Vec I S2048x512 .bf16)
    {inb : ∀ a : Fin 2, (![0, 0] : Fin 2 → ℕ) a + (![2048, 512] : Fin 2 → ℕ) a ≤ S2048x512.size a} (y : S2048x512.Idx) :
    View.readAt (Elt I) a.view (Rect.unit (s := S2048x512) ![0, 0] ![2048, 512] inb).toLoadRect (ha.unread x) y = x y := by
  rw [Memref.IsWhole.readAt_unread]
  refine congrArg x ?_
  funext a
  fin_cases a
  · exact Fin.ext (by show 0 + 1 * (y 0).val = (y 0).val; omega)
  · exact Fin.ext (by show 0 + 1 * (y 1).val = (y 1).val; omega)

/-- A load of one row of the convolution weights. -/
theorem ldC {a : Memref sig .tc .vmem S1x3x512 .f32} (ha : a.IsWhole) (x : Vec I S1x3x512 .f32) {k : ℕ} (hk : k < 3)
    {inb : ∀ a : Fin 3, (![0, k, 0] : Fin 3 → ℕ) a + (![1, 1, 512] : Fin 3 → ℕ) a ≤ S1x3x512.size a} (y : S1x1x512.Idx) :
    View.readAt (Elt I) a.view (Rect.unit (s := S1x3x512) ![0, k, 0] ![1, 1, 512] inb).toLoadRect (ha.unread x) y =
      x (ix3 0 ⟨k, hk⟩ (y 2)) := by
  have y0 : (y 0).val < 1 := (y 0).isLt
  have y1 : (y 1).val < 1 := (y 1).isLt
  rw [Memref.IsWhole.readAt_unread]
  refine congrArg x ?_
  funext a
  fin_cases a
  · exact Fin.ext (by show 0 + 1 * (y 0).val = 0; omega)
  · exact Fin.ext (by show k + 1 * (y 1).val = k; omega)
  · exact Fin.ext (by show 0 + 1 * (y 2).val = (y 2).val; omega)

/-- A load of the convolution bias. -/
theorem ldB {a : Memref sig .tc .vmem S1x1x512 .f32} (ha : a.IsWhole) (x : Vec I S1x1x512 .f32)
    {inb : ∀ a : Fin 3, (![0, 0, 0] : Fin 3 → ℕ) a + (![1, 1, 512] : Fin 3 → ℕ) a ≤ S1x1x512.size a} (y : S1x1x512.Idx) :
    View.readAt (Elt I) a.view (Rect.unit (s := S1x1x512) ![0, 0, 0] ![1, 1, 512] inb).toLoadRect (ha.unread x) y =
      x (ix3 0 0 (y 2)) := by
  have y0 : (y 0).val < 1 := (y 0).isLt
  have y1 : (y 1).val < 1 := (y 1).isLt
  rw [Memref.IsWhole.readAt_unread]
  refine congrArg x ?_
  funext a
  fin_cases a
  · exact Fin.ext (by show 0 + 1 * (y 0).val = 0; omega)
  · exact Fin.ext (by show 0 + 1 * (y 1).val = 0; omega)
  · exact Fin.ext (by show 0 + 1 * (y 2).val = (y 2).val; omega)

/-- A load of a weight scratch after the store of the cast block. -/
theorem ldWa (a : Memref sig .tc .vmem S2048x512 .bf16) {b : Memref sig .tc .vmem S1x2048x512 .f32} (hb : b.IsWhole) (x : Vec I S1x2048x512 .f32)
    (y : S2048x512.Idx) :
    a.view.readCov [(⟨Rect.unit ![0, 0] ![2048, 512] inb_S2048x512_S2048x512_0_0, k0_pay3 (View.readAt (Elt I) b.view
      (Rect.unit ![0, 0, 0] ![1, 2048, 512] inb_S1x2048x512_S1x2048x512_0_0_0).toLoadRect (hb.unread x))⟩ : View.Piece (Elt I) S2048x512 .bf16)]
      (Rect.unit (s := S2048x512) ![0, 0] ![2048, 512] inb_S2048x512_S2048x512_0_0).toLoadRect y = wcols x y := by
  rw [View.readCov_cons_toLoadRect]
  unfold k0_pay3 wcols
  pointwise
  rw [Memref.IsWhole.readAt_unread]
  refine congrArg x ?_
  funext a
  fin_cases a
  · rfl
  · exact Fin.ext (by show 0 + 1 * (y 0).val = (y 0).val; omega)
  · exact Fin.ext (by show 0 + 1 * (y 1).val = (y 1).val; omega)

/-- A load of a weight scratch after the store of the cast block. -/
theorem ldWb (a : Memref sig .tc .vmem S2048x512 .bf16) {b : Memref sig .tc .vmem S1x2048x512 .f32} (hb : b.IsWhole) (x : Vec I S1x2048x512 .f32)
    (y : S2048x512.Idx) :
    a.view.readCov [(⟨Rect.unit ![0, 0] ![2048, 512] inb_S2048x512_S2048x512_0_0, k0_pay4 (View.readAt (Elt I) b.view
      (Rect.unit ![0, 0, 0] ![1, 2048, 512] inb_S1x2048x512_S1x2048x512_0_0_0).toLoadRect (hb.unread x))⟩ : View.Piece (Elt I) S2048x512 .bf16)]
      (Rect.unit (s := S2048x512) ![0, 0] ![2048, 512] inb_S2048x512_S2048x512_0_0).toLoadRect y = wcols x y := by
  rw [View.readCov_cons_toLoadRect]
  unfold k0_pay4 wcols
  pointwise
  rw [Memref.IsWhole.readAt_unread]
  refine congrArg x ?_
  funext a
  fin_cases a
  · rfl
  · exact Fin.ext (by show 0 + 1 * (y 0).val = (y 0).val; omega)
  · exact Fin.ext (by show 0 + 1 * (y 1).val = (y 1).val; omega)

/-- The tail tile: the last eight rows of the buffer. -/
def tailT (x : Vec I S1024x2048 .bf16) (w : Vec I S2048x512 .bf16) (z : Vec I S1032x512 .f32) : Vec I S1x8x512 .f32 := fun y =>
  ab x w z (ix2 ⟨1024 + (y 1).val, by have : (y 1).val < 8 := (y 1).isLt; omega⟩ (y 2))

theorem pay1_at (r : Vec I S8x512 .f32) (j : S1x8x512.Idx) : k0_pay1 r j = r (ix2 (j 1) (j 2)) := by
  unfold k0_pay1
  pointwise

theorem pay2_at (r : Vec I S8x512 .f32) (j : S8x512.Idx) : k0_pay2 r j = r j := by
  unfold k0_pay2
  pointwise

/-- In case A the hidden window takes its tile. -/
theorem hid_A (c : Dev nD) (i : grid0.Coords) (arg2 : Memref sig .tc .vmem S1024x2048 .bf16) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x3x512 .f32) (harg5 : arg5.IsWhole) (arg6 : Memref sig .tc .vmem S1x1x512 .f32) (harg6 : arg6.IsWhole) (arg7 : Memref sig .tc .vmem S8x512 .f32) (harg7 : arg7.IsWhole) (arg8 : Memref sig .tc .vmem S8x512 .f32) (harg8 : arg8.IsWhole) (arg9 : Memref sig .tc .vmem S1024x512 .bf16) (harg9 : arg9.IsWhole) (arg10 : Memref sig .tc .vmem S1x8x512 .f32) (harg10 : arg10.IsWhole) (arg11 : Memref sig .tc .vmem S2048x512 .bf16) (harg11 : arg11.IsWhole) (arg12 : Memref sig .tc .vmem S2048x512 .bf16) (harg12 : arg12.IsWhole) (arg13 : Memref sig .tc .vmem S1032x512 .f32) (harg13 : arg13.IsWhole) (hc0 : cond0_0 i) (hc1 : cond0_1 i)
    (x0 : Vec I S1024x2048 .bf16) (x1 : Vec I S1x2048x512 .f32) (x2 : Vec I S1x2048x512 .f32) (x3 : Vec I S1x3x512 .f32) (x4 : Vec I S1x1x512 .f32) (x5 : Vec I S8x512 .f32) (x6 : Vec I S8x512 .f32) :
    out0_A_7 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 = hidT x0 (wcols x1) (wcols x2) (fun _ => (0 : EReal)) x3 x4 := by
  funext y
  unfold out0_A_7
  refine View.read_writes_apply_of_pieces _ _ (hidT x0 (wcols x1) (wcols x2) (fun _ => (0 : EReal)) x3 x4) _ ?_ y (cover0_A_7 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 y)
  unfold kernelRun0_A
  dsimp only
  sl_unfold_words
  simp only [List.forall_mem_cons]
  refine ⟨?_, ?_, ?_, ?_, ?_, ?_, ?_, ?_, by simp⟩
  · intro j
    refine hd7 (fun y => ldH harg2 x0 (by omega) y) (fun y => ldWa arg11 harg3 x1 y) (fun y => ldWb arg12 harg4 x2 y) ?_ ?_ (fun y => ldC harg5 x3 (by omega) y) (fun y => ldC harg5 x3 (by omega) y) (fun y => ldC harg5 x3 (by omega) y) (fun y => ldB harg6 x4 y) j
    · intro y
      refine rd _ (ab x0 (wcols x1) (fun _ => (0 : EReal))) (by omega) _ ?_ ?_ y
      · simp only [List.forall_mem_cons]
        exact ⟨(st7 _ _ _ (ldH harg2 x0 (by omega)) (ldWa arg11 harg3 x1)),
          (st6 _ _ _ (ldH harg2 x0 (by omega)) (ldWa arg11 harg3 x1)),
          (st5 _ _ _ (ldH harg2 x0 (by omega)) (ldWa arg11 harg3 x1)),
          (st4 _ _ _ (ldH harg2 x0 (by omega)) (ldWa arg11 harg3 x1)),
          (st3 _ _ _ (ldH harg2 x0 (by omega)) (ldWa arg11 harg3 x1)),
          (st2 _ _ _ (ldH harg2 x0 (by omega)) (ldWa arg11 harg3 x1)),
          (st1 _ _ _ (ldH harg2 x0 (by omega)) (ldWa arg11 harg3 x1)),
          (st0 _ _ _ (ldH harg2 x0 (by omega)) (ldWa arg11 harg3 x1)),
          (fun j => pz x0 (wcols x1) j), by simp⟩
      · intro r c h1 h2
        simp only [List.mem_cons, List.not_mem_nil, or_false, exists_eq_or_imp, exists_eq_left, mem_rows]
        omega
    · intro y
      refine rd _ (ab x0 (wcols x1) (fun _ => (0 : EReal))) (by omega) _ ?_ ?_ y
      · simp only [List.forall_mem_cons]
        exact ⟨(st7 _ _ _ (ldH harg2 x0 (by omega)) (ldWa arg11 harg3 x1)),
          (st6 _ _ _ (ldH harg2 x0 (by omega)) (ldWa arg11 harg3 x1)),
          (st5 _ _ _ (ldH harg2 x0 (by omega)) (ldWa arg11 harg3 x1)),
          (st4 _ _ _ (ldH harg2 x0 (by omega)) (ldWa arg11 harg3 x1)),
          (st3 _ _ _ (ldH harg2 x0 (by omega)) (ldWa arg11 harg3 x1)),
          (st2 _ _ _ (ldH harg2 x0 (by omega)) (ldWa arg11 harg3 x1)),
          (st1 _ _ _ (ldH harg2 x0 (by omega)) (ldWa arg11 harg3 x1)),
          (st0 _ _ _ (ldH harg2 x0 (by omega)) (ldWa arg11 harg3 x1)),
          (fun j => pz x0 (wcols x1) j), by simp⟩
      · intro r c h1 h2
        simp only [List.mem_cons, List.not_mem_nil, or_false, exists_eq_or_imp, exists_eq_left, mem_rows]
        omega
  · intro j
    refine hd6 (fun y => ldH harg2 x0 (by omega) y) (fun y => ldWa arg11 harg3 x1 y) (fun y => ldWb arg12 harg4 x2 y) ?_ ?_ (fun y => ldC harg5 x3 (by omega) y) (fun y => ldC harg5 x3 (by omega) y) (fun y => ldC harg5 x3 (by omega) y) (fun y => ldB harg6 x4 y) j
    · intro y
      refine rd _ (ab x0 (wcols x1) (fun _ => (0 : EReal))) (by omega) _ ?_ ?_ y
      · simp only [List.forall_mem_cons]
        exact ⟨(st6 _ _ _ (ldH harg2 x0 (by omega)) (ldWa arg11 harg3 x1)),
          (st5 _ _ _ (ldH harg2 x0 (by omega)) (ldWa arg11 harg3 x1)),
          (st4 _ _ _ (ldH harg2 x0 (by omega)) (ldWa arg11 harg3 x1)),
          (st3 _ _ _ (ldH harg2 x0 (by omega)) (ldWa arg11 harg3 x1)),
          (st2 _ _ _ (ldH harg2 x0 (by omega)) (ldWa arg11 harg3 x1)),
          (st1 _ _ _ (ldH harg2 x0 (by omega)) (ldWa arg11 harg3 x1)),
          (st0 _ _ _ (ldH harg2 x0 (by omega)) (ldWa arg11 harg3 x1)),
          (fun j => pz x0 (wcols x1) j), by simp⟩
      · intro r c h1 h2
        simp only [List.mem_cons, List.not_mem_nil, or_false, exists_eq_or_imp, exists_eq_left, mem_rows]
        omega
    · intro y
      refine rd _ (ab x0 (wcols x1) (fun _ => (0 : EReal))) (by omega) _ ?_ ?_ y
      · simp only [List.forall_mem_cons]
        exact ⟨(st6 _ _ _ (ldH harg2 x0 (by omega)) (ldWa arg11 harg3 x1)),
          (st5 _ _ _ (ldH harg2 x0 (by omega)) (ldWa arg11 harg3 x1)),
          (st4 _ _ _ (ldH harg2 x0 (by omega)) (ldWa arg11 harg3 x1)),
          (st3 _ _ _ (ldH harg2 x0 (by omega)) (ldWa arg11 harg3 x1)),
          (st2 _ _ _ (ldH harg2 x0 (by omega)) (ldWa arg11 harg3 x1)),
          (st1 _ _ _ (ldH harg2 x0 (by omega)) (ldWa arg11 harg3 x1)),
          (st0 _ _ _ (ldH harg2 x0 (by omega)) (ldWa arg11 harg3 x1)),
          (fun j => pz x0 (wcols x1) j), by simp⟩
      · intro r c h1 h2
        simp only [List.mem_cons, List.not_mem_nil, or_false, exists_eq_or_imp, exists_eq_left, mem_rows]
        omega
  · intro j
    refine hd5 (fun y => ldH harg2 x0 (by omega) y) (fun y => ldWa arg11 harg3 x1 y) (fun y => ldWb arg12 harg4 x2 y) ?_ ?_ (fun y => ldC harg5 x3 (by omega) y) (fun y => ldC harg5 x3 (by omega) y) (fun y => ldC harg5 x3 (by omega) y) (fun y => ldB harg6 x4 y) j
    · intro y
      refine rd _ (ab x0 (wcols x1) (fun _ => (0 : EReal))) (by omega) _ ?_ ?_ y
      · simp only [List.forall_mem_cons]
        exact ⟨(st5 _ _ _ (ldH harg2 x0 (by omega)) (ldWa arg11 harg3 x1)),
          (st4 _ _ _ (ldH harg2 x0 (by omega)) (ldWa arg11 harg3 x1)),
          (st3 _ _ _ (ldH harg2 x0 (by omega)) (ldWa arg11 harg3 x1)),
          (st2 _ _ _ (ldH harg2 x0 (by omega)) (ldWa arg11 harg3 x1)),
          (st1 _ _ _ (ldH harg2 x0 (by omega)) (ldWa arg11 harg3 x1)),
          (st0 _ _ _ (ldH harg2 x0 (by omega)) (ldWa arg11 harg3 x1)),
          (fun j => pz x0 (wcols x1) j), by simp⟩
      · intro r c h1 h2
        simp only [List.mem_cons, List.not_mem_nil, or_false, exists_eq_or_imp, exists_eq_left, mem_rows]
        omega
    · intro y
      refine rd _ (ab x0 (wcols x1) (fun _ => (0 : EReal))) (by omega) _ ?_ ?_ y
      · simp only [List.forall_mem_cons]
        exact ⟨(st5 _ _ _ (ldH harg2 x0 (by omega)) (ldWa arg11 harg3 x1)),
          (st4 _ _ _ (ldH harg2 x0 (by omega)) (ldWa arg11 harg3 x1)),
          (st3 _ _ _ (ldH harg2 x0 (by omega)) (ldWa arg11 harg3 x1)),
          (st2 _ _ _ (ldH harg2 x0 (by omega)) (ldWa arg11 harg3 x1)),
          (st1 _ _ _ (ldH harg2 x0 (by omega)) (ldWa arg11 harg3 x1)),
          (st0 _ _ _ (ldH harg2 x0 (by omega)) (ldWa arg11 harg3 x1)),
          (fun j => pz x0 (wcols x1) j), by simp⟩
      · intro r c h1 h2
        simp only [List.mem_cons, List.not_mem_nil, or_false, exists_eq_or_imp, exists_eq_left, mem_rows]
        omega
  · intro j
    refine hd4 (fun y => ldH harg2 x0 (by omega) y) (fun y => ldWa arg11 harg3 x1 y) (fun y => ldWb arg12 harg4 x2 y) ?_ ?_ (fun y => ldC harg5 x3 (by omega) y) (fun y => ldC harg5 x3 (by omega) y) (fun y => ldC harg5 x3 (by omega) y) (fun y => ldB harg6 x4 y) j
    · intro y
      refine rd _ (ab x0 (wcols x1) (fun _ => (0 : EReal))) (by omega) _ ?_ ?_ y
      · simp only [List.forall_mem_cons]
        exact ⟨(st4 _ _ _ (ldH harg2 x0 (by omega)) (ldWa arg11 harg3 x1)),
          (st3 _ _ _ (ldH harg2 x0 (by omega)) (ldWa arg11 harg3 x1)),
          (st2 _ _ _ (ldH harg2 x0 (by omega)) (ldWa arg11 harg3 x1)),
          (st1 _ _ _ (ldH harg2 x0 (by omega)) (ldWa arg11 harg3 x1)),
          (st0 _ _ _ (ldH harg2 x0 (by omega)) (ldWa arg11 harg3 x1)),
          (fun j => pz x0 (wcols x1) j), by simp⟩
      · intro r c h1 h2
        simp only [List.mem_cons, List.not_mem_nil, or_false, exists_eq_or_imp, exists_eq_left, mem_rows]
        omega
    · intro y
      refine rd _ (ab x0 (wcols x1) (fun _ => (0 : EReal))) (by omega) _ ?_ ?_ y
      · simp only [List.forall_mem_cons]
        exact ⟨(st4 _ _ _ (ldH harg2 x0 (by omega)) (ldWa arg11 harg3 x1)),
          (st3 _ _ _ (ldH harg2 x0 (by omega)) (ldWa arg11 harg3 x1)),
          (st2 _ _ _ (ldH harg2 x0 (by omega)) (ldWa arg11 harg3 x1)),
          (st1 _ _ _ (ldH harg2 x0 (by omega)) (ldWa arg11 harg3 x1)),
          (st0 _ _ _ (ldH harg2 x0 (by omega)) (ldWa arg11 harg3 x1)),
          (fun j => pz x0 (wcols x1) j), by simp⟩
      · intro r c h1 h2
        simp only [List.mem_cons, List.not_mem_nil, or_false, exists_eq_or_imp, exists_eq_left, mem_rows]
        omega
  · intro j
    refine hd3 (fun y => ldH harg2 x0 (by omega) y) (fun y => ldWa arg11 harg3 x1 y) (fun y => ldWb arg12 harg4 x2 y) ?_ ?_ (fun y => ldC harg5 x3 (by omega) y) (fun y => ldC harg5 x3 (by omega) y) (fun y => ldC harg5 x3 (by omega) y) (fun y => ldB harg6 x4 y) j
    · intro y
      refine rd _ (ab x0 (wcols x1) (fun _ => (0 : EReal))) (by omega) _ ?_ ?_ y
      · simp only [List.forall_mem_cons]
        exact ⟨(st3 _ _ _ (ldH harg2 x0 (by omega)) (ldWa arg11 harg3 x1)),
          (st2 _ _ _ (ldH harg2 x0 (by omega)) (ldWa arg11 harg3 x1)),
          (st1 _ _ _ (ldH harg2 x0 (by omega)) (ldWa arg11 harg3 x1)),
          (st0 _ _ _ (ldH harg2 x0 (by omega)) (ldWa arg11 harg3 x1)),
          (fun j => pz x0 (wcols x1) j), by simp⟩
      · intro r c h1 h2
        simp only [List.mem_cons, List.not_mem_nil, or_false, exists_eq_or_imp, exists_eq_left, mem_rows]
        omega
    · intro y
      refine rd _ (ab x0 (wcols x1) (fun _ => (0 : EReal))) (by omega) _ ?_ ?_ y
      · simp only [List.forall_mem_cons]
        exact ⟨(st3 _ _ _ (ldH harg2 x0 (by omega)) (ldWa arg11 harg3 x1)),
          (st2 _ _ _ (ldH harg2 x0 (by omega)) (ldWa arg11 harg3 x1)),
          (st1 _ _ _ (ldH harg2 x0 (by omega)) (ldWa arg11 harg3 x1)),
          (st0 _ _ _ (ldH harg2 x0 (by omega)) (ldWa arg11 harg3 x1)),
          (fun j => pz x0 (wcols x1) j), by simp⟩
      · intro r c h1 h2
        simp only [List.mem_cons, List.not_mem_nil, or_false, exists_eq_or_imp, exists_eq_left, mem_rows]
        omega
  · intro j
    refine hd2 (fun y => ldH harg2 x0 (by omega) y) (fun y => ldWa arg11 harg3 x1 y) (fun y => ldWb arg12 harg4 x2 y) ?_ ?_ (fun y => ldC harg5 x3 (by omega) y) (fun y => ldC harg5 x3 (by omega) y) (fun y => ldC harg5 x3 (by omega) y) (fun y => ldB harg6 x4 y) j
    · intro y
      refine rd _ (ab x0 (wcols x1) (fun _ => (0 : EReal))) (by omega) _ ?_ ?_ y
      · simp only [List.forall_mem_cons]
        exact ⟨(st2 _ _ _ (ldH harg2 x0 (by omega)) (ldWa arg11 harg3 x1)),
          (st1 _ _ _ (ldH harg2 x0 (by omega)) (ldWa arg11 harg3 x1)),
          (st0 _ _ _ (ldH harg2 x0 (by omega)) (ldWa arg11 harg3 x1)),
          (fun j => pz x0 (wcols x1) j), by simp⟩
      · intro r c h1 h2
        simp only [List.mem_cons, List.not_mem_nil, or_false, exists_eq_or_imp, exists_eq_left, mem_rows]
        omega
    · intro y
      refine rd _ (ab x0 (wcols x1) (fun _ => (0 : EReal))) (by omega) _ ?_ ?_ y
      · simp only [List.forall_mem_cons]
        exact ⟨(st2 _ _ _ (ldH harg2 x0 (by omega)) (ldWa arg11 harg3 x1)),
          (st1 _ _ _ (ldH harg2 x0 (by omega)) (ldWa arg11 harg3 x1)),
          (st0 _ _ _ (ldH harg2 x0 (by omega)) (ldWa arg11 harg3 x1)),
          (fun j => pz x0 (wcols x1) j), by simp⟩
      · intro r c h1 h2
        simp only [List.mem_cons, List.not_mem_nil, or_false, exists_eq_or_imp, exists_eq_left, mem_rows]
        omega
  · intro j
    refine hd1 (fun y => ldH harg2 x0 (by omega) y) (fun y => ldWa arg11 harg3 x1 y) (fun y => ldWb arg12 harg4 x2 y) ?_ ?_ (fun y => ldC harg5 x3 (by omega) y) (fun y => ldC harg5 x3 (by omega) y) (fun y => ldC harg5 x3 (by omega) y) (fun y => ldB harg6 x4 y) j
    · intro y
      refine rd _ (ab x0 (wcols x1) (fun _ => (0 : EReal))) (by omega) _ ?_ ?_ y
      · simp only [List.forall_mem_cons]
        exact ⟨(st1 _ _ _ (ldH harg2 x0 (by omega)) (ldWa arg11 harg3 x1)),
          (st0 _ _ _ (ldH harg2 x0 (by omega)) (ldWa arg11 harg3 x1)),
          (fun j => pz x0 (wcols x1) j), by simp⟩
      · intro r c h1 h2
        simp only [List.mem_cons, List.not_mem_nil, or_false, exists_eq_or_imp, exists_eq_left, mem_rows]
        omega
    · intro y
      refine rd _ (ab x0 (wcols x1) (fun _ => (0 : EReal))) (by omega) _ ?_ ?_ y
      · simp only [List.forall_mem_cons]
        exact ⟨(st1 _ _ _ (ldH harg2 x0 (by omega)) (ldWa arg11 harg3 x1)),
          (st0 _ _ _ (ldH harg2 x0 (by omega)) (ldWa arg11 harg3 x1)),
          (fun j => pz x0 (wcols x1) j), by simp⟩
      · intro r c h1 h2
        simp only [List.mem_cons, List.not_mem_nil, or_false, exists_eq_or_imp, exists_eq_left, mem_rows]
        omega
  · intro j
    refine hd0 (fun y => ldH harg2 x0 (by omega) y) (fun y => ldWa arg11 harg3 x1 y) (fun y => ldWb arg12 harg4 x2 y) ?_ ?_ (fun y => ldC harg5 x3 (by omega) y) (fun y => ldC harg5 x3 (by omega) y) (fun y => ldC harg5 x3 (by omega) y) (fun y => ldB harg6 x4 y) j
    · intro y
      refine rd _ (ab x0 (wcols x1) (fun _ => (0 : EReal))) (by omega) _ ?_ ?_ y
      · simp only [List.forall_mem_cons]
        exact ⟨(st0 _ _ _ (ldH harg2 x0 (by omega)) (ldWa arg11 harg3 x1)),
          (fun j => pz x0 (wcols x1) j), by simp⟩
      · intro r c h1 h2
        simp only [List.mem_cons, List.not_mem_nil, or_false, exists_eq_or_imp, exists_eq_left, mem_rows]
        omega
    · intro y
      refine rd _ (ab x0 (wcols x1) (fun _ => (0 : EReal))) (by omega) _ ?_ ?_ y
      · simp only [List.forall_mem_cons]
        exact ⟨(st0 _ _ _ (ldH harg2 x0 (by omega)) (ldWa arg11 harg3 x1)),
          (fun j => pz x0 (wcols x1) j), by simp⟩
      · intro r c h1 h2
        simp only [List.mem_cons, List.not_mem_nil, or_false, exists_eq_or_imp, exists_eq_left, mem_rows]
        omega

/-- In case B the hidden window takes its tile. -/
theorem hid_B (c : Dev nD) (i : grid0.Coords) (arg2 : Memref sig .tc .vmem S1024x2048 .bf16) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x3x512 .f32) (harg5 : arg5.IsWhole) (arg6 : Memref sig .tc .vmem S1x1x512 .f32) (harg6 : arg6.IsWhole) (arg7 : Memref sig .tc .vmem S8x512 .f32) (harg7 : arg7.IsWhole) (arg8 : Memref sig .tc .vmem S8x512 .f32) (harg8 : arg8.IsWhole) (arg9 : Memref sig .tc .vmem S1024x512 .bf16) (harg9 : arg9.IsWhole) (arg10 : Memref sig .tc .vmem S1x8x512 .f32) (harg10 : arg10.IsWhole) (arg11 : Memref sig .tc .vmem S2048x512 .bf16) (harg11 : arg11.IsWhole) (arg12 : Memref sig .tc .vmem S2048x512 .bf16) (harg12 : arg12.IsWhole) (arg13 : Memref sig .tc .vmem S1032x512 .f32) (harg13 : arg13.IsWhole) (hc0 : ¬cond0_0 i) (hc1 : ¬cond0_1 i)
    (x0 : Vec I S1024x2048 .bf16) (x1 : Vec I S1x2048x512 .f32) (x2 : Vec I S1x2048x512 .f32) (x3 : Vec I S1x3x512 .f32) (x4 : Vec I S1x1x512 .f32) (x5 : Vec I S8x512 .f32) (x6 : Vec I S8x512 .f32) (xs0 : Vec I S2048x512 .bf16) (xs1 : Vec I S2048x512 .bf16) (xs2 : Vec I S1032x512 .f32) :
    out0_B_7 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 = hidT x0 xs0 xs1 xs2 x3 x4 := by
  funext y
  unfold out0_B_7
  refine View.read_writes_apply_of_pieces _ _ (hidT x0 xs0 xs1 xs2 x3 x4) _ ?_ y (cover0_B_7 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 y)
  unfold kernelRun0_B
  dsimp only
  sl_unfold_words
  simp only [List.forall_mem_cons]
  refine ⟨?_, ?_, ?_, ?_, ?_, ?_, ?_, ?_, by simp⟩
  · intro j
    refine hd7 (fun y => ldH harg2 x0 (by omega) y) (fun y => ldS harg11 xs0 y) (fun y => ldS harg12 xs1 y) ?_ ?_ (fun y => ldC harg5 x3 (by omega) y) (fun y => ldC harg5 x3 (by omega) y) (fun y => ldC harg5 x3 (by omega) y) (fun y => ldB harg6 x4 y) j
    · intro y
      refine rd _ (ab x0 xs0 xs2) (by omega) _ ?_ ?_ y
      · simp only [List.forall_mem_cons]
        exact ⟨(st7 _ _ _ (ldH harg2 x0 (by omega)) (ldS harg11 xs0)),
          (st6 _ _ _ (ldH harg2 x0 (by omega)) (ldS harg11 xs0)),
          (st5 _ _ _ (ldH harg2 x0 (by omega)) (ldS harg11 xs0)),
          (st4 _ _ _ (ldH harg2 x0 (by omega)) (ldS harg11 xs0)),
          (st3 _ _ _ (ldH harg2 x0 (by omega)) (ldS harg11 xs0)),
          (st2 _ _ _ (ldH harg2 x0 (by omega)) (ldS harg11 xs0)),
          (st1 _ _ _ (ldH harg2 x0 (by omega)) (ldS harg11 xs0)),
          (st0 _ _ _ (ldH harg2 x0 (by omega)) (ldS harg11 xs0)), by simp⟩
      · intro r c h1 h2
        simp only [List.mem_cons, List.not_mem_nil, or_false, exists_eq_or_imp, exists_eq_left, mem_rows]
        omega
    · intro y
      refine rd _ (ab x0 xs0 xs2) (by omega) _ ?_ ?_ y
      · simp only [List.forall_mem_cons]
        exact ⟨(st7 _ _ _ (ldH harg2 x0 (by omega)) (ldS harg11 xs0)),
          (st6 _ _ _ (ldH harg2 x0 (by omega)) (ldS harg11 xs0)),
          (st5 _ _ _ (ldH harg2 x0 (by omega)) (ldS harg11 xs0)),
          (st4 _ _ _ (ldH harg2 x0 (by omega)) (ldS harg11 xs0)),
          (st3 _ _ _ (ldH harg2 x0 (by omega)) (ldS harg11 xs0)),
          (st2 _ _ _ (ldH harg2 x0 (by omega)) (ldS harg11 xs0)),
          (st1 _ _ _ (ldH harg2 x0 (by omega)) (ldS harg11 xs0)),
          (st0 _ _ _ (ldH harg2 x0 (by omega)) (ldS harg11 xs0)), by simp⟩
      · intro r c h1 h2
        simp only [List.mem_cons, List.not_mem_nil, or_false, exists_eq_or_imp, exists_eq_left, mem_rows]
        omega
  · intro j
    refine hd6 (fun y => ldH harg2 x0 (by omega) y) (fun y => ldS harg11 xs0 y) (fun y => ldS harg12 xs1 y) ?_ ?_ (fun y => ldC harg5 x3 (by omega) y) (fun y => ldC harg5 x3 (by omega) y) (fun y => ldC harg5 x3 (by omega) y) (fun y => ldB harg6 x4 y) j
    · intro y
      refine rd _ (ab x0 xs0 xs2) (by omega) _ ?_ ?_ y
      · simp only [List.forall_mem_cons]
        exact ⟨(st6 _ _ _ (ldH harg2 x0 (by omega)) (ldS harg11 xs0)),
          (st5 _ _ _ (ldH harg2 x0 (by omega)) (ldS harg11 xs0)),
          (st4 _ _ _ (ldH harg2 x0 (by omega)) (ldS harg11 xs0)),
          (st3 _ _ _ (ldH harg2 x0 (by omega)) (ldS harg11 xs0)),
          (st2 _ _ _ (ldH harg2 x0 (by omega)) (ldS harg11 xs0)),
          (st1 _ _ _ (ldH harg2 x0 (by omega)) (ldS harg11 xs0)),
          (st0 _ _ _ (ldH harg2 x0 (by omega)) (ldS harg11 xs0)), by simp⟩
      · intro r c h1 h2
        simp only [List.mem_cons, List.not_mem_nil, or_false, exists_eq_or_imp, exists_eq_left, mem_rows]
        omega
    · intro y
      refine rd _ (ab x0 xs0 xs2) (by omega) _ ?_ ?_ y
      · simp only [List.forall_mem_cons]
        exact ⟨(st6 _ _ _ (ldH harg2 x0 (by omega)) (ldS harg11 xs0)),
          (st5 _ _ _ (ldH harg2 x0 (by omega)) (ldS harg11 xs0)),
          (st4 _ _ _ (ldH harg2 x0 (by omega)) (ldS harg11 xs0)),
          (st3 _ _ _ (ldH harg2 x0 (by omega)) (ldS harg11 xs0)),
          (st2 _ _ _ (ldH harg2 x0 (by omega)) (ldS harg11 xs0)),
          (st1 _ _ _ (ldH harg2 x0 (by omega)) (ldS harg11 xs0)),
          (st0 _ _ _ (ldH harg2 x0 (by omega)) (ldS harg11 xs0)), by simp⟩
      · intro r c h1 h2
        simp only [List.mem_cons, List.not_mem_nil, or_false, exists_eq_or_imp, exists_eq_left, mem_rows]
        omega
  · intro j
    refine hd5 (fun y => ldH harg2 x0 (by omega) y) (fun y => ldS harg11 xs0 y) (fun y => ldS harg12 xs1 y) ?_ ?_ (fun y => ldC harg5 x3 (by omega) y) (fun y => ldC harg5 x3 (by omega) y) (fun y => ldC harg5 x3 (by omega) y) (fun y => ldB harg6 x4 y) j
    · intro y
      refine rd _ (ab x0 xs0 xs2) (by omega) _ ?_ ?_ y
      · simp only [List.forall_mem_cons]
        exact ⟨(st5 _ _ _ (ldH harg2 x0 (by omega)) (ldS harg11 xs0)),
          (st4 _ _ _ (ldH harg2 x0 (by omega)) (ldS harg11 xs0)),
          (st3 _ _ _ (ldH harg2 x0 (by omega)) (ldS harg11 xs0)),
          (st2 _ _ _ (ldH harg2 x0 (by omega)) (ldS harg11 xs0)),
          (st1 _ _ _ (ldH harg2 x0 (by omega)) (ldS harg11 xs0)),
          (st0 _ _ _ (ldH harg2 x0 (by omega)) (ldS harg11 xs0)), by simp⟩
      · intro r c h1 h2
        simp only [List.mem_cons, List.not_mem_nil, or_false, exists_eq_or_imp, exists_eq_left, mem_rows]
        omega
    · intro y
      refine rd _ (ab x0 xs0 xs2) (by omega) _ ?_ ?_ y
      · simp only [List.forall_mem_cons]
        exact ⟨(st5 _ _ _ (ldH harg2 x0 (by omega)) (ldS harg11 xs0)),
          (st4 _ _ _ (ldH harg2 x0 (by omega)) (ldS harg11 xs0)),
          (st3 _ _ _ (ldH harg2 x0 (by omega)) (ldS harg11 xs0)),
          (st2 _ _ _ (ldH harg2 x0 (by omega)) (ldS harg11 xs0)),
          (st1 _ _ _ (ldH harg2 x0 (by omega)) (ldS harg11 xs0)),
          (st0 _ _ _ (ldH harg2 x0 (by omega)) (ldS harg11 xs0)), by simp⟩
      · intro r c h1 h2
        simp only [List.mem_cons, List.not_mem_nil, or_false, exists_eq_or_imp, exists_eq_left, mem_rows]
        omega
  · intro j
    refine hd4 (fun y => ldH harg2 x0 (by omega) y) (fun y => ldS harg11 xs0 y) (fun y => ldS harg12 xs1 y) ?_ ?_ (fun y => ldC harg5 x3 (by omega) y) (fun y => ldC harg5 x3 (by omega) y) (fun y => ldC harg5 x3 (by omega) y) (fun y => ldB harg6 x4 y) j
    · intro y
      refine rd _ (ab x0 xs0 xs2) (by omega) _ ?_ ?_ y
      · simp only [List.forall_mem_cons]
        exact ⟨(st4 _ _ _ (ldH harg2 x0 (by omega)) (ldS harg11 xs0)),
          (st3 _ _ _ (ldH harg2 x0 (by omega)) (ldS harg11 xs0)),
          (st2 _ _ _ (ldH harg2 x0 (by omega)) (ldS harg11 xs0)),
          (st1 _ _ _ (ldH harg2 x0 (by omega)) (ldS harg11 xs0)),
          (st0 _ _ _ (ldH harg2 x0 (by omega)) (ldS harg11 xs0)), by simp⟩
      · intro r c h1 h2
        simp only [List.mem_cons, List.not_mem_nil, or_false, exists_eq_or_imp, exists_eq_left, mem_rows]
        omega
    · intro y
      refine rd _ (ab x0 xs0 xs2) (by omega) _ ?_ ?_ y
      · simp only [List.forall_mem_cons]
        exact ⟨(st4 _ _ _ (ldH harg2 x0 (by omega)) (ldS harg11 xs0)),
          (st3 _ _ _ (ldH harg2 x0 (by omega)) (ldS harg11 xs0)),
          (st2 _ _ _ (ldH harg2 x0 (by omega)) (ldS harg11 xs0)),
          (st1 _ _ _ (ldH harg2 x0 (by omega)) (ldS harg11 xs0)),
          (st0 _ _ _ (ldH harg2 x0 (by omega)) (ldS harg11 xs0)), by simp⟩
      · intro r c h1 h2
        simp only [List.mem_cons, List.not_mem_nil, or_false, exists_eq_or_imp, exists_eq_left, mem_rows]
        omega
  · intro j
    refine hd3 (fun y => ldH harg2 x0 (by omega) y) (fun y => ldS harg11 xs0 y) (fun y => ldS harg12 xs1 y) ?_ ?_ (fun y => ldC harg5 x3 (by omega) y) (fun y => ldC harg5 x3 (by omega) y) (fun y => ldC harg5 x3 (by omega) y) (fun y => ldB harg6 x4 y) j
    · intro y
      refine rd _ (ab x0 xs0 xs2) (by omega) _ ?_ ?_ y
      · simp only [List.forall_mem_cons]
        exact ⟨(st3 _ _ _ (ldH harg2 x0 (by omega)) (ldS harg11 xs0)),
          (st2 _ _ _ (ldH harg2 x0 (by omega)) (ldS harg11 xs0)),
          (st1 _ _ _ (ldH harg2 x0 (by omega)) (ldS harg11 xs0)),
          (st0 _ _ _ (ldH harg2 x0 (by omega)) (ldS harg11 xs0)), by simp⟩
      · intro r c h1 h2
        simp only [List.mem_cons, List.not_mem_nil, or_false, exists_eq_or_imp, exists_eq_left, mem_rows]
        omega
    · intro y
      refine rd _ (ab x0 xs0 xs2) (by omega) _ ?_ ?_ y
      · simp only [List.forall_mem_cons]
        exact ⟨(st3 _ _ _ (ldH harg2 x0 (by omega)) (ldS harg11 xs0)),
          (st2 _ _ _ (ldH harg2 x0 (by omega)) (ldS harg11 xs0)),
          (st1 _ _ _ (ldH harg2 x0 (by omega)) (ldS harg11 xs0)),
          (st0 _ _ _ (ldH harg2 x0 (by omega)) (ldS harg11 xs0)), by simp⟩
      · intro r c h1 h2
        simp only [List.mem_cons, List.not_mem_nil, or_false, exists_eq_or_imp, exists_eq_left, mem_rows]
        omega
  · intro j
    refine hd2 (fun y => ldH harg2 x0 (by omega) y) (fun y => ldS harg11 xs0 y) (fun y => ldS harg12 xs1 y) ?_ ?_ (fun y => ldC harg5 x3 (by omega) y) (fun y => ldC harg5 x3 (by omega) y) (fun y => ldC harg5 x3 (by omega) y) (fun y => ldB harg6 x4 y) j
    · intro y
      refine rd _ (ab x0 xs0 xs2) (by omega) _ ?_ ?_ y
      · simp only [List.forall_mem_cons]
        exact ⟨(st2 _ _ _ (ldH harg2 x0 (by omega)) (ldS harg11 xs0)),
          (st1 _ _ _ (ldH harg2 x0 (by omega)) (ldS harg11 xs0)),
          (st0 _ _ _ (ldH harg2 x0 (by omega)) (ldS harg11 xs0)), by simp⟩
      · intro r c h1 h2
        simp only [List.mem_cons, List.not_mem_nil, or_false, exists_eq_or_imp, exists_eq_left, mem_rows]
        omega
    · intro y
      refine rd _ (ab x0 xs0 xs2) (by omega) _ ?_ ?_ y
      · simp only [List.forall_mem_cons]
        exact ⟨(st2 _ _ _ (ldH harg2 x0 (by omega)) (ldS harg11 xs0)),
          (st1 _ _ _ (ldH harg2 x0 (by omega)) (ldS harg11 xs0)),
          (st0 _ _ _ (ldH harg2 x0 (by omega)) (ldS harg11 xs0)), by simp⟩
      · intro r c h1 h2
        simp only [List.mem_cons, List.not_mem_nil, or_false, exists_eq_or_imp, exists_eq_left, mem_rows]
        omega
  · intro j
    refine hd1 (fun y => ldH harg2 x0 (by omega) y) (fun y => ldS harg11 xs0 y) (fun y => ldS harg12 xs1 y) ?_ ?_ (fun y => ldC harg5 x3 (by omega) y) (fun y => ldC harg5 x3 (by omega) y) (fun y => ldC harg5 x3 (by omega) y) (fun y => ldB harg6 x4 y) j
    · intro y
      refine rd _ (ab x0 xs0 xs2) (by omega) _ ?_ ?_ y
      · simp only [List.forall_mem_cons]
        exact ⟨(st1 _ _ _ (ldH harg2 x0 (by omega)) (ldS harg11 xs0)),
          (st0 _ _ _ (ldH harg2 x0 (by omega)) (ldS harg11 xs0)), by simp⟩
      · intro r c h1 h2
        simp only [List.mem_cons, List.not_mem_nil, or_false, exists_eq_or_imp, exists_eq_left, mem_rows]
        omega
    · intro y
      refine rd _ (ab x0 xs0 xs2) (by omega) _ ?_ ?_ y
      · simp only [List.forall_mem_cons]
        exact ⟨(st1 _ _ _ (ldH harg2 x0 (by omega)) (ldS harg11 xs0)),
          (st0 _ _ _ (ldH harg2 x0 (by omega)) (ldS harg11 xs0)), by simp⟩
      · intro r c h1 h2
        simp only [List.mem_cons, List.not_mem_nil, or_false, exists_eq_or_imp, exists_eq_left, mem_rows]
        omega
  · intro j
    refine hd0 (fun y => ldH harg2 x0 (by omega) y) (fun y => ldS harg11 xs0 y) (fun y => ldS harg12 xs1 y) ?_ ?_ (fun y => ldC harg5 x3 (by omega) y) (fun y => ldC harg5 x3 (by omega) y) (fun y => ldC harg5 x3 (by omega) y) (fun y => ldB harg6 x4 y) j
    · intro y
      exact rdB harg13 x0 xs0 xs2 (by omega) _ (st0 _ _ _ (ldH harg2 x0 (by omega)) (ldS harg11 xs0)) y
    · intro y
      exact rdB harg13 x0 xs0 xs2 (by omega) _ (st0 _ _ _ (ldH harg2 x0 (by omega)) (ldS harg11 xs0)) y

/-- In case C the hidden window takes its tile. -/
theorem hid_C (c : Dev nD) (i : grid0.Coords) (arg2 : Memref sig .tc .vmem S1024x2048 .bf16) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x3x512 .f32) (harg5 : arg5.IsWhole) (arg6 : Memref sig .tc .vmem S1x1x512 .f32) (harg6 : arg6.IsWhole) (arg7 : Memref sig .tc .vmem S8x512 .f32) (harg7 : arg7.IsWhole) (arg8 : Memref sig .tc .vmem S8x512 .f32) (harg8 : arg8.IsWhole) (arg9 : Memref sig .tc .vmem S1024x512 .bf16) (harg9 : arg9.IsWhole) (arg10 : Memref sig .tc .vmem S1x8x512 .f32) (harg10 : arg10.IsWhole) (arg11 : Memref sig .tc .vmem S2048x512 .bf16) (harg11 : arg11.IsWhole) (arg12 : Memref sig .tc .vmem S2048x512 .bf16) (harg12 : arg12.IsWhole) (arg13 : Memref sig .tc .vmem S1032x512 .f32) (harg13 : arg13.IsWhole) (hc0 : ¬cond0_0 i) (hc1 : cond0_1 i)
    (x0 : Vec I S1024x2048 .bf16) (x1 : Vec I S1x2048x512 .f32) (x2 : Vec I S1x2048x512 .f32) (x3 : Vec I S1x3x512 .f32) (x4 : Vec I S1x1x512 .f32) (x5 : Vec I S8x512 .f32) (x6 : Vec I S8x512 .f32) (xs0 : Vec I S2048x512 .bf16) (xs1 : Vec I S2048x512 .bf16) :
    out0_C_7 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 = hidT x0 xs0 xs1 (fun _ => (0 : EReal)) x3 x4 := by
  funext y
  unfold out0_C_7
  refine View.read_writes_apply_of_pieces _ _ (hidT x0 xs0 xs1 (fun _ => (0 : EReal)) x3 x4) _ ?_ y (cover0_C_7 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 y)
  unfold kernelRun0_C
  dsimp only
  sl_unfold_words
  simp only [List.forall_mem_cons]
  refine ⟨?_, ?_, ?_, ?_, ?_, ?_, ?_, ?_, by simp⟩
  · intro j
    refine hd7 (fun y => ldH harg2 x0 (by omega) y) (fun y => ldS harg11 xs0 y) (fun y => ldS harg12 xs1 y) ?_ ?_ (fun y => ldC harg5 x3 (by omega) y) (fun y => ldC harg5 x3 (by omega) y) (fun y => ldC harg5 x3 (by omega) y) (fun y => ldB harg6 x4 y) j
    · intro y
      refine rd _ (ab x0 xs0 (fun _ => (0 : EReal))) (by omega) _ ?_ ?_ y
      · simp only [List.forall_mem_cons]
        exact ⟨(st7 _ _ _ (ldH harg2 x0 (by omega)) (ldS harg11 xs0)),
          (st6 _ _ _ (ldH harg2 x0 (by omega)) (ldS harg11 xs0)),
          (st5 _ _ _ (ldH harg2 x0 (by omega)) (ldS harg11 xs0)),
          (st4 _ _ _ (ldH harg2 x0 (by omega)) (ldS harg11 xs0)),
          (st3 _ _ _ (ldH harg2 x0 (by omega)) (ldS harg11 xs0)),
          (st2 _ _ _ (ldH harg2 x0 (by omega)) (ldS harg11 xs0)),
          (st1 _ _ _ (ldH harg2 x0 (by omega)) (ldS harg11 xs0)),
          (st0 _ _ _ (ldH harg2 x0 (by omega)) (ldS harg11 xs0)),
          (fun j => pz x0 xs0 j), by simp⟩
      · intro r c h1 h2
        simp only [List.mem_cons, List.not_mem_nil, or_false, exists_eq_or_imp, exists_eq_left, mem_rows]
        omega
    · intro y
      refine rd _ (ab x0 xs0 (fun _ => (0 : EReal))) (by omega) _ ?_ ?_ y
      · simp only [List.forall_mem_cons]
        exact ⟨(st7 _ _ _ (ldH harg2 x0 (by omega)) (ldS harg11 xs0)),
          (st6 _ _ _ (ldH harg2 x0 (by omega)) (ldS harg11 xs0)),
          (st5 _ _ _ (ldH harg2 x0 (by omega)) (ldS harg11 xs0)),
          (st4 _ _ _ (ldH harg2 x0 (by omega)) (ldS harg11 xs0)),
          (st3 _ _ _ (ldH harg2 x0 (by omega)) (ldS harg11 xs0)),
          (st2 _ _ _ (ldH harg2 x0 (by omega)) (ldS harg11 xs0)),
          (st1 _ _ _ (ldH harg2 x0 (by omega)) (ldS harg11 xs0)),
          (st0 _ _ _ (ldH harg2 x0 (by omega)) (ldS harg11 xs0)),
          (fun j => pz x0 xs0 j), by simp⟩
      · intro r c h1 h2
        simp only [List.mem_cons, List.not_mem_nil, or_false, exists_eq_or_imp, exists_eq_left, mem_rows]
        omega
  · intro j
    refine hd6 (fun y => ldH harg2 x0 (by omega) y) (fun y => ldS harg11 xs0 y) (fun y => ldS harg12 xs1 y) ?_ ?_ (fun y => ldC harg5 x3 (by omega) y) (fun y => ldC harg5 x3 (by omega) y) (fun y => ldC harg5 x3 (by omega) y) (fun y => ldB harg6 x4 y) j
    · intro y
      refine rd _ (ab x0 xs0 (fun _ => (0 : EReal))) (by omega) _ ?_ ?_ y
      · simp only [List.forall_mem_cons]
        exact ⟨(st6 _ _ _ (ldH harg2 x0 (by omega)) (ldS harg11 xs0)),
          (st5 _ _ _ (ldH harg2 x0 (by omega)) (ldS harg11 xs0)),
          (st4 _ _ _ (ldH harg2 x0 (by omega)) (ldS harg11 xs0)),
          (st3 _ _ _ (ldH harg2 x0 (by omega)) (ldS harg11 xs0)),
          (st2 _ _ _ (ldH harg2 x0 (by omega)) (ldS harg11 xs0)),
          (st1 _ _ _ (ldH harg2 x0 (by omega)) (ldS harg11 xs0)),
          (st0 _ _ _ (ldH harg2 x0 (by omega)) (ldS harg11 xs0)),
          (fun j => pz x0 xs0 j), by simp⟩
      · intro r c h1 h2
        simp only [List.mem_cons, List.not_mem_nil, or_false, exists_eq_or_imp, exists_eq_left, mem_rows]
        omega
    · intro y
      refine rd _ (ab x0 xs0 (fun _ => (0 : EReal))) (by omega) _ ?_ ?_ y
      · simp only [List.forall_mem_cons]
        exact ⟨(st6 _ _ _ (ldH harg2 x0 (by omega)) (ldS harg11 xs0)),
          (st5 _ _ _ (ldH harg2 x0 (by omega)) (ldS harg11 xs0)),
          (st4 _ _ _ (ldH harg2 x0 (by omega)) (ldS harg11 xs0)),
          (st3 _ _ _ (ldH harg2 x0 (by omega)) (ldS harg11 xs0)),
          (st2 _ _ _ (ldH harg2 x0 (by omega)) (ldS harg11 xs0)),
          (st1 _ _ _ (ldH harg2 x0 (by omega)) (ldS harg11 xs0)),
          (st0 _ _ _ (ldH harg2 x0 (by omega)) (ldS harg11 xs0)),
          (fun j => pz x0 xs0 j), by simp⟩
      · intro r c h1 h2
        simp only [List.mem_cons, List.not_mem_nil, or_false, exists_eq_or_imp, exists_eq_left, mem_rows]
        omega
  · intro j
    refine hd5 (fun y => ldH harg2 x0 (by omega) y) (fun y => ldS harg11 xs0 y) (fun y => ldS harg12 xs1 y) ?_ ?_ (fun y => ldC harg5 x3 (by omega) y) (fun y => ldC harg5 x3 (by omega) y) (fun y => ldC harg5 x3 (by omega) y) (fun y => ldB harg6 x4 y) j
    · intro y
      refine rd _ (ab x0 xs0 (fun _ => (0 : EReal))) (by omega) _ ?_ ?_ y
      · simp only [List.forall_mem_cons]
        exact ⟨(st5 _ _ _ (ldH harg2 x0 (by omega)) (ldS harg11 xs0)),
          (st4 _ _ _ (ldH harg2 x0 (by omega)) (ldS harg11 xs0)),
          (st3 _ _ _ (ldH harg2 x0 (by omega)) (ldS harg11 xs0)),
          (st2 _ _ _ (ldH harg2 x0 (by omega)) (ldS harg11 xs0)),
          (st1 _ _ _ (ldH harg2 x0 (by omega)) (ldS harg11 xs0)),
          (st0 _ _ _ (ldH harg2 x0 (by omega)) (ldS harg11 xs0)),
          (fun j => pz x0 xs0 j), by simp⟩
      · intro r c h1 h2
        simp only [List.mem_cons, List.not_mem_nil, or_false, exists_eq_or_imp, exists_eq_left, mem_rows]
        omega
    · intro y
      refine rd _ (ab x0 xs0 (fun _ => (0 : EReal))) (by omega) _ ?_ ?_ y
      · simp only [List.forall_mem_cons]
        exact ⟨(st5 _ _ _ (ldH harg2 x0 (by omega)) (ldS harg11 xs0)),
          (st4 _ _ _ (ldH harg2 x0 (by omega)) (ldS harg11 xs0)),
          (st3 _ _ _ (ldH harg2 x0 (by omega)) (ldS harg11 xs0)),
          (st2 _ _ _ (ldH harg2 x0 (by omega)) (ldS harg11 xs0)),
          (st1 _ _ _ (ldH harg2 x0 (by omega)) (ldS harg11 xs0)),
          (st0 _ _ _ (ldH harg2 x0 (by omega)) (ldS harg11 xs0)),
          (fun j => pz x0 xs0 j), by simp⟩
      · intro r c h1 h2
        simp only [List.mem_cons, List.not_mem_nil, or_false, exists_eq_or_imp, exists_eq_left, mem_rows]
        omega
  · intro j
    refine hd4 (fun y => ldH harg2 x0 (by omega) y) (fun y => ldS harg11 xs0 y) (fun y => ldS harg12 xs1 y) ?_ ?_ (fun y => ldC harg5 x3 (by omega) y) (fun y => ldC harg5 x3 (by omega) y) (fun y => ldC harg5 x3 (by omega) y) (fun y => ldB harg6 x4 y) j
    · intro y
      refine rd _ (ab x0 xs0 (fun _ => (0 : EReal))) (by omega) _ ?_ ?_ y
      · simp only [List.forall_mem_cons]
        exact ⟨(st4 _ _ _ (ldH harg2 x0 (by omega)) (ldS harg11 xs0)),
          (st3 _ _ _ (ldH harg2 x0 (by omega)) (ldS harg11 xs0)),
          (st2 _ _ _ (ldH harg2 x0 (by omega)) (ldS harg11 xs0)),
          (st1 _ _ _ (ldH harg2 x0 (by omega)) (ldS harg11 xs0)),
          (st0 _ _ _ (ldH harg2 x0 (by omega)) (ldS harg11 xs0)),
          (fun j => pz x0 xs0 j), by simp⟩
      · intro r c h1 h2
        simp only [List.mem_cons, List.not_mem_nil, or_false, exists_eq_or_imp, exists_eq_left, mem_rows]
        omega
    · intro y
      refine rd _ (ab x0 xs0 (fun _ => (0 : EReal))) (by omega) _ ?_ ?_ y
      · simp only [List.forall_mem_cons]
        exact ⟨(st4 _ _ _ (ldH harg2 x0 (by omega)) (ldS harg11 xs0)),
          (st3 _ _ _ (ldH harg2 x0 (by omega)) (ldS harg11 xs0)),
          (st2 _ _ _ (ldH harg2 x0 (by omega)) (ldS harg11 xs0)),
          (st1 _ _ _ (ldH harg2 x0 (by omega)) (ldS harg11 xs0)),
          (st0 _ _ _ (ldH harg2 x0 (by omega)) (ldS harg11 xs0)),
          (fun j => pz x0 xs0 j), by simp⟩
      · intro r c h1 h2
        simp only [List.mem_cons, List.not_mem_nil, or_false, exists_eq_or_imp, exists_eq_left, mem_rows]
        omega
  · intro j
    refine hd3 (fun y => ldH harg2 x0 (by omega) y) (fun y => ldS harg11 xs0 y) (fun y => ldS harg12 xs1 y) ?_ ?_ (fun y => ldC harg5 x3 (by omega) y) (fun y => ldC harg5 x3 (by omega) y) (fun y => ldC harg5 x3 (by omega) y) (fun y => ldB harg6 x4 y) j
    · intro y
      refine rd _ (ab x0 xs0 (fun _ => (0 : EReal))) (by omega) _ ?_ ?_ y
      · simp only [List.forall_mem_cons]
        exact ⟨(st3 _ _ _ (ldH harg2 x0 (by omega)) (ldS harg11 xs0)),
          (st2 _ _ _ (ldH harg2 x0 (by omega)) (ldS harg11 xs0)),
          (st1 _ _ _ (ldH harg2 x0 (by omega)) (ldS harg11 xs0)),
          (st0 _ _ _ (ldH harg2 x0 (by omega)) (ldS harg11 xs0)),
          (fun j => pz x0 xs0 j), by simp⟩
      · intro r c h1 h2
        simp only [List.mem_cons, List.not_mem_nil, or_false, exists_eq_or_imp, exists_eq_left, mem_rows]
        omega
    · intro y
      refine rd _ (ab x0 xs0 (fun _ => (0 : EReal))) (by omega) _ ?_ ?_ y
      · simp only [List.forall_mem_cons]
        exact ⟨(st3 _ _ _ (ldH harg2 x0 (by omega)) (ldS harg11 xs0)),
          (st2 _ _ _ (ldH harg2 x0 (by omega)) (ldS harg11 xs0)),
          (st1 _ _ _ (ldH harg2 x0 (by omega)) (ldS harg11 xs0)),
          (st0 _ _ _ (ldH harg2 x0 (by omega)) (ldS harg11 xs0)),
          (fun j => pz x0 xs0 j), by simp⟩
      · intro r c h1 h2
        simp only [List.mem_cons, List.not_mem_nil, or_false, exists_eq_or_imp, exists_eq_left, mem_rows]
        omega
  · intro j
    refine hd2 (fun y => ldH harg2 x0 (by omega) y) (fun y => ldS harg11 xs0 y) (fun y => ldS harg12 xs1 y) ?_ ?_ (fun y => ldC harg5 x3 (by omega) y) (fun y => ldC harg5 x3 (by omega) y) (fun y => ldC harg5 x3 (by omega) y) (fun y => ldB harg6 x4 y) j
    · intro y
      refine rd _ (ab x0 xs0 (fun _ => (0 : EReal))) (by omega) _ ?_ ?_ y
      · simp only [List.forall_mem_cons]
        exact ⟨(st2 _ _ _ (ldH harg2 x0 (by omega)) (ldS harg11 xs0)),
          (st1 _ _ _ (ldH harg2 x0 (by omega)) (ldS harg11 xs0)),
          (st0 _ _ _ (ldH harg2 x0 (by omega)) (ldS harg11 xs0)),
          (fun j => pz x0 xs0 j), by simp⟩
      · intro r c h1 h2
        simp only [List.mem_cons, List.not_mem_nil, or_false, exists_eq_or_imp, exists_eq_left, mem_rows]
        omega
    · intro y
      refine rd _ (ab x0 xs0 (fun _ => (0 : EReal))) (by omega) _ ?_ ?_ y
      · simp only [List.forall_mem_cons]
        exact ⟨(st2 _ _ _ (ldH harg2 x0 (by omega)) (ldS harg11 xs0)),
          (st1 _ _ _ (ldH harg2 x0 (by omega)) (ldS harg11 xs0)),
          (st0 _ _ _ (ldH harg2 x0 (by omega)) (ldS harg11 xs0)),
          (fun j => pz x0 xs0 j), by simp⟩
      · intro r c h1 h2
        simp only [List.mem_cons, List.not_mem_nil, or_false, exists_eq_or_imp, exists_eq_left, mem_rows]
        omega
  · intro j
    refine hd1 (fun y => ldH harg2 x0 (by omega) y) (fun y => ldS harg11 xs0 y) (fun y => ldS harg12 xs1 y) ?_ ?_ (fun y => ldC harg5 x3 (by omega) y) (fun y => ldC harg5 x3 (by omega) y) (fun y => ldC harg5 x3 (by omega) y) (fun y => ldB harg6 x4 y) j
    · intro y
      refine rd _ (ab x0 xs0 (fun _ => (0 : EReal))) (by omega) _ ?_ ?_ y
      · simp only [List.forall_mem_cons]
        exact ⟨(st1 _ _ _ (ldH harg2 x0 (by omega)) (ldS harg11 xs0)),
          (st0 _ _ _ (ldH harg2 x0 (by omega)) (ldS harg11 xs0)),
          (fun j => pz x0 xs0 j), by simp⟩
      · intro r c h1 h2
        simp only [List.mem_cons, List.not_mem_nil, or_false, exists_eq_or_imp, exists_eq_left, mem_rows]
        omega
    · intro y
      refine rd _ (ab x0 xs0 (fun _ => (0 : EReal))) (by omega) _ ?_ ?_ y
      · simp only [List.forall_mem_cons]
        exact ⟨(st1 _ _ _ (ldH harg2 x0 (by omega)) (ldS harg11 xs0)),
          (st0 _ _ _ (ldH harg2 x0 (by omega)) (ldS harg11 xs0)),
          (fun j => pz x0 xs0 j), by simp⟩
      · intro r c h1 h2
        simp only [List.mem_cons, List.not_mem_nil, or_false, exists_eq_or_imp, exists_eq_left, mem_rows]
        omega
  · intro j
    refine hd0 (fun y => ldH harg2 x0 (by omega) y) (fun y => ldS harg11 xs0 y) (fun y => ldS harg12 xs1 y) ?_ ?_ (fun y => ldC harg5 x3 (by omega) y) (fun y => ldC harg5 x3 (by omega) y) (fun y => ldC harg5 x3 (by omega) y) (fun y => ldB harg6 x4 y) j
    · intro y
      refine rd _ (ab x0 xs0 (fun _ => (0 : EReal))) (by omega) _ ?_ ?_ y
      · simp only [List.forall_mem_cons]
        exact ⟨(st0 _ _ _ (ldH harg2 x0 (by omega)) (ldS harg11 xs0)),
          (fun j => pz x0 xs0 j), by simp⟩
      · intro r c h1 h2
        simp only [List.mem_cons, List.not_mem_nil, or_false, exists_eq_or_imp, exists_eq_left, mem_rows]
        omega
    · intro y
      refine rd _ (ab x0 xs0 (fun _ => (0 : EReal))) (by omega) _ ?_ ?_ y
      · simp only [List.forall_mem_cons]
        exact ⟨(st0 _ _ _ (ldH harg2 x0 (by omega)) (ldS harg11 xs0)),
          (fun j => pz x0 xs0 j), by simp⟩
      · intro r c h1 h2
        simp only [List.mem_cons, List.not_mem_nil, or_false, exists_eq_or_imp, exists_eq_left, mem_rows]
        omega

/-- In case A the tail window takes the last eight rows of the buffer. -/
theorem tail_A (c : Dev nD) (i : grid0.Coords) (arg2 : Memref sig .tc .vmem S1024x2048 .bf16) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x3x512 .f32) (harg5 : arg5.IsWhole) (arg6 : Memref sig .tc .vmem S1x1x512 .f32) (harg6 : arg6.IsWhole) (arg7 : Memref sig .tc .vmem S8x512 .f32) (harg7 : arg7.IsWhole) (arg8 : Memref sig .tc .vmem S8x512 .f32) (harg8 : arg8.IsWhole) (arg9 : Memref sig .tc .vmem S1024x512 .bf16) (harg9 : arg9.IsWhole) (arg10 : Memref sig .tc .vmem S1x8x512 .f32) (harg10 : arg10.IsWhole) (arg11 : Memref sig .tc .vmem S2048x512 .bf16) (harg11 : arg11.IsWhole) (arg12 : Memref sig .tc .vmem S2048x512 .bf16) (harg12 : arg12.IsWhole) (arg13 : Memref sig .tc .vmem S1032x512 .f32) (harg13 : arg13.IsWhole) (hc0 : cond0_0 i) (hc1 : cond0_1 i)
    (x0 : Vec I S1024x2048 .bf16) (x1 : Vec I S1x2048x512 .f32) (x2 : Vec I S1x2048x512 .f32) (x3 : Vec I S1x3x512 .f32) (x4 : Vec I S1x1x512 .f32) (x5 : Vec I S8x512 .f32) (x6 : Vec I S8x512 .f32) :
    out0_A_8 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 = tailT x0 (wcols x1) (fun _ => (0 : EReal)) := by
  funext y
  unfold out0_A_8
  refine View.read_writes_apply_of_pieces _ _ (tailT x0 (wcols x1) (fun _ => (0 : EReal))) _ ?_ y (cover0_A_8 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 y)
  unfold kernelRun0_A
  dsimp only
  sl_unfold_words
  simp only [List.forall_mem_cons]
  refine ⟨?_, by simp⟩
  intro j
  refine (pay1_at _ j).trans ?_
  refine (rd (o := 1024) (n := 8) _ (ab x0 (wcols x1) (fun _ => (0 : EReal))) (by omega) _ ?_ ?_ (ix2 (j 1) (j 2))).trans ?_
  · simp only [List.forall_mem_cons]
    exact ⟨(st7 _ _ _ (ldH harg2 x0 (by omega)) (ldWa arg11 harg3 x1)),
      (st6 _ _ _ (ldH harg2 x0 (by omega)) (ldWa arg11 harg3 x1)),
      (st5 _ _ _ (ldH harg2 x0 (by omega)) (ldWa arg11 harg3 x1)),
      (st4 _ _ _ (ldH harg2 x0 (by omega)) (ldWa arg11 harg3 x1)),
      (st3 _ _ _ (ldH harg2 x0 (by omega)) (ldWa arg11 harg3 x1)),
      (st2 _ _ _ (ldH harg2 x0 (by omega)) (ldWa arg11 harg3 x1)),
      (st1 _ _ _ (ldH harg2 x0 (by omega)) (ldWa arg11 harg3 x1)),
      (st0 _ _ _ (ldH harg2 x0 (by omega)) (ldWa arg11 harg3 x1)),
      (fun j => pz x0 (wcols x1) j), by simp⟩
  · intro r c h1 h2
    simp only [List.mem_cons, List.not_mem_nil, or_false, exists_eq_or_imp, exists_eq_left, mem_rows]
    omega
  unfold tailT
  refine congrArg _ ?_
  funext a
  fin_cases a
  · exact Fin.ext (by show 1024 + (j 1).val = 1024 + (0 + 1 * (j 1).val); omega)
  · exact Fin.ext (by show (j 2).val = 0 + 1 * (j 2).val; omega)

/-- In case B the tail window takes the last eight rows of the buffer. -/
theorem tail_B (c : Dev nD) (i : grid0.Coords) (arg2 : Memref sig .tc .vmem S1024x2048 .bf16) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x3x512 .f32) (harg5 : arg5.IsWhole) (arg6 : Memref sig .tc .vmem S1x1x512 .f32) (harg6 : arg6.IsWhole) (arg7 : Memref sig .tc .vmem S8x512 .f32) (harg7 : arg7.IsWhole) (arg8 : Memref sig .tc .vmem S8x512 .f32) (harg8 : arg8.IsWhole) (arg9 : Memref sig .tc .vmem S1024x512 .bf16) (harg9 : arg9.IsWhole) (arg10 : Memref sig .tc .vmem S1x8x512 .f32) (harg10 : arg10.IsWhole) (arg11 : Memref sig .tc .vmem S2048x512 .bf16) (harg11 : arg11.IsWhole) (arg12 : Memref sig .tc .vmem S2048x512 .bf16) (harg12 : arg12.IsWhole) (arg13 : Memref sig .tc .vmem S1032x512 .f32) (harg13 : arg13.IsWhole) (hc0 : ¬cond0_0 i) (hc1 : ¬cond0_1 i)
    (x0 : Vec I S1024x2048 .bf16) (x1 : Vec I S1x2048x512 .f32) (x2 : Vec I S1x2048x512 .f32) (x3 : Vec I S1x3x512 .f32) (x4 : Vec I S1x1x512 .f32) (x5 : Vec I S8x512 .f32) (x6 : Vec I S8x512 .f32) (xs0 : Vec I S2048x512 .bf16) (xs1 : Vec I S2048x512 .bf16) (xs2 : Vec I S1032x512 .f32) :
    out0_B_8 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 = tailT x0 xs0 xs2 := by
  funext y
  unfold out0_B_8
  refine View.read_writes_apply_of_pieces _ _ (tailT x0 xs0 xs2) _ ?_ y (cover0_B_8 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 y)
  unfold kernelRun0_B
  dsimp only
  sl_unfold_words
  simp only [List.forall_mem_cons]
  refine ⟨?_, by simp⟩
  intro j
  refine (pay1_at _ j).trans ?_
  refine (rd (o := 1024) (n := 8) _ (ab x0 xs0 xs2) (by omega) _ ?_ ?_ (ix2 (j 1) (j 2))).trans ?_
  · simp only [List.forall_mem_cons]
    exact ⟨(st7 _ _ _ (ldH harg2 x0 (by omega)) (ldS harg11 xs0)),
      (st6 _ _ _ (ldH harg2 x0 (by omega)) (ldS harg11 xs0)),
      (st5 _ _ _ (ldH harg2 x0 (by omega)) (ldS harg11 xs0)),
      (st4 _ _ _ (ldH harg2 x0 (by omega)) (ldS harg11 xs0)),
      (st3 _ _ _ (ldH harg2 x0 (by omega)) (ldS harg11 xs0)),
      (st2 _ _ _ (ldH harg2 x0 (by omega)) (ldS harg11 xs0)),
      (st1 _ _ _ (ldH harg2 x0 (by omega)) (ldS harg11 xs0)),
      (st0 _ _ _ (ldH harg2 x0 (by omega)) (ldS harg11 xs0)), by simp⟩
  · intro r c h1 h2
    simp only [List.mem_cons, List.not_mem_nil, or_false, exists_eq_or_imp, exists_eq_left, mem_rows]
    omega
  unfold tailT
  refine congrArg _ ?_
  funext a
  fin_cases a
  · exact Fin.ext (by show 1024 + (j 1).val = 1024 + (0 + 1 * (j 1).val); omega)
  · exact Fin.ext (by show (j 2).val = 0 + 1 * (j 2).val; omega)

/-- In case C the tail window takes the last eight rows of the buffer. -/
theorem tail_C (c : Dev nD) (i : grid0.Coords) (arg2 : Memref sig .tc .vmem S1024x2048 .bf16) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x3x512 .f32) (harg5 : arg5.IsWhole) (arg6 : Memref sig .tc .vmem S1x1x512 .f32) (harg6 : arg6.IsWhole) (arg7 : Memref sig .tc .vmem S8x512 .f32) (harg7 : arg7.IsWhole) (arg8 : Memref sig .tc .vmem S8x512 .f32) (harg8 : arg8.IsWhole) (arg9 : Memref sig .tc .vmem S1024x512 .bf16) (harg9 : arg9.IsWhole) (arg10 : Memref sig .tc .vmem S1x8x512 .f32) (harg10 : arg10.IsWhole) (arg11 : Memref sig .tc .vmem S2048x512 .bf16) (harg11 : arg11.IsWhole) (arg12 : Memref sig .tc .vmem S2048x512 .bf16) (harg12 : arg12.IsWhole) (arg13 : Memref sig .tc .vmem S1032x512 .f32) (harg13 : arg13.IsWhole) (hc0 : ¬cond0_0 i) (hc1 : cond0_1 i)
    (x0 : Vec I S1024x2048 .bf16) (x1 : Vec I S1x2048x512 .f32) (x2 : Vec I S1x2048x512 .f32) (x3 : Vec I S1x3x512 .f32) (x4 : Vec I S1x1x512 .f32) (x5 : Vec I S8x512 .f32) (x6 : Vec I S8x512 .f32) (xs0 : Vec I S2048x512 .bf16) (xs1 : Vec I S2048x512 .bf16) :
    out0_C_8 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 = tailT x0 xs0 (fun _ => (0 : EReal)) := by
  funext y
  unfold out0_C_8
  refine View.read_writes_apply_of_pieces _ _ (tailT x0 xs0 (fun _ => (0 : EReal))) _ ?_ y (cover0_C_8 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 y)
  unfold kernelRun0_C
  dsimp only
  sl_unfold_words
  simp only [List.forall_mem_cons]
  refine ⟨?_, by simp⟩
  intro j
  refine (pay1_at _ j).trans ?_
  refine (rd (o := 1024) (n := 8) _ (ab x0 xs0 (fun _ => (0 : EReal))) (by omega) _ ?_ ?_ (ix2 (j 1) (j 2))).trans ?_
  · simp only [List.forall_mem_cons]
    exact ⟨(st7 _ _ _ (ldH harg2 x0 (by omega)) (ldS harg11 xs0)),
      (st6 _ _ _ (ldH harg2 x0 (by omega)) (ldS harg11 xs0)),
      (st5 _ _ _ (ldH harg2 x0 (by omega)) (ldS harg11 xs0)),
      (st4 _ _ _ (ldH harg2 x0 (by omega)) (ldS harg11 xs0)),
      (st3 _ _ _ (ldH harg2 x0 (by omega)) (ldS harg11 xs0)),
      (st2 _ _ _ (ldH harg2 x0 (by omega)) (ldS harg11 xs0)),
      (st1 _ _ _ (ldH harg2 x0 (by omega)) (ldS harg11 xs0)),
      (st0 _ _ _ (ldH harg2 x0 (by omega)) (ldS harg11 xs0)),
      (fun j => pz x0 xs0 j), by simp⟩
  · intro r c h1 h2
    simp only [List.mem_cons, List.not_mem_nil, or_false, exists_eq_or_imp, exists_eq_left, mem_rows]
    omega
  unfold tailT
  refine congrArg _ ?_
  funext a
  fin_cases a
  · exact Fin.ext (by show 1024 + (j 1).val = 1024 + (0 + 1 * (j 1).val); omega)
  · exact Fin.ext (by show (j 2).val = 0 + 1 * (j 2).val; omega)

/-- In case A the rows the buffer carries on are its last eight. -/
theorem carry_A (c : Dev nD) (i : grid0.Coords) (arg2 : Memref sig .tc .vmem S1024x2048 .bf16) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x3x512 .f32) (harg5 : arg5.IsWhole) (arg6 : Memref sig .tc .vmem S1x1x512 .f32) (harg6 : arg6.IsWhole) (arg7 : Memref sig .tc .vmem S8x512 .f32) (harg7 : arg7.IsWhole) (arg8 : Memref sig .tc .vmem S8x512 .f32) (harg8 : arg8.IsWhole) (arg9 : Memref sig .tc .vmem S1024x512 .bf16) (harg9 : arg9.IsWhole) (arg10 : Memref sig .tc .vmem S1x8x512 .f32) (harg10 : arg10.IsWhole) (arg11 : Memref sig .tc .vmem S2048x512 .bf16) (harg11 : arg11.IsWhole) (arg12 : Memref sig .tc .vmem S2048x512 .bf16) (harg12 : arg12.IsWhole) (arg13 : Memref sig .tc .vmem S1032x512 .f32) (harg13 : arg13.IsWhole) (hc0 : cond0_0 i) (hc1 : cond0_1 i)
    (x0 : Vec I S1024x2048 .bf16) (x1 : Vec I S1x2048x512 .f32) (x2 : Vec I S1x2048x512 .f32) (x3 : Vec I S1x3x512 .f32) (x4 : Vec I S1x1x512 .f32) (x5 : Vec I S8x512 .f32) (x6 : Vec I S8x512 .f32) (y : S1032x512.Idx) (hy : (y 0).val < 8) :
    sout0_A_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 y = ab x0 (wcols x1) (fun _ => (0 : EReal)) (ix2 ⟨1024 + (y 0).val, by omega⟩ (y 1)) := by
  unfold sout0_A_2
  unfold kernelRun0_A
  dsimp only
  sl_unfold_words
  refine (View.read_writes_cons_rows_of_mem _ _ inb_S1032x512_S8x512_0_0 _ _ y
    (ix2 ⟨(y 0).val, hy⟩ (y 1) : S8x512.Idx) rfl (by show (y 0).val = 0 + (y 0).val; omega) rfl).trans ?_
  refine (pay2_at _ _).trans ?_
  refine (rd (o := 1024) (n := 8) _ (ab x0 (wcols x1) (fun _ => (0 : EReal))) (by omega) _ ?_ ?_ (ix2 ⟨(y 0).val, hy⟩ (y 1))).trans ?_
  · simp only [List.forall_mem_cons]
    exact ⟨(st7 _ _ _ (ldH harg2 x0 (by omega)) (ldWa arg11 harg3 x1)),
      (st6 _ _ _ (ldH harg2 x0 (by omega)) (ldWa arg11 harg3 x1)),
      (st5 _ _ _ (ldH harg2 x0 (by omega)) (ldWa arg11 harg3 x1)),
      (st4 _ _ _ (ldH harg2 x0 (by omega)) (ldWa arg11 harg3 x1)),
      (st3 _ _ _ (ldH harg2 x0 (by omega)) (ldWa arg11 harg3 x1)),
      (st2 _ _ _ (ldH harg2 x0 (by omega)) (ldWa arg11 harg3 x1)),
      (st1 _ _ _ (ldH harg2 x0 (by omega)) (ldWa arg11 harg3 x1)),
      (st0 _ _ _ (ldH harg2 x0 (by omega)) (ldWa arg11 harg3 x1)),
      (fun j => pz x0 (wcols x1) j), by simp⟩
  · intro r c h1 h2
    simp only [List.mem_cons, List.not_mem_nil, or_false, exists_eq_or_imp, exists_eq_left, mem_rows]
    omega
  rfl

/-- In case B the rows the buffer carries on are its last eight. -/
theorem carry_B (c : Dev nD) (i : grid0.Coords) (arg2 : Memref sig .tc .vmem S1024x2048 .bf16) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x3x512 .f32) (harg5 : arg5.IsWhole) (arg6 : Memref sig .tc .vmem S1x1x512 .f32) (harg6 : arg6.IsWhole) (arg7 : Memref sig .tc .vmem S8x512 .f32) (harg7 : arg7.IsWhole) (arg8 : Memref sig .tc .vmem S8x512 .f32) (harg8 : arg8.IsWhole) (arg9 : Memref sig .tc .vmem S1024x512 .bf16) (harg9 : arg9.IsWhole) (arg10 : Memref sig .tc .vmem S1x8x512 .f32) (harg10 : arg10.IsWhole) (arg11 : Memref sig .tc .vmem S2048x512 .bf16) (harg11 : arg11.IsWhole) (arg12 : Memref sig .tc .vmem S2048x512 .bf16) (harg12 : arg12.IsWhole) (arg13 : Memref sig .tc .vmem S1032x512 .f32) (harg13 : arg13.IsWhole) (hc0 : ¬cond0_0 i) (hc1 : ¬cond0_1 i)
    (x0 : Vec I S1024x2048 .bf16) (x1 : Vec I S1x2048x512 .f32) (x2 : Vec I S1x2048x512 .f32) (x3 : Vec I S1x3x512 .f32) (x4 : Vec I S1x1x512 .f32) (x5 : Vec I S8x512 .f32) (x6 : Vec I S8x512 .f32) (xs0 : Vec I S2048x512 .bf16) (xs1 : Vec I S2048x512 .bf16) (xs2 : Vec I S1032x512 .f32) (y : S1032x512.Idx) (hy : (y 0).val < 8) :
    sout0_B_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 y = ab x0 xs0 xs2 (ix2 ⟨1024 + (y 0).val, by omega⟩ (y 1)) := by
  unfold sout0_B_2
  unfold kernelRun0_B
  dsimp only
  sl_unfold_words
  refine (View.read_writes_cons_rows_of_mem _ _ inb_S1032x512_S8x512_0_0 _ _ y
    (ix2 ⟨(y 0).val, hy⟩ (y 1) : S8x512.Idx) rfl (by show (y 0).val = 0 + (y 0).val; omega) rfl).trans ?_
  refine (pay2_at _ _).trans ?_
  refine (rd (o := 1024) (n := 8) _ (ab x0 xs0 xs2) (by omega) _ ?_ ?_ (ix2 ⟨(y 0).val, hy⟩ (y 1))).trans ?_
  · simp only [List.forall_mem_cons]
    exact ⟨(st7 _ _ _ (ldH harg2 x0 (by omega)) (ldS harg11 xs0)),
      (st6 _ _ _ (ldH harg2 x0 (by omega)) (ldS harg11 xs0)),
      (st5 _ _ _ (ldH harg2 x0 (by omega)) (ldS harg11 xs0)),
      (st4 _ _ _ (ldH harg2 x0 (by omega)) (ldS harg11 xs0)),
      (st3 _ _ _ (ldH harg2 x0 (by omega)) (ldS harg11 xs0)),
      (st2 _ _ _ (ldH harg2 x0 (by omega)) (ldS harg11 xs0)),
      (st1 _ _ _ (ldH harg2 x0 (by omega)) (ldS harg11 xs0)),
      (st0 _ _ _ (ldH harg2 x0 (by omega)) (ldS harg11 xs0)), by simp⟩
  · intro r c h1 h2
    simp only [List.mem_cons, List.not_mem_nil, or_false, exists_eq_or_imp, exists_eq_left, mem_rows]
    omega
  rfl

/-- In case C the rows the buffer carries on are its last eight. -/
theorem carry_C (c : Dev nD) (i : grid0.Coords) (arg2 : Memref sig .tc .vmem S1024x2048 .bf16) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x3x512 .f32) (harg5 : arg5.IsWhole) (arg6 : Memref sig .tc .vmem S1x1x512 .f32) (harg6 : arg6.IsWhole) (arg7 : Memref sig .tc .vmem S8x512 .f32) (harg7 : arg7.IsWhole) (arg8 : Memref sig .tc .vmem S8x512 .f32) (harg8 : arg8.IsWhole) (arg9 : Memref sig .tc .vmem S1024x512 .bf16) (harg9 : arg9.IsWhole) (arg10 : Memref sig .tc .vmem S1x8x512 .f32) (harg10 : arg10.IsWhole) (arg11 : Memref sig .tc .vmem S2048x512 .bf16) (harg11 : arg11.IsWhole) (arg12 : Memref sig .tc .vmem S2048x512 .bf16) (harg12 : arg12.IsWhole) (arg13 : Memref sig .tc .vmem S1032x512 .f32) (harg13 : arg13.IsWhole) (hc0 : ¬cond0_0 i) (hc1 : cond0_1 i)
    (x0 : Vec I S1024x2048 .bf16) (x1 : Vec I S1x2048x512 .f32) (x2 : Vec I S1x2048x512 .f32) (x3 : Vec I S1x3x512 .f32) (x4 : Vec I S1x1x512 .f32) (x5 : Vec I S8x512 .f32) (x6 : Vec I S8x512 .f32) (xs0 : Vec I S2048x512 .bf16) (xs1 : Vec I S2048x512 .bf16) (y : S1032x512.Idx) (hy : (y 0).val < 8) :
    sout0_C_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 y = ab x0 xs0 (fun _ => (0 : EReal)) (ix2 ⟨1024 + (y 0).val, by omega⟩ (y 1)) := by
  unfold sout0_C_2
  unfold kernelRun0_C
  dsimp only
  sl_unfold_words
  refine (View.read_writes_cons_rows_of_mem _ _ inb_S1032x512_S8x512_0_0 _ _ y
    (ix2 ⟨(y 0).val, hy⟩ (y 1) : S8x512.Idx) rfl (by show (y 0).val = 0 + (y 0).val; omega) rfl).trans ?_
  refine (pay2_at _ _).trans ?_
  refine (rd (o := 1024) (n := 8) _ (ab x0 xs0 (fun _ => (0 : EReal))) (by omega) _ ?_ ?_ (ix2 ⟨(y 0).val, hy⟩ (y 1))).trans ?_
  · simp only [List.forall_mem_cons]
    exact ⟨(st7 _ _ _ (ldH harg2 x0 (by omega)) (ldS harg11 xs0)),
      (st6 _ _ _ (ldH harg2 x0 (by omega)) (ldS harg11 xs0)),
      (st5 _ _ _ (ldH harg2 x0 (by omega)) (ldS harg11 xs0)),
      (st4 _ _ _ (ldH harg2 x0 (by omega)) (ldS harg11 xs0)),
      (st3 _ _ _ (ldH harg2 x0 (by omega)) (ldS harg11 xs0)),
      (st2 _ _ _ (ldH harg2 x0 (by omega)) (ldS harg11 xs0)),
      (st1 _ _ _ (ldH harg2 x0 (by omega)) (ldS harg11 xs0)),
      (st0 _ _ _ (ldH harg2 x0 (by omega)) (ldS harg11 xs0)),
      (fun j => pz x0 xs0 j), by simp⟩
  · intro r c h1 h2
    simp only [List.mem_cons, List.not_mem_nil, or_false, exists_eq_or_imp, exists_eq_left, mem_rows]
    omega
  rfl

/-- At the first row block weight scratch 0 takes the cast block. -/
theorem sw0_A (c : Dev nD) (i : grid0.Coords) (arg2 : Memref sig .tc .vmem S1024x2048 .bf16) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x3x512 .f32) (harg5 : arg5.IsWhole) (arg6 : Memref sig .tc .vmem S1x1x512 .f32) (harg6 : arg6.IsWhole) (arg7 : Memref sig .tc .vmem S8x512 .f32) (harg7 : arg7.IsWhole) (arg8 : Memref sig .tc .vmem S8x512 .f32) (harg8 : arg8.IsWhole) (arg9 : Memref sig .tc .vmem S1024x512 .bf16) (harg9 : arg9.IsWhole) (arg10 : Memref sig .tc .vmem S1x8x512 .f32) (harg10 : arg10.IsWhole) (arg11 : Memref sig .tc .vmem S2048x512 .bf16) (harg11 : arg11.IsWhole) (arg12 : Memref sig .tc .vmem S2048x512 .bf16) (harg12 : arg12.IsWhole) (arg13 : Memref sig .tc .vmem S1032x512 .f32) (harg13 : arg13.IsWhole) (hc0 : cond0_0 i) (hc1 : cond0_1 i)
    (x0 : Vec I S1024x2048 .bf16) (x1 : Vec I S1x2048x512 .f32) (x2 : Vec I S1x2048x512 .f32) (x3 : Vec I S1x3x512 .f32) (x4 : Vec I S1x1x512 .f32) (x5 : Vec I S8x512 .f32) (x6 : Vec I S8x512 .f32) :
    sout0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 = wcols x1 := by
  funext y
  unfold sout0_A_0
  refine View.read_writes_apply_of_pieces _ _ (wcols x1) _ ?_ y (scover0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 y)
  unfold kernelRun0_A
  dsimp only
  sl_unfold_words
  simp only [List.forall_mem_cons]
  refine ⟨?_, by simp⟩
  intro j
  unfold k0_pay3 wcols
  pointwise
  rw [Memref.IsWhole.readAt_unread]
  refine congrArg x1 ?_
  funext a
  fin_cases a
  · rfl
  · rfl
  · rfl

/-- At the first row block weight scratch 1 takes the cast block. -/
theorem sw1_A (c : Dev nD) (i : grid0.Coords) (arg2 : Memref sig .tc .vmem S1024x2048 .bf16) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x3x512 .f32) (harg5 : arg5.IsWhole) (arg6 : Memref sig .tc .vmem S1x1x512 .f32) (harg6 : arg6.IsWhole) (arg7 : Memref sig .tc .vmem S8x512 .f32) (harg7 : arg7.IsWhole) (arg8 : Memref sig .tc .vmem S8x512 .f32) (harg8 : arg8.IsWhole) (arg9 : Memref sig .tc .vmem S1024x512 .bf16) (harg9 : arg9.IsWhole) (arg10 : Memref sig .tc .vmem S1x8x512 .f32) (harg10 : arg10.IsWhole) (arg11 : Memref sig .tc .vmem S2048x512 .bf16) (harg11 : arg11.IsWhole) (arg12 : Memref sig .tc .vmem S2048x512 .bf16) (harg12 : arg12.IsWhole) (arg13 : Memref sig .tc .vmem S1032x512 .f32) (harg13 : arg13.IsWhole) (hc0 : cond0_0 i) (hc1 : cond0_1 i)
    (x0 : Vec I S1024x2048 .bf16) (x1 : Vec I S1x2048x512 .f32) (x2 : Vec I S1x2048x512 .f32) (x3 : Vec I S1x3x512 .f32) (x4 : Vec I S1x1x512 .f32) (x5 : Vec I S8x512 .f32) (x6 : Vec I S8x512 .f32) :
    sout0_A_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 = wcols x2 := by
  funext y
  unfold sout0_A_1
  refine View.read_writes_apply_of_pieces _ _ (wcols x2) _ ?_ y (scover0_A_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 y)
  unfold kernelRun0_A
  dsimp only
  sl_unfold_words
  simp only [List.forall_mem_cons]
  refine ⟨?_, by simp⟩
  intro j
  unfold k0_pay4 wcols
  pointwise
  rw [Memref.IsWhole.readAt_unread]
  refine congrArg x2 ?_
  funext a
  fin_cases a
  · rfl
  · rfl
  · rfl

/-! ## The blocks the points read, at coordinates -/

theorem idx0 : ∀ t : Fin cfg0.N, win0_0.index t = ![t.val % 8, 0] := by decide +kernel
theorem idx1 : ∀ t : Fin cfg0.N, win0_1.index t = ![0, 0, t.val / 8] := by decide +kernel
theorem idx2 : ∀ t : Fin cfg0.N, win0_2.index t = ![0, 0, t.val / 8] := by decide +kernel
theorem idx3 : ∀ t : Fin cfg0.N, win0_3.index t = ![0, 0, t.val / 8] := by decide +kernel
theorem idx4 : ∀ t : Fin cfg0.N, win0_4.index t = ![0, 0, t.val / 8] := by decide +kernel

variable (m : (ℓ : Loc nD τ sig) → Buf (Elt I) ℓ)

/-- At a point, the rows at an index. -/
theorem blk0 (c : Dev nD) (t : Fin cfg0.N) (y : S1024x2048.Idx) (i : S8192x2048.Idx)
    (h0 : (i 0).val = 1024 * (t.val % 8) + (y 0).val) (h1 : (i 1).val = (y 1).val) :
    (iblk m c 0 t : Vec I S1024x2048 .bf16) y = m ((c : Thread nD τ).loc main_arg0) i := by
  have y0 : (y 0).val < 1024 := (y 0).isLt
  have y1 : (y 1).val < 2048 := (y 1).isLt
  blk_ext! [iblk, V, idx0 t]

/-- At a point, the first weight columns at an index. -/
theorem blk1 (c : Dev nD) (t : Fin cfg0.N) (y : S1x2048x512.Idx) (i : S2x2048x5632.Idx)
    (h0 : (i 0).val = 0) (h1 : (i 1).val = (y 1).val) (h2 : (i 2).val = 512 * (t.val / 8) + (y 2).val) :
    (iblk m c 1 t : Vec I S1x2048x512 .f32) y = m ((c : Thread nD τ).loc main_arg1) i := by
  have y0 : (y 0).val < 1 := (y 0).isLt
  have y1 : (y 1).val < 2048 := (y 1).isLt
  blk_ext! [iblk, V, idx1 t]

/-- At a point, the second weight columns at an index. -/
theorem blk2 (c : Dev nD) (t : Fin cfg0.N) (y : S1x2048x512.Idx) (i : S2x2048x5632.Idx)
    (h0 : (i 0).val = 0) (h1 : (i 1).val = (y 1).val) (h2 : (i 2).val = 512 * (t.val / 8) + (y 2).val) :
    (iblk m c 2 t : Vec I S1x2048x512 .f32) y = m ((c : Thread nD τ).loc main_arg2) i := by
  have y0 : (y 0).val < 1 := (y 0).isLt
  have y1 : (y 1).val < 2048 := (y 1).isLt
  blk_ext! [iblk, V, idx2 t]

/-- At a point, the convolution weights at an index. -/
theorem blk3 (c : Dev nD) (t : Fin cfg0.N) (y : S1x3x512.Idx) (i : S2x3x5632.Idx)
    (h0 : (i 0).val = 0) (h1 : (i 1).val = (y 1).val) (h2 : (i 2).val = 512 * (t.val / 8) + (y 2).val) :
    (iblk m c 3 t : Vec I S1x3x512 .f32) y = m ((c : Thread nD τ).loc main_arg3) i := by
  have y0 : (y 0).val < 1 := (y 0).isLt
  have y1 : (y 1).val < 3 := (y 1).isLt
  blk_ext! [iblk, V, idx3 t]

/-- At a point, the convolution bias at an index. -/
theorem blk4 (c : Dev nD) (t : Fin cfg0.N) (y : S1x1x512.Idx) (i : S2x5632.Idx)
    (h0 : (i 0).val = 0) (h1 : (i 1).val = 512 * (t.val / 8) + (y 2).val) :
    (iblk m c 4 t : Vec I S1x1x512 .f32) y = m ((c : Thread nD τ).loc main_arg4) i := by
  have y0 : (y 0).val < 1 := (y 0).isLt
  have y1 : (y 1).val < 1 := (y 1).isLt
  blk_ext! [iblk, V, idx4 t]

/-! ## The carried scratches -/

/-- After every point the first weight scratch holds the point's columns. -/
theorem scr0 (c : Dev nD) : ∀ (n : ℕ) (h : n < cfg0.N) (y : S2048x512.Idx) (i : S2x2048x5632.Idx),
    (i 0).val = 0 → (i 1).val = (y 0).val → (i 2).val = 512 * (n / 8) + (y 1).val →
    (outsAt0 m c n h).2.2.1 y = m ((c : Thread nD τ).loc main_arg1) i := by
  intro n
  induction n with
  | zero =>
    intro h y i e0 e1 e2
    rw [outsAt0_A m c ⟨0, h⟩ rfl rfl]
    dsimp only
    rw [sw0_A]
    exact blk1 m c ⟨0, h⟩ (ix3 0 (y 0) (y 1)) i e0 e1 e2
  | succ n ih =>
    intro h y i e0 e1 e2
    by_cases h0 : (n + 1) % 8 = 0
    · rw [outsAt0_A m c ⟨n + 1, h⟩ h0 (by show (n + 1) % 4 = 0; omega)]
      dsimp only
      rw [sw0_A]
      exact blk1 m c ⟨n + 1, h⟩ (ix3 0 (y 0) (y 1)) i e0 e1 e2
    · by_cases h1 : (n + 1) % 4 = 0
      · rw [outsAt0_C m c ⟨n + 1, h⟩ h0 h1]
        dsimp only
        unfold sout0_C_0
        exact ih (Nat.lt_of_succ_lt h) y i e0 e1 (by omega)
      · rw [outsAt0_B m c ⟨n + 1, h⟩ h0 h1]
        dsimp only
        unfold sout0_B_0
        exact ih (Nat.lt_of_succ_lt h) y i e0 e1 (by omega)

/-- After every point the second weight scratch holds the point's columns. -/
theorem scr1 (c : Dev nD) : ∀ (n : ℕ) (h : n < cfg0.N) (y : S2048x512.Idx) (i : S2x2048x5632.Idx),
    (i 0).val = 0 → (i 1).val = (y 0).val → (i 2).val = 512 * (n / 8) + (y 1).val →
    (outsAt0 m c n h).2.2.2.1 y = m ((c : Thread nD τ).loc main_arg2) i := by
  intro n
  induction n with
  | zero =>
    intro h y i e0 e1 e2
    rw [outsAt0_A m c ⟨0, h⟩ rfl rfl]
    dsimp only
    rw [sw1_A]
    exact blk2 m c ⟨0, h⟩ (ix3 0 (y 0) (y 1)) i e0 e1 e2
  | succ n ih =>
    intro h y i e0 e1 e2
    by_cases h0 : (n + 1) % 8 = 0
    · rw [outsAt0_A m c ⟨n + 1, h⟩ h0 (by show (n + 1) % 4 = 0; omega)]
      dsimp only
      rw [sw1_A]
      exact blk2 m c ⟨n + 1, h⟩ (ix3 0 (y 0) (y 1)) i e0 e1 e2
    · by_cases h1 : (n + 1) % 4 = 0
      · rw [outsAt0_C m c ⟨n + 1, h⟩ h0 h1]
        dsimp only
        unfold sout0_C_1
        exact ih (Nat.lt_of_succ_lt h) y i e0 e1 (by omega)
      · rw [outsAt0_B m c ⟨n + 1, h⟩ h0 h1]
        dsimp only
        unfold sout0_B_1
        exact ih (Nat.lt_of_succ_lt h) y i e0 e1 (by omega)

/-- One element of the product of the rows with the first weights. -/
def prd (h : Vec I S8192x2048 .bf16) (wa : Vec I S2x2048x5632 .f32) (R : Fin 8192) (C : Fin 5632) : EReal :=
  ∑ k : Fin 2048, (h (ix2 R k) : EReal) * wa (ix3 0 k C)

/-- A row of a block times a column of a scratch is an element of the product, when they are the arguments'. -/
theorem sum_prd (x : Vec I S1024x2048 .bf16) (w : Vec I S2048x512 .bf16) (h : Vec I S8192x2048 .bf16)
    (wa : Vec I S2x2048x5632 .f32) (p : Fin 1024) (q : Fin 512) (R : Fin 8192) (C : Fin 5632)
    (hx : ∀ k : Fin 2048, x (ix2 p k) = h (ix2 R k)) (hw : ∀ k : Fin 2048, w (ix2 k q) = wa (ix3 0 k C)) :
    (∑ k : Fin 2048, x (ix2 p k) * w (ix2 k q) : EReal) = prd h wa R C :=
  Finset.sum_congr rfl fun k _ => congrArg₂ (fun a b : EReal => a * b) (hx k) (hw k)

/-- The product `d` rows earlier in the same sequence of 4096 rows, zero before its start. -/
def lag (h : Vec I S8192x2048 .bf16) (wa : Vec I S2x2048x5632 .f32) (d : ℕ) (R : Fin 8192) (C : Fin 5632) : EReal :=
  if d ≤ R.val % 4096 then prd h wa ⟨R.val - d, by have := R.isLt; omega⟩ C else 0

/-- The hidden array: the unit applied to the width-three causal convolution of the product with the first weights, times
    the product with the second weights. -/
def hidden (h : Vec I S8192x2048 .bf16) (wa wb : Vec I S2x2048x5632 .f32) (cw : Vec I S2x3x5632 .f32) (cb : Vec I S2x5632 .f32) :
    Vec I S8192x5632 .bf16 := fun i =>
  (gel (lag h wa 2 (i 0) (i 1) * cw (ix3 0 0 (i 1)) + lag h wa 1 (i 0) (i 1) * cw (ix3 0 1 (i 1)) +
    prd h wa (i 0) (i 1) * cw (ix3 0 2 (i 1)) + cb (ix2 0 (i 1))) * prd h wb (i 0) (i 1) : EReal)

/-- The tails: of each 1024 rows of the product with the first weights the last eight. -/
def tails (h : Vec I S8192x2048 .bf16) (wa : Vec I S2x2048x5632 .f32) : Vec I S8x8x5632 .f32 := fun i =>
  prd h wa ⟨1024 * (i 0).val + 1016 + (i 1).val, by
    have h0 : (i 0).val < 8 := (i 0).isLt
    have h1 : (i 1).val < 8 := (i 1).isLt
    omega⟩ (i 2)

/-- A row of the buffer below the carried ones is a row of the product. -/
theorem ab_prd (c : Dev nD) (t : Fin cfg0.N) (w : Vec I S2048x512 .bf16) (z : Vec I S1032x512 .f32)
    (hw : ∀ (y : S2048x512.Idx) (i : S2x2048x5632.Idx), (i 0).val = 0 → (i 1).val = (y 0).val →
      (i 2).val = 512 * (t.val / 8) + (y 1).val → w y = m ((c : Thread nD τ).loc main_arg1) i)
    (r : Fin 1032) (q : Fin 512) (R : Fin 8192) (C : Fin 5632) (hr : 8 ≤ r.val)
    (eR : R.val + 8 = 1024 * (t.val % 8) + r.val) (eC : C.val = 512 * (t.val / 8) + q.val) :
    ab (iblk m c 0 t) w z (ix2 r q) =
      prd (m ((c : Thread nD τ).loc main_arg0)) (m ((c : Thread nD τ).loc main_arg1)) R C := by
  unfold ab prd
  rw [dif_pos (by exact hr)]
  refine Finset.sum_congr rfl fun k _ => ?_
  have hr2 := r.isLt
  exact congrArg₂ (fun a b : EReal => a * b)
    (blk0 m c t (ix2 ⟨r.val - 8, by omega⟩ k) (ix2 R k) (by show R.val = 1024 * (t.val % 8) + (r.val - 8); omega) rfl)
    (hw (ix2 k q) (ix3 0 k C) rfl rfl eC)

/-- After every point the carried rows are the last eight rows of the product. -/
theorem scr2 (c : Dev nD) (t : Fin cfg0.N) (y : S1032x512.Idx) (hy : (y 0).val < 8) (R : Fin 8192) (C : Fin 5632)
    (eR : R.val = 1024 * (t.val % 8) + 1016 + (y 0).val) (eC : C.val = 512 * (t.val / 8) + (y 1).val) :
    (outsAt0 m c t.val t.isLt).2.2.2.2 y =
      prd (m ((c : Thread nD τ).loc main_arg0)) (m ((c : Thread nD τ).loc main_arg1)) R C := by
  have hN : cfg0.N = 88 := N_0
  by_cases h0 : t.val % 8 = 0
  · rw [outsAt0_A m c t h0 (by omega)]
    dsimp only
    rw [carry_A (hy := hy)]
    exact ab_prd m c t _ _ (fun y i e0 e1 e2 => blk1 m c t (ix3 0 (y 0) (y 1)) i e0 e1 e2) _ _ R C
      (by show 8 ≤ 1024 + (y 0).val; omega) (by show R.val + 8 = 1024 * (t.val % 8) + (1024 + (y 0).val); omega) eC
  · by_cases h1 : t.val % 4 = 0
    · rw [outsAt0_C m c t h0 h1]
      dsimp only
      rw [carry_C (hy := hy)]
      exact ab_prd m c t _ _ (fun y i e0 e1 e2 => scr0 m c (t.val - 1) (Nat.lt_of_le_of_lt (Nat.sub_le _ _) t.isLt) y i e0 e1 (by omega)) _ _ R C
        (by show 8 ≤ 1024 + (y 0).val; omega) (by show R.val + 8 = 1024 * (t.val % 8) + (1024 + (y 0).val); omega) eC
    · rw [outsAt0_B m c t h0 h1]
      dsimp only
      rw [carry_B (hy := hy)]
      exact ab_prd m c t _ _ (fun y i e0 e1 e2 => scr0 m c (t.val - 1) (Nat.lt_of_le_of_lt (Nat.sub_le _ _) t.isLt) y i e0 e1 (by omega)) _ _ R C
        (by show 8 ≤ 1024 + (y 0).val; omega) (by show R.val + 8 = 1024 * (t.val % 8) + (1024 + (y 0).val); omega) eC

/-- At every point the windows are the tiles of the point's blocks, of weights that are the arguments' columns and of
    carried rows that are zero at the start of a sequence and else the eight rows before the point's. -/
theorem point (c : Dev nD) (t : Fin cfg0.N) : ∃ (w v : Vec I S2048x512 .bf16) (z : Vec I S1032x512 .f32),
    (∀ (y : S2048x512.Idx) (i : S2x2048x5632.Idx), (i 0).val = 0 → (i 1).val = (y 0).val →
      (i 2).val = 512 * (t.val / 8) + (y 1).val → w y = m ((c : Thread nD τ).loc main_arg1) i) ∧
    (∀ (y : S2048x512.Idx) (i : S2x2048x5632.Idx), (i 0).val = 0 → (i 1).val = (y 0).val →
      (i 2).val = 512 * (t.val / 8) + (y 1).val → v y = m ((c : Thread nD τ).loc main_arg2) i) ∧
    (t.val % 4 = 0 → ∀ y, z y = (0 : EReal)) ∧
    (¬t.val % 4 = 0 → ∀ (y : S1032x512.Idx) (R : Fin 8192) (C : Fin 5632), (y 0).val < 8 →
      R.val + 8 = 1024 * (t.val % 8) + (y 0).val → C.val = 512 * (t.val / 8) + (y 1).val →
      z y = prd (m ((c : Thread nD τ).loc main_arg0)) (m ((c : Thread nD τ).loc main_arg1)) R C) ∧
    (outsAt0 m c t.val t.isLt).1 = hidT (iblk m c 0 t) w v z (iblk m c 3 t) (iblk m c 4 t) ∧
    (outsAt0 m c t.val t.isLt).2.1 = tailT (iblk m c 0 t) w z := by
  have hN : cfg0.N = 88 := N_0
  by_cases h0 : t.val % 8 = 0
  · refine ⟨wcols (iblk m c 1 t), wcols (iblk m c 2 t), fun _ => (0 : EReal),
      fun y i e0 e1 e2 => blk1 m c t (ix3 0 (y 0) (y 1)) i e0 e1 e2,
      fun y i e0 e1 e2 => blk2 m c t (ix3 0 (y 0) (y 1)) i e0 e1 e2, fun _ _ => rfl, fun h => absurd (by omega) h, ?_, ?_⟩
    · rw [outsAt0_A m c t h0 (by omega)]
      dsimp only
      rw [hid_A]
    · rw [outsAt0_A m c t h0 (by omega)]
      dsimp only
      rw [tail_A]
  · by_cases h1 : t.val % 4 = 0
    · refine ⟨_, _, fun _ => (0 : EReal),
        fun y i e0 e1 e2 => scr0 m c (t.val - 1) (Nat.lt_of_le_of_lt (Nat.sub_le _ _) t.isLt) y i e0 e1 (by omega),
        fun y i e0 e1 e2 => scr1 m c (t.val - 1) (Nat.lt_of_le_of_lt (Nat.sub_le _ _) t.isLt) y i e0 e1 (by omega), fun _ _ => rfl, fun h => absurd h1 h, ?_, ?_⟩
      · rw [outsAt0_C m c t h0 h1]
        dsimp only
        rw [hid_C]
      · rw [outsAt0_C m c t h0 h1]
        dsimp only
        rw [tail_C]
    · refine ⟨_, _, _,
        fun y i e0 e1 e2 => scr0 m c (t.val - 1) (Nat.lt_of_le_of_lt (Nat.sub_le _ _) t.isLt) y i e0 e1 (by omega),
        fun y i e0 e1 e2 => scr1 m c (t.val - 1) (Nat.lt_of_le_of_lt (Nat.sub_le _ _) t.isLt) y i e0 e1 (by omega), fun h => absurd h h1,
        fun _ y R C hy eR eC => scr2 m c ⟨t.val - 1, Nat.lt_of_le_of_lt (Nat.sub_le _ _) t.isLt⟩ y hy R C
          (by show R.val = 1024 * ((t.val - 1) % 8) + 1016 + (y 0).val; omega)
          (by show C.val = 512 * ((t.val - 1) / 8) + (y 1).val; omega), ?_, ?_⟩
      · rw [outsAt0_B m c t h0 h1]
        dsimp only
        rw [hid_B]
      · rw [outsAt0_B m c t h0 h1]
        dsimp only
        rw [tail_B]

/-- A row of the buffer `d` rows before a row of the point is the lagged product. -/
theorem ab_lag (c : Dev nD) (t : Fin cfg0.N) (w : Vec I S2048x512 .bf16) (z : Vec I S1032x512 .f32)
    (hw : ∀ (y : S2048x512.Idx) (i : S2x2048x5632.Idx), (i 0).val = 0 → (i 1).val = (y 0).val →
      (i 2).val = 512 * (t.val / 8) + (y 1).val → w y = m ((c : Thread nD τ).loc main_arg1) i)
    (hz0 : t.val % 4 = 0 → ∀ y, z y = (0 : EReal))
    (hz1 : ¬t.val % 4 = 0 → ∀ (y : S1032x512.Idx) (R : Fin 8192) (C : Fin 5632), (y 0).val < 8 →
      R.val + 8 = 1024 * (t.val % 8) + (y 0).val → C.val = 512 * (t.val / 8) + (y 1).val →
      z y = prd (m ((c : Thread nD τ).loc main_arg0)) (m ((c : Thread nD τ).loc main_arg1)) R C)
    (d p : ℕ) (hd : d ≤ 8) (hp : p < 1024) (r : Fin 1032) (q : Fin 512) (R : Fin 8192) (C : Fin 5632) (er : r.val + d = 8 + p)
    (eR : R.val = 1024 * (t.val % 8) + p) (eC : C.val = 512 * (t.val / 8) + q.val) :
    ab (iblk m c 0 t) w z (ix2 r q) =
      lag (m ((c : Thread nD τ).loc main_arg0)) (m ((c : Thread nD τ).loc main_arg1)) d R C := by
  by_cases h : d ≤ p
  · unfold lag
    rw [if_pos (by omega)]
    exact ab_prd m c t w z hw r q _ C (by omega) (by show R.val - d + 8 = 1024 * (t.val % 8) + r.val; omega) eC
  · have hr : ¬8 ≤ r.val := by omega
    have e : ab (iblk m c 0 t) w z (ix2 r q) = z (ix2 r q) := by
      unfold ab
      rw [dif_neg (by exact hr)]
    rw [e]
    unfold lag
    by_cases h1 : t.val % 4 = 0
    · rw [if_neg (by omega), hz0 h1]
    · rw [if_pos (by omega)]
      exact hz1 h1 (ix2 r q) _ C (by show r.val < 8; omega) (by show R.val - d + 8 = 1024 * (t.val % 8) + r.val; omega) eC

/-- The kernel's hidden array is `hidden` of its arguments. -/
theorem G7_eq (c : Dev nD) : G7 m c = hidden (m ((c : Thread nD τ).loc main_arg0)) (m ((c : Thread nD τ).loc main_arg1))
    (m ((c : Thread nD τ).loc main_arg2)) (m ((c : Thread nD τ).loc main_arg3)) (m ((c : Thread nD τ).loc main_arg4)) := by
  funext i
  idx_bounds i
  have hN : cfg0.N = 88 := N_0
  have hp : pt7Of i < cfg0.N := by unfold pt7Of run7Of; omega
  have hG : G7 m c i = (outsAt0 m c (pt7Of i) hp).1 (loc7Of i) := by
    unfold G7
    rw [dif_pos hp, outsAt0_sweep m c (pt7Of i) hp]
  have hq : pt7Of i = 8 * ((i 1).val / 512) + (i 0).val / 1024 := by unfold pt7Of run7Of; omega
  have l0 : (loc7Of i 0).val = (i 0).val % 1024 := rfl
  have l1 : (loc7Of i 1).val = (i 1).val % 512 := rfl
  obtain ⟨w, v, z, hw, hv, hz0, hz1, hx, -⟩ := point m c ⟨pt7Of i, hp⟩
  rw [hG]
  refine (congrFun hx _).trans ?_
  have e0 : (i 0).val = 1024 * (pt7Of i % 8) + (loc7Of i 0).val := by omega
  have e1 : (i 1).val = 512 * (pt7Of i / 8) + (loc7Of i 1).val := by omega
  have b0 : (loc7Of i 0).val < 1024 := (loc7Of i 0).isLt
  unfold hidT hidden
  dsimp only
  rw [ab_lag m c ⟨pt7Of i, hp⟩ w z hw hz0 hz1 2 (loc7Of i 0).val (by omega) b0 _ _ (i 0) (i 1)
      (by show 6 + (loc7Of i 0).val + 2 = 8 + (loc7Of i 0).val; omega) e0 e1,
    ab_lag m c ⟨pt7Of i, hp⟩ w z hw hz0 hz1 1 (loc7Of i 0).val (by omega) b0 _ _ (i 0) (i 1)
      (by show 7 + (loc7Of i 0).val + 1 = 8 + (loc7Of i 0).val; omega) e0 e1,
    blk3 m c ⟨pt7Of i, hp⟩ (ix3 0 0 (loc7Of i 1)) (ix3 0 0 (i 1)) rfl rfl e1,
    blk3 m c ⟨pt7Of i, hp⟩ (ix3 0 1 (loc7Of i 1)) (ix3 0 1 (i 1)) rfl rfl e1,
    blk3 m c ⟨pt7Of i, hp⟩ (ix3 0 2 (loc7Of i 1)) (ix3 0 2 (i 1)) rfl rfl e1,
    blk4 m c ⟨pt7Of i, hp⟩ (ix3 0 0 (loc7Of i 1)) (ix2 0 (i 1)) rfl e1]
  rw [sum_prd (iblk m c 0 ⟨pt7Of i, hp⟩) w _ (m ((c : Thread nD τ).loc main_arg1)) (loc7Of i 0) (loc7Of i 1) (i 0) (i 1)
      (fun k => blk0 m c ⟨pt7Of i, hp⟩ (ix2 (loc7Of i 0) k) (ix2 (i 0) k) e0 rfl)
      (fun k => hw (ix2 k (loc7Of i 1)) (ix3 0 k (i 1)) rfl rfl e1),
    sum_prd (iblk m c 0 ⟨pt7Of i, hp⟩) v _ (m ((c : Thread nD τ).loc main_arg2)) (loc7Of i 0) (loc7Of i 1) (i 0) (i 1)
      (fun k => blk0 m c ⟨pt7Of i, hp⟩ (ix2 (loc7Of i 0) k) (ix2 (i 0) k) e0 rfl)
      (fun k => hv (ix2 k (loc7Of i 1)) (ix3 0 k (i 1)) rfl rfl e1)]

/-- The kernel's tails are `tails` of its arguments. -/
theorem G8_eq (c : Dev nD) : G8 m c = tails (m ((c : Thread nD τ).loc main_arg0)) (m ((c : Thread nD τ).loc main_arg1)) := by
  funext i
  idx_bounds i
  have hN : cfg0.N = 88 := N_0
  have hp : pt8Of i < cfg0.N := by unfold pt8Of run8Of; omega
  have hG : G8 m c i = (outsAt0 m c (pt8Of i) hp).2.1 (loc8Of i) := by
    unfold G8
    rw [dif_pos hp, outsAt0_sweep m c (pt8Of i) hp]
  have hq : pt8Of i = 8 * ((i 2).val / 512) + (i 0).val := by unfold pt8Of run8Of; omega
  have l1 : (loc8Of i 1).val = (i 1).val % 8 := rfl
  have l2 : (loc8Of i 2).val = (i 2).val % 512 := rfl
  obtain ⟨w, v, z, hw, -, -, -, -, hx⟩ := point m c ⟨pt8Of i, hp⟩
  rw [hG]
  refine (congrFun hx _).trans ?_
  unfold tailT tails
  exact ab_prd m c ⟨pt8Of i, hp⟩ w z hw _ _ _ _ (by show 8 ≤ 1024 + (loc8Of i 1).val; omega)
    (by show 1024 * (i 0).val + 1016 + (i 1).val + 8 = 1024 * (pt8Of i % 8) + (1024 + (loc8Of i 1).val); omega)
    (by show (i 2).val = 512 * (pt8Of i / 8) + (loc8Of i 2).val; omega)

end Cert.FfnupIdeal.Value
-- ==== Proof.FfnupTie.lean ====
module

public import proofs.«01_k».proof.Defs
public import proofs.«01_k».proof.Proof.FfnupValue
public import proofs.«01_k».proof.Proof.Gen.RefFfnupIdeal.Run
public import Idealize.ShloMosaic.Lib.Quiescent
public import Idealize.ShloMosaic.Lib.Tactic.ValueTie

@[expose] public section

set_option maxRecDepth 16384

noncomputable section

namespace Cert.Proof

open Idealize.ShloMosaic Idealize.SL.Sem

/-- The reference of the feed-forward up projection leaves its semaphores at zero and its arguments as they were. -/
theorem quiescent_RefFfnupIdeal : quiescent_RefFfnupIdeal := fun m ρ _ =>
  (θ_run Cert.RefFfnupIdeal.defs _ _).mono (fun r h => ⟨fun c => (h c).2.2, sem_eq_zero_of_no_sems (by decide) r.2⟩)
    (Cert.RefFfnupIdeal.Value.run (F := Ideal) m ρ)

/-- From equal arguments the feed-forward up projection kernel and its reference leave the same two arrays. -/
theorem algebraic_FfnupIdeal_RefFfnupIdeal : algebraic_FfnupIdeal_RefFfnupIdeal := by
  intro m ρ m' ρ' _ hagree
  refine ⟨_, _, Cert.FfnupIdeal.Value.run (F := Ideal) m ρ, ?_⟩
  refine (θ_run Cert.RefFfnupIdeal.defs _ _).mono (fun _ h c => ⟨?_, ?_, (h c).2.2⟩) (Cert.RefFfnupIdeal.Value.run (F := Ideal) m' ρ')
  · rw [(h c).1]
    unfold Cert.RefFfnupIdeal.Value.res_main_v52
    obtain ⟨a0, a1, a2, a3, a4⟩ := hagree c
    revert a0 a1 a2 a3 a4
    generalize m' ((c.tc : Thread Cert.RefFfnupIdeal.nD Cert.RefFfnupIdeal.τ).loc Cert.RefFfnupIdeal.main_arg0) = u0
    generalize m' ((c.tc : Thread Cert.RefFfnupIdeal.nD Cert.RefFfnupIdeal.τ).loc Cert.RefFfnupIdeal.main_arg1) = u1
    generalize m' ((c.tc : Thread Cert.RefFfnupIdeal.nD Cert.RefFfnupIdeal.τ).loc Cert.RefFfnupIdeal.main_arg2) = u2
    generalize m' ((c.tc : Thread Cert.RefFfnupIdeal.nD Cert.RefFfnupIdeal.τ).loc Cert.RefFfnupIdeal.main_arg3) = u3
    generalize m' ((c.tc : Thread Cert.RefFfnupIdeal.nD Cert.RefFfnupIdeal.τ).loc Cert.RefFfnupIdeal.main_arg4) = u4
    intro a0 a1 a2 a3 a4
    subst a0 a1 a2 a3 a4
    rw [Cert.FfnupIdeal.Value.G7_eq]
    refine funext fun i => ?_
    unfold Cert.FfnupIdeal.Value.hidden
    simp only [Cert.FfnupIdeal.Value.gel_comm]
    unfold Cert.FfnupIdeal.Value.lag Cert.FfnupIdeal.Value.prd
    clean_types
    pointwise
    by_cases h2 : 2 ≤ (i 0).val % 4096
    · have e2 : (i 0).val / 4096 * 4096 + ((i 0).val % 4096 - 2) = (i 0).val - 2 := by omega
      have e1 : (i 0).val / 4096 * 4096 + (1 + (i 0).val % 4096 - 2) = (i 0).val - 1 := by omega
      simp only [dif_neg (show ¬(i 0).val % 4096 < 2 by omega), dif_neg (show ¬1 + (i 0).val % 4096 < 2 by omega), if_pos h2,
        if_pos (show 1 ≤ (i 0).val % 4096 by omega), e1, e2]
    · by_cases h1 : 1 ≤ (i 0).val % 4096
      · have e1 : (i 0).val / 4096 * 4096 + (1 + (i 0).val % 4096 - 2) = (i 0).val - 1 := by omega
        simp only [dif_pos (show (i 0).val % 4096 < 2 by omega), dif_neg (show ¬1 + (i 0).val % 4096 < 2 by omega), if_neg h2,
          if_pos h1, e1]
        done
      · simp only [dif_pos (show (i 0).val % 4096 < 2 by omega), dif_pos (show 1 + (i 0).val % 4096 < 2 by omega), if_neg h2,
          if_neg h1]
        done
  · rw [(h c).2.1]
    simp only [hagree c]
    rw [Cert.FfnupIdeal.Value.G8_eq]
    refine funext fun i => ?_
    have h0 : (i 0).val < 8 := (i 0).isLt
    have h1 : (i 1).val < 8 := (i 1).isLt
    have e : (i 0).val / 4 * 4096 + ((i 0).val % 4 * 1024 + (1016 + (i 1).val)) = 1024 * (i 0).val + 1016 + (i 1).val := by omega
    unfold Cert.FfnupIdeal.Value.tails Cert.FfnupIdeal.Value.prd
    clean_types
    pointwise
    simp only [e]

end Cert.Proof

end
-- ==== Proof.FfndownValue.lean ====
module

public import proofs.«01_k».proof.Proof.Gen.FfndownIdeal.Value
public import Idealize.ShloMosaic.Lib.Pipeline.ValueKit.Point
public import Idealize.ShloMosaic.Lib.WholeRead
public import Idealize.ShloMosaic.Lib.Writes
public import Idealize.ShloMosaic.Lib.Tactic
public import Idealize.ShloMosaic.Lib.StableHlo.Run

@[expose] public section

set_option maxRecDepth 16384

noncomputable section

namespace Cert.FfndownIdeal.Value

open Cert.FfndownIdeal Cert.FfndownIdeal.Gen Idealize.ShloMosaic Idealize.ShloMosaic.TcCoe Idealize.SL.Sem

local notation "I" => Idealize.ShloMosaic.Ideal

/-- The tile a grid point leaves: the residual tile plus the gate row times the product of the hidden rows with the
    weight columns. -/
def tile (a : Vec I S1024x5632 .bf16) (w : Vec I S5632x512 .bf16) (x : Vec I S1024x512 .f32) (g : Vec I S1x1x512 .f32) :
    Vec I S1024x512 .f32 := fun y =>
  (x y + g (ix3 0 0 (y 1)) * ∑ k : Fin 5632, a (ix2 (y 0) k) * w (ix2 k (y 1)) : EReal)

/-- At a point that keeps the weight scratch, the output tile is `tile` of the carried scratch. -/
theorem out_B (c : Dev nD) (i : grid0.Coords) (arg2 : Memref sig .tc .vmem S1024x5632 .bf16) (harg2 : arg2.IsWhole) (arg3 : Memref sig .tc .vmem S1x5632x512 .f32) (harg3 : arg3.IsWhole) (arg4 : Memref sig .tc .vmem S1024x512 .f32) (harg4 : arg4.IsWhole) (arg5 : Memref sig .tc .vmem S1x1x512 .f32) (harg5 : arg5.IsWhole) (arg6 : Memref sig .tc .vmem S1024x512 .f32) (harg6 : arg6.IsWhole) (arg7 : Memref sig .tc .vmem S5632x512 .bf16) (harg7 : arg7.IsWhole) (hc0 : ¬cond0_0 i)
    (x0 : Vec I S1024x5632 .bf16) (x1 : Vec I S1x5632x512 .f32) (x2 : Vec I S1024x512 .f32) (x3 : Vec I S1x1x512 .f32) (xs0 : Vec I S5632x512 .bf16) :
    out0_B_4 c i arg2 harg2 arg3 harg3 arg4 harg4 arg5 harg5 arg6 harg6 arg7 harg7 hc0 x0 x1 x2 x3 xs0 = tile x0 xs0 x2 x3 := by
  funext y
  unfold out0_B_4
  refine View.read_writes_apply_of_pieces _ _ (tile x0 xs0 x2 x3) _ ?_ y (cover0_B_4 c i arg2 harg2 arg3 harg3 arg4 harg4 arg5 harg5 arg6 harg6 arg7 harg7 hc0 x0 x1 x2 x3 xs0 y)
  unfold kernelRun0_B
  dsimp only
  sl_unfold_words
  simp only [List.forall_mem_cons]
  refine ⟨?_, ?_, ?_, ?_, by simp⟩
  · intro x
    unfold k0_pay2 tile
    pointwise
    simp only [Memref.IsWhole.readAt_unread]
    (with_reducible congr!) <;> (funext a; fin_cases a <;> first | rfl | exact Fin.ext (by show 0 + 1 * _ = _; omega) | (apply Fin.ext; simp [ix2, ix3]; done))
  · intro x
    unfold k0_pay1 k0_pay6 tile
    pointwise
    simp only [Memref.IsWhole.readAt_unread]
    (with_reducible congr!) <;> (funext a; fin_cases a <;> first | rfl | exact Fin.ext (by show 0 + 1 * _ = _; omega) | (apply Fin.ext; simp [ix2, ix3]; done))
  · intro x
    unfold k0_pay5 tile
    pointwise
    simp only [Memref.IsWhole.readAt_unread]
    (with_reducible congr!) <;> (funext a; fin_cases a <;> first | rfl | exact Fin.ext (by show 0 + 1 * _ = _; omega) | (apply Fin.ext; simp [ix2, ix3]; done))
  · intro x
    unfold k0_pay4 tile
    pointwise
    simp only [Memref.IsWhole.readAt_unread]
    (with_reducible congr!) <;> (funext a; fin_cases a <;> first | rfl | exact Fin.ext (by show 0 + 1 * _ = _; omega) | (apply Fin.ext; simp [ix2, ix3]; done))

/-- At the first point of a column sweep the scratch takes the weight block (its rounding to bf16 is the identity on
    extended reals). -/
theorem sout_A (c : Dev nD) (i : grid0.Coords) (arg2 : Memref sig .tc .vmem S1024x5632 .bf16) (harg2 : arg2.IsWhole) (arg3 : Memref sig .tc .vmem S1x5632x512 .f32) (harg3 : arg3.IsWhole) (arg4 : Memref sig .tc .vmem S1024x512 .f32) (harg4 : arg4.IsWhole) (arg5 : Memref sig .tc .vmem S1x1x512 .f32) (harg5 : arg5.IsWhole) (arg6 : Memref sig .tc .vmem S1024x512 .f32) (harg6 : arg6.IsWhole) (arg7 : Memref sig .tc .vmem S5632x512 .bf16) (harg7 : arg7.IsWhole) (hc0 : cond0_0 i)
    (x0 : Vec I S1024x5632 .bf16) (x1 : Vec I S1x5632x512 .f32) (x2 : Vec I S1024x512 .f32) (x3 : Vec I S1x1x512 .f32) :
    sout0_A_0 c i arg2 harg2 arg3 harg3 arg4 harg4 arg5 harg5 arg6 harg6 arg7 harg7 hc0 x0 x1 x2 x3 = fun y => x1 (ix3 0 (y 0) (y 1)) := by
  funext y
  unfold sout0_A_0
  rw [View.read_writes_eq_canon _ _ _ (scover0_A_0 c i arg2 harg2 arg3 harg3 arg4 harg4 arg5 harg5 arg6 harg6 arg7 harg7 hc0 x0 x1 x2 x3)]
  unfold kernelRun0_A
  dsimp only
  sl_unfold_words
  rw [View.canon_unit_zero (by funext a; fin_cases a <;> rfl)]
  unfold k0_pay3
  pointwise
  simp only [Memref.IsWhole.readAt_unread]
  (with_reducible congr!) <;> (funext a; fin_cases a <;> first | rfl | exact Fin.ext (by show 0 + 1 * _ = _; omega) | (apply Fin.ext; simp [ix2, ix3]; done))

/-- At the first point of a column sweep the output tile is `tile` of the weight block just stored. -/
theorem out_A (c : Dev nD) (i : grid0.Coords) (arg2 : Memref sig .tc .vmem S1024x5632 .bf16) (harg2 : arg2.IsWhole) (arg3 : Memref sig .tc .vmem S1x5632x512 .f32) (harg3 : arg3.IsWhole) (arg4 : Memref sig .tc .vmem S1024x512 .f32) (harg4 : arg4.IsWhole) (arg5 : Memref sig .tc .vmem S1x1x512 .f32) (harg5 : arg5.IsWhole) (arg6 : Memref sig .tc .vmem S1024x512 .f32) (harg6 : arg6.IsWhole) (arg7 : Memref sig .tc .vmem S5632x512 .bf16) (harg7 : arg7.IsWhole) (hc0 : cond0_0 i)
    (x0 : Vec I S1024x5632 .bf16) (x1 : Vec I S1x5632x512 .f32) (x2 : Vec I S1024x512 .f32) (x3 : Vec I S1x1x512 .f32) :
    out0_A_4 c i arg2 harg2 arg3 harg3 arg4 harg4 arg5 harg5 arg6 harg6 arg7 harg7 hc0 x0 x1 x2 x3 = tile x0 (fun y => x1 (ix3 0 (y 0) (y 1))) x2 x3 := by
  funext y
  unfold out0_A_4
  refine View.read_writes_apply_of_pieces _ _ (tile x0 (fun y => x1 (ix3 0 (y 0) (y 1))) x2 x3) _ ?_ y (cover0_A_4 c i arg2 harg2 arg3 harg3 arg4 harg4 arg5 harg5 arg6 harg6 arg7 harg7 hc0 x0 x1 x2 x3 y)
  unfold kernelRun0_A
  dsimp only
  sl_unfold_words
  simp only [List.forall_mem_cons]
  have hz : (![0, 0] : Fin 2 → Nat) = fun _ => 0 := by funext a; fin_cases a <;> rfl
  rw [View.readCov_unit_zero (S := S5632x512) _ hz]
  refine ⟨?_, ?_, ?_, ?_, by simp⟩
  · intro x
    unfold k0_pay2 k0_pay3 tile
    pointwise
    simp only [Memref.IsWhole.readAt_unread]
    (with_reducible congr!) <;> (funext a; fin_cases a <;> first | rfl | exact Fin.ext (by show 0 + 1 * _ = _; omega) | (apply Fin.ext; simp [ix2, ix3]; done))
  · intro x
    unfold k0_pay1 k0_pay6 k0_pay3 tile
    pointwise
    simp only [Memref.IsWhole.readAt_unread]
    (with_reducible congr!) <;> (funext a; fin_cases a <;> first | rfl | exact Fin.ext (by show 0 + 1 * _ = _; omega) | (apply Fin.ext; simp [ix2, ix3]; done))
  · intro x
    unfold k0_pay5 k0_pay3 tile
    pointwise
    simp only [Memref.IsWhole.readAt_unread]
    (with_reducible congr!) <;> (funext a; fin_cases a <;> first | rfl | exact Fin.ext (by show 0 + 1 * _ = _; omega) | (apply Fin.ext; simp [ix2, ix3]; done))
  · intro x
    unfold k0_pay4 k0_pay3 tile
    pointwise
    simp only [Memref.IsWhole.readAt_unread]
    (with_reducible congr!) <;> (funext a; fin_cases a <;> first | rfl | exact Fin.ext (by show 0 + 1 * _ = _; omega) | (apply Fin.ext; simp [ix2, ix3]; done))

/-! ## The blocks the points read, at coordinates -/

theorem idx0 : ∀ t : Fin cfg0.N, win0_0.index t = ![t.val % 8, 0] := by decide +kernel
theorem idx1 : ∀ t : Fin cfg0.N, win0_1.index t = ![0, 0, t.val / 8] := by decide +kernel
theorem idx2 : ∀ t : Fin cfg0.N, win0_2.index t = ![t.val % 8, t.val / 8] := by decide +kernel
theorem idx3 : ∀ t : Fin cfg0.N, win0_3.index t = ![t.val % 8 / 4, 0, t.val / 8] := by decide +kernel

variable (m : (ℓ : Loc nD τ sig) → Buf (Elt I) ℓ)

/-- The hidden-rows block of a point, read at an index. -/
theorem blk0 (c : Dev nD) (t : Fin cfg0.N) (y : S1024x5632.Idx) (i : S8192x5632.Idx)
    (h0 : (i 0).val = 1024 * (t.val % 8) + (y 0).val) (h1 : (i 1).val = (y 1).val) :
    (iblk m c 0 t : Vec I S1024x5632 .bf16) y = m ((c : Thread nD τ).loc main_arg0) i := by
  blk_ext! [iblk, V, idx0 t]

/-- The weight block of a point, read at an index. -/
theorem blk1 (c : Dev nD) (t : Fin cfg0.N) (y : S1x5632x512.Idx) (i : S2x5632x2048.Idx)
    (h0 : (i 0).val = 0) (h1 : (i 1).val = (y 1).val) (h2 : (i 2).val = 512 * (t.val / 8) + (y 2).val) :
    (iblk m c 1 t : Vec I S1x5632x512 .f32) y = m ((c : Thread nD τ).loc main_arg1) i := by
  blk_ext! [iblk, V, idx1 t]

/-- The residual block of a point, read at an index. -/
theorem blk2 (c : Dev nD) (t : Fin cfg0.N) (y : S1024x512.Idx) (i : S8192x2048.Idx)
    (h0 : (i 0).val = 1024 * (t.val % 8) + (y 0).val) (h1 : (i 1).val = 512 * (t.val / 8) + (y 1).val) :
    (iblk m c 2 t : Vec I S1024x512 .f32) y = m ((c : Thread nD τ).loc main_arg2) i := by
  blk_ext! [iblk, V, idx2 t]

/-- The gate block of a point, read at an index: the host line before the call only inserts an axis of extent one. -/
theorem blk3 (c : Dev nD) (t : Fin cfg0.N) (y : S1x1x512.Idx) (i : S2x2048.Idx)
    (h0 : (i 0).val = t.val % 8 / 4) (h1 : (i 1).val = 512 * (t.val / 8) + (y 2).val) :
    (iblk m c 3 t : Vec I S1x1x512 .f32) y = m ((c : Thread nD τ).loc main_arg3) i := by
  blk_ext! [iblk, V, idx3 t]

/-! ## The carried weight scratch and the output -/

/-- After every point the scratch holds the weight columns of the point's sweep. -/
theorem scratch (c : Dev nD) : ∀ (n : ℕ) (h : n < cfg0.N) (y : S5632x512.Idx) (i : S2x5632x2048.Idx),
    (i 0).val = 0 → (i 1).val = (y 0).val → (i 2).val = 512 * (n / 8) + (y 1).val →
    (outsAt0 m c n h).2 y = m ((c : Thread nD τ).loc main_arg1) i := by
  intro n
  induction n with
  | zero =>
    intro h y i e0 e1 e2
    rw [outsAt0_A m c ⟨0, h⟩ rfl]
    dsimp only
    rw [sout_A]
    exact blk1 m c ⟨0, h⟩ _ i e0 e1 e2
  | succ n ih =>
    intro h y i e0 e1 e2
    by_cases h8 : (n + 1) % 8 = 0
    · rw [outsAt0_A m c ⟨n + 1, h⟩ h8]
      dsimp only
      rw [sout_A]
      exact blk1 m c ⟨n + 1, h⟩ _ i e0 e1 e2
    · rw [outsAt0_B m c ⟨n + 1, h⟩ h8]
      exact ih _ y i e0 e1 (by omega)

/-- The residual feed-forward projection, one element: the residual plus the gate row of its sequence times the row by
    column product. -/
def down (a : Vec I S8192x5632 .bf16) (w : Vec I S2x5632x2048 .f32) (x : Vec I S8192x2048 .f32) (g : Vec I S2x2048 .f32) :
    Vec I S8192x2048 .f32 := fun i =>
  (x i + g (ix2 ⟨(i 0).val / 4096, Nat.div_lt_of_lt_mul (i 0).isLt⟩ (i 1)) *
    ∑ k : Fin 5632, a (ix2 (i 0) k) * w (ix3 0 k (i 1)) : EReal)

/-- The kernel's result array is `down` of its arguments. -/
theorem G4_eq (c : Dev nD) : G4 m c = down (m ((c : Thread nD τ).loc main_arg0)) (m ((c : Thread nD τ).loc main_arg1))
    (m ((c : Thread nD τ).loc main_arg2)) (m ((c : Thread nD τ).loc main_arg3)) := by
  funext i
  idx_bounds i
  have hN : cfg0.N = 32 := N_0
  have hp : pt4Of i < cfg0.N := by unfold pt4Of run4Of; omega
  have hG : G4 m c i = (outsAt0 m c (pt4Of i) hp).1 (loc4Of i) := by
    unfold G4
    rw [dif_pos hp, outsAt0_sweep m c (pt4Of i) hp]
  rw [hG]
  have hq8 : pt4Of i % 8 = (i 0).val / 1024 := by unfold pt4Of run4Of; omega
  have hd8 : pt4Of i / 8 = (i 1).val / 512 := by unfold pt4Of run4Of; omega
  have l0 : (loc4Of i 0).val = (i 0).val % 1024 := rfl
  have l1 : (loc4Of i 1).val = (i 1).val % 512 := rfl
  have key : ∀ (w : Vec I S5632x512 .bf16), (∀ (y : S5632x512.Idx) (j : S2x5632x2048.Idx),
      (j 0).val = 0 → (j 1).val = (y 0).val → (j 2).val = 512 * (pt4Of i / 8) + (y 1).val →
      w y = m ((c : Thread nD τ).loc main_arg1) j) →
      tile (iblk m c 0 ⟨pt4Of i, hp⟩) w (iblk m c 2 ⟨pt4Of i, hp⟩) (iblk m c 3 ⟨pt4Of i, hp⟩) (loc4Of i) =
      down (m ((c : Thread nD τ).loc main_arg0)) (m ((c : Thread nD τ).loc main_arg1))
        (m ((c : Thread nD τ).loc main_arg2)) (m ((c : Thread nD τ).loc main_arg3)) i := by
    intro w hw
    unfold tile down
    rw [blk2 m c ⟨pt4Of i, hp⟩ (loc4Of i) i (by simp only [hq8, l0]; omega) (by simp only [hd8, l1]; omega),
      blk3 m c ⟨pt4Of i, hp⟩ (ix3 0 0 (loc4Of i 1)) (ix2 ⟨(i 0).val / 4096, Nat.div_lt_of_lt_mul (i 0).isLt⟩ (i 1))
        (by show (i 0).val / 4096 = pt4Of i % 8 / 4; omega) (by show (i 1).val = 512 * (pt4Of i / 8) + (loc4Of i 1).val; omega)]
    refine congrArg _ (congrArg _ (Finset.sum_congr rfl fun k _ => ?_))
    rw [blk0 m c ⟨pt4Of i, hp⟩ (ix2 (loc4Of i 0) k) (ix2 (i 0) k) (by show (i 0).val = 1024 * (pt4Of i % 8) + (loc4Of i 0).val; omega) rfl,
      hw (ix2 k (loc4Of i 1)) (ix3 0 k (i 1)) rfl rfl (by show (i 1).val = 512 * (pt4Of i / 8) + (loc4Of i 1).val; omega)]
  by_cases h8 : pt4Of i % 8 = 0
  · rw [outsAt0_A m c ⟨pt4Of i, hp⟩ h8]
    dsimp only
    rw [out_A]
    exact key _ fun y j e0 e1 e2 => blk1 m c ⟨pt4Of i, hp⟩ _ j e0 e1 e2
  · rw [outsAt0_B m c ⟨pt4Of i, hp⟩ h8]
    dsimp only
    rw [out_B]
    exact key _ fun y j e0 e1 e2 => scratch m c _ _ y j e0 e1 (by rw [e2]; show _ = 512 * ((pt4Of i - 1) / 8) + _; omega)

end Cert.FfndownIdeal.Value
-- ==== Proof.FfndownTie.lean ====
module

public import proofs.«01_k».proof.Defs
public import proofs.«01_k».proof.Proof.FfndownValue
public import proofs.«01_k».proof.Proof.Gen.RefFfndownIdeal.Run
public import Idealize.ShloMosaic.Lib.Quiescent
public import Idealize.ShloMosaic.Lib.Tactic.ValueTie

@[expose] public section

set_option maxRecDepth 16384

noncomputable section

namespace Cert.Proof

open Idealize.ShloMosaic Idealize.SL.Sem

/-- The reference of the residual feed-forward projection leaves its semaphores at zero and its arguments as they were. -/
theorem quiescent_RefFfndownIdeal : quiescent_RefFfndownIdeal := fun m ρ _ =>
  (θ_run Cert.RefFfndownIdeal.defs _ _).mono (fun r h => ⟨fun c => (h c).2, sem_eq_zero_of_no_sems (by decide) r.2⟩)
    (Cert.RefFfndownIdeal.Value.run (F := Ideal) m ρ)

/-- From equal arguments the residual feed-forward projection kernel and its reference leave the same array. -/
theorem algebraic_FfndownIdeal_RefFfndownIdeal : algebraic_FfndownIdeal_RefFfndownIdeal := by
  intro m ρ m' ρ' _ hagree
  refine ⟨_, Cert.FfndownIdeal.Value.run (F := Ideal) m ρ, ?_⟩
  refine (θ_run Cert.RefFfndownIdeal.defs _ _).mono (fun _ h c => ⟨?_, (h c).2⟩) (Cert.RefFfndownIdeal.Value.run (F := Ideal) m' ρ')
  rw [(h c).1]
  simp only [hagree c]
  rw [Cert.FfndownIdeal.Value.G4_eq]
  refine funext fun i => ?_
  unfold Cert.FfndownIdeal.Value.down
  clean_types
  pointwise

end Cert.Proof

end
-- ==== Proof.InprojOuts.lean ====
module

public import proofs.«01_k».proof.Proof.Gen.InprojIdeal.Frame.RunJ
public import Idealize.ShloMosaic.Lib.Claim

@[expose] public section

set_option maxRecDepth 16384

noncomputable section

namespace Cert.InprojIdeal.Inp

open Cert.InprojIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The column block of a grid position is below 18. -/
theorem q18 {n : ℕ} (hn : n < cfg0.N) : n / 8 % 18 = n / 8 ∧ n / 8 < 18 := by
  have hN : n < 144 := lt_of_lt_of_eq hn (show cfg0.N = 144 from N_0)
  constructor <;> omega
/-- The stores of case A into the output block cover it. -/
theorem cover0_A_6 (c : Dev nD) (i : grid0.Coords) (arg2 : Memref sig .tc .vmem S1024x2048 .bf16) (harg2 : arg2.IsWhole) (arg3 : Memref sig .tc .vmem S1x512x2048 .f32) (harg3 : arg3.IsWhole) (arg4 : Memref sig .tc .vmem S1x512x2048 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S1024x512 .f32) (harg8 : arg8.IsWhole) (arg9 : Memref sig .tc .vmem S2048x512 .bf16) (harg9 : arg9.IsWhole) (hc0 : cond0_0 i) (hc1 : ¬cond0_1 i) (hc2 : cond0_2 i) (hc3 : ¬cond0_3 i) (hc4 : ¬cond0_4 i) (hc5 : ¬cond0_5 i) (hc6 : ¬cond0_6 i)
    (x0 : Vec F S1024x2048 .bf16) (x1 : Vec F S1x512x2048 .f32) (x2 : Vec F S1x512x2048 .f32) (x3 : Vec F S1x512 .f32) (x4 : Vec F S1x512 .f32) (x5 : Vec F S512x512 .bf16) (y : S1024x512.Idx) :
    ∃ pc ∈ (kernelRun0_A c i arg2 harg2 arg3 harg3 arg4 harg4 arg5 harg5 arg6 harg6 arg7 harg7 arg8 harg8 arg9 harg9 hc0 hc1 hc2 hc3 hc4 hc5 hc6 x0 x1 x2 x3 x4 x5).1, y ∈ pc.1.set :=
  View.cover_of_tiledL (kernelRun0_A c i arg2 harg2 arg3 harg3 arg4 harg4 arg5 harg5 arg6 harg6 arg7 harg7 arg8 harg8 arg9 harg9 hc0 hc1 hc2 hc3 hc4 hc5 hc6 x0 x1 x2 x3 x4 x5).1 S256x512.size (by sl_kernel_rfl) y

/-- The output block that case A leaves. -/
def out0_A_6 (c : Dev nD) (i : grid0.Coords) (arg2 : Memref sig .tc .vmem S1024x2048 .bf16) (harg2 : arg2.IsWhole) (arg3 : Memref sig .tc .vmem S1x512x2048 .f32) (harg3 : arg3.IsWhole) (arg4 : Memref sig .tc .vmem S1x512x2048 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S1024x512 .f32) (harg8 : arg8.IsWhole) (arg9 : Memref sig .tc .vmem S2048x512 .bf16) (harg9 : arg9.IsWhole) (hc0 : cond0_0 i) (hc1 : ¬cond0_1 i) (hc2 : cond0_2 i) (hc3 : ¬cond0_3 i) (hc4 : ¬cond0_4 i) (hc5 : ¬cond0_5 i) (hc6 : ¬cond0_6 i)
    (x0 : Vec F S1024x2048 .bf16) (x1 : Vec F S1x512x2048 .f32) (x2 : Vec F S1x512x2048 .f32) (x3 : Vec F S1x512 .f32) (x4 : Vec F S1x512 .f32) (x5 : Vec F S512x512 .bf16) : Vec F S1024x512 .f32 :=
  VO0_6.read (Elt F) (VO0_6.writes (Elt F) VO0_6.junk (kernelRun0_A c i arg2 harg2 arg3 harg3 arg4 harg4 arg5 harg5 arg6 harg6 arg7 harg7 arg8 harg8 arg9 harg9 hc0 hc1 hc2 hc3 hc4 hc5 hc6 x0 x1 x2 x3 x4 x5).1)

/-- The store of case A into the weight scratch covers it. -/
theorem scover0_A_0 (c : Dev nD) (i : grid0.Coords) (arg2 : Memref sig .tc .vmem S1024x2048 .bf16) (harg2 : arg2.IsWhole) (arg3 : Memref sig .tc .vmem S1x512x2048 .f32) (harg3 : arg3.IsWhole) (arg4 : Memref sig .tc .vmem S1x512x2048 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S1024x512 .f32) (harg8 : arg8.IsWhole) (arg9 : Memref sig .tc .vmem S2048x512 .bf16) (harg9 : arg9.IsWhole) (hc0 : cond0_0 i) (hc1 : ¬cond0_1 i) (hc2 : cond0_2 i) (hc3 : ¬cond0_3 i) (hc4 : ¬cond0_4 i) (hc5 : ¬cond0_5 i) (hc6 : ¬cond0_6 i)
    (x0 : Vec F S1024x2048 .bf16) (x1 : Vec F S1x512x2048 .f32) (x2 : Vec F S1x512x2048 .f32) (x3 : Vec F S1x512 .f32) (x4 : Vec F S1x512 .f32) (x5 : Vec F S512x512 .bf16) (y : S2048x512.Idx) :
    ∃ pc ∈ (kernelRun0_A c i arg2 harg2 arg3 harg3 arg4 harg4 arg5 harg5 arg6 harg6 arg7 harg7 arg8 harg8 arg9 harg9 hc0 hc1 hc2 hc3 hc4 hc5 hc6 x0 x1 x2 x3 x4 x5).2.1, y ∈ pc.1.set :=
  View.cover_of_tiledL (kernelRun0_A c i arg2 harg2 arg3 harg3 arg4 harg4 arg5 harg5 arg6 harg6 arg7 harg7 arg8 harg8 arg9 harg9 hc0 hc1 hc2 hc3 hc4 hc5 hc6 x0 x1 x2 x3 x4 x5).2.1 S2048x512.size (by sl_kernel_rfl) y

/-- The weight scratch that case A leaves. -/
def sout0_A_0 (c : Dev nD) (i : grid0.Coords) (arg2 : Memref sig .tc .vmem S1024x2048 .bf16) (harg2 : arg2.IsWhole) (arg3 : Memref sig .tc .vmem S1x512x2048 .f32) (harg3 : arg3.IsWhole) (arg4 : Memref sig .tc .vmem S1x512x2048 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S1024x512 .f32) (harg8 : arg8.IsWhole) (arg9 : Memref sig .tc .vmem S2048x512 .bf16) (harg9 : arg9.IsWhole) (hc0 : cond0_0 i) (hc1 : ¬cond0_1 i) (hc2 : cond0_2 i) (hc3 : ¬cond0_3 i) (hc4 : ¬cond0_4 i) (hc5 : ¬cond0_5 i) (hc6 : ¬cond0_6 i)
    (x0 : Vec F S1024x2048 .bf16) (x1 : Vec F S1x512x2048 .f32) (x2 : Vec F S1x512x2048 .f32) (x3 : Vec F S1x512 .f32) (x4 : Vec F S1x512 .f32) (x5 : Vec F S512x512 .bf16) : Vec F S2048x512 .bf16 :=
  VS0_0.read (Elt F) (VS0_0.writes (Elt F) VS0_0.junk (kernelRun0_A c i arg2 harg2 arg3 harg3 arg4 harg4 arg5 harg5 arg6 harg6 arg7 harg7 arg8 harg8 arg9 harg9 hc0 hc1 hc2 hc3 hc4 hc5 hc6 x0 x1 x2 x3 x4 x5).2.1)

/-- The stores of case B into the output block cover it. -/
theorem cover0_B_6 (c : Dev nD) (i : grid0.Coords) (arg2 : Memref sig .tc .vmem S1024x2048 .bf16) (harg2 : arg2.IsWhole) (arg3 : Memref sig .tc .vmem S1x512x2048 .f32) (harg3 : arg3.IsWhole) (arg4 : Memref sig .tc .vmem S1x512x2048 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S1024x512 .f32) (harg8 : arg8.IsWhole) (arg9 : Memref sig .tc .vmem S2048x512 .bf16) (harg9 : arg9.IsWhole) (hc0 : ¬cond0_0 i) (hc1 : ¬cond0_1 i) (hc2 : cond0_2 i) (hc3 : ¬cond0_3 i) (hc4 : ¬cond0_4 i) (hc5 : ¬cond0_5 i) (hc6 : ¬cond0_6 i)
    (x0 : Vec F S1024x2048 .bf16) (x1 : Vec F S1x512x2048 .f32) (x2 : Vec F S1x512x2048 .f32) (x3 : Vec F S1x512 .f32) (x4 : Vec F S1x512 .f32) (x5 : Vec F S512x512 .bf16) (xs0 : Vec F S2048x512 .bf16) (y : S1024x512.Idx) :
    ∃ pc ∈ (kernelRun0_B c i arg2 harg2 arg3 harg3 arg4 harg4 arg5 harg5 arg6 harg6 arg7 harg7 arg8 harg8 arg9 harg9 hc0 hc1 hc2 hc3 hc4 hc5 hc6 x0 x1 x2 x3 x4 x5 xs0).1, y ∈ pc.1.set :=
  View.cover_of_tiledL (kernelRun0_B c i arg2 harg2 arg3 harg3 arg4 harg4 arg5 harg5 arg6 harg6 arg7 harg7 arg8 harg8 arg9 harg9 hc0 hc1 hc2 hc3 hc4 hc5 hc6 x0 x1 x2 x3 x4 x5 xs0).1 S256x512.size (by sl_kernel_rfl) y

/-- The output block that case B leaves. -/
def out0_B_6 (c : Dev nD) (i : grid0.Coords) (arg2 : Memref sig .tc .vmem S1024x2048 .bf16) (harg2 : arg2.IsWhole) (arg3 : Memref sig .tc .vmem S1x512x2048 .f32) (harg3 : arg3.IsWhole) (arg4 : Memref sig .tc .vmem S1x512x2048 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S1024x512 .f32) (harg8 : arg8.IsWhole) (arg9 : Memref sig .tc .vmem S2048x512 .bf16) (harg9 : arg9.IsWhole) (hc0 : ¬cond0_0 i) (hc1 : ¬cond0_1 i) (hc2 : cond0_2 i) (hc3 : ¬cond0_3 i) (hc4 : ¬cond0_4 i) (hc5 : ¬cond0_5 i) (hc6 : ¬cond0_6 i)
    (x0 : Vec F S1024x2048 .bf16) (x1 : Vec F S1x512x2048 .f32) (x2 : Vec F S1x512x2048 .f32) (x3 : Vec F S1x512 .f32) (x4 : Vec F S1x512 .f32) (x5 : Vec F S512x512 .bf16) (xs0 : Vec F S2048x512 .bf16) : Vec F S1024x512 .f32 :=
  VO0_6.read (Elt F) (VO0_6.writes (Elt F) VO0_6.junk (kernelRun0_B c i arg2 harg2 arg3 harg3 arg4 harg4 arg5 harg5 arg6 harg6 arg7 harg7 arg8 harg8 arg9 harg9 hc0 hc1 hc2 hc3 hc4 hc5 hc6 x0 x1 x2 x3 x4 x5 xs0).1)

/-- The weight scratch that case B leaves. -/
def sout0_B_0 (c : Dev nD) (i : grid0.Coords) (arg2 : Memref sig .tc .vmem S1024x2048 .bf16) (harg2 : arg2.IsWhole) (arg3 : Memref sig .tc .vmem S1x512x2048 .f32) (harg3 : arg3.IsWhole) (arg4 : Memref sig .tc .vmem S1x512x2048 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S1024x512 .f32) (harg8 : arg8.IsWhole) (arg9 : Memref sig .tc .vmem S2048x512 .bf16) (harg9 : arg9.IsWhole) (hc0 : ¬cond0_0 i) (hc1 : ¬cond0_1 i) (hc2 : cond0_2 i) (hc3 : ¬cond0_3 i) (hc4 : ¬cond0_4 i) (hc5 : ¬cond0_5 i) (hc6 : ¬cond0_6 i)
    (x0 : Vec F S1024x2048 .bf16) (x1 : Vec F S1x512x2048 .f32) (x2 : Vec F S1x512x2048 .f32) (x3 : Vec F S1x512 .f32) (x4 : Vec F S1x512 .f32) (x5 : Vec F S512x512 .bf16) (xs0 : Vec F S2048x512 .bf16) : Vec F S2048x512 .bf16 := xs0

/-- The stores of case C into the output block cover it. -/
theorem cover0_C_6 (c : Dev nD) (i : grid0.Coords) (arg2 : Memref sig .tc .vmem S1024x2048 .bf16) (harg2 : arg2.IsWhole) (arg3 : Memref sig .tc .vmem S1x512x2048 .f32) (harg3 : arg3.IsWhole) (arg4 : Memref sig .tc .vmem S1x512x2048 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S1024x512 .f32) (harg8 : arg8.IsWhole) (arg9 : Memref sig .tc .vmem S2048x512 .bf16) (harg9 : arg9.IsWhole) (hc0 : cond0_0 i) (hc1 : ¬cond0_1 i) (hc2 : ¬cond0_2 i) (hc3 : cond0_3 i) (hc4 : ¬cond0_4 i) (hc5 : ¬cond0_5 i) (hc6 : ¬cond0_6 i)
    (x0 : Vec F S1024x2048 .bf16) (x1 : Vec F S1x512x2048 .f32) (x2 : Vec F S1x512x2048 .f32) (x3 : Vec F S1x512 .f32) (x4 : Vec F S1x512 .f32) (x5 : Vec F S512x512 .bf16) (y : S1024x512.Idx) :
    ∃ pc ∈ (kernelRun0_C c i arg2 harg2 arg3 harg3 arg4 harg4 arg5 harg5 arg6 harg6 arg7 harg7 arg8 harg8 arg9 harg9 hc0 hc1 hc2 hc3 hc4 hc5 hc6 x0 x1 x2 x3 x4 x5).1, y ∈ pc.1.set :=
  View.cover_of_tiledL (kernelRun0_C c i arg2 harg2 arg3 harg3 arg4 harg4 arg5 harg5 arg6 harg6 arg7 harg7 arg8 harg8 arg9 harg9 hc0 hc1 hc2 hc3 hc4 hc5 hc6 x0 x1 x2 x3 x4 x5).1 S256x512.size (by sl_kernel_rfl) y

/-- The output block that case C leaves. -/
def out0_C_6 (c : Dev nD) (i : grid0.Coords) (arg2 : Memref sig .tc .vmem S1024x2048 .bf16) (harg2 : arg2.IsWhole) (arg3 : Memref sig .tc .vmem S1x512x2048 .f32) (harg3 : arg3.IsWhole) (arg4 : Memref sig .tc .vmem S1x512x2048 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S1024x512 .f32) (harg8 : arg8.IsWhole) (arg9 : Memref sig .tc .vmem S2048x512 .bf16) (harg9 : arg9.IsWhole) (hc0 : cond0_0 i) (hc1 : ¬cond0_1 i) (hc2 : ¬cond0_2 i) (hc3 : cond0_3 i) (hc4 : ¬cond0_4 i) (hc5 : ¬cond0_5 i) (hc6 : ¬cond0_6 i)
    (x0 : Vec F S1024x2048 .bf16) (x1 : Vec F S1x512x2048 .f32) (x2 : Vec F S1x512x2048 .f32) (x3 : Vec F S1x512 .f32) (x4 : Vec F S1x512 .f32) (x5 : Vec F S512x512 .bf16) : Vec F S1024x512 .f32 :=
  VO0_6.read (Elt F) (VO0_6.writes (Elt F) VO0_6.junk (kernelRun0_C c i arg2 harg2 arg3 harg3 arg4 harg4 arg5 harg5 arg6 harg6 arg7 harg7 arg8 harg8 arg9 harg9 hc0 hc1 hc2 hc3 hc4 hc5 hc6 x0 x1 x2 x3 x4 x5).1)

/-- The store of case C into the weight scratch covers it. -/
theorem scover0_C_0 (c : Dev nD) (i : grid0.Coords) (arg2 : Memref sig .tc .vmem S1024x2048 .bf16) (harg2 : arg2.IsWhole) (arg3 : Memref sig .tc .vmem S1x512x2048 .f32) (harg3 : arg3.IsWhole) (arg4 : Memref sig .tc .vmem S1x512x2048 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S1024x512 .f32) (harg8 : arg8.IsWhole) (arg9 : Memref sig .tc .vmem S2048x512 .bf16) (harg9 : arg9.IsWhole) (hc0 : cond0_0 i) (hc1 : ¬cond0_1 i) (hc2 : ¬cond0_2 i) (hc3 : cond0_3 i) (hc4 : ¬cond0_4 i) (hc5 : ¬cond0_5 i) (hc6 : ¬cond0_6 i)
    (x0 : Vec F S1024x2048 .bf16) (x1 : Vec F S1x512x2048 .f32) (x2 : Vec F S1x512x2048 .f32) (x3 : Vec F S1x512 .f32) (x4 : Vec F S1x512 .f32) (x5 : Vec F S512x512 .bf16) (y : S2048x512.Idx) :
    ∃ pc ∈ (kernelRun0_C c i arg2 harg2 arg3 harg3 arg4 harg4 arg5 harg5 arg6 harg6 arg7 harg7 arg8 harg8 arg9 harg9 hc0 hc1 hc2 hc3 hc4 hc5 hc6 x0 x1 x2 x3 x4 x5).2.1, y ∈ pc.1.set :=
  View.cover_of_tiledL (kernelRun0_C c i arg2 harg2 arg3 harg3 arg4 harg4 arg5 harg5 arg6 harg6 arg7 harg7 arg8 harg8 arg9 harg9 hc0 hc1 hc2 hc3 hc4 hc5 hc6 x0 x1 x2 x3 x4 x5).2.1 S2048x512.size (by sl_kernel_rfl) y

/-- The weight scratch that case C leaves. -/
def sout0_C_0 (c : Dev nD) (i : grid0.Coords) (arg2 : Memref sig .tc .vmem S1024x2048 .bf16) (harg2 : arg2.IsWhole) (arg3 : Memref sig .tc .vmem S1x512x2048 .f32) (harg3 : arg3.IsWhole) (arg4 : Memref sig .tc .vmem S1x512x2048 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S1024x512 .f32) (harg8 : arg8.IsWhole) (arg9 : Memref sig .tc .vmem S2048x512 .bf16) (harg9 : arg9.IsWhole) (hc0 : cond0_0 i) (hc1 : ¬cond0_1 i) (hc2 : ¬cond0_2 i) (hc3 : cond0_3 i) (hc4 : ¬cond0_4 i) (hc5 : ¬cond0_5 i) (hc6 : ¬cond0_6 i)
    (x0 : Vec F S1024x2048 .bf16) (x1 : Vec F S1x512x2048 .f32) (x2 : Vec F S1x512x2048 .f32) (x3 : Vec F S1x512 .f32) (x4 : Vec F S1x512 .f32) (x5 : Vec F S512x512 .bf16) : Vec F S2048x512 .bf16 :=
  VS0_0.read (Elt F) (VS0_0.writes (Elt F) VS0_0.junk (kernelRun0_C c i arg2 harg2 arg3 harg3 arg4 harg4 arg5 harg5 arg6 harg6 arg7 harg7 arg8 harg8 arg9 harg9 hc0 hc1 hc2 hc3 hc4 hc5 hc6 x0 x1 x2 x3 x4 x5).2.1)

/-- The stores of case D into the output block cover it. -/
theorem cover0_D_6 (c : Dev nD) (i : grid0.Coords) (arg2 : Memref sig .tc .vmem S1024x2048 .bf16) (harg2 : arg2.IsWhole) (arg3 : Memref sig .tc .vmem S1x512x2048 .f32) (harg3 : arg3.IsWhole) (arg4 : Memref sig .tc .vmem S1x512x2048 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S1024x512 .f32) (harg8 : arg8.IsWhole) (arg9 : Memref sig .tc .vmem S2048x512 .bf16) (harg9 : arg9.IsWhole) (hc0 : ¬cond0_0 i) (hc1 : ¬cond0_1 i) (hc2 : ¬cond0_2 i) (hc3 : cond0_3 i) (hc4 : ¬cond0_4 i) (hc5 : ¬cond0_5 i) (hc6 : ¬cond0_6 i)
    (x0 : Vec F S1024x2048 .bf16) (x1 : Vec F S1x512x2048 .f32) (x2 : Vec F S1x512x2048 .f32) (x3 : Vec F S1x512 .f32) (x4 : Vec F S1x512 .f32) (x5 : Vec F S512x512 .bf16) (xs0 : Vec F S2048x512 .bf16) (y : S1024x512.Idx) :
    ∃ pc ∈ (kernelRun0_D c i arg2 harg2 arg3 harg3 arg4 harg4 arg5 harg5 arg6 harg6 arg7 harg7 arg8 harg8 arg9 harg9 hc0 hc1 hc2 hc3 hc4 hc5 hc6 x0 x1 x2 x3 x4 x5 xs0).1, y ∈ pc.1.set :=
  View.cover_of_tiledL (kernelRun0_D c i arg2 harg2 arg3 harg3 arg4 harg4 arg5 harg5 arg6 harg6 arg7 harg7 arg8 harg8 arg9 harg9 hc0 hc1 hc2 hc3 hc4 hc5 hc6 x0 x1 x2 x3 x4 x5 xs0).1 S256x512.size (by sl_kernel_rfl) y

/-- The output block that case D leaves. -/
def out0_D_6 (c : Dev nD) (i : grid0.Coords) (arg2 : Memref sig .tc .vmem S1024x2048 .bf16) (harg2 : arg2.IsWhole) (arg3 : Memref sig .tc .vmem S1x512x2048 .f32) (harg3 : arg3.IsWhole) (arg4 : Memref sig .tc .vmem S1x512x2048 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S1024x512 .f32) (harg8 : arg8.IsWhole) (arg9 : Memref sig .tc .vmem S2048x512 .bf16) (harg9 : arg9.IsWhole) (hc0 : ¬cond0_0 i) (hc1 : ¬cond0_1 i) (hc2 : ¬cond0_2 i) (hc3 : cond0_3 i) (hc4 : ¬cond0_4 i) (hc5 : ¬cond0_5 i) (hc6 : ¬cond0_6 i)
    (x0 : Vec F S1024x2048 .bf16) (x1 : Vec F S1x512x2048 .f32) (x2 : Vec F S1x512x2048 .f32) (x3 : Vec F S1x512 .f32) (x4 : Vec F S1x512 .f32) (x5 : Vec F S512x512 .bf16) (xs0 : Vec F S2048x512 .bf16) : Vec F S1024x512 .f32 :=
  VO0_6.read (Elt F) (VO0_6.writes (Elt F) VO0_6.junk (kernelRun0_D c i arg2 harg2 arg3 harg3 arg4 harg4 arg5 harg5 arg6 harg6 arg7 harg7 arg8 harg8 arg9 harg9 hc0 hc1 hc2 hc3 hc4 hc5 hc6 x0 x1 x2 x3 x4 x5 xs0).1)

/-- The weight scratch that case D leaves. -/
def sout0_D_0 (c : Dev nD) (i : grid0.Coords) (arg2 : Memref sig .tc .vmem S1024x2048 .bf16) (harg2 : arg2.IsWhole) (arg3 : Memref sig .tc .vmem S1x512x2048 .f32) (harg3 : arg3.IsWhole) (arg4 : Memref sig .tc .vmem S1x512x2048 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S1024x512 .f32) (harg8 : arg8.IsWhole) (arg9 : Memref sig .tc .vmem S2048x512 .bf16) (harg9 : arg9.IsWhole) (hc0 : ¬cond0_0 i) (hc1 : ¬cond0_1 i) (hc2 : ¬cond0_2 i) (hc3 : cond0_3 i) (hc4 : ¬cond0_4 i) (hc5 : ¬cond0_5 i) (hc6 : ¬cond0_6 i)
    (x0 : Vec F S1024x2048 .bf16) (x1 : Vec F S1x512x2048 .f32) (x2 : Vec F S1x512x2048 .f32) (x3 : Vec F S1x512 .f32) (x4 : Vec F S1x512 .f32) (x5 : Vec F S512x512 .bf16) (xs0 : Vec F S2048x512 .bf16) : Vec F S2048x512 .bf16 := xs0

/-- The stores of case E into the output block cover it. -/
theorem cover0_E_6 (c : Dev nD) (i : grid0.Coords) (arg2 : Memref sig .tc .vmem S1024x2048 .bf16) (harg2 : arg2.IsWhole) (arg3 : Memref sig .tc .vmem S1x512x2048 .f32) (harg3 : arg3.IsWhole) (arg4 : Memref sig .tc .vmem S1x512x2048 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S1024x512 .f32) (harg8 : arg8.IsWhole) (arg9 : Memref sig .tc .vmem S2048x512 .bf16) (harg9 : arg9.IsWhole) (hc0 : cond0_0 i) (hc1 : ¬cond0_1 i) (hc2 : ¬cond0_2 i) (hc3 : ¬cond0_3 i) (hc4 : cond0_4 i) (hc5 : ¬cond0_5 i) (hc6 : ¬cond0_6 i)
    (x0 : Vec F S1024x2048 .bf16) (x1 : Vec F S1x512x2048 .f32) (x2 : Vec F S1x512x2048 .f32) (x3 : Vec F S1x512 .f32) (x4 : Vec F S1x512 .f32) (x5 : Vec F S512x512 .bf16) (y : S1024x512.Idx) :
    ∃ pc ∈ (kernelRun0_E c i arg2 harg2 arg3 harg3 arg4 harg4 arg5 harg5 arg6 harg6 arg7 harg7 arg8 harg8 arg9 harg9 hc0 hc1 hc2 hc3 hc4 hc5 hc6 x0 x1 x2 x3 x4 x5).1, y ∈ pc.1.set :=
  View.cover_of_tiledL (kernelRun0_E c i arg2 harg2 arg3 harg3 arg4 harg4 arg5 harg5 arg6 harg6 arg7 harg7 arg8 harg8 arg9 harg9 hc0 hc1 hc2 hc3 hc4 hc5 hc6 x0 x1 x2 x3 x4 x5).1 S256x512.size (by sl_kernel_rfl) y

/-- The output block that case E leaves. -/
def out0_E_6 (c : Dev nD) (i : grid0.Coords) (arg2 : Memref sig .tc .vmem S1024x2048 .bf16) (harg2 : arg2.IsWhole) (arg3 : Memref sig .tc .vmem S1x512x2048 .f32) (harg3 : arg3.IsWhole) (arg4 : Memref sig .tc .vmem S1x512x2048 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S1024x512 .f32) (harg8 : arg8.IsWhole) (arg9 : Memref sig .tc .vmem S2048x512 .bf16) (harg9 : arg9.IsWhole) (hc0 : cond0_0 i) (hc1 : ¬cond0_1 i) (hc2 : ¬cond0_2 i) (hc3 : ¬cond0_3 i) (hc4 : cond0_4 i) (hc5 : ¬cond0_5 i) (hc6 : ¬cond0_6 i)
    (x0 : Vec F S1024x2048 .bf16) (x1 : Vec F S1x512x2048 .f32) (x2 : Vec F S1x512x2048 .f32) (x3 : Vec F S1x512 .f32) (x4 : Vec F S1x512 .f32) (x5 : Vec F S512x512 .bf16) : Vec F S1024x512 .f32 :=
  VO0_6.read (Elt F) (VO0_6.writes (Elt F) VO0_6.junk (kernelRun0_E c i arg2 harg2 arg3 harg3 arg4 harg4 arg5 harg5 arg6 harg6 arg7 harg7 arg8 harg8 arg9 harg9 hc0 hc1 hc2 hc3 hc4 hc5 hc6 x0 x1 x2 x3 x4 x5).1)

/-- The store of case E into the weight scratch covers it. -/
theorem scover0_E_0 (c : Dev nD) (i : grid0.Coords) (arg2 : Memref sig .tc .vmem S1024x2048 .bf16) (harg2 : arg2.IsWhole) (arg3 : Memref sig .tc .vmem S1x512x2048 .f32) (harg3 : arg3.IsWhole) (arg4 : Memref sig .tc .vmem S1x512x2048 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S1024x512 .f32) (harg8 : arg8.IsWhole) (arg9 : Memref sig .tc .vmem S2048x512 .bf16) (harg9 : arg9.IsWhole) (hc0 : cond0_0 i) (hc1 : ¬cond0_1 i) (hc2 : ¬cond0_2 i) (hc3 : ¬cond0_3 i) (hc4 : cond0_4 i) (hc5 : ¬cond0_5 i) (hc6 : ¬cond0_6 i)
    (x0 : Vec F S1024x2048 .bf16) (x1 : Vec F S1x512x2048 .f32) (x2 : Vec F S1x512x2048 .f32) (x3 : Vec F S1x512 .f32) (x4 : Vec F S1x512 .f32) (x5 : Vec F S512x512 .bf16) (y : S2048x512.Idx) :
    ∃ pc ∈ (kernelRun0_E c i arg2 harg2 arg3 harg3 arg4 harg4 arg5 harg5 arg6 harg6 arg7 harg7 arg8 harg8 arg9 harg9 hc0 hc1 hc2 hc3 hc4 hc5 hc6 x0 x1 x2 x3 x4 x5).2.1, y ∈ pc.1.set :=
  View.cover_of_tiledL (kernelRun0_E c i arg2 harg2 arg3 harg3 arg4 harg4 arg5 harg5 arg6 harg6 arg7 harg7 arg8 harg8 arg9 harg9 hc0 hc1 hc2 hc3 hc4 hc5 hc6 x0 x1 x2 x3 x4 x5).2.1 S2048x512.size (by sl_kernel_rfl) y

/-- The weight scratch that case E leaves. -/
def sout0_E_0 (c : Dev nD) (i : grid0.Coords) (arg2 : Memref sig .tc .vmem S1024x2048 .bf16) (harg2 : arg2.IsWhole) (arg3 : Memref sig .tc .vmem S1x512x2048 .f32) (harg3 : arg3.IsWhole) (arg4 : Memref sig .tc .vmem S1x512x2048 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S1024x512 .f32) (harg8 : arg8.IsWhole) (arg9 : Memref sig .tc .vmem S2048x512 .bf16) (harg9 : arg9.IsWhole) (hc0 : cond0_0 i) (hc1 : ¬cond0_1 i) (hc2 : ¬cond0_2 i) (hc3 : ¬cond0_3 i) (hc4 : cond0_4 i) (hc5 : ¬cond0_5 i) (hc6 : ¬cond0_6 i)
    (x0 : Vec F S1024x2048 .bf16) (x1 : Vec F S1x512x2048 .f32) (x2 : Vec F S1x512x2048 .f32) (x3 : Vec F S1x512 .f32) (x4 : Vec F S1x512 .f32) (x5 : Vec F S512x512 .bf16) : Vec F S2048x512 .bf16 :=
  VS0_0.read (Elt F) (VS0_0.writes (Elt F) VS0_0.junk (kernelRun0_E c i arg2 harg2 arg3 harg3 arg4 harg4 arg5 harg5 arg6 harg6 arg7 harg7 arg8 harg8 arg9 harg9 hc0 hc1 hc2 hc3 hc4 hc5 hc6 x0 x1 x2 x3 x4 x5).2.1)

/-- The stores of case F into the output block cover it. -/
theorem cover0_F_6 (c : Dev nD) (i : grid0.Coords) (arg2 : Memref sig .tc .vmem S1024x2048 .bf16) (harg2 : arg2.IsWhole) (arg3 : Memref sig .tc .vmem S1x512x2048 .f32) (harg3 : arg3.IsWhole) (arg4 : Memref sig .tc .vmem S1x512x2048 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S1024x512 .f32) (harg8 : arg8.IsWhole) (arg9 : Memref sig .tc .vmem S2048x512 .bf16) (harg9 : arg9.IsWhole) (hc0 : ¬cond0_0 i) (hc1 : ¬cond0_1 i) (hc2 : ¬cond0_2 i) (hc3 : ¬cond0_3 i) (hc4 : cond0_4 i) (hc5 : ¬cond0_5 i) (hc6 : ¬cond0_6 i)
    (x0 : Vec F S1024x2048 .bf16) (x1 : Vec F S1x512x2048 .f32) (x2 : Vec F S1x512x2048 .f32) (x3 : Vec F S1x512 .f32) (x4 : Vec F S1x512 .f32) (x5 : Vec F S512x512 .bf16) (xs0 : Vec F S2048x512 .bf16) (y : S1024x512.Idx) :
    ∃ pc ∈ (kernelRun0_F c i arg2 harg2 arg3 harg3 arg4 harg4 arg5 harg5 arg6 harg6 arg7 harg7 arg8 harg8 arg9 harg9 hc0 hc1 hc2 hc3 hc4 hc5 hc6 x0 x1 x2 x3 x4 x5 xs0).1, y ∈ pc.1.set :=
  View.cover_of_tiledL (kernelRun0_F c i arg2 harg2 arg3 harg3 arg4 harg4 arg5 harg5 arg6 harg6 arg7 harg7 arg8 harg8 arg9 harg9 hc0 hc1 hc2 hc3 hc4 hc5 hc6 x0 x1 x2 x3 x4 x5 xs0).1 S256x512.size (by sl_kernel_rfl) y

/-- The output block that case F leaves. -/
def out0_F_6 (c : Dev nD) (i : grid0.Coords) (arg2 : Memref sig .tc .vmem S1024x2048 .bf16) (harg2 : arg2.IsWhole) (arg3 : Memref sig .tc .vmem S1x512x2048 .f32) (harg3 : arg3.IsWhole) (arg4 : Memref sig .tc .vmem S1x512x2048 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S1024x512 .f32) (harg8 : arg8.IsWhole) (arg9 : Memref sig .tc .vmem S2048x512 .bf16) (harg9 : arg9.IsWhole) (hc0 : ¬cond0_0 i) (hc1 : ¬cond0_1 i) (hc2 : ¬cond0_2 i) (hc3 : ¬cond0_3 i) (hc4 : cond0_4 i) (hc5 : ¬cond0_5 i) (hc6 : ¬cond0_6 i)
    (x0 : Vec F S1024x2048 .bf16) (x1 : Vec F S1x512x2048 .f32) (x2 : Vec F S1x512x2048 .f32) (x3 : Vec F S1x512 .f32) (x4 : Vec F S1x512 .f32) (x5 : Vec F S512x512 .bf16) (xs0 : Vec F S2048x512 .bf16) : Vec F S1024x512 .f32 :=
  VO0_6.read (Elt F) (VO0_6.writes (Elt F) VO0_6.junk (kernelRun0_F c i arg2 harg2 arg3 harg3 arg4 harg4 arg5 harg5 arg6 harg6 arg7 harg7 arg8 harg8 arg9 harg9 hc0 hc1 hc2 hc3 hc4 hc5 hc6 x0 x1 x2 x3 x4 x5 xs0).1)

/-- The weight scratch that case F leaves. -/
def sout0_F_0 (c : Dev nD) (i : grid0.Coords) (arg2 : Memref sig .tc .vmem S1024x2048 .bf16) (harg2 : arg2.IsWhole) (arg3 : Memref sig .tc .vmem S1x512x2048 .f32) (harg3 : arg3.IsWhole) (arg4 : Memref sig .tc .vmem S1x512x2048 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S1024x512 .f32) (harg8 : arg8.IsWhole) (arg9 : Memref sig .tc .vmem S2048x512 .bf16) (harg9 : arg9.IsWhole) (hc0 : ¬cond0_0 i) (hc1 : ¬cond0_1 i) (hc2 : ¬cond0_2 i) (hc3 : ¬cond0_3 i) (hc4 : cond0_4 i) (hc5 : ¬cond0_5 i) (hc6 : ¬cond0_6 i)
    (x0 : Vec F S1024x2048 .bf16) (x1 : Vec F S1x512x2048 .f32) (x2 : Vec F S1x512x2048 .f32) (x3 : Vec F S1x512 .f32) (x4 : Vec F S1x512 .f32) (x5 : Vec F S512x512 .bf16) (xs0 : Vec F S2048x512 .bf16) : Vec F S2048x512 .bf16 := xs0

/-- The stores of case G into the output block cover it. -/
theorem cover0_G_6 (c : Dev nD) (i : grid0.Coords) (arg2 : Memref sig .tc .vmem S1024x2048 .bf16) (harg2 : arg2.IsWhole) (arg3 : Memref sig .tc .vmem S1x512x2048 .f32) (harg3 : arg3.IsWhole) (arg4 : Memref sig .tc .vmem S1x512x2048 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S1024x512 .f32) (harg8 : arg8.IsWhole) (arg9 : Memref sig .tc .vmem S2048x512 .bf16) (harg9 : arg9.IsWhole) (hc0 : cond0_0 i) (hc1 : ¬cond0_1 i) (hc2 : ¬cond0_2 i) (hc3 : ¬cond0_3 i) (hc4 : ¬cond0_4 i) (hc5 : cond0_5 i) (hc6 : ¬cond0_6 i)
    (x0 : Vec F S1024x2048 .bf16) (x1 : Vec F S1x512x2048 .f32) (x2 : Vec F S1x512x2048 .f32) (x3 : Vec F S1x512 .f32) (x4 : Vec F S1x512 .f32) (x5 : Vec F S512x512 .bf16) (y : S1024x512.Idx) :
    ∃ pc ∈ (kernelRun0_G c i arg2 harg2 arg3 harg3 arg4 harg4 arg5 harg5 arg6 harg6 arg7 harg7 arg8 harg8 arg9 harg9 hc0 hc1 hc2 hc3 hc4 hc5 hc6 x0 x1 x2 x3 x4 x5).1, y ∈ pc.1.set :=
  View.cover_of_tiledL (kernelRun0_G c i arg2 harg2 arg3 harg3 arg4 harg4 arg5 harg5 arg6 harg6 arg7 harg7 arg8 harg8 arg9 harg9 hc0 hc1 hc2 hc3 hc4 hc5 hc6 x0 x1 x2 x3 x4 x5).1 S256x512.size (by sl_kernel_rfl) y

/-- The output block that case G leaves. -/
def out0_G_6 (c : Dev nD) (i : grid0.Coords) (arg2 : Memref sig .tc .vmem S1024x2048 .bf16) (harg2 : arg2.IsWhole) (arg3 : Memref sig .tc .vmem S1x512x2048 .f32) (harg3 : arg3.IsWhole) (arg4 : Memref sig .tc .vmem S1x512x2048 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S1024x512 .f32) (harg8 : arg8.IsWhole) (arg9 : Memref sig .tc .vmem S2048x512 .bf16) (harg9 : arg9.IsWhole) (hc0 : cond0_0 i) (hc1 : ¬cond0_1 i) (hc2 : ¬cond0_2 i) (hc3 : ¬cond0_3 i) (hc4 : ¬cond0_4 i) (hc5 : cond0_5 i) (hc6 : ¬cond0_6 i)
    (x0 : Vec F S1024x2048 .bf16) (x1 : Vec F S1x512x2048 .f32) (x2 : Vec F S1x512x2048 .f32) (x3 : Vec F S1x512 .f32) (x4 : Vec F S1x512 .f32) (x5 : Vec F S512x512 .bf16) : Vec F S1024x512 .f32 :=
  VO0_6.read (Elt F) (VO0_6.writes (Elt F) VO0_6.junk (kernelRun0_G c i arg2 harg2 arg3 harg3 arg4 harg4 arg5 harg5 arg6 harg6 arg7 harg7 arg8 harg8 arg9 harg9 hc0 hc1 hc2 hc3 hc4 hc5 hc6 x0 x1 x2 x3 x4 x5).1)

/-- The store of case G into the weight scratch covers it. -/
theorem scover0_G_0 (c : Dev nD) (i : grid0.Coords) (arg2 : Memref sig .tc .vmem S1024x2048 .bf16) (harg2 : arg2.IsWhole) (arg3 : Memref sig .tc .vmem S1x512x2048 .f32) (harg3 : arg3.IsWhole) (arg4 : Memref sig .tc .vmem S1x512x2048 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S1024x512 .f32) (harg8 : arg8.IsWhole) (arg9 : Memref sig .tc .vmem S2048x512 .bf16) (harg9 : arg9.IsWhole) (hc0 : cond0_0 i) (hc1 : ¬cond0_1 i) (hc2 : ¬cond0_2 i) (hc3 : ¬cond0_3 i) (hc4 : ¬cond0_4 i) (hc5 : cond0_5 i) (hc6 : ¬cond0_6 i)
    (x0 : Vec F S1024x2048 .bf16) (x1 : Vec F S1x512x2048 .f32) (x2 : Vec F S1x512x2048 .f32) (x3 : Vec F S1x512 .f32) (x4 : Vec F S1x512 .f32) (x5 : Vec F S512x512 .bf16) (y : S2048x512.Idx) :
    ∃ pc ∈ (kernelRun0_G c i arg2 harg2 arg3 harg3 arg4 harg4 arg5 harg5 arg6 harg6 arg7 harg7 arg8 harg8 arg9 harg9 hc0 hc1 hc2 hc3 hc4 hc5 hc6 x0 x1 x2 x3 x4 x5).2.1, y ∈ pc.1.set :=
  View.cover_of_tiledL (kernelRun0_G c i arg2 harg2 arg3 harg3 arg4 harg4 arg5 harg5 arg6 harg6 arg7 harg7 arg8 harg8 arg9 harg9 hc0 hc1 hc2 hc3 hc4 hc5 hc6 x0 x1 x2 x3 x4 x5).2.1 S2048x512.size (by sl_kernel_rfl) y

/-- The weight scratch that case G leaves. -/
def sout0_G_0 (c : Dev nD) (i : grid0.Coords) (arg2 : Memref sig .tc .vmem S1024x2048 .bf16) (harg2 : arg2.IsWhole) (arg3 : Memref sig .tc .vmem S1x512x2048 .f32) (harg3 : arg3.IsWhole) (arg4 : Memref sig .tc .vmem S1x512x2048 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S1024x512 .f32) (harg8 : arg8.IsWhole) (arg9 : Memref sig .tc .vmem S2048x512 .bf16) (harg9 : arg9.IsWhole) (hc0 : cond0_0 i) (hc1 : ¬cond0_1 i) (hc2 : ¬cond0_2 i) (hc3 : ¬cond0_3 i) (hc4 : ¬cond0_4 i) (hc5 : cond0_5 i) (hc6 : ¬cond0_6 i)
    (x0 : Vec F S1024x2048 .bf16) (x1 : Vec F S1x512x2048 .f32) (x2 : Vec F S1x512x2048 .f32) (x3 : Vec F S1x512 .f32) (x4 : Vec F S1x512 .f32) (x5 : Vec F S512x512 .bf16) : Vec F S2048x512 .bf16 :=
  VS0_0.read (Elt F) (VS0_0.writes (Elt F) VS0_0.junk (kernelRun0_G c i arg2 harg2 arg3 harg3 arg4 harg4 arg5 harg5 arg6 harg6 arg7 harg7 arg8 harg8 arg9 harg9 hc0 hc1 hc2 hc3 hc4 hc5 hc6 x0 x1 x2 x3 x4 x5).2.1)

/-- The stores of case H into the output block cover it. -/
theorem cover0_H_6 (c : Dev nD) (i : grid0.Coords) (arg2 : Memref sig .tc .vmem S1024x2048 .bf16) (harg2 : arg2.IsWhole) (arg3 : Memref sig .tc .vmem S1x512x2048 .f32) (harg3 : arg3.IsWhole) (arg4 : Memref sig .tc .vmem S1x512x2048 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S1024x512 .f32) (harg8 : arg8.IsWhole) (arg9 : Memref sig .tc .vmem S2048x512 .bf16) (harg9 : arg9.IsWhole) (hc0 : ¬cond0_0 i) (hc1 : ¬cond0_1 i) (hc2 : ¬cond0_2 i) (hc3 : ¬cond0_3 i) (hc4 : ¬cond0_4 i) (hc5 : cond0_5 i) (hc6 : ¬cond0_6 i)
    (x0 : Vec F S1024x2048 .bf16) (x1 : Vec F S1x512x2048 .f32) (x2 : Vec F S1x512x2048 .f32) (x3 : Vec F S1x512 .f32) (x4 : Vec F S1x512 .f32) (x5 : Vec F S512x512 .bf16) (xs0 : Vec F S2048x512 .bf16) (y : S1024x512.Idx) :
    ∃ pc ∈ (kernelRun0_H c i arg2 harg2 arg3 harg3 arg4 harg4 arg5 harg5 arg6 harg6 arg7 harg7 arg8 harg8 arg9 harg9 hc0 hc1 hc2 hc3 hc4 hc5 hc6 x0 x1 x2 x3 x4 x5 xs0).1, y ∈ pc.1.set :=
  View.cover_of_tiledL (kernelRun0_H c i arg2 harg2 arg3 harg3 arg4 harg4 arg5 harg5 arg6 harg6 arg7 harg7 arg8 harg8 arg9 harg9 hc0 hc1 hc2 hc3 hc4 hc5 hc6 x0 x1 x2 x3 x4 x5 xs0).1 S256x512.size (by sl_kernel_rfl) y

/-- The output block that case H leaves. -/
def out0_H_6 (c : Dev nD) (i : grid0.Coords) (arg2 : Memref sig .tc .vmem S1024x2048 .bf16) (harg2 : arg2.IsWhole) (arg3 : Memref sig .tc .vmem S1x512x2048 .f32) (harg3 : arg3.IsWhole) (arg4 : Memref sig .tc .vmem S1x512x2048 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S1024x512 .f32) (harg8 : arg8.IsWhole) (arg9 : Memref sig .tc .vmem S2048x512 .bf16) (harg9 : arg9.IsWhole) (hc0 : ¬cond0_0 i) (hc1 : ¬cond0_1 i) (hc2 : ¬cond0_2 i) (hc3 : ¬cond0_3 i) (hc4 : ¬cond0_4 i) (hc5 : cond0_5 i) (hc6 : ¬cond0_6 i)
    (x0 : Vec F S1024x2048 .bf16) (x1 : Vec F S1x512x2048 .f32) (x2 : Vec F S1x512x2048 .f32) (x3 : Vec F S1x512 .f32) (x4 : Vec F S1x512 .f32) (x5 : Vec F S512x512 .bf16) (xs0 : Vec F S2048x512 .bf16) : Vec F S1024x512 .f32 :=
  VO0_6.read (Elt F) (VO0_6.writes (Elt F) VO0_6.junk (kernelRun0_H c i arg2 harg2 arg3 harg3 arg4 harg4 arg5 harg5 arg6 harg6 arg7 harg7 arg8 harg8 arg9 harg9 hc0 hc1 hc2 hc3 hc4 hc5 hc6 x0 x1 x2 x3 x4 x5 xs0).1)

/-- The weight scratch that case H leaves. -/
def sout0_H_0 (c : Dev nD) (i : grid0.Coords) (arg2 : Memref sig .tc .vmem S1024x2048 .bf16) (harg2 : arg2.IsWhole) (arg3 : Memref sig .tc .vmem S1x512x2048 .f32) (harg3 : arg3.IsWhole) (arg4 : Memref sig .tc .vmem S1x512x2048 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S1024x512 .f32) (harg8 : arg8.IsWhole) (arg9 : Memref sig .tc .vmem S2048x512 .bf16) (harg9 : arg9.IsWhole) (hc0 : ¬cond0_0 i) (hc1 : ¬cond0_1 i) (hc2 : ¬cond0_2 i) (hc3 : ¬cond0_3 i) (hc4 : ¬cond0_4 i) (hc5 : cond0_5 i) (hc6 : ¬cond0_6 i)
    (x0 : Vec F S1024x2048 .bf16) (x1 : Vec F S1x512x2048 .f32) (x2 : Vec F S1x512x2048 .f32) (x3 : Vec F S1x512 .f32) (x4 : Vec F S1x512 .f32) (x5 : Vec F S512x512 .bf16) (xs0 : Vec F S2048x512 .bf16) : Vec F S2048x512 .bf16 := xs0

/-- The stores of case I into the output block cover it. -/
theorem cover0_I_6 (c : Dev nD) (i : grid0.Coords) (arg2 : Memref sig .tc .vmem S1024x2048 .bf16) (harg2 : arg2.IsWhole) (arg3 : Memref sig .tc .vmem S1x512x2048 .f32) (harg3 : arg3.IsWhole) (arg4 : Memref sig .tc .vmem S1x512x2048 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S1024x512 .f32) (harg8 : arg8.IsWhole) (arg9 : Memref sig .tc .vmem S2048x512 .bf16) (harg9 : arg9.IsWhole) (hc0 : ¬cond0_0 i) (hc1 : cond0_1 i) (hc2 : ¬cond0_2 i) (hc3 : ¬cond0_3 i) (hc4 : ¬cond0_4 i) (hc5 : ¬cond0_5 i) (hc6 : cond0_6 i)
    (x0 : Vec F S1024x2048 .bf16) (x1 : Vec F S1x512x2048 .f32) (x2 : Vec F S1x512x2048 .f32) (x3 : Vec F S1x512 .f32) (x4 : Vec F S1x512 .f32) (x5 : Vec F S512x512 .bf16) (y : S1024x512.Idx) :
    ∃ pc ∈ (kernelRun0_I c i arg2 harg2 arg3 harg3 arg4 harg4 arg5 harg5 arg6 harg6 arg7 harg7 arg8 harg8 arg9 harg9 hc0 hc1 hc2 hc3 hc4 hc5 hc6 x0 x1 x2 x3 x4 x5).1, y ∈ pc.1.set :=
  View.cover_of_tiledL (kernelRun0_I c i arg2 harg2 arg3 harg3 arg4 harg4 arg5 harg5 arg6 harg6 arg7 harg7 arg8 harg8 arg9 harg9 hc0 hc1 hc2 hc3 hc4 hc5 hc6 x0 x1 x2 x3 x4 x5).1 S256x512.size (by sl_kernel_rfl) y

/-- The output block that case I leaves. -/
def out0_I_6 (c : Dev nD) (i : grid0.Coords) (arg2 : Memref sig .tc .vmem S1024x2048 .bf16) (harg2 : arg2.IsWhole) (arg3 : Memref sig .tc .vmem S1x512x2048 .f32) (harg3 : arg3.IsWhole) (arg4 : Memref sig .tc .vmem S1x512x2048 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S1024x512 .f32) (harg8 : arg8.IsWhole) (arg9 : Memref sig .tc .vmem S2048x512 .bf16) (harg9 : arg9.IsWhole) (hc0 : ¬cond0_0 i) (hc1 : cond0_1 i) (hc2 : ¬cond0_2 i) (hc3 : ¬cond0_3 i) (hc4 : ¬cond0_4 i) (hc5 : ¬cond0_5 i) (hc6 : cond0_6 i)
    (x0 : Vec F S1024x2048 .bf16) (x1 : Vec F S1x512x2048 .f32) (x2 : Vec F S1x512x2048 .f32) (x3 : Vec F S1x512 .f32) (x4 : Vec F S1x512 .f32) (x5 : Vec F S512x512 .bf16) : Vec F S1024x512 .f32 :=
  VO0_6.read (Elt F) (VO0_6.writes (Elt F) VO0_6.junk (kernelRun0_I c i arg2 harg2 arg3 harg3 arg4 harg4 arg5 harg5 arg6 harg6 arg7 harg7 arg8 harg8 arg9 harg9 hc0 hc1 hc2 hc3 hc4 hc5 hc6 x0 x1 x2 x3 x4 x5).1)

/-- The store of case I into the weight scratch covers it. -/
theorem scover0_I_0 (c : Dev nD) (i : grid0.Coords) (arg2 : Memref sig .tc .vmem S1024x2048 .bf16) (harg2 : arg2.IsWhole) (arg3 : Memref sig .tc .vmem S1x512x2048 .f32) (harg3 : arg3.IsWhole) (arg4 : Memref sig .tc .vmem S1x512x2048 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S1024x512 .f32) (harg8 : arg8.IsWhole) (arg9 : Memref sig .tc .vmem S2048x512 .bf16) (harg9 : arg9.IsWhole) (hc0 : ¬cond0_0 i) (hc1 : cond0_1 i) (hc2 : ¬cond0_2 i) (hc3 : ¬cond0_3 i) (hc4 : ¬cond0_4 i) (hc5 : ¬cond0_5 i) (hc6 : cond0_6 i)
    (x0 : Vec F S1024x2048 .bf16) (x1 : Vec F S1x512x2048 .f32) (x2 : Vec F S1x512x2048 .f32) (x3 : Vec F S1x512 .f32) (x4 : Vec F S1x512 .f32) (x5 : Vec F S512x512 .bf16) (y : S2048x512.Idx) :
    ∃ pc ∈ (kernelRun0_I c i arg2 harg2 arg3 harg3 arg4 harg4 arg5 harg5 arg6 harg6 arg7 harg7 arg8 harg8 arg9 harg9 hc0 hc1 hc2 hc3 hc4 hc5 hc6 x0 x1 x2 x3 x4 x5).2.1, y ∈ pc.1.set :=
  View.cover_of_tiledL (kernelRun0_I c i arg2 harg2 arg3 harg3 arg4 harg4 arg5 harg5 arg6 harg6 arg7 harg7 arg8 harg8 arg9 harg9 hc0 hc1 hc2 hc3 hc4 hc5 hc6 x0 x1 x2 x3 x4 x5).2.1 S2048x512.size (by sl_kernel_rfl) y

/-- The weight scratch that case I leaves. -/
def sout0_I_0 (c : Dev nD) (i : grid0.Coords) (arg2 : Memref sig .tc .vmem S1024x2048 .bf16) (harg2 : arg2.IsWhole) (arg3 : Memref sig .tc .vmem S1x512x2048 .f32) (harg3 : arg3.IsWhole) (arg4 : Memref sig .tc .vmem S1x512x2048 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S1024x512 .f32) (harg8 : arg8.IsWhole) (arg9 : Memref sig .tc .vmem S2048x512 .bf16) (harg9 : arg9.IsWhole) (hc0 : ¬cond0_0 i) (hc1 : cond0_1 i) (hc2 : ¬cond0_2 i) (hc3 : ¬cond0_3 i) (hc4 : ¬cond0_4 i) (hc5 : ¬cond0_5 i) (hc6 : cond0_6 i)
    (x0 : Vec F S1024x2048 .bf16) (x1 : Vec F S1x512x2048 .f32) (x2 : Vec F S1x512x2048 .f32) (x3 : Vec F S1x512 .f32) (x4 : Vec F S1x512 .f32) (x5 : Vec F S512x512 .bf16) : Vec F S2048x512 .bf16 :=
  VS0_0.read (Elt F) (VS0_0.writes (Elt F) VS0_0.junk (kernelRun0_I c i arg2 harg2 arg3 harg3 arg4 harg4 arg5 harg5 arg6 harg6 arg7 harg7 arg8 harg8 arg9 harg9 hc0 hc1 hc2 hc3 hc4 hc5 hc6 x0 x1 x2 x3 x4 x5).2.1)

/-- The stores of case J into the output block cover it. -/
theorem cover0_J_6 (c : Dev nD) (i : grid0.Coords) (arg2 : Memref sig .tc .vmem S1024x2048 .bf16) (harg2 : arg2.IsWhole) (arg3 : Memref sig .tc .vmem S1x512x2048 .f32) (harg3 : arg3.IsWhole) (arg4 : Memref sig .tc .vmem S1x512x2048 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S1024x512 .f32) (harg8 : arg8.IsWhole) (arg9 : Memref sig .tc .vmem S2048x512 .bf16) (harg9 : arg9.IsWhole) (hc0 : ¬cond0_0 i) (hc1 : ¬cond0_1 i) (hc2 : ¬cond0_2 i) (hc3 : ¬cond0_3 i) (hc4 : ¬cond0_4 i) (hc5 : ¬cond0_5 i) (hc6 : cond0_6 i)
    (x0 : Vec F S1024x2048 .bf16) (x1 : Vec F S1x512x2048 .f32) (x2 : Vec F S1x512x2048 .f32) (x3 : Vec F S1x512 .f32) (x4 : Vec F S1x512 .f32) (x5 : Vec F S512x512 .bf16) (xs0 : Vec F S2048x512 .bf16) (y : S1024x512.Idx) :
    ∃ pc ∈ (kernelRun0_J c i arg2 harg2 arg3 harg3 arg4 harg4 arg5 harg5 arg6 harg6 arg7 harg7 arg8 harg8 arg9 harg9 hc0 hc1 hc2 hc3 hc4 hc5 hc6 x0 x1 x2 x3 x4 x5 xs0).1, y ∈ pc.1.set :=
  View.cover_of_tiledL (kernelRun0_J c i arg2 harg2 arg3 harg3 arg4 harg4 arg5 harg5 arg6 harg6 arg7 harg7 arg8 harg8 arg9 harg9 hc0 hc1 hc2 hc3 hc4 hc5 hc6 x0 x1 x2 x3 x4 x5 xs0).1 S256x512.size (by sl_kernel_rfl) y

/-- The output block that case J leaves. -/
def out0_J_6 (c : Dev nD) (i : grid0.Coords) (arg2 : Memref sig .tc .vmem S1024x2048 .bf16) (harg2 : arg2.IsWhole) (arg3 : Memref sig .tc .vmem S1x512x2048 .f32) (harg3 : arg3.IsWhole) (arg4 : Memref sig .tc .vmem S1x512x2048 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S1024x512 .f32) (harg8 : arg8.IsWhole) (arg9 : Memref sig .tc .vmem S2048x512 .bf16) (harg9 : arg9.IsWhole) (hc0 : ¬cond0_0 i) (hc1 : ¬cond0_1 i) (hc2 : ¬cond0_2 i) (hc3 : ¬cond0_3 i) (hc4 : ¬cond0_4 i) (hc5 : ¬cond0_5 i) (hc6 : cond0_6 i)
    (x0 : Vec F S1024x2048 .bf16) (x1 : Vec F S1x512x2048 .f32) (x2 : Vec F S1x512x2048 .f32) (x3 : Vec F S1x512 .f32) (x4 : Vec F S1x512 .f32) (x5 : Vec F S512x512 .bf16) (xs0 : Vec F S2048x512 .bf16) : Vec F S1024x512 .f32 :=
  VO0_6.read (Elt F) (VO0_6.writes (Elt F) VO0_6.junk (kernelRun0_J c i arg2 harg2 arg3 harg3 arg4 harg4 arg5 harg5 arg6 harg6 arg7 harg7 arg8 harg8 arg9 harg9 hc0 hc1 hc2 hc3 hc4 hc5 hc6 x0 x1 x2 x3 x4 x5 xs0).1)

/-- The weight scratch that case J leaves. -/
def sout0_J_0 (c : Dev nD) (i : grid0.Coords) (arg2 : Memref sig .tc .vmem S1024x2048 .bf16) (harg2 : arg2.IsWhole) (arg3 : Memref sig .tc .vmem S1x512x2048 .f32) (harg3 : arg3.IsWhole) (arg4 : Memref sig .tc .vmem S1x512x2048 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S1024x512 .f32) (harg8 : arg8.IsWhole) (arg9 : Memref sig .tc .vmem S2048x512 .bf16) (harg9 : arg9.IsWhole) (hc0 : ¬cond0_0 i) (hc1 : ¬cond0_1 i) (hc2 : ¬cond0_2 i) (hc3 : ¬cond0_3 i) (hc4 : ¬cond0_4 i) (hc5 : ¬cond0_5 i) (hc6 : cond0_6 i)
    (x0 : Vec F S1024x2048 .bf16) (x1 : Vec F S1x512x2048 .f32) (x2 : Vec F S1x512x2048 .f32) (x3 : Vec F S1x512 .f32) (x4 : Vec F S1x512 .f32) (x5 : Vec F S512x512 .bf16) (xs0 : Vec F S2048x512 .bf16) : Vec F S2048x512 .bf16 := xs0

/-- What a grid point of case A leaves, over what the scratch held before. -/
def caseA (c : Dev nD) (t : Fin cfg0.N) (xs : Vec F S2048x512 .bf16) (h0 : t.val / 8 % 18 + 9 * (t.val % 8) ≤ 8) (h1 : ¬9 * (t.val % 8) + 9 ≤ t.val / 8 % 18) (h2 : t.val < 32) (h3 : ¬(4 ≤ t.val / 8 % 18 ∧ t.val / 8 % 18 ≤ 5)) (h4 : ¬t.val / 8 % 18 = 6) (h5 : ¬(7 ≤ t.val / 8 % 18 ∧ t.val / 8 % 18 ≤ 8)) (h6 : ¬72 ≤ t.val) : Vec F S1024x512 .f32 × Vec F S2048x512 .bf16 :=
  (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) ((hcond0_2 t).mpr h2) (fun h => h3 ((hcond0_3 t).mp h)) (fun h => h4 ((hcond0_4 t).mp h)) (fun h => h5 ((hcond0_5 t).mp h)) (fun h => h6 ((hcond0_6 t).mp h)) (iblk m c 0 t) (X0_1 m c t) (iblk m c 2 t) (iblk m c 3 t) (iblk m c 4 t) (iblk m c 5 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) ((hcond0_2 t).mpr h2) (fun h => h3 ((hcond0_3 t).mp h)) (fun h => h4 ((hcond0_4 t).mp h)) (fun h => h5 ((hcond0_5 t).mp h)) (fun h => h6 ((hcond0_6 t).mp h)) (iblk m c 0 t) (X0_1 m c t) (iblk m c 2 t) (iblk m c 3 t) (iblk m c 4 t) (iblk m c 5 t))

/-- What a grid point of case B leaves, over what the scratch held before. -/
def caseB (c : Dev nD) (t : Fin cfg0.N) (xs : Vec F S2048x512 .bf16) (h0 : ¬t.val / 8 % 18 + 9 * (t.val % 8) ≤ 8) (h1 : ¬9 * (t.val % 8) + 9 ≤ t.val / 8 % 18) (h2 : t.val < 32) (h3 : ¬(4 ≤ t.val / 8 % 18 ∧ t.val / 8 % 18 ≤ 5)) (h4 : ¬t.val / 8 % 18 = 6) (h5 : ¬(7 ≤ t.val / 8 % 18 ∧ t.val / 8 % 18 ≤ 8)) (h6 : ¬72 ≤ t.val) : Vec F S1024x512 .f32 × Vec F S2048x512 .bf16 :=
  (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) ((hcond0_2 t).mpr h2) (fun h => h3 ((hcond0_3 t).mp h)) (fun h => h4 ((hcond0_4 t).mp h)) (fun h => h5 ((hcond0_5 t).mp h)) (fun h => h6 ((hcond0_6 t).mp h)) (iblk m c 0 t) (X0_1 m c t) (iblk m c 2 t) (iblk m c 3 t) (iblk m c 4 t) (iblk m c 5 t) xs, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) ((hcond0_2 t).mpr h2) (fun h => h3 ((hcond0_3 t).mp h)) (fun h => h4 ((hcond0_4 t).mp h)) (fun h => h5 ((hcond0_5 t).mp h)) (fun h => h6 ((hcond0_6 t).mp h)) (iblk m c 0 t) (X0_1 m c t) (iblk m c 2 t) (iblk m c 3 t) (iblk m c 4 t) (iblk m c 5 t) xs)

/-- What a grid point of case C leaves, over what the scratch held before. -/
def caseC (c : Dev nD) (t : Fin cfg0.N) (xs : Vec F S2048x512 .bf16) (h0 : t.val / 8 % 18 + 9 * (t.val % 8) ≤ 8) (h1 : ¬9 * (t.val % 8) + 9 ≤ t.val / 8 % 18) (h2 : ¬t.val < 32) (h3 : (4 ≤ t.val / 8 % 18 ∧ t.val / 8 % 18 ≤ 5)) (h4 : ¬t.val / 8 % 18 = 6) (h5 : ¬(7 ≤ t.val / 8 % 18 ∧ t.val / 8 % 18 ≤ 8)) (h6 : ¬72 ≤ t.val) : Vec F S1024x512 .f32 × Vec F S2048x512 .bf16 :=
  (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (fun h => h2 ((hcond0_2 t).mp h)) ((hcond0_3 t).mpr h3) (fun h => h4 ((hcond0_4 t).mp h)) (fun h => h5 ((hcond0_5 t).mp h)) (fun h => h6 ((hcond0_6 t).mp h)) (iblk m c 0 t) (X0_1 m c t) (iblk m c 2 t) (iblk m c 3 t) (iblk m c 4 t) (iblk m c 5 t), sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (fun h => h2 ((hcond0_2 t).mp h)) ((hcond0_3 t).mpr h3) (fun h => h4 ((hcond0_4 t).mp h)) (fun h => h5 ((hcond0_5 t).mp h)) (fun h => h6 ((hcond0_6 t).mp h)) (iblk m c 0 t) (X0_1 m c t) (iblk m c 2 t) (iblk m c 3 t) (iblk m c 4 t) (iblk m c 5 t))

/-- What a grid point of case D leaves, over what the scratch held before. -/
def caseD (c : Dev nD) (t : Fin cfg0.N) (xs : Vec F S2048x512 .bf16) (h0 : ¬t.val / 8 % 18 + 9 * (t.val % 8) ≤ 8) (h1 : ¬9 * (t.val % 8) + 9 ≤ t.val / 8 % 18) (h2 : ¬t.val < 32) (h3 : (4 ≤ t.val / 8 % 18 ∧ t.val / 8 % 18 ≤ 5)) (h4 : ¬t.val / 8 % 18 = 6) (h5 : ¬(7 ≤ t.val / 8 % 18 ∧ t.val / 8 % 18 ≤ 8)) (h6 : ¬72 ≤ t.val) : Vec F S1024x512 .f32 × Vec F S2048x512 .bf16 :=
  (out0_D_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (fun h => h2 ((hcond0_2 t).mp h)) ((hcond0_3 t).mpr h3) (fun h => h4 ((hcond0_4 t).mp h)) (fun h => h5 ((hcond0_5 t).mp h)) (fun h => h6 ((hcond0_6 t).mp h)) (iblk m c 0 t) (X0_1 m c t) (iblk m c 2 t) (iblk m c 3 t) (iblk m c 4 t) (iblk m c 5 t) xs, sout0_D_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (fun h => h2 ((hcond0_2 t).mp h)) ((hcond0_3 t).mpr h3) (fun h => h4 ((hcond0_4 t).mp h)) (fun h => h5 ((hcond0_5 t).mp h)) (fun h => h6 ((hcond0_6 t).mp h)) (iblk m c 0 t) (X0_1 m c t) (iblk m c 2 t) (iblk m c 3 t) (iblk m c 4 t) (iblk m c 5 t) xs)

/-- What a grid point of case E leaves, over what the scratch held before. -/
def caseE (c : Dev nD) (t : Fin cfg0.N) (xs : Vec F S2048x512 .bf16) (h0 : t.val / 8 % 18 + 9 * (t.val % 8) ≤ 8) (h1 : ¬9 * (t.val % 8) + 9 ≤ t.val / 8 % 18) (h2 : ¬t.val < 32) (h3 : ¬(4 ≤ t.val / 8 % 18 ∧ t.val / 8 % 18 ≤ 5)) (h4 : t.val / 8 % 18 = 6) (h5 : ¬(7 ≤ t.val / 8 % 18 ∧ t.val / 8 % 18 ≤ 8)) (h6 : ¬72 ≤ t.val) : Vec F S1024x512 .f32 × Vec F S2048x512 .bf16 :=
  (out0_E_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (fun h => h2 ((hcond0_2 t).mp h)) (fun h => h3 ((hcond0_3 t).mp h)) ((hcond0_4 t).mpr h4) (fun h => h5 ((hcond0_5 t).mp h)) (fun h => h6 ((hcond0_6 t).mp h)) (iblk m c 0 t) (X0_1 m c t) (iblk m c 2 t) (iblk m c 3 t) (iblk m c 4 t) (iblk m c 5 t), sout0_E_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (fun h => h2 ((hcond0_2 t).mp h)) (fun h => h3 ((hcond0_3 t).mp h)) ((hcond0_4 t).mpr h4) (fun h => h5 ((hcond0_5 t).mp h)) (fun h => h6 ((hcond0_6 t).mp h)) (iblk m c 0 t) (X0_1 m c t) (iblk m c 2 t) (iblk m c 3 t) (iblk m c 4 t) (iblk m c 5 t))

/-- What a grid point of case F leaves, over what the scratch held before. -/
def caseF (c : Dev nD) (t : Fin cfg0.N) (xs : Vec F S2048x512 .bf16) (h0 : ¬t.val / 8 % 18 + 9 * (t.val % 8) ≤ 8) (h1 : ¬9 * (t.val % 8) + 9 ≤ t.val / 8 % 18) (h2 : ¬t.val < 32) (h3 : ¬(4 ≤ t.val / 8 % 18 ∧ t.val / 8 % 18 ≤ 5)) (h4 : t.val / 8 % 18 = 6) (h5 : ¬(7 ≤ t.val / 8 % 18 ∧ t.val / 8 % 18 ≤ 8)) (h6 : ¬72 ≤ t.val) : Vec F S1024x512 .f32 × Vec F S2048x512 .bf16 :=
  (out0_F_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (fun h => h2 ((hcond0_2 t).mp h)) (fun h => h3 ((hcond0_3 t).mp h)) ((hcond0_4 t).mpr h4) (fun h => h5 ((hcond0_5 t).mp h)) (fun h => h6 ((hcond0_6 t).mp h)) (iblk m c 0 t) (X0_1 m c t) (iblk m c 2 t) (iblk m c 3 t) (iblk m c 4 t) (iblk m c 5 t) xs, sout0_F_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (fun h => h2 ((hcond0_2 t).mp h)) (fun h => h3 ((hcond0_3 t).mp h)) ((hcond0_4 t).mpr h4) (fun h => h5 ((hcond0_5 t).mp h)) (fun h => h6 ((hcond0_6 t).mp h)) (iblk m c 0 t) (X0_1 m c t) (iblk m c 2 t) (iblk m c 3 t) (iblk m c 4 t) (iblk m c 5 t) xs)

/-- What a grid point of case G leaves, over what the scratch held before. -/
def caseG (c : Dev nD) (t : Fin cfg0.N) (xs : Vec F S2048x512 .bf16) (h0 : t.val / 8 % 18 + 9 * (t.val % 8) ≤ 8) (h1 : ¬9 * (t.val % 8) + 9 ≤ t.val / 8 % 18) (h2 : ¬t.val < 32) (h3 : ¬(4 ≤ t.val / 8 % 18 ∧ t.val / 8 % 18 ≤ 5)) (h4 : ¬t.val / 8 % 18 = 6) (h5 : (7 ≤ t.val / 8 % 18 ∧ t.val / 8 % 18 ≤ 8)) (h6 : ¬72 ≤ t.val) : Vec F S1024x512 .f32 × Vec F S2048x512 .bf16 :=
  (out0_G_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (fun h => h2 ((hcond0_2 t).mp h)) (fun h => h3 ((hcond0_3 t).mp h)) (fun h => h4 ((hcond0_4 t).mp h)) ((hcond0_5 t).mpr h5) (fun h => h6 ((hcond0_6 t).mp h)) (iblk m c 0 t) (X0_1 m c t) (iblk m c 2 t) (iblk m c 3 t) (iblk m c 4 t) (iblk m c 5 t), sout0_G_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (fun h => h2 ((hcond0_2 t).mp h)) (fun h => h3 ((hcond0_3 t).mp h)) (fun h => h4 ((hcond0_4 t).mp h)) ((hcond0_5 t).mpr h5) (fun h => h6 ((hcond0_6 t).mp h)) (iblk m c 0 t) (X0_1 m c t) (iblk m c 2 t) (iblk m c 3 t) (iblk m c 4 t) (iblk m c 5 t))

/-- What a grid point of case H leaves, over what the scratch held before. -/
def caseH (c : Dev nD) (t : Fin cfg0.N) (xs : Vec F S2048x512 .bf16) (h0 : ¬t.val / 8 % 18 + 9 * (t.val % 8) ≤ 8) (h1 : ¬9 * (t.val % 8) + 9 ≤ t.val / 8 % 18) (h2 : ¬t.val < 32) (h3 : ¬(4 ≤ t.val / 8 % 18 ∧ t.val / 8 % 18 ≤ 5)) (h4 : ¬t.val / 8 % 18 = 6) (h5 : (7 ≤ t.val / 8 % 18 ∧ t.val / 8 % 18 ≤ 8)) (h6 : ¬72 ≤ t.val) : Vec F S1024x512 .f32 × Vec F S2048x512 .bf16 :=
  (out0_H_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (fun h => h2 ((hcond0_2 t).mp h)) (fun h => h3 ((hcond0_3 t).mp h)) (fun h => h4 ((hcond0_4 t).mp h)) ((hcond0_5 t).mpr h5) (fun h => h6 ((hcond0_6 t).mp h)) (iblk m c 0 t) (X0_1 m c t) (iblk m c 2 t) (iblk m c 3 t) (iblk m c 4 t) (iblk m c 5 t) xs, sout0_H_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (fun h => h2 ((hcond0_2 t).mp h)) (fun h => h3 ((hcond0_3 t).mp h)) (fun h => h4 ((hcond0_4 t).mp h)) ((hcond0_5 t).mpr h5) (fun h => h6 ((hcond0_6 t).mp h)) (iblk m c 0 t) (X0_1 m c t) (iblk m c 2 t) (iblk m c 3 t) (iblk m c 4 t) (iblk m c 5 t) xs)

/-- What a grid point of case I leaves, over what the scratch held before. -/
def caseI (c : Dev nD) (t : Fin cfg0.N) (xs : Vec F S2048x512 .bf16) (h0 : ¬t.val / 8 % 18 + 9 * (t.val % 8) ≤ 8) (h1 : 9 * (t.val % 8) + 9 ≤ t.val / 8 % 18) (h2 : ¬t.val < 32) (h3 : ¬(4 ≤ t.val / 8 % 18 ∧ t.val / 8 % 18 ≤ 5)) (h4 : ¬t.val / 8 % 18 = 6) (h5 : ¬(7 ≤ t.val / 8 % 18 ∧ t.val / 8 % 18 ≤ 8)) (h6 : 72 ≤ t.val) : Vec F S1024x512 .f32 × Vec F S2048x512 .bf16 :=
  (out0_I_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (fun h => h2 ((hcond0_2 t).mp h)) (fun h => h3 ((hcond0_3 t).mp h)) (fun h => h4 ((hcond0_4 t).mp h)) (fun h => h5 ((hcond0_5 t).mp h)) ((hcond0_6 t).mpr h6) (iblk m c 0 t) (X0_1 m c t) (iblk m c 2 t) (iblk m c 3 t) (iblk m c 4 t) (iblk m c 5 t), sout0_I_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (fun h => h2 ((hcond0_2 t).mp h)) (fun h => h3 ((hcond0_3 t).mp h)) (fun h => h4 ((hcond0_4 t).mp h)) (fun h => h5 ((hcond0_5 t).mp h)) ((hcond0_6 t).mpr h6) (iblk m c 0 t) (X0_1 m c t) (iblk m c 2 t) (iblk m c 3 t) (iblk m c 4 t) (iblk m c 5 t))

/-- What a grid point of case J leaves, over what the scratch held before. -/
def caseJ (c : Dev nD) (t : Fin cfg0.N) (xs : Vec F S2048x512 .bf16) (h0 : ¬t.val / 8 % 18 + 9 * (t.val % 8) ≤ 8) (h1 : ¬9 * (t.val % 8) + 9 ≤ t.val / 8 % 18) (h2 : ¬t.val < 32) (h3 : ¬(4 ≤ t.val / 8 % 18 ∧ t.val / 8 % 18 ≤ 5)) (h4 : ¬t.val / 8 % 18 = 6) (h5 : ¬(7 ≤ t.val / 8 % 18 ∧ t.val / 8 % 18 ≤ 8)) (h6 : 72 ≤ t.val) : Vec F S1024x512 .f32 × Vec F S2048x512 .bf16 :=
  (out0_J_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (fun h => h2 ((hcond0_2 t).mp h)) (fun h => h3 ((hcond0_3 t).mp h)) (fun h => h4 ((hcond0_4 t).mp h)) (fun h => h5 ((hcond0_5 t).mp h)) ((hcond0_6 t).mpr h6) (iblk m c 0 t) (X0_1 m c t) (iblk m c 2 t) (iblk m c 3 t) (iblk m c 4 t) (iblk m c 5 t) xs, sout0_J_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (fun h => h2 ((hcond0_2 t).mp h)) (fun h => h3 ((hcond0_3 t).mp h)) (fun h => h4 ((hcond0_4 t).mp h)) (fun h => h5 ((hcond0_5 t).mp h)) ((hcond0_6 t).mpr h6) (iblk m c 0 t) (X0_1 m c t) (iblk m c 2 t) (iblk m c 3 t) (iblk m c 4 t) (iblk m c 5 t) xs)

/-- What a grid point leaves, over what the scratch held before. -/
def step (c : Dev nD) (t : Fin cfg0.N) (xs : Vec F S2048x512 .bf16) : Vec F S1024x512 .f32 × Vec F S2048x512 .bf16 :=
    if h0 : t.val / 8 % 18 + 9 * (t.val % 8) ≤ 8 then
      if h1 : 9 * (t.val % 8) + 9 ≤ t.val / 8 % 18 then
        False.elim (by have hq := q18 t.isLt; omega)
      else
        if h2 : t.val < 32 then
          if h3 : (4 ≤ t.val / 8 % 18 ∧ t.val / 8 % 18 ≤ 5) then
            False.elim (by have hq := q18 t.isLt; omega)
          else
            if h4 : t.val / 8 % 18 = 6 then
              False.elim (by have hq := q18 t.isLt; omega)
            else
              if h5 : (7 ≤ t.val / 8 % 18 ∧ t.val / 8 % 18 ≤ 8) then
                False.elim (by have hq := q18 t.isLt; omega)
              else
                if h6 : 72 ≤ t.val then
                  False.elim (by have hq := q18 t.isLt; omega)
                else
                  caseA m c t xs h0 h1 h2 h3 h4 h5 h6
        else
          if h3 : (4 ≤ t.val / 8 % 18 ∧ t.val / 8 % 18 ≤ 5) then
            if h4 : t.val / 8 % 18 = 6 then
              False.elim (by have hq := q18 t.isLt; omega)
            else
              if h5 : (7 ≤ t.val / 8 % 18 ∧ t.val / 8 % 18 ≤ 8) then
                False.elim (by have hq := q18 t.isLt; omega)
              else
                if h6 : 72 ≤ t.val then
                  False.elim (by have hq := q18 t.isLt; omega)
                else
                  caseC m c t xs h0 h1 h2 h3 h4 h5 h6
          else
            if h4 : t.val / 8 % 18 = 6 then
              if h5 : (7 ≤ t.val / 8 % 18 ∧ t.val / 8 % 18 ≤ 8) then
                False.elim (by have hq := q18 t.isLt; omega)
              else
                if h6 : 72 ≤ t.val then
                  False.elim (by have hq := q18 t.isLt; omega)
                else
                  caseE m c t xs h0 h1 h2 h3 h4 h5 h6
            else
              if h5 : (7 ≤ t.val / 8 % 18 ∧ t.val / 8 % 18 ≤ 8) then
                if h6 : 72 ≤ t.val then
                  False.elim (by have hq := q18 t.isLt; omega)
                else
                  caseG m c t xs h0 h1 h2 h3 h4 h5 h6
              else
                False.elim (by have hq := q18 t.isLt; omega)
    else
      if h1 : 9 * (t.val % 8) + 9 ≤ t.val / 8 % 18 then
        if h2 : t.val < 32 then
          False.elim (by have hq := q18 t.isLt; omega)
        else
          if h3 : (4 ≤ t.val / 8 % 18 ∧ t.val / 8 % 18 ≤ 5) then
            False.elim (by have hq := q18 t.isLt; omega)
          else
            if h4 : t.val / 8 % 18 = 6 then
              False.elim (by have hq := q18 t.isLt; omega)
            else
              if h5 : (7 ≤ t.val / 8 % 18 ∧ t.val / 8 % 18 ≤ 8) then
                False.elim (by have hq := q18 t.isLt; omega)
              else
                if h6 : 72 ≤ t.val then
                  caseI m c t xs h0 h1 h2 h3 h4 h5 h6
                else
                  False.elim (by have hq := q18 t.isLt; omega)
      else
        if h2 : t.val < 32 then
          if h3 : (4 ≤ t.val / 8 % 18 ∧ t.val / 8 % 18 ≤ 5) then
            False.elim (by have hq := q18 t.isLt; omega)
          else
            if h4 : t.val / 8 % 18 = 6 then
              False.elim (by have hq := q18 t.isLt; omega)
            else
              if h5 : (7 ≤ t.val / 8 % 18 ∧ t.val / 8 % 18 ≤ 8) then
                False.elim (by have hq := q18 t.isLt; omega)
              else
                if h6 : 72 ≤ t.val then
                  False.elim (by have hq := q18 t.isLt; omega)
                else
                  caseB m c t xs h0 h1 h2 h3 h4 h5 h6
        else
          if h3 : (4 ≤ t.val / 8 % 18 ∧ t.val / 8 % 18 ≤ 5) then
            if h4 : t.val / 8 % 18 = 6 then
              False.elim (by have hq := q18 t.isLt; omega)
            else
              if h5 : (7 ≤ t.val / 8 % 18 ∧ t.val / 8 % 18 ≤ 8) then
                False.elim (by have hq := q18 t.isLt; omega)
              else
                if h6 : 72 ≤ t.val then
                  False.elim (by have hq := q18 t.isLt; omega)
                else
                  caseD m c t xs h0 h1 h2 h3 h4 h5 h6
          else
            if h4 : t.val / 8 % 18 = 6 then
              if h5 : (7 ≤ t.val / 8 % 18 ∧ t.val / 8 % 18 ≤ 8) then
                False.elim (by have hq := q18 t.isLt; omega)
              else
                if h6 : 72 ≤ t.val then
                  False.elim (by have hq := q18 t.isLt; omega)
                else
                  caseF m c t xs h0 h1 h2 h3 h4 h5 h6
            else
              if h5 : (7 ≤ t.val / 8 % 18 ∧ t.val / 8 % 18 ≤ 8) then
                if h6 : 72 ≤ t.val then
                  False.elim (by have hq := q18 t.isLt; omega)
                else
                  caseH m c t xs h0 h1 h2 h3 h4 h5 h6
              else
                if h6 : 72 ≤ t.val then
                  caseJ m c t xs h0 h1 h2 h3 h4 h5 h6
                else
                  False.elim (by have hq := q18 t.isLt; omega)

/-- What the output block and the weight scratch hold after each grid point. -/
def outsAt0 (c : Dev nD) : (n : ℕ) → n < cfg0.N → Vec F S1024x512 .f32 × Vec F S2048x512 .bf16
  | 0, hn => step m c ⟨0, hn⟩ (VS0_0.read (Elt F) VS0_0.junk)
  | n + 1, hn => step m c ⟨n + 1, hn⟩ (outsAt0 c n (Nat.lt_of_succ_lt hn)).2

/-- After a grid point that is not the first, the step over what the point before left. -/
theorem outsAt0_step (c : Dev nD) (t : Fin cfg0.N) (ht : t.val ≠ 0) :
    outsAt0 m c t.val t.isLt = step m c t (outsAt0 m c (t.val - 1) (Nat.lt_of_le_of_lt (Nat.sub_le _ _) t.isLt)).2 := by
  obtain ⟨n, hn⟩ := t
  cases n with
  | zero => exact absurd rfl ht
  | succ n => rfl

/-- The step at a grid point of case A. -/
theorem step_A (c : Dev nD) (t : Fin cfg0.N) (xs : Vec F S2048x512 .bf16) (h0 : t.val / 8 % 18 + 9 * (t.val % 8) ≤ 8) (h1 : ¬9 * (t.val % 8) + 9 ≤ t.val / 8 % 18) (h2 : t.val < 32) (h3 : ¬(4 ≤ t.val / 8 % 18 ∧ t.val / 8 % 18 ≤ 5)) (h4 : ¬t.val / 8 % 18 = 6) (h5 : ¬(7 ≤ t.val / 8 % 18 ∧ t.val / 8 % 18 ≤ 8)) (h6 : ¬72 ≤ t.val) :
    step m c t xs = caseA m c t xs h0 h1 h2 h3 h4 h5 h6 := by
  unfold step
  rw [dif_pos h0, dif_neg h1, dif_pos h2, dif_neg h3, dif_neg h4, dif_neg h5, dif_neg h6]

/-- At a grid point of case A, what the point leaves. -/
theorem outsAt0_A (c : Dev nD) (t : Fin cfg0.N) (h0 : t.val / 8 % 18 + 9 * (t.val % 8) ≤ 8) (h1 : ¬9 * (t.val % 8) + 9 ≤ t.val / 8 % 18) (h2 : t.val < 32) (h3 : ¬(4 ≤ t.val / 8 % 18 ∧ t.val / 8 % 18 ≤ 5)) (h4 : ¬t.val / 8 % 18 = 6) (h5 : ¬(7 ≤ t.val / 8 % 18 ∧ t.val / 8 % 18 ≤ 8)) (h6 : ¬72 ≤ t.val) :
    outsAt0 m c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) ((hcond0_2 t).mpr h2) (fun h => h3 ((hcond0_3 t).mp h)) (fun h => h4 ((hcond0_4 t).mp h)) (fun h => h5 ((hcond0_5 t).mp h)) (fun h => h6 ((hcond0_6 t).mp h)) (iblk m c 0 t) (X0_1 m c t) (iblk m c 2 t) (iblk m c 3 t) (iblk m c 4 t) (iblk m c 5 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) ((hcond0_2 t).mpr h2) (fun h => h3 ((hcond0_3 t).mp h)) (fun h => h4 ((hcond0_4 t).mp h)) (fun h => h5 ((hcond0_5 t).mp h)) (fun h => h6 ((hcond0_6 t).mp h)) (iblk m c 0 t) (X0_1 m c t) (iblk m c 2 t) (iblk m c 3 t) (iblk m c 4 t) (iblk m c 5 t)) := by
  by_cases ht : t.val = 0
  · obtain ⟨n, hn⟩ := t
    subst ht
    exact step_A m c _ _ h0 h1 h2 h3 h4 h5 h6
  · exact (outsAt0_step m c t ht).trans (step_A m c _ _ h0 h1 h2 h3 h4 h5 h6)

/-- The step at a grid point of case B. -/
theorem step_B (c : Dev nD) (t : Fin cfg0.N) (xs : Vec F S2048x512 .bf16) (h0 : ¬t.val / 8 % 18 + 9 * (t.val % 8) ≤ 8) (h1 : ¬9 * (t.val % 8) + 9 ≤ t.val / 8 % 18) (h2 : t.val < 32) (h3 : ¬(4 ≤ t.val / 8 % 18 ∧ t.val / 8 % 18 ≤ 5)) (h4 : ¬t.val / 8 % 18 = 6) (h5 : ¬(7 ≤ t.val / 8 % 18 ∧ t.val / 8 % 18 ≤ 8)) (h6 : ¬72 ≤ t.val) :
    step m c t xs = caseB m c t xs h0 h1 h2 h3 h4 h5 h6 := by
  unfold step
  rw [dif_neg h0, dif_neg h1, dif_pos h2, dif_neg h3, dif_neg h4, dif_neg h5, dif_neg h6]

/-- At a grid point of case B, what the point leaves. -/
theorem outsAt0_B (c : Dev nD) (t : Fin cfg0.N) (h0 : ¬t.val / 8 % 18 + 9 * (t.val % 8) ≤ 8) (h1 : ¬9 * (t.val % 8) + 9 ≤ t.val / 8 % 18) (h2 : t.val < 32) (h3 : ¬(4 ≤ t.val / 8 % 18 ∧ t.val / 8 % 18 ≤ 5)) (h4 : ¬t.val / 8 % 18 = 6) (h5 : ¬(7 ≤ t.val / 8 % 18 ∧ t.val / 8 % 18 ≤ 8)) (h6 : ¬72 ≤ t.val) :
    outsAt0 m c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) ((hcond0_2 t).mpr h2) (fun h => h3 ((hcond0_3 t).mp h)) (fun h => h4 ((hcond0_4 t).mp h)) (fun h => h5 ((hcond0_5 t).mp h)) (fun h => h6 ((hcond0_6 t).mp h)) (iblk m c 0 t) (X0_1 m c t) (iblk m c 2 t) (iblk m c 3 t) (iblk m c 4 t) (iblk m c 5 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) ((hcond0_2 t).mpr h2) (fun h => h3 ((hcond0_3 t).mp h)) (fun h => h4 ((hcond0_4 t).mp h)) (fun h => h5 ((hcond0_5 t).mp h)) (fun h => h6 ((hcond0_6 t).mp h)) (iblk m c 0 t) (X0_1 m c t) (iblk m c 2 t) (iblk m c 3 t) (iblk m c 4 t) (iblk m c 5 t) (outsAt0 m c (t.val - 1) (Nat.lt_of_le_of_lt (Nat.sub_le _ _) t.isLt)).2) := by
  exact (outsAt0_step m c t (by omega)).trans (step_B m c _ _ h0 h1 h2 h3 h4 h5 h6)

/-- The step at a grid point of case C. -/
theorem step_C (c : Dev nD) (t : Fin cfg0.N) (xs : Vec F S2048x512 .bf16) (h0 : t.val / 8 % 18 + 9 * (t.val % 8) ≤ 8) (h1 : ¬9 * (t.val % 8) + 9 ≤ t.val / 8 % 18) (h2 : ¬t.val < 32) (h3 : (4 ≤ t.val / 8 % 18 ∧ t.val / 8 % 18 ≤ 5)) (h4 : ¬t.val / 8 % 18 = 6) (h5 : ¬(7 ≤ t.val / 8 % 18 ∧ t.val / 8 % 18 ≤ 8)) (h6 : ¬72 ≤ t.val) :
    step m c t xs = caseC m c t xs h0 h1 h2 h3 h4 h5 h6 := by
  unfold step
  rw [dif_pos h0, dif_neg h1, dif_neg h2, dif_pos h3, dif_neg h4, dif_neg h5, dif_neg h6]

/-- At a grid point of case C, what the point leaves. -/
theorem outsAt0_C (c : Dev nD) (t : Fin cfg0.N) (h0 : t.val / 8 % 18 + 9 * (t.val % 8) ≤ 8) (h1 : ¬9 * (t.val % 8) + 9 ≤ t.val / 8 % 18) (h2 : ¬t.val < 32) (h3 : (4 ≤ t.val / 8 % 18 ∧ t.val / 8 % 18 ≤ 5)) (h4 : ¬t.val / 8 % 18 = 6) (h5 : ¬(7 ≤ t.val / 8 % 18 ∧ t.val / 8 % 18 ≤ 8)) (h6 : ¬72 ≤ t.val) :
    outsAt0 m c t.val t.isLt = (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (fun h => h2 ((hcond0_2 t).mp h)) ((hcond0_3 t).mpr h3) (fun h => h4 ((hcond0_4 t).mp h)) (fun h => h5 ((hcond0_5 t).mp h)) (fun h => h6 ((hcond0_6 t).mp h)) (iblk m c 0 t) (X0_1 m c t) (iblk m c 2 t) (iblk m c 3 t) (iblk m c 4 t) (iblk m c 5 t), sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (fun h => h2 ((hcond0_2 t).mp h)) ((hcond0_3 t).mpr h3) (fun h => h4 ((hcond0_4 t).mp h)) (fun h => h5 ((hcond0_5 t).mp h)) (fun h => h6 ((hcond0_6 t).mp h)) (iblk m c 0 t) (X0_1 m c t) (iblk m c 2 t) (iblk m c 3 t) (iblk m c 4 t) (iblk m c 5 t)) := by
  exact (outsAt0_step m c t (by omega)).trans (step_C m c _ _ h0 h1 h2 h3 h4 h5 h6)

/-- The step at a grid point of case D. -/
theorem step_D (c : Dev nD) (t : Fin cfg0.N) (xs : Vec F S2048x512 .bf16) (h0 : ¬t.val / 8 % 18 + 9 * (t.val % 8) ≤ 8) (h1 : ¬9 * (t.val % 8) + 9 ≤ t.val / 8 % 18) (h2 : ¬t.val < 32) (h3 : (4 ≤ t.val / 8 % 18 ∧ t.val / 8 % 18 ≤ 5)) (h4 : ¬t.val / 8 % 18 = 6) (h5 : ¬(7 ≤ t.val / 8 % 18 ∧ t.val / 8 % 18 ≤ 8)) (h6 : ¬72 ≤ t.val) :
    step m c t xs = caseD m c t xs h0 h1 h2 h3 h4 h5 h6 := by
  unfold step
  rw [dif_neg h0, dif_neg h1, dif_neg h2, dif_pos h3, dif_neg h4, dif_neg h5, dif_neg h6]

/-- At a grid point of case D, what the point leaves. -/
theorem outsAt0_D (c : Dev nD) (t : Fin cfg0.N) (h0 : ¬t.val / 8 % 18 + 9 * (t.val % 8) ≤ 8) (h1 : ¬9 * (t.val % 8) + 9 ≤ t.val / 8 % 18) (h2 : ¬t.val < 32) (h3 : (4 ≤ t.val / 8 % 18 ∧ t.val / 8 % 18 ≤ 5)) (h4 : ¬t.val / 8 % 18 = 6) (h5 : ¬(7 ≤ t.val / 8 % 18 ∧ t.val / 8 % 18 ≤ 8)) (h6 : ¬72 ≤ t.val) :
    outsAt0 m c t.val t.isLt = (out0_D_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (fun h => h2 ((hcond0_2 t).mp h)) ((hcond0_3 t).mpr h3) (fun h => h4 ((hcond0_4 t).mp h)) (fun h => h5 ((hcond0_5 t).mp h)) (fun h => h6 ((hcond0_6 t).mp h)) (iblk m c 0 t) (X0_1 m c t) (iblk m c 2 t) (iblk m c 3 t) (iblk m c 4 t) (iblk m c 5 t) (outsAt0 m c (t.val - 1) (Nat.lt_of_le_of_lt (Nat.sub_le _ _) t.isLt)).2, sout0_D_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (fun h => h2 ((hcond0_2 t).mp h)) ((hcond0_3 t).mpr h3) (fun h => h4 ((hcond0_4 t).mp h)) (fun h => h5 ((hcond0_5 t).mp h)) (fun h => h6 ((hcond0_6 t).mp h)) (iblk m c 0 t) (X0_1 m c t) (iblk m c 2 t) (iblk m c 3 t) (iblk m c 4 t) (iblk m c 5 t) (outsAt0 m c (t.val - 1) (Nat.lt_of_le_of_lt (Nat.sub_le _ _) t.isLt)).2) := by
  exact (outsAt0_step m c t (by omega)).trans (step_D m c _ _ h0 h1 h2 h3 h4 h5 h6)

/-- The step at a grid point of case E. -/
theorem step_E (c : Dev nD) (t : Fin cfg0.N) (xs : Vec F S2048x512 .bf16) (h0 : t.val / 8 % 18 + 9 * (t.val % 8) ≤ 8) (h1 : ¬9 * (t.val % 8) + 9 ≤ t.val / 8 % 18) (h2 : ¬t.val < 32) (h3 : ¬(4 ≤ t.val / 8 % 18 ∧ t.val / 8 % 18 ≤ 5)) (h4 : t.val / 8 % 18 = 6) (h5 : ¬(7 ≤ t.val / 8 % 18 ∧ t.val / 8 % 18 ≤ 8)) (h6 : ¬72 ≤ t.val) :
    step m c t xs = caseE m c t xs h0 h1 h2 h3 h4 h5 h6 := by
  unfold step
  rw [dif_pos h0, dif_neg h1, dif_neg h2, dif_neg h3, dif_pos h4, dif_neg h5, dif_neg h6]

/-- At a grid point of case E, what the point leaves. -/
theorem outsAt0_E (c : Dev nD) (t : Fin cfg0.N) (h0 : t.val / 8 % 18 + 9 * (t.val % 8) ≤ 8) (h1 : ¬9 * (t.val % 8) + 9 ≤ t.val / 8 % 18) (h2 : ¬t.val < 32) (h3 : ¬(4 ≤ t.val / 8 % 18 ∧ t.val / 8 % 18 ≤ 5)) (h4 : t.val / 8 % 18 = 6) (h5 : ¬(7 ≤ t.val / 8 % 18 ∧ t.val / 8 % 18 ≤ 8)) (h6 : ¬72 ≤ t.val) :
    outsAt0 m c t.val t.isLt = (out0_E_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (fun h => h2 ((hcond0_2 t).mp h)) (fun h => h3 ((hcond0_3 t).mp h)) ((hcond0_4 t).mpr h4) (fun h => h5 ((hcond0_5 t).mp h)) (fun h => h6 ((hcond0_6 t).mp h)) (iblk m c 0 t) (X0_1 m c t) (iblk m c 2 t) (iblk m c 3 t) (iblk m c 4 t) (iblk m c 5 t), sout0_E_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (fun h => h2 ((hcond0_2 t).mp h)) (fun h => h3 ((hcond0_3 t).mp h)) ((hcond0_4 t).mpr h4) (fun h => h5 ((hcond0_5 t).mp h)) (fun h => h6 ((hcond0_6 t).mp h)) (iblk m c 0 t) (X0_1 m c t) (iblk m c 2 t) (iblk m c 3 t) (iblk m c 4 t) (iblk m c 5 t)) := by
  exact (outsAt0_step m c t (by omega)).trans (step_E m c _ _ h0 h1 h2 h3 h4 h5 h6)

/-- The step at a grid point of case F. -/
theorem step_F (c : Dev nD) (t : Fin cfg0.N) (xs : Vec F S2048x512 .bf16) (h0 : ¬t.val / 8 % 18 + 9 * (t.val % 8) ≤ 8) (h1 : ¬9 * (t.val % 8) + 9 ≤ t.val / 8 % 18) (h2 : ¬t.val < 32) (h3 : ¬(4 ≤ t.val / 8 % 18 ∧ t.val / 8 % 18 ≤ 5)) (h4 : t.val / 8 % 18 = 6) (h5 : ¬(7 ≤ t.val / 8 % 18 ∧ t.val / 8 % 18 ≤ 8)) (h6 : ¬72 ≤ t.val) :
    step m c t xs = caseF m c t xs h0 h1 h2 h3 h4 h5 h6 := by
  unfold step
  rw [dif_neg h0, dif_neg h1, dif_neg h2, dif_neg h3, dif_pos h4, dif_neg h5, dif_neg h6]

/-- At a grid point of case F, what the point leaves. -/
theorem outsAt0_F (c : Dev nD) (t : Fin cfg0.N) (h0 : ¬t.val / 8 % 18 + 9 * (t.val % 8) ≤ 8) (h1 : ¬9 * (t.val % 8) + 9 ≤ t.val / 8 % 18) (h2 : ¬t.val < 32) (h3 : ¬(4 ≤ t.val / 8 % 18 ∧ t.val / 8 % 18 ≤ 5)) (h4 : t.val / 8 % 18 = 6) (h5 : ¬(7 ≤ t.val / 8 % 18 ∧ t.val / 8 % 18 ≤ 8)) (h6 : ¬72 ≤ t.val) :
    outsAt0 m c t.val t.isLt = (out0_F_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (fun h => h2 ((hcond0_2 t).mp h)) (fun h => h3 ((hcond0_3 t).mp h)) ((hcond0_4 t).mpr h4) (fun h => h5 ((hcond0_5 t).mp h)) (fun h => h6 ((hcond0_6 t).mp h)) (iblk m c 0 t) (X0_1 m c t) (iblk m c 2 t) (iblk m c 3 t) (iblk m c 4 t) (iblk m c 5 t) (outsAt0 m c (t.val - 1) (Nat.lt_of_le_of_lt (Nat.sub_le _ _) t.isLt)).2, sout0_F_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (fun h => h2 ((hcond0_2 t).mp h)) (fun h => h3 ((hcond0_3 t).mp h)) ((hcond0_4 t).mpr h4) (fun h => h5 ((hcond0_5 t).mp h)) (fun h => h6 ((hcond0_6 t).mp h)) (iblk m c 0 t) (X0_1 m c t) (iblk m c 2 t) (iblk m c 3 t) (iblk m c 4 t) (iblk m c 5 t) (outsAt0 m c (t.val - 1) (Nat.lt_of_le_of_lt (Nat.sub_le _ _) t.isLt)).2) := by
  exact (outsAt0_step m c t (by omega)).trans (step_F m c _ _ h0 h1 h2 h3 h4 h5 h6)

/-- The step at a grid point of case G. -/
theorem step_G (c : Dev nD) (t : Fin cfg0.N) (xs : Vec F S2048x512 .bf16) (h0 : t.val / 8 % 18 + 9 * (t.val % 8) ≤ 8) (h1 : ¬9 * (t.val % 8) + 9 ≤ t.val / 8 % 18) (h2 : ¬t.val < 32) (h3 : ¬(4 ≤ t.val / 8 % 18 ∧ t.val / 8 % 18 ≤ 5)) (h4 : ¬t.val / 8 % 18 = 6) (h5 : (7 ≤ t.val / 8 % 18 ∧ t.val / 8 % 18 ≤ 8)) (h6 : ¬72 ≤ t.val) :
    step m c t xs = caseG m c t xs h0 h1 h2 h3 h4 h5 h6 := by
  unfold step
  rw [dif_pos h0, dif_neg h1, dif_neg h2, dif_neg h3, dif_neg h4, dif_pos h5, dif_neg h6]

/-- At a grid point of case G, what the point leaves. -/
theorem outsAt0_G (c : Dev nD) (t : Fin cfg0.N) (h0 : t.val / 8 % 18 + 9 * (t.val % 8) ≤ 8) (h1 : ¬9 * (t.val % 8) + 9 ≤ t.val / 8 % 18) (h2 : ¬t.val < 32) (h3 : ¬(4 ≤ t.val / 8 % 18 ∧ t.val / 8 % 18 ≤ 5)) (h4 : ¬t.val / 8 % 18 = 6) (h5 : (7 ≤ t.val / 8 % 18 ∧ t.val / 8 % 18 ≤ 8)) (h6 : ¬72 ≤ t.val) :
    outsAt0 m c t.val t.isLt = (out0_G_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (fun h => h2 ((hcond0_2 t).mp h)) (fun h => h3 ((hcond0_3 t).mp h)) (fun h => h4 ((hcond0_4 t).mp h)) ((hcond0_5 t).mpr h5) (fun h => h6 ((hcond0_6 t).mp h)) (iblk m c 0 t) (X0_1 m c t) (iblk m c 2 t) (iblk m c 3 t) (iblk m c 4 t) (iblk m c 5 t), sout0_G_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (fun h => h2 ((hcond0_2 t).mp h)) (fun h => h3 ((hcond0_3 t).mp h)) (fun h => h4 ((hcond0_4 t).mp h)) ((hcond0_5 t).mpr h5) (fun h => h6 ((hcond0_6 t).mp h)) (iblk m c 0 t) (X0_1 m c t) (iblk m c 2 t) (iblk m c 3 t) (iblk m c 4 t) (iblk m c 5 t)) := by
  exact (outsAt0_step m c t (by omega)).trans (step_G m c _ _ h0 h1 h2 h3 h4 h5 h6)

/-- The step at a grid point of case H. -/
theorem step_H (c : Dev nD) (t : Fin cfg0.N) (xs : Vec F S2048x512 .bf16) (h0 : ¬t.val / 8 % 18 + 9 * (t.val % 8) ≤ 8) (h1 : ¬9 * (t.val % 8) + 9 ≤ t.val / 8 % 18) (h2 : ¬t.val < 32) (h3 : ¬(4 ≤ t.val / 8 % 18 ∧ t.val / 8 % 18 ≤ 5)) (h4 : ¬t.val / 8 % 18 = 6) (h5 : (7 ≤ t.val / 8 % 18 ∧ t.val / 8 % 18 ≤ 8)) (h6 : ¬72 ≤ t.val) :
    step m c t xs = caseH m c t xs h0 h1 h2 h3 h4 h5 h6 := by
  unfold step
  rw [dif_neg h0, dif_neg h1, dif_neg h2, dif_neg h3, dif_neg h4, dif_pos h5, dif_neg h6]

/-- At a grid point of case H, what the point leaves. -/
theorem outsAt0_H (c : Dev nD) (t : Fin cfg0.N) (h0 : ¬t.val / 8 % 18 + 9 * (t.val % 8) ≤ 8) (h1 : ¬9 * (t.val % 8) + 9 ≤ t.val / 8 % 18) (h2 : ¬t.val < 32) (h3 : ¬(4 ≤ t.val / 8 % 18 ∧ t.val / 8 % 18 ≤ 5)) (h4 : ¬t.val / 8 % 18 = 6) (h5 : (7 ≤ t.val / 8 % 18 ∧ t.val / 8 % 18 ≤ 8)) (h6 : ¬72 ≤ t.val) :
    outsAt0 m c t.val t.isLt = (out0_H_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (fun h => h2 ((hcond0_2 t).mp h)) (fun h => h3 ((hcond0_3 t).mp h)) (fun h => h4 ((hcond0_4 t).mp h)) ((hcond0_5 t).mpr h5) (fun h => h6 ((hcond0_6 t).mp h)) (iblk m c 0 t) (X0_1 m c t) (iblk m c 2 t) (iblk m c 3 t) (iblk m c 4 t) (iblk m c 5 t) (outsAt0 m c (t.val - 1) (Nat.lt_of_le_of_lt (Nat.sub_le _ _) t.isLt)).2, sout0_H_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (fun h => h2 ((hcond0_2 t).mp h)) (fun h => h3 ((hcond0_3 t).mp h)) (fun h => h4 ((hcond0_4 t).mp h)) ((hcond0_5 t).mpr h5) (fun h => h6 ((hcond0_6 t).mp h)) (iblk m c 0 t) (X0_1 m c t) (iblk m c 2 t) (iblk m c 3 t) (iblk m c 4 t) (iblk m c 5 t) (outsAt0 m c (t.val - 1) (Nat.lt_of_le_of_lt (Nat.sub_le _ _) t.isLt)).2) := by
  exact (outsAt0_step m c t (by omega)).trans (step_H m c _ _ h0 h1 h2 h3 h4 h5 h6)

/-- The step at a grid point of case I. -/
theorem step_I (c : Dev nD) (t : Fin cfg0.N) (xs : Vec F S2048x512 .bf16) (h0 : ¬t.val / 8 % 18 + 9 * (t.val % 8) ≤ 8) (h1 : 9 * (t.val % 8) + 9 ≤ t.val / 8 % 18) (h2 : ¬t.val < 32) (h3 : ¬(4 ≤ t.val / 8 % 18 ∧ t.val / 8 % 18 ≤ 5)) (h4 : ¬t.val / 8 % 18 = 6) (h5 : ¬(7 ≤ t.val / 8 % 18 ∧ t.val / 8 % 18 ≤ 8)) (h6 : 72 ≤ t.val) :
    step m c t xs = caseI m c t xs h0 h1 h2 h3 h4 h5 h6 := by
  unfold step
  rw [dif_neg h0, dif_pos h1, dif_neg h2, dif_neg h3, dif_neg h4, dif_neg h5, dif_pos h6]

/-- At a grid point of case I, what the point leaves. -/
theorem outsAt0_I (c : Dev nD) (t : Fin cfg0.N) (h0 : ¬t.val / 8 % 18 + 9 * (t.val % 8) ≤ 8) (h1 : 9 * (t.val % 8) + 9 ≤ t.val / 8 % 18) (h2 : ¬t.val < 32) (h3 : ¬(4 ≤ t.val / 8 % 18 ∧ t.val / 8 % 18 ≤ 5)) (h4 : ¬t.val / 8 % 18 = 6) (h5 : ¬(7 ≤ t.val / 8 % 18 ∧ t.val / 8 % 18 ≤ 8)) (h6 : 72 ≤ t.val) :
    outsAt0 m c t.val t.isLt = (out0_I_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (fun h => h2 ((hcond0_2 t).mp h)) (fun h => h3 ((hcond0_3 t).mp h)) (fun h => h4 ((hcond0_4 t).mp h)) (fun h => h5 ((hcond0_5 t).mp h)) ((hcond0_6 t).mpr h6) (iblk m c 0 t) (X0_1 m c t) (iblk m c 2 t) (iblk m c 3 t) (iblk m c 4 t) (iblk m c 5 t), sout0_I_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (fun h => h2 ((hcond0_2 t).mp h)) (fun h => h3 ((hcond0_3 t).mp h)) (fun h => h4 ((hcond0_4 t).mp h)) (fun h => h5 ((hcond0_5 t).mp h)) ((hcond0_6 t).mpr h6) (iblk m c 0 t) (X0_1 m c t) (iblk m c 2 t) (iblk m c 3 t) (iblk m c 4 t) (iblk m c 5 t)) := by
  exact (outsAt0_step m c t (by omega)).trans (step_I m c _ _ h0 h1 h2 h3 h4 h5 h6)

/-- The step at a grid point of case J. -/
theorem step_J (c : Dev nD) (t : Fin cfg0.N) (xs : Vec F S2048x512 .bf16) (h0 : ¬t.val / 8 % 18 + 9 * (t.val % 8) ≤ 8) (h1 : ¬9 * (t.val % 8) + 9 ≤ t.val / 8 % 18) (h2 : ¬t.val < 32) (h3 : ¬(4 ≤ t.val / 8 % 18 ∧ t.val / 8 % 18 ≤ 5)) (h4 : ¬t.val / 8 % 18 = 6) (h5 : ¬(7 ≤ t.val / 8 % 18 ∧ t.val / 8 % 18 ≤ 8)) (h6 : 72 ≤ t.val) :
    step m c t xs = caseJ m c t xs h0 h1 h2 h3 h4 h5 h6 := by
  unfold step
  rw [dif_neg h0, dif_neg h1, dif_neg h2, dif_neg h3, dif_neg h4, dif_neg h5, dif_pos h6]

/-- At a grid point of case J, what the point leaves. -/
theorem outsAt0_J (c : Dev nD) (t : Fin cfg0.N) (h0 : ¬t.val / 8 % 18 + 9 * (t.val % 8) ≤ 8) (h1 : ¬9 * (t.val % 8) + 9 ≤ t.val / 8 % 18) (h2 : ¬t.val < 32) (h3 : ¬(4 ≤ t.val / 8 % 18 ∧ t.val / 8 % 18 ≤ 5)) (h4 : ¬t.val / 8 % 18 = 6) (h5 : ¬(7 ≤ t.val / 8 % 18 ∧ t.val / 8 % 18 ≤ 8)) (h6 : 72 ≤ t.val) :
    outsAt0 m c t.val t.isLt = (out0_J_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (fun h => h2 ((hcond0_2 t).mp h)) (fun h => h3 ((hcond0_3 t).mp h)) (fun h => h4 ((hcond0_4 t).mp h)) (fun h => h5 ((hcond0_5 t).mp h)) ((hcond0_6 t).mpr h6) (iblk m c 0 t) (X0_1 m c t) (iblk m c 2 t) (iblk m c 3 t) (iblk m c 4 t) (iblk m c 5 t) (outsAt0 m c (t.val - 1) (Nat.lt_of_le_of_lt (Nat.sub_le _ _) t.isLt)).2, sout0_J_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (fun h => h2 ((hcond0_2 t).mp h)) (fun h => h3 ((hcond0_3 t).mp h)) (fun h => h4 ((hcond0_4 t).mp h)) (fun h => h5 ((hcond0_5 t).mp h)) ((hcond0_6 t).mpr h6) (iblk m c 0 t) (X0_1 m c t) (iblk m c 2 t) (iblk m c 3 t) (iblk m c 4 t) (iblk m c 5 t) (outsAt0 m c (t.val - 1) (Nat.lt_of_le_of_lt (Nat.sub_le _ _) t.isLt)).2) := by
  exact (outsAt0_step m c t (by omega)).trans (step_J m c _ _ h0 h1 h2 h3 h4 h5 h6)

end Cert.InprojIdeal.Inp

end
-- ==== Proof.InprojRun.lean ====
module

public import proofs.«01_k».proof.Proof.InprojOuts
public import Idealize.ShloMosaic.Lib.Claim

@[expose] public section

set_option maxRecDepth 16384

noncomputable section

namespace Cert.InprojIdeal.Inp

open Cert.InprojIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What holds between grid points: the weight scratch as the last point left it, and the generator's register. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-- The data of the pipeline: its arrays on entry and what each window's buffer holds after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = X0_1 m c t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body finds at a grid point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- What the body leaves at a grid point. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 32000000 in
/-- The body at any grid point takes what it finds to what it leaves, case by case. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 144 := lt_of_lt_of_eq t.isLt (show cfg0.N = 144 from N_0)
  have hq := q18 t.isLt
  by_cases h0 : t.val / 8 % 18 + 9 * (t.val % 8) ≤ 8
  · by_cases h1 : 9 * (t.val % 8) + 9 ≤ t.val / 8 % 18
    · exfalso; omega
    · by_cases h2 : t.val < 32
      · by_cases h3 : (4 ≤ t.val / 8 % 18 ∧ t.val / 8 % 18 ≤ 5)
        · exfalso; omega
        · by_cases h4 : t.val / 8 % 18 = 6
          · exfalso; omega
          · by_cases h5 : (7 ≤ t.val / 8 % 18 ∧ t.val / 8 % 18 ≤ 8)
            · exfalso; omega
            · by_cases h6 : 72 ≤ t.val
              · exfalso; omega
              · rw [show (dats m 0 c).leavesExact 0 t = owns (c : Thread nD τ) (ms0_0 t) fullShare ((dats m 0 c).after 0 t) from by
      unfold Dat.leavesExact; rw [liveAt0_0 t], after0_0]
                rw [show (dats m 0 c).leavesExact 1 t = owns (c : Thread nD τ) (ms0_1 t) fullShare ((dats m 0 c).after 1 t) from by
      unfold Dat.leavesExact; rw [liveAt0_1 t], after0_1]
                rw [show (dats m 0 c).leavesExact 2 t = owns (c : Thread nD τ) (ms0_2 t) fullShare ((dats m 0 c).after 2 t) from by
      unfold Dat.leavesExact; rw [liveAt0_2 t], after0_2]
                rw [show (dats m 0 c).leavesExact 3 t = owns (c : Thread nD τ) (ms0_3 t) fullShare ((dats m 0 c).after 3 t) from by
      unfold Dat.leavesExact; rw [liveAt0_3 t], after0_3]
                rw [show (dats m 0 c).leavesExact 4 t = owns (c : Thread nD τ) (ms0_4 t) fullShare ((dats m 0 c).after 4 t) from by
      unfold Dat.leavesExact; rw [liveAt0_4 t], after0_4]
                rw [show (dats m 0 c).leavesExact 5 t = owns (c : Thread nD τ) (ms0_5 t) fullShare ((dats m 0 c).after 5 t) from by
      unfold Dat.leavesExact; rw [liveAt0_5 t], after0_5]
                rw [show (dats m 0 c).leavesExact 6 t = owns (c : Thread nD τ) (ms0_6 t) fullShare ((dats m 0 c).after 6 t) from by
      unfold Dat.leavesExact; rw [liveAt0_6_A t ((hcond0_0 t).mpr h0) (fun h => h1 ((hcond0_1 t).mp h)) ((hcond0_2 t).mpr h2) (fun h => h3 ((hcond0_3 t).mp h)) (fun h => h4 ((hcond0_4 t).mp h)) (fun h => h5 ((hcond0_5 t).mp h)) (fun h => h6 ((hcond0_6 t).mp h))], after0_6]
                by_cases hz : t.val = 0
                · rw [PhiS_castSucc m c t, PhiS_zero m c _ _ hz, PhiA0_eq]
                  rw [outsAt0_A m c t h0 h1 h2 h3 h4 h5 h6]
                  unfold out0_A_6 sout0_A_0; (try dsimp only)
                  iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
                  iapply ((kernelRun0_A c (grid0.coords t) _ _ _ _ _ _ _ _ _ _ _ _ _ _ _ _ ((hcond0_0 t).mpr h0) (fun h => h1 ((hcond0_1 t).mp h)) ((hcond0_2 t).mpr h2) (fun h => h3 ((hcond0_3 t).mp h)) (fun h => h4 ((hcond0_4 t).mp h)) (fun h => h5 ((hcond0_5 t).mp h)) (fun h => h6 ((hcond0_6 t).mp h)) (iblk m c 0 t) (X0_1 m c t) (iblk m c 2 t) (iblk m c 3 t) (iblk m c 4 t) (iblk m c 5 t)).2.2 Set.univ _)
                  isplitl [H0]; · iexact H0
                  isplitl [H1]; · iexact H1
                  isplitl [H2]; · iexact H2
                  isplitl [H3]; · iexact H3
                  isplitl [H4]; · iexact H4
                  isplitl [H5]; · iexact H5
                  isplitl [H6]; · iexists _; iexact H6
                  isplitl [HS0]; · iexact HS0
                  iintro ⟨H0, H1, H2, H3, H4, H5, ⟨%e6, H6⟩, ⟨%es0, HS0⟩⟩
                  isplitl [HS0 Hg]
                  · isplitl [HS0]
                    · unfold owns; iexists _; isplitr
                      swap; · iexact HS0
                      ipureintro; exact View.read_writes_of_cover _ _ _ _ _ (scover0_A_0 c _ _ _ _ _ _ _ _ _ _ _ _ _ _ _ _ _ _ _ _ _ _ _ _ _ _ _ _ _ _)
                    iexact Hg
                  isplitl [Ho]; · iexact Ho
                  isplitl [H0]; · iexact H0
                  isplitl [H1]; · iexact H1
                  isplitl [H2]; · iexact H2
                  isplitl [H3]; · iexact H3
                  isplitl [H4]; · iexact H4
                  isplitl [H5]; · iexact H5
                  unfold owns; iexists _; isplitr
                  swap; · iexact H6
                  ipureintro; exact View.read_writes_of_cover _ _ _ _ _ (cover0_A_6 c _ _ _ _ _ _ _ _ _ _ _ _ _ _ _ _ _ _ _ _ _ _ _ _ _ _ _ _ _ _)
                · rw [PhiS_castSucc m c t, PhiS_pos m c _ _ hz]
                  rw [outsAt0_A m c t h0 h1 h2 h3 h4 h5 h6]
                  unfold out0_A_6 sout0_A_0; (try dsimp only)
                  iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
                  iapply ((kernelRun0_A c (grid0.coords t) _ _ _ _ _ _ _ _ _ _ _ _ _ _ _ _ ((hcond0_0 t).mpr h0) (fun h => h1 ((hcond0_1 t).mp h)) ((hcond0_2 t).mpr h2) (fun h => h3 ((hcond0_3 t).mp h)) (fun h => h4 ((hcond0_4 t).mp h)) (fun h => h5 ((hcond0_5 t).mp h)) (fun h => h6 ((hcond0_6 t).mp h)) (iblk m c 0 t) (X0_1 m c t) (iblk m c 2 t) (iblk m c 3 t) (iblk m c 4 t) (iblk m c 5 t)).2.2 Set.univ _)
                  isplitl [H0]; · iexact H0
                  isplitl [H1]; · iexact H1
                  isplitl [H2]; · iexact H2
                  isplitl [H3]; · iexact H3
                  isplitl [H4]; · iexact H4
                  isplitl [H5]; · iexact H5
                  isplitl [H6]; · iexists _; iexact H6
                  isplitl [HS0]; · iexists _; iexact HS0
                  iintro ⟨H0, H1, H2, H3, H4, H5, ⟨%e6, H6⟩, ⟨%es0, HS0⟩⟩
                  isplitl [HS0 Hg]
                  · isplitl [HS0]
                    · unfold owns; iexists _; isplitr
                      swap; · iexact HS0
                      ipureintro; exact View.read_writes_of_cover _ _ _ _ _ (scover0_A_0 c _ _ _ _ _ _ _ _ _ _ _ _ _ _ _ _ _ _ _ _ _ _ _ _ _ _ _ _ _ _)
                    iexact Hg
                  isplitl [Ho]; · iexact Ho
                  isplitl [H0]; · iexact H0
                  isplitl [H1]; · iexact H1
                  isplitl [H2]; · iexact H2
                  isplitl [H3]; · iexact H3
                  isplitl [H4]; · iexact H4
                  isplitl [H5]; · iexact H5
                  unfold owns; iexists _; isplitr
                  swap; · iexact H6
                  ipureintro; exact View.read_writes_of_cover _ _ _ _ _ (cover0_A_6 c _ _ _ _ _ _ _ _ _ _ _ _ _ _ _ _ _ _ _ _ _ _ _ _ _ _ _ _ _ _)
      · by_cases h3 : (4 ≤ t.val / 8 % 18 ∧ t.val / 8 % 18 ≤ 5)
        · by_cases h4 : t.val / 8 % 18 = 6
          · exfalso; omega
          · by_cases h5 : (7 ≤ t.val / 8 % 18 ∧ t.val / 8 % 18 ≤ 8)
            · exfalso; omega
            · by_cases h6 : 72 ≤ t.val
              · exfalso; omega
              · rw [show (dats m 0 c).leavesExact 0 t = owns (c : Thread nD τ) (ms0_0 t) fullShare ((dats m 0 c).after 0 t) from by
      unfold Dat.leavesExact; rw [liveAt0_0 t], after0_0]
                rw [show (dats m 0 c).leavesExact 1 t = owns (c : Thread nD τ) (ms0_1 t) fullShare ((dats m 0 c).after 1 t) from by
      unfold Dat.leavesExact; rw [liveAt0_1 t], after0_1]
                rw [show (dats m 0 c).leavesExact 2 t = owns (c : Thread nD τ) (ms0_2 t) fullShare ((dats m 0 c).after 2 t) from by
      unfold Dat.leavesExact; rw [liveAt0_2 t], after0_2]
                rw [show (dats m 0 c).leavesExact 3 t = owns (c : Thread nD τ) (ms0_3 t) fullShare ((dats m 0 c).after 3 t) from by
      unfold Dat.leavesExact; rw [liveAt0_3 t], after0_3]
                rw [show (dats m 0 c).leavesExact 4 t = owns (c : Thread nD τ) (ms0_4 t) fullShare ((dats m 0 c).after 4 t) from by
      unfold Dat.leavesExact; rw [liveAt0_4 t], after0_4]
                rw [show (dats m 0 c).leavesExact 5 t = owns (c : Thread nD τ) (ms0_5 t) fullShare ((dats m 0 c).after 5 t) from by
      unfold Dat.leavesExact; rw [liveAt0_5 t], after0_5]
                rw [show (dats m 0 c).leavesExact 6 t = owns (c : Thread nD τ) (ms0_6 t) fullShare ((dats m 0 c).after 6 t) from by
      unfold Dat.leavesExact; rw [liveAt0_6_C t ((hcond0_0 t).mpr h0) (fun h => h1 ((hcond0_1 t).mp h)) (fun h => h2 ((hcond0_2 t).mp h)) ((hcond0_3 t).mpr h3) (fun h => h4 ((hcond0_4 t).mp h)) (fun h => h5 ((hcond0_5 t).mp h)) (fun h => h6 ((hcond0_6 t).mp h))], after0_6]
                by_cases hz : t.val = 0
                · exfalso; omega
                · rw [PhiS_castSucc m c t, PhiS_pos m c _ _ hz]
                  rw [outsAt0_C m c t h0 h1 h2 h3 h4 h5 h6]
                  unfold out0_C_6 sout0_C_0; (try dsimp only)
                  iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
                  iapply ((kernelRun0_C c (grid0.coords t) _ _ _ _ _ _ _ _ _ _ _ _ _ _ _ _ ((hcond0_0 t).mpr h0) (fun h => h1 ((hcond0_1 t).mp h)) (fun h => h2 ((hcond0_2 t).mp h)) ((hcond0_3 t).mpr h3) (fun h => h4 ((hcond0_4 t).mp h)) (fun h => h5 ((hcond0_5 t).mp h)) (fun h => h6 ((hcond0_6 t).mp h)) (iblk m c 0 t) (X0_1 m c t) (iblk m c 2 t) (iblk m c 3 t) (iblk m c 4 t) (iblk m c 5 t)).2.2 Set.univ _)
                  isplitl [H0]; · iexact H0
                  isplitl [H1]; · iexact H1
                  isplitl [H2]; · iexact H2
                  isplitl [H3]; · iexact H3
                  isplitl [H4]; · iexact H4
                  isplitl [H5]; · iexact H5
                  isplitl [H6]; · iexists _; iexact H6
                  isplitl [HS0]; · iexists _; iexact HS0
                  iintro ⟨H0, H1, H2, H3, H4, H5, ⟨%e6, H6⟩, ⟨%es0, HS0⟩⟩
                  isplitl [HS0 Hg]
                  · isplitl [HS0]
                    · unfold owns; iexists _; isplitr
                      swap; · iexact HS0
                      ipureintro; exact View.read_writes_of_cover _ _ _ _ _ (scover0_C_0 c _ _ _ _ _ _ _ _ _ _ _ _ _ _ _ _ _ _ _ _ _ _ _ _ _ _ _ _ _ _)
                    iexact Hg
                  isplitl [Ho]; · iexact Ho
                  isplitl [H0]; · iexact H0
                  isplitl [H1]; · iexact H1
                  isplitl [H2]; · iexact H2
                  isplitl [H3]; · iexact H3
                  isplitl [H4]; · iexact H4
                  isplitl [H5]; · iexact H5
                  unfold owns; iexists _; isplitr
                  swap; · iexact H6
                  ipureintro; exact View.read_writes_of_cover _ _ _ _ _ (cover0_C_6 c _ _ _ _ _ _ _ _ _ _ _ _ _ _ _ _ _ _ _ _ _ _ _ _ _ _ _ _ _ _)
        · by_cases h4 : t.val / 8 % 18 = 6
          · by_cases h5 : (7 ≤ t.val / 8 % 18 ∧ t.val / 8 % 18 ≤ 8)
            · exfalso; omega
            · by_cases h6 : 72 ≤ t.val
              · exfalso; omega
              · rw [show (dats m 0 c).leavesExact 0 t = owns (c : Thread nD τ) (ms0_0 t) fullShare ((dats m 0 c).after 0 t) from by
      unfold Dat.leavesExact; rw [liveAt0_0 t], after0_0]
                rw [show (dats m 0 c).leavesExact 1 t = owns (c : Thread nD τ) (ms0_1 t) fullShare ((dats m 0 c).after 1 t) from by
      unfold Dat.leavesExact; rw [liveAt0_1 t], after0_1]
                rw [show (dats m 0 c).leavesExact 2 t = owns (c : Thread nD τ) (ms0_2 t) fullShare ((dats m 0 c).after 2 t) from by
      unfold Dat.leavesExact; rw [liveAt0_2 t], after0_2]
                rw [show (dats m 0 c).leavesExact 3 t = owns (c : Thread nD τ) (ms0_3 t) fullShare ((dats m 0 c).after 3 t) from by
      unfold Dat.leavesExact; rw [liveAt0_3 t], after0_3]
                rw [show (dats m 0 c).leavesExact 4 t = owns (c : Thread nD τ) (ms0_4 t) fullShare ((dats m 0 c).after 4 t) from by
      unfold Dat.leavesExact; rw [liveAt0_4 t], after0_4]
                rw [show (dats m 0 c).leavesExact 5 t = owns (c : Thread nD τ) (ms0_5 t) fullShare ((dats m 0 c).after 5 t) from by
      unfold Dat.leavesExact; rw [liveAt0_5 t], after0_5]
                rw [show (dats m 0 c).leavesExact 6 t = owns (c : Thread nD τ) (ms0_6 t) fullShare ((dats m 0 c).after 6 t) from by
      unfold Dat.leavesExact; rw [liveAt0_6_E t ((hcond0_0 t).mpr h0) (fun h => h1 ((hcond0_1 t).mp h)) (fun h => h2 ((hcond0_2 t).mp h)) (fun h => h3 ((hcond0_3 t).mp h)) ((hcond0_4 t).mpr h4) (fun h => h5 ((hcond0_5 t).mp h)) (fun h => h6 ((hcond0_6 t).mp h))], after0_6]
                by_cases hz : t.val = 0
                · exfalso; omega
                · rw [PhiS_castSucc m c t, PhiS_pos m c _ _ hz]
                  rw [outsAt0_E m c t h0 h1 h2 h3 h4 h5 h6]
                  unfold out0_E_6 sout0_E_0; (try dsimp only)
                  iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
                  iapply ((kernelRun0_E c (grid0.coords t) _ _ _ _ _ _ _ _ _ _ _ _ _ _ _ _ ((hcond0_0 t).mpr h0) (fun h => h1 ((hcond0_1 t).mp h)) (fun h => h2 ((hcond0_2 t).mp h)) (fun h => h3 ((hcond0_3 t).mp h)) ((hcond0_4 t).mpr h4) (fun h => h5 ((hcond0_5 t).mp h)) (fun h => h6 ((hcond0_6 t).mp h)) (iblk m c 0 t) (X0_1 m c t) (iblk m c 2 t) (iblk m c 3 t) (iblk m c 4 t) (iblk m c 5 t)).2.2 Set.univ _)
                  isplitl [H0]; · iexact H0
                  isplitl [H1]; · iexact H1
                  isplitl [H2]; · iexact H2
                  isplitl [H3]; · iexact H3
                  isplitl [H4]; · iexact H4
                  isplitl [H5]; · iexact H5
                  isplitl [H6]; · iexists _; iexact H6
                  isplitl [HS0]; · iexists _; iexact HS0
                  iintro ⟨H0, H1, H2, H3, H4, H5, ⟨%e6, H6⟩, ⟨%es0, HS0⟩⟩
                  isplitl [HS0 Hg]
                  · isplitl [HS0]
                    · unfold owns; iexists _; isplitr
                      swap; · iexact HS0
                      ipureintro; exact View.read_writes_of_cover _ _ _ _ _ (scover0_E_0 c _ _ _ _ _ _ _ _ _ _ _ _ _ _ _ _ _ _ _ _ _ _ _ _ _ _ _ _ _ _)
                    iexact Hg
                  isplitl [Ho]; · iexact Ho
                  isplitl [H0]; · iexact H0
                  isplitl [H1]; · iexact H1
                  isplitl [H2]; · iexact H2
                  isplitl [H3]; · iexact H3
                  isplitl [H4]; · iexact H4
                  isplitl [H5]; · iexact H5
                  unfold owns; iexists _; isplitr
                  swap; · iexact H6
                  ipureintro; exact View.read_writes_of_cover _ _ _ _ _ (cover0_E_6 c _ _ _ _ _ _ _ _ _ _ _ _ _ _ _ _ _ _ _ _ _ _ _ _ _ _ _ _ _ _)
          · by_cases h5 : (7 ≤ t.val / 8 % 18 ∧ t.val / 8 % 18 ≤ 8)
            · by_cases h6 : 72 ≤ t.val
              · exfalso; omega
              · rw [show (dats m 0 c).leavesExact 0 t = owns (c : Thread nD τ) (ms0_0 t) fullShare ((dats m 0 c).after 0 t) from by
      unfold Dat.leavesExact; rw [liveAt0_0 t], after0_0]
                rw [show (dats m 0 c).leavesExact 1 t = owns (c : Thread nD τ) (ms0_1 t) fullShare ((dats m 0 c).after 1 t) from by
      unfold Dat.leavesExact; rw [liveAt0_1 t], after0_1]
                rw [show (dats m 0 c).leavesExact 2 t = owns (c : Thread nD τ) (ms0_2 t) fullShare ((dats m 0 c).after 2 t) from by
      unfold Dat.leavesExact; rw [liveAt0_2 t], after0_2]
                rw [show (dats m 0 c).leavesExact 3 t = owns (c : Thread nD τ) (ms0_3 t) fullShare ((dats m 0 c).after 3 t) from by
      unfold Dat.leavesExact; rw [liveAt0_3 t], after0_3]
                rw [show (dats m 0 c).leavesExact 4 t = owns (c : Thread nD τ) (ms0_4 t) fullShare ((dats m 0 c).after 4 t) from by
      unfold Dat.leavesExact; rw [liveAt0_4 t], after0_4]
                rw [show (dats m 0 c).leavesExact 5 t = owns (c : Thread nD τ) (ms0_5 t) fullShare ((dats m 0 c).after 5 t) from by
      unfold Dat.leavesExact; rw [liveAt0_5 t], after0_5]
                rw [show (dats m 0 c).leavesExact 6 t = owns (c : Thread nD τ) (ms0_6 t) fullShare ((dats m 0 c).after 6 t) from by
      unfold Dat.leavesExact; rw [liveAt0_6_G t ((hcond0_0 t).mpr h0) (fun h => h1 ((hcond0_1 t).mp h)) (fun h => h2 ((hcond0_2 t).mp h)) (fun h => h3 ((hcond0_3 t).mp h)) (fun h => h4 ((hcond0_4 t).mp h)) ((hcond0_5 t).mpr h5) (fun h => h6 ((hcond0_6 t).mp h))], after0_6]
                by_cases hz : t.val = 0
                · exfalso; omega
                · rw [PhiS_castSucc m c t, PhiS_pos m c _ _ hz]
                  rw [outsAt0_G m c t h0 h1 h2 h3 h4 h5 h6]
                  unfold out0_G_6 sout0_G_0; (try dsimp only)
                  iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
                  iapply ((kernelRun0_G c (grid0.coords t) _ _ _ _ _ _ _ _ _ _ _ _ _ _ _ _ ((hcond0_0 t).mpr h0) (fun h => h1 ((hcond0_1 t).mp h)) (fun h => h2 ((hcond0_2 t).mp h)) (fun h => h3 ((hcond0_3 t).mp h)) (fun h => h4 ((hcond0_4 t).mp h)) ((hcond0_5 t).mpr h5) (fun h => h6 ((hcond0_6 t).mp h)) (iblk m c 0 t) (X0_1 m c t) (iblk m c 2 t) (iblk m c 3 t) (iblk m c 4 t) (iblk m c 5 t)).2.2 Set.univ _)
                  isplitl [H0]; · iexact H0
                  isplitl [H1]; · iexact H1
                  isplitl [H2]; · iexact H2
                  isplitl [H3]; · iexact H3
                  isplitl [H4]; · iexact H4
                  isplitl [H5]; · iexact H5
                  isplitl [H6]; · iexists _; iexact H6
                  isplitl [HS0]; · iexists _; iexact HS0
                  iintro ⟨H0, H1, H2, H3, H4, H5, ⟨%e6, H6⟩, ⟨%es0, HS0⟩⟩
                  isplitl [HS0 Hg]
                  · isplitl [HS0]
                    · unfold owns; iexists _; isplitr
                      swap; · iexact HS0
                      ipureintro; exact View.read_writes_of_cover _ _ _ _ _ (scover0_G_0 c _ _ _ _ _ _ _ _ _ _ _ _ _ _ _ _ _ _ _ _ _ _ _ _ _ _ _ _ _ _)
                    iexact Hg
                  isplitl [Ho]; · iexact Ho
                  isplitl [H0]; · iexact H0
                  isplitl [H1]; · iexact H1
                  isplitl [H2]; · iexact H2
                  isplitl [H3]; · iexact H3
                  isplitl [H4]; · iexact H4
                  isplitl [H5]; · iexact H5
                  unfold owns; iexists _; isplitr
                  swap; · iexact H6
                  ipureintro; exact View.read_writes_of_cover _ _ _ _ _ (cover0_G_6 c _ _ _ _ _ _ _ _ _ _ _ _ _ _ _ _ _ _ _ _ _ _ _ _ _ _ _ _ _ _)
            · exfalso; omega
  · by_cases h1 : 9 * (t.val % 8) + 9 ≤ t.val / 8 % 18
    · by_cases h2 : t.val < 32
      · exfalso; omega
      · by_cases h3 : (4 ≤ t.val / 8 % 18 ∧ t.val / 8 % 18 ≤ 5)
        · exfalso; omega
        · by_cases h4 : t.val / 8 % 18 = 6
          · exfalso; omega
          · by_cases h5 : (7 ≤ t.val / 8 % 18 ∧ t.val / 8 % 18 ≤ 8)
            · exfalso; omega
            · by_cases h6 : 72 ≤ t.val
              · rw [show (dats m 0 c).leavesExact 0 t = owns (c : Thread nD τ) (ms0_0 t) fullShare ((dats m 0 c).after 0 t) from by
      unfold Dat.leavesExact; rw [liveAt0_0 t], after0_0]
                rw [show (dats m 0 c).leavesExact 1 t = owns (c : Thread nD τ) (ms0_1 t) fullShare ((dats m 0 c).after 1 t) from by
      unfold Dat.leavesExact; rw [liveAt0_1 t], after0_1]
                rw [show (dats m 0 c).leavesExact 2 t = owns (c : Thread nD τ) (ms0_2 t) fullShare ((dats m 0 c).after 2 t) from by
      unfold Dat.leavesExact; rw [liveAt0_2 t], after0_2]
                rw [show (dats m 0 c).leavesExact 3 t = owns (c : Thread nD τ) (ms0_3 t) fullShare ((dats m 0 c).after 3 t) from by
      unfold Dat.leavesExact; rw [liveAt0_3 t], after0_3]
                rw [show (dats m 0 c).leavesExact 4 t = owns (c : Thread nD τ) (ms0_4 t) fullShare ((dats m 0 c).after 4 t) from by
      unfold Dat.leavesExact; rw [liveAt0_4 t], after0_4]
                rw [show (dats m 0 c).leavesExact 5 t = owns (c : Thread nD τ) (ms0_5 t) fullShare ((dats m 0 c).after 5 t) from by
      unfold Dat.leavesExact; rw [liveAt0_5 t], after0_5]
                rw [show (dats m 0 c).leavesExact 6 t = owns (c : Thread nD τ) (ms0_6 t) fullShare ((dats m 0 c).after 6 t) from by
      unfold Dat.leavesExact; rw [liveAt0_6_I t (fun h => h0 ((hcond0_0 t).mp h)) ((hcond0_1 t).mpr h1) (fun h => h2 ((hcond0_2 t).mp h)) (fun h => h3 ((hcond0_3 t).mp h)) (fun h => h4 ((hcond0_4 t).mp h)) (fun h => h5 ((hcond0_5 t).mp h)) ((hcond0_6 t).mpr h6)], after0_6]
                by_cases hz : t.val = 0
                · exfalso; omega
                · rw [PhiS_castSucc m c t, PhiS_pos m c _ _ hz]
                  rw [outsAt0_I m c t h0 h1 h2 h3 h4 h5 h6]
                  unfold out0_I_6 sout0_I_0; (try dsimp only)
                  iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
                  iapply ((kernelRun0_I c (grid0.coords t) _ _ _ _ _ _ _ _ _ _ _ _ _ _ _ _ (fun h => h0 ((hcond0_0 t).mp h)) ((hcond0_1 t).mpr h1) (fun h => h2 ((hcond0_2 t).mp h)) (fun h => h3 ((hcond0_3 t).mp h)) (fun h => h4 ((hcond0_4 t).mp h)) (fun h => h5 ((hcond0_5 t).mp h)) ((hcond0_6 t).mpr h6) (iblk m c 0 t) (X0_1 m c t) (iblk m c 2 t) (iblk m c 3 t) (iblk m c 4 t) (iblk m c 5 t)).2.2 Set.univ _)
                  isplitl [H0]; · iexact H0
                  isplitl [H1]; · iexact H1
                  isplitl [H2]; · iexact H2
                  isplitl [H3]; · iexact H3
                  isplitl [H4]; · iexact H4
                  isplitl [H5]; · iexact H5
                  isplitl [H6]; · iexists _; iexact H6
                  isplitl [HS0]; · iexists _; iexact HS0
                  iintro ⟨H0, H1, H2, H3, H4, H5, ⟨%e6, H6⟩, ⟨%es0, HS0⟩⟩
                  isplitl [HS0 Hg]
                  · isplitl [HS0]
                    · unfold owns; iexists _; isplitr
                      swap; · iexact HS0
                      ipureintro; exact View.read_writes_of_cover _ _ _ _ _ (scover0_I_0 c _ _ _ _ _ _ _ _ _ _ _ _ _ _ _ _ _ _ _ _ _ _ _ _ _ _ _ _ _ _)
                    iexact Hg
                  isplitl [Ho]; · iexact Ho
                  isplitl [H0]; · iexact H0
                  isplitl [H1]; · iexact H1
                  isplitl [H2]; · iexact H2
                  isplitl [H3]; · iexact H3
                  isplitl [H4]; · iexact H4
                  isplitl [H5]; · iexact H5
                  unfold owns; iexists _; isplitr
                  swap; · iexact H6
                  ipureintro; exact View.read_writes_of_cover _ _ _ _ _ (cover0_I_6 c _ _ _ _ _ _ _ _ _ _ _ _ _ _ _ _ _ _ _ _ _ _ _ _ _ _ _ _ _ _)
              · exfalso; omega
    · by_cases h2 : t.val < 32
      · by_cases h3 : (4 ≤ t.val / 8 % 18 ∧ t.val / 8 % 18 ≤ 5)
        · exfalso; omega
        · by_cases h4 : t.val / 8 % 18 = 6
          · exfalso; omega
          · by_cases h5 : (7 ≤ t.val / 8 % 18 ∧ t.val / 8 % 18 ≤ 8)
            · exfalso; omega
            · by_cases h6 : 72 ≤ t.val
              · exfalso; omega
              · rw [show (dats m 0 c).leavesExact 0 t = owns (c : Thread nD τ) (ms0_0 t) fullShare ((dats m 0 c).after 0 t) from by
      unfold Dat.leavesExact; rw [liveAt0_0 t], after0_0]
                rw [show (dats m 0 c).leavesExact 1 t = owns (c : Thread nD τ) (ms0_1 t) fullShare ((dats m 0 c).after 1 t) from by
      unfold Dat.leavesExact; rw [liveAt0_1 t], after0_1]
                rw [show (dats m 0 c).leavesExact 2 t = owns (c : Thread nD τ) (ms0_2 t) fullShare ((dats m 0 c).after 2 t) from by
      unfold Dat.leavesExact; rw [liveAt0_2 t], after0_2]
                rw [show (dats m 0 c).leavesExact 3 t = owns (c : Thread nD τ) (ms0_3 t) fullShare ((dats m 0 c).after 3 t) from by
      unfold Dat.leavesExact; rw [liveAt0_3 t], after0_3]
                rw [show (dats m 0 c).leavesExact 4 t = owns (c : Thread nD τ) (ms0_4 t) fullShare ((dats m 0 c).after 4 t) from by
      unfold Dat.leavesExact; rw [liveAt0_4 t], after0_4]
                rw [show (dats m 0 c).leavesExact 5 t = owns (c : Thread nD τ) (ms0_5 t) fullShare ((dats m 0 c).after 5 t) from by
      unfold Dat.leavesExact; rw [liveAt0_5 t], after0_5]
                rw [show (dats m 0 c).leavesExact 6 t = owns (c : Thread nD τ) (ms0_6 t) fullShare ((dats m 0 c).after 6 t) from by
      unfold Dat.leavesExact; rw [liveAt0_6_B t (fun h => h0 ((hcond0_0 t).mp h)) (fun h => h1 ((hcond0_1 t).mp h)) ((hcond0_2 t).mpr h2) (fun h => h3 ((hcond0_3 t).mp h)) (fun h => h4 ((hcond0_4 t).mp h)) (fun h => h5 ((hcond0_5 t).mp h)) (fun h => h6 ((hcond0_6 t).mp h))], after0_6]
                by_cases hz : t.val = 0
                · exfalso; omega
                · rw [PhiS_castSucc m c t, PhiS_pos m c _ _ hz]
                  rw [outsAt0_B m c t h0 h1 h2 h3 h4 h5 h6]
                  unfold out0_B_6 sout0_B_0; (try dsimp only)
                  iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
                  iapply ((kernelRun0_B c (grid0.coords t) _ _ _ _ _ _ _ _ _ _ _ _ _ _ _ _ (fun h => h0 ((hcond0_0 t).mp h)) (fun h => h1 ((hcond0_1 t).mp h)) ((hcond0_2 t).mpr h2) (fun h => h3 ((hcond0_3 t).mp h)) (fun h => h4 ((hcond0_4 t).mp h)) (fun h => h5 ((hcond0_5 t).mp h)) (fun h => h6 ((hcond0_6 t).mp h)) (iblk m c 0 t) (X0_1 m c t) (iblk m c 2 t) (iblk m c 3 t) (iblk m c 4 t) (iblk m c 5 t) _).2.2 Set.univ _)
                  isplitl [H0]; · iexact H0
                  isplitl [H1]; · iexact H1
                  isplitl [H2]; · iexact H2
                  isplitl [H3]; · iexact H3
                  isplitl [H4]; · iexact H4
                  isplitl [H5]; · iexact H5
                  isplitl [H6]; · iexists _; iexact H6
                  isplitl [HS0]; · iexact HS0
                  iintro ⟨H0, H1, H2, H3, H4, H5, ⟨%e6, H6⟩, HS0⟩
                  isplitl [HS0 Hg]
                  · isplitl [HS0]
                    · iexact HS0
                    iexact Hg
                  isplitl [Ho]; · iexact Ho
                  isplitl [H0]; · iexact H0
                  isplitl [H1]; · iexact H1
                  isplitl [H2]; · iexact H2
                  isplitl [H3]; · iexact H3
                  isplitl [H4]; · iexact H4
                  isplitl [H5]; · iexact H5
                  unfold owns; iexists _; isplitr
                  swap; · iexact H6
                  ipureintro; exact View.read_writes_of_cover _ _ _ _ _ (cover0_B_6 c _ _ _ _ _ _ _ _ _ _ _ _ _ _ _ _ _ _ _ _ _ _ _ _ _ _ _ _ _ _ _)
      · by_cases h3 : (4 ≤ t.val / 8 % 18 ∧ t.val / 8 % 18 ≤ 5)
        · by_cases h4 : t.val / 8 % 18 = 6
          · exfalso; omega
          · by_cases h5 : (7 ≤ t.val / 8 % 18 ∧ t.val / 8 % 18 ≤ 8)
            · exfalso; omega
            · by_cases h6 : 72 ≤ t.val
              · exfalso; omega
              · rw [show (dats m 0 c).leavesExact 0 t = owns (c : Thread nD τ) (ms0_0 t) fullShare ((dats m 0 c).after 0 t) from by
      unfold Dat.leavesExact; rw [liveAt0_0 t], after0_0]
                rw [show (dats m 0 c).leavesExact 1 t = owns (c : Thread nD τ) (ms0_1 t) fullShare ((dats m 0 c).after 1 t) from by
      unfold Dat.leavesExact; rw [liveAt0_1 t], after0_1]
                rw [show (dats m 0 c).leavesExact 2 t = owns (c : Thread nD τ) (ms0_2 t) fullShare ((dats m 0 c).after 2 t) from by
      unfold Dat.leavesExact; rw [liveAt0_2 t], after0_2]
                rw [show (dats m 0 c).leavesExact 3 t = owns (c : Thread nD τ) (ms0_3 t) fullShare ((dats m 0 c).after 3 t) from by
      unfold Dat.leavesExact; rw [liveAt0_3 t], after0_3]
                rw [show (dats m 0 c).leavesExact 4 t = owns (c : Thread nD τ) (ms0_4 t) fullShare ((dats m 0 c).after 4 t) from by
      unfold Dat.leavesExact; rw [liveAt0_4 t], after0_4]
                rw [show (dats m 0 c).leavesExact 5 t = owns (c : Thread nD τ) (ms0_5 t) fullShare ((dats m 0 c).after 5 t) from by
      unfold Dat.leavesExact; rw [liveAt0_5 t], after0_5]
                rw [show (dats m 0 c).leavesExact 6 t = owns (c : Thread nD τ) (ms0_6 t) fullShare ((dats m 0 c).after 6 t) from by
      unfold Dat.leavesExact; rw [liveAt0_6_D t (fun h => h0 ((hcond0_0 t).mp h)) (fun h => h1 ((hcond0_1 t).mp h)) (fun h => h2 ((hcond0_2 t).mp h)) ((hcond0_3 t).mpr h3) (fun h => h4 ((hcond0_4 t).mp h)) (fun h => h5 ((hcond0_5 t).mp h)) (fun h => h6 ((hcond0_6 t).mp h))], after0_6]
                by_cases hz : t.val = 0
                · exfalso; omega
                · rw [PhiS_castSucc m c t, PhiS_pos m c _ _ hz]
                  rw [outsAt0_D m c t h0 h1 h2 h3 h4 h5 h6]
                  unfold out0_D_6 sout0_D_0; (try dsimp only)
                  iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
                  iapply ((kernelRun0_D c (grid0.coords t) _ _ _ _ _ _ _ _ _ _ _ _ _ _ _ _ (fun h => h0 ((hcond0_0 t).mp h)) (fun h => h1 ((hcond0_1 t).mp h)) (fun h => h2 ((hcond0_2 t).mp h)) ((hcond0_3 t).mpr h3) (fun h => h4 ((hcond0_4 t).mp h)) (fun h => h5 ((hcond0_5 t).mp h)) (fun h => h6 ((hcond0_6 t).mp h)) (iblk m c 0 t) (X0_1 m c t) (iblk m c 2 t) (iblk m c 3 t) (iblk m c 4 t) (iblk m c 5 t) _).2.2 Set.univ _)
                  isplitl [H0]; · iexact H0
                  isplitl [H1]; · iexact H1
                  isplitl [H2]; · iexact H2
                  isplitl [H3]; · iexact H3
                  isplitl [H4]; · iexact H4
                  isplitl [H5]; · iexact H5
                  isplitl [H6]; · iexists _; iexact H6
                  isplitl [HS0]; · iexact HS0
                  iintro ⟨H0, H1, H2, H3, H4, H5, ⟨%e6, H6⟩, HS0⟩
                  isplitl [HS0 Hg]
                  · isplitl [HS0]
                    · iexact HS0
                    iexact Hg
                  isplitl [Ho]; · iexact Ho
                  isplitl [H0]; · iexact H0
                  isplitl [H1]; · iexact H1
                  isplitl [H2]; · iexact H2
                  isplitl [H3]; · iexact H3
                  isplitl [H4]; · iexact H4
                  isplitl [H5]; · iexact H5
                  unfold owns; iexists _; isplitr
                  swap; · iexact H6
                  ipureintro; exact View.read_writes_of_cover _ _ _ _ _ (cover0_D_6 c _ _ _ _ _ _ _ _ _ _ _ _ _ _ _ _ _ _ _ _ _ _ _ _ _ _ _ _ _ _ _)
        · by_cases h4 : t.val / 8 % 18 = 6
          · by_cases h5 : (7 ≤ t.val / 8 % 18 ∧ t.val / 8 % 18 ≤ 8)
            · exfalso; omega
            · by_cases h6 : 72 ≤ t.val
              · exfalso; omega
              · rw [show (dats m 0 c).leavesExact 0 t = owns (c : Thread nD τ) (ms0_0 t) fullShare ((dats m 0 c).after 0 t) from by
      unfold Dat.leavesExact; rw [liveAt0_0 t], after0_0]
                rw [show (dats m 0 c).leavesExact 1 t = owns (c : Thread nD τ) (ms0_1 t) fullShare ((dats m 0 c).after 1 t) from by
      unfold Dat.leavesExact; rw [liveAt0_1 t], after0_1]
                rw [show (dats m 0 c).leavesExact 2 t = owns (c : Thread nD τ) (ms0_2 t) fullShare ((dats m 0 c).after 2 t) from by
      unfold Dat.leavesExact; rw [liveAt0_2 t], after0_2]
                rw [show (dats m 0 c).leavesExact 3 t = owns (c : Thread nD τ) (ms0_3 t) fullShare ((dats m 0 c).after 3 t) from by
      unfold Dat.leavesExact; rw [liveAt0_3 t], after0_3]
                rw [show (dats m 0 c).leavesExact 4 t = owns (c : Thread nD τ) (ms0_4 t) fullShare ((dats m 0 c).after 4 t) from by
      unfold Dat.leavesExact; rw [liveAt0_4 t], after0_4]
                rw [show (dats m 0 c).leavesExact 5 t = owns (c : Thread nD τ) (ms0_5 t) fullShare ((dats m 0 c).after 5 t) from by
      unfold Dat.leavesExact; rw [liveAt0_5 t], after0_5]
                rw [show (dats m 0 c).leavesExact 6 t = owns (c : Thread nD τ) (ms0_6 t) fullShare ((dats m 0 c).after 6 t) from by
      unfold Dat.leavesExact; rw [liveAt0_6_F t (fun h => h0 ((hcond0_0 t).mp h)) (fun h => h1 ((hcond0_1 t).mp h)) (fun h => h2 ((hcond0_2 t).mp h)) (fun h => h3 ((hcond0_3 t).mp h)) ((hcond0_4 t).mpr h4) (fun h => h5 ((hcond0_5 t).mp h)) (fun h => h6 ((hcond0_6 t).mp h))], after0_6]
                by_cases hz : t.val = 0
                · exfalso; omega
                · rw [PhiS_castSucc m c t, PhiS_pos m c _ _ hz]
                  rw [outsAt0_F m c t h0 h1 h2 h3 h4 h5 h6]
                  unfold out0_F_6 sout0_F_0; (try dsimp only)
                  iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
                  iapply ((kernelRun0_F c (grid0.coords t) _ _ _ _ _ _ _ _ _ _ _ _ _ _ _ _ (fun h => h0 ((hcond0_0 t).mp h)) (fun h => h1 ((hcond0_1 t).mp h)) (fun h => h2 ((hcond0_2 t).mp h)) (fun h => h3 ((hcond0_3 t).mp h)) ((hcond0_4 t).mpr h4) (fun h => h5 ((hcond0_5 t).mp h)) (fun h => h6 ((hcond0_6 t).mp h)) (iblk m c 0 t) (X0_1 m c t) (iblk m c 2 t) (iblk m c 3 t) (iblk m c 4 t) (iblk m c 5 t) _).2.2 Set.univ _)
                  isplitl [H0]; · iexact H0
                  isplitl [H1]; · iexact H1
                  isplitl [H2]; · iexact H2
                  isplitl [H3]; · iexact H3
                  isplitl [H4]; · iexact H4
                  isplitl [H5]; · iexact H5
                  isplitl [H6]; · iexists _; iexact H6
                  isplitl [HS0]; · iexact HS0
                  iintro ⟨H0, H1, H2, H3, H4, H5, ⟨%e6, H6⟩, HS0⟩
                  isplitl [HS0 Hg]
                  · isplitl [HS0]
                    · iexact HS0
                    iexact Hg
                  isplitl [Ho]; · iexact Ho
                  isplitl [H0]; · iexact H0
                  isplitl [H1]; · iexact H1
                  isplitl [H2]; · iexact H2
                  isplitl [H3]; · iexact H3
                  isplitl [H4]; · iexact H4
                  isplitl [H5]; · iexact H5
                  unfold owns; iexists _; isplitr
                  swap; · iexact H6
                  ipureintro; exact View.read_writes_of_cover _ _ _ _ _ (cover0_F_6 c _ _ _ _ _ _ _ _ _ _ _ _ _ _ _ _ _ _ _ _ _ _ _ _ _ _ _ _ _ _ _)
          · by_cases h5 : (7 ≤ t.val / 8 % 18 ∧ t.val / 8 % 18 ≤ 8)
            · by_cases h6 : 72 ≤ t.val
              · exfalso; omega
              · rw [show (dats m 0 c).leavesExact 0 t = owns (c : Thread nD τ) (ms0_0 t) fullShare ((dats m 0 c).after 0 t) from by
      unfold Dat.leavesExact; rw [liveAt0_0 t], after0_0]
                rw [show (dats m 0 c).leavesExact 1 t = owns (c : Thread nD τ) (ms0_1 t) fullShare ((dats m 0 c).after 1 t) from by
      unfold Dat.leavesExact; rw [liveAt0_1 t], after0_1]
                rw [show (dats m 0 c).leavesExact 2 t = owns (c : Thread nD τ) (ms0_2 t) fullShare ((dats m 0 c).after 2 t) from by
      unfold Dat.leavesExact; rw [liveAt0_2 t], after0_2]
                rw [show (dats m 0 c).leavesExact 3 t = owns (c : Thread nD τ) (ms0_3 t) fullShare ((dats m 0 c).after 3 t) from by
      unfold Dat.leavesExact; rw [liveAt0_3 t], after0_3]
                rw [show (dats m 0 c).leavesExact 4 t = owns (c : Thread nD τ) (ms0_4 t) fullShare ((dats m 0 c).after 4 t) from by
      unfold Dat.leavesExact; rw [liveAt0_4 t], after0_4]
                rw [show (dats m 0 c).leavesExact 5 t = owns (c : Thread nD τ) (ms0_5 t) fullShare ((dats m 0 c).after 5 t) from by
      unfold Dat.leavesExact; rw [liveAt0_5 t], after0_5]
                rw [show (dats m 0 c).leavesExact 6 t = owns (c : Thread nD τ) (ms0_6 t) fullShare ((dats m 0 c).after 6 t) from by
      unfold Dat.leavesExact; rw [liveAt0_6_H t (fun h => h0 ((hcond0_0 t).mp h)) (fun h => h1 ((hcond0_1 t).mp h)) (fun h => h2 ((hcond0_2 t).mp h)) (fun h => h3 ((hcond0_3 t).mp h)) (fun h => h4 ((hcond0_4 t).mp h)) ((hcond0_5 t).mpr h5) (fun h => h6 ((hcond0_6 t).mp h))], after0_6]
                by_cases hz : t.val = 0
                · exfalso; omega
                · rw [PhiS_castSucc m c t, PhiS_pos m c _ _ hz]
                  rw [outsAt0_H m c t h0 h1 h2 h3 h4 h5 h6]
                  unfold out0_H_6 sout0_H_0; (try dsimp only)
                  iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
                  iapply ((kernelRun0_H c (grid0.coords t) _ _ _ _ _ _ _ _ _ _ _ _ _ _ _ _ (fun h => h0 ((hcond0_0 t).mp h)) (fun h => h1 ((hcond0_1 t).mp h)) (fun h => h2 ((hcond0_2 t).mp h)) (fun h => h3 ((hcond0_3 t).mp h)) (fun h => h4 ((hcond0_4 t).mp h)) ((hcond0_5 t).mpr h5) (fun h => h6 ((hcond0_6 t).mp h)) (iblk m c 0 t) (X0_1 m c t) (iblk m c 2 t) (iblk m c 3 t) (iblk m c 4 t) (iblk m c 5 t) _).2.2 Set.univ _)
                  isplitl [H0]; · iexact H0
                  isplitl [H1]; · iexact H1
                  isplitl [H2]; · iexact H2
                  isplitl [H3]; · iexact H3
                  isplitl [H4]; · iexact H4
                  isplitl [H5]; · iexact H5
                  isplitl [H6]; · iexists _; iexact H6
                  isplitl [HS0]; · iexact HS0
                  iintro ⟨H0, H1, H2, H3, H4, H5, ⟨%e6, H6⟩, HS0⟩
                  isplitl [HS0 Hg]
                  · isplitl [HS0]
                    · iexact HS0
                    iexact Hg
                  isplitl [Ho]; · iexact Ho
                  isplitl [H0]; · iexact H0
                  isplitl [H1]; · iexact H1
                  isplitl [H2]; · iexact H2
                  isplitl [H3]; · iexact H3
                  isplitl [H4]; · iexact H4
                  isplitl [H5]; · iexact H5
                  unfold owns; iexists _; isplitr
                  swap; · iexact H6
                  ipureintro; exact View.read_writes_of_cover _ _ _ _ _ (cover0_H_6 c _ _ _ _ _ _ _ _ _ _ _ _ _ _ _ _ _ _ _ _ _ _ _ _ _ _ _ _ _ _ _)
            · by_cases h6 : 72 ≤ t.val
              · rw [show (dats m 0 c).leavesExact 0 t = owns (c : Thread nD τ) (ms0_0 t) fullShare ((dats m 0 c).after 0 t) from by
      unfold Dat.leavesExact; rw [liveAt0_0 t], after0_0]
                rw [show (dats m 0 c).leavesExact 1 t = owns (c : Thread nD τ) (ms0_1 t) fullShare ((dats m 0 c).after 1 t) from by
      unfold Dat.leavesExact; rw [liveAt0_1 t], after0_1]
                rw [show (dats m 0 c).leavesExact 2 t = owns (c : Thread nD τ) (ms0_2 t) fullShare ((dats m 0 c).after 2 t) from by
      unfold Dat.leavesExact; rw [liveAt0_2 t], after0_2]
                rw [show (dats m 0 c).leavesExact 3 t = owns (c : Thread nD τ) (ms0_3 t) fullShare ((dats m 0 c).after 3 t) from by
      unfold Dat.leavesExact; rw [liveAt0_3 t], after0_3]
                rw [show (dats m 0 c).leavesExact 4 t = owns (c : Thread nD τ) (ms0_4 t) fullShare ((dats m 0 c).after 4 t) from by
      unfold Dat.leavesExact; rw [liveAt0_4 t], after0_4]
                rw [show (dats m 0 c).leavesExact 5 t = owns (c : Thread nD τ) (ms0_5 t) fullShare ((dats m 0 c).after 5 t) from by
      unfold Dat.leavesExact; rw [liveAt0_5 t], after0_5]
                rw [show (dats m 0 c).leavesExact 6 t = owns (c : Thread nD τ) (ms0_6 t) fullShare ((dats m 0 c).after 6 t) from by
      unfold Dat.leavesExact; rw [liveAt0_6_J t (fun h => h0 ((hcond0_0 t).mp h)) (fun h => h1 ((hcond0_1 t).mp h)) (fun h => h2 ((hcond0_2 t).mp h)) (fun h => h3 ((hcond0_3 t).mp h)) (fun h => h4 ((hcond0_4 t).mp h)) (fun h => h5 ((hcond0_5 t).mp h)) ((hcond0_6 t).mpr h6)], after0_6]
                by_cases hz : t.val = 0
                · exfalso; omega
                · rw [PhiS_castSucc m c t, PhiS_pos m c _ _ hz]
                  rw [outsAt0_J m c t h0 h1 h2 h3 h4 h5 h6]
                  unfold out0_J_6 sout0_J_0; (try dsimp only)
                  iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
                  iapply ((kernelRun0_J c (grid0.coords t) _ _ _ _ _ _ _ _ _ _ _ _ _ _ _ _ (fun h => h0 ((hcond0_0 t).mp h)) (fun h => h1 ((hcond0_1 t).mp h)) (fun h => h2 ((hcond0_2 t).mp h)) (fun h => h3 ((hcond0_3 t).mp h)) (fun h => h4 ((hcond0_4 t).mp h)) (fun h => h5 ((hcond0_5 t).mp h)) ((hcond0_6 t).mpr h6) (iblk m c 0 t) (X0_1 m c t) (iblk m c 2 t) (iblk m c 3 t) (iblk m c 4 t) (iblk m c 5 t) _).2.2 Set.univ _)
                  isplitl [H0]; · iexact H0
                  isplitl [H1]; · iexact H1
                  isplitl [H2]; · iexact H2
                  isplitl [H3]; · iexact H3
                  isplitl [H4]; · iexact H4
                  isplitl [H5]; · iexact H5
                  isplitl [H6]; · iexists _; iexact H6
                  isplitl [HS0]; · iexact HS0
                  iintro ⟨H0, H1, H2, H3, H4, H5, ⟨%e6, H6⟩, HS0⟩
                  isplitl [HS0 Hg]
                  · isplitl [HS0]
                    · iexact HS0
                    iexact Hg
                  isplitl [Ho]; · iexact Ho
                  isplitl [H0]; · iexact H0
                  isplitl [H1]; · iexact H1
                  isplitl [H2]; · iexact H2
                  isplitl [H3]; · iexact H3
                  isplitl [H4]; · iexact H4
                  isplitl [H5]; · iexact H5
                  unfold owns; iexists _; isplitr
                  swap; · iexact H6
                  ipureintro; exact View.read_writes_of_cover _ _ _ _ _ (cover0_J_6 c _ _ _ _ _ _ _ _ _ _ _ _ _ _ _ _ _ _ _ _ _ _ _ _ _ _ _ _ _ _ _)
              · exfalso; omega

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 144 := N_0; omega)

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The run: every execution ends, and the arrays end as the data say. -/
theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- Every execution ends with the arguments unchanged. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.InprojIdeal.Inp

end
-- ==== Proof.InprojArr.lean ====
module

public import proofs.«01_k».proof.Proof.InprojRun
public import Idealize.ShloMosaic.Lib.Pipeline.Value

@[expose] public section

noncomputable section

namespace Cert.InprojIdeal.Inp

open Cert.InprojIdeal Cert.InprojIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- What a grid point writes back to the output array. -/
theorem flushed6 (c : Dev nD) (t : Fin cfg0.N) :
    (dats m 0 c).flushed 6 t = (cfg0.win 6).cut (grid0.coords t) ((outsAt0 m c t.val t.isLt).1) := by
  show (cfg0.win 6).cut (grid0.coords t) ((dats m 0 c).after 6 t) = _
  rw [after0_6]

/-- Distinct grid points write distinct blocks. -/
theorem idx_inj6 : ∀ t t' : Fin cfg0.N, win0_6.index t = win0_6.index t' → t = t' :=
  (by decide +kernel : ∀ t t' : Fin grid0.N, win0_6.index t = win0_6.index t' → t = t')

/-- So the blocks share no index. -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- A block of the final array is what its grid point wrote back. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- The output array after the run. -/
theorem post6 (r : PUnit × MemSt nD τ sig (Elt F)) (h : Pipeline.FramePost cfgs (dats m) 0 (V m) r) (c : Dev nD) :
    r.2.mem ((c : Thread nD τ).loc main_v23) = (dats m 0 c).arrAt 6 cfg0.N :=
  (h c).1 6

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

abbrev run6Of (i : S8192x9216.Idx) : ℕ := 1 * ((i 0).val / 1024 - 0) + 8 * ((i 1).val / 512 - 0)
set_option backward.proofsInPublic true in
abbrev loc6Of (i : S8192x9216.Idx) : S1024x512.Idx := fun a => match a with
  | ⟨0, _⟩ => ⟨(i 0).val % 1024, Nat.mod_lt _ (by decide)⟩
  | ⟨1, _⟩ => ⟨(i 1).val % 512, Nat.mod_lt _ (by decide)⟩
abbrev pt6Of (i : S8192x9216.Idx) : ℕ := run6Of i

/-- What the output array ends holding at each index: the block of the grid point that writes it, at the index within it. -/
def G6 (c : Dev nD) : Buf (Elt F) ((c : Thread nD τ).loc main_v23) := fun i =>
  if h : pt6Of i < cfg0.N then (outsAt0 m c (pt6Of i) h).1 (loc6Of i)
  else V m c (Pipeline.arrRef spec0 6) i

/-- The block indices of the output, over the grid. -/
theorem idx_facts6 : ∀ t : Fin cfg0.N, 0 ≤ win0_6.index t (0 : Fin 2) ∧ win0_6.index t (0 : Fin 2) ≤ 7
    ∧ 0 ≤ win0_6.index t (1 : Fin 2) ∧ win0_6.index t (1 : Fin 2) ≤ 17
    ∧ 1 * (win0_6.index t (0 : Fin 2) - 0) + 8 * (win0_6.index t (1 : Fin 2) - 0) = t.val :=
  (by decide +kernel : ∀ t : Fin grid0.N, _)

abbrev onto6Pt (q0 : Fin 8) (q1 : Fin 18) : Fin grid0.N :=
  ⟨1 * q0.val + 8 * q1.val, lt_of_lt_of_eq (by omega) N_0.symm⟩
/-- Every block of the output is written by a grid point. -/
theorem idx_onto6 : ∀ (q0 : Fin 8) (q1 : Fin 18), ∃ t : Fin cfg0.N, (cfg0.win 6).flush t = true ∧ win0_6.index t = ![q0.val + 0, q1.val + 0] :=
  fun q0 q1 => ⟨onto6Pt q0 q1, (by decide +kernel : ∀ (q0 : Fin 8) (q1 : Fin 18), win0_6.flush (onto6Pt q0 q1) = true ∧ win0_6.index (onto6Pt q0 q1) = ![q0.val + 0, q1.val + 0]) q0 q1⟩

/-- What a grid point writes back is its block of `G6`. -/
theorem flushed6_eq (c : Dev nD) (t : Fin cfg0.N) (hf : (cfg0.win 6).flush t = true) :
    (dats m 0 c).flushed 6 t = ((cfg0.win 6).blk t).view.read (Elt F) (G6 m c) := by
  show (cfg0.win 6).cut (grid0.coords t) ((dats m 0 c).after 6 t) = _
  rw [after0_6]
  obtain ⟨e0, e1, e2⟩ := idx_facts6 t
  funext y
  have hy0 : (y 0).val < 1024 := (y 0).isLt
  have hy1 : (y 1).val < 512 := (y 1).isLt
  have hb0 : (((cfg0.win 6).blk t).view.emb y 0).val = win0_6.index t (0 : Fin 2) * 1024 + 1 * (y 0).val := rfl
  have hb1 : (((cfg0.win 6).blk t).view.emb y 1).val = win0_6.index t (1 : Fin 2) * 512 + 1 * (y 1).val := rfl
  have hr : run6Of (((cfg0.win 6).blk t).view.emb y) = t.val := by
    show 1 * ((((cfg0.win 6).blk t).view.emb y 0).val / 1024 - 0) + 8 * ((((cfg0.win 6).blk t).view.emb y 1).val / 512 - 0) = _
    rw [hb0, hb1]
    rw [show (win0_6.index t (0 : Fin 2) * 1024 + 1 * (y 0).val) / 1024 = win0_6.index t (0 : Fin 2) from by omega]; rw [show (win0_6.index t (1 : Fin 2) * 512 + 1 * (y 1).val) / 512 = win0_6.index t (1 : Fin 2) from by omega]
    omega
  have hl : loc6Of (((cfg0.win 6).blk t).view.emb y) = (cfg0.win 6).xinj (grid0.coords t) y := by
    funext a; apply Fin.ext
    match a with
    | ⟨0, _⟩ => show (((cfg0.win 6).blk t).view.emb y 0).val % 1024 = (y 0).val; rw [hb0]; omega
    | ⟨1, _⟩ => show (((cfg0.win 6).blk t).view.emb y 1).val % 512 = (y 1).val; rw [hb1]; omega
  have hp : pt6Of (((cfg0.win 6).blk t).view.emb y) = t.val := by
    exact hr
  show (outsAt0 m c t.val t.isLt).1 ((cfg0.win 6).xinj (grid0.coords t) y) = G6 m c (((cfg0.win 6).blk t).view.emb y)
  unfold G6
  rw [dif_pos (by rw [hp]; exact t.isLt), hl]
  have e : ∀ (n n' : ℕ) (h : n < cfg0.N) (h' : n' < cfg0.N), n = n' → outsAt0 m c n h = outsAt0 m c n' h' := by
    intro n n' h h' hnn
    subst hnn
    rfl
  exact congrFun (congrArg Prod.fst (e _ _ _ _ hp.symm)) _

/-- The indices of a block. -/
theorem mem_blk6 (t : Fin cfg0.N) (i : S8192x9216.Idx) :
    i ∈ ((cfg0.win 6).blk t).view.set ↔ ∀ a : Fin 2, win0_6.index t a * S1024x512.size a ≤ (i a).val ∧ (i a).val < win0_6.index t a * S1024x512.size a + S1024x512.size a := by
  show i ∈ ((View.whole main_v23).slice (win0_6.rect t)).set ↔ _
  rw [View.set_slice_whole, Rect.mem_set_unit]
  exact Iff.rfl

/-- Every index is in a block. -/
theorem covered_iff6 (i : S8192x9216.Idx) :
    (∃ t : Fin cfg0.N, (cfg0.win 6).flush t = true ∧ i ∈ ((cfg0.win 6).blk t).view.set) ↔ 0 ≤ (i 0).val ∧ (i 0).val < 8192 ∧ 0 ≤ (i 1).val ∧ (i 1).val < 9216 := by
  constructor
  · rintro ⟨t, -, hi⟩
    rw [mem_blk6] at hi
    have b0 : win0_6.index t (0 : Fin 2) * 1024 ≤ (i 0).val ∧ (i 0).val < win0_6.index t (0 : Fin 2) * 1024 + 1024 := hi 0
    have b1 : win0_6.index t (1 : Fin 2) * 512 ≤ (i 1).val ∧ (i 1).val < win0_6.index t (1 : Fin 2) * 512 + 512 := hi 1
    obtain ⟨e0, e1, e2⟩ := idx_facts6 t
    omega
  · intro h
    have hi0 : (i 0).val < 8192 := (i 0).isLt
    have hi1 : (i 1).val < 9216 := (i 1).isLt
    obtain ⟨t, hft, ht⟩ := idx_onto6 ⟨(i 0).val / 1024 - 0, by omega⟩ ⟨(i 1).val / 512 - 0, by omega⟩
    have q0 : win0_6.index t (0 : Fin 2) = (i 0).val / 1024 - 0 + 0 := congrFun ht 0
    have q1 : win0_6.index t (1 : Fin 2) = (i 1).val / 512 - 0 + 0 := congrFun ht 1
    refine ⟨t, hft, ?_⟩
    rw [mem_blk6]
    intro a
    match a with
    | ⟨0, _⟩ => show win0_6.index t (0 : Fin 2) * 1024 ≤ (i 0).val ∧ (i 0).val < win0_6.index t (0 : Fin 2) * 1024 + 1024; omega
    | ⟨1, _⟩ => show win0_6.index t (1 : Fin 2) * 512 ≤ (i 1).val ∧ (i 1).val < win0_6.index t (1 : Fin 2) * 512 + 512; omega

/-- The output array after the run is `G6`. -/
theorem final6 (c : Dev nD) : (dats m 0 c).arrAt 6 cfg0.N = G6 m c :=
  (dats m 0 c).arrAt_eq_of_cover 6 _ (fun t hf => flushed6_eq m c t hf) (fun i => (covered_iff6 i).2 (by
    have h0 : (i 0).val < 8192 := (i 0).isLt; have h1 : (i 1).val < 9216 := (i 1).isLt; omega))

/-- The run: the output array ends as `G6` and the arguments end unchanged. -/
theorem run : θ_run defs (onTc (τ := τ) (main (F := F))) ⟨m, fun _ => 0, ρ⟩ fun r => ∀ c : Dev nD,
      r.2.mem ((c : Thread nD τ).loc main_v23) = G6 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(post6 m r h c).trans (final6 m c),
      kept_main_arg0 m r h c,
      kept_main_arg1 m r h c,
      kept_main_arg2 m r h c,
      kept_main_arg3 m r h c⟩)
    (run_main m ρ)

end Cert.InprojIdeal.Inp

end
-- ==== Proof.InprojHost.lean ====
module

public import proofs.«01_k».proof.Proof.InprojArr
public import Idealize.ShloMosaic.Lib.Pipeline.ValueKit.Point
public import Idealize.ShloMosaic.Lib.WholeRead
public import Idealize.ShloMosaic.Lib.Writes
public import Idealize.ShloMosaic.Lib.WritesUnit
public import Idealize.ShloMosaic.Lib.Tactic
public import Idealize.ShloMosaic.Lib.StableHlo.Run

@[expose] public section

set_option maxRecDepth 16384

noncomputable section

namespace Cert.InprojIdeal.Inp

open Cert.InprojIdeal Cert.InprojIdeal.Gen Idealize.ShloMosaic Idealize.ShloMosaic.TcCoe Idealize.SL.Sem

local notation "I" => Idealize.ShloMosaic.Ideal

variable (m : (ℓ : Loc nD τ sig) → Buf (Elt I) ℓ)

/-! # The host-computed arrays at the call's entry -/

/-- The transposed weight. -/
theorem V0 (c : Dev nD) (y : S2x8752x2048.Idx) : (V m c main_v0 : Vec I S2x8752x2048 .f32) y = (m (c.tc.loc main_arg1) : Vec I S2x2048x8752 .f32) (ix3 (y 0) (y 2) (y 1)) := by
  unfold V
  simp only [hostOps0, hostOps0_1, hostOps0_2, hostOps0_3, hostOps0_4, hostOps0_5, hostOps0_6, List.flatten_cons, List.flatten_nil, List.cons_append, List.nil_append, List.append_nil]
  after_results_simp
  pointwise

/-- The query norm's weight, laid out over the lanes. -/
theorem V10 (c : Dev nD) (y : S1x512.Idx) : (V m c main_v10 : Vec I S1x512 .f32) y = (m (c.tc.loc main_arg2) : Vec I S2x64 .f32) (ix2 0 ⟨(y 1).val % 64, Nat.mod_lt _ (by norm_num)⟩) := by
  unfold V
  simp only [hostOps0, hostOps0_1, hostOps0_2, hostOps0_3, hostOps0_4, hostOps0_5, hostOps0_6, List.flatten_cons, List.flatten_nil, List.cons_append, List.nil_append, List.append_nil]
  after_results_simp
  pointwise

/-- The key norm's weight, laid out over the lanes. -/
theorem V12 (c : Dev nD) (y : S1x512.Idx) : (V m c main_v12 : Vec I S1x512 .f32) y = (m (c.tc.loc main_arg3) : Vec I S2x64 .f32) (ix2 0 ⟨(y 1).val % 64, Nat.mod_lt _ (by norm_num)⟩) := by
  unfold V
  simp only [hostOps0, hostOps0_1, hostOps0_2, hostOps0_3, hostOps0_4, hostOps0_5, hostOps0_6, List.flatten_cons, List.flatten_nil, List.cons_append, List.nil_append, List.append_nil]
  after_results_simp
  pointwise

/-- The host's floor division by 64, read at a lane number. -/
theorem fdiv : ∀ a : Fin 512,
    (Scalar.select
        (IntOp.andi
          (IntOp.cmpi CmpIPredicate.ne
            (if BitVec.ofNat 32 a.val = 0 then 0 else if (BitVec.ofNat 32 a.val).msb = true then -1 else 1 : BitVec 32)
            (if 64#32 = 0 then 0 else if (64#32).msb = true then -1 else 1 : BitVec 32))
          (IntOp.cmpi CmpIPredicate.ne (IntOp.remsi ArithUnit.host (BitVec.ofNat 32 a.val) 64#32) 0#32))
        (IntOp.subi (IntOp.divsi ArithUnit.host (BitVec.ofNat 32 a.val) 64#32) 1#32)
        (IntOp.divsi ArithUnit.host (BitVec.ofNat 32 a.val) 64#32) : BitVec 32) = BitVec.ofNat 32 (a.val / 64) := by
  decide +kernel

theorem eq64 : ∀ a b : Fin 8, (IntOp.cmpi CmpIPredicate.eq (BitVec.ofNat 32 a.val) (BitVec.ofNat 32 b.val)) = if a.val = b.val then 1#1 else 0#1 := by
  decide +kernel

/-- The averaging matrix: 1/64 within a group of 64 lanes, zero across. -/
theorem V22 (c : Dev nD) (y : S512x512.Idx) : (V m c main_v22 : Vec I S512x512 .bf16) y = (if (y 0).val / 64 = (y 1).val / 64 then Ideal.ofBits FTy.f32 0x3C800000#32 else 0 : EReal) := by
  unfold V
  simp only [hostOps0, hostOps0_1, hostOps0_2, hostOps0_3, hostOps0_4, hostOps0_5, hostOps0_6, List.flatten_cons, List.flatten_nil, List.cons_append, List.nil_append, List.append_nil]
  after_results_simp
  simp only [StableHlo.TRef.ofBuf_toBuf, id]
  simp only [StableHlo.TRef.ofBuf, StableHlo.TRef.toBuf, cast_eq]
  pointwise
  have e0 := fdiv (y 0)
  have e1 := fdiv (y 1)
  have l0 : (y 0).val < 512 := (y 0).isLt
  have l1 : (y 1).val < 512 := (y 1).isLt
  erw [e0, e1]
  have e2 := eq64 ⟨(y 0).val / 64, by omega⟩ ⟨(y 1).val / 64, by omega⟩
  simp only at e2
  rw [e2]
  by_cases h : (y 0).val / 64 = (y 1).val / 64
  · rw [if_pos h, if_pos h]; rfl
  · rw [if_neg h, if_neg h]; rfl

/-! # The blocks -/

theorem idx0 : ∀ t : Fin cfg0.N, win0_0.index t = ![t.val % 8, 0] := by decide +kernel
theorem idx1 : ∀ t : Fin cfg0.N, win0_1.index t = ![0, min (t.val / 8) 8, 0] := by decide +kernel
theorem idx2 : ∀ t : Fin cfg0.N, win0_2.index t = ![0, if t.val / 8 = 17 then 4608 else 4656 + 512 * (t.val / 8 - 9), 0] := by decide +kernel
theorem idx3 : ∀ t : Fin cfg0.N, win0_3.index t = ![0, 0] := by decide +kernel
theorem idx4 : ∀ t : Fin cfg0.N, win0_4.index t = ![0, 0] := by decide +kernel
theorem idx5 : ∀ t : Fin cfg0.N, win0_5.index t = ![0, 0] := by decide +kernel

theorem blkE3 (c : Dev nD) (t : Fin cfg0.N) (y : S1x512.Idx) :
    (iblk m c 3 t : Vec I S1x512 .f32) y = (V m c main_v10 : Vec I S1x512 .f32) y := by
  blk_ext [iblk, idx3 t]
theorem blkE4 (c : Dev nD) (t : Fin cfg0.N) (y : S1x512.Idx) :
    (iblk m c 4 t : Vec I S1x512 .f32) y = (V m c main_v12 : Vec I S1x512 .f32) y := by
  blk_ext [iblk, idx4 t]
theorem blkE5 (c : Dev nD) (t : Fin cfg0.N) (y : S512x512.Idx) :
    (iblk m c 5 t : Vec I S512x512 .bf16) y = (V m c main_v22 : Vec I S512x512 .bf16) y := by
  blk_ext [iblk, idx5 t]
theorem blkE0 (c : Dev nD) (t : Fin cfg0.N) (y : S1024x2048.Idx) :
    (iblk m c 0 t : Vec I S1024x2048 .bf16) y = (V m c main_arg0 : Vec I S8192x2048 .bf16) (ix2 ⟨1024 * (t.val % 8) + (y 0).val, by have : (y 0).val < 1024 := (y 0).isLt; omega⟩ (y 1)) := by
  blk_ext [iblk, idx0 t]
theorem blkE1 (c : Dev nD) (t : Fin cfg0.N) (y : S1x512x2048.Idx) :
    (X0_1 m c t : Vec I S1x512x2048 .f32) y = (V m c main_v0 : Vec I S2x8752x2048 .f32) (ix3 0 ⟨512 * (min (t.val / 8) 8) + (y 1).val, by have : (y 1).val < 512 := (y 1).isLt; omega⟩ (y 2)) := by
  unfold X0_1
  unfold Pipeline.Window.fill
  rw [dif_pos (moved0_1 t y)]
  blk_ext [iblk, idx1 t]
theorem emb2 (t : Fin cfg0.N) (y : S1x512x2048.Idx) (a : Fin 3) :
    (((View.whole main_v0).slice (win0_2.rect t)).emb y a).val = win0_2.index t a + (y a).val :=
  win0_2.rect_emb_val_off t y a
theorem blkE2 (c : Dev nD) (t : Fin cfg0.N) (y : S1x512x2048.Idx) :
    (iblk m c 2 t : Vec I S1x512x2048 .f32) y = (V m c main_v0 : Vec I S2x8752x2048 .f32) (ix3 0 ⟨(if t.val / 8 = 17 then 4608 else 4656 + 512 * (t.val / 8 - 9)) + (y 1).val, by
      have : (y 1).val < 512 := (y 1).isLt
      have hN : t.val < 144 := t.isLt
      split <;> omega⟩ (y 2)) := by
  blk_ext [iblk, idx2 t]
  all_goals rw [emb2, idx2]
  · show 0 + (y 0).val = 0
    omega
  · rfl
  · show 0 + (y 2).val = (y 2).val
    omega
end Cert.InprojIdeal.Inp
-- ==== Proof.InprojTile.lean ====
module

public import proofs.«01_k».proof.Proof.InprojRun
public import Idealize.ShloMosaic.Lib.Pipeline.ValueKit.Point
public import Idealize.ShloMosaic.Lib.WholeRead
public import Idealize.ShloMosaic.Lib.Writes
public import Idealize.ShloMosaic.Lib.WritesUnit
public import Idealize.ShloMosaic.Lib.Tactic
public import Idealize.ShloMosaic.Lib.StableHlo.Run

@[expose] public section

set_option maxRecDepth 16384

noncomputable section

namespace Cert.InprojIdeal.Inp

open Cert.InprojIdeal Cert.InprojIdeal.Gen Idealize.ShloMosaic Idealize.ShloMosaic.TcCoe Idealize.SL.Sem

local notation "I" => Idealize.ShloMosaic.Ideal

/-! ## The tiles, over the accumulator's row -/

/-- A row of the accumulator: a row of the activations against the weight columns held in the scratch. -/
def row (x : Vec I S1024x2048 .bf16) (w : Vec I S2048x512 .bf16) (r : Fin 1024) (q : Fin 512) : EReal :=
  ∑ k : Fin 2048, x (ix2 r k) * w (ix2 k q)

/-- The tanh form of gelu, associated as the kernel multiplies it out. -/
def gel (v : EReal) : EReal :=
  v * (Ideal.ofBits FTy.f32 1056964608#32 * (1 + Ideal.tanh (Ideal.ofBits FTy.f32 1061962282#32 *
    (v + Ideal.ofBits FTy.f32 1027024659#32 * (v * (v * v))))))

/-- The root-mean-square norm of a row at a lane. The mean of squares comes from a matrix `g` that averages within groups
    of lanes, applied to the squares' leading part and again to what rounding them left over. -/
def nrm (A : Fin 512 → EReal) (g : Vec I S512x512 .bf16) (n : Vec I S1x512 .f32) (q : Fin 512) : EReal :=
  A q * Ideal.rsqrt (∑ x, A x * A x * g (ix2 x q) + ∑ x, (A x * A x - A x * A x) * g (ix2 x q) + Ideal.ofBits FTy.f32 897988541#32) *
    (n (ix2 0 q) : EReal)

/-- The tile of the gelu columns. -/
def geluT (x : Vec I S1024x2048 .bf16) (w : Vec I S2048x512 .bf16) : Vec I S1024x512 .f32 := fun y => gel (row x w (y 0) (y 1))

/-- The tile of the normalized query columns. -/
def normT (x : Vec I S1024x2048 .bf16) (w : Vec I S2048x512 .bf16) (g : Vec I S512x512 .bf16) (n : Vec I S1x512 .f32) :
    Vec I S1024x512 .f32 := fun y => nrm (row x w (y 0)) g n (y 1)

/-- The tile of the columns passed on as they are. -/
def idT (x : Vec I S1024x2048 .bf16) (w : Vec I S2048x512 .bf16) : Vec I S1024x512 .f32 := fun y => row x w (y 0) (y 1)

/-- The tile of key and value columns: keys, in the first 256 lanes, are normalized; values are passed on. -/
def selT (x : Vec I S1024x2048 .bf16) (w : Vec I S2048x512 .bf16) (g : Vec I S512x512 .bf16) (n : Vec I S1x512 .f32) :
    Vec I S1024x512 .f32 := fun y => Scalar.select (IntOp.cmpi CmpIPredicate.slt (BitVec.ofNat 32 (y 1).val) 256#32)
      (nrm (row x w (y 0)) g n (y 1)) (row x w (y 0) (y 1))

/-- The tile of the gate columns. -/
def sigT (x : Vec I S1024x2048 .bf16) (w : Vec I S2048x512 .bf16) : Vec I S1024x512 .f32 := fun y => Ideal.logistic (row x w (y 0) (y 1))

/-- The weight block as the scratch holds it: transposed. -/
def wT (x : Vec I S1x512x2048 .f32) : Vec I S2048x512 .bf16 := fun y => x (ix3 0 (y 1) (y 0))

/-! ## Loads at coordinates -/

/-- A load of 256 rows of the point's rows. -/
theorem ldH {a : Memref sig .tc .vmem S1024x2048 .bf16} (ha : a.IsWhole) (x : Vec I S1024x2048 .bf16) {o : ℕ}
    {inb : ∀ a : Fin 2, (![o, 0] : Fin 2 → ℕ) a + (![256, 2048] : Fin 2 → ℕ) a ≤ S1024x2048.size a}
    (p : Fin 256) (k : Fin 2048) (R : Fin 1024) (hR : R.val = o + 1 * p.val) :
    View.readAt (Elt I) a.view (Rect.unit (s := S1024x2048) ![o, 0] ![256, 2048] inb).toLoadRect (ha.unread x) (ix2 p k : S256x2048.Idx) =
      x (ix2 R k) := by
  rw [Memref.IsWhole.readAt_unread]
  refine congrArg x ?_
  funext a
  fin_cases a
  · exact Fin.ext hR.symm
  · exact Fin.ext (by show 0 + 1 * k.val = k.val; omega)

/-- A load of the whole weight scratch. -/
theorem ldS {a : Memref sig .tc .vmem S2048x512 .bf16} (ha : a.IsWhole) (x : Vec I S2048x512 .bf16)
    {inb : ∀ a : Fin 2, (![0, 0] : Fin 2 → ℕ) a + (![2048, 512] : Fin 2 → ℕ) a ≤ S2048x512.size a} (y : S2048x512.Idx) :
    View.readAt (Elt I) a.view (Rect.unit (s := S2048x512) ![0, 0] ![2048, 512] inb).toLoadRect (ha.unread x) y = x y := by
  rw [Memref.IsWhole.readAt_unread]
  refine congrArg x ?_
  funext a
  fin_cases a
  · exact Fin.ext (by show 0 + 1 * (y 0).val = (y 0).val; omega)
  · exact Fin.ext (by show 0 + 1 * (y 1).val = (y 1).val; omega)

/-- A load of the whole averaging matrix. -/
theorem ldG {a : Memref sig .tc .vmem S512x512 .bf16} (ha : a.IsWhole) (x : Vec I S512x512 .bf16)
    {inb : ∀ a : Fin 2, (![0, 0] : Fin 2 → ℕ) a + (![512, 512] : Fin 2 → ℕ) a ≤ S512x512.size a} (y : S512x512.Idx) :
    View.readAt (Elt I) a.view (Rect.unit (s := S512x512) ![0, 0] ![512, 512] inb).toLoadRect (ha.unread x) y = x y := by
  rw [Memref.IsWhole.readAt_unread]
  refine congrArg x ?_
  funext a
  fin_cases a
  · exact Fin.ext (by show 0 + 1 * (y 0).val = (y 0).val; omega)
  · exact Fin.ext (by show 0 + 1 * (y 1).val = (y 1).val; omega)

/-- A load of the whole norm's weight. -/
theorem ldN {a : Memref sig .tc .vmem S1x512 .f32} (ha : a.IsWhole) (x : Vec I S1x512 .f32)
    {inb : ∀ a : Fin 2, (![0, 0] : Fin 2 → ℕ) a + (![1, 512] : Fin 2 → ℕ) a ≤ S1x512.size a} (y : S1x512.Idx) :
    View.readAt (Elt I) a.view (Rect.unit (s := S1x512) ![0, 0] ![1, 512] inb).toLoadRect (ha.unread x) y = x y := by
  rw [Memref.IsWhole.readAt_unread]
  refine congrArg x ?_
  funext a
  fin_cases a
  · exact Fin.ext (by show 0 + 1 * (y 0).val = (y 0).val; omega)
  · exact Fin.ext (by show 0 + 1 * (y 1).val = (y 1).val; omega)

/-- A load of the weight scratch after the store of the transposed block. -/
theorem ldWa (a : Memref sig .tc .vmem S2048x512 .bf16) {b : Memref sig .tc .vmem S1x512x2048 .f32} (hb : b.IsWhole) (x : Vec I S1x512x2048 .f32)
    (y : S2048x512.Idx) :
    a.view.readCov [(⟨Rect.unit ![0, 0] ![2048, 512] inb_S2048x512_S2048x512_0_0, k0_pay1 (View.readAt (Elt I) b.view
      (Rect.unit ![0, 0, 0] ![1, 512, 2048] inb_S1x512x2048_S1x512x2048_0_0_0).toLoadRect (hb.unread x))⟩ : View.Piece (Elt I) S2048x512 .bf16)]
      (Rect.unit (s := S2048x512) ![0, 0] ![2048, 512] inb_S2048x512_S2048x512_0_0).toLoadRect y = wT x y := by
  rw [View.readCov_cons_toLoadRect]
  unfold k0_pay1 wT
  pointwise
  rw [Memref.IsWhole.readAt_unread]
  refine congrArg x ?_
  funext a
  fin_cases a
  · rfl
  · exact Fin.ext (by show 0 + 1 * (y 1).val = (y 1).val; omega)
  · exact Fin.ext (by show 0 + 1 * (y 0).val = (y 0).val; omega)

/-- A load of the weight scratch after the store of the transposed block. -/
theorem ldWb (a : Memref sig .tc .vmem S2048x512 .bf16) {b : Memref sig .tc .vmem S1x512x2048 .f32} (hb : b.IsWhole) (x : Vec I S1x512x2048 .f32)
    (y : S2048x512.Idx) :
    a.view.readCov [(⟨Rect.unit ![0, 0] ![2048, 512] inb_S2048x512_S2048x512_0_0, k0_pay2 (View.readAt (Elt I) b.view
      (Rect.unit ![0, 0, 0] ![1, 512, 2048] inb_S1x512x2048_S1x512x2048_0_0_0).toLoadRect (hb.unread x))⟩ : View.Piece (Elt I) S2048x512 .bf16)]
      (Rect.unit (s := S2048x512) ![0, 0] ![2048, 512] inb_S2048x512_S2048x512_0_0).toLoadRect y = wT x y := by
  rw [View.readCov_cons_toLoadRect]
  unfold k0_pay2 wT
  pointwise
  rw [Memref.IsWhole.readAt_unread]
  refine congrArg x ?_
  funext a
  fin_cases a
  · rfl
  · exact Fin.ext (by show 0 + 1 * (y 1).val = (y 1).val; omega)
  · exact Fin.ext (by show 0 + 1 * (y 0).val = (y 0).val; omega)

/-! ## The pieces a point stores, each 256 rows of its tile -/

/-- The gelu piece of a quarter of the rows. -/
theorem pG0 {h : Vec I S256x2048 .bf16} {W w : Vec I S2048x512 .bf16} {x : Vec I S1024x2048 .bf16} {j : S256x512.Idx} {Y : S1024x512.Idx} (hh : ∀ k, h (ix2 (j 0) k) = x (ix2 (Y 0) k)) (hW : ∀ y, W y = w y) (h1 : Y 1 = j 1) :
    (k0_pay15 h W) j = geluT x w Y := by
  obtain rfl : W = w := funext hW
  have hr : ∀ q, row x W (Y 0) q = ∑ k : Fin 2048, h (ix2 (j 0) k) * W (ix2 k q) := fun q => by unfold row; simp only [hh]
  unfold geluT gel
  simp only [hr, h1]
  unfold k0_pay15
  pointwise
  rw [show row x W (Y 0) (j 1) = _ from hr (j 1)]

/-- The gelu piece of a quarter of the rows. -/
theorem pG1 {h : Vec I S256x2048 .bf16} {W w : Vec I S2048x512 .bf16} {x : Vec I S1024x2048 .bf16} {j : S256x512.Idx} {Y : S1024x512.Idx} (hh : ∀ k, h (ix2 (j 0) k) = x (ix2 (Y 0) k)) (hW : ∀ y, W y = w y) (h1 : Y 1 = j 1) :
    (k0_pay16 h W) j = geluT x w Y := by
  obtain rfl : W = w := funext hW
  have hr : ∀ q, row x W (Y 0) q = ∑ k : Fin 2048, h (ix2 (j 0) k) * W (ix2 k q) := fun q => by unfold row; simp only [hh]
  unfold geluT gel
  simp only [hr, h1]
  unfold k0_pay16
  pointwise
  rw [show row x W (Y 0) (j 1) = _ from hr (j 1)]

/-- The gelu piece of a quarter of the rows. -/
theorem pG2 {h : Vec I S256x2048 .bf16} {W w : Vec I S2048x512 .bf16} {x : Vec I S1024x2048 .bf16} {j : S256x512.Idx} {Y : S1024x512.Idx} (hh : ∀ k, h (ix2 (j 0) k) = x (ix2 (Y 0) k)) (hW : ∀ y, W y = w y) (h1 : Y 1 = j 1) :
    (k0_pay3 h W) j = geluT x w Y := by
  obtain rfl : W = w := funext hW
  have hr : ∀ q, row x W (Y 0) q = ∑ k : Fin 2048, h (ix2 (j 0) k) * W (ix2 k q) := fun q => by unfold row; simp only [hh]
  unfold geluT gel
  simp only [hr, h1]
  unfold k0_pay3
  pointwise
  rw [show row x W (Y 0) (j 1) = _ from hr (j 1)]

/-- The gelu piece of a quarter of the rows. -/
theorem pG3 {h : Vec I S256x2048 .bf16} {W w : Vec I S2048x512 .bf16} {x : Vec I S1024x2048 .bf16} {j : S256x512.Idx} {Y : S1024x512.Idx} (hh : ∀ k, h (ix2 (j 0) k) = x (ix2 (Y 0) k)) (hW : ∀ y, W y = w y) (h1 : Y 1 = j 1) :
    (k0_pay4 h W) j = geluT x w Y := by
  obtain rfl : W = w := funext hW
  have hr : ∀ q, row x W (Y 0) q = ∑ k : Fin 2048, h (ix2 (j 0) k) * W (ix2 k q) := fun q => by unfold row; simp only [hh]
  unfold geluT gel
  simp only [hr, h1]
  unfold k0_pay4
  pointwise
  rw [show row x W (Y 0) (j 1) = _ from hr (j 1)]

/-- The query piece of a quarter of the rows. -/
theorem pQ0 {h : Vec I S256x2048 .bf16} {W w : Vec I S2048x512 .bf16} {x : Vec I S1024x2048 .bf16} {j : S256x512.Idx} {Y : S1024x512.Idx} (hh : ∀ k, h (ix2 (j 0) k) = x (ix2 (Y 0) k)) (hW : ∀ y, W y = w y) (h1 : Y 1 = j 1) {G g : Vec I S512x512 .bf16} {N n : Vec I S1x512 .f32} (hG : ∀ y, G y = g y) (hN : ∀ y, N y = n y) :
    (k0_pay17 h W G N) j = normT x w g n Y := by
  obtain rfl : W = w := funext hW
  obtain rfl : G = g := funext hG
  obtain rfl : N = n := funext hN
  have hr : ∀ q, row x W (Y 0) q = ∑ k : Fin 2048, h (ix2 (j 0) k) * W (ix2 k q) := fun q => by unfold row; simp only [hh]
  unfold normT nrm
  simp only [hr, h1]
  unfold k0_pay17
  pointwise
  rw [show row x W (Y 0) (j 1) = _ from hr (j 1)]

/-- The query piece of a quarter of the rows. -/
theorem pQ1 {h : Vec I S256x2048 .bf16} {W w : Vec I S2048x512 .bf16} {x : Vec I S1024x2048 .bf16} {j : S256x512.Idx} {Y : S1024x512.Idx} (hh : ∀ k, h (ix2 (j 0) k) = x (ix2 (Y 0) k)) (hW : ∀ y, W y = w y) (h1 : Y 1 = j 1) {G g : Vec I S512x512 .bf16} {N n : Vec I S1x512 .f32} (hG : ∀ y, G y = g y) (hN : ∀ y, N y = n y) :
    (k0_pay25 (k0_pay18 h W) (k0_pay19 G) (k0_pay20 N) (k0_pay23 h W) (k0_pay24 h W G)) j = normT x w g n Y := by
  obtain rfl : W = w := funext hW
  obtain rfl : G = g := funext hG
  obtain rfl : N = n := funext hN
  have hr : ∀ q, row x W (Y 0) q = ∑ k : Fin 2048, h (ix2 (j 0) k) * W (ix2 k q) := fun q => by unfold row; simp only [hh]
  unfold normT nrm
  simp only [hr, h1]
  unfold k0_pay25 k0_pay24 k0_pay23 k0_pay22 k0_pay21 k0_pay20 k0_pay19 k0_pay18
  pointwise
  rw [show row x W (Y 0) (j 1) = _ from hr (j 1)]

/-- The query piece of a quarter of the rows. -/
theorem pQ2 {h : Vec I S256x2048 .bf16} {W w : Vec I S2048x512 .bf16} {x : Vec I S1024x2048 .bf16} {j : S256x512.Idx} {Y : S1024x512.Idx} (hh : ∀ k, h (ix2 (j 0) k) = x (ix2 (Y 0) k)) (hW : ∀ y, W y = w y) (h1 : Y 1 = j 1) {G g : Vec I S512x512 .bf16} {N n : Vec I S1x512 .f32} (hG : ∀ y, G y = g y) (hN : ∀ y, N y = n y) :
    (k0_pay26 h W G N) j = normT x w g n Y := by
  obtain rfl : W = w := funext hW
  obtain rfl : G = g := funext hG
  obtain rfl : N = n := funext hN
  have hr : ∀ q, row x W (Y 0) q = ∑ k : Fin 2048, h (ix2 (j 0) k) * W (ix2 k q) := fun q => by unfold row; simp only [hh]
  unfold normT nrm
  simp only [hr, h1]
  unfold k0_pay26
  pointwise
  rw [show row x W (Y 0) (j 1) = _ from hr (j 1)]

/-- The query piece of a quarter of the rows. -/
theorem pQ3 {h : Vec I S256x2048 .bf16} {W w : Vec I S2048x512 .bf16} {x : Vec I S1024x2048 .bf16} {j : S256x512.Idx} {Y : S1024x512.Idx} (hh : ∀ k, h (ix2 (j 0) k) = x (ix2 (Y 0) k)) (hW : ∀ y, W y = w y) (h1 : Y 1 = j 1) {G g : Vec I S512x512 .bf16} {N n : Vec I S1x512 .f32} (hG : ∀ y, G y = g y) (hN : ∀ y, N y = n y) :
    (k0_pay5 (k0_pay27 h W) G N) j = normT x w g n Y := by
  obtain rfl : W = w := funext hW
  obtain rfl : G = g := funext hG
  obtain rfl : N = n := funext hN
  have hr : ∀ q, row x W (Y 0) q = ∑ k : Fin 2048, h (ix2 (j 0) k) * W (ix2 k q) := fun q => by unfold row; simp only [hh]
  unfold normT nrm
  simp only [hr, h1]
  unfold k0_pay5 k0_pay27
  pointwise
  rw [show row x W (Y 0) (j 1) = _ from hr (j 1)]

/-- The plain piece of a quarter of the rows. -/
theorem pI0 {h : Vec I S256x2048 .bf16} {W w : Vec I S2048x512 .bf16} {x : Vec I S1024x2048 .bf16} {j : S256x512.Idx} {Y : S1024x512.Idx} (hh : ∀ k, h (ix2 (j 0) k) = x (ix2 (Y 0) k)) (hW : ∀ y, W y = w y) (h1 : Y 1 = j 1) :
    (k0_pay6 h W) j = idT x w Y := by
  obtain rfl : W = w := funext hW
  have hr : ∀ q, row x W (Y 0) q = ∑ k : Fin 2048, h (ix2 (j 0) k) * W (ix2 k q) := fun q => by unfold row; simp only [hh]
  unfold idT
  simp only [hr, h1]
  unfold k0_pay6
  pointwise
  rw [show row x W (Y 0) (j 1) = _ from hr (j 1)]

/-- The plain piece of a quarter of the rows. -/
theorem pI1 {h : Vec I S256x2048 .bf16} {W w : Vec I S2048x512 .bf16} {x : Vec I S1024x2048 .bf16} {j : S256x512.Idx} {Y : S1024x512.Idx} (hh : ∀ k, h (ix2 (j 0) k) = x (ix2 (Y 0) k)) (hW : ∀ y, W y = w y) (h1 : Y 1 = j 1) :
    (k0_pay7 h W) j = idT x w Y := by
  obtain rfl : W = w := funext hW
  have hr : ∀ q, row x W (Y 0) q = ∑ k : Fin 2048, h (ix2 (j 0) k) * W (ix2 k q) := fun q => by unfold row; simp only [hh]
  unfold idT
  simp only [hr, h1]
  unfold k0_pay7
  pointwise
  rw [show row x W (Y 0) (j 1) = _ from hr (j 1)]

/-- The plain piece of a quarter of the rows. -/
theorem pI2 {h : Vec I S256x2048 .bf16} {W w : Vec I S2048x512 .bf16} {x : Vec I S1024x2048 .bf16} {j : S256x512.Idx} {Y : S1024x512.Idx} (hh : ∀ k, h (ix2 (j 0) k) = x (ix2 (Y 0) k)) (hW : ∀ y, W y = w y) (h1 : Y 1 = j 1) :
    (k0_pay8 h W) j = idT x w Y := by
  obtain rfl : W = w := funext hW
  have hr : ∀ q, row x W (Y 0) q = ∑ k : Fin 2048, h (ix2 (j 0) k) * W (ix2 k q) := fun q => by unfold row; simp only [hh]
  unfold idT
  simp only [hr, h1]
  unfold k0_pay8
  pointwise
  rw [show row x W (Y 0) (j 1) = _ from hr (j 1)]

/-- The plain piece of a quarter of the rows. -/
theorem pI3 {h : Vec I S256x2048 .bf16} {W w : Vec I S2048x512 .bf16} {x : Vec I S1024x2048 .bf16} {j : S256x512.Idx} {Y : S1024x512.Idx} (hh : ∀ k, h (ix2 (j 0) k) = x (ix2 (Y 0) k)) (hW : ∀ y, W y = w y) (h1 : Y 1 = j 1) :
    (k0_pay9 h W) j = idT x w Y := by
  obtain rfl : W = w := funext hW
  have hr : ∀ q, row x W (Y 0) q = ∑ k : Fin 2048, h (ix2 (j 0) k) * W (ix2 k q) := fun q => by unfold row; simp only [hh]
  unfold idT
  simp only [hr, h1]
  unfold k0_pay9
  pointwise
  rw [show row x W (Y 0) (j 1) = _ from hr (j 1)]

/-- The key and value piece of a quarter of the rows. -/
theorem pK0 {h : Vec I S256x2048 .bf16} {W w : Vec I S2048x512 .bf16} {x : Vec I S1024x2048 .bf16} {j : S256x512.Idx} {Y : S1024x512.Idx} (hh : ∀ k, h (ix2 (j 0) k) = x (ix2 (Y 0) k)) (hW : ∀ y, W y = w y) (h1 : Y 1 = j 1) {G g : Vec I S512x512 .bf16} {N n : Vec I S1x512 .f32} (hG : ∀ y, G y = g y) (hN : ∀ y, N y = n y) :
    (k0_pay28 h W G N) j = selT x w g n Y := by
  obtain rfl : W = w := funext hW
  obtain rfl : G = g := funext hG
  obtain rfl : N = n := funext hN
  have hr : ∀ q, row x W (Y 0) q = ∑ k : Fin 2048, h (ix2 (j 0) k) * W (ix2 k q) := fun q => by unfold row; simp only [hh]
  unfold selT nrm
  simp only [hr, h1]
  unfold k0_pay28
  pointwise
  rw [show row x W (Y 0) (j 1) = _ from hr (j 1)]

/-- The key and value piece of a quarter of the rows. -/
theorem pK1 {h : Vec I S256x2048 .bf16} {W w : Vec I S2048x512 .bf16} {x : Vec I S1024x2048 .bf16} {j : S256x512.Idx} {Y : S1024x512.Idx} (hh : ∀ k, h (ix2 (j 0) k) = x (ix2 (Y 0) k)) (hW : ∀ y, W y = w y) (h1 : Y 1 = j 1) {G g : Vec I S512x512 .bf16} {N n : Vec I S1x512 .f32} (hG : ∀ y, G y = g y) (hN : ∀ y, N y = n y) :
    (k0_pay32 (k0_pay29 h W) k0_pay30 (k0_pay31 G) N) j = selT x w g n Y := by
  obtain rfl : W = w := funext hW
  obtain rfl : G = g := funext hG
  obtain rfl : N = n := funext hN
  have hr : ∀ q, row x W (Y 0) q = ∑ k : Fin 2048, h (ix2 (j 0) k) * W (ix2 k q) := fun q => by unfold row; simp only [hh]
  unfold selT nrm
  simp only [hr, h1]
  unfold k0_pay32 k0_pay31 k0_pay30 k0_pay29
  pointwise
  rw [show row x W (Y 0) (j 1) = _ from hr (j 1)]

/-- The key and value piece of a quarter of the rows. -/
theorem pK2 {h : Vec I S256x2048 .bf16} {W w : Vec I S2048x512 .bf16} {x : Vec I S1024x2048 .bf16} {j : S256x512.Idx} {Y : S1024x512.Idx} (hh : ∀ k, h (ix2 (j 0) k) = x (ix2 (Y 0) k)) (hW : ∀ y, W y = w y) (h1 : Y 1 = j 1) {G g : Vec I S512x512 .bf16} {N n : Vec I S1x512 .f32} (hG : ∀ y, G y = g y) (hN : ∀ y, N y = n y) :
    (k0_pay33 (iota .tc S256x512 32 [1] iota_S256x512_d1_w32) h W G N) j = selT x w g n Y := by
  obtain rfl : W = w := funext hW
  obtain rfl : G = g := funext hG
  obtain rfl : N = n := funext hN
  have hr : ∀ q, row x W (Y 0) q = ∑ k : Fin 2048, h (ix2 (j 0) k) * W (ix2 k q) := fun q => by unfold row; simp only [hh]
  unfold selT nrm
  simp only [hr, h1]
  unfold k0_pay33
  pointwise
  rw [show row x W (Y 0) (j 1) = _ from hr (j 1)]

/-- The key and value piece of a quarter of the rows. -/
theorem pK3 {h : Vec I S256x2048 .bf16} {W w : Vec I S2048x512 .bf16} {x : Vec I S1024x2048 .bf16} {j : S256x512.Idx} {Y : S1024x512.Idx} (hh : ∀ k, h (ix2 (j 0) k) = x (ix2 (Y 0) k)) (hW : ∀ y, W y = w y) (h1 : Y 1 = j 1) {G g : Vec I S512x512 .bf16} {N n : Vec I S1x512 .f32} (hG : ∀ y, G y = g y) (hN : ∀ y, N y = n y) :
    (k0_pay10 (iota .tc S256x512 32 [1] iota_S256x512_d1_w32) h W G N) j = selT x w g n Y := by
  obtain rfl : W = w := funext hW
  obtain rfl : G = g := funext hG
  obtain rfl : N = n := funext hN
  have hr : ∀ q, row x W (Y 0) q = ∑ k : Fin 2048, h (ix2 (j 0) k) * W (ix2 k q) := fun q => by unfold row; simp only [hh]
  unfold selT nrm
  simp only [hr, h1]
  unfold k0_pay10
  pointwise
  rw [show row x W (Y 0) (j 1) = _ from hr (j 1)]

/-- The gate piece of a quarter of the rows. -/
theorem pS0 {h : Vec I S256x2048 .bf16} {W w : Vec I S2048x512 .bf16} {x : Vec I S1024x2048 .bf16} {j : S256x512.Idx} {Y : S1024x512.Idx} (hh : ∀ k, h (ix2 (j 0) k) = x (ix2 (Y 0) k)) (hW : ∀ y, W y = w y) (h1 : Y 1 = j 1) :
    (k0_pay11 h W) j = sigT x w Y := by
  obtain rfl : W = w := funext hW
  have hr : ∀ q, row x W (Y 0) q = ∑ k : Fin 2048, h (ix2 (j 0) k) * W (ix2 k q) := fun q => by unfold row; simp only [hh]
  unfold sigT
  simp only [hr, h1]
  unfold k0_pay11
  pointwise
  rw [show row x W (Y 0) (j 1) = _ from hr (j 1)]

/-- The gate piece of a quarter of the rows. -/
theorem pS1 {h : Vec I S256x2048 .bf16} {W w : Vec I S2048x512 .bf16} {x : Vec I S1024x2048 .bf16} {j : S256x512.Idx} {Y : S1024x512.Idx} (hh : ∀ k, h (ix2 (j 0) k) = x (ix2 (Y 0) k)) (hW : ∀ y, W y = w y) (h1 : Y 1 = j 1) :
    (k0_pay12 h W) j = sigT x w Y := by
  obtain rfl : W = w := funext hW
  have hr : ∀ q, row x W (Y 0) q = ∑ k : Fin 2048, h (ix2 (j 0) k) * W (ix2 k q) := fun q => by unfold row; simp only [hh]
  unfold sigT
  simp only [hr, h1]
  unfold k0_pay12
  pointwise
  rw [show row x W (Y 0) (j 1) = _ from hr (j 1)]

/-- The gate piece of a quarter of the rows. -/
theorem pS2 {h : Vec I S256x2048 .bf16} {W w : Vec I S2048x512 .bf16} {x : Vec I S1024x2048 .bf16} {j : S256x512.Idx} {Y : S1024x512.Idx} (hh : ∀ k, h (ix2 (j 0) k) = x (ix2 (Y 0) k)) (hW : ∀ y, W y = w y) (h1 : Y 1 = j 1) :
    (k0_pay13 h W) j = sigT x w Y := by
  obtain rfl : W = w := funext hW
  have hr : ∀ q, row x W (Y 0) q = ∑ k : Fin 2048, h (ix2 (j 0) k) * W (ix2 k q) := fun q => by unfold row; simp only [hh]
  unfold sigT
  simp only [hr, h1]
  unfold k0_pay13
  pointwise
  rw [show row x W (Y 0) (j 1) = _ from hr (j 1)]

/-- The gate piece of a quarter of the rows. -/
theorem pS3 {h : Vec I S256x2048 .bf16} {W w : Vec I S2048x512 .bf16} {x : Vec I S1024x2048 .bf16} {j : S256x512.Idx} {Y : S1024x512.Idx} (hh : ∀ k, h (ix2 (j 0) k) = x (ix2 (Y 0) k)) (hW : ∀ y, W y = w y) (h1 : Y 1 = j 1) :
    (k0_pay14 h W) j = sigT x w Y := by
  obtain rfl : W = w := funext hW
  have hr : ∀ q, row x W (Y 0) q = ∑ k : Fin 2048, h (ix2 (j 0) k) * W (ix2 k q) := fun q => by unfold row; simp only [hh]
  unfold sigT
  simp only [hr, h1]
  unfold k0_pay14
  pointwise
  rw [show row x W (Y 0) (j 1) = _ from hr (j 1)]

end Cert.InprojIdeal.Inp
-- ==== Proof.InprojCases.lean ====
module

public import proofs.«01_k».proof.Proof.InprojTile
public import Idealize.ShloMosaic.Lib.Pipeline.ValueKit.Point
public import Idealize.ShloMosaic.Lib.WholeRead
public import Idealize.ShloMosaic.Lib.Writes
public import Idealize.ShloMosaic.Lib.WritesUnit
public import Idealize.ShloMosaic.Lib.Tactic
public import Idealize.ShloMosaic.Lib.StableHlo.Run

@[expose] public section

set_option maxRecDepth 16384

noncomputable section

namespace Cert.InprojIdeal.Inp

open Cert.InprojIdeal Cert.InprojIdeal.Gen Idealize.ShloMosaic Idealize.ShloMosaic.TcCoe Idealize.SL.Sem

local notation "I" => Idealize.ShloMosaic.Ideal

/-! # What each case of the body leaves in the output block and in the weight scratch -/

/-- The output block of case A, read at an index. -/
theorem out_A (c : Dev nD) (i : grid0.Coords) (arg2 : Memref sig .tc .vmem S1024x2048 .bf16) (harg2 : arg2.IsWhole) (arg3 : Memref sig .tc .vmem S1x512x2048 .f32) (harg3 : arg3.IsWhole) (arg4 : Memref sig .tc .vmem S1x512x2048 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S1024x512 .f32) (harg8 : arg8.IsWhole) (arg9 : Memref sig .tc .vmem S2048x512 .bf16) (harg9 : arg9.IsWhole) (hc0 : cond0_0 i) (hc1 : ¬cond0_1 i) (hc2 : cond0_2 i) (hc3 : ¬cond0_3 i) (hc4 : ¬cond0_4 i) (hc5 : ¬cond0_5 i) (hc6 : ¬cond0_6 i)
    (x0 : Vec I S1024x2048 .bf16) (x1 : Vec I S1x512x2048 .f32) (x2 : Vec I S1x512x2048 .f32) (x3 : Vec I S1x512 .f32) (x4 : Vec I S1x512 .f32) (x5 : Vec I S512x512 .bf16) :
    out0_A_6 c i arg2 harg2 arg3 harg3 arg4 harg4 arg5 harg5 arg6 harg6 arg7 harg7 arg8 harg8 arg9 harg9 hc0 hc1 hc2 hc3 hc4 hc5 hc6 x0 x1 x2 x3 x4 x5 = geluT x0 (wT x1) := by
  funext y
  unfold out0_A_6
  refine View.read_writes_apply_of_pieces _ _ (geluT x0 (wT x1)) _ ?_ y (cover0_A_6 c i arg2 harg2 arg3 harg3 arg4 harg4 arg5 harg5 arg6 harg6 arg7 harg7 arg8 harg8 arg9 harg9 hc0 hc1 hc2 hc3 hc4 hc5 hc6 x0 x1 x2 x3 x4 x5 y)
  unfold kernelRun0_A
  dsimp only
  sl_unfold_words
  simp only [List.forall_mem_cons]
  refine ⟨?_, ?_, ?_, ?_, by simp⟩
  · intro j
    exact pG3 (fun k => ldH harg2 _ (j 0) k _ rfl) (fun y => ldWa _ harg3 _ y) (Fin.ext (by show 0 + 1 * (j 1).val = (j 1).val; omega))
  · intro j
    exact pG2 (fun k => ldH harg2 _ (j 0) k _ rfl) (fun y => ldWa _ harg3 _ y) (Fin.ext (by show 0 + 1 * (j 1).val = (j 1).val; omega))
  · intro j
    exact pG1 (fun k => ldH harg2 _ (j 0) k _ rfl) (fun y => ldWa _ harg3 _ y) (Fin.ext (by show 0 + 1 * (j 1).val = (j 1).val; omega))
  · intro j
    exact pG0 (fun k => ldH harg2 _ (j 0) k _ rfl) (fun y => ldWa _ harg3 _ y) (Fin.ext (by show 0 + 1 * (j 1).val = (j 1).val; omega))

/-- The weight scratch case A leaves. -/
theorem sout_A (c : Dev nD) (i : grid0.Coords) (arg2 : Memref sig .tc .vmem S1024x2048 .bf16) (harg2 : arg2.IsWhole) (arg3 : Memref sig .tc .vmem S1x512x2048 .f32) (harg3 : arg3.IsWhole) (arg4 : Memref sig .tc .vmem S1x512x2048 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S1024x512 .f32) (harg8 : arg8.IsWhole) (arg9 : Memref sig .tc .vmem S2048x512 .bf16) (harg9 : arg9.IsWhole) (hc0 : cond0_0 i) (hc1 : ¬cond0_1 i) (hc2 : cond0_2 i) (hc3 : ¬cond0_3 i) (hc4 : ¬cond0_4 i) (hc5 : ¬cond0_5 i) (hc6 : ¬cond0_6 i)
    (x0 : Vec I S1024x2048 .bf16) (x1 : Vec I S1x512x2048 .f32) (x2 : Vec I S1x512x2048 .f32) (x3 : Vec I S1x512 .f32) (x4 : Vec I S1x512 .f32) (x5 : Vec I S512x512 .bf16) :
    sout0_A_0 c i arg2 harg2 arg3 harg3 arg4 harg4 arg5 harg5 arg6 harg6 arg7 harg7 arg8 harg8 arg9 harg9 hc0 hc1 hc2 hc3 hc4 hc5 hc6 x0 x1 x2 x3 x4 x5 = wT x1 := by
  funext y
  unfold sout0_A_0
  rw [View.read_writes_eq_canon _ _ _ (scover0_A_0 c i arg2 harg2 arg3 harg3 arg4 harg4 arg5 harg5 arg6 harg6 arg7 harg7 arg8 harg8 arg9 harg9 hc0 hc1 hc2 hc3 hc4 hc5 hc6 x0 x1 x2 x3 x4 x5)]
  unfold kernelRun0_A
  dsimp only
  sl_unfold_words
  rw [View.canon_unit_zero (by funext a; fin_cases a <;> rfl)]
  unfold k0_pay1 wT
  pointwise
  rw [Memref.IsWhole.readAt_unread]
  refine congrArg x1 ?_
  funext a
  fin_cases a
  · rfl
  · exact Fin.ext (by show 0 + 1 * (y 1).val = (y 1).val; omega)
  · exact Fin.ext (by show 0 + 1 * (y 0).val = (y 0).val; omega)

/-- The output block of case B, read at an index. -/
theorem out_B (c : Dev nD) (i : grid0.Coords) (arg2 : Memref sig .tc .vmem S1024x2048 .bf16) (harg2 : arg2.IsWhole) (arg3 : Memref sig .tc .vmem S1x512x2048 .f32) (harg3 : arg3.IsWhole) (arg4 : Memref sig .tc .vmem S1x512x2048 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S1024x512 .f32) (harg8 : arg8.IsWhole) (arg9 : Memref sig .tc .vmem S2048x512 .bf16) (harg9 : arg9.IsWhole) (hc0 : ¬cond0_0 i) (hc1 : ¬cond0_1 i) (hc2 : cond0_2 i) (hc3 : ¬cond0_3 i) (hc4 : ¬cond0_4 i) (hc5 : ¬cond0_5 i) (hc6 : ¬cond0_6 i)
    (x0 : Vec I S1024x2048 .bf16) (x1 : Vec I S1x512x2048 .f32) (x2 : Vec I S1x512x2048 .f32) (x3 : Vec I S1x512 .f32) (x4 : Vec I S1x512 .f32) (x5 : Vec I S512x512 .bf16) (xs0 : Vec I S2048x512 .bf16) :
    out0_B_6 c i arg2 harg2 arg3 harg3 arg4 harg4 arg5 harg5 arg6 harg6 arg7 harg7 arg8 harg8 arg9 harg9 hc0 hc1 hc2 hc3 hc4 hc5 hc6 x0 x1 x2 x3 x4 x5 xs0 = geluT x0 xs0 := by
  funext y
  unfold out0_B_6
  refine View.read_writes_apply_of_pieces _ _ (geluT x0 xs0) _ ?_ y (cover0_B_6 c i arg2 harg2 arg3 harg3 arg4 harg4 arg5 harg5 arg6 harg6 arg7 harg7 arg8 harg8 arg9 harg9 hc0 hc1 hc2 hc3 hc4 hc5 hc6 x0 x1 x2 x3 x4 x5 xs0 y)
  unfold kernelRun0_B
  dsimp only
  sl_unfold_words
  simp only [List.forall_mem_cons]
  refine ⟨?_, ?_, ?_, ?_, by simp⟩
  · intro j
    exact pG3 (fun k => ldH harg2 _ (j 0) k _ rfl) (fun y => ldS harg9 _ y) (Fin.ext (by show 0 + 1 * (j 1).val = (j 1).val; omega))
  · intro j
    exact pG2 (fun k => ldH harg2 _ (j 0) k _ rfl) (fun y => ldS harg9 _ y) (Fin.ext (by show 0 + 1 * (j 1).val = (j 1).val; omega))
  · intro j
    exact pG1 (fun k => ldH harg2 _ (j 0) k _ rfl) (fun y => ldS harg9 _ y) (Fin.ext (by show 0 + 1 * (j 1).val = (j 1).val; omega))
  · intro j
    exact pG0 (fun k => ldH harg2 _ (j 0) k _ rfl) (fun y => ldS harg9 _ y) (Fin.ext (by show 0 + 1 * (j 1).val = (j 1).val; omega))

/-- The output block of case C, read at an index. -/
theorem out_C (c : Dev nD) (i : grid0.Coords) (arg2 : Memref sig .tc .vmem S1024x2048 .bf16) (harg2 : arg2.IsWhole) (arg3 : Memref sig .tc .vmem S1x512x2048 .f32) (harg3 : arg3.IsWhole) (arg4 : Memref sig .tc .vmem S1x512x2048 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S1024x512 .f32) (harg8 : arg8.IsWhole) (arg9 : Memref sig .tc .vmem S2048x512 .bf16) (harg9 : arg9.IsWhole) (hc0 : cond0_0 i) (hc1 : ¬cond0_1 i) (hc2 : ¬cond0_2 i) (hc3 : cond0_3 i) (hc4 : ¬cond0_4 i) (hc5 : ¬cond0_5 i) (hc6 : ¬cond0_6 i)
    (x0 : Vec I S1024x2048 .bf16) (x1 : Vec I S1x512x2048 .f32) (x2 : Vec I S1x512x2048 .f32) (x3 : Vec I S1x512 .f32) (x4 : Vec I S1x512 .f32) (x5 : Vec I S512x512 .bf16) :
    out0_C_6 c i arg2 harg2 arg3 harg3 arg4 harg4 arg5 harg5 arg6 harg6 arg7 harg7 arg8 harg8 arg9 harg9 hc0 hc1 hc2 hc3 hc4 hc5 hc6 x0 x1 x2 x3 x4 x5 = normT x0 (wT x1) x5 x3 := by
  funext y
  unfold out0_C_6
  refine View.read_writes_apply_of_pieces _ _ (normT x0 (wT x1) x5 x3) _ ?_ y (cover0_C_6 c i arg2 harg2 arg3 harg3 arg4 harg4 arg5 harg5 arg6 harg6 arg7 harg7 arg8 harg8 arg9 harg9 hc0 hc1 hc2 hc3 hc4 hc5 hc6 x0 x1 x2 x3 x4 x5 y)
  unfold kernelRun0_C
  dsimp only
  sl_unfold_words
  simp only [List.forall_mem_cons]
  refine ⟨?_, ?_, ?_, ?_, by simp⟩
  · intro j
    exact pQ3 (fun k => ldH harg2 _ (j 0) k _ rfl) (fun y => ldWa _ harg3 _ y) (Fin.ext (by show 0 + 1 * (j 1).val = (j 1).val; omega)) (fun y => ldG harg7 _ y) (fun y => ldN harg5 _ y)
  · intro j
    exact pQ2 (fun k => ldH harg2 _ (j 0) k _ rfl) (fun y => ldWa _ harg3 _ y) (Fin.ext (by show 0 + 1 * (j 1).val = (j 1).val; omega)) (fun y => ldG harg7 _ y) (fun y => ldN harg5 _ y)
  · intro j
    exact pQ1 (fun k => ldH harg2 _ (j 0) k _ rfl) (fun y => ldWa _ harg3 _ y) (Fin.ext (by show 0 + 1 * (j 1).val = (j 1).val; omega)) (fun y => ldG harg7 _ y) (fun y => ldN harg5 _ y)
  · intro j
    exact pQ0 (fun k => ldH harg2 _ (j 0) k _ rfl) (fun y => ldWa _ harg3 _ y) (Fin.ext (by show 0 + 1 * (j 1).val = (j 1).val; omega)) (fun y => ldG harg7 _ y) (fun y => ldN harg5 _ y)

/-- The weight scratch case C leaves. -/
theorem sout_C (c : Dev nD) (i : grid0.Coords) (arg2 : Memref sig .tc .vmem S1024x2048 .bf16) (harg2 : arg2.IsWhole) (arg3 : Memref sig .tc .vmem S1x512x2048 .f32) (harg3 : arg3.IsWhole) (arg4 : Memref sig .tc .vmem S1x512x2048 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S1024x512 .f32) (harg8 : arg8.IsWhole) (arg9 : Memref sig .tc .vmem S2048x512 .bf16) (harg9 : arg9.IsWhole) (hc0 : cond0_0 i) (hc1 : ¬cond0_1 i) (hc2 : ¬cond0_2 i) (hc3 : cond0_3 i) (hc4 : ¬cond0_4 i) (hc5 : ¬cond0_5 i) (hc6 : ¬cond0_6 i)
    (x0 : Vec I S1024x2048 .bf16) (x1 : Vec I S1x512x2048 .f32) (x2 : Vec I S1x512x2048 .f32) (x3 : Vec I S1x512 .f32) (x4 : Vec I S1x512 .f32) (x5 : Vec I S512x512 .bf16) :
    sout0_C_0 c i arg2 harg2 arg3 harg3 arg4 harg4 arg5 harg5 arg6 harg6 arg7 harg7 arg8 harg8 arg9 harg9 hc0 hc1 hc2 hc3 hc4 hc5 hc6 x0 x1 x2 x3 x4 x5 = wT x1 := by
  funext y
  unfold sout0_C_0
  rw [View.read_writes_eq_canon _ _ _ (scover0_C_0 c i arg2 harg2 arg3 harg3 arg4 harg4 arg5 harg5 arg6 harg6 arg7 harg7 arg8 harg8 arg9 harg9 hc0 hc1 hc2 hc3 hc4 hc5 hc6 x0 x1 x2 x3 x4 x5)]
  unfold kernelRun0_C
  dsimp only
  sl_unfold_words
  rw [View.canon_unit_zero (by funext a; fin_cases a <;> rfl)]
  unfold k0_pay1 wT
  pointwise
  rw [Memref.IsWhole.readAt_unread]
  refine congrArg x1 ?_
  funext a
  fin_cases a
  · rfl
  · exact Fin.ext (by show 0 + 1 * (y 1).val = (y 1).val; omega)
  · exact Fin.ext (by show 0 + 1 * (y 0).val = (y 0).val; omega)

/-- The output block of case D, read at an index. -/
theorem out_D (c : Dev nD) (i : grid0.Coords) (arg2 : Memref sig .tc .vmem S1024x2048 .bf16) (harg2 : arg2.IsWhole) (arg3 : Memref sig .tc .vmem S1x512x2048 .f32) (harg3 : arg3.IsWhole) (arg4 : Memref sig .tc .vmem S1x512x2048 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S1024x512 .f32) (harg8 : arg8.IsWhole) (arg9 : Memref sig .tc .vmem S2048x512 .bf16) (harg9 : arg9.IsWhole) (hc0 : ¬cond0_0 i) (hc1 : ¬cond0_1 i) (hc2 : ¬cond0_2 i) (hc3 : cond0_3 i) (hc4 : ¬cond0_4 i) (hc5 : ¬cond0_5 i) (hc6 : ¬cond0_6 i)
    (x0 : Vec I S1024x2048 .bf16) (x1 : Vec I S1x512x2048 .f32) (x2 : Vec I S1x512x2048 .f32) (x3 : Vec I S1x512 .f32) (x4 : Vec I S1x512 .f32) (x5 : Vec I S512x512 .bf16) (xs0 : Vec I S2048x512 .bf16) :
    out0_D_6 c i arg2 harg2 arg3 harg3 arg4 harg4 arg5 harg5 arg6 harg6 arg7 harg7 arg8 harg8 arg9 harg9 hc0 hc1 hc2 hc3 hc4 hc5 hc6 x0 x1 x2 x3 x4 x5 xs0 = normT x0 xs0 x5 x3 := by
  funext y
  unfold out0_D_6
  refine View.read_writes_apply_of_pieces _ _ (normT x0 xs0 x5 x3) _ ?_ y (cover0_D_6 c i arg2 harg2 arg3 harg3 arg4 harg4 arg5 harg5 arg6 harg6 arg7 harg7 arg8 harg8 arg9 harg9 hc0 hc1 hc2 hc3 hc4 hc5 hc6 x0 x1 x2 x3 x4 x5 xs0 y)
  unfold kernelRun0_D
  dsimp only
  sl_unfold_words
  simp only [List.forall_mem_cons]
  refine ⟨?_, ?_, ?_, ?_, by simp⟩
  · intro j
    exact pQ3 (fun k => ldH harg2 _ (j 0) k _ rfl) (fun y => ldS harg9 _ y) (Fin.ext (by show 0 + 1 * (j 1).val = (j 1).val; omega)) (fun y => ldG harg7 _ y) (fun y => ldN harg5 _ y)
  · intro j
    exact pQ2 (fun k => ldH harg2 _ (j 0) k _ rfl) (fun y => ldS harg9 _ y) (Fin.ext (by show 0 + 1 * (j 1).val = (j 1).val; omega)) (fun y => ldG harg7 _ y) (fun y => ldN harg5 _ y)
  · intro j
    exact pQ1 (fun k => ldH harg2 _ (j 0) k _ rfl) (fun y => ldS harg9 _ y) (Fin.ext (by show 0 + 1 * (j 1).val = (j 1).val; omega)) (fun y => ldG harg7 _ y) (fun y => ldN harg5 _ y)
  · intro j
    exact pQ0 (fun k => ldH harg2 _ (j 0) k _ rfl) (fun y => ldS harg9 _ y) (Fin.ext (by show 0 + 1 * (j 1).val = (j 1).val; omega)) (fun y => ldG harg7 _ y) (fun y => ldN harg5 _ y)

/-- The output block of case E, read at an index. -/
theorem out_E (c : Dev nD) (i : grid0.Coords) (arg2 : Memref sig .tc .vmem S1024x2048 .bf16) (harg2 : arg2.IsWhole) (arg3 : Memref sig .tc .vmem S1x512x2048 .f32) (harg3 : arg3.IsWhole) (arg4 : Memref sig .tc .vmem S1x512x2048 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S1024x512 .f32) (harg8 : arg8.IsWhole) (arg9 : Memref sig .tc .vmem S2048x512 .bf16) (harg9 : arg9.IsWhole) (hc0 : cond0_0 i) (hc1 : ¬cond0_1 i) (hc2 : ¬cond0_2 i) (hc3 : ¬cond0_3 i) (hc4 : cond0_4 i) (hc5 : ¬cond0_5 i) (hc6 : ¬cond0_6 i)
    (x0 : Vec I S1024x2048 .bf16) (x1 : Vec I S1x512x2048 .f32) (x2 : Vec I S1x512x2048 .f32) (x3 : Vec I S1x512 .f32) (x4 : Vec I S1x512 .f32) (x5 : Vec I S512x512 .bf16) :
    out0_E_6 c i arg2 harg2 arg3 harg3 arg4 harg4 arg5 harg5 arg6 harg6 arg7 harg7 arg8 harg8 arg9 harg9 hc0 hc1 hc2 hc3 hc4 hc5 hc6 x0 x1 x2 x3 x4 x5 = idT x0 (wT x1) := by
  funext y
  unfold out0_E_6
  refine View.read_writes_apply_of_pieces _ _ (idT x0 (wT x1)) _ ?_ y (cover0_E_6 c i arg2 harg2 arg3 harg3 arg4 harg4 arg5 harg5 arg6 harg6 arg7 harg7 arg8 harg8 arg9 harg9 hc0 hc1 hc2 hc3 hc4 hc5 hc6 x0 x1 x2 x3 x4 x5 y)
  unfold kernelRun0_E
  dsimp only
  sl_unfold_words
  simp only [List.forall_mem_cons]
  refine ⟨?_, ?_, ?_, ?_, by simp⟩
  · intro j
    exact pI3 (fun k => ldH harg2 _ (j 0) k _ rfl) (fun y => ldWa _ harg3 _ y) (Fin.ext (by show 0 + 1 * (j 1).val = (j 1).val; omega))
  · intro j
    exact pI2 (fun k => ldH harg2 _ (j 0) k _ rfl) (fun y => ldWa _ harg3 _ y) (Fin.ext (by show 0 + 1 * (j 1).val = (j 1).val; omega))
  · intro j
    exact pI1 (fun k => ldH harg2 _ (j 0) k _ rfl) (fun y => ldWa _ harg3 _ y) (Fin.ext (by show 0 + 1 * (j 1).val = (j 1).val; omega))
  · intro j
    exact pI0 (fun k => ldH harg2 _ (j 0) k _ rfl) (fun y => ldWa _ harg3 _ y) (Fin.ext (by show 0 + 1 * (j 1).val = (j 1).val; omega))

/-- The weight scratch case E leaves. -/
theorem sout_E (c : Dev nD) (i : grid0.Coords) (arg2 : Memref sig .tc .vmem S1024x2048 .bf16) (harg2 : arg2.IsWhole) (arg3 : Memref sig .tc .vmem S1x512x2048 .f32) (harg3 : arg3.IsWhole) (arg4 : Memref sig .tc .vmem S1x512x2048 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S1024x512 .f32) (harg8 : arg8.IsWhole) (arg9 : Memref sig .tc .vmem S2048x512 .bf16) (harg9 : arg9.IsWhole) (hc0 : cond0_0 i) (hc1 : ¬cond0_1 i) (hc2 : ¬cond0_2 i) (hc3 : ¬cond0_3 i) (hc4 : cond0_4 i) (hc5 : ¬cond0_5 i) (hc6 : ¬cond0_6 i)
    (x0 : Vec I S1024x2048 .bf16) (x1 : Vec I S1x512x2048 .f32) (x2 : Vec I S1x512x2048 .f32) (x3 : Vec I S1x512 .f32) (x4 : Vec I S1x512 .f32) (x5 : Vec I S512x512 .bf16) :
    sout0_E_0 c i arg2 harg2 arg3 harg3 arg4 harg4 arg5 harg5 arg6 harg6 arg7 harg7 arg8 harg8 arg9 harg9 hc0 hc1 hc2 hc3 hc4 hc5 hc6 x0 x1 x2 x3 x4 x5 = wT x1 := by
  funext y
  unfold sout0_E_0
  rw [View.read_writes_eq_canon _ _ _ (scover0_E_0 c i arg2 harg2 arg3 harg3 arg4 harg4 arg5 harg5 arg6 harg6 arg7 harg7 arg8 harg8 arg9 harg9 hc0 hc1 hc2 hc3 hc4 hc5 hc6 x0 x1 x2 x3 x4 x5)]
  unfold kernelRun0_E
  dsimp only
  sl_unfold_words
  rw [View.canon_unit_zero (by funext a; fin_cases a <;> rfl)]
  unfold k0_pay1 wT
  pointwise
  rw [Memref.IsWhole.readAt_unread]
  refine congrArg x1 ?_
  funext a
  fin_cases a
  · rfl
  · exact Fin.ext (by show 0 + 1 * (y 1).val = (y 1).val; omega)
  · exact Fin.ext (by show 0 + 1 * (y 0).val = (y 0).val; omega)

/-- The output block of case F, read at an index. -/
theorem out_F (c : Dev nD) (i : grid0.Coords) (arg2 : Memref sig .tc .vmem S1024x2048 .bf16) (harg2 : arg2.IsWhole) (arg3 : Memref sig .tc .vmem S1x512x2048 .f32) (harg3 : arg3.IsWhole) (arg4 : Memref sig .tc .vmem S1x512x2048 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S1024x512 .f32) (harg8 : arg8.IsWhole) (arg9 : Memref sig .tc .vmem S2048x512 .bf16) (harg9 : arg9.IsWhole) (hc0 : ¬cond0_0 i) (hc1 : ¬cond0_1 i) (hc2 : ¬cond0_2 i) (hc3 : ¬cond0_3 i) (hc4 : cond0_4 i) (hc5 : ¬cond0_5 i) (hc6 : ¬cond0_6 i)
    (x0 : Vec I S1024x2048 .bf16) (x1 : Vec I S1x512x2048 .f32) (x2 : Vec I S1x512x2048 .f32) (x3 : Vec I S1x512 .f32) (x4 : Vec I S1x512 .f32) (x5 : Vec I S512x512 .bf16) (xs0 : Vec I S2048x512 .bf16) :
    out0_F_6 c i arg2 harg2 arg3 harg3 arg4 harg4 arg5 harg5 arg6 harg6 arg7 harg7 arg8 harg8 arg9 harg9 hc0 hc1 hc2 hc3 hc4 hc5 hc6 x0 x1 x2 x3 x4 x5 xs0 = idT x0 xs0 := by
  funext y
  unfold out0_F_6
  refine View.read_writes_apply_of_pieces _ _ (idT x0 xs0) _ ?_ y (cover0_F_6 c i arg2 harg2 arg3 harg3 arg4 harg4 arg5 harg5 arg6 harg6 arg7 harg7 arg8 harg8 arg9 harg9 hc0 hc1 hc2 hc3 hc4 hc5 hc6 x0 x1 x2 x3 x4 x5 xs0 y)
  unfold kernelRun0_F
  dsimp only
  sl_unfold_words
  simp only [List.forall_mem_cons]
  refine ⟨?_, ?_, ?_, ?_, by simp⟩
  · intro j
    exact pI3 (fun k => ldH harg2 _ (j 0) k _ rfl) (fun y => ldS harg9 _ y) (Fin.ext (by show 0 + 1 * (j 1).val = (j 1).val; omega))
  · intro j
    exact pI2 (fun k => ldH harg2 _ (j 0) k _ rfl) (fun y => ldS harg9 _ y) (Fin.ext (by show 0 + 1 * (j 1).val = (j 1).val; omega))
  · intro j
    exact pI1 (fun k => ldH harg2 _ (j 0) k _ rfl) (fun y => ldS harg9 _ y) (Fin.ext (by show 0 + 1 * (j 1).val = (j 1).val; omega))
  · intro j
    exact pI0 (fun k => ldH harg2 _ (j 0) k _ rfl) (fun y => ldS harg9 _ y) (Fin.ext (by show 0 + 1 * (j 1).val = (j 1).val; omega))

/-- The output block of case G, read at an index. -/
theorem out_G (c : Dev nD) (i : grid0.Coords) (arg2 : Memref sig .tc .vmem S1024x2048 .bf16) (harg2 : arg2.IsWhole) (arg3 : Memref sig .tc .vmem S1x512x2048 .f32) (harg3 : arg3.IsWhole) (arg4 : Memref sig .tc .vmem S1x512x2048 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S1024x512 .f32) (harg8 : arg8.IsWhole) (arg9 : Memref sig .tc .vmem S2048x512 .bf16) (harg9 : arg9.IsWhole) (hc0 : cond0_0 i) (hc1 : ¬cond0_1 i) (hc2 : ¬cond0_2 i) (hc3 : ¬cond0_3 i) (hc4 : ¬cond0_4 i) (hc5 : cond0_5 i) (hc6 : ¬cond0_6 i)
    (x0 : Vec I S1024x2048 .bf16) (x1 : Vec I S1x512x2048 .f32) (x2 : Vec I S1x512x2048 .f32) (x3 : Vec I S1x512 .f32) (x4 : Vec I S1x512 .f32) (x5 : Vec I S512x512 .bf16) :
    out0_G_6 c i arg2 harg2 arg3 harg3 arg4 harg4 arg5 harg5 arg6 harg6 arg7 harg7 arg8 harg8 arg9 harg9 hc0 hc1 hc2 hc3 hc4 hc5 hc6 x0 x1 x2 x3 x4 x5 = selT x0 (wT x1) x5 x4 := by
  funext y
  unfold out0_G_6
  refine View.read_writes_apply_of_pieces _ _ (selT x0 (wT x1) x5 x4) _ ?_ y (cover0_G_6 c i arg2 harg2 arg3 harg3 arg4 harg4 arg5 harg5 arg6 harg6 arg7 harg7 arg8 harg8 arg9 harg9 hc0 hc1 hc2 hc3 hc4 hc5 hc6 x0 x1 x2 x3 x4 x5 y)
  unfold kernelRun0_G
  dsimp only
  sl_unfold_words
  simp only [List.forall_mem_cons]
  refine ⟨?_, ?_, ?_, ?_, by simp⟩
  · intro j
    exact pK3 (fun k => ldH harg2 _ (j 0) k _ rfl) (fun y => ldWa _ harg3 _ y) (Fin.ext (by show 0 + 1 * (j 1).val = (j 1).val; omega)) (fun y => ldG harg7 _ y) (fun y => ldN harg6 _ y)
  · intro j
    exact pK2 (fun k => ldH harg2 _ (j 0) k _ rfl) (fun y => ldWa _ harg3 _ y) (Fin.ext (by show 0 + 1 * (j 1).val = (j 1).val; omega)) (fun y => ldG harg7 _ y) (fun y => ldN harg6 _ y)
  · intro j
    exact pK1 (fun k => ldH harg2 _ (j 0) k _ rfl) (fun y => ldWa _ harg3 _ y) (Fin.ext (by show 0 + 1 * (j 1).val = (j 1).val; omega)) (fun y => ldG harg7 _ y) (fun y => ldN harg6 _ y)
  · intro j
    exact pK0 (fun k => ldH harg2 _ (j 0) k _ rfl) (fun y => ldWa _ harg3 _ y) (Fin.ext (by show 0 + 1 * (j 1).val = (j 1).val; omega)) (fun y => ldG harg7 _ y) (fun y => ldN harg6 _ y)

/-- The weight scratch case G leaves. -/
theorem sout_G (c : Dev nD) (i : grid0.Coords) (arg2 : Memref sig .tc .vmem S1024x2048 .bf16) (harg2 : arg2.IsWhole) (arg3 : Memref sig .tc .vmem S1x512x2048 .f32) (harg3 : arg3.IsWhole) (arg4 : Memref sig .tc .vmem S1x512x2048 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S1024x512 .f32) (harg8 : arg8.IsWhole) (arg9 : Memref sig .tc .vmem S2048x512 .bf16) (harg9 : arg9.IsWhole) (hc0 : cond0_0 i) (hc1 : ¬cond0_1 i) (hc2 : ¬cond0_2 i) (hc3 : ¬cond0_3 i) (hc4 : ¬cond0_4 i) (hc5 : cond0_5 i) (hc6 : ¬cond0_6 i)
    (x0 : Vec I S1024x2048 .bf16) (x1 : Vec I S1x512x2048 .f32) (x2 : Vec I S1x512x2048 .f32) (x3 : Vec I S1x512 .f32) (x4 : Vec I S1x512 .f32) (x5 : Vec I S512x512 .bf16) :
    sout0_G_0 c i arg2 harg2 arg3 harg3 arg4 harg4 arg5 harg5 arg6 harg6 arg7 harg7 arg8 harg8 arg9 harg9 hc0 hc1 hc2 hc3 hc4 hc5 hc6 x0 x1 x2 x3 x4 x5 = wT x1 := by
  funext y
  unfold sout0_G_0
  rw [View.read_writes_eq_canon _ _ _ (scover0_G_0 c i arg2 harg2 arg3 harg3 arg4 harg4 arg5 harg5 arg6 harg6 arg7 harg7 arg8 harg8 arg9 harg9 hc0 hc1 hc2 hc3 hc4 hc5 hc6 x0 x1 x2 x3 x4 x5)]
  unfold kernelRun0_G
  dsimp only
  sl_unfold_words
  rw [View.canon_unit_zero (by funext a; fin_cases a <;> rfl)]
  unfold k0_pay1 wT
  pointwise
  rw [Memref.IsWhole.readAt_unread]
  refine congrArg x1 ?_
  funext a
  fin_cases a
  · rfl
  · exact Fin.ext (by show 0 + 1 * (y 1).val = (y 1).val; omega)
  · exact Fin.ext (by show 0 + 1 * (y 0).val = (y 0).val; omega)

/-- The output block of case H, read at an index. -/
theorem out_H (c : Dev nD) (i : grid0.Coords) (arg2 : Memref sig .tc .vmem S1024x2048 .bf16) (harg2 : arg2.IsWhole) (arg3 : Memref sig .tc .vmem S1x512x2048 .f32) (harg3 : arg3.IsWhole) (arg4 : Memref sig .tc .vmem S1x512x2048 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S1024x512 .f32) (harg8 : arg8.IsWhole) (arg9 : Memref sig .tc .vmem S2048x512 .bf16) (harg9 : arg9.IsWhole) (hc0 : ¬cond0_0 i) (hc1 : ¬cond0_1 i) (hc2 : ¬cond0_2 i) (hc3 : ¬cond0_3 i) (hc4 : ¬cond0_4 i) (hc5 : cond0_5 i) (hc6 : ¬cond0_6 i)
    (x0 : Vec I S1024x2048 .bf16) (x1 : Vec I S1x512x2048 .f32) (x2 : Vec I S1x512x2048 .f32) (x3 : Vec I S1x512 .f32) (x4 : Vec I S1x512 .f32) (x5 : Vec I S512x512 .bf16) (xs0 : Vec I S2048x512 .bf16) :
    out0_H_6 c i arg2 harg2 arg3 harg3 arg4 harg4 arg5 harg5 arg6 harg6 arg7 harg7 arg8 harg8 arg9 harg9 hc0 hc1 hc2 hc3 hc4 hc5 hc6 x0 x1 x2 x3 x4 x5 xs0 = selT x0 xs0 x5 x4 := by
  funext y
  unfold out0_H_6
  refine View.read_writes_apply_of_pieces _ _ (selT x0 xs0 x5 x4) _ ?_ y (cover0_H_6 c i arg2 harg2 arg3 harg3 arg4 harg4 arg5 harg5 arg6 harg6 arg7 harg7 arg8 harg8 arg9 harg9 hc0 hc1 hc2 hc3 hc4 hc5 hc6 x0 x1 x2 x3 x4 x5 xs0 y)
  unfold kernelRun0_H
  dsimp only
  sl_unfold_words
  simp only [List.forall_mem_cons]
  refine ⟨?_, ?_, ?_, ?_, by simp⟩
  · intro j
    exact pK3 (fun k => ldH harg2 _ (j 0) k _ rfl) (fun y => ldS harg9 _ y) (Fin.ext (by show 0 + 1 * (j 1).val = (j 1).val; omega)) (fun y => ldG harg7 _ y) (fun y => ldN harg6 _ y)
  · intro j
    exact pK2 (fun k => ldH harg2 _ (j 0) k _ rfl) (fun y => ldS harg9 _ y) (Fin.ext (by show 0 + 1 * (j 1).val = (j 1).val; omega)) (fun y => ldG harg7 _ y) (fun y => ldN harg6 _ y)
  · intro j
    exact pK1 (fun k => ldH harg2 _ (j 0) k _ rfl) (fun y => ldS harg9 _ y) (Fin.ext (by show 0 + 1 * (j 1).val = (j 1).val; omega)) (fun y => ldG harg7 _ y) (fun y => ldN harg6 _ y)
  · intro j
    exact pK0 (fun k => ldH harg2 _ (j 0) k _ rfl) (fun y => ldS harg9 _ y) (Fin.ext (by show 0 + 1 * (j 1).val = (j 1).val; omega)) (fun y => ldG harg7 _ y) (fun y => ldN harg6 _ y)

/-- The output block of case I, read at an index. -/
theorem out_I (c : Dev nD) (i : grid0.Coords) (arg2 : Memref sig .tc .vmem S1024x2048 .bf16) (harg2 : arg2.IsWhole) (arg3 : Memref sig .tc .vmem S1x512x2048 .f32) (harg3 : arg3.IsWhole) (arg4 : Memref sig .tc .vmem S1x512x2048 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S1024x512 .f32) (harg8 : arg8.IsWhole) (arg9 : Memref sig .tc .vmem S2048x512 .bf16) (harg9 : arg9.IsWhole) (hc0 : ¬cond0_0 i) (hc1 : cond0_1 i) (hc2 : ¬cond0_2 i) (hc3 : ¬cond0_3 i) (hc4 : ¬cond0_4 i) (hc5 : ¬cond0_5 i) (hc6 : cond0_6 i)
    (x0 : Vec I S1024x2048 .bf16) (x1 : Vec I S1x512x2048 .f32) (x2 : Vec I S1x512x2048 .f32) (x3 : Vec I S1x512 .f32) (x4 : Vec I S1x512 .f32) (x5 : Vec I S512x512 .bf16) :
    out0_I_6 c i arg2 harg2 arg3 harg3 arg4 harg4 arg5 harg5 arg6 harg6 arg7 harg7 arg8 harg8 arg9 harg9 hc0 hc1 hc2 hc3 hc4 hc5 hc6 x0 x1 x2 x3 x4 x5 = sigT x0 (wT x2) := by
  funext y
  unfold out0_I_6
  refine View.read_writes_apply_of_pieces _ _ (sigT x0 (wT x2)) _ ?_ y (cover0_I_6 c i arg2 harg2 arg3 harg3 arg4 harg4 arg5 harg5 arg6 harg6 arg7 harg7 arg8 harg8 arg9 harg9 hc0 hc1 hc2 hc3 hc4 hc5 hc6 x0 x1 x2 x3 x4 x5 y)
  unfold kernelRun0_I
  dsimp only
  sl_unfold_words
  simp only [List.forall_mem_cons]
  refine ⟨?_, ?_, ?_, ?_, by simp⟩
  · intro j
    exact pS3 (fun k => ldH harg2 _ (j 0) k _ rfl) (fun y => ldWb _ harg4 _ y) (Fin.ext (by show 0 + 1 * (j 1).val = (j 1).val; omega))
  · intro j
    exact pS2 (fun k => ldH harg2 _ (j 0) k _ rfl) (fun y => ldWb _ harg4 _ y) (Fin.ext (by show 0 + 1 * (j 1).val = (j 1).val; omega))
  · intro j
    exact pS1 (fun k => ldH harg2 _ (j 0) k _ rfl) (fun y => ldWb _ harg4 _ y) (Fin.ext (by show 0 + 1 * (j 1).val = (j 1).val; omega))
  · intro j
    exact pS0 (fun k => ldH harg2 _ (j 0) k _ rfl) (fun y => ldWb _ harg4 _ y) (Fin.ext (by show 0 + 1 * (j 1).val = (j 1).val; omega))

/-- The weight scratch case I leaves. -/
theorem sout_I (c : Dev nD) (i : grid0.Coords) (arg2 : Memref sig .tc .vmem S1024x2048 .bf16) (harg2 : arg2.IsWhole) (arg3 : Memref sig .tc .vmem S1x512x2048 .f32) (harg3 : arg3.IsWhole) (arg4 : Memref sig .tc .vmem S1x512x2048 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S1024x512 .f32) (harg8 : arg8.IsWhole) (arg9 : Memref sig .tc .vmem S2048x512 .bf16) (harg9 : arg9.IsWhole) (hc0 : ¬cond0_0 i) (hc1 : cond0_1 i) (hc2 : ¬cond0_2 i) (hc3 : ¬cond0_3 i) (hc4 : ¬cond0_4 i) (hc5 : ¬cond0_5 i) (hc6 : cond0_6 i)
    (x0 : Vec I S1024x2048 .bf16) (x1 : Vec I S1x512x2048 .f32) (x2 : Vec I S1x512x2048 .f32) (x3 : Vec I S1x512 .f32) (x4 : Vec I S1x512 .f32) (x5 : Vec I S512x512 .bf16) :
    sout0_I_0 c i arg2 harg2 arg3 harg3 arg4 harg4 arg5 harg5 arg6 harg6 arg7 harg7 arg8 harg8 arg9 harg9 hc0 hc1 hc2 hc3 hc4 hc5 hc6 x0 x1 x2 x3 x4 x5 = wT x2 := by
  funext y
  unfold sout0_I_0
  rw [View.read_writes_eq_canon _ _ _ (scover0_I_0 c i arg2 harg2 arg3 harg3 arg4 harg4 arg5 harg5 arg6 harg6 arg7 harg7 arg8 harg8 arg9 harg9 hc0 hc1 hc2 hc3 hc4 hc5 hc6 x0 x1 x2 x3 x4 x5)]
  unfold kernelRun0_I
  dsimp only
  sl_unfold_words
  rw [View.canon_unit_zero (by funext a; fin_cases a <;> rfl)]
  unfold k0_pay2 wT
  pointwise
  rw [Memref.IsWhole.readAt_unread]
  refine congrArg x2 ?_
  funext a
  fin_cases a
  · rfl
  · exact Fin.ext (by show 0 + 1 * (y 1).val = (y 1).val; omega)
  · exact Fin.ext (by show 0 + 1 * (y 0).val = (y 0).val; omega)

/-- The output block of case J, read at an index. -/
theorem out_J (c : Dev nD) (i : grid0.Coords) (arg2 : Memref sig .tc .vmem S1024x2048 .bf16) (harg2 : arg2.IsWhole) (arg3 : Memref sig .tc .vmem S1x512x2048 .f32) (harg3 : arg3.IsWhole) (arg4 : Memref sig .tc .vmem S1x512x2048 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S1024x512 .f32) (harg8 : arg8.IsWhole) (arg9 : Memref sig .tc .vmem S2048x512 .bf16) (harg9 : arg9.IsWhole) (hc0 : ¬cond0_0 i) (hc1 : ¬cond0_1 i) (hc2 : ¬cond0_2 i) (hc3 : ¬cond0_3 i) (hc4 : ¬cond0_4 i) (hc5 : ¬cond0_5 i) (hc6 : cond0_6 i)
    (x0 : Vec I S1024x2048 .bf16) (x1 : Vec I S1x512x2048 .f32) (x2 : Vec I S1x512x2048 .f32) (x3 : Vec I S1x512 .f32) (x4 : Vec I S1x512 .f32) (x5 : Vec I S512x512 .bf16) (xs0 : Vec I S2048x512 .bf16) :
    out0_J_6 c i arg2 harg2 arg3 harg3 arg4 harg4 arg5 harg5 arg6 harg6 arg7 harg7 arg8 harg8 arg9 harg9 hc0 hc1 hc2 hc3 hc4 hc5 hc6 x0 x1 x2 x3 x4 x5 xs0 = sigT x0 xs0 := by
  funext y
  unfold out0_J_6
  refine View.read_writes_apply_of_pieces _ _ (sigT x0 xs0) _ ?_ y (cover0_J_6 c i arg2 harg2 arg3 harg3 arg4 harg4 arg5 harg5 arg6 harg6 arg7 harg7 arg8 harg8 arg9 harg9 hc0 hc1 hc2 hc3 hc4 hc5 hc6 x0 x1 x2 x3 x4 x5 xs0 y)
  unfold kernelRun0_J
  dsimp only
  sl_unfold_words
  simp only [List.forall_mem_cons]
  refine ⟨?_, ?_, ?_, ?_, by simp⟩
  · intro j
    exact pS3 (fun k => ldH harg2 _ (j 0) k _ rfl) (fun y => ldS harg9 _ y) (Fin.ext (by show 0 + 1 * (j 1).val = (j 1).val; omega))
  · intro j
    exact pS2 (fun k => ldH harg2 _ (j 0) k _ rfl) (fun y => ldS harg9 _ y) (Fin.ext (by show 0 + 1 * (j 1).val = (j 1).val; omega))
  · intro j
    exact pS1 (fun k => ldH harg2 _ (j 0) k _ rfl) (fun y => ldS harg9 _ y) (Fin.ext (by show 0 + 1 * (j 1).val = (j 1).val; omega))
  · intro j
    exact pS0 (fun k => ldH harg2 _ (j 0) k _ rfl) (fun y => ldS harg9 _ y) (Fin.ext (by show 0 + 1 * (j 1).val = (j 1).val; omega))

end Cert.InprojIdeal.Inp
-- ==== Proof.InprojSpec.lean ====
module

public import proofs.«01_k».proof.Proof.InprojTile

@[expose] public section

set_option maxRecDepth 16384

noncomputable section

namespace Cert.InprojIdeal.Inp

open Cert.InprojIdeal Cert.InprojIdeal.Gen Idealize.ShloMosaic Idealize.ShloMosaic.TcCoe Idealize.SL.Sem

local notation "I" => Idealize.ShloMosaic.Ideal

/-! # The array the projection leaves, one element at a time -/

/-- A row of the activations against a column of the weights. -/
def proj (h : Vec I S8192x2048 .bf16) (w : Vec I S2x2048x8752 .f32) (r : Fin 8192) (p : ℕ) : EReal :=
  ∑ k : Fin 2048, h (ix2 r k) * w (ix3 0 k ⟨p % 8752, Nat.mod_lt _ (by norm_num)⟩)

/-- The root-mean-square norm over the group of 64 columns that holds column `p`. -/
def nrm64 (A : ℕ → EReal) (n : Vec I S2x64 .f32) (p : ℕ) : EReal :=
  A p * Ideal.rsqrt (Ideal.div (∑ x : Fin 64, A (64 * (p / 64) + x.val) * A (64 * (p / 64) + x.val)) (Ideal.ofBits FTy.f32 1115684864#32) +
    Ideal.ofBits FTy.f32 897988541#32) * (n (ix2 0 ⟨p % 64, Nat.mod_lt _ (by norm_num)⟩) : EReal)

/-- An element of the projection's result: gelu of the first columns, then the normalized queries, the compressed keys and
    values as they are, the normalized selection and window keys each before its values, and the gates through the logistic
    function. -/
def fused (h : Vec I S8192x2048 .bf16) (w : Vec I S2x2048x8752 .f32) (qn kn : Vec I S2x64 .f32) : Vec I S8192x9216 .f32 := fun i =>
  if (i 1).val < 2048 then gel (proj h w (i 0) (i 1).val)
  else if (i 1).val < 3072 then nrm64 (proj h w (i 0)) qn (i 1).val
  else if (i 1).val < 3584 then proj h w (i 0) (i 1).val
  else if (i 1).val < 3840 then nrm64 (proj h w (i 0)) kn (i 1).val
  else if (i 1).val < 4096 then proj h w (i 0) (i 1).val
  else if (i 1).val < 4352 then nrm64 (proj h w (i 0)) kn (i 1).val
  else if (i 1).val < 4608 then proj h w (i 0) (i 1).val
  else if (i 1).val < 8704 then Ideal.logistic (proj h w (i 0) ((i 1).val + 48))
  else Ideal.logistic (proj h w (i 0) ((i 1).val - 4096))

end Cert.InprojIdeal.Inp
-- ==== Proof.InprojValue.lean ====
module

public import proofs.«01_k».proof.Proof.InprojHost
public import proofs.«01_k».proof.Proof.InprojCases
public import proofs.«01_k».proof.Proof.InprojSpec

@[expose] public section

set_option maxRecDepth 16384

noncomputable section

namespace Cert.InprojIdeal.Inp

open Cert.InprojIdeal Cert.InprojIdeal.Gen Idealize.ShloMosaic Idealize.ShloMosaic.TcCoe Idealize.SL.Sem

local notation "I" => Idealize.ShloMosaic.Ideal

/-! # The mean of squares -/

/-- A sum of real numbers, taken among the extended reals. -/
theorem coe_sum {n : ℕ} (f : Fin n → ℝ) : ∑ x, ((f x : ℝ) : EReal) = ((∑ x, f x : ℝ) : EReal) := by
  refine Finset.induction_on (Finset.univ : Finset (Fin n)) ?_ ?_
  · simp
  · intro a s ha ih
    rw [Finset.sum_insert ha, Finset.sum_insert ha, ih, EReal.coe_add]

/-- 0x3C800000 is 1/64. -/
theorem bits_inv64 : Ideal.ofBits FTy.f32 0x3C800000#32 = ((1 / 64 : ℝ) : EReal) := by
  simp [Ideal.ofBits, Ideal.ieee, -EReal.coe_mul]
  norm_num

/-- 0x42800000 is 64. -/
theorem bits_64 : Ideal.ofBits FTy.f32 1115684864#32 = ((64 : ℝ) : EReal) := by
  simp [Ideal.ofBits, Ideal.ieee, -EReal.coe_mul]
  norm_num

/-- Averaging by the group matrix is averaging over the group of 64 lanes. -/
theorem group_sum (a : Fin 512 → ℝ) (q : Fin 512) :
    ∑ x, a x * (if x.val / 64 = q.val / 64 then (1 / 64 : ℝ) else 0) =
      (∑ x : Fin 64, a ⟨64 * (q.val / 64) + x.val, by omega⟩) * (64 : ℝ)⁻¹ := by
  have e := (Equiv.sum_comp (finProdFinEquiv (m := 8) (n := 64))
    (fun x : Fin (8 * 64) => a x * (if x.val / 64 = q.val / 64 then (1 / 64 : ℝ) else 0))).symm
  refine Eq.trans e ?_
  rw [Fintype.sum_prod_type, Finset.sum_eq_single (⟨q.val / 64, by omega⟩ : Fin 8)]
  · rw [Finset.sum_mul]
    refine Finset.sum_congr rfl fun x _ => ?_
    have hv : (finProdFinEquiv ((⟨q.val / 64, by omega⟩ : Fin 8), x)).val = x.val + 64 * (q.val / 64) := rfl
    rw [if_pos (by rw [hv]; omega)]
    have hx : (finProdFinEquiv ((⟨q.val / 64, by omega⟩ : Fin 8), x) : Fin 512) = ⟨64 * (q.val / 64) + x.val, by omega⟩ :=
      Fin.ext (by show x.val + 64 * (q.val / 64) = 64 * (q.val / 64) + x.val; omega)
    refine congrArg₂ _ (congrArg a hx) ?_
    norm_num
  · intro b _ hb
    refine Finset.sum_eq_zero fun x _ => ?_
    have hv : (finProdFinEquiv (b, x)).val = x.val + 64 * b.val := rfl
    have hne : b.val ≠ q.val / 64 := fun h => hb (Fin.ext h)
    rw [if_neg (by rw [hv]; omega), mul_zero]
  · intro h
    exact absurd (Finset.mem_univ _) h

/-- Over finite values the kernel's mean of squares, taken through the group matrix from the squares and from what their
    rounding left over, is the mean over the group. -/
theorem mean_eq (A : Fin 512 → EReal) (hA : ∀ x, ∃ r : ℝ, A x = (r : EReal)) (q : Fin 512) :
    ∑ x, A x * A x * (if x.val / 64 = q.val / 64 then Ideal.ofBits FTy.f32 0x3C800000#32 else 0 : EReal) +
        ∑ x, (A x * A x - A x * A x) * (if x.val / 64 = q.val / 64 then Ideal.ofBits FTy.f32 0x3C800000#32 else 0 : EReal) =
      Ideal.div (∑ x : Fin 64, A ⟨64 * (q.val / 64) + x.val, by omega⟩ * A ⟨64 * (q.val / 64) + x.val, by omega⟩)
        (Ideal.ofBits FTy.f32 1115684864#32) := by
  choose a ha using hA
  obtain rfl : A = fun x => ((a x : ℝ) : EReal) := funext ha
  have h0 : ∀ x : Fin 512, ((a x : ℝ) : EReal) * ((a x : ℝ) : EReal) - ((a x : ℝ) : EReal) * ((a x : ℝ) : EReal) = 0 := by
    intro x
    rw [← EReal.coe_mul, ← EReal.coe_sub, sub_self, EReal.coe_zero]
  have h1 : ∀ x : Fin 512, ((a x : ℝ) : EReal) * ((a x : ℝ) : EReal) *
      (if x.val / 64 = q.val / 64 then Ideal.ofBits FTy.f32 0x3C800000#32 else 0 : EReal) =
      ((a x * a x * (if x.val / 64 = q.val / 64 then (1 / 64 : ℝ) else 0) : ℝ) : EReal) := by
    intro x
    rw [bits_inv64]
    split
    · rw [EReal.coe_mul, EReal.coe_mul]
    · rw [mul_zero, mul_zero, EReal.coe_zero]
  dsimp only
  simp only [h0, h1, zero_mul, Finset.sum_const_zero, add_zero]
  rw [coe_sum, group_sum (fun x => a x * a x) q, bits_64]
  simp only [← EReal.coe_mul]
  rw [coe_sum]
  unfold Ideal.div
  rw [if_neg (by norm_num), ← EReal.coe_inv, ← EReal.coe_mul]

/-! # The rows of a grid point -/

/-- The first weight column of a sweep: blocks of 512 columns, with the merge gates' blocks 48 columns further on and the
    per-head gates' block last. -/
def cb (j : ℕ) : ℕ := if j ≤ 8 then 512 * j else if j = 17 then 4608 else 4656 + 512 * (j - 9)

/-- The weight columns of a sweep. -/
def wcol (w : Vec I S2x2048x8752 .f32) (j : ℕ) : Vec I S2048x512 .bf16 := fun y =>
  w (ix3 0 (y 0) ⟨(cb j + (y 1).val) % 8752, Nat.mod_lt _ (by norm_num)⟩)

variable (m : (ℓ : Loc nD τ sig) → Buf (Elt I) ℓ)

theorem wT1 (c : Dev nD) (t : Fin cfg0.N) (h : t.val / 8 ≤ 8) :
    wT (X0_1 m c t) = wcol (m (c.tc.loc main_arg1)) (t.val / 8) := by
  funext y
  have hy : (y 1).val < 512 := (y 1).isLt
  unfold wT wcol cb
  rw [blkE1, V0]
  refine congrArg (m (c.tc.loc main_arg1)) ?_
  funext a
  fin_cases a
  · rfl
  · rfl
  · exact Fin.ext (by show 512 * (min (t.val / 8) 8) + (y 1).val = _ % 8752; rw [if_pos h]; omega)

theorem wT2 (c : Dev nD) (t : Fin cfg0.N) (h : 9 ≤ t.val / 8) :
    wT (iblk m c 2 t) = wcol (m (c.tc.loc main_arg1)) (t.val / 8) := by
  funext y
  have hN : t.val < 144 := t.isLt
  have hy : (y 1).val < 512 := (y 1).isLt
  unfold wT wcol cb
  rw [blkE2, V0]
  refine congrArg (m (c.tc.loc main_arg1)) ?_
  funext a
  fin_cases a
  · rfl
  · rfl
  · exact Fin.ext (by
      show (if t.val / 8 = 17 then 4608 else 4656 + 512 * (t.val / 8 - 9)) + (y 1).val = _ % 8752
      rw [if_neg (show ¬ t.val / 8 ≤ 8 by omega)]
      split <;> omega)

/-- A row of the point's accumulator is a row of the projection, from the sweep's first column on. -/
theorem row_eq (c : Dev nD) (t : Fin cfg0.N) (j : ℕ) (r : Fin 1024) (q : Fin 512) :
    row (iblk m c 0 t) (wcol (m (c.tc.loc main_arg1)) j) r q =
      proj (m (c.tc.loc main_arg0)) (m (c.tc.loc main_arg1)) ⟨1024 * (t.val % 8) + r.val, by omega⟩ (cb j + q.val) := by
  unfold row proj
  refine Finset.sum_congr rfl fun k _ => ?_
  rw [blkE0, V_main_arg0 m c]
  rfl

/-- The tile a grid point leaves. -/
def tileAt (c : Dev nD) (t : Fin cfg0.N) : Vec I S1024x512 .f32 :=
  if t.val / 8 < 4 then geluT (iblk m c 0 t) (wcol (m (c.tc.loc main_arg1)) (t.val / 8))
  else if t.val / 8 < 6 then normT (iblk m c 0 t) (wcol (m (c.tc.loc main_arg1)) (t.val / 8)) (iblk m c 5 t) (iblk m c 3 t)
  else if t.val / 8 < 7 then idT (iblk m c 0 t) (wcol (m (c.tc.loc main_arg1)) (t.val / 8))
  else if t.val / 8 < 9 then selT (iblk m c 0 t) (wcol (m (c.tc.loc main_arg1)) (t.val / 8)) (iblk m c 5 t) (iblk m c 4 t)
  else sigT (iblk m c 0 t) (wcol (m (c.tc.loc main_arg1)) (t.val / 8))

/-- What a grid point leaves, given that a point that does not reload the scratch finds the sweep's columns in it. -/
theorem point (c : Dev nD) (t : Fin cfg0.N)
    (hs : t.val % 8 ≠ 0 → (outsAt0 m c (t.val - 1) (Nat.lt_of_le_of_lt (Nat.sub_le _ _) t.isLt)).2 = wcol (m (c.tc.loc main_arg1)) (t.val / 8)) :
    outsAt0 m c t.val t.isLt = (tileAt m c t, wcol (m (c.tc.loc main_arg1)) (t.val / 8)) := by
  have hN : t.val < 144 := t.isLt
  unfold tileAt
  by_cases z : t.val % 8 = 0
  · by_cases a4 : t.val / 8 < 4
    · rw [outsAt0_A m c t (by omega) (by omega) (by omega) (by omega) (by omega) (by omega) (by omega), out_A, sout_A, wT1 m c t (by omega), if_pos a4]
    by_cases a6 : t.val / 8 < 6
    · rw [outsAt0_C m c t (by omega) (by omega) (by omega) (by omega) (by omega) (by omega) (by omega), out_C, sout_C, wT1 m c t (by omega), if_neg a4, if_pos a6]
    by_cases a7 : t.val / 8 < 7
    · rw [outsAt0_E m c t (by omega) (by omega) (by omega) (by omega) (by omega) (by omega) (by omega), out_E, sout_E, wT1 m c t (by omega), if_neg a4, if_neg a6, if_pos a7]
    by_cases a9 : t.val / 8 < 9
    · rw [outsAt0_G m c t (by omega) (by omega) (by omega) (by omega) (by omega) (by omega) (by omega), out_G, sout_G, wT1 m c t (by omega), if_neg a4, if_neg a6, if_neg a7, if_pos a9]
    · rw [outsAt0_I m c t (by omega) (by omega) (by omega) (by omega) (by omega) (by omega) (by omega), out_I, sout_I, wT2 m c t (by omega), if_neg a4, if_neg a6, if_neg a7, if_neg a9]
  · have hz := hs z
    by_cases a4 : t.val / 8 < 4
    · rw [outsAt0_B m c t (by omega) (by omega) (by omega) (by omega) (by omega) (by omega) (by omega), out_B, hz, if_pos a4]
      rfl
    by_cases a6 : t.val / 8 < 6
    · rw [outsAt0_D m c t (by omega) (by omega) (by omega) (by omega) (by omega) (by omega) (by omega), out_D, hz, if_neg a4, if_pos a6]
      rfl
    by_cases a7 : t.val / 8 < 7
    · rw [outsAt0_F m c t (by omega) (by omega) (by omega) (by omega) (by omega) (by omega) (by omega), out_F, hz, if_neg a4, if_neg a6, if_pos a7]
      rfl
    by_cases a9 : t.val / 8 < 9
    · rw [outsAt0_H m c t (by omega) (by omega) (by omega) (by omega) (by omega) (by omega) (by omega), out_H, hz, if_neg a4, if_neg a6, if_neg a7, if_pos a9]
      rfl
    · rw [outsAt0_J m c t (by omega) (by omega) (by omega) (by omega) (by omega) (by omega) (by omega), out_J, hz, if_neg a4, if_neg a6, if_neg a7, if_neg a9]
      rfl

/-- After every point the scratch holds the weight columns of the point's sweep. -/
theorem scratch (c : Dev nD) : ∀ (n : ℕ) (h : n < cfg0.N), (outsAt0 m c n h).2 = wcol (m (c.tc.loc main_arg1)) (n / 8) := by
  intro n
  induction n with
  | zero =>
    intro h
    exact congrArg Prod.snd (point m c ⟨0, h⟩ fun h => absurd rfl h)
  | succ n ih =>
    intro h
    refine congrArg Prod.snd (point m c ⟨n + 1, h⟩ fun h8 => ?_)
    have h8' : (n + 1) % 8 ≠ 0 := h8
    have e := ih (Nat.lt_of_succ_lt h)
    rw [show n / 8 = (n + 1) / 8 by omega] at e
    exact e

/-- So every point leaves its tile. -/
theorem tile_point (c : Dev nD) (t : Fin cfg0.N) : (outsAt0 m c t.val t.isLt).1 = tileAt m c t := by
  refine congrArg Prod.fst (point m c t fun h8 => ?_)
  rw [scratch m c (t.val - 1) _, show (t.val - 1) / 8 = t.val / 8 by omega]

/-! # The array -/

/-- A row of the projection is finite when the arguments are. -/
theorem proj_real (h : Vec I S8192x2048 .bf16) (w : Vec I S2x2048x8752 .f32) (hh : ∀ y, ∃ r : ℝ, (h y : EReal) = (r : EReal))
    (hw : ∀ y, ∃ r : ℝ, (w y : EReal) = (r : EReal)) (r : Fin 8192) (p : ℕ) : ∃ s : ℝ, proj h w r p = (s : EReal) := by
  choose a ha using hh
  choose b hb using hw
  refine ⟨∑ k : Fin 2048, a (ix2 r k) * b (ix3 0 k ⟨p % 8752, Nat.mod_lt _ (by norm_num)⟩), ?_⟩
  rw [← coe_sum]
  unfold proj
  refine Finset.sum_congr rfl fun k _ => ?_
  rw [ha, hb, EReal.coe_mul]

/-- The kernel's norm of a finite row is the norm over the group of 64 columns. -/
theorem nrm_eq (c : Dev nD) (A : ℕ → EReal) (hA : ∀ p, ∃ r : ℝ, A p = (r : EReal)) (b : ℕ) (hb : b % 64 = 0)
    (R : Fin 512 → EReal) (hR : ∀ x : Fin 512, R x = A (b + x.val))
    (g : Vec I S512x512 .bf16) (hg : ∀ y, g y = (if (y 0).val / 64 = (y 1).val / 64 then Ideal.ofBits FTy.f32 0x3C800000#32 else 0 : EReal))
    (n : Vec I S1x512 .f32) (n' : Vec I S2x64 .f32) (hn : ∀ y, n y = n' (ix2 0 ⟨(y 1).val % 64, Nat.mod_lt _ (by norm_num)⟩)) (q : Fin 512) :
    nrm R g n q = nrm64 A n' (b + q.val) := by
  have hm := mean_eq R (fun x => by rw [hR x]; exact hA _) q
  unfold nrm nrm64
  have e0 : ∀ x : Fin 512, (g (ix2 x q) : EReal) = (if x.val / 64 = q.val / 64 then Ideal.ofBits FTy.f32 0x3C800000#32 else 0 : EReal) := fun x => hg _
  have e1 : (n (ix2 0 q) : EReal) = n' (ix2 0 ⟨(b + q.val) % 64, Nat.mod_lt _ (by norm_num)⟩) := by
    rw [hn]
    refine congrArg n' (congrArg (ix2 0) (Fin.ext ?_))
    show q.val % 64 = (b + q.val) % 64
    omega
  simp only [e0]
  rw [hm, e1, hR q]
  have e2 : ∀ x : Fin 64, R ⟨64 * (q.val / 64) + x.val, by omega⟩ = A (64 * ((b + q.val) / 64) + x.val) := by
    intro x
    rw [hR]
    refine congrArg A ?_
    show b + (64 * (q.val / 64) + x.val) = _
    omega
  simp only [e2]

/-- The lane test of the key and value tile. -/
theorem lane : ∀ q : Fin 512, IntOp.cmpi CmpIPredicate.slt (BitVec.ofNat 32 q.val) 256#32 = if q.val < 256 then 1#1 else 0#1 := by
  decide +kernel

theorem geluT_at (x : Vec I S1024x2048 .bf16) (w : Vec I S2048x512 .bf16) (r : Fin 1024) (q : Fin 512) :
    geluT x w (ix2 r q) = gel (row x w r q) := rfl
theorem normT_at (x : Vec I S1024x2048 .bf16) (w : Vec I S2048x512 .bf16) (g : Vec I S512x512 .bf16) (n : Vec I S1x512 .f32)
    (r : Fin 1024) (q : Fin 512) : normT x w g n (ix2 r q) = nrm (row x w r) g n q := rfl
theorem idT_at (x : Vec I S1024x2048 .bf16) (w : Vec I S2048x512 .bf16) (r : Fin 1024) (q : Fin 512) :
    idT x w (ix2 r q) = row x w r q := rfl
theorem sigT_at (x : Vec I S1024x2048 .bf16) (w : Vec I S2048x512 .bf16) (r : Fin 1024) (q : Fin 512) :
    sigT x w (ix2 r q) = Ideal.logistic (row x w r q) := rfl
theorem selT_at (x : Vec I S1024x2048 .bf16) (w : Vec I S2048x512 .bf16) (g : Vec I S512x512 .bf16) (n : Vec I S1x512 .f32)
    (r : Fin 1024) (q : Fin 512) : selT x w g n (ix2 r q) = if q.val < 256 then nrm (row x w r) g n q else row x w r q := by
  show Scalar.select (IntOp.cmpi CmpIPredicate.slt (BitVec.ofNat 32 q.val) 256#32) _ _ = _
  rw [lane q]
  by_cases h : q.val < 256
  · rw [if_pos h, if_pos h]; rfl
  · rw [if_neg h, if_neg h]; rfl

/-- From finite activations and weights the kernel's result array is `fused` of its arguments. -/
theorem G6_eq (c : Dev nD) (hh : ∀ y : S8192x2048.Idx, ∃ r : ℝ, ((m (c.tc.loc main_arg0) : Vec I S8192x2048 .bf16) y : EReal) = (r : EReal))
    (hw : ∀ y : S2x2048x8752.Idx, ∃ r : ℝ, ((m (c.tc.loc main_arg1) : Vec I S2x2048x8752 .f32) y : EReal) = (r : EReal)) :
    G6 m c = fused (m (c.tc.loc main_arg0)) (m (c.tc.loc main_arg1)) (m (c.tc.loc main_arg2)) (m (c.tc.loc main_arg3)) := by
  funext i
  have hb0 : (i 0).val < 8192 := (i 0).isLt
  have hb1 : (i 1).val < 9216 := (i 1).isLt
  have hN : cfg0.N = 144 := N_0
  have hp : pt6Of i < cfg0.N := by unfold pt6Of run6Of; omega
  have hq8 : pt6Of i % 8 = (i 0).val / 1024 := by unfold pt6Of run6Of; omega
  have hd8 : pt6Of i / 8 = (i 1).val / 512 := by unfold pt6Of run6Of; omega
  have hG : G6 m c i = tileAt m c ⟨pt6Of i, hp⟩ (loc6Of i) := by
    unfold G6
    rw [dif_pos hp]
    exact congrFun (tile_point m c ⟨pt6Of i, hp⟩) (loc6Of i)
  rw [hG]
  obtain ⟨r, q, hl, l0, l1⟩ : ∃ (r : Fin 1024) (q : Fin 512), loc6Of i = ix2 r q ∧ r.val = (i 0).val % 1024 ∧ q.val = (i 1).val % 512 :=
    ⟨loc6Of i 0, loc6Of i 1, by funext a; fin_cases a <;> rfl, rfl, rfl⟩
  rw [hl]
  obtain ⟨t, ht⟩ : ∃ t : Fin cfg0.N, t = ⟨pt6Of i, hp⟩ := ⟨_, rfl⟩
  rw [← ht]
  have htv : t.val = pt6Of i := congrArg Fin.val ht
  rw [← htv] at hq8 hd8
  have hN' : t.val < 144 := t.isLt
  clear ht htv hl hG hp
  obtain ⟨R, hR⟩ : ∃ R : Fin 8192, R = i 0 := ⟨_, rfl⟩
  have hRv : R.val = (i 0).val := congrArg Fin.val hR
  have hrow : ∀ x : Fin 512, row (iblk m c 0 t) (wcol (m (c.tc.loc main_arg1)) (t.val / 8)) r x =
      proj (m (c.tc.loc main_arg0)) (m (c.tc.loc main_arg1)) R (cb (t.val / 8) + x.val) := by
    intro x
    refine (row_eq m c t _ r x).trans ?_
    refine congrArg (fun r => proj _ _ r _) (Fin.ext ?_)
    show 1024 * (t.val % 8) + r.val = R.val
    omega
  have hA := proj_real _ _ hh hw R
  have hg : ∀ y : S512x512.Idx, (iblk m c 5 t : Vec I S512x512 .bf16) y =
      (if (y 0).val / 64 = (y 1).val / 64 then Ideal.ofBits FTy.f32 0x3C800000#32 else 0 : EReal) := fun y => by rw [blkE5, V22]
  have hq : ∀ y : S1x512.Idx, (iblk m c 3 t : Vec I S1x512 .f32) y =
      (m (c.tc.loc main_arg2) : Vec I S2x64 .f32) (ix2 0 ⟨(y 1).val % 64, Nat.mod_lt _ (by norm_num)⟩) := fun y => by rw [blkE3, V10]
  have hk : ∀ y : S1x512.Idx, (iblk m c 4 t : Vec I S1x512 .f32) y =
      (m (c.tc.loc main_arg3) : Vec I S2x64 .f32) (ix2 0 ⟨(y 1).val % 64, Nat.mod_lt _ (by norm_num)⟩) := fun y => by rw [blkE4, V12]
  have hr := hrow q
  unfold tileAt fused
  rw [← hR]
  by_cases a4 : t.val / 8 < 4
  · have hc : cb (t.val / 8) + q.val = (i 1).val := by unfold cb; rw [if_pos (by omega)]; omega
    rw [if_pos a4, geluT_at, hr, hc, if_pos (show (i 1).val < 2048 by omega)]
  rw [if_neg a4, if_neg (show ¬ (i 1).val < 2048 by omega)]
  by_cases a6 : t.val / 8 < 6
  · have hc : cb (t.val / 8) + q.val = (i 1).val := by unfold cb; rw [if_pos (by omega)]; omega
    have hb : cb (t.val / 8) % 64 = 0 := by unfold cb; rw [if_pos (by omega)]; omega
    rw [if_pos a6, normT_at, if_pos (show (i 1).val < 3072 by omega), nrm_eq c _ hA _ hb _ hrow _ hg _ _ hq q, hc]
  rw [if_neg a6, if_neg (show ¬ (i 1).val < 3072 by omega)]
  by_cases a7 : t.val / 8 < 7
  · have hc : cb (t.val / 8) + q.val = (i 1).val := by unfold cb; rw [if_pos (by omega)]; omega
    rw [if_pos a7, idT_at, hr, hc, if_pos (show (i 1).val < 3584 by omega)]
  rw [if_neg a7, if_neg (show ¬ (i 1).val < 3584 by omega)]
  by_cases a9 : t.val / 8 < 9
  · have hc : cb (t.val / 8) + q.val = (i 1).val := by unfold cb; rw [if_pos (by omega)]; omega
    have hb : cb (t.val / 8) % 64 = 0 := by unfold cb; rw [if_pos (by omega)]; omega
    rw [if_pos a9, selT_at, nrm_eq c _ hA _ hb _ hrow _ hg _ _ hk q, hr, hc]
    by_cases a8 : t.val / 8 = 7
    · by_cases hl : q.val < 256
      · rw [if_pos hl, if_pos (show (i 1).val < 3840 by omega)]
      · rw [if_neg hl, if_neg (show ¬ (i 1).val < 3840 by omega), if_pos (show (i 1).val < 4096 by omega)]
    · rw [if_neg (show ¬ (i 1).val < 3840 by omega), if_neg (show ¬ (i 1).val < 4096 by omega)]
      by_cases hl : q.val < 256
      · rw [if_pos hl, if_pos (show (i 1).val < 4352 by omega)]
      · rw [if_neg hl, if_neg (show ¬ (i 1).val < 4352 by omega), if_pos (show (i 1).val < 4608 by omega)]
  rw [if_neg a9, sigT_at, hr, if_neg (show ¬ (i 1).val < 3840 by omega), if_neg (show ¬ (i 1).val < 4096 by omega),
    if_neg (show ¬ (i 1).val < 4352 by omega), if_neg (show ¬ (i 1).val < 4608 by omega)]
  by_cases a17 : t.val / 8 = 17
  · have hc : cb (t.val / 8) + q.val = (i 1).val - 4096 := by unfold cb; rw [if_neg (by omega), if_pos a17]; omega
    rw [if_neg (show ¬ (i 1).val < 8704 by omega), hc]
  · have hc : cb (t.val / 8) + q.val = (i 1).val + 48 := by unfold cb; rw [if_neg (by omega), if_neg a17]; omega
    rw [if_pos (show (i 1).val < 8704 by omega), hc]

end Cert.InprojIdeal.Inp

end
-- ==== Proof.InprojRef.lean ====
module

public import proofs.«01_k».proof.Defs
public import proofs.«01_k».proof.Proof.Gen.RefInprojIdeal.Run
public import Idealize.ShloMosaic.Lib.Quiescent
public import Idealize.ShloMosaic.Lib.Tactic.ValueTie
public import Idealize.ShloMosaic.Lib.Tactic
public import proofs.«01_k».proof.Proof.InprojSpec

@[expose] public section

set_option maxRecDepth 16384

noncomputable section

namespace Cert.Proof

open Idealize.ShloMosaic Idealize.SL.Sem
open Cert.RefInprojIdeal

/-- The nine pieces laid side by side, read at an index. -/
theorem cat9 (u0 : Vec Ideal S8192x2048 .f32) (u1 : Vec Ideal S8192x1024 .f32) (u2 : Vec Ideal S8192x512 .f32) (u3 : Vec Ideal S8192x256 .f32)
    (u4 : Vec Ideal S8192x256 .f32) (u5 : Vec Ideal S8192x256 .f32) (u6 : Vec Ideal S8192x256 .f32) (u7 : Vec Ideal S8192x4096 .f32)
    (u8 : Vec Ideal S8192x512 .f32) (i : S8192x9216.Idx) :
    (Value.fn_main_v86 (F := Ideal) u0 u1 u2 u3 u4 u5 u6 u7 u8 : Vec Ideal S8192x9216 .f32) i =
    (if h : (i 1).val < 2048 then u0 (ix2 (i 0) ⟨(i 1).val, h⟩)
    else if h : (i 1).val - 2048 < 1024 then u1 (ix2 (i 0) ⟨(i 1).val - 2048, h⟩)
    else if h : (i 1).val - 2048 - 1024 < 512 then u2 (ix2 (i 0) ⟨(i 1).val - 2048 - 1024, h⟩)
    else if h : (i 1).val - 2048 - 1024 - 512 < 256 then u3 (ix2 (i 0) ⟨(i 1).val - 2048 - 1024 - 512, h⟩)
    else if h : (i 1).val - 2048 - 1024 - 512 - 256 < 256 then u4 (ix2 (i 0) ⟨(i 1).val - 2048 - 1024 - 512 - 256, h⟩)
    else if h : (i 1).val - 2048 - 1024 - 512 - 256 - 256 < 256 then u5 (ix2 (i 0) ⟨(i 1).val - 2048 - 1024 - 512 - 256 - 256, h⟩)
    else if h : (i 1).val - 2048 - 1024 - 512 - 256 - 256 - 256 < 256 then u6 (ix2 (i 0) ⟨(i 1).val - 2048 - 1024 - 512 - 256 - 256 - 256, h⟩)
    else if h : (i 1).val - 2048 - 1024 - 512 - 256 - 256 - 256 - 256 < 4096 then u7 (ix2 (i 0) ⟨(i 1).val - 2048 - 1024 - 512 - 256 - 256 - 256 - 256, h⟩)
    else u8 (ix2 (i 0) ⟨(i 1).val - 2048 - 1024 - 512 - 256 - 256 - 256 - 256 - 4096, by have : (i 1).val < 9216 := (i 1).isLt; omega⟩)) := by
  unfold Value.fn_main_v86
  clean_types
  pointwise

open Cert.InprojIdeal.Inp (proj nrm64 fused gel)

set_option maxRecDepth 200000 in
/-- The reference's array, element by element. -/
theorem ref_at (m : (ℓ : Loc nD τ sig) → Buf (Elt Ideal) ℓ) (c : Dev nD) (i : S8192x9216.Idx) (u0 : Vec Ideal S8192x2048 .bf16) (u1 : Vec Ideal S2x2048x8752 .f32)
    (u2 u3 : Vec Ideal S2x64 .f32)
    (e0 : m ((c.tc : Thread nD τ).loc main_arg0) = u0)
    (e1 : m ((c.tc : Thread nD τ).loc main_arg1) = u1)
    (e2 : m ((c.tc : Thread nD τ).loc main_arg2) = u2)
    (e3 : m ((c.tc : Thread nD τ).loc main_arg3) = u3) :
    (Value.res_main_v86 m c : Vec Ideal S8192x9216 .f32) i = fused u0 u1 u2 u3 i := by
  unfold Value.res_main_v86
  rw [e0, e1, e2, e3]
  clear e0 e1 e2 e3
  refine (cat9 _ _ _ _ _ _ _ _ _ i).trans ?_
  idx_bounds i
  unfold fused
  by_cases h0 : (i 1).val < 2048
  · rw [dif_pos h0, if_pos (by omega)]
    unfold gel proj
    clean_types
    pointwise
    simp only [mul_assoc]
    simp only [Nat.mod_eq_of_lt (show (i 1).val < 8752 by omega)]
  rw [dif_neg h0, if_neg (by omega)]
  by_cases h1 : (i 1).val - 2048 < 1024
  · rw [dif_pos h1, if_pos (by omega)]
    unfold nrm64 proj
    clean_types
    pointwise
    simp only [Nat.mod_eq_of_lt (show (i 1).val < 8752 by omega), show 2048 + (((i 1).val - 2048) / 64 * 64 + (i 1).val % 64) = (i 1).val from by omega, show ∀ x : Fin 64, 2048 + (((i 1).val - 2048) / 64 * 64 + x.val) = (64 * ((i 1).val / 64) + x.val) % 8752 from fun x => by omega, show ((i 1).val - 2048) % 64 = (i 1).val % 64 from by omega]
  rw [dif_neg h1, if_neg (by omega)]
  by_cases h2 : (i 1).val - 2048 - 1024 < 512
  · rw [dif_pos h2, if_pos (by omega)]
    unfold proj
    clean_types
    pointwise
    simp only [Nat.mod_eq_of_lt (show (i 1).val < 8752 by omega), show 3072 + ((i 1).val - 2048 - 1024) = (i 1).val from by omega]
  rw [dif_neg h2, if_neg (by omega)]
  by_cases h3 : (i 1).val - 2048 - 1024 - 512 < 256
  · rw [dif_pos h3, if_pos (by omega)]
    unfold nrm64 proj
    clean_types
    pointwise
    simp only [Nat.mod_eq_of_lt (show (i 1).val < 8752 by omega), show 3072 + (512 + ((i 1).val - 2048 - 1024 - 512) / 64 * 64 + (i 1).val % 64) = (i 1).val from by omega, show ∀ x : Fin 64, 3072 + (512 + ((i 1).val - 2048 - 1024 - 512) / 64 * 64 + x.val) = (64 * ((i 1).val / 64) + x.val) % 8752 from fun x => by omega, show ((i 1).val - 2048 - 1024 - 512) % 64 = (i 1).val % 64 from by omega]
  rw [dif_neg h3, if_neg (by omega)]
  by_cases h4 : (i 1).val - 2048 - 1024 - 512 - 256 < 256
  · rw [dif_pos h4, if_pos (by omega)]
    unfold proj
    clean_types
    pointwise
    simp only [Nat.mod_eq_of_lt (show (i 1).val < 8752 by omega), show 3840 + ((i 1).val - 2048 - 1024 - 512 - 256) = (i 1).val from by omega]
  rw [dif_neg h4, if_neg (by omega)]
  by_cases h5 : (i 1).val - 2048 - 1024 - 512 - 256 - 256 < 256
  · rw [dif_pos h5, if_pos (by omega)]
    unfold nrm64 proj
    clean_types
    pointwise
    simp only [Nat.mod_eq_of_lt (show (i 1).val < 8752 by omega), show 3072 + (1024 + ((i 1).val - 2048 - 1024 - 512 - 256 - 256) / 64 * 64 + (i 1).val % 64) = (i 1).val from by omega, show ∀ x : Fin 64, 3072 + (1024 + ((i 1).val - 2048 - 1024 - 512 - 256 - 256) / 64 * 64 + x.val) = (64 * ((i 1).val / 64) + x.val) % 8752 from fun x => by omega, show ((i 1).val - 2048 - 1024 - 512 - 256 - 256) % 64 = (i 1).val % 64 from by omega]
  rw [dif_neg h5, if_neg (by omega)]
  by_cases h6 : (i 1).val - 2048 - 1024 - 512 - 256 - 256 - 256 < 256
  · rw [dif_pos h6, if_pos (by omega)]
    unfold proj
    clean_types
    pointwise
    simp only [Nat.mod_eq_of_lt (show (i 1).val < 8752 by omega), show 4352 + ((i 1).val - 2048 - 1024 - 512 - 256 - 256 - 256) = (i 1).val from by omega]
  rw [dif_neg h6, if_neg (by omega)]
  by_cases h7 : (i 1).val - 2048 - 1024 - 512 - 256 - 256 - 256 - 256 < 4096
  · rw [dif_pos h7, if_pos (by omega)]
    unfold proj
    clean_types
    pointwise
    unfold Ideal.logistic
    simp only [Nat.mod_eq_of_lt (show (i 1).val + 48 < 8752 by omega), show 4608 + (48 + ((i 1).val - 2048 - 1024 - 512 - 256 - 256 - 256 - 256)) = (i 1).val + 48 from by omega]
  rw [dif_neg h7, if_neg (by omega)]
  unfold proj
  clean_types
  pointwise
  unfold Ideal.logistic
  simp only [Nat.mod_eq_of_lt (show (i 1).val - 4096 < 8752 by omega), show 4608 + ((i 1).val - 2048 - 1024 - 512 - 256 - 256 - 256 - 256 - 4096) = (i 1).val - 4096 from by omega]

end Cert.Proof
-- ==== Proof.InprojTie.lean ====
module

public import proofs.«01_k».proof.Defs
public import proofs.«01_k».proof.Proof.Gen.Inproj
public import proofs.«01_k».proof.Proof.Gen.InprojIdeal
public import proofs.«01_k».proof.Proof.InprojValue
public import proofs.«01_k».proof.Proof.InprojRef
public import proofs.«01_k».proof.Proof.Gen.RefInprojIdeal.Run
public import Idealize.ShloMosaic.Lib.Quiescent
public import Idealize.ShloMosaic.Lib.ReduceAll
public import Idealize.ShloMosaic.Lib.Tactic.ValueTie

@[expose] public section

set_option maxRecDepth 16384

noncomputable section

namespace Cert.Proof

open Idealize.ShloMosaic Idealize.SL.Sem

/-- The side conditions of the precondition's own operations. -/
theorem finite_facts : Cert.Pre_finite.Facts := ⟨by decide, by decide, by decide, by decide, by decide, by decide⟩

set_option maxHeartbeats 4000000

/-- One grid point of the call is the same program in both texts, read at bit patterns. -/
theorem cc0_inproj_eq : Cert.Inproj.cc0_inproj (F := Bits) = Cert.InprojIdeal.cc0_inproj (F := Bits) := rfl

/-- So the one procedure of the call is the same, at the one label it has. -/
theorem defs₀_eq : Cert.Inproj.defs₀ (F := Bits) = Cert.InprojIdeal.defs₀ (F := Bits) := by
  unfold Cert.Inproj.defs₀ Cert.InprojIdeal.defs₀
  refine congrArg (Defs.onTc (nD := Cert.Inproj.nD) (τ := Cert.Inproj.τ) (sig := Cert.Inproj.sig) (Val := Elt Bits) (Λ := Cert.Inproj.Λ₀)) ?_
  funext l a
  obtain ⟨n, hn⟩ := l
  cases n with
  | zero =>
    obtain ⟨t, s⟩ := a
    exact congrFun (congrFun (congrFun (congrFun (congrFun (congrFun (congrFun (congrFun (congrFun (congrFun (congrFun (congrFun (congrFun (congrFun (congrFun (congrFun (congrFun cc0_inproj_eq _) _) _) _) _) _) _) _) _) _) _) _) _) _) _) _) _
  | succ n => omega

/-- And with it the pipeline around it. -/
theorem defs_eq : Cert.Inproj.defs (F := Bits) = Cert.InprojIdeal.defs (F := Bits) :=
  congrArg (Pipeline.defs Cert.Inproj.pcfgs) defs₀_eq

theorem main_eq : Cert.Inproj.main (F := Bits) = Cert.InprojIdeal.main (F := Bits) := rfl

/-- The input projection runs and leaves its arguments and semaphores as it found them: its run is that of the other text. -/
theorem quiescent_Inproj : quiescent_Inproj := fun m ρ _ => by
  have h := Cert.InprojIdeal.Inp.frame (F := Bits) m ρ
  rw [defs_eq, main_eq]
  exact h

/-- So does its idealization. -/
theorem quiescent_InprojIdeal : quiescent_InprojIdeal := fun m ρ _ => Cert.InprojIdeal.Inp.frame (F := Ideal) m ρ

/-- The frame that the value claim takes, under the claim's precondition. -/
theorem quiescent_InprojIdeal_pre_finite [Cert.Pre_finite.Facts] : quiescent_InprojIdeal_pre_finite :=
  fun m ρ _ => Cert.InprojIdeal.Inp.frame (F := Ideal) m ρ

/-- The reference of the input projection leaves its semaphores at zero and its arguments as they were. -/
theorem quiescent_RefInprojIdeal : quiescent_RefInprojIdeal := fun m ρ _ =>
  (θ_run Cert.RefInprojIdeal.defs _ _).mono (fun r h => ⟨fun c => (h c).2, sem_eq_zero_of_no_sems (by decide) r.2⟩)
    (Cert.RefInprojIdeal.Value.run (F := Ideal) m ρ)

/-- The same under the precondition. -/
theorem quiescent_RefInprojIdeal_pre_finite [Cert.Pre_finite.Facts] : quiescent_RefInprojIdeal_pre_finite := fun m ρ _ =>
  (θ_run Cert.RefInprojIdeal.defs _ _).mono (fun r h => ⟨fun c => (h c).2, sem_eq_zero_of_no_sems (by decide) r.2⟩)
    (Cert.RefInprojIdeal.Value.run (F := Ideal) m ρ)

/-- An extended real whose absolute value compares below infinity is a real number. -/
theorem real_of_abs_lt (x : EReal) (h : Ideal.cmp .olt (max x (-x)) (Ideal.ofBits FTy.f32 0x7F800000#32) = 1#1) :
    ∃ r : ℝ, x = (r : EReal) := by
  have ht : Ideal.ofBits FTy.f32 0x7F800000#32 = ⊤ := by simp [Ideal.ofBits, Ideal.ieee]
  rw [ht] at h
  have hlt : max x (-x) < ⊤ := by
    by_contra hn
    simp [Ideal.cmp, hn] at h
  induction x with
  | bot => simp at hlt
  | top => simp at hlt
  | coe r => exact ⟨r, rfl⟩

/-- The precondition says of both arrays that every element is a real number. -/
theorem finite_read [Cert.Pre_finite.Facts] (h : Vec Ideal Cert.Pre_finite.S8192x2048 .bf16) (w : Vec Ideal Cert.Pre_finite.S2x2048x8752 .f32)
    (q k : Vec Ideal Cert.Pre_finite.S2x64 .f32) (e : Cert.Pre_finite.fn (F := Ideal) h w q k = fun _ => 1#1) :
    (∀ y, ∃ r : ℝ, (h y : EReal) = (r : EReal)) ∧ (∀ y, ∃ r : ℝ, (w y : EReal) = (r : EReal)) := by
  have : Subsingleton Cert.Pre_finite.S_.Idx := ⟨fun a b => funext fun x => x.elim0⟩
  have j : Cert.Pre_finite.S_.Idx := fun x => x.elim0
  have e' := congrFun e j
  unfold Cert.Pre_finite.fn at e'
  dsimp only at e'
  obtain ⟨e1, e2⟩ := IntOp.andi_eq_one.1 e'
  exact ⟨fun y => real_of_abs_lt _ (Host.reduce_andi_all _ _ _ _ j e1 y), fun y => real_of_abs_lt _ (Host.reduce_andi_all _ _ _ _ j e2 y)⟩

/-- From equal arguments, with finite activations and weights, the input projection and its reference leave the same
    array. -/
theorem algebraic_InprojIdeal_RefInprojIdeal_pre_finite [Cert.Pre_finite.Facts] : algebraic_InprojIdeal_RefInprojIdeal_pre_finite := by
  intro m ρ m' ρ' hpre hagree
  refine ⟨_, Cert.InprojIdeal.Inp.run (F := Ideal) m ρ, ?_⟩
  refine (θ_run Cert.RefInprojIdeal.defs _ _).mono (fun _ h c => ⟨?_, (h c).2⟩) (Cert.RefInprojIdeal.Value.run (F := Ideal) m' ρ')
  obtain ⟨hh, hw⟩ := finite_read _ _ _ _ (hpre c)
  obtain ⟨a0, a1, a2, a3⟩ := hagree c
  rw [(h c).1]
  refine Eq.trans ?_ (Cert.InprojIdeal.Inp.G6_eq m c hh hw).symm
  exact funext fun i => ref_at m' c i _ _ _ _ a0 a1 a2 a3

end Cert.Proof

end
-- ==== Proof.DownsampleValue.lean ====
module

public import proofs.«01_k».proof.Proof.Gen.DownsampleIdeal.Value
public import Idealize.ShloMosaic.Lib.Pipeline.ValueKit.Point
public import Idealize.ShloMosaic.Lib.WholeRead
public import Idealize.ShloMosaic.Lib.Writes
public import Idealize.ShloMosaic.Lib.Tactic
public import Idealize.ShloMosaic.Lib.StableHlo.Run

@[expose] public section

set_option maxRecDepth 16384

noncomputable section

namespace Cert.DownsampleIdeal.Value

open Cert.DownsampleIdeal Cert.DownsampleIdeal.Gen Idealize.ShloMosaic Idealize.ShloMosaic.TcCoe Idealize.SL.Sem

local notation "I" => Idealize.ShloMosaic.Ideal

/-- The tile a grid point leaves: the residual tile plus the gate rows times the product of the hidden rows with the
    weight columns. -/
def tile (a : Vec I S64x5632 .bf16) (w : Vec I S1x5632x512 .f32) (x : Vec I S64x512 .f32) (g : Vec I S64x512 .f32) :
    Vec I S64x512 .f32 := fun y =>
  (x y + g y * ∑ k : Fin 5632, a (ix2 (y 0) k) * w (ix3 0 k (y 1)) : EReal)

/-- Every point stores the weight block in the scratch, and leaves `tile` of it (the rounding to bf16 is the identity on
    extended reals). -/
theorem out_A (c : Dev nD) (i : grid0.Coords) (arg2 : Memref sig .tc .vmem S64x5632 .bf16) (harg2 : arg2.IsWhole) (arg3 : Memref sig .tc .vmem S1x5632x512 .f32) (harg3 : arg3.IsWhole) (arg4 : Memref sig .tc .vmem S64x512 .f32) (harg4 : arg4.IsWhole) (arg5 : Memref sig .tc .vmem S64x512 .f32) (harg5 : arg5.IsWhole) (arg6 : Memref sig .tc .vmem S64x512 .f32) (harg6 : arg6.IsWhole) (arg7 : Memref sig .tc .vmem S5632x512 .bf16) (harg7 : arg7.IsWhole) (hc0 : cond0_0 i)
    (x0 : Vec I S64x5632 .bf16) (x1 : Vec I S1x5632x512 .f32) (x2 : Vec I S64x512 .f32) (x3 : Vec I S64x512 .f32) :
    out0_A_4 c i arg2 harg2 arg3 harg3 arg4 harg4 arg5 harg5 arg6 harg6 arg7 harg7 hc0 x0 x1 x2 x3 = tile x0 x1 x2 x3 := by
  funext y
  unfold out0_A_4
  refine View.read_writes_apply_of_pieces _ _ (tile x0 x1 x2 x3) _ ?_ y (cover0_A_4 c i arg2 harg2 arg3 harg3 arg4 harg4 arg5 harg5 arg6 harg6 arg7 harg7 hc0 x0 x1 x2 x3 y)
  unfold kernelRun0_A
  dsimp only
  sl_unfold_words
  simp only [List.forall_mem_cons]
  have hz : (![0, 0] : Fin 2 → Nat) = fun _ => 0 := by funext a; fin_cases a <;> rfl
  rw [View.readCov_unit_zero (S := S5632x512) _ hz]
  refine ⟨?_, by simp⟩
  intro x
  unfold k0_pay2 k0_pay1 tile
  pointwise
  simp only [Memref.IsWhole.readAt_unread]
  (with_reducible congr!) <;> (funext a; fin_cases a <;> first | rfl | exact Fin.ext (by show 0 + 1 * _ = _; omega) | (apply Fin.ext; simp [ix2, ix3]; done))

/-! ## The blocks the points read, at coordinates -/

theorem idx0 : ∀ t : Fin cfg0.N, win0_0.index t = ![0, 0] := by decide +kernel
theorem idx1 : ∀ t : Fin cfg0.N, win0_1.index t = ![0, 0, t.val] := by decide +kernel
theorem idx2 : ∀ t : Fin cfg0.N, win0_2.index t = ![0, t.val] := by decide +kernel
theorem idx3 : ∀ t : Fin cfg0.N, win0_3.index t = ![0, t.val] := by decide +kernel
theorem idx4 : ∀ t : Fin cfg0.N, win0_4.index t = ![0, t.val] := by decide +kernel

variable (m : (ℓ : Loc nD τ sig) → Buf (Elt I) ℓ) (ρ : Dev nD → PrngReg)

/-- The hidden-rows block of a point, read at an index. -/
theorem blk0 (c : Dev nD) (t : Fin cfg0.N) (y : S64x5632.Idx) (i : S64x5632.Idx)
    (h0 : (i 0).val = (y 0).val) (h1 : (i 1).val = (y 1).val) :
    (iblk m c 0 t : Vec I S64x5632 .bf16) y = m ((c : Thread nD τ).loc main_arg0) i := by
  blk_ext! [iblk, V, idx0 t]

/-- The weight block of a point, read at an index. -/
theorem blk1 (c : Dev nD) (t : Fin cfg0.N) (y : S1x5632x512.Idx) (i : S2x5632x2048.Idx)
    (h0 : (i 0).val = 0) (h1 : (i 1).val = (y 1).val) (h2 : (i 2).val = 512 * t.val + (y 2).val) :
    (iblk m c 1 t : Vec I S1x5632x512 .f32) y = m ((c : Thread nD τ).loc main_arg1) i := by
  blk_ext! [iblk, V, idx1 t]

/-- The residual block of a point, read at an index. -/
theorem blk2 (c : Dev nD) (t : Fin cfg0.N) (y : S64x512.Idx) (i : S64x2048.Idx)
    (h0 : (i 0).val = (y 0).val) (h1 : (i 1).val = 512 * t.val + (y 1).val) :
    (iblk m c 2 t : Vec I S64x512 .f32) y = m ((c : Thread nD τ).loc main_arg2) i := by
  blk_ext! [iblk, V, idx2 t]

/-- The gate block of a point, read at an index: the host repeats the gate of a sequence over its eight rows. -/
theorem blk3 (c : Dev nD) (t : Fin cfg0.N) (y : S64x512.Idx) (i : S8x2048.Idx)
    (h0 : (i 0).val = (y 0).val / 8) (h1 : (i 1).val = 512 * t.val + (y 1).val) :
    (iblk m c 3 t : Vec I S64x512 .f32) y = m ((c : Thread nD τ).loc main_arg3) i := by
  blk_ext! [iblk, V, idx3 t]

/-! ## The output -/

/-- The residual feed-forward projection, one element: the residual plus the gate row of its sequence times the row by
    column product. -/
def down (a : Vec I S64x5632 .bf16) (w : Vec I S2x5632x2048 .f32) (x : Vec I S64x2048 .f32) (g : Vec I S8x2048 .f32) :
    Vec I S64x2048 .f32 := fun i =>
  (x i + g (ix2 ⟨(i 0).val / 8, Nat.div_lt_of_lt_mul (i 0).isLt⟩ (i 1)) *
    ∑ k : Fin 5632, a (ix2 (i 0) k) * w (ix3 0 k (i 1)) : EReal)

/-- What the result array holds, of the arguments of the core. -/
def G (c : Dev nD) : Buf (Elt I) ((c : Thread nD τ).loc main_v2) := down (m ((c : Thread nD τ).loc main_arg0))
  (m ((c : Thread nD τ).loc main_arg1)) (m ((c : Thread nD τ).loc main_arg2)) (m ((c : Thread nD τ).loc main_arg3))

/-- What a point writes back is its block of `G`. -/
theorem flushed4_eq (c : Dev nD) (t : Fin cfg0.N) :
    (dats m 0 c).flushed 4 t = ((cfg0.win 4).blk t).view.read (Elt I) (G m c) := by
  rw [flushed4_A, out_A]
  funext y
  have hN : cfg0.N = 4 := N_0
  have ht := t.isLt
  have hy0 : (y 0).val < 64 := (y 0).isLt
  have hy1 : (y 1).val < 512 := (y 1).isLt
  have hb0 : (((cfg0.win 4).blk t).view.emb y 0).val = win0_4.index t (0 : Fin 2) * 64 + 1 * (y 0).val := rfl
  have hb1 : (((cfg0.win 4).blk t).view.emb y 1).val = win0_4.index t (1 : Fin 2) * 512 + 1 * (y 1).val := rfl
  have e0 : (((cfg0.win 4).blk t).view.emb y 0).val = (y 0).val := by
    rw [hb0, show win0_4.index t (0 : Fin 2) = 0 from congrFun (idx4 t) 0]; omega
  have e1 : (((cfg0.win 4).blk t).view.emb y 1).val = 512 * t.val + (y 1).val := by
    rw [hb1, show win0_4.index t (1 : Fin 2) = t.val from congrFun (idx4 t) 1]; omega
  generalize hj : (((cfg0.win 4).blk t).view.emb y : S64x2048.Idx) = j at e0 e1
  show tile (iblk m c 0 t) (iblk m c 1 t) (iblk m c 2 t) (iblk m c 3 t) ((cfg0.win 4).xinj (grid0.coords t) y) = G m c (((cfg0.win 4).blk t).view.emb y)
  rw [hj]
  generalize hz : ((cfg0.win 4).xinj (grid0.coords t) y : S64x512.Idx) = z
  have z0 : (z 0).val = (y 0).val := by rw [← hz]
  have z1 : (z 1).val = (y 1).val := by rw [← hz]
  unfold tile G down
  rw [blk2 m c t z j (by omega) (by omega),
    blk3 m c t z (ix2 ⟨(j 0).val / 8, Nat.div_lt_of_lt_mul (j 0).isLt⟩ (j 1)) (by show (j 0).val / 8 = _; omega) (by show (j 1).val = _; omega)]
  refine congrArg _ (congrArg _ (Finset.sum_congr rfl fun k _ => ?_))
  rw [blk0 m c t (ix2 (z 0) k) (ix2 (j 0) k) (by show (j 0).val = (z 0).val; omega) rfl,
    blk1 m c t (ix3 0 k (z 1)) (ix3 0 k (j 1)) rfl rfl (by show (j 1).val = 512 * t.val + (z 1).val; omega)]

/-- The indices of a block. -/
theorem mem_blk4 (t : Fin cfg0.N) (i : S64x2048.Idx) :
    i ∈ ((cfg0.win 4).blk t).view.set ↔ ∀ a : Fin 2, win0_4.index t a * S64x512.size a ≤ (i a).val ∧ (i a).val < win0_4.index t a * S64x512.size a + S64x512.size a := by
  show i ∈ ((View.whole main_v2).slice (win0_4.rect t)).set ↔ _
  rw [View.set_slice_whole, Rect.mem_set_unit]
  exact Iff.rfl

theorem flush4 : ∀ t : Fin cfg0.N, (cfg0.win 4).flush t = true := by decide +kernel

/-- Every index of the array is in the block of a point that writes back. -/
theorem covered4 (i : S64x2048.Idx) : ∃ t : Fin cfg0.N, (cfg0.win 4).flush t = true ∧ i ∈ ((cfg0.win 4).blk t).view.set := by
  have h0 : (i 0).val < 64 := (i 0).isLt
  have h1 : (i 1).val < 2048 := (i 1).isLt
  have hN : cfg0.N = 4 := N_0
  have ht : (i 1).val / 512 < cfg0.N := by omega
  refine ⟨⟨(i 1).val / 512, ht⟩, flush4 _, ?_⟩
  rw [mem_blk4]
  have q := idx4 ⟨(i 1).val / 512, ht⟩
  have q0 : win0_4.index ⟨(i 1).val / 512, ht⟩ (0 : Fin 2) = 0 := congrFun q 0
  have q1 : win0_4.index ⟨(i 1).val / 512, ht⟩ (1 : Fin 2) = (i 1).val / 512 := congrFun q 1
  intro a
  match a with
  | ⟨0, _⟩ => show win0_4.index _ (0 : Fin 2) * 64 ≤ (i 0).val ∧ (i 0).val < win0_4.index _ (0 : Fin 2) * 64 + 64; omega
  | ⟨1, _⟩ => show win0_4.index _ (1 : Fin 2) * 512 ≤ (i 1).val ∧ (i 1).val < win0_4.index _ (1 : Fin 2) * 512 + 512; omega

/-- The result array after the run. -/
theorem final4 (c : Dev nD) : (dats m 0 c).arrAt 4 cfg0.N = G m c :=
  (dats m 0 c).arrAt_eq_of_cover 4 _ (fun t _ => flushed4_eq m c t) (fun i => covered4 i)

/-- The run: the result array ends as `G` and the arguments end unchanged. -/
theorem run : θ_run defs (onTc (τ := τ) (main (F := I))) ⟨m, fun _ => 0, ρ⟩ fun r => ∀ c : Dev nD,
      r.2.mem ((c : Thread nD τ).loc main_v2) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2⟩) (run_blocks m ρ)

end Cert.DownsampleIdeal.Value
-- ==== Proof.DownsampleTie.lean ====
module

public import proofs.«01_k».proof.Defs
public import proofs.«01_k».proof.Proof.DownsampleValue
public import proofs.«01_k».proof.Proof.Gen.RefDownsampleIdeal.Run
public import Idealize.ShloMosaic.Lib.Quiescent
public import Idealize.ShloMosaic.Lib.Tactic.ValueTie

@[expose] public section

set_option maxRecDepth 16384

noncomputable section

namespace Cert.Proof

open Idealize.ShloMosaic Idealize.SL.Sem

/-- The reference of the residual feed-forward projection of the sample rows leaves its semaphores at zero and its arguments as they were. -/
theorem quiescent_RefDownsampleIdeal : quiescent_RefDownsampleIdeal := fun m ρ _ =>
  (θ_run Cert.RefDownsampleIdeal.defs _ _).mono (fun r h => ⟨fun c => (h c).2, sem_eq_zero_of_no_sems (by decide) r.2⟩)
    (Cert.RefDownsampleIdeal.Value.run (F := Ideal) m ρ)

/-- From equal arguments the residual feed-forward projection of the sample rows kernel and its reference leave the same array. -/
theorem algebraic_DownsampleIdeal_RefDownsampleIdeal : algebraic_DownsampleIdeal_RefDownsampleIdeal := by
  intro m ρ m' ρ' _ hagree
  refine ⟨_, Cert.DownsampleIdeal.Value.run m ρ, ?_⟩
  refine (θ_run Cert.RefDownsampleIdeal.defs _ _).mono (fun _ h c => ⟨?_, (h c).2⟩) (Cert.RefDownsampleIdeal.Value.run (F := Ideal) m' ρ')
  rw [(h c).1]
  simp only [hagree c]
  refine funext fun i => ?_
  unfold Cert.DownsampleIdeal.Value.G Cert.DownsampleIdeal.Value.down
  clean_types
  pointwise

end Cert.Proof

end
-- ==== Proof.InsampleRun.lean ====
module

public import proofs.«01_k».proof.Proof.Gen.InsampleIdeal.Frame.RunE
public import Idealize.ShloMosaic.Lib.Claim
public import Idealize.ShloMosaic.Lib.Pipeline.Value

@[expose] public section

set_option maxRecDepth 16384

noncomputable section

namespace Cert.InsampleIdeal.Ins

open Cert.InsampleIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The stores of the case cover the output block. -/
theorem cover0_A_6 (c : Dev nD) (i : grid0.Coords) (arg2 : Memref sig .tc .vmem S64x2048 .bf16) (harg2 : arg2.IsWhole) (arg3 : Memref sig .tc .vmem S1x512x2048 .f32) (harg3 : arg3.IsWhole) (arg4 : Memref sig .tc .vmem S1x512x2048 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S64x512 .f32) (harg8 : arg8.IsWhole) (arg9 : Memref sig .tc .vmem S2048x512 .bf16) (harg9 : arg9.IsWhole) (hc0 : cond0_0 i) (hc1 : ¬cond0_1 i) (hc2 : cond0_2 i) (hc3 : ¬cond0_3 i) (hc4 : ¬cond0_4 i) (hc5 : ¬cond0_5 i) (hc6 : ¬cond0_6 i)
    (x0 : Vec F S64x2048 .bf16) (x1 : Vec F S1x512x2048 .f32) (x2 : Vec F S1x512x2048 .f32) (x3 : Vec F S1x512 .f32) (x4 : Vec F S1x512 .f32) (x5 : Vec F S512x512 .bf16) (y : S64x512.Idx) :
    ∃ pc ∈ (kernelRun0_A c i arg2 harg2 arg3 harg3 arg4 harg4 arg5 harg5 arg6 harg6 arg7 harg7 arg8 harg8 arg9 harg9 hc0 hc1 hc2 hc3 hc4 hc5 hc6 x0 x1 x2 x3 x4 x5).1, y ∈ pc.1.set :=
  View.cover_of_tiledL (kernelRun0_A c i arg2 harg2 arg3 harg3 arg4 harg4 arg5 harg5 arg6 harg6 arg7 harg7 arg8 harg8 arg9 harg9 hc0 hc1 hc2 hc3 hc4 hc5 hc6 x0 x1 x2 x3 x4 x5).1 S64x512.size (by sl_kernel_rfl) y

/-- The output block that the case leaves. -/
def out0_A_6 (c : Dev nD) (i : grid0.Coords) (arg2 : Memref sig .tc .vmem S64x2048 .bf16) (harg2 : arg2.IsWhole) (arg3 : Memref sig .tc .vmem S1x512x2048 .f32) (harg3 : arg3.IsWhole) (arg4 : Memref sig .tc .vmem S1x512x2048 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S64x512 .f32) (harg8 : arg8.IsWhole) (arg9 : Memref sig .tc .vmem S2048x512 .bf16) (harg9 : arg9.IsWhole) (hc0 : cond0_0 i) (hc1 : ¬cond0_1 i) (hc2 : cond0_2 i) (hc3 : ¬cond0_3 i) (hc4 : ¬cond0_4 i) (hc5 : ¬cond0_5 i) (hc6 : ¬cond0_6 i)
    (x0 : Vec F S64x2048 .bf16) (x1 : Vec F S1x512x2048 .f32) (x2 : Vec F S1x512x2048 .f32) (x3 : Vec F S1x512 .f32) (x4 : Vec F S1x512 .f32) (x5 : Vec F S512x512 .bf16) : Vec F S64x512 .f32 :=
  VO0_6.read (Elt F) (VO0_6.writes (Elt F) VO0_6.junk (kernelRun0_A c i arg2 harg2 arg3 harg3 arg4 harg4 arg5 harg5 arg6 harg6 arg7 harg7 arg8 harg8 arg9 harg9 hc0 hc1 hc2 hc3 hc4 hc5 hc6 x0 x1 x2 x3 x4 x5).1)

/-- The stores of the case cover the output block. -/
theorem cover0_B_6 (c : Dev nD) (i : grid0.Coords) (arg2 : Memref sig .tc .vmem S64x2048 .bf16) (harg2 : arg2.IsWhole) (arg3 : Memref sig .tc .vmem S1x512x2048 .f32) (harg3 : arg3.IsWhole) (arg4 : Memref sig .tc .vmem S1x512x2048 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S64x512 .f32) (harg8 : arg8.IsWhole) (arg9 : Memref sig .tc .vmem S2048x512 .bf16) (harg9 : arg9.IsWhole) (hc0 : cond0_0 i) (hc1 : ¬cond0_1 i) (hc2 : ¬cond0_2 i) (hc3 : cond0_3 i) (hc4 : ¬cond0_4 i) (hc5 : ¬cond0_5 i) (hc6 : ¬cond0_6 i)
    (x0 : Vec F S64x2048 .bf16) (x1 : Vec F S1x512x2048 .f32) (x2 : Vec F S1x512x2048 .f32) (x3 : Vec F S1x512 .f32) (x4 : Vec F S1x512 .f32) (x5 : Vec F S512x512 .bf16) (y : S64x512.Idx) :
    ∃ pc ∈ (kernelRun0_B c i arg2 harg2 arg3 harg3 arg4 harg4 arg5 harg5 arg6 harg6 arg7 harg7 arg8 harg8 arg9 harg9 hc0 hc1 hc2 hc3 hc4 hc5 hc6 x0 x1 x2 x3 x4 x5).1, y ∈ pc.1.set :=
  View.cover_of_tiledL (kernelRun0_B c i arg2 harg2 arg3 harg3 arg4 harg4 arg5 harg5 arg6 harg6 arg7 harg7 arg8 harg8 arg9 harg9 hc0 hc1 hc2 hc3 hc4 hc5 hc6 x0 x1 x2 x3 x4 x5).1 S64x512.size (by sl_kernel_rfl) y

/-- The output block that the case leaves. -/
def out0_B_6 (c : Dev nD) (i : grid0.Coords) (arg2 : Memref sig .tc .vmem S64x2048 .bf16) (harg2 : arg2.IsWhole) (arg3 : Memref sig .tc .vmem S1x512x2048 .f32) (harg3 : arg3.IsWhole) (arg4 : Memref sig .tc .vmem S1x512x2048 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S64x512 .f32) (harg8 : arg8.IsWhole) (arg9 : Memref sig .tc .vmem S2048x512 .bf16) (harg9 : arg9.IsWhole) (hc0 : cond0_0 i) (hc1 : ¬cond0_1 i) (hc2 : ¬cond0_2 i) (hc3 : cond0_3 i) (hc4 : ¬cond0_4 i) (hc5 : ¬cond0_5 i) (hc6 : ¬cond0_6 i)
    (x0 : Vec F S64x2048 .bf16) (x1 : Vec F S1x512x2048 .f32) (x2 : Vec F S1x512x2048 .f32) (x3 : Vec F S1x512 .f32) (x4 : Vec F S1x512 .f32) (x5 : Vec F S512x512 .bf16) : Vec F S64x512 .f32 :=
  VO0_6.read (Elt F) (VO0_6.writes (Elt F) VO0_6.junk (kernelRun0_B c i arg2 harg2 arg3 harg3 arg4 harg4 arg5 harg5 arg6 harg6 arg7 harg7 arg8 harg8 arg9 harg9 hc0 hc1 hc2 hc3 hc4 hc5 hc6 x0 x1 x2 x3 x4 x5).1)

/-- The stores of the case cover the output block. -/
theorem cover0_C_6 (c : Dev nD) (i : grid0.Coords) (arg2 : Memref sig .tc .vmem S64x2048 .bf16) (harg2 : arg2.IsWhole) (arg3 : Memref sig .tc .vmem S1x512x2048 .f32) (harg3 : arg3.IsWhole) (arg4 : Memref sig .tc .vmem S1x512x2048 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S64x512 .f32) (harg8 : arg8.IsWhole) (arg9 : Memref sig .tc .vmem S2048x512 .bf16) (harg9 : arg9.IsWhole) (hc0 : cond0_0 i) (hc1 : ¬cond0_1 i) (hc2 : ¬cond0_2 i) (hc3 : ¬cond0_3 i) (hc4 : cond0_4 i) (hc5 : ¬cond0_5 i) (hc6 : ¬cond0_6 i)
    (x0 : Vec F S64x2048 .bf16) (x1 : Vec F S1x512x2048 .f32) (x2 : Vec F S1x512x2048 .f32) (x3 : Vec F S1x512 .f32) (x4 : Vec F S1x512 .f32) (x5 : Vec F S512x512 .bf16) (y : S64x512.Idx) :
    ∃ pc ∈ (kernelRun0_C c i arg2 harg2 arg3 harg3 arg4 harg4 arg5 harg5 arg6 harg6 arg7 harg7 arg8 harg8 arg9 harg9 hc0 hc1 hc2 hc3 hc4 hc5 hc6 x0 x1 x2 x3 x4 x5).1, y ∈ pc.1.set :=
  View.cover_of_tiledL (kernelRun0_C c i arg2 harg2 arg3 harg3 arg4 harg4 arg5 harg5 arg6 harg6 arg7 harg7 arg8 harg8 arg9 harg9 hc0 hc1 hc2 hc3 hc4 hc5 hc6 x0 x1 x2 x3 x4 x5).1 S64x512.size (by sl_kernel_rfl) y

/-- The output block that the case leaves. -/
def out0_C_6 (c : Dev nD) (i : grid0.Coords) (arg2 : Memref sig .tc .vmem S64x2048 .bf16) (harg2 : arg2.IsWhole) (arg3 : Memref sig .tc .vmem S1x512x2048 .f32) (harg3 : arg3.IsWhole) (arg4 : Memref sig .tc .vmem S1x512x2048 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S64x512 .f32) (harg8 : arg8.IsWhole) (arg9 : Memref sig .tc .vmem S2048x512 .bf16) (harg9 : arg9.IsWhole) (hc0 : cond0_0 i) (hc1 : ¬cond0_1 i) (hc2 : ¬cond0_2 i) (hc3 : ¬cond0_3 i) (hc4 : cond0_4 i) (hc5 : ¬cond0_5 i) (hc6 : ¬cond0_6 i)
    (x0 : Vec F S64x2048 .bf16) (x1 : Vec F S1x512x2048 .f32) (x2 : Vec F S1x512x2048 .f32) (x3 : Vec F S1x512 .f32) (x4 : Vec F S1x512 .f32) (x5 : Vec F S512x512 .bf16) : Vec F S64x512 .f32 :=
  VO0_6.read (Elt F) (VO0_6.writes (Elt F) VO0_6.junk (kernelRun0_C c i arg2 harg2 arg3 harg3 arg4 harg4 arg5 harg5 arg6 harg6 arg7 harg7 arg8 harg8 arg9 harg9 hc0 hc1 hc2 hc3 hc4 hc5 hc6 x0 x1 x2 x3 x4 x5).1)

/-- The stores of the case cover the output block. -/
theorem cover0_D_6 (c : Dev nD) (i : grid0.Coords) (arg2 : Memref sig .tc .vmem S64x2048 .bf16) (harg2 : arg2.IsWhole) (arg3 : Memref sig .tc .vmem S1x512x2048 .f32) (harg3 : arg3.IsWhole) (arg4 : Memref sig .tc .vmem S1x512x2048 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S64x512 .f32) (harg8 : arg8.IsWhole) (arg9 : Memref sig .tc .vmem S2048x512 .bf16) (harg9 : arg9.IsWhole) (hc0 : cond0_0 i) (hc1 : ¬cond0_1 i) (hc2 : ¬cond0_2 i) (hc3 : ¬cond0_3 i) (hc4 : ¬cond0_4 i) (hc5 : cond0_5 i) (hc6 : ¬cond0_6 i)
    (x0 : Vec F S64x2048 .bf16) (x1 : Vec F S1x512x2048 .f32) (x2 : Vec F S1x512x2048 .f32) (x3 : Vec F S1x512 .f32) (x4 : Vec F S1x512 .f32) (x5 : Vec F S512x512 .bf16) (y : S64x512.Idx) :
    ∃ pc ∈ (kernelRun0_D c i arg2 harg2 arg3 harg3 arg4 harg4 arg5 harg5 arg6 harg6 arg7 harg7 arg8 harg8 arg9 harg9 hc0 hc1 hc2 hc3 hc4 hc5 hc6 x0 x1 x2 x3 x4 x5).1, y ∈ pc.1.set :=
  View.cover_of_tiledL (kernelRun0_D c i arg2 harg2 arg3 harg3 arg4 harg4 arg5 harg5 arg6 harg6 arg7 harg7 arg8 harg8 arg9 harg9 hc0 hc1 hc2 hc3 hc4 hc5 hc6 x0 x1 x2 x3 x4 x5).1 S64x512.size (by sl_kernel_rfl) y

/-- The output block that the case leaves. -/
def out0_D_6 (c : Dev nD) (i : grid0.Coords) (arg2 : Memref sig .tc .vmem S64x2048 .bf16) (harg2 : arg2.IsWhole) (arg3 : Memref sig .tc .vmem S1x512x2048 .f32) (harg3 : arg3.IsWhole) (arg4 : Memref sig .tc .vmem S1x512x2048 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S64x512 .f32) (harg8 : arg8.IsWhole) (arg9 : Memref sig .tc .vmem S2048x512 .bf16) (harg9 : arg9.IsWhole) (hc0 : cond0_0 i) (hc1 : ¬cond0_1 i) (hc2 : ¬cond0_2 i) (hc3 : ¬cond0_3 i) (hc4 : ¬cond0_4 i) (hc5 : cond0_5 i) (hc6 : ¬cond0_6 i)
    (x0 : Vec F S64x2048 .bf16) (x1 : Vec F S1x512x2048 .f32) (x2 : Vec F S1x512x2048 .f32) (x3 : Vec F S1x512 .f32) (x4 : Vec F S1x512 .f32) (x5 : Vec F S512x512 .bf16) : Vec F S64x512 .f32 :=
  VO0_6.read (Elt F) (VO0_6.writes (Elt F) VO0_6.junk (kernelRun0_D c i arg2 harg2 arg3 harg3 arg4 harg4 arg5 harg5 arg6 harg6 arg7 harg7 arg8 harg8 arg9 harg9 hc0 hc1 hc2 hc3 hc4 hc5 hc6 x0 x1 x2 x3 x4 x5).1)

/-- The stores of the case cover the output block. -/
theorem cover0_E_6 (c : Dev nD) (i : grid0.Coords) (arg2 : Memref sig .tc .vmem S64x2048 .bf16) (harg2 : arg2.IsWhole) (arg3 : Memref sig .tc .vmem S1x512x2048 .f32) (harg3 : arg3.IsWhole) (arg4 : Memref sig .tc .vmem S1x512x2048 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S64x512 .f32) (harg8 : arg8.IsWhole) (arg9 : Memref sig .tc .vmem S2048x512 .bf16) (harg9 : arg9.IsWhole) (hc0 : ¬cond0_0 i) (hc1 : cond0_1 i) (hc2 : ¬cond0_2 i) (hc3 : ¬cond0_3 i) (hc4 : ¬cond0_4 i) (hc5 : ¬cond0_5 i) (hc6 : cond0_6 i)
    (x0 : Vec F S64x2048 .bf16) (x1 : Vec F S1x512x2048 .f32) (x2 : Vec F S1x512x2048 .f32) (x3 : Vec F S1x512 .f32) (x4 : Vec F S1x512 .f32) (x5 : Vec F S512x512 .bf16) (y : S64x512.Idx) :
    ∃ pc ∈ (kernelRun0_E c i arg2 harg2 arg3 harg3 arg4 harg4 arg5 harg5 arg6 harg6 arg7 harg7 arg8 harg8 arg9 harg9 hc0 hc1 hc2 hc3 hc4 hc5 hc6 x0 x1 x2 x3 x4 x5).1, y ∈ pc.1.set :=
  View.cover_of_tiledL (kernelRun0_E c i arg2 harg2 arg3 harg3 arg4 harg4 arg5 harg5 arg6 harg6 arg7 harg7 arg8 harg8 arg9 harg9 hc0 hc1 hc2 hc3 hc4 hc5 hc6 x0 x1 x2 x3 x4 x5).1 S64x512.size (by sl_kernel_rfl) y

/-- The output block that the case leaves. -/
def out0_E_6 (c : Dev nD) (i : grid0.Coords) (arg2 : Memref sig .tc .vmem S64x2048 .bf16) (harg2 : arg2.IsWhole) (arg3 : Memref sig .tc .vmem S1x512x2048 .f32) (harg3 : arg3.IsWhole) (arg4 : Memref sig .tc .vmem S1x512x2048 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S64x512 .f32) (harg8 : arg8.IsWhole) (arg9 : Memref sig .tc .vmem S2048x512 .bf16) (harg9 : arg9.IsWhole) (hc0 : ¬cond0_0 i) (hc1 : cond0_1 i) (hc2 : ¬cond0_2 i) (hc3 : ¬cond0_3 i) (hc4 : ¬cond0_4 i) (hc5 : ¬cond0_5 i) (hc6 : cond0_6 i)
    (x0 : Vec F S64x2048 .bf16) (x1 : Vec F S1x512x2048 .f32) (x2 : Vec F S1x512x2048 .f32) (x3 : Vec F S1x512 .f32) (x4 : Vec F S1x512 .f32) (x5 : Vec F S512x512 .bf16) : Vec F S64x512 .f32 :=
  VO0_6.read (Elt F) (VO0_6.writes (Elt F) VO0_6.junk (kernelRun0_E c i arg2 harg2 arg3 harg3 arg4 harg4 arg5 harg5 arg6 harg6 arg7 harg7 arg8 harg8 arg9 harg9 hc0 hc1 hc2 hc3 hc4 hc5 hc6 x0 x1 x2 x3 x4 x5).1)

/-! ## What the output block holds after each point -/

/-- The block that the body leaves at a point, by the case the column block selects. -/
def outsT (c : Dev nD) (t : Fin cfg0.N) : Vec F S64x512 .f32 :=
  have hN : t.val < 18 := lt_of_lt_of_eq t.isLt (show cfg0.N = 18 from N_0)
  if b4 : t.val < 4 then
    have h0 : t.val < 9 := by omega
    have h1 : ¬9 ≤ t.val := by omega
    have h2 : t.val < 4 := by omega
    have h3 : ¬(4 ≤ t.val % 18 ∧ t.val % 18 ≤ 5) := by omega
    have h4 : ¬t.val % 18 = 6 := by omega
    have h5 : ¬(7 ≤ t.val % 18 ∧ t.val % 18 ≤ 8) := by omega
    have h6 : ¬9 ≤ t.val := by omega
    out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) ((hcond0_2 t).mpr h2) (fun h => h3 ((hcond0_3 t).mp h)) (fun h => h4 ((hcond0_4 t).mp h)) (fun h => h5 ((hcond0_5 t).mp h)) (fun h => h6 ((hcond0_6 t).mp h)) (iblk m c 0 t) (X0_1 m c t) (iblk m c 2 t) (iblk m c 3 t) (iblk m c 4 t) (iblk m c 5 t)
  else
  if b6 : t.val < 6 then
    have h0 : t.val < 9 := by omega
    have h1 : ¬9 ≤ t.val := by omega
    have h2 : ¬t.val < 4 := by omega
    have h3 : (4 ≤ t.val % 18 ∧ t.val % 18 ≤ 5) := by omega
    have h4 : ¬t.val % 18 = 6 := by omega
    have h5 : ¬(7 ≤ t.val % 18 ∧ t.val % 18 ≤ 8) := by omega
    have h6 : ¬9 ≤ t.val := by omega
    out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (fun h => h2 ((hcond0_2 t).mp h)) ((hcond0_3 t).mpr h3) (fun h => h4 ((hcond0_4 t).mp h)) (fun h => h5 ((hcond0_5 t).mp h)) (fun h => h6 ((hcond0_6 t).mp h)) (iblk m c 0 t) (X0_1 m c t) (iblk m c 2 t) (iblk m c 3 t) (iblk m c 4 t) (iblk m c 5 t)
  else
  if b7 : t.val < 7 then
    have h0 : t.val < 9 := by omega
    have h1 : ¬9 ≤ t.val := by omega
    have h2 : ¬t.val < 4 := by omega
    have h3 : ¬(4 ≤ t.val % 18 ∧ t.val % 18 ≤ 5) := by omega
    have h4 : t.val % 18 = 6 := by omega
    have h5 : ¬(7 ≤ t.val % 18 ∧ t.val % 18 ≤ 8) := by omega
    have h6 : ¬9 ≤ t.val := by omega
    out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (fun h => h2 ((hcond0_2 t).mp h)) (fun h => h3 ((hcond0_3 t).mp h)) ((hcond0_4 t).mpr h4) (fun h => h5 ((hcond0_5 t).mp h)) (fun h => h6 ((hcond0_6 t).mp h)) (iblk m c 0 t) (X0_1 m c t) (iblk m c 2 t) (iblk m c 3 t) (iblk m c 4 t) (iblk m c 5 t)
  else
  if b9 : t.val < 9 then
    have h0 : t.val < 9 := by omega
    have h1 : ¬9 ≤ t.val := by omega
    have h2 : ¬t.val < 4 := by omega
    have h3 : ¬(4 ≤ t.val % 18 ∧ t.val % 18 ≤ 5) := by omega
    have h4 : ¬t.val % 18 = 6 := by omega
    have h5 : (7 ≤ t.val % 18 ∧ t.val % 18 ≤ 8) := by omega
    have h6 : ¬9 ≤ t.val := by omega
    out0_D_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (fun h => h2 ((hcond0_2 t).mp h)) (fun h => h3 ((hcond0_3 t).mp h)) (fun h => h4 ((hcond0_4 t).mp h)) ((hcond0_5 t).mpr h5) (fun h => h6 ((hcond0_6 t).mp h)) (iblk m c 0 t) (X0_1 m c t) (iblk m c 2 t) (iblk m c 3 t) (iblk m c 4 t) (iblk m c 5 t)
  else
  have h0 : ¬t.val < 9 := by omega
  have h1 : 9 ≤ t.val := by omega
  have h2 : ¬t.val < 4 := by omega
  have h3 : ¬(4 ≤ t.val % 18 ∧ t.val % 18 ≤ 5) := by omega
  have h4 : ¬t.val % 18 = 6 := by omega
  have h5 : ¬(7 ≤ t.val % 18 ∧ t.val % 18 ≤ 8) := by omega
  have h6 : 9 ≤ t.val := by omega
  out0_E_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (fun h => h2 ((hcond0_2 t).mp h)) (fun h => h3 ((hcond0_3 t).mp h)) (fun h => h4 ((hcond0_4 t).mp h)) (fun h => h5 ((hcond0_5 t).mp h)) ((hcond0_6 t).mpr h6) (iblk m c 0 t) (X0_1 m c t) (iblk m c 2 t) (iblk m c 3 t) (iblk m c 4 t) (iblk m c 5 t)

/-- The same, of a position of the grid. -/
def outsAt0 (c : Dev nD) (n : ℕ) (hn : n < cfg0.N) : Vec F S64x512 .f32 := outsT m c ⟨n, hn⟩

/-- The block at a point of case A. -/
theorem outsAt0_A (c : Dev nD) (t : Fin cfg0.N) (h0 : t.val < 9) (h1 : ¬9 ≤ t.val) (h2 : t.val < 4) (h3 : ¬(4 ≤ t.val % 18 ∧ t.val % 18 ≤ 5)) (h4 : ¬t.val % 18 = 6) (h5 : ¬(7 ≤ t.val % 18 ∧ t.val % 18 ≤ 8)) (h6 : ¬9 ≤ t.val) :
    outsAt0 m c t.val t.isLt = out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) ((hcond0_2 t).mpr h2) (fun h => h3 ((hcond0_3 t).mp h)) (fun h => h4 ((hcond0_4 t).mp h)) (fun h => h5 ((hcond0_5 t).mp h)) (fun h => h6 ((hcond0_6 t).mp h)) (iblk m c 0 t) (X0_1 m c t) (iblk m c 2 t) (iblk m c 3 t) (iblk m c 4 t) (iblk m c 5 t) := by
  have hN : t.val < 18 := lt_of_lt_of_eq t.isLt (show cfg0.N = 18 from N_0)
  show outsT m c t = _
  unfold outsT
  rw [dif_pos (show t.val < 4 by omega)]

/-- The block at a point of case B. -/
theorem outsAt0_B (c : Dev nD) (t : Fin cfg0.N) (h0 : t.val < 9) (h1 : ¬9 ≤ t.val) (h2 : ¬t.val < 4) (h3 : (4 ≤ t.val % 18 ∧ t.val % 18 ≤ 5)) (h4 : ¬t.val % 18 = 6) (h5 : ¬(7 ≤ t.val % 18 ∧ t.val % 18 ≤ 8)) (h6 : ¬9 ≤ t.val) :
    outsAt0 m c t.val t.isLt = out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (fun h => h2 ((hcond0_2 t).mp h)) ((hcond0_3 t).mpr h3) (fun h => h4 ((hcond0_4 t).mp h)) (fun h => h5 ((hcond0_5 t).mp h)) (fun h => h6 ((hcond0_6 t).mp h)) (iblk m c 0 t) (X0_1 m c t) (iblk m c 2 t) (iblk m c 3 t) (iblk m c 4 t) (iblk m c 5 t) := by
  have hN : t.val < 18 := lt_of_lt_of_eq t.isLt (show cfg0.N = 18 from N_0)
  show outsT m c t = _
  unfold outsT
  rw [dif_neg (show ¬ t.val < 4 by omega), dif_pos (show t.val < 6 by omega)]

/-- The block at a point of case C. -/
theorem outsAt0_C (c : Dev nD) (t : Fin cfg0.N) (h0 : t.val < 9) (h1 : ¬9 ≤ t.val) (h2 : ¬t.val < 4) (h3 : ¬(4 ≤ t.val % 18 ∧ t.val % 18 ≤ 5)) (h4 : t.val % 18 = 6) (h5 : ¬(7 ≤ t.val % 18 ∧ t.val % 18 ≤ 8)) (h6 : ¬9 ≤ t.val) :
    outsAt0 m c t.val t.isLt = out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (fun h => h2 ((hcond0_2 t).mp h)) (fun h => h3 ((hcond0_3 t).mp h)) ((hcond0_4 t).mpr h4) (fun h => h5 ((hcond0_5 t).mp h)) (fun h => h6 ((hcond0_6 t).mp h)) (iblk m c 0 t) (X0_1 m c t) (iblk m c 2 t) (iblk m c 3 t) (iblk m c 4 t) (iblk m c 5 t) := by
  have hN : t.val < 18 := lt_of_lt_of_eq t.isLt (show cfg0.N = 18 from N_0)
  show outsT m c t = _
  unfold outsT
  rw [dif_neg (show ¬ t.val < 4 by omega), dif_neg (show ¬ t.val < 6 by omega), dif_pos (show t.val < 7 by omega)]

/-- The block at a point of case D. -/
theorem outsAt0_D (c : Dev nD) (t : Fin cfg0.N) (h0 : t.val < 9) (h1 : ¬9 ≤ t.val) (h2 : ¬t.val < 4) (h3 : ¬(4 ≤ t.val % 18 ∧ t.val % 18 ≤ 5)) (h4 : ¬t.val % 18 = 6) (h5 : (7 ≤ t.val % 18 ∧ t.val % 18 ≤ 8)) (h6 : ¬9 ≤ t.val) :
    outsAt0 m c t.val t.isLt = out0_D_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (fun h => h2 ((hcond0_2 t).mp h)) (fun h => h3 ((hcond0_3 t).mp h)) (fun h => h4 ((hcond0_4 t).mp h)) ((hcond0_5 t).mpr h5) (fun h => h6 ((hcond0_6 t).mp h)) (iblk m c 0 t) (X0_1 m c t) (iblk m c 2 t) (iblk m c 3 t) (iblk m c 4 t) (iblk m c 5 t) := by
  have hN : t.val < 18 := lt_of_lt_of_eq t.isLt (show cfg0.N = 18 from N_0)
  show outsT m c t = _
  unfold outsT
  rw [dif_neg (show ¬ t.val < 4 by omega), dif_neg (show ¬ t.val < 6 by omega), dif_neg (show ¬ t.val < 7 by omega), dif_pos (show t.val < 9 by omega)]

/-- The block at a point of case E. -/
theorem outsAt0_E (c : Dev nD) (t : Fin cfg0.N) (h0 : ¬t.val < 9) (h1 : 9 ≤ t.val) (h2 : ¬t.val < 4) (h3 : ¬(4 ≤ t.val % 18 ∧ t.val % 18 ≤ 5)) (h4 : ¬t.val % 18 = 6) (h5 : ¬(7 ≤ t.val % 18 ∧ t.val % 18 ≤ 8)) (h6 : 9 ≤ t.val) :
    outsAt0 m c t.val t.isLt = out0_E_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (fun h => h2 ((hcond0_2 t).mp h)) (fun h => h3 ((hcond0_3 t).mp h)) (fun h => h4 ((hcond0_4 t).mp h)) (fun h => h5 ((hcond0_5 t).mp h)) ((hcond0_6 t).mpr h6) (iblk m c 0 t) (X0_1 m c t) (iblk m c 2 t) (iblk m c 3 t) (iblk m c 4 t) (iblk m c 5 t) := by
  have hN : t.val < 18 := lt_of_lt_of_eq t.isLt (show cfg0.N = 18 from N_0)
  show outsT m c t = _
  unfold outsT
  rw [dif_neg (show ¬ t.val < 4 by omega), dif_neg (show ¬ t.val < 6 by omega), dif_neg (show ¬ t.val < 7 by omega), dif_neg (show ¬ t.val < 9 by omega)]

/-! ## The pipeline's proof data -/

/-- The contents the pipeline's windows take at each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt)
  Φ _ := Pipeline.ΦA spec0 c
  q w := Pipeline.shareOf spec0 w
  owed _ := 0

/-- The arrays are as the call finds them. -/
theorem A_eq (c : Dev nD) (w : Fin cfg0.W) : (dats m 0 c).A w = V m c (Pipeline.arrRef spec0 w) := by
  dsimp only [dats]

/-- What the body leaves in each window. -/
theorem after0_0 (c : Dev nD) (t : Fin cfg0.N) : (dats m 0 c).after 0 t = iblk m c 0 t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt) := by dsimp only [dats]

/-- Each input's buffer holds its block before the body runs. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = X0_1 m c t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4000000 in
/-- The body runs at every point, case by case. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 18 := lt_of_lt_of_eq t.isLt (show cfg0.N = 18 from N_0)
  by_cases h0 : t.val < 9
  · by_cases h1 : 9 ≤ t.val
    · exfalso; omega
    · by_cases h2 : t.val < 4
      · by_cases h3 : (4 ≤ t.val % 18 ∧ t.val % 18 ≤ 5)
        · exfalso; omega
        · by_cases h4 : t.val % 18 = 6
          · exfalso; omega
          · by_cases h5 : (7 ≤ t.val % 18 ∧ t.val % 18 ≤ 8)
            · exfalso; omega
            · by_cases h6 : 9 ≤ t.val
              · exfalso; omega
              · rw [show (dats m 0 c).leavesExact 0 t = owns (c : Thread nD τ) (ms0_0 t) fullShare ((dats m 0 c).after 0 t) from by
      unfold Dat.leavesExact; rw [liveAt0_0 t], after0_0]
                rw [show (dats m 0 c).leavesExact 1 t = owns (c : Thread nD τ) (ms0_1 t) fullShare ((dats m 0 c).after 1 t) from by
      unfold Dat.leavesExact; rw [liveAt0_1 t], after0_1]
                rw [show (dats m 0 c).leavesExact 2 t = owns (c : Thread nD τ) (ms0_2 t) fullShare ((dats m 0 c).after 2 t) from by
      unfold Dat.leavesExact; rw [liveAt0_2 t], after0_2]
                rw [show (dats m 0 c).leavesExact 3 t = owns (c : Thread nD τ) (ms0_3 t) fullShare ((dats m 0 c).after 3 t) from by
      unfold Dat.leavesExact; rw [liveAt0_3 t], after0_3]
                rw [show (dats m 0 c).leavesExact 4 t = owns (c : Thread nD τ) (ms0_4 t) fullShare ((dats m 0 c).after 4 t) from by
      unfold Dat.leavesExact; rw [liveAt0_4 t], after0_4]
                rw [show (dats m 0 c).leavesExact 5 t = owns (c : Thread nD τ) (ms0_5 t) fullShare ((dats m 0 c).after 5 t) from by
      unfold Dat.leavesExact; rw [liveAt0_5 t], after0_5]
                rw [show (dats m 0 c).leavesExact 6 t = owns (c : Thread nD τ) (ms0_6 t) fullShare ((dats m 0 c).after 6 t) from by
      unfold Dat.leavesExact; rw [liveAt0_6_A t ((hcond0_0 t).mpr h0) (fun h => h1 ((hcond0_1 t).mp h)) ((hcond0_2 t).mpr h2) (fun h => h3 ((hcond0_3 t).mp h)) (fun h => h4 ((hcond0_4 t).mp h)) (fun h => h5 ((hcond0_5 t).mp h)) (fun h => h6 ((hcond0_6 t).mp h))], after0_6]
                rw [outsAt0_A m c t h0 h1 h2 h3 h4 h5 h6]
                unfold out0_A_6
                iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
                iapply ((kernelRun0_A c (grid0.coords t) _ _ _ _ _ _ _ _ _ _ _ _ _ _ _ _ ((hcond0_0 t).mpr h0) (fun h => h1 ((hcond0_1 t).mp h)) ((hcond0_2 t).mpr h2) (fun h => h3 ((hcond0_3 t).mp h)) (fun h => h4 ((hcond0_4 t).mp h)) (fun h => h5 ((hcond0_5 t).mp h)) (fun h => h6 ((hcond0_6 t).mp h)) (iblk m c 0 t) (X0_1 m c t) (iblk m c 2 t) (iblk m c 3 t) (iblk m c 4 t) (iblk m c 5 t)).2.2 Set.univ _)
                isplitl [H0]; · iexact H0
                isplitl [H1]; · iexact H1
                isplitl [H2]; · iexact H2
                isplitl [H3]; · iexact H3
                isplitl [H4]; · iexact H4
                isplitl [H5]; · iexact H5
                isplitl [H6]; · iexists _; iexact H6
                isplitl [HS0]; · iexact HS0
                iintro ⟨H0, H1, H2, H3, H4, H5, ⟨%e6, H6⟩, ⟨%fT0, HS0⟩⟩
                isplitl [HS0 Hg]
                · isplitl [HS0]
                  · iexists _; unfold owns; iexists _; isplitr
                    swap; · iexact HS0
                    ipureintro; rfl
                  iexact Hg
                isplitl [Ho]; · iexact Ho
                isplitl [H0]; · iexact H0
                isplitl [H1]; · iexact H1
                isplitl [H2]; · iexact H2
                isplitl [H3]; · iexact H3
                isplitl [H4]; · iexact H4
                isplitl [H5]; · iexact H5
                unfold owns; iexists _; isplitr
                swap; · iexact H6
                ipureintro; exact View.read_writes_of_cover _ _ _ _ _ (cover0_A_6 c _ _ _ _ _ _ _ _ _ _ _ _ _ _ _ _ _ _ _ _ _ _ _ _ _ _ _ _ _ _)
      · by_cases h3 : (4 ≤ t.val % 18 ∧ t.val % 18 ≤ 5)
        · by_cases h4 : t.val % 18 = 6
          · exfalso; omega
          · by_cases h5 : (7 ≤ t.val % 18 ∧ t.val % 18 ≤ 8)
            · exfalso; omega
            · by_cases h6 : 9 ≤ t.val
              · exfalso; omega
              · rw [show (dats m 0 c).leavesExact 0 t = owns (c : Thread nD τ) (ms0_0 t) fullShare ((dats m 0 c).after 0 t) from by
      unfold Dat.leavesExact; rw [liveAt0_0 t], after0_0]
                rw [show (dats m 0 c).leavesExact 1 t = owns (c : Thread nD τ) (ms0_1 t) fullShare ((dats m 0 c).after 1 t) from by
      unfold Dat.leavesExact; rw [liveAt0_1 t], after0_1]
                rw [show (dats m 0 c).leavesExact 2 t = owns (c : Thread nD τ) (ms0_2 t) fullShare ((dats m 0 c).after 2 t) from by
      unfold Dat.leavesExact; rw [liveAt0_2 t], after0_2]
                rw [show (dats m 0 c).leavesExact 3 t = owns (c : Thread nD τ) (ms0_3 t) fullShare ((dats m 0 c).after 3 t) from by
      unfold Dat.leavesExact; rw [liveAt0_3 t], after0_3]
                rw [show (dats m 0 c).leavesExact 4 t = owns (c : Thread nD τ) (ms0_4 t) fullShare ((dats m 0 c).after 4 t) from by
      unfold Dat.leavesExact; rw [liveAt0_4 t], after0_4]
                rw [show (dats m 0 c).leavesExact 5 t = owns (c : Thread nD τ) (ms0_5 t) fullShare ((dats m 0 c).after 5 t) from by
      unfold Dat.leavesExact; rw [liveAt0_5 t], after0_5]
                rw [show (dats m 0 c).leavesExact 6 t = owns (c : Thread nD τ) (ms0_6 t) fullShare ((dats m 0 c).after 6 t) from by
      unfold Dat.leavesExact; rw [liveAt0_6_B t ((hcond0_0 t).mpr h0) (fun h => h1 ((hcond0_1 t).mp h)) (fun h => h2 ((hcond0_2 t).mp h)) ((hcond0_3 t).mpr h3) (fun h => h4 ((hcond0_4 t).mp h)) (fun h => h5 ((hcond0_5 t).mp h)) (fun h => h6 ((hcond0_6 t).mp h))], after0_6]
                rw [outsAt0_B m c t h0 h1 h2 h3 h4 h5 h6]
                unfold out0_B_6
                iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
                iapply ((kernelRun0_B c (grid0.coords t) _ _ _ _ _ _ _ _ _ _ _ _ _ _ _ _ ((hcond0_0 t).mpr h0) (fun h => h1 ((hcond0_1 t).mp h)) (fun h => h2 ((hcond0_2 t).mp h)) ((hcond0_3 t).mpr h3) (fun h => h4 ((hcond0_4 t).mp h)) (fun h => h5 ((hcond0_5 t).mp h)) (fun h => h6 ((hcond0_6 t).mp h)) (iblk m c 0 t) (X0_1 m c t) (iblk m c 2 t) (iblk m c 3 t) (iblk m c 4 t) (iblk m c 5 t)).2.2 Set.univ _)
                isplitl [H0]; · iexact H0
                isplitl [H1]; · iexact H1
                isplitl [H2]; · iexact H2
                isplitl [H3]; · iexact H3
                isplitl [H4]; · iexact H4
                isplitl [H5]; · iexact H5
                isplitl [H6]; · iexists _; iexact H6
                isplitl [HS0]; · iexact HS0
                iintro ⟨H0, H1, H2, H3, H4, H5, ⟨%e6, H6⟩, ⟨%fT0, HS0⟩⟩
                isplitl [HS0 Hg]
                · isplitl [HS0]
                  · iexists _; unfold owns; iexists _; isplitr
                    swap; · iexact HS0
                    ipureintro; rfl
                  iexact Hg
                isplitl [Ho]; · iexact Ho
                isplitl [H0]; · iexact H0
                isplitl [H1]; · iexact H1
                isplitl [H2]; · iexact H2
                isplitl [H3]; · iexact H3
                isplitl [H4]; · iexact H4
                isplitl [H5]; · iexact H5
                unfold owns; iexists _; isplitr
                swap; · iexact H6
                ipureintro; exact View.read_writes_of_cover _ _ _ _ _ (cover0_B_6 c _ _ _ _ _ _ _ _ _ _ _ _ _ _ _ _ _ _ _ _ _ _ _ _ _ _ _ _ _ _)
        · by_cases h4 : t.val % 18 = 6
          · by_cases h5 : (7 ≤ t.val % 18 ∧ t.val % 18 ≤ 8)
            · exfalso; omega
            · by_cases h6 : 9 ≤ t.val
              · exfalso; omega
              · rw [show (dats m 0 c).leavesExact 0 t = owns (c : Thread nD τ) (ms0_0 t) fullShare ((dats m 0 c).after 0 t) from by
      unfold Dat.leavesExact; rw [liveAt0_0 t], after0_0]
                rw [show (dats m 0 c).leavesExact 1 t = owns (c : Thread nD τ) (ms0_1 t) fullShare ((dats m 0 c).after 1 t) from by
      unfold Dat.leavesExact; rw [liveAt0_1 t], after0_1]
                rw [show (dats m 0 c).leavesExact 2 t = owns (c : Thread nD τ) (ms0_2 t) fullShare ((dats m 0 c).after 2 t) from by
      unfold Dat.leavesExact; rw [liveAt0_2 t], after0_2]
                rw [show (dats m 0 c).leavesExact 3 t = owns (c : Thread nD τ) (ms0_3 t) fullShare ((dats m 0 c).after 3 t) from by
      unfold Dat.leavesExact; rw [liveAt0_3 t], after0_3]
                rw [show (dats m 0 c).leavesExact 4 t = owns (c : Thread nD τ) (ms0_4 t) fullShare ((dats m 0 c).after 4 t) from by
      unfold Dat.leavesExact; rw [liveAt0_4 t], after0_4]
                rw [show (dats m 0 c).leavesExact 5 t = owns (c : Thread nD τ) (ms0_5 t) fullShare ((dats m 0 c).after 5 t) from by
      unfold Dat.leavesExact; rw [liveAt0_5 t], after0_5]
                rw [show (dats m 0 c).leavesExact 6 t = owns (c : Thread nD τ) (ms0_6 t) fullShare ((dats m 0 c).after 6 t) from by
      unfold Dat.leavesExact; rw [liveAt0_6_C t ((hcond0_0 t).mpr h0) (fun h => h1 ((hcond0_1 t).mp h)) (fun h => h2 ((hcond0_2 t).mp h)) (fun h => h3 ((hcond0_3 t).mp h)) ((hcond0_4 t).mpr h4) (fun h => h5 ((hcond0_5 t).mp h)) (fun h => h6 ((hcond0_6 t).mp h))], after0_6]
                rw [outsAt0_C m c t h0 h1 h2 h3 h4 h5 h6]
                unfold out0_C_6
                iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
                iapply ((kernelRun0_C c (grid0.coords t) _ _ _ _ _ _ _ _ _ _ _ _ _ _ _ _ ((hcond0_0 t).mpr h0) (fun h => h1 ((hcond0_1 t).mp h)) (fun h => h2 ((hcond0_2 t).mp h)) (fun h => h3 ((hcond0_3 t).mp h)) ((hcond0_4 t).mpr h4) (fun h => h5 ((hcond0_5 t).mp h)) (fun h => h6 ((hcond0_6 t).mp h)) (iblk m c 0 t) (X0_1 m c t) (iblk m c 2 t) (iblk m c 3 t) (iblk m c 4 t) (iblk m c 5 t)).2.2 Set.univ _)
                isplitl [H0]; · iexact H0
                isplitl [H1]; · iexact H1
                isplitl [H2]; · iexact H2
                isplitl [H3]; · iexact H3
                isplitl [H4]; · iexact H4
                isplitl [H5]; · iexact H5
                isplitl [H6]; · iexists _; iexact H6
                isplitl [HS0]; · iexact HS0
                iintro ⟨H0, H1, H2, H3, H4, H5, ⟨%e6, H6⟩, ⟨%fT0, HS0⟩⟩
                isplitl [HS0 Hg]
                · isplitl [HS0]
                  · iexists _; unfold owns; iexists _; isplitr
                    swap; · iexact HS0
                    ipureintro; rfl
                  iexact Hg
                isplitl [Ho]; · iexact Ho
                isplitl [H0]; · iexact H0
                isplitl [H1]; · iexact H1
                isplitl [H2]; · iexact H2
                isplitl [H3]; · iexact H3
                isplitl [H4]; · iexact H4
                isplitl [H5]; · iexact H5
                unfold owns; iexists _; isplitr
                swap; · iexact H6
                ipureintro; exact View.read_writes_of_cover _ _ _ _ _ (cover0_C_6 c _ _ _ _ _ _ _ _ _ _ _ _ _ _ _ _ _ _ _ _ _ _ _ _ _ _ _ _ _ _)
          · by_cases h5 : (7 ≤ t.val % 18 ∧ t.val % 18 ≤ 8)
            · by_cases h6 : 9 ≤ t.val
              · exfalso; omega
              · rw [show (dats m 0 c).leavesExact 0 t = owns (c : Thread nD τ) (ms0_0 t) fullShare ((dats m 0 c).after 0 t) from by
      unfold Dat.leavesExact; rw [liveAt0_0 t], after0_0]
                rw [show (dats m 0 c).leavesExact 1 t = owns (c : Thread nD τ) (ms0_1 t) fullShare ((dats m 0 c).after 1 t) from by
      unfold Dat.leavesExact; rw [liveAt0_1 t], after0_1]
                rw [show (dats m 0 c).leavesExact 2 t = owns (c : Thread nD τ) (ms0_2 t) fullShare ((dats m 0 c).after 2 t) from by
      unfold Dat.leavesExact; rw [liveAt0_2 t], after0_2]
                rw [show (dats m 0 c).leavesExact 3 t = owns (c : Thread nD τ) (ms0_3 t) fullShare ((dats m 0 c).after 3 t) from by
      unfold Dat.leavesExact; rw [liveAt0_3 t], after0_3]
                rw [show (dats m 0 c).leavesExact 4 t = owns (c : Thread nD τ) (ms0_4 t) fullShare ((dats m 0 c).after 4 t) from by
      unfold Dat.leavesExact; rw [liveAt0_4 t], after0_4]
                rw [show (dats m 0 c).leavesExact 5 t = owns (c : Thread nD τ) (ms0_5 t) fullShare ((dats m 0 c).after 5 t) from by
      unfold Dat.leavesExact; rw [liveAt0_5 t], after0_5]
                rw [show (dats m 0 c).leavesExact 6 t = owns (c : Thread nD τ) (ms0_6 t) fullShare ((dats m 0 c).after 6 t) from by
      unfold Dat.leavesExact; rw [liveAt0_6_D t ((hcond0_0 t).mpr h0) (fun h => h1 ((hcond0_1 t).mp h)) (fun h => h2 ((hcond0_2 t).mp h)) (fun h => h3 ((hcond0_3 t).mp h)) (fun h => h4 ((hcond0_4 t).mp h)) ((hcond0_5 t).mpr h5) (fun h => h6 ((hcond0_6 t).mp h))], after0_6]
                rw [outsAt0_D m c t h0 h1 h2 h3 h4 h5 h6]
                unfold out0_D_6
                iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
                iapply ((kernelRun0_D c (grid0.coords t) _ _ _ _ _ _ _ _ _ _ _ _ _ _ _ _ ((hcond0_0 t).mpr h0) (fun h => h1 ((hcond0_1 t).mp h)) (fun h => h2 ((hcond0_2 t).mp h)) (fun h => h3 ((hcond0_3 t).mp h)) (fun h => h4 ((hcond0_4 t).mp h)) ((hcond0_5 t).mpr h5) (fun h => h6 ((hcond0_6 t).mp h)) (iblk m c 0 t) (X0_1 m c t) (iblk m c 2 t) (iblk m c 3 t) (iblk m c 4 t) (iblk m c 5 t)).2.2 Set.univ _)
                isplitl [H0]; · iexact H0
                isplitl [H1]; · iexact H1
                isplitl [H2]; · iexact H2
                isplitl [H3]; · iexact H3
                isplitl [H4]; · iexact H4
                isplitl [H5]; · iexact H5
                isplitl [H6]; · iexists _; iexact H6
                isplitl [HS0]; · iexact HS0
                iintro ⟨H0, H1, H2, H3, H4, H5, ⟨%e6, H6⟩, ⟨%fT0, HS0⟩⟩
                isplitl [HS0 Hg]
                · isplitl [HS0]
                  · iexists _; unfold owns; iexists _; isplitr
                    swap; · iexact HS0
                    ipureintro; rfl
                  iexact Hg
                isplitl [Ho]; · iexact Ho
                isplitl [H0]; · iexact H0
                isplitl [H1]; · iexact H1
                isplitl [H2]; · iexact H2
                isplitl [H3]; · iexact H3
                isplitl [H4]; · iexact H4
                isplitl [H5]; · iexact H5
                unfold owns; iexists _; isplitr
                swap; · iexact H6
                ipureintro; exact View.read_writes_of_cover _ _ _ _ _ (cover0_D_6 c _ _ _ _ _ _ _ _ _ _ _ _ _ _ _ _ _ _ _ _ _ _ _ _ _ _ _ _ _ _)
            · exfalso; omega
  · by_cases h1 : 9 ≤ t.val
    · by_cases h2 : t.val < 4
      · exfalso; omega
      · by_cases h3 : (4 ≤ t.val % 18 ∧ t.val % 18 ≤ 5)
        · exfalso; omega
        · by_cases h4 : t.val % 18 = 6
          · exfalso; omega
          · by_cases h5 : (7 ≤ t.val % 18 ∧ t.val % 18 ≤ 8)
            · exfalso; omega
            · by_cases h6 : 9 ≤ t.val
              · rw [show (dats m 0 c).leavesExact 0 t = owns (c : Thread nD τ) (ms0_0 t) fullShare ((dats m 0 c).after 0 t) from by
      unfold Dat.leavesExact; rw [liveAt0_0 t], after0_0]
                rw [show (dats m 0 c).leavesExact 1 t = owns (c : Thread nD τ) (ms0_1 t) fullShare ((dats m 0 c).after 1 t) from by
      unfold Dat.leavesExact; rw [liveAt0_1 t], after0_1]
                rw [show (dats m 0 c).leavesExact 2 t = owns (c : Thread nD τ) (ms0_2 t) fullShare ((dats m 0 c).after 2 t) from by
      unfold Dat.leavesExact; rw [liveAt0_2 t], after0_2]
                rw [show (dats m 0 c).leavesExact 3 t = owns (c : Thread nD τ) (ms0_3 t) fullShare ((dats m 0 c).after 3 t) from by
      unfold Dat.leavesExact; rw [liveAt0_3 t], after0_3]
                rw [show (dats m 0 c).leavesExact 4 t = owns (c : Thread nD τ) (ms0_4 t) fullShare ((dats m 0 c).after 4 t) from by
      unfold Dat.leavesExact; rw [liveAt0_4 t], after0_4]
                rw [show (dats m 0 c).leavesExact 5 t = owns (c : Thread nD τ) (ms0_5 t) fullShare ((dats m 0 c).after 5 t) from by
      unfold Dat.leavesExact; rw [liveAt0_5 t], after0_5]
                rw [show (dats m 0 c).leavesExact 6 t = owns (c : Thread nD τ) (ms0_6 t) fullShare ((dats m 0 c).after 6 t) from by
      unfold Dat.leavesExact; rw [liveAt0_6_E t (fun h => h0 ((hcond0_0 t).mp h)) ((hcond0_1 t).mpr h1) (fun h => h2 ((hcond0_2 t).mp h)) (fun h => h3 ((hcond0_3 t).mp h)) (fun h => h4 ((hcond0_4 t).mp h)) (fun h => h5 ((hcond0_5 t).mp h)) ((hcond0_6 t).mpr h6)], after0_6]
                rw [outsAt0_E m c t h0 h1 h2 h3 h4 h5 h6]
                unfold out0_E_6
                iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
                iapply ((kernelRun0_E c (grid0.coords t) _ _ _ _ _ _ _ _ _ _ _ _ _ _ _ _ (fun h => h0 ((hcond0_0 t).mp h)) ((hcond0_1 t).mpr h1) (fun h => h2 ((hcond0_2 t).mp h)) (fun h => h3 ((hcond0_3 t).mp h)) (fun h => h4 ((hcond0_4 t).mp h)) (fun h => h5 ((hcond0_5 t).mp h)) ((hcond0_6 t).mpr h6) (iblk m c 0 t) (X0_1 m c t) (iblk m c 2 t) (iblk m c 3 t) (iblk m c 4 t) (iblk m c 5 t)).2.2 Set.univ _)
                isplitl [H0]; · iexact H0
                isplitl [H1]; · iexact H1
                isplitl [H2]; · iexact H2
                isplitl [H3]; · iexact H3
                isplitl [H4]; · iexact H4
                isplitl [H5]; · iexact H5
                isplitl [H6]; · iexists _; iexact H6
                isplitl [HS0]; · iexact HS0
                iintro ⟨H0, H1, H2, H3, H4, H5, ⟨%e6, H6⟩, ⟨%fT0, HS0⟩⟩
                isplitl [HS0 Hg]
                · isplitl [HS0]
                  · iexists _; unfold owns; iexists _; isplitr
                    swap; · iexact HS0
                    ipureintro; rfl
                  iexact Hg
                isplitl [Ho]; · iexact Ho
                isplitl [H0]; · iexact H0
                isplitl [H1]; · iexact H1
                isplitl [H2]; · iexact H2
                isplitl [H3]; · iexact H3
                isplitl [H4]; · iexact H4
                isplitl [H5]; · iexact H5
                unfold owns; iexists _; isplitr
                swap; · iexact H6
                ipureintro; exact View.read_writes_of_cover _ _ _ _ _ (cover0_E_6 c _ _ _ _ _ _ _ _ _ _ _ _ _ _ _ _ _ _ _ _ _ _ _ _ _ _ _ _ _ _)
              · exfalso; omega
    · exfalso; omega

/-- The call's procedure at a point. -/
theorem defs₀_row (t : Fin cfg0.N) :
    defs₀ (F := F) .tc cfg0.body (cfg0.bodyArgs t (cfg0.slots t)) = bodyAt0 t := by
  unfold defs₀; rw [Defs.onTc_tc]

/-- The body as the pipeline asks for it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The run ends with its semaphores at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The run leaves every array as the pipeline says. -/
theorem run_main : θ_run defs (onTc (τ := τ) (main (F := F))) (s₀ m ρ) (Pipeline.FramePost cfgs (dats m) 0 (V m)) :=
  (θ_run defs _ _).mono (fun _ h => h.1) (run_main_quiescent m ρ)

/-- The run leaves the arguments as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The run leaves the arguments as they were and its semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

/-! ## The result array and the arguments after the run -/

/-- What a point writes back is its block of what the body leaves. -/
theorem flushed6 (c : Dev nD) (t : Fin cfg0.N) :
    (dats m 0 c).flushed 6 t = (cfg0.win 6).cut (grid0.coords t) (outsAt0 m c t.val t.isLt) := by
  show (cfg0.win 6).cut (grid0.coords t) ((dats m 0 c).after 6 t) = _
  rw [after0_6]

/-- After the run the result array is as the pipeline leaves it. -/
theorem post6 (r : PUnit × MemSt nD τ sig (Elt F)) (h : Pipeline.FramePost cfgs (dats m) 0 (V m) r) (c : Dev nD) :
    r.2.mem ((c : Thread nD τ).loc main_v23) = (dats m 0 c).arrAt 6 cfg0.N :=
  (h c).1 6

/-- The argument is as it was. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- The argument is as it was. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- The argument is as it was. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- The argument is as it was. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- The run, with the result array named and the arguments unchanged. -/
theorem run_blocks : θ_run defs (onTc (τ := τ) (main (F := F))) ⟨m, fun _ => 0, ρ⟩ fun r => ∀ c : Dev nD,
      r.2.mem ((c : Thread nD τ).loc main_v23) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨post6 m r h c,
      kept_main_arg0 m r h c,
      kept_main_arg1 m r h c,
      kept_main_arg2 m r h c,
      kept_main_arg3 m r h c⟩)
    (run_main m ρ)

end Cert.InsampleIdeal.Ins
-- ==== Proof.InsampleTile.lean ====
module

public import proofs.«01_k».proof.Proof.InsampleRun
public import Idealize.ShloMosaic.Lib.Pipeline.ValueKit.Point
public import Idealize.ShloMosaic.Lib.WholeRead
public import Idealize.ShloMosaic.Lib.Writes
public import Idealize.ShloMosaic.Lib.WritesUnit
public import Idealize.ShloMosaic.Lib.Tactic
public import Idealize.ShloMosaic.Lib.StableHlo.Run

@[expose] public section

set_option maxRecDepth 16384

noncomputable section

namespace Cert.InsampleIdeal.Ins

open Cert.InsampleIdeal Cert.InsampleIdeal.Gen Idealize.ShloMosaic Idealize.ShloMosaic.TcCoe Idealize.SL.Sem

local notation "I" => Idealize.ShloMosaic.Ideal

/-! ## The tiles, over the accumulator's row -/

/-- A row of the accumulator: a row of the activations against the weight columns held in the scratch. -/
def row (x : Vec I S64x2048 .bf16) (w : Vec I S2048x512 .bf16) (r : Fin 64) (q : Fin 512) : EReal :=
  ∑ k : Fin 2048, x (ix2 r k) * w (ix2 k q)

/-- The tanh form of gelu, associated as the kernel multiplies it out. -/
def gel (v : EReal) : EReal :=
  v * (Ideal.ofBits FTy.f32 1056964608#32 * (1 + Ideal.tanh (Ideal.ofBits FTy.f32 1061962282#32 *
    (v + Ideal.ofBits FTy.f32 1027024659#32 * (v * (v * v))))))

/-- The root-mean-square norm of a row at a lane. The mean of squares comes from a matrix `g` that averages within groups
    of lanes, applied to the squares' leading part and again to what rounding them left over. -/
def nrm (A : Fin 512 → EReal) (g : Vec I S512x512 .bf16) (n : Vec I S1x512 .f32) (q : Fin 512) : EReal :=
  A q * Ideal.rsqrt (∑ x, A x * A x * g (ix2 x q) + ∑ x, (A x * A x - A x * A x) * g (ix2 x q) + Ideal.ofBits FTy.f32 897988541#32) *
    (n (ix2 0 q) : EReal)

/-- The tile of the gelu columns. -/
def geluT (x : Vec I S64x2048 .bf16) (w : Vec I S2048x512 .bf16) : Vec I S64x512 .f32 := fun y => gel (row x w (y 0) (y 1))

/-- The tile of the normalized query columns. -/
def normT (x : Vec I S64x2048 .bf16) (w : Vec I S2048x512 .bf16) (g : Vec I S512x512 .bf16) (n : Vec I S1x512 .f32) :
    Vec I S64x512 .f32 := fun y => nrm (row x w (y 0)) g n (y 1)

/-- The tile of the columns passed on as they are. -/
def idT (x : Vec I S64x2048 .bf16) (w : Vec I S2048x512 .bf16) : Vec I S64x512 .f32 := fun y => row x w (y 0) (y 1)

/-- The tile of key and value columns: keys, in the first 256 lanes, are normalized; values are passed on. -/
def selT (x : Vec I S64x2048 .bf16) (w : Vec I S2048x512 .bf16) (g : Vec I S512x512 .bf16) (n : Vec I S1x512 .f32) :
    Vec I S64x512 .f32 := fun y => Scalar.select (IntOp.cmpi CmpIPredicate.slt (BitVec.ofNat 32 (y 1).val) 256#32)
      (nrm (row x w (y 0)) g n (y 1)) (row x w (y 0) (y 1))

/-- The tile of the gate columns. -/
def sigT (x : Vec I S64x2048 .bf16) (w : Vec I S2048x512 .bf16) : Vec I S64x512 .f32 := fun y => Ideal.logistic (row x w (y 0) (y 1))

/-- The weight block as the scratch holds it: transposed. -/
def wT (x : Vec I S1x512x2048 .f32) : Vec I S2048x512 .bf16 := fun y => x (ix3 0 (y 1) (y 0))

/-! ## Loads at coordinates -/

/-- A load of all rows. -/
theorem ldH {a : Memref sig .tc .vmem S64x2048 .bf16} (ha : a.IsWhole) (x : Vec I S64x2048 .bf16)
    {inb : ∀ a : Fin 2, (![0, 0] : Fin 2 → ℕ) a + (![64, 2048] : Fin 2 → ℕ) a ≤ S64x2048.size a} (y : S64x2048.Idx) :
    View.readAt (Elt I) a.view (Rect.unit (s := S64x2048) ![0, 0] ![64, 2048] inb).toLoadRect (ha.unread x) y = x y := by
  rw [Memref.IsWhole.readAt_unread]
  refine congrArg x ?_
  funext a
  fin_cases a
  · exact Fin.ext (by show 0 + 1 * (y 0).val = (y 0).val; omega)
  · exact Fin.ext (by show 0 + 1 * (y 1).val = (y 1).val; omega)

/-- A load of the whole averaging matrix. -/
theorem ldG {a : Memref sig .tc .vmem S512x512 .bf16} (ha : a.IsWhole) (x : Vec I S512x512 .bf16)
    {inb : ∀ a : Fin 2, (![0, 0] : Fin 2 → ℕ) a + (![512, 512] : Fin 2 → ℕ) a ≤ S512x512.size a} (y : S512x512.Idx) :
    View.readAt (Elt I) a.view (Rect.unit (s := S512x512) ![0, 0] ![512, 512] inb).toLoadRect (ha.unread x) y = x y := by
  rw [Memref.IsWhole.readAt_unread]
  refine congrArg x ?_
  funext a
  fin_cases a
  · exact Fin.ext (by show 0 + 1 * (y 0).val = (y 0).val; omega)
  · exact Fin.ext (by show 0 + 1 * (y 1).val = (y 1).val; omega)

/-- A load of the whole norm's weight. -/
theorem ldN {a : Memref sig .tc .vmem S1x512 .f32} (ha : a.IsWhole) (x : Vec I S1x512 .f32)
    {inb : ∀ a : Fin 2, (![0, 0] : Fin 2 → ℕ) a + (![1, 512] : Fin 2 → ℕ) a ≤ S1x512.size a} (y : S1x512.Idx) :
    View.readAt (Elt I) a.view (Rect.unit (s := S1x512) ![0, 0] ![1, 512] inb).toLoadRect (ha.unread x) y = x y := by
  rw [Memref.IsWhole.readAt_unread]
  refine congrArg x ?_
  funext a
  fin_cases a
  · exact Fin.ext (by show 0 + 1 * (y 0).val = (y 0).val; omega)
  · exact Fin.ext (by show 0 + 1 * (y 1).val = (y 1).val; omega)

/-- A load of the weight scratch after the store of the transposed block. -/
theorem ldWa (a : Memref sig .tc .vmem S2048x512 .bf16) {b : Memref sig .tc .vmem S1x512x2048 .f32} (hb : b.IsWhole) (x : Vec I S1x512x2048 .f32)
    (y : S2048x512.Idx) :
    a.view.readCov [(⟨Rect.unit ![0, 0] ![2048, 512] inb_S2048x512_S2048x512_0_0, k0_pay1 (View.readAt (Elt I) b.view
      (Rect.unit ![0, 0, 0] ![1, 512, 2048] inb_S1x512x2048_S1x512x2048_0_0_0).toLoadRect (hb.unread x))⟩ : View.Piece (Elt I) S2048x512 .bf16)]
      (Rect.unit (s := S2048x512) ![0, 0] ![2048, 512] inb_S2048x512_S2048x512_0_0).toLoadRect y = wT x y := by
  rw [View.readCov_cons_toLoadRect]
  unfold k0_pay1 wT
  pointwise
  rw [Memref.IsWhole.readAt_unread]
  refine congrArg x ?_
  funext a
  fin_cases a
  · rfl
  · exact Fin.ext (by show 0 + 1 * (y 1).val = (y 1).val; omega)
  · exact Fin.ext (by show 0 + 1 * (y 0).val = (y 0).val; omega)

/-- A load of the weight scratch after the store of the transposed block. -/
theorem ldWb (a : Memref sig .tc .vmem S2048x512 .bf16) {b : Memref sig .tc .vmem S1x512x2048 .f32} (hb : b.IsWhole) (x : Vec I S1x512x2048 .f32)
    (y : S2048x512.Idx) :
    a.view.readCov [(⟨Rect.unit ![0, 0] ![2048, 512] inb_S2048x512_S2048x512_0_0, k0_pay2 (View.readAt (Elt I) b.view
      (Rect.unit ![0, 0, 0] ![1, 512, 2048] inb_S1x512x2048_S1x512x2048_0_0_0).toLoadRect (hb.unread x))⟩ : View.Piece (Elt I) S2048x512 .bf16)]
      (Rect.unit (s := S2048x512) ![0, 0] ![2048, 512] inb_S2048x512_S2048x512_0_0).toLoadRect y = wT x y := by
  rw [View.readCov_cons_toLoadRect]
  unfold k0_pay2 wT
  pointwise
  rw [Memref.IsWhole.readAt_unread]
  refine congrArg x ?_
  funext a
  fin_cases a
  · rfl
  · exact Fin.ext (by show 0 + 1 * (y 1).val = (y 1).val; omega)
  · exact Fin.ext (by show 0 + 1 * (y 0).val = (y 0).val; omega)

/-! ## What a point stores: its tile -/

/-- The gelu columns. -/
theorem pG {h x : Vec I S64x2048 .bf16} {W w : Vec I S2048x512 .bf16} {j Y : S64x512.Idx} (hh : ∀ y, h y = x y) (hW : ∀ y, W y = w y) (h0 : Y 0 = j 0) (h1 : Y 1 = j 1) :
    (k0_pay3 h W) j = geluT x w Y := by
  obtain rfl : h = x := funext hh
  obtain rfl : W = w := funext hW
  have hr : ∀ q, row h W (Y 0) q = ∑ k : Fin 2048, h (ix2 (j 0) k) * W (ix2 k q) := fun q => by unfold row; simp only [h0]
  unfold geluT gel
  simp only [hr, h1]
  unfold k0_pay3
  pointwise
  rw [show row h W (Y 0) (j 1) = _ from hr (j 1)]

/-- The query columns. -/
theorem pQ {h x : Vec I S64x2048 .bf16} {W w : Vec I S2048x512 .bf16} {j Y : S64x512.Idx} (hh : ∀ y, h y = x y) (hW : ∀ y, W y = w y) (h0 : Y 0 = j 0) (h1 : Y 1 = j 1) {G g : Vec I S512x512 .bf16} {N n : Vec I S1x512 .f32} (hG : ∀ y, G y = g y) (hN : ∀ y, N y = n y) :
    (k0_pay4 h W G N) j = normT x w g n Y := by
  obtain rfl : h = x := funext hh
  obtain rfl : W = w := funext hW
  obtain rfl : G = g := funext hG
  obtain rfl : N = n := funext hN
  have hr : ∀ q, row h W (Y 0) q = ∑ k : Fin 2048, h (ix2 (j 0) k) * W (ix2 k q) := fun q => by unfold row; simp only [h0]
  unfold normT nrm
  simp only [hr, h1]
  unfold k0_pay4
  pointwise
  rw [show row h W (Y 0) (j 1) = _ from hr (j 1)]

/-- The plain columns. -/
theorem pI {h x : Vec I S64x2048 .bf16} {W w : Vec I S2048x512 .bf16} {j Y : S64x512.Idx} (hh : ∀ y, h y = x y) (hW : ∀ y, W y = w y) (h0 : Y 0 = j 0) (h1 : Y 1 = j 1) :
    (k0_pay5 h W) j = idT x w Y := by
  obtain rfl : h = x := funext hh
  obtain rfl : W = w := funext hW
  have hr : ∀ q, row h W (Y 0) q = ∑ k : Fin 2048, h (ix2 (j 0) k) * W (ix2 k q) := fun q => by unfold row; simp only [h0]
  unfold idT
  simp only [hr, h1]
  unfold k0_pay5
  pointwise
  rw [show row h W (Y 0) (j 1) = _ from hr (j 1)]

/-- The key and value columns. -/
theorem pK {h x : Vec I S64x2048 .bf16} {W w : Vec I S2048x512 .bf16} {j Y : S64x512.Idx} (hh : ∀ y, h y = x y) (hW : ∀ y, W y = w y) (h0 : Y 0 = j 0) (h1 : Y 1 = j 1) {G g : Vec I S512x512 .bf16} {N n : Vec I S1x512 .f32} (hG : ∀ y, G y = g y) (hN : ∀ y, N y = n y) :
    (k0_pay6 h W G N) j = selT x w g n Y := by
  obtain rfl : h = x := funext hh
  obtain rfl : W = w := funext hW
  obtain rfl : G = g := funext hG
  obtain rfl : N = n := funext hN
  have hr : ∀ q, row h W (Y 0) q = ∑ k : Fin 2048, h (ix2 (j 0) k) * W (ix2 k q) := fun q => by unfold row; simp only [h0]
  unfold selT nrm
  simp only [hr, h1]
  unfold k0_pay6
  pointwise
  rw [show row h W (Y 0) (j 1) = _ from hr (j 1)]

/-- The gate columns. -/
theorem pS {h x : Vec I S64x2048 .bf16} {W w : Vec I S2048x512 .bf16} {j Y : S64x512.Idx} (hh : ∀ y, h y = x y) (hW : ∀ y, W y = w y) (h0 : Y 0 = j 0) (h1 : Y 1 = j 1) :
    (k0_pay7 h W) j = sigT x w Y := by
  obtain rfl : h = x := funext hh
  obtain rfl : W = w := funext hW
  have hr : ∀ q, row h W (Y 0) q = ∑ k : Fin 2048, h (ix2 (j 0) k) * W (ix2 k q) := fun q => by unfold row; simp only [h0]
  unfold sigT
  simp only [hr, h1]
  unfold k0_pay7
  pointwise
  rw [show row h W (Y 0) (j 1) = _ from hr (j 1)]

/-! ## What each case of the body leaves in the output block -/

/-- The output block of case A. -/
theorem out_A (c : Dev nD) (i : grid0.Coords) (arg2 : Memref sig .tc .vmem S64x2048 .bf16) (harg2 : arg2.IsWhole) (arg3 : Memref sig .tc .vmem S1x512x2048 .f32) (harg3 : arg3.IsWhole) (arg4 : Memref sig .tc .vmem S1x512x2048 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S64x512 .f32) (harg8 : arg8.IsWhole) (arg9 : Memref sig .tc .vmem S2048x512 .bf16) (harg9 : arg9.IsWhole) (hc0 : cond0_0 i) (hc1 : ¬cond0_1 i) (hc2 : cond0_2 i) (hc3 : ¬cond0_3 i) (hc4 : ¬cond0_4 i) (hc5 : ¬cond0_5 i) (hc6 : ¬cond0_6 i)
    (x0 : Vec I S64x2048 .bf16) (x1 : Vec I S1x512x2048 .f32) (x2 : Vec I S1x512x2048 .f32) (x3 : Vec I S1x512 .f32) (x4 : Vec I S1x512 .f32) (x5 : Vec I S512x512 .bf16) :
    out0_A_6 c i arg2 harg2 arg3 harg3 arg4 harg4 arg5 harg5 arg6 harg6 arg7 harg7 arg8 harg8 arg9 harg9 hc0 hc1 hc2 hc3 hc4 hc5 hc6 x0 x1 x2 x3 x4 x5 = geluT x0 (wT x1) := by
  funext y
  unfold out0_A_6
  refine View.read_writes_apply_of_pieces _ _ (geluT x0 (wT x1)) _ ?_ y (cover0_A_6 c i arg2 harg2 arg3 harg3 arg4 harg4 arg5 harg5 arg6 harg6 arg7 harg7 arg8 harg8 arg9 harg9 hc0 hc1 hc2 hc3 hc4 hc5 hc6 x0 x1 x2 x3 x4 x5 y)
  unfold kernelRun0_A
  dsimp only
  sl_unfold_words
  simp only [List.forall_mem_cons]
  refine ⟨?_, by simp⟩
  intro j
  exact pG (fun y => ldH harg2 _ y) (fun y => ldWa _ harg3 _ y) (Fin.ext (by show 0 + 1 * (j 0).val = (j 0).val; omega)) (Fin.ext (by show 0 + 1 * (j 1).val = (j 1).val; omega))

/-- The output block of case B. -/
theorem out_B (c : Dev nD) (i : grid0.Coords) (arg2 : Memref sig .tc .vmem S64x2048 .bf16) (harg2 : arg2.IsWhole) (arg3 : Memref sig .tc .vmem S1x512x2048 .f32) (harg3 : arg3.IsWhole) (arg4 : Memref sig .tc .vmem S1x512x2048 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S64x512 .f32) (harg8 : arg8.IsWhole) (arg9 : Memref sig .tc .vmem S2048x512 .bf16) (harg9 : arg9.IsWhole) (hc0 : cond0_0 i) (hc1 : ¬cond0_1 i) (hc2 : ¬cond0_2 i) (hc3 : cond0_3 i) (hc4 : ¬cond0_4 i) (hc5 : ¬cond0_5 i) (hc6 : ¬cond0_6 i)
    (x0 : Vec I S64x2048 .bf16) (x1 : Vec I S1x512x2048 .f32) (x2 : Vec I S1x512x2048 .f32) (x3 : Vec I S1x512 .f32) (x4 : Vec I S1x512 .f32) (x5 : Vec I S512x512 .bf16) :
    out0_B_6 c i arg2 harg2 arg3 harg3 arg4 harg4 arg5 harg5 arg6 harg6 arg7 harg7 arg8 harg8 arg9 harg9 hc0 hc1 hc2 hc3 hc4 hc5 hc6 x0 x1 x2 x3 x4 x5 = normT x0 (wT x1) x5 x3 := by
  funext y
  unfold out0_B_6
  refine View.read_writes_apply_of_pieces _ _ (normT x0 (wT x1) x5 x3) _ ?_ y (cover0_B_6 c i arg2 harg2 arg3 harg3 arg4 harg4 arg5 harg5 arg6 harg6 arg7 harg7 arg8 harg8 arg9 harg9 hc0 hc1 hc2 hc3 hc4 hc5 hc6 x0 x1 x2 x3 x4 x5 y)
  unfold kernelRun0_B
  dsimp only
  sl_unfold_words
  simp only [List.forall_mem_cons]
  refine ⟨?_, by simp⟩
  intro j
  exact pQ (fun y => ldH harg2 _ y) (fun y => ldWa _ harg3 _ y) (Fin.ext (by show 0 + 1 * (j 0).val = (j 0).val; omega)) (Fin.ext (by show 0 + 1 * (j 1).val = (j 1).val; omega)) (fun y => ldG harg7 _ y) (fun y => ldN harg5 _ y)

/-- The output block of case C. -/
theorem out_C (c : Dev nD) (i : grid0.Coords) (arg2 : Memref sig .tc .vmem S64x2048 .bf16) (harg2 : arg2.IsWhole) (arg3 : Memref sig .tc .vmem S1x512x2048 .f32) (harg3 : arg3.IsWhole) (arg4 : Memref sig .tc .vmem S1x512x2048 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S64x512 .f32) (harg8 : arg8.IsWhole) (arg9 : Memref sig .tc .vmem S2048x512 .bf16) (harg9 : arg9.IsWhole) (hc0 : cond0_0 i) (hc1 : ¬cond0_1 i) (hc2 : ¬cond0_2 i) (hc3 : ¬cond0_3 i) (hc4 : cond0_4 i) (hc5 : ¬cond0_5 i) (hc6 : ¬cond0_6 i)
    (x0 : Vec I S64x2048 .bf16) (x1 : Vec I S1x512x2048 .f32) (x2 : Vec I S1x512x2048 .f32) (x3 : Vec I S1x512 .f32) (x4 : Vec I S1x512 .f32) (x5 : Vec I S512x512 .bf16) :
    out0_C_6 c i arg2 harg2 arg3 harg3 arg4 harg4 arg5 harg5 arg6 harg6 arg7 harg7 arg8 harg8 arg9 harg9 hc0 hc1 hc2 hc3 hc4 hc5 hc6 x0 x1 x2 x3 x4 x5 = idT x0 (wT x1) := by
  funext y
  unfold out0_C_6
  refine View.read_writes_apply_of_pieces _ _ (idT x0 (wT x1)) _ ?_ y (cover0_C_6 c i arg2 harg2 arg3 harg3 arg4 harg4 arg5 harg5 arg6 harg6 arg7 harg7 arg8 harg8 arg9 harg9 hc0 hc1 hc2 hc3 hc4 hc5 hc6 x0 x1 x2 x3 x4 x5 y)
  unfold kernelRun0_C
  dsimp only
  sl_unfold_words
  simp only [List.forall_mem_cons]
  refine ⟨?_, by simp⟩
  intro j
  exact pI (fun y => ldH harg2 _ y) (fun y => ldWa _ harg3 _ y) (Fin.ext (by show 0 + 1 * (j 0).val = (j 0).val; omega)) (Fin.ext (by show 0 + 1 * (j 1).val = (j 1).val; omega))

/-- The output block of case D. -/
theorem out_D (c : Dev nD) (i : grid0.Coords) (arg2 : Memref sig .tc .vmem S64x2048 .bf16) (harg2 : arg2.IsWhole) (arg3 : Memref sig .tc .vmem S1x512x2048 .f32) (harg3 : arg3.IsWhole) (arg4 : Memref sig .tc .vmem S1x512x2048 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S64x512 .f32) (harg8 : arg8.IsWhole) (arg9 : Memref sig .tc .vmem S2048x512 .bf16) (harg9 : arg9.IsWhole) (hc0 : cond0_0 i) (hc1 : ¬cond0_1 i) (hc2 : ¬cond0_2 i) (hc3 : ¬cond0_3 i) (hc4 : ¬cond0_4 i) (hc5 : cond0_5 i) (hc6 : ¬cond0_6 i)
    (x0 : Vec I S64x2048 .bf16) (x1 : Vec I S1x512x2048 .f32) (x2 : Vec I S1x512x2048 .f32) (x3 : Vec I S1x512 .f32) (x4 : Vec I S1x512 .f32) (x5 : Vec I S512x512 .bf16) :
    out0_D_6 c i arg2 harg2 arg3 harg3 arg4 harg4 arg5 harg5 arg6 harg6 arg7 harg7 arg8 harg8 arg9 harg9 hc0 hc1 hc2 hc3 hc4 hc5 hc6 x0 x1 x2 x3 x4 x5 = selT x0 (wT x1) x5 x4 := by
  funext y
  unfold out0_D_6
  refine View.read_writes_apply_of_pieces _ _ (selT x0 (wT x1) x5 x4) _ ?_ y (cover0_D_6 c i arg2 harg2 arg3 harg3 arg4 harg4 arg5 harg5 arg6 harg6 arg7 harg7 arg8 harg8 arg9 harg9 hc0 hc1 hc2 hc3 hc4 hc5 hc6 x0 x1 x2 x3 x4 x5 y)
  unfold kernelRun0_D
  dsimp only
  sl_unfold_words
  simp only [List.forall_mem_cons]
  refine ⟨?_, by simp⟩
  intro j
  exact pK (fun y => ldH harg2 _ y) (fun y => ldWa _ harg3 _ y) (Fin.ext (by show 0 + 1 * (j 0).val = (j 0).val; omega)) (Fin.ext (by show 0 + 1 * (j 1).val = (j 1).val; omega)) (fun y => ldG harg7 _ y) (fun y => ldN harg6 _ y)

/-- The output block of case E. -/
theorem out_E (c : Dev nD) (i : grid0.Coords) (arg2 : Memref sig .tc .vmem S64x2048 .bf16) (harg2 : arg2.IsWhole) (arg3 : Memref sig .tc .vmem S1x512x2048 .f32) (harg3 : arg3.IsWhole) (arg4 : Memref sig .tc .vmem S1x512x2048 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S64x512 .f32) (harg8 : arg8.IsWhole) (arg9 : Memref sig .tc .vmem S2048x512 .bf16) (harg9 : arg9.IsWhole) (hc0 : ¬cond0_0 i) (hc1 : cond0_1 i) (hc2 : ¬cond0_2 i) (hc3 : ¬cond0_3 i) (hc4 : ¬cond0_4 i) (hc5 : ¬cond0_5 i) (hc6 : cond0_6 i)
    (x0 : Vec I S64x2048 .bf16) (x1 : Vec I S1x512x2048 .f32) (x2 : Vec I S1x512x2048 .f32) (x3 : Vec I S1x512 .f32) (x4 : Vec I S1x512 .f32) (x5 : Vec I S512x512 .bf16) :
    out0_E_6 c i arg2 harg2 arg3 harg3 arg4 harg4 arg5 harg5 arg6 harg6 arg7 harg7 arg8 harg8 arg9 harg9 hc0 hc1 hc2 hc3 hc4 hc5 hc6 x0 x1 x2 x3 x4 x5 = sigT x0 (wT x2) := by
  funext y
  unfold out0_E_6
  refine View.read_writes_apply_of_pieces _ _ (sigT x0 (wT x2)) _ ?_ y (cover0_E_6 c i arg2 harg2 arg3 harg3 arg4 harg4 arg5 harg5 arg6 harg6 arg7 harg7 arg8 harg8 arg9 harg9 hc0 hc1 hc2 hc3 hc4 hc5 hc6 x0 x1 x2 x3 x4 x5 y)
  unfold kernelRun0_E
  dsimp only
  sl_unfold_words
  simp only [List.forall_mem_cons]
  refine ⟨?_, by simp⟩
  intro j
  exact pS (fun y => ldH harg2 _ y) (fun y => ldWb _ harg4 _ y) (Fin.ext (by show 0 + 1 * (j 0).val = (j 0).val; omega)) (Fin.ext (by show 0 + 1 * (j 1).val = (j 1).val; omega))

end Cert.InsampleIdeal.Ins
-- ==== Proof.InsampleValue.lean ====
module

public import proofs.«01_k».proof.Proof.InsampleTile
public import Idealize.ShloMosaic.Lib.Pipeline.ValueKit.Point
public import Idealize.ShloMosaic.Lib.WholeRead
public import Idealize.ShloMosaic.Lib.Writes
public import Idealize.ShloMosaic.Lib.WritesUnit
public import Idealize.ShloMosaic.Lib.Tactic
public import Idealize.ShloMosaic.Lib.StableHlo.Run

@[expose] public section

set_option maxRecDepth 16384

noncomputable section

namespace Cert.InsampleIdeal.Ins

open Cert.InsampleIdeal Cert.InsampleIdeal.Gen Idealize.ShloMosaic Idealize.ShloMosaic.TcCoe Idealize.SL.Sem

local notation "I" => Idealize.ShloMosaic.Ideal

/-! # The array the projection leaves, one element at a time -/

/-- A row of the activations against a column of the weights. -/
def proj (h : Vec I S64x2048 .bf16) (w : Vec I S2x2048x8752 .f32) (r : Fin 64) (p : ℕ) : EReal :=
  ∑ k : Fin 2048, h (ix2 r k) * w (ix3 0 k ⟨p % 8752, Nat.mod_lt _ (by norm_num)⟩)

/-- The root-mean-square norm over the group of 64 columns that holds column `p`. -/
def nrm64 (A : ℕ → EReal) (n : Vec I S2x64 .f32) (p : ℕ) : EReal :=
  A p * Ideal.rsqrt (Ideal.div (∑ x : Fin 64, A (64 * (p / 64) + x.val) * A (64 * (p / 64) + x.val)) (Ideal.ofBits FTy.f32 1115684864#32) +
    Ideal.ofBits FTy.f32 897988541#32) * (n (ix2 0 ⟨p % 64, Nat.mod_lt _ (by norm_num)⟩) : EReal)

/-- An element of the projection's result: gelu of the first columns, then the normalized queries, the compressed keys and
    values as they are, the normalized selection and window keys each before its values, and the gates through the logistic
    function. -/
def fused (h : Vec I S64x2048 .bf16) (w : Vec I S2x2048x8752 .f32) (qn kn : Vec I S2x64 .f32) : Vec I S64x9216 .f32 := fun i =>
  if (i 1).val < 2048 then gel (proj h w (i 0) (i 1).val)
  else if (i 1).val < 3072 then nrm64 (proj h w (i 0)) qn (i 1).val
  else if (i 1).val < 3584 then proj h w (i 0) (i 1).val
  else if (i 1).val < 3840 then nrm64 (proj h w (i 0)) kn (i 1).val
  else if (i 1).val < 4096 then proj h w (i 0) (i 1).val
  else if (i 1).val < 4352 then nrm64 (proj h w (i 0)) kn (i 1).val
  else if (i 1).val < 4608 then proj h w (i 0) (i 1).val
  else if (i 1).val < 8704 then Ideal.logistic (proj h w (i 0) ((i 1).val + 48))
  else Ideal.logistic (proj h w (i 0) ((i 1).val - 4096))

variable (m : (ℓ : Loc nD τ sig) → Buf (Elt I) ℓ)

/-! # The host-computed arrays at the call's entry -/

/-- The transposed weight. -/
theorem V0 (c : Dev nD) (y : S2x8752x2048.Idx) : (V m c main_v0 : Vec I S2x8752x2048 .f32) y = (m (c.tc.loc main_arg1) : Vec I S2x2048x8752 .f32) (ix3 (y 0) (y 2) (y 1)) := by
  unfold V
  simp only [hostOps0, hostOps0_1, hostOps0_2, hostOps0_3, hostOps0_4, hostOps0_5, hostOps0_6, List.flatten_cons, List.flatten_nil, List.cons_append, List.nil_append, List.append_nil]
  after_results_simp
  pointwise

/-- The query norm's weight, laid out over the lanes. -/
theorem V10 (c : Dev nD) (y : S1x512.Idx) : (V m c main_v10 : Vec I S1x512 .f32) y = (m (c.tc.loc main_arg2) : Vec I S2x64 .f32) (ix2 0 ⟨(y 1).val % 64, Nat.mod_lt _ (by norm_num)⟩) := by
  unfold V
  simp only [hostOps0, hostOps0_1, hostOps0_2, hostOps0_3, hostOps0_4, hostOps0_5, hostOps0_6, List.flatten_cons, List.flatten_nil, List.cons_append, List.nil_append, List.append_nil]
  after_results_simp
  pointwise

/-- The key norm's weight, laid out over the lanes. -/
theorem V12 (c : Dev nD) (y : S1x512.Idx) : (V m c main_v12 : Vec I S1x512 .f32) y = (m (c.tc.loc main_arg3) : Vec I S2x64 .f32) (ix2 0 ⟨(y 1).val % 64, Nat.mod_lt _ (by norm_num)⟩) := by
  unfold V
  simp only [hostOps0, hostOps0_1, hostOps0_2, hostOps0_3, hostOps0_4, hostOps0_5, hostOps0_6, List.flatten_cons, List.flatten_nil, List.cons_append, List.nil_append, List.append_nil]
  after_results_simp
  pointwise

/-- The host's floor division by 64, read at a lane number. -/
theorem fdiv : ∀ a : Fin 512,
    (Scalar.select
        (IntOp.andi
          (IntOp.cmpi CmpIPredicate.ne
            (if BitVec.ofNat 32 a.val = 0 then 0 else if (BitVec.ofNat 32 a.val).msb = true then -1 else 1 : BitVec 32)
            (if 64#32 = 0 then 0 else if (64#32).msb = true then -1 else 1 : BitVec 32))
          (IntOp.cmpi CmpIPredicate.ne (IntOp.remsi ArithUnit.host (BitVec.ofNat 32 a.val) 64#32) 0#32))
        (IntOp.subi (IntOp.divsi ArithUnit.host (BitVec.ofNat 32 a.val) 64#32) 1#32)
        (IntOp.divsi ArithUnit.host (BitVec.ofNat 32 a.val) 64#32) : BitVec 32) = BitVec.ofNat 32 (a.val / 64) := by
  decide +kernel

theorem eq64 : ∀ a b : Fin 8, (IntOp.cmpi CmpIPredicate.eq (BitVec.ofNat 32 a.val) (BitVec.ofNat 32 b.val)) = if a.val = b.val then 1#1 else 0#1 := by
  decide +kernel

/-- The averaging matrix: 1/64 within a group of 64 lanes, zero across. -/
theorem V22 (c : Dev nD) (y : S512x512.Idx) : (V m c main_v22 : Vec I S512x512 .bf16) y = (if (y 0).val / 64 = (y 1).val / 64 then Ideal.ofBits FTy.f32 0x3C800000#32 else 0 : EReal) := by
  unfold V
  simp only [hostOps0, hostOps0_1, hostOps0_2, hostOps0_3, hostOps0_4, hostOps0_5, hostOps0_6, List.flatten_cons, List.flatten_nil, List.cons_append, List.nil_append, List.append_nil]
  after_results_simp
  simp only [StableHlo.TRef.ofBuf_toBuf, id]
  simp only [StableHlo.TRef.ofBuf, StableHlo.TRef.toBuf, cast_eq]
  pointwise
  have e0 := fdiv (y 0)
  have e1 := fdiv (y 1)
  have l0 : (y 0).val < 512 := (y 0).isLt
  have l1 : (y 1).val < 512 := (y 1).isLt
  erw [e0, e1]
  have e2 := eq64 ⟨(y 0).val / 64, by omega⟩ ⟨(y 1).val / 64, by omega⟩
  simp only at e2
  rw [e2]
  by_cases h : (y 0).val / 64 = (y 1).val / 64
  · rw [if_pos h, if_pos h]; rfl
  · rw [if_neg h, if_neg h]; rfl

/-! # The blocks -/

theorem idx0 : ∀ t : Fin cfg0.N, win0_0.index t = ![0, 0] := by decide +kernel
theorem idx1 : ∀ t : Fin cfg0.N, win0_1.index t = ![0, min (t.val) 8, 0] := by decide +kernel
theorem idx2 : ∀ t : Fin cfg0.N, win0_2.index t = ![0, if t.val = 17 then 4608 else 4656 + 512 * (t.val - 9), 0] := by decide +kernel
theorem idx3 : ∀ t : Fin cfg0.N, win0_3.index t = ![0, 0] := by decide +kernel
theorem idx4 : ∀ t : Fin cfg0.N, win0_4.index t = ![0, 0] := by decide +kernel
theorem idx6 : ∀ t : Fin cfg0.N, win0_6.index t = ![0, t.val] := by decide +kernel
theorem idx5 : ∀ t : Fin cfg0.N, win0_5.index t = ![0, 0] := by decide +kernel

theorem blkE3 (c : Dev nD) (t : Fin cfg0.N) (y : S1x512.Idx) :
    (iblk m c 3 t : Vec I S1x512 .f32) y = (V m c main_v10 : Vec I S1x512 .f32) y := by
  blk_ext [iblk, idx3 t]
theorem blkE4 (c : Dev nD) (t : Fin cfg0.N) (y : S1x512.Idx) :
    (iblk m c 4 t : Vec I S1x512 .f32) y = (V m c main_v12 : Vec I S1x512 .f32) y := by
  blk_ext [iblk, idx4 t]
theorem blkE5 (c : Dev nD) (t : Fin cfg0.N) (y : S512x512.Idx) :
    (iblk m c 5 t : Vec I S512x512 .bf16) y = (V m c main_v22 : Vec I S512x512 .bf16) y := by
  blk_ext [iblk, idx5 t]
theorem blkE0 (c : Dev nD) (t : Fin cfg0.N) (y : S64x2048.Idx) :
    (iblk m c 0 t : Vec I S64x2048 .bf16) y = (V m c main_arg0 : Vec I S64x2048 .bf16) y := by
  blk_ext [iblk, idx0 t]
theorem blkE1 (c : Dev nD) (t : Fin cfg0.N) (y : S1x512x2048.Idx) :
    (X0_1 m c t : Vec I S1x512x2048 .f32) y = (V m c main_v0 : Vec I S2x8752x2048 .f32) (ix3 0 ⟨512 * (min (t.val) 8) + (y 1).val, by have : (y 1).val < 512 := (y 1).isLt; omega⟩ (y 2)) := by
  unfold X0_1
  unfold Pipeline.Window.fill
  rw [dif_pos (moved0_1 t y)]
  blk_ext [iblk, idx1 t]
theorem emb2 (t : Fin cfg0.N) (y : S1x512x2048.Idx) (a : Fin 3) :
    (((View.whole main_v0).slice (win0_2.rect t)).emb y a).val = win0_2.index t a + (y a).val :=
  win0_2.rect_emb_val_off t y a
theorem blkE2 (c : Dev nD) (t : Fin cfg0.N) (y : S1x512x2048.Idx) :
    (iblk m c 2 t : Vec I S1x512x2048 .f32) y = (V m c main_v0 : Vec I S2x8752x2048 .f32) (ix3 0 ⟨(if t.val = 17 then 4608 else 4656 + 512 * (t.val - 9)) + (y 1).val, by
      have : (y 1).val < 512 := (y 1).isLt
      have hN : t.val < 18 := t.isLt
      split <;> omega⟩ (y 2)) := by
  blk_ext [iblk, idx2 t]
  all_goals rw [emb2, idx2]
  · show 0 + (y 0).val = 0
    omega
  · rfl
  · show 0 + (y 2).val = (y 2).val
    omega

/-! # The mean of squares -/

/-- A sum of real numbers, taken among the extended reals. -/
theorem coe_sum {n : ℕ} (f : Fin n → ℝ) : ∑ x, ((f x : ℝ) : EReal) = ((∑ x, f x : ℝ) : EReal) := by
  refine Finset.induction_on (Finset.univ : Finset (Fin n)) ?_ ?_
  · simp
  · intro a s ha ih
    rw [Finset.sum_insert ha, Finset.sum_insert ha, ih, EReal.coe_add]

/-- 0x3C800000 is 1/64. -/
theorem bits_inv64 : Ideal.ofBits FTy.f32 0x3C800000#32 = ((1 / 64 : ℝ) : EReal) := by
  simp [Ideal.ofBits, Ideal.ieee, -EReal.coe_mul]
  norm_num

/-- 0x42800000 is 64. -/
theorem bits_64 : Ideal.ofBits FTy.f32 1115684864#32 = ((64 : ℝ) : EReal) := by
  simp [Ideal.ofBits, Ideal.ieee, -EReal.coe_mul]
  norm_num

/-- Averaging by the group matrix is averaging over the group of 64 lanes. -/
theorem group_sum (a : Fin 512 → ℝ) (q : Fin 512) :
    ∑ x, a x * (if x.val / 64 = q.val / 64 then (1 / 64 : ℝ) else 0) =
      (∑ x : Fin 64, a ⟨64 * (q.val / 64) + x.val, by omega⟩) * (64 : ℝ)⁻¹ := by
  have e := (Equiv.sum_comp (finProdFinEquiv (m := 8) (n := 64))
    (fun x : Fin (8 * 64) => a x * (if x.val / 64 = q.val / 64 then (1 / 64 : ℝ) else 0))).symm
  refine Eq.trans e ?_
  rw [Fintype.sum_prod_type, Finset.sum_eq_single (⟨q.val / 64, by omega⟩ : Fin 8)]
  · rw [Finset.sum_mul]
    refine Finset.sum_congr rfl fun x _ => ?_
    have hv : (finProdFinEquiv ((⟨q.val / 64, by omega⟩ : Fin 8), x)).val = x.val + 64 * (q.val / 64) := rfl
    rw [if_pos (by rw [hv]; omega)]
    have hx : (finProdFinEquiv ((⟨q.val / 64, by omega⟩ : Fin 8), x) : Fin 512) = ⟨64 * (q.val / 64) + x.val, by omega⟩ :=
      Fin.ext (by show x.val + 64 * (q.val / 64) = 64 * (q.val / 64) + x.val; omega)
    refine congrArg₂ _ (congrArg a hx) ?_
    norm_num
  · intro b _ hb
    refine Finset.sum_eq_zero fun x _ => ?_
    have hv : (finProdFinEquiv (b, x)).val = x.val + 64 * b.val := rfl
    have hne : b.val ≠ q.val / 64 := fun h => hb (Fin.ext h)
    rw [if_neg (by rw [hv]; omega), mul_zero]
  · intro h
    exact absurd (Finset.mem_univ _) h

/-- Over finite values the kernel's mean of squares, taken through the group matrix from the squares and from what their
    rounding left over, is the mean over the group. -/
theorem mean_eq (A : Fin 512 → EReal) (hA : ∀ x, ∃ r : ℝ, A x = (r : EReal)) (q : Fin 512) :
    ∑ x, A x * A x * (if x.val / 64 = q.val / 64 then Ideal.ofBits FTy.f32 0x3C800000#32 else 0 : EReal) +
        ∑ x, (A x * A x - A x * A x) * (if x.val / 64 = q.val / 64 then Ideal.ofBits FTy.f32 0x3C800000#32 else 0 : EReal) =
      Ideal.div (∑ x : Fin 64, A ⟨64 * (q.val / 64) + x.val, by omega⟩ * A ⟨64 * (q.val / 64) + x.val, by omega⟩)
        (Ideal.ofBits FTy.f32 1115684864#32) := by
  choose a ha using hA
  obtain rfl : A = fun x => ((a x : ℝ) : EReal) := funext ha
  have h0 : ∀ x : Fin 512, ((a x : ℝ) : EReal) * ((a x : ℝ) : EReal) - ((a x : ℝ) : EReal) * ((a x : ℝ) : EReal) = 0 := by
    intro x
    rw [← EReal.coe_mul, ← EReal.coe_sub, sub_self, EReal.coe_zero]
  have h1 : ∀ x : Fin 512, ((a x : ℝ) : EReal) * ((a x : ℝ) : EReal) *
      (if x.val / 64 = q.val / 64 then Ideal.ofBits FTy.f32 0x3C800000#32 else 0 : EReal) =
      ((a x * a x * (if x.val / 64 = q.val / 64 then (1 / 64 : ℝ) else 0) : ℝ) : EReal) := by
    intro x
    rw [bits_inv64]
    split
    · rw [EReal.coe_mul, EReal.coe_mul]
    · rw [mul_zero, mul_zero, EReal.coe_zero]
  dsimp only
  simp only [h0, h1, zero_mul, Finset.sum_const_zero, add_zero]
  rw [coe_sum, group_sum (fun x => a x * a x) q, bits_64]
  simp only [← EReal.coe_mul]
  rw [coe_sum]
  unfold Ideal.div
  rw [if_neg (by norm_num), ← EReal.coe_inv, ← EReal.coe_mul]

/-! # The rows of a grid point -/

/-- The first weight column of a sweep: blocks of 512 columns, with the merge gates' blocks 48 columns further on and the
    per-head gates' block last. -/
def cb (j : ℕ) : ℕ := if j ≤ 8 then 512 * j else if j = 17 then 4608 else 4656 + 512 * (j - 9)

/-- The weight columns of a sweep. -/
def wcol (w : Vec I S2x2048x8752 .f32) (j : ℕ) : Vec I S2048x512 .bf16 := fun y =>
  w (ix3 0 (y 0) ⟨(cb j + (y 1).val) % 8752, Nat.mod_lt _ (by norm_num)⟩)

theorem wT1 (c : Dev nD) (t : Fin cfg0.N) (h : t.val ≤ 8) :
    wT (X0_1 m c t) = wcol (m (c.tc.loc main_arg1)) (t.val) := by
  funext y
  have hy : (y 1).val < 512 := (y 1).isLt
  unfold wT wcol cb
  rw [blkE1, V0]
  refine congrArg (m (c.tc.loc main_arg1)) ?_
  funext a
  fin_cases a
  · rfl
  · rfl
  · exact Fin.ext (by show 512 * (min (t.val) 8) + (y 1).val = _ % 8752; rw [if_pos h]; omega)

theorem wT2 (c : Dev nD) (t : Fin cfg0.N) (h : 9 ≤ t.val) :
    wT (iblk m c 2 t) = wcol (m (c.tc.loc main_arg1)) (t.val) := by
  funext y
  have hN : t.val < 18 := t.isLt
  have hy : (y 1).val < 512 := (y 1).isLt
  unfold wT wcol cb
  rw [blkE2, V0]
  refine congrArg (m (c.tc.loc main_arg1)) ?_
  funext a
  fin_cases a
  · rfl
  · rfl
  · exact Fin.ext (by
      show (if t.val = 17 then 4608 else 4656 + 512 * (t.val - 9)) + (y 1).val = _ % 8752
      rw [if_neg (show ¬ t.val ≤ 8 by omega)]
      split <;> omega)

/-- A row of the point's accumulator is a row of the projection, from the sweep's first column on. -/
theorem row_eq (c : Dev nD) (t : Fin cfg0.N) (j : ℕ) (r : Fin 64) (q : Fin 512) :
    row (iblk m c 0 t) (wcol (m (c.tc.loc main_arg1)) j) r q =
      proj (m (c.tc.loc main_arg0)) (m (c.tc.loc main_arg1)) r (cb j + q.val) := by
  unfold row proj
  refine Finset.sum_congr rfl fun k _ => ?_
  rw [blkE0, V_main_arg0 m c]
  rfl

/-- The tile a grid point leaves. -/
def tileAt (c : Dev nD) (t : Fin cfg0.N) : Vec I S64x512 .f32 :=
  if t.val < 4 then geluT (iblk m c 0 t) (wcol (m (c.tc.loc main_arg1)) (t.val))
  else if t.val < 6 then normT (iblk m c 0 t) (wcol (m (c.tc.loc main_arg1)) (t.val)) (iblk m c 5 t) (iblk m c 3 t)
  else if t.val < 7 then idT (iblk m c 0 t) (wcol (m (c.tc.loc main_arg1)) (t.val))
  else if t.val < 9 then selT (iblk m c 0 t) (wcol (m (c.tc.loc main_arg1)) (t.val)) (iblk m c 5 t) (iblk m c 4 t)
  else sigT (iblk m c 0 t) (wcol (m (c.tc.loc main_arg1)) (t.val))

/-- Every point leaves its tile. -/
theorem tile_point (c : Dev nD) (t : Fin cfg0.N) : outsAt0 m c t.val t.isLt = tileAt m c t := by
  have hN : t.val < 18 := t.isLt
  unfold tileAt
  by_cases a4 : t.val < 4
  · rw [outsAt0_A m c t (by omega) (by omega) (by omega) (by omega) (by omega) (by omega) (by omega), out_A, wT1 m c t (by omega), if_pos a4]
  by_cases a6 : t.val < 6
  · rw [outsAt0_B m c t (by omega) (by omega) (by omega) (by omega) (by omega) (by omega) (by omega), out_B, wT1 m c t (by omega), if_neg a4, if_pos a6]
  by_cases a7 : t.val < 7
  · rw [outsAt0_C m c t (by omega) (by omega) (by omega) (by omega) (by omega) (by omega) (by omega), out_C, wT1 m c t (by omega), if_neg a4, if_neg a6, if_pos a7]
  by_cases a9 : t.val < 9
  · rw [outsAt0_D m c t (by omega) (by omega) (by omega) (by omega) (by omega) (by omega) (by omega), out_D, wT1 m c t (by omega), if_neg a4, if_neg a6, if_neg a7, if_pos a9]
  · rw [outsAt0_E m c t (by omega) (by omega) (by omega) (by omega) (by omega) (by omega) (by omega), out_E, wT2 m c t (by omega), if_neg a4, if_neg a6, if_neg a7, if_neg a9]

/-! # The array -/

/-- What the result array holds: at each index the tile of the point that covers its column. -/
def G (c : Dev nD) : Vec I S64x9216 .f32 := fun i =>
  tileAt m c ⟨(i 1).val / 512, by have h : (i 1).val < 9216 := (i 1).isLt; have hN : cfg0.N = 18 := N_0; omega⟩
    (ix2 (i 0) ⟨(i 1).val % 512, Nat.mod_lt _ (by norm_num)⟩)

/-- What a point writes back is its block of `G`. -/
theorem flushed_eq (c : Dev nD) (t : Fin cfg0.N) :
    (dats m 0 c).flushed 6 t = ((cfg0.win 6).blk t).view.read (Elt I) (G m c) := by
  rw [flushed6, tile_point]
  funext y
  have hN : cfg0.N = 18 := N_0
  have ht := t.isLt
  have hy0 : (y 0).val < 64 := (y 0).isLt
  have hy1 : (y 1).val < 512 := (y 1).isLt
  have hb0 : (((cfg0.win 6).blk t).view.emb y 0).val = win0_6.index t (0 : Fin 2) * 64 + 1 * (y 0).val := rfl
  have hb1 : (((cfg0.win 6).blk t).view.emb y 1).val = win0_6.index t (1 : Fin 2) * 512 + 1 * (y 1).val := rfl
  have e0 : (((cfg0.win 6).blk t).view.emb y 0).val = (y 0).val := by
    rw [hb0, show win0_6.index t (0 : Fin 2) = 0 from congrFun (idx6 t) 0]; omega
  have e1 : (((cfg0.win 6).blk t).view.emb y 1).val = 512 * t.val + (y 1).val := by
    rw [hb1, show win0_6.index t (1 : Fin 2) = t.val from congrFun (idx6 t) 1]; omega
  generalize hj : (((cfg0.win 6).blk t).view.emb y : S64x9216.Idx) = j at e0 e1
  show tileAt m c t ((cfg0.win 6).xinj (grid0.coords t) y) = G m c (((cfg0.win 6).blk t).view.emb y)
  rw [hj]
  generalize hz : ((cfg0.win 6).xinj (grid0.coords t) y : S64x512.Idx) = z
  have z0 : (z 0).val = (y 0).val := by rw [← hz]
  have z1 : (z 1).val = (y 1).val := by rw [← hz]
  have key : ∀ (t' : Fin cfg0.N) (z' : S64x512.Idx), t' = t → z' = z → tileAt m c t z = tileAt m c t' z' := by
    rintro _ _ rfl rfl
    rfl
  unfold G
  refine key _ _ (Fin.ext ?_) ?_
  · show (j 1).val / 512 = t.val
    omega
  · funext a
    fin_cases a
    · exact Fin.ext (by show (j 0).val = (z 0).val; omega)
    · exact Fin.ext (by show (j 1).val % 512 = (z 1).val; omega)

/-- The indices of a block. -/
theorem mem_blk6 (t : Fin cfg0.N) (i : S64x9216.Idx) :
    i ∈ ((cfg0.win 6).blk t).view.set ↔ ∀ a : Fin 2, win0_6.index t a * S64x512.size a ≤ (i a).val ∧ (i a).val < win0_6.index t a * S64x512.size a + S64x512.size a := by
  show i ∈ ((View.whole main_v23).slice (win0_6.rect t)).set ↔ _
  rw [View.set_slice_whole, Rect.mem_set_unit]
  exact Iff.rfl

theorem flush6 : ∀ t : Fin cfg0.N, (cfg0.win 6).flush t = true := by decide +kernel

/-- Every index of the array is in the block of a point that writes back. -/
theorem covered6 (i : S64x9216.Idx) : ∃ t : Fin cfg0.N, (cfg0.win 6).flush t = true ∧ i ∈ ((cfg0.win 6).blk t).view.set := by
  have h0 : (i 0).val < 64 := (i 0).isLt
  have h1 : (i 1).val < 9216 := (i 1).isLt
  have hN : cfg0.N = 18 := N_0
  have ht : (i 1).val / 512 < cfg0.N := by omega
  refine ⟨⟨(i 1).val / 512, ht⟩, flush6 _, ?_⟩
  rw [mem_blk6]
  have q := idx6 ⟨(i 1).val / 512, ht⟩
  have q0 : win0_6.index ⟨(i 1).val / 512, ht⟩ (0 : Fin 2) = 0 := congrFun q 0
  have q1 : win0_6.index ⟨(i 1).val / 512, ht⟩ (1 : Fin 2) = (i 1).val / 512 := congrFun q 1
  intro a
  match a with
  | ⟨0, _⟩ => show win0_6.index _ (0 : Fin 2) * 64 ≤ (i 0).val ∧ (i 0).val < win0_6.index _ (0 : Fin 2) * 64 + 64; omega
  | ⟨1, _⟩ => show win0_6.index _ (1 : Fin 2) * 512 ≤ (i 1).val ∧ (i 1).val < win0_6.index _ (1 : Fin 2) * 512 + 512; omega

/-- The result array after the run. -/
theorem final (c : Dev nD) : (dats m 0 c).arrAt 6 cfg0.N = G m c :=
  (dats m 0 c).arrAt_eq_of_cover 6 _ (fun t _ => flushed_eq m c t) (fun i => covered6 i)

/-- The run: the result array ends as `G` and the arguments end unchanged. -/
theorem run (ρ : Dev nD → PrngReg) : θ_run defs (onTc (τ := τ) (main (F := I))) ⟨m, fun _ => 0, ρ⟩ fun r => ∀ c : Dev nD,
      r.2.mem ((c : Thread nD τ).loc main_v23) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

/-- A row of the projection is finite when the arguments are. -/
theorem proj_real (h : Vec I S64x2048 .bf16) (w : Vec I S2x2048x8752 .f32) (hh : ∀ y, ∃ r : ℝ, (h y : EReal) = (r : EReal))
    (hw : ∀ y, ∃ r : ℝ, (w y : EReal) = (r : EReal)) (r : Fin 64) (p : ℕ) : ∃ s : ℝ, proj h w r p = (s : EReal) := by
  choose a ha using hh
  choose b hb using hw
  refine ⟨∑ k : Fin 2048, a (ix2 r k) * b (ix3 0 k ⟨p % 8752, Nat.mod_lt _ (by norm_num)⟩), ?_⟩
  rw [← coe_sum]
  unfold proj
  refine Finset.sum_congr rfl fun k _ => ?_
  rw [ha, hb, EReal.coe_mul]

/-- The kernel's norm of a finite row is the norm over the group of 64 columns. -/
theorem nrm_eq (c : Dev nD) (A : ℕ → EReal) (hA : ∀ p, ∃ r : ℝ, A p = (r : EReal)) (b : ℕ) (hb : b % 64 = 0)
    (R : Fin 512 → EReal) (hR : ∀ x : Fin 512, R x = A (b + x.val))
    (g : Vec I S512x512 .bf16) (hg : ∀ y, g y = (if (y 0).val / 64 = (y 1).val / 64 then Ideal.ofBits FTy.f32 0x3C800000#32 else 0 : EReal))
    (n : Vec I S1x512 .f32) (n' : Vec I S2x64 .f32) (hn : ∀ y, n y = n' (ix2 0 ⟨(y 1).val % 64, Nat.mod_lt _ (by norm_num)⟩)) (q : Fin 512) :
    nrm R g n q = nrm64 A n' (b + q.val) := by
  have hm := mean_eq R (fun x => by rw [hR x]; exact hA _) q
  unfold nrm nrm64
  have e0 : ∀ x : Fin 512, (g (ix2 x q) : EReal) = (if x.val / 64 = q.val / 64 then Ideal.ofBits FTy.f32 0x3C800000#32 else 0 : EReal) := fun x => hg _
  have e1 : (n (ix2 0 q) : EReal) = n' (ix2 0 ⟨(b + q.val) % 64, Nat.mod_lt _ (by norm_num)⟩) := by
    rw [hn]
    refine congrArg n' (congrArg (ix2 0) (Fin.ext ?_))
    show q.val % 64 = (b + q.val) % 64
    omega
  simp only [e0]
  rw [hm, e1, hR q]
  have e2 : ∀ x : Fin 64, R ⟨64 * (q.val / 64) + x.val, by omega⟩ = A (64 * ((b + q.val) / 64) + x.val) := by
    intro x
    rw [hR]
    refine congrArg A ?_
    show b + (64 * (q.val / 64) + x.val) = _
    omega
  simp only [e2]

/-- The lane test of the key and value tile. -/
theorem lane : ∀ q : Fin 512, IntOp.cmpi CmpIPredicate.slt (BitVec.ofNat 32 q.val) 256#32 = if q.val < 256 then 1#1 else 0#1 := by
  decide +kernel

theorem geluT_at (x : Vec I S64x2048 .bf16) (w : Vec I S2048x512 .bf16) (r : Fin 64) (q : Fin 512) :
    geluT x w (ix2 r q) = gel (row x w r q) := rfl
theorem normT_at (x : Vec I S64x2048 .bf16) (w : Vec I S2048x512 .bf16) (g : Vec I S512x512 .bf16) (n : Vec I S1x512 .f32)
    (r : Fin 64) (q : Fin 512) : normT x w g n (ix2 r q) = nrm (row x w r) g n q := rfl
theorem idT_at (x : Vec I S64x2048 .bf16) (w : Vec I S2048x512 .bf16) (r : Fin 64) (q : Fin 512) :
    idT x w (ix2 r q) = row x w r q := rfl
theorem sigT_at (x : Vec I S64x2048 .bf16) (w : Vec I S2048x512 .bf16) (r : Fin 64) (q : Fin 512) :
    sigT x w (ix2 r q) = Ideal.logistic (row x w r q) := rfl
theorem selT_at (x : Vec I S64x2048 .bf16) (w : Vec I S2048x512 .bf16) (g : Vec I S512x512 .bf16) (n : Vec I S1x512 .f32)
    (r : Fin 64) (q : Fin 512) : selT x w g n (ix2 r q) = if q.val < 256 then nrm (row x w r) g n q else row x w r q := by
  show Scalar.select (IntOp.cmpi CmpIPredicate.slt (BitVec.ofNat 32 q.val) 256#32) _ _ = _
  rw [lane q]
  by_cases h : q.val < 256
  · rw [if_pos h, if_pos h]; rfl
  · rw [if_neg h, if_neg h]; rfl

/-- From finite activations and weights the kernel's result array is `fused` of its arguments. -/
theorem G_eq (c : Dev nD) (hh : ∀ y : S64x2048.Idx, ∃ r : ℝ, ((m (c.tc.loc main_arg0) : Vec I S64x2048 .bf16) y : EReal) = (r : EReal))
    (hw : ∀ y : S2x2048x8752.Idx, ∃ r : ℝ, ((m (c.tc.loc main_arg1) : Vec I S2x2048x8752 .f32) y : EReal) = (r : EReal)) :
    G m c = fused (m (c.tc.loc main_arg0)) (m (c.tc.loc main_arg1)) (m (c.tc.loc main_arg2)) (m (c.tc.loc main_arg3)) := by
  funext i
  have hb0 : (i 0).val < 64 := (i 0).isLt
  have hb1 : (i 1).val < 9216 := (i 1).isLt
  unfold G
  obtain ⟨r, q, hl, l0, l1⟩ : ∃ (r : Fin 64) (q : Fin 512), (ix2 (i 0) ⟨(i 1).val % 512, Nat.mod_lt _ (by norm_num)⟩ : S64x512.Idx) = ix2 r q ∧ r = i 0 ∧ q.val = (i 1).val % 512 :=
    ⟨i 0, ⟨(i 1).val % 512, Nat.mod_lt _ (by norm_num)⟩, rfl, rfl, rfl⟩
  rw [hl]
  generalize ht : (⟨(i 1).val / 512, _⟩ : Fin cfg0.N) = t
  have hd8 : t.val = (i 1).val / 512 := (congrArg Fin.val ht).symm
  have hN' : t.val < 18 := t.isLt
  clear ht hl
  obtain ⟨R, hR⟩ : ∃ R : Fin 64, R = i 0 := ⟨_, rfl⟩
  have hrR : r = R := l0.trans hR.symm
  have hrow : ∀ x : Fin 512, row (iblk m c 0 t) (wcol (m (c.tc.loc main_arg1)) (t.val)) r x =
      proj (m (c.tc.loc main_arg0)) (m (c.tc.loc main_arg1)) R (cb (t.val) + x.val) := by
    intro x
    rw [← hrR]
    exact row_eq m c t _ r x
  have hA := proj_real _ _ hh hw R
  have hg : ∀ y : S512x512.Idx, (iblk m c 5 t : Vec I S512x512 .bf16) y =
      (if (y 0).val / 64 = (y 1).val / 64 then Ideal.ofBits FTy.f32 0x3C800000#32 else 0 : EReal) := fun y => by rw [blkE5, V22]
  have hq : ∀ y : S1x512.Idx, (iblk m c 3 t : Vec I S1x512 .f32) y =
      (m (c.tc.loc main_arg2) : Vec I S2x64 .f32) (ix2 0 ⟨(y 1).val % 64, Nat.mod_lt _ (by norm_num)⟩) := fun y => by rw [blkE3, V10]
  have hk : ∀ y : S1x512.Idx, (iblk m c 4 t : Vec I S1x512 .f32) y =
      (m (c.tc.loc main_arg3) : Vec I S2x64 .f32) (ix2 0 ⟨(y 1).val % 64, Nat.mod_lt _ (by norm_num)⟩) := fun y => by rw [blkE4, V12]
  have hr := hrow q
  unfold tileAt fused
  rw [← hR]
  by_cases a4 : t.val < 4
  · have hc : cb (t.val) + q.val = (i 1).val := by unfold cb; rw [if_pos (by omega)]; omega
    rw [if_pos a4, geluT_at, hr, hc, if_pos (show (i 1).val < 2048 by omega)]
  rw [if_neg a4, if_neg (show ¬ (i 1).val < 2048 by omega)]
  by_cases a6 : t.val < 6
  · have hc : cb (t.val) + q.val = (i 1).val := by unfold cb; rw [if_pos (by omega)]; omega
    have hb : cb (t.val) % 64 = 0 := by unfold cb; rw [if_pos (by omega)]; omega
    rw [if_pos a6, normT_at, if_pos (show (i 1).val < 3072 by omega), nrm_eq c _ hA _ hb _ hrow _ hg _ _ hq q, hc]
  rw [if_neg a6, if_neg (show ¬ (i 1).val < 3072 by omega)]
  by_cases a7 : t.val < 7
  · have hc : cb (t.val) + q.val = (i 1).val := by unfold cb; rw [if_pos (by omega)]; omega
    rw [if_pos a7, idT_at, hr, hc, if_pos (show (i 1).val < 3584 by omega)]
  rw [if_neg a7, if_neg (show ¬ (i 1).val < 3584 by omega)]
  by_cases a9 : t.val < 9
  · have hc : cb (t.val) + q.val = (i 1).val := by unfold cb; rw [if_pos (by omega)]; omega
    have hb : cb (t.val) % 64 = 0 := by unfold cb; rw [if_pos (by omega)]; omega
    rw [if_pos a9, selT_at, nrm_eq c _ hA _ hb _ hrow _ hg _ _ hk q, hr, hc]
    by_cases a8 : t.val = 7
    · by_cases hl : q.val < 256
      · rw [if_pos hl, if_pos (show (i 1).val < 3840 by omega)]
      · rw [if_neg hl, if_neg (show ¬ (i 1).val < 3840 by omega), if_pos (show (i 1).val < 4096 by omega)]
    · rw [if_neg (show ¬ (i 1).val < 3840 by omega), if_neg (show ¬ (i 1).val < 4096 by omega)]
      by_cases hl : q.val < 256
      · rw [if_pos hl, if_pos (show (i 1).val < 4352 by omega)]
      · rw [if_neg hl, if_neg (show ¬ (i 1).val < 4352 by omega), if_pos (show (i 1).val < 4608 by omega)]
  rw [if_neg a9, sigT_at, hr, if_neg (show ¬ (i 1).val < 3840 by omega), if_neg (show ¬ (i 1).val < 4096 by omega),
    if_neg (show ¬ (i 1).val < 4352 by omega), if_neg (show ¬ (i 1).val < 4608 by omega)]
  by_cases a17 : t.val = 17
  · have hc : cb (t.val) + q.val = (i 1).val - 4096 := by unfold cb; rw [if_neg (by omega), if_pos a17]; omega
    rw [if_neg (show ¬ (i 1).val < 8704 by omega), hc]
  · have hc : cb (t.val) + q.val = (i 1).val + 48 := by unfold cb; rw [if_neg (by omega), if_neg a17]; omega
    rw [if_pos (show (i 1).val < 8704 by omega), hc]

end Cert.InsampleIdeal.Ins

end
-- ==== Proof.InsampleRef.lean ====
module

public import proofs.«01_k».proof.Defs
public import proofs.«01_k».proof.Proof.Gen.RefInsampleIdeal.Run
public import Idealize.ShloMosaic.Lib.Quiescent
public import Idealize.ShloMosaic.Lib.Tactic.ValueTie
public import Idealize.ShloMosaic.Lib.Tactic
public import proofs.«01_k».proof.Proof.InsampleValue

@[expose] public section

set_option maxRecDepth 16384

noncomputable section

namespace Cert.Proof

open Idealize.ShloMosaic Idealize.SL.Sem
open Cert.RefInsampleIdeal

/-- The nine pieces laid side by side, read at an index. -/
theorem cat9s (u0 : Vec Ideal S64x2048 .f32) (u1 : Vec Ideal S64x1024 .f32) (u2 : Vec Ideal S64x512 .f32) (u3 : Vec Ideal S64x256 .f32)
    (u4 : Vec Ideal S64x256 .f32) (u5 : Vec Ideal S64x256 .f32) (u6 : Vec Ideal S64x256 .f32) (u7 : Vec Ideal S64x4096 .f32)
    (u8 : Vec Ideal S64x512 .f32) (i : S64x9216.Idx) :
    (Value.fn_main_v86 (F := Ideal) u0 u1 u2 u3 u4 u5 u6 u7 u8 : Vec Ideal S64x9216 .f32) i =
    (if h : (i 1).val < 2048 then u0 (ix2 (i 0) ⟨(i 1).val, h⟩)
    else if h : (i 1).val - 2048 < 1024 then u1 (ix2 (i 0) ⟨(i 1).val - 2048, h⟩)
    else if h : (i 1).val - 2048 - 1024 < 512 then u2 (ix2 (i 0) ⟨(i 1).val - 2048 - 1024, h⟩)
    else if h : (i 1).val - 2048 - 1024 - 512 < 256 then u3 (ix2 (i 0) ⟨(i 1).val - 2048 - 1024 - 512, h⟩)
    else if h : (i 1).val - 2048 - 1024 - 512 - 256 < 256 then u4 (ix2 (i 0) ⟨(i 1).val - 2048 - 1024 - 512 - 256, h⟩)
    else if h : (i 1).val - 2048 - 1024 - 512 - 256 - 256 < 256 then u5 (ix2 (i 0) ⟨(i 1).val - 2048 - 1024 - 512 - 256 - 256, h⟩)
    else if h : (i 1).val - 2048 - 1024 - 512 - 256 - 256 - 256 < 256 then u6 (ix2 (i 0) ⟨(i 1).val - 2048 - 1024 - 512 - 256 - 256 - 256, h⟩)
    else if h : (i 1).val - 2048 - 1024 - 512 - 256 - 256 - 256 - 256 < 4096 then u7 (ix2 (i 0) ⟨(i 1).val - 2048 - 1024 - 512 - 256 - 256 - 256 - 256, h⟩)
    else u8 (ix2 (i 0) ⟨(i 1).val - 2048 - 1024 - 512 - 256 - 256 - 256 - 256 - 4096, by have : (i 1).val < 9216 := (i 1).isLt; omega⟩)) := by
  unfold Value.fn_main_v86
  clean_types
  pointwise

open Cert.InsampleIdeal.Ins (proj nrm64 fused gel)

set_option maxRecDepth 200000 in
/-- The reference's array, element by element. -/
theorem ref_at_s (m : (ℓ : Loc nD τ sig) → Buf (Elt Ideal) ℓ) (c : Dev nD) (i : S64x9216.Idx) (u0 : Vec Ideal S64x2048 .bf16) (u1 : Vec Ideal S2x2048x8752 .f32)
    (u2 u3 : Vec Ideal S2x64 .f32)
    (e0 : m ((c.tc : Thread nD τ).loc main_arg0) = u0)
    (e1 : m ((c.tc : Thread nD τ).loc main_arg1) = u1)
    (e2 : m ((c.tc : Thread nD τ).loc main_arg2) = u2)
    (e3 : m ((c.tc : Thread nD τ).loc main_arg3) = u3) :
    (Value.res_main_v86 m c : Vec Ideal S64x9216 .f32) i = fused u0 u1 u2 u3 i := by
  unfold Value.res_main_v86
  rw [e0, e1, e2, e3]
  clear e0 e1 e2 e3
  refine (cat9s _ _ _ _ _ _ _ _ _ i).trans ?_
  idx_bounds i
  unfold fused
  by_cases h0 : (i 1).val < 2048
  · rw [dif_pos h0, if_pos (by omega)]
    unfold gel proj
    clean_types
    pointwise
    simp only [mul_assoc]
    simp only [Nat.mod_eq_of_lt (show (i 1).val < 8752 by omega)]
  rw [dif_neg h0, if_neg (by omega)]
  by_cases h1 : (i 1).val - 2048 < 1024
  · rw [dif_pos h1, if_pos (by omega)]
    unfold nrm64 proj
    clean_types
    pointwise
    simp only [Nat.mod_eq_of_lt (show (i 1).val < 8752 by omega), show 2048 + (((i 1).val - 2048) / 64 * 64 + (i 1).val % 64) = (i 1).val from by omega, show ∀ x : Fin 64, 2048 + (((i 1).val - 2048) / 64 * 64 + x.val) = (64 * ((i 1).val / 64) + x.val) % 8752 from fun x => by omega, show ((i 1).val - 2048) % 64 = (i 1).val % 64 from by omega]
  rw [dif_neg h1, if_neg (by omega)]
  by_cases h2 : (i 1).val - 2048 - 1024 < 512
  · rw [dif_pos h2, if_pos (by omega)]
    unfold proj
    clean_types
    pointwise
    simp only [Nat.mod_eq_of_lt (show (i 1).val < 8752 by omega), show 3072 + ((i 1).val - 2048 - 1024) = (i 1).val from by omega]
  rw [dif_neg h2, if_neg (by omega)]
  by_cases h3 : (i 1).val - 2048 - 1024 - 512 < 256
  · rw [dif_pos h3, if_pos (by omega)]
    unfold nrm64 proj
    clean_types
    pointwise
    simp only [Nat.mod_eq_of_lt (show (i 1).val < 8752 by omega), show 3072 + (512 + ((i 1).val - 2048 - 1024 - 512) / 64 * 64 + (i 1).val % 64) = (i 1).val from by omega, show ∀ x : Fin 64, 3072 + (512 + ((i 1).val - 2048 - 1024 - 512) / 64 * 64 + x.val) = (64 * ((i 1).val / 64) + x.val) % 8752 from fun x => by omega, show ((i 1).val - 2048 - 1024 - 512) % 64 = (i 1).val % 64 from by omega]
  rw [dif_neg h3, if_neg (by omega)]
  by_cases h4 : (i 1).val - 2048 - 1024 - 512 - 256 < 256
  · rw [dif_pos h4, if_pos (by omega)]
    unfold proj
    clean_types
    pointwise
    simp only [Nat.mod_eq_of_lt (show (i 1).val < 8752 by omega), show 3840 + ((i 1).val - 2048 - 1024 - 512 - 256) = (i 1).val from by omega]
  rw [dif_neg h4, if_neg (by omega)]
  by_cases h5 : (i 1).val - 2048 - 1024 - 512 - 256 - 256 < 256
  · rw [dif_pos h5, if_pos (by omega)]
    unfold nrm64 proj
    clean_types
    pointwise
    simp only [Nat.mod_eq_of_lt (show (i 1).val < 8752 by omega), show 3072 + (1024 + ((i 1).val - 2048 - 1024 - 512 - 256 - 256) / 64 * 64 + (i 1).val % 64) = (i 1).val from by omega, show ∀ x : Fin 64, 3072 + (1024 + ((i 1).val - 2048 - 1024 - 512 - 256 - 256) / 64 * 64 + x.val) = (64 * ((i 1).val / 64) + x.val) % 8752 from fun x => by omega, show ((i 1).val - 2048 - 1024 - 512 - 256 - 256) % 64 = (i 1).val % 64 from by omega]
  rw [dif_neg h5, if_neg (by omega)]
  by_cases h6 : (i 1).val - 2048 - 1024 - 512 - 256 - 256 - 256 < 256
  · rw [dif_pos h6, if_pos (by omega)]
    unfold proj
    clean_types
    pointwise
    simp only [Nat.mod_eq_of_lt (show (i 1).val < 8752 by omega), show 4352 + ((i 1).val - 2048 - 1024 - 512 - 256 - 256 - 256) = (i 1).val from by omega]
  rw [dif_neg h6, if_neg (by omega)]
  by_cases h7 : (i 1).val - 2048 - 1024 - 512 - 256 - 256 - 256 - 256 < 4096
  · rw [dif_pos h7, if_pos (by omega)]
    unfold proj
    clean_types
    pointwise
    unfold Ideal.logistic
    simp only [Nat.mod_eq_of_lt (show (i 1).val + 48 < 8752 by omega), show 4608 + (48 + ((i 1).val - 2048 - 1024 - 512 - 256 - 256 - 256 - 256)) = (i 1).val + 48 from by omega]
  rw [dif_neg h7, if_neg (by omega)]
  unfold proj
  clean_types
  pointwise
  unfold Ideal.logistic
  simp only [Nat.mod_eq_of_lt (show (i 1).val - 4096 < 8752 by omega), show 4608 + ((i 1).val - 2048 - 1024 - 512 - 256 - 256 - 256 - 256 - 4096) = (i 1).val - 4096 from by omega]

end Cert.Proof
-- ==== Proof.InsampleTie.lean ====
module

public import proofs.«01_k».proof.Defs
public import proofs.«01_k».proof.Proof.Gen.InsampleIdeal
public import proofs.«01_k».proof.Proof.Gen.Insample
public import proofs.«01_k».proof.Proof.InsampleValue
public import proofs.«01_k».proof.Proof.InsampleRef
public import proofs.«01_k».proof.Proof.Gen.RefInsampleIdeal.Run
public import Idealize.ShloMosaic.Lib.Quiescent
public import Idealize.ShloMosaic.Lib.ReduceAll
public import Idealize.ShloMosaic.Lib.Tactic.ValueTie

@[expose] public section

set_option maxRecDepth 16384

noncomputable section

namespace Cert.Proof

open Idealize.ShloMosaic Idealize.SL.Sem

/-- The side conditions of the precondition's own operations. -/
theorem finite_sample_facts : Cert.Pre_finite_sample.Facts := ⟨by decide, by decide, by decide, by decide, by decide, by decide⟩

set_option maxHeartbeats 4000000

/-- One grid point of the call is the same program in both texts, read at bit patterns. -/
theorem cc0_insample_eq : Cert.Insample.cc0_inproj (F := Bits) = Cert.InsampleIdeal.cc0_inproj (F := Bits) := rfl

/-- So the one procedure of the call is the same, at the one label it has. -/
theorem defs₀_eq_s : Cert.Insample.defs₀ (F := Bits) = Cert.InsampleIdeal.defs₀ (F := Bits) := by
  unfold Cert.Insample.defs₀ Cert.InsampleIdeal.defs₀
  refine congrArg (Defs.onTc (nD := Cert.Insample.nD) (τ := Cert.Insample.τ) (sig := Cert.Insample.sig) (Val := Elt Bits) (Λ := Cert.Insample.Λ₀)) ?_
  funext l a
  obtain ⟨n, hn⟩ := l
  cases n with
  | zero =>
    obtain ⟨t, s⟩ := a
    exact congrFun (congrFun (congrFun (congrFun (congrFun (congrFun (congrFun (congrFun (congrFun (congrFun (congrFun (congrFun (congrFun (congrFun (congrFun (congrFun (congrFun cc0_insample_eq _) _) _) _) _) _) _) _) _) _) _) _) _) _) _) _) _
  | succ n => omega

/-- And with it the pipeline around it. -/
theorem defs_eq_s : Cert.Insample.defs (F := Bits) = Cert.InsampleIdeal.defs (F := Bits) :=
  congrArg (Pipeline.defs Cert.Insample.pcfgs) defs₀_eq_s

theorem main_eq_s : Cert.Insample.main (F := Bits) = Cert.InsampleIdeal.main (F := Bits) := rfl

/-- The sample input projection runs and leaves its arguments and semaphores as it found them: its run is that of the other text. -/
theorem quiescent_Insample : quiescent_Insample := fun m ρ _ => by
  have h := Cert.InsampleIdeal.Ins.frame (F := Bits) m ρ
  rw [defs_eq_s, main_eq_s]
  exact h

/-- So does its idealization. -/
theorem quiescent_InsampleIdeal : quiescent_InsampleIdeal := fun m ρ _ => Cert.InsampleIdeal.Ins.frame (F := Ideal) m ρ

/-- The frame that the value claim takes, under the claim's precondition. -/
theorem quiescent_InsampleIdeal_pre_finite_sample [Cert.Pre_finite_sample.Facts] : quiescent_InsampleIdeal_pre_finite_sample :=
  fun m ρ _ => Cert.InsampleIdeal.Ins.frame (F := Ideal) m ρ

/-- The reference of the sample input projection leaves its semaphores at zero and its arguments as they were. -/
theorem quiescent_RefInsampleIdeal : quiescent_RefInsampleIdeal := fun m ρ _ =>
  (θ_run Cert.RefInsampleIdeal.defs _ _).mono (fun r h => ⟨fun c => (h c).2, sem_eq_zero_of_no_sems (by decide) r.2⟩)
    (Cert.RefInsampleIdeal.Value.run (F := Ideal) m ρ)

/-- The same under the precondition. -/
theorem quiescent_RefInsampleIdeal_pre_finite_sample [Cert.Pre_finite_sample.Facts] : quiescent_RefInsampleIdeal_pre_finite_sample := fun m ρ _ =>
  (θ_run Cert.RefInsampleIdeal.defs _ _).mono (fun r h => ⟨fun c => (h c).2, sem_eq_zero_of_no_sems (by decide) r.2⟩)
    (Cert.RefInsampleIdeal.Value.run (F := Ideal) m ρ)

/-- An extended real whose absolute value compares below infinity is a real number. -/
theorem real_of_abs_lt_s (x : EReal) (h : Ideal.cmp .olt (max x (-x)) (Ideal.ofBits FTy.f32 0x7F800000#32) = 1#1) :
    ∃ r : ℝ, x = (r : EReal) := by
  have ht : Ideal.ofBits FTy.f32 0x7F800000#32 = ⊤ := by simp [Ideal.ofBits, Ideal.ieee]
  rw [ht] at h
  have hlt : max x (-x) < ⊤ := by
    by_contra hn
    simp [Ideal.cmp, hn] at h
  induction x with
  | bot => simp at hlt
  | top => simp at hlt
  | coe r => exact ⟨r, rfl⟩

/-- The precondition says of both arrays that every element is a real number. -/
theorem finite_sample_read [Cert.Pre_finite_sample.Facts] (h : Vec Ideal Cert.Pre_finite_sample.S64x2048 .bf16) (w : Vec Ideal Cert.Pre_finite_sample.S2x2048x8752 .f32)
    (q k : Vec Ideal Cert.Pre_finite_sample.S2x64 .f32) (e : Cert.Pre_finite_sample.fn (F := Ideal) h w q k = fun _ => 1#1) :
    (∀ y, ∃ r : ℝ, (h y : EReal) = (r : EReal)) ∧ (∀ y, ∃ r : ℝ, (w y : EReal) = (r : EReal)) := by
  have : Subsingleton Cert.Pre_finite_sample.S_.Idx := ⟨fun a b => funext fun x => x.elim0⟩
  have j : Cert.Pre_finite_sample.S_.Idx := fun x => x.elim0
  have e' := congrFun e j
  unfold Cert.Pre_finite_sample.fn at e'
  dsimp only at e'
  obtain ⟨e1, e2⟩ := IntOp.andi_eq_one.1 e'
  exact ⟨fun y => real_of_abs_lt_s _ (Host.reduce_andi_all _ _ _ _ j e1 y), fun y => real_of_abs_lt_s _ (Host.reduce_andi_all _ _ _ _ j e2 y)⟩

/-- From equal arguments, with finite activations and weights, the sample input projection and its reference leave the same
    array. -/
theorem algebraic_InsampleIdeal_RefInsampleIdeal_pre_finite_sample [Cert.Pre_finite_sample.Facts] : algebraic_InsampleIdeal_RefInsampleIdeal_pre_finite_sample := by
  intro m ρ m' ρ' hpre hagree
  refine ⟨_, Cert.InsampleIdeal.Ins.run m ρ, ?_⟩
  refine (θ_run Cert.RefInsampleIdeal.defs _ _).mono (fun _ h c => ⟨?_, (h c).2⟩) (Cert.RefInsampleIdeal.Value.run (F := Ideal) m' ρ')
  obtain ⟨hh, hw⟩ := finite_sample_read _ _ _ _ (hpre c)
  obtain ⟨a0, a1, a2, a3⟩ := hagree c
  rw [(h c).1]
  refine Eq.trans ?_ (Cert.InsampleIdeal.Ins.G_eq m c hh hw).symm
  exact funext fun i => ref_at_s m' c i _ _ _ _ a0 a1 a2 a3

end Cert.Proof

end
-- ==== Proof.UpsampleValue.lean ====
module

public import proofs.«01_k».proof.Proof.Gen.UpsampleIdeal.Value
public import Idealize.ShloMosaic.Lib.Pipeline.ValueKit.Point
public import Idealize.ShloMosaic.Lib.WholeRead
public import Idealize.ShloMosaic.Lib.Writes
public import Idealize.ShloMosaic.Lib.WritesUnit
public import Idealize.ShloMosaic.Lib.Tactic
public import Idealize.ShloMosaic.Lib.StableHlo.Run

@[expose] public section

set_option maxRecDepth 16384

noncomputable section

namespace Cert.UpsampleIdeal.Value

open Cert.UpsampleIdeal Cert.UpsampleIdeal.Gen Idealize.ShloMosaic Idealize.ShloMosaic.TcCoe Idealize.SL.Sem

local notation "I" => Idealize.ShloMosaic.Ideal

/-- The 64 rows' product with the first weight columns below eight zero rows: row `8 + r` is row `r` of the product. -/
def ab (x : Vec I S64x2048 .bf16) (w : Vec I S2048x512 .bf16) : Vec I S72x512 .f32 := fun y =>
  if h : 8 ≤ (y 0).val then
    (∑ k : Fin 2048, x (ix2 ⟨(y 0).val - 8, by have : (y 0).val < 72 := (y 0).isLt; omega⟩ k) * w (ix2 k (y 1)) : EReal)
  else (0 : EReal)

/-- The tanh form of the Gaussian error linear unit. -/
def gel (v : EReal) : EReal :=
  v * (Ideal.ofBits FTy.f32 1056964608#32 * (1 + Ideal.tanh (Ideal.ofBits FTy.f32 1061962282#32 *
    (v + Ideal.ofBits FTy.f32 1027024659#32 * (v * (v * v))))))

/-- The unit with the cube associated to the left. -/
theorem gel_comm (v : EReal) : gel v = v * (Ideal.ofBits FTy.f32 1056964608#32 * (1 + Ideal.tanh (Ideal.ofBits FTy.f32 1061962282#32 *
    (v + Ideal.ofBits FTy.f32 1027024659#32 * (v * v * v))))) := by
  unfold gel
  rw [mul_comm v (v * v)]

/-- A weight block as a matrix. -/
def wcols (w : Vec I S1x2048x512 .f32) : Vec I S2048x512 .bf16 := fun y => w (ix3 0 (y 0) (y 1))

/-- Rows `o` to `o + n` of the row buffer hold the index `(r, c)` just when `r` is among them. -/
theorem mem_rows {o n : ℕ} {inb : ∀ a : Fin 2, (![o, 0] : Fin 2 → ℕ) a + (![n, 512] : Fin 2 → ℕ) a ≤ S72x512.size a}
    (r : Fin 72) (c : Fin 512) :
    (ix2 r c : S72x512.Idx) ∈ (Rect.unit (s := S72x512) ![o, 0] ![n, 512] inb).set ↔ o ≤ r.val ∧ r.val < o + n := by
  rw [Rect.mem_set_unit]
  constructor
  · intro h
    exact h 0
  · intro h a
    fin_cases a
    · exact h
    · exact ⟨Nat.zero_le _, by show c.val < 0 + 512; omega⟩

/-- A load of rows of the buffer after stores that are all rows of one function `G` reads `G`, when they cover the load. -/
theorem rd {κ : Kind} {sp : Space} {sig : RefSig} (v : View sig κ sp S72x512 .f32) (G : Vec I S72x512 .f32) {o n : ℕ}
    {inb : ∀ a : Fin 2, (![o, 0] : Fin 2 → ℕ) a + (![n, 512] : Fin 2 → ℕ) a ≤ S72x512.size a}
    (hn : o + n ≤ 72) (L : List (View.Piece (Elt I) S72x512 .f32))
    (hL : ∀ p ∈ L, ∀ x : p.1.shape.Idx, p.2 x = G (p.1.emb x))
    (hc : ∀ r : Fin 72, ∀ c : Fin 512, o ≤ r.val → r.val < o + n → ∃ p ∈ L, (ix2 r c : S72x512.Idx) ∈ p.1.set)
    (y : (Rect.unit (s := S72x512) ![o, 0] ![n, 512] inb).shape.Idx) :
    v.readCov L (Rect.unit (s := S72x512) ![o, 0] ![n, 512] inb).toLoadRect y =
      G (ix2 ⟨o + (y 0).val, by have : (y 0).val < n := (y 0).isLt; omega⟩ (y 1)) := by
  have h0 : (y 0).val < n := (y 0).isLt
  have e : (Rect.unit (s := S72x512) ![o, 0] ![n, 512] inb).toLoadRect.idx y =
      (ix2 ⟨o + (y 0).val, by omega⟩ (y 1) : S72x512.Idx) := by
    funext a
    fin_cases a
    · exact Fin.ext (by show o + 1 * (y 0).val = o + (y 0).val; omega)
    · exact Fin.ext (by show 0 + 1 * (y 1).val = (y 1).val; omega)
  rw [View.readCov_eq_canon']
  show View.canon L ((Rect.unit (s := S72x512) ![o, 0] ![n, 512] inb).toLoadRect.idx y) = _
  refine (congrArg (View.canon L) e).trans ?_
  exact View.canon_apply_of_pieces G L hL _ (hc _ _ (by show o ≤ o + (y 0).val; omega) (by show o + (y 0).val < o + n; omega))

/-- The carried rows of the buffer are zero in the body. -/
theorem pz (x : Vec I S64x2048 .bf16) (w : Vec I S2048x512 .bf16)
    (j : (Rect.unit (s := S72x512) ![0, 0] ![8, 512] inb_S72x512_S8x512_0_0).shape.Idx) :
    (k0_pay6 (F := I)) j = ab x w ((Rect.unit (s := S72x512) ![0, 0] ![8, 512] inb_S72x512_S8x512_0_0).emb j) := by
  have hj : (j 0).val < 8 := (j 0).isLt
  unfold ab
  rw [dif_neg (by show ¬8 ≤ 0 + 1 * (j 0).val; omega)]
  unfold k0_pay6
  pointwise

/-- The stored product of the rows is rows of `ab`. -/
theorem st0 (x : Vec I S64x2048 .bf16) (w : Vec I S2048x512 .bf16) {h : Vec I S64x2048 .bf16}
    {W : Vec I S2048x512 .bf16}
    (hh : ∀ y, h y = x y)
    (hW : ∀ y, W y = w y) (j : (Rect.unit (s := S72x512) ![8, 0] ![64, 512] inb_S72x512_S64x512_8_0).shape.Idx) :
    k0_pay9 h W j = ab x w ((Rect.unit (s := S72x512) ![8, 0] ![64, 512] inb_S72x512_S64x512_8_0).emb j) := by
  obtain rfl : W = w := funext hW
  unfold ab
  rw [dif_pos (by show 8 ≤ 8 + 1 * (j 0).val; omega)]
  unfold k0_pay9 k0_pay7
  pointwise
  refine Finset.sum_congr rfl fun k _ => ?_
  rw [hh]
  refine congrArg₂ _ (congrArg x ?_) (congrArg W ?_)
  · funext a
    fin_cases a
    · exact Fin.ext (by show (j 0).val = 8 + 1 * (j 0).val - 8; omega)
    · rfl
  · funext a
    fin_cases a
    · rfl
    · exact Fin.ext (by show (j 1).val = 0 + 1 * (j 1).val; omega)

/-- A load of one row of the convolution weights. -/
theorem ldC {a : Memref sig .tc .vmem S1x3x512 .f32} (ha : a.IsWhole) (x : Vec I S1x3x512 .f32) {k : ℕ} (hk : k < 3)
    {inb : ∀ a : Fin 3, (![0, k, 0] : Fin 3 → ℕ) a + (![1, 1, 512] : Fin 3 → ℕ) a ≤ S1x3x512.size a} (y : S1x1x512.Idx) :
    View.readAt (Elt I) a.view (Rect.unit (s := S1x3x512) ![0, k, 0] ![1, 1, 512] inb).toLoadRect (ha.unread x) y =
      x (ix3 0 ⟨k, hk⟩ (y 2)) := by
  have y0 : (y 0).val < 1 := (y 0).isLt
  have y1 : (y 1).val < 1 := (y 1).isLt
  rw [Memref.IsWhole.readAt_unread]
  refine congrArg x ?_
  funext a
  fin_cases a
  · exact Fin.ext (by show 0 + 1 * (y 0).val = 0; omega)
  · exact Fin.ext (by show k + 1 * (y 1).val = k; omega)
  · exact Fin.ext (by show 0 + 1 * (y 2).val = (y 2).val; omega)

/-- A load of the convolution bias. -/
theorem ldB {a : Memref sig .tc .vmem S1x1x512 .f32} (ha : a.IsWhole) (x : Vec I S1x1x512 .f32)
    {inb : ∀ a : Fin 3, (![0, 0, 0] : Fin 3 → ℕ) a + (![1, 1, 512] : Fin 3 → ℕ) a ≤ S1x1x512.size a} (y : S1x1x512.Idx) :
    View.readAt (Elt I) a.view (Rect.unit (s := S1x1x512) ![0, 0, 0] ![1, 1, 512] inb).toLoadRect (ha.unread x) y =
      x (ix3 0 0 (y 2)) := by
  have y0 : (y 0).val < 1 := (y 0).isLt
  have y1 : (y 1).val < 1 := (y 1).isLt
  rw [Memref.IsWhole.readAt_unread]
  refine congrArg x ?_
  funext a
  fin_cases a
  · exact Fin.ext (by show 0 + 1 * (y 0).val = 0; omega)
  · exact Fin.ext (by show 0 + 1 * (y 1).val = 0; omega)
  · exact Fin.ext (by show 0 + 1 * (y 2).val = (y 2).val; omega)

/-- A load of a weight scratch after the store of the cast block. -/
theorem ldWa (a : Memref sig .tc .vmem S2048x512 .bf16) {b : Memref sig .tc .vmem S1x2048x512 .f32} (hb : b.IsWhole) (x : Vec I S1x2048x512 .f32)
    (y : S2048x512.Idx) :
    a.view.readCov [(⟨Rect.unit ![0, 0] ![2048, 512] inb_S2048x512_S2048x512_0_0, k0_pay4 (View.readAt (Elt I) b.view
      (Rect.unit ![0, 0, 0] ![1, 2048, 512] inb_S1x2048x512_S1x2048x512_0_0_0).toLoadRect (hb.unread x))⟩ : View.Piece (Elt I) S2048x512 .bf16)]
      (Rect.unit (s := S2048x512) ![0, 0] ![2048, 512] inb_S2048x512_S2048x512_0_0).toLoadRect y = wcols x y := by
  rw [View.readCov_cons_toLoadRect]
  unfold k0_pay4 wcols
  pointwise
  rw [Memref.IsWhole.readAt_unread]
  refine congrArg x ?_
  funext a
  fin_cases a
  · rfl
  · exact Fin.ext (by show 0 + 1 * (y 0).val = (y 0).val; omega)
  · exact Fin.ext (by show 0 + 1 * (y 1).val = (y 1).val; omega)

/-- A load of a weight scratch after the store of the cast block. -/
theorem ldWb (a : Memref sig .tc .vmem S2048x512 .bf16) {b : Memref sig .tc .vmem S1x2048x512 .f32} (hb : b.IsWhole) (x : Vec I S1x2048x512 .f32)
    (y : S2048x512.Idx) :
    a.view.readCov [(⟨Rect.unit ![0, 0] ![2048, 512] inb_S2048x512_S2048x512_0_0, k0_pay5 (View.readAt (Elt I) b.view
      (Rect.unit ![0, 0, 0] ![1, 2048, 512] inb_S1x2048x512_S1x2048x512_0_0_0).toLoadRect (hb.unread x))⟩ : View.Piece (Elt I) S2048x512 .bf16)]
      (Rect.unit (s := S2048x512) ![0, 0] ![2048, 512] inb_S2048x512_S2048x512_0_0).toLoadRect y = wcols x y := by
  rw [View.readCov_cons_toLoadRect]
  unfold k0_pay5 wcols
  pointwise
  rw [Memref.IsWhole.readAt_unread]
  refine congrArg x ?_
  funext a
  fin_cases a
  · rfl
  · exact Fin.ext (by show 0 + 1 * (y 0).val = (y 0).val; omega)
  · exact Fin.ext (by show 0 + 1 * (y 1).val = (y 1).val; omega)

/-- A load of the whole block of rows. -/
theorem ldH {a : Memref sig .tc .vmem S64x2048 .bf16} (ha : a.IsWhole) (x : Vec I S64x2048 .bf16)
    {inb : ∀ a : Fin 2, (![0, 0] : Fin 2 → ℕ) a + (![64, 2048] : Fin 2 → ℕ) a ≤ S64x2048.size a} (y : S64x2048.Idx) :
    View.readAt (Elt I) a.view (Rect.unit (s := S64x2048) ![0, 0] ![64, 2048] inb).toLoadRect (ha.unread x) y = x y := by
  rw [Memref.IsWhole.readAt_unread]
  refine congrArg x ?_
  funext a
  fin_cases a
  · exact Fin.ext (by show 0 + 1 * (y 0).val = (y 0).val; omega)
  · exact Fin.ext (by show 0 + 1 * (y 1).val = (y 1).val; omega)

/-- A load of a whole block of state rows. -/
theorem ldT {a : Memref sig .tc .vmem S64x512 .f32} (ha : a.IsWhole) (x : Vec I S64x512 .f32)
    {inb : ∀ a : Fin 2, (![0, 0] : Fin 2 → ℕ) a + (![64, 512] : Fin 2 → ℕ) a ≤ S64x512.size a} (y : S64x512.Idx) :
    View.readAt (Elt I) a.view (Rect.unit (s := S64x512) ![0, 0] ![64, 512] inb).toLoadRect (ha.unread x) y = x y := by
  rw [Memref.IsWhole.readAt_unread]
  refine congrArg x ?_
  funext a
  fin_cases a
  · exact Fin.ext (by show 0 + 1 * (y 0).val = (y 0).val; omega)
  · exact Fin.ext (by show 0 + 1 * (y 1).val = (y 1).val; omega)

/-! ## The body at an index -/

/-- The row's place in its sequence of eight rows. -/
theorem pay10_at (y : S64x1.Idx) : k0_pay10 y = BitVec.ofNat 32 ((y 0).val % 8) := by
  revert y
  decide +kernel

/-- Whether a place in a sequence is a given small one. -/
theorem place (r : Fin 8) : Scalar.cmpi .eq (BitVec.ofNat 32 r.val) 0#32 = (if r.val = 0 then 1#1 else 0#1) ∧
    Scalar.cmpi .eq (BitVec.ofNat 32 r.val) 1#32 = (if r.val = 1 then 1#1 else 0#1) := by
  revert r
  decide

/-- The convolution down the rows of a sequence, continued above its first row by the two rows of its state. -/
def conv (x : Vec I S64x2048 .bf16) (w : Vec I S2048x512 .bf16) (cw : Vec I S1x3x512 .f32) (cb : Vec I S1x1x512 .f32)
    (s0 s1 : Vec I S64x512 .f32) (y : S64x512.Idx) : EReal :=
  have hy : (y 0).val < 64 := (y 0).isLt
  ((if (y 0).val % 8 = 0 then s0 y else if (y 0).val % 8 = 1 then s1 y else ab x w (ix2 ⟨6 + (y 0).val, by omega⟩ (y 1))) : EReal) * cw (ix3 0 0 (y 1)) +
  ((if (y 0).val % 8 = 0 then s1 y else ab x w (ix2 ⟨7 + (y 0).val, by omega⟩ (y 1))) : EReal) * cw (ix3 0 1 (y 1)) +
  (∑ k : Fin 2048, x (ix2 (y 0) k) * w (ix2 k (y 1)) : EReal) * cw (ix3 0 2 (y 1)) + cb (ix3 0 0 (y 1))

/-- The hidden tile of a point: the unit of the convolution times the product with the second weight columns. -/
def hidT (x : Vec I S64x2048 .bf16) (w v : Vec I S2048x512 .bf16) (cw : Vec I S1x3x512 .f32) (cb : Vec I S1x1x512 .f32)
    (s0 s1 : Vec I S64x512 .f32) : Vec I S64x512 .bf16 := fun y =>
  (gel (conv x w cw cb s0 s1 y) * (∑ k : Fin 2048, x (ix2 (y 0) k) * v (ix2 k (y 1)) : EReal) : EReal)

/-- The product tile of a point. -/
def prdT (x : Vec I S64x2048 .bf16) (w : Vec I S2048x512 .bf16) : Vec I S1x64x512 .f32 := fun y =>
  (∑ k : Fin 2048, x (ix2 (y 1) k) * w (ix2 k (y 2)) : EReal)

/-- The body's convolution at an index. -/
theorem pay11_at (x : Vec I S64x2048 .bf16) (w : Vec I S2048x512 .bf16) (cw : Vec I S1x3x512 .f32) (cbv : Vec I S1x1x512 .f32)
    (s0 s1 : Vec I S64x512 .f32) {h : Vec I S64x2048 .bf16} {W : Vec I S2048x512 .bf16} {a1 a2 t0 t1 t2 : Vec I S64x512 .f32}
    {c0 c1 c2 cb : Vec I S1x1x512 .f32} (hh : ∀ y, h y = x y) (hW : ∀ y, W y = w y)
    (h1 : ∀ y : S64x512.Idx, a1 y = ab x w (ix2 ⟨7 + (y 0).val, by have : (y 0).val < 64 := (y 0).isLt; omega⟩ (y 1)))
    (h2 : ∀ y : S64x512.Idx, a2 y = ab x w (ix2 ⟨6 + (y 0).val, by have : (y 0).val < 64 := (y 0).isLt; omega⟩ (y 1)))
    (f1 : ∀ y, t1 y = s1 y) (f0 : ∀ y, t0 y = s0 y) (f2 : ∀ y, t2 y = s1 y)
    (e0 : ∀ y : S1x1x512.Idx, c0 y = cw (ix3 0 0 (y 2))) (e1 : ∀ y : S1x1x512.Idx, c1 y = cw (ix3 0 1 (y 2)))
    (e2 : ∀ y : S1x1x512.Idx, c2 y = cw (ix3 0 2 (y 2))) (eb : ∀ y : S1x1x512.Idx, cb y = cbv (ix3 0 0 (y 2)))
    (j : S64x512.Idx) :
    k0_pay11 (k0_pay7 h W) a1 a2 k0_pay10 0#32 t1 t0 t2 c0 c1 c2 cb j = conv x w cw cbv s0 s1 j := by
  have hj : (j 0).val < 64 := (j 0).isLt
  obtain rfl : h = x := funext hh
  obtain rfl : W = w := funext hW
  obtain rfl : t1 = s1 := funext f1
  obtain rfl : t0 = s0 := funext f0
  obtain rfl : t2 = t1 := funext f2
  have p := place ⟨(j 0).val % 8, Nat.mod_lt _ (by omega)⟩
  have q := pay10_at (ix2 (j 0) 0)
  unfold k0_pay11 k0_pay7
  pointwise
  unfold conv
  simp only [h1, h2, e0, e1, e2, eb]
  have q' : k0_pay10 (ix2 (j 0) 0) = BitVec.ofNat 32 ((j 0).val % 8) := q
  have p0 : IntOp.cmpi .eq (BitVec.ofNat 32 ((j 0).val % 8)) 0#32 = (if (j 0).val % 8 = 0 then 1#1 else 0#1) := p.1
  have p1 : IntOp.cmpi .eq (BitVec.ofNat 32 ((j 0).val % 8)) 1#32 = (if (j 0).val % 8 = 1 then 1#1 else 0#1) := p.2
  rw [q', p0, p1]
  by_cases z0 : (j 0).val % 8 = 0
  · simp only [if_pos z0]
    rfl
  · by_cases z1 : (j 0).val % 8 = 1
    · simp only [if_neg z0, if_pos z1]
      rfl
    · simp only [if_neg z0, if_neg z1]
      rfl

/-- The body's hidden tile at an index. -/
theorem hid_at (x : Vec I S64x2048 .bf16) (w v : Vec I S2048x512 .bf16) (cw : Vec I S1x3x512 .f32) (cbv : Vec I S1x1x512 .f32)
    (s0 s1 : Vec I S64x512 .f32) {h : Vec I S64x2048 .bf16} {W V : Vec I S2048x512 .bf16} {a1 a2 t0 t1 t2 : Vec I S64x512 .f32}
    {c0 c1 c2 cb : Vec I S1x1x512 .f32} (hh : ∀ y, h y = x y) (hW : ∀ y, W y = w y) (hV : ∀ y, V y = v y)
    (h1 : ∀ y : S64x512.Idx, a1 y = ab x w (ix2 ⟨7 + (y 0).val, by have : (y 0).val < 64 := (y 0).isLt; omega⟩ (y 1)))
    (h2 : ∀ y : S64x512.Idx, a2 y = ab x w (ix2 ⟨6 + (y 0).val, by have : (y 0).val < 64 := (y 0).isLt; omega⟩ (y 1)))
    (f1 : ∀ y, t1 y = s1 y) (f0 : ∀ y, t0 y = s0 y) (f2 : ∀ y, t2 y = s1 y)
    (e0 : ∀ y : S1x1x512.Idx, c0 y = cw (ix3 0 0 (y 2))) (e1 : ∀ y : S1x1x512.Idx, c1 y = cw (ix3 0 1 (y 2)))
    (e2 : ∀ y : S1x1x512.Idx, c2 y = cw (ix3 0 2 (y 2))) (eb : ∀ y : S1x1x512.Idx, cb y = cbv (ix3 0 0 (y 2)))
    (j : (Rect.unit (s := S64x512) ![0, 0] ![64, 512] inb_S64x512_S64x512_0_0).shape.Idx) :
    k0_pay1 (k0_pay8 h V) (k0_pay11 (k0_pay7 h W) a1 a2 k0_pay10 0#32 t1 t0 t2 c0 c1 c2 cb)
      (k0_pay12 (k0_pay7 h W) a1 a2 k0_pay10 0#32 t1 t0 t2 c0 c1 c2 cb) j =
      hidT x w v cw cbv s0 s1 ((Rect.unit (s := S64x512) ![0, 0] ![64, 512] inb_S64x512_S64x512_0_0).emb j) := by
  have hu := pay11_at x w cw cbv s0 s1 hh hW h1 h2 f1 f0 f2 e0 e1 e2 eb
  unfold k0_pay12
  revert hu
  generalize k0_pay11 (k0_pay7 h W) a1 a2 k0_pay10 0#32 t1 t0 t2 c0 c1 c2 cb = u
  intro hu
  obtain rfl : h = x := funext hh
  obtain rfl : V = v := funext hV
  have j0 : ((Rect.unit (s := S64x512) ![0, 0] ![64, 512] inb_S64x512_S64x512_0_0).emb j) = (j : S64x512.Idx) := by
    funext a
    fin_cases a
    · exact Fin.ext (by show 0 + 1 * (j 0).val = (j 0).val; omega)
    · exact Fin.ext (by show 0 + 1 * (j 1).val = (j 1).val; omega)
  rw [j0]
  unfold k0_pay1 k0_pay8
  pointwise
  unfold hidT gel
  simp only [hu]

/-- Every point leaves its hidden tile. -/
theorem hid_A (c : Dev nD) (i : grid0.Coords) (arg2 : Memref sig .tc .vmem S64x2048 .bf16) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x3x512 .f32) (harg5 : arg5.IsWhole) (arg6 : Memref sig .tc .vmem S1x1x512 .f32) (harg6 : arg6.IsWhole) (arg7 : Memref sig .tc .vmem S64x512 .f32) (harg7 : arg7.IsWhole) (arg8 : Memref sig .tc .vmem S64x512 .f32) (harg8 : arg8.IsWhole) (arg9 : Memref sig .tc .vmem S64x512 .bf16) (harg9 : arg9.IsWhole) (arg10 : Memref sig .tc .vmem S1x64x512 .f32) (harg10 : arg10.IsWhole) (arg11 : Memref sig .tc .vmem S2048x512 .bf16) (harg11 : arg11.IsWhole) (arg12 : Memref sig .tc .vmem S2048x512 .bf16) (harg12 : arg12.IsWhole) (arg13 : Memref sig .tc .vmem S72x512 .f32) (harg13 : arg13.IsWhole) (hc0 : cond0_0 i) (hc1 : cond0_1 i)
    (x0 : Vec I S64x2048 .bf16) (x1 : Vec I S1x2048x512 .f32) (x2 : Vec I S1x2048x512 .f32) (x3 : Vec I S1x3x512 .f32) (x4 : Vec I S1x1x512 .f32) (x5 : Vec I S64x512 .f32) (x6 : Vec I S64x512 .f32) :
    out0_A_7 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 = hidT x0 (wcols x1) (wcols x2) x3 x4 x5 x6 := by
  funext y
  unfold out0_A_7
  refine View.read_writes_apply_of_pieces _ _ (hidT x0 (wcols x1) (wcols x2) x3 x4 x5 x6) _ ?_ y (cover0_A_7 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 y)
  unfold kernelRun0_A
  dsimp only
  sl_unfold_words
  simp only [List.forall_mem_cons]
  refine ⟨?_, by simp⟩
  intro j
  refine hid_at x0 (wcols x1) (wcols x2) x3 x4 x5 x6 (ldH harg2 x0) (ldWa arg11 harg3 x1) (ldWb arg12 harg4 x2) ?_ ?_
    (ldT harg8 x6) (ldT harg7 x5) (ldT harg8 x6)
    (fun y => ldC harg5 x3 (by omega) y) (fun y => ldC harg5 x3 (by omega) y) (fun y => ldC harg5 x3 (by omega) y) (fun y => ldB harg6 x4 y) j
  · intro y
    refine rd _ (ab x0 (wcols x1)) (by omega) _ ?_ ?_ y
    · simp only [List.forall_mem_cons]
      exact ⟨fun j => st0 x0 (wcols x1) (ldH harg2 x0) (ldWa arg11 harg3 x1) j, fun j => pz x0 (wcols x1) j, by simp⟩
    · intro r c h1 h2
      simp only [List.mem_cons, List.not_mem_nil, or_false, exists_eq_or_imp, exists_eq_left, mem_rows]
      omega
  · intro y
    refine rd _ (ab x0 (wcols x1)) (by omega) _ ?_ ?_ y
    · simp only [List.forall_mem_cons]
      exact ⟨fun j => st0 x0 (wcols x1) (ldH harg2 x0) (ldWa arg11 harg3 x1) j, fun j => pz x0 (wcols x1) j, by simp⟩
    · intro r c h1 h2
      simp only [List.mem_cons, List.not_mem_nil, or_false, exists_eq_or_imp, exists_eq_left, mem_rows]
      omega

/-- The product tile from rows of the buffer. -/
theorem prd_at (x : Vec I S64x2048 .bf16) (w : Vec I S2048x512 .bf16) {a : Vec I S64x512 .f32}
    (ha : ∀ y : S64x512.Idx, a y = ab x w (ix2 ⟨8 + (y 0).val, by have : (y 0).val < 64 := (y 0).isLt; omega⟩ (y 1)))
    (j : (Rect.unit (s := S1x64x512) ![0, 0, 0] ![1, 64, 512] inb_S1x64x512_S1x64x512_0_0_0).shape.Idx) :
    k0_pay2 a j = prdT x w ((Rect.unit (s := S1x64x512) ![0, 0, 0] ![1, 64, 512] inb_S1x64x512_S1x64x512_0_0_0).emb j) := by
  have j0 : ((Rect.unit (s := S1x64x512) ![0, 0, 0] ![1, 64, 512] inb_S1x64x512_S1x64x512_0_0_0).emb j) = (j : S1x64x512.Idx) := by
    funext a
    fin_cases a
    · exact Fin.ext (by show 0 + 1 * (j 0).val = (j 0).val; omega)
    · exact Fin.ext (by show 0 + 1 * (j 1).val = (j 1).val; omega)
    · exact Fin.ext (by show 0 + 1 * (j 2).val = (j 2).val; omega)
  rw [j0]
  unfold k0_pay2
  pointwise
  rw [ha]
  unfold ab prdT
  rw [dif_pos (by show 8 ≤ 8 + _; omega)]
  refine Finset.sum_congr rfl fun k _ => congrArg₂ _ (congrArg x ?_) rfl
  funext a
  fin_cases a
  · exact Fin.ext (by show 8 + (j 1).val - 8 = (j 1).val; omega)
  · rfl

/-- Every point leaves its product tile. -/
theorem prd_A (c : Dev nD) (i : grid0.Coords) (arg2 : Memref sig .tc .vmem S64x2048 .bf16) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x3x512 .f32) (harg5 : arg5.IsWhole) (arg6 : Memref sig .tc .vmem S1x1x512 .f32) (harg6 : arg6.IsWhole) (arg7 : Memref sig .tc .vmem S64x512 .f32) (harg7 : arg7.IsWhole) (arg8 : Memref sig .tc .vmem S64x512 .f32) (harg8 : arg8.IsWhole) (arg9 : Memref sig .tc .vmem S64x512 .bf16) (harg9 : arg9.IsWhole) (arg10 : Memref sig .tc .vmem S1x64x512 .f32) (harg10 : arg10.IsWhole) (arg11 : Memref sig .tc .vmem S2048x512 .bf16) (harg11 : arg11.IsWhole) (arg12 : Memref sig .tc .vmem S2048x512 .bf16) (harg12 : arg12.IsWhole) (arg13 : Memref sig .tc .vmem S72x512 .f32) (harg13 : arg13.IsWhole) (hc0 : cond0_0 i) (hc1 : cond0_1 i)
    (x0 : Vec I S64x2048 .bf16) (x1 : Vec I S1x2048x512 .f32) (x2 : Vec I S1x2048x512 .f32) (x3 : Vec I S1x3x512 .f32) (x4 : Vec I S1x1x512 .f32) (x5 : Vec I S64x512 .f32) (x6 : Vec I S64x512 .f32) :
    out0_A_8 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 = prdT x0 (wcols x1) := by
  funext y
  unfold out0_A_8
  refine View.read_writes_apply_of_pieces _ _ (prdT x0 (wcols x1)) _ ?_ y (cover0_A_8 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 y)
  unfold kernelRun0_A
  dsimp only
  sl_unfold_words
  simp only [List.forall_mem_cons]
  refine ⟨?_, by simp⟩
  intro j
  refine prd_at x0 (wcols x1) ?_ j
  intro y
  refine rd _ (ab x0 (wcols x1)) (by omega) _ ?_ ?_ y
  · simp only [List.forall_mem_cons]
    exact ⟨fun j => st0 x0 (wcols x1) (ldH harg2 x0) (ldWa arg11 harg3 x1) j, fun j => pz x0 (wcols x1) j, by simp⟩
  · intro r c h1 h2
    simp only [List.mem_cons, List.not_mem_nil, or_false, exists_eq_or_imp, exists_eq_left, mem_rows]
    omega

/-! ## The blocks the points read, at coordinates -/

theorem idx0 : ∀ t : Fin cfg0.N, win0_0.index t = ![0, 0] := by decide +kernel
theorem idx1 : ∀ t : Fin cfg0.N, win0_1.index t = ![0, 0, t.val] := by decide +kernel
theorem idx2 : ∀ t : Fin cfg0.N, win0_2.index t = ![0, 0, t.val] := by decide +kernel
theorem idx3 : ∀ t : Fin cfg0.N, win0_3.index t = ![0, 0, t.val] := by decide +kernel
theorem idx4 : ∀ t : Fin cfg0.N, win0_4.index t = ![0, 0, t.val] := by decide +kernel
theorem idx5 : ∀ t : Fin cfg0.N, win0_5.index t = ![0, t.val] := by decide +kernel
theorem idx6 : ∀ t : Fin cfg0.N, win0_6.index t = ![0, t.val] := by decide +kernel
theorem idx7 : ∀ t : Fin cfg0.N, win0_7.index t = ![0, t.val] := by decide +kernel
theorem idx8 : ∀ t : Fin cfg0.N, win0_8.index t = ![0, 0, t.val] := by decide +kernel

variable (m : (ℓ : Loc nD τ sig) → Buf (Elt I) ℓ) (ρ : Dev nD → PrngReg)

/-- At a point, the rows at an index. -/
theorem blk0 (c : Dev nD) (t : Fin cfg0.N) (y : S64x2048.Idx) :
    (iblk m c 0 t : Vec I S64x2048 .bf16) y = m ((c : Thread nD τ).loc main_arg0) y := by
  have y0 : (y 0).val < 64 := (y 0).isLt
  have y1 : (y 1).val < 2048 := (y 1).isLt
  blk_ext! [iblk, V, idx0 t]

/-- At a point, the first weight columns at an index. -/
theorem blk1 (c : Dev nD) (t : Fin cfg0.N) (y : S1x2048x512.Idx) (i : S2x2048x5632.Idx)
    (h0 : (i 0).val = 0) (h1 : (i 1).val = (y 1).val) (h2 : (i 2).val = 512 * t.val + (y 2).val) :
    (iblk m c 1 t : Vec I S1x2048x512 .f32) y = m ((c : Thread nD τ).loc main_arg1) i := by
  have y0 : (y 0).val < 1 := (y 0).isLt
  blk_ext! [iblk, V, idx1 t]

/-- At a point, the second weight columns at an index. -/
theorem blk2 (c : Dev nD) (t : Fin cfg0.N) (y : S1x2048x512.Idx) (i : S2x2048x5632.Idx)
    (h0 : (i 0).val = 0) (h1 : (i 1).val = (y 1).val) (h2 : (i 2).val = 512 * t.val + (y 2).val) :
    (iblk m c 2 t : Vec I S1x2048x512 .f32) y = m ((c : Thread nD τ).loc main_arg2) i := by
  have y0 : (y 0).val < 1 := (y 0).isLt
  blk_ext! [iblk, V, idx2 t]

/-- At a point, the convolution weights at an index. -/
theorem blk3 (c : Dev nD) (t : Fin cfg0.N) (y : S1x3x512.Idx) (i : S2x3x5632.Idx)
    (h0 : (i 0).val = 0) (h1 : (i 1).val = (y 1).val) (h2 : (i 2).val = 512 * t.val + (y 2).val) :
    (iblk m c 3 t : Vec I S1x3x512 .f32) y = m ((c : Thread nD τ).loc main_arg3) i := by
  have y0 : (y 0).val < 1 := (y 0).isLt
  blk_ext! [iblk, V, idx3 t]

/-- At a point, the convolution bias at an index. -/
theorem blk4 (c : Dev nD) (t : Fin cfg0.N) (y : S1x1x512.Idx) (i : S2x5632.Idx)
    (h0 : (i 0).val = 0) (h1 : (i 1).val = 512 * t.val + (y 2).val) :
    (iblk m c 4 t : Vec I S1x1x512 .f32) y = m ((c : Thread nD τ).loc main_arg4) i := by
  have y0 : (y 0).val < 1 := (y 0).isLt
  have y1 : (y 1).val < 1 := (y 1).isLt
  blk_ext! [iblk, V, idx4 t]

/-- At a point, the older state row of the row's sequence. -/
theorem blk5 (c : Dev nD) (t : Fin cfg0.N) (y : S64x512.Idx) (i : S8x2x5632.Idx)
    (h0 : (i 0).val = (y 0).val / 8) (h1 : (i 1).val = 0) (h2 : (i 2).val = 512 * t.val + (y 1).val) :
    (iblk m c 5 t : Vec I S64x512 .f32) y = m ((c : Thread nD τ).loc main_arg5) i := by
  have y0 : (y 0).val < 64 := (y 0).isLt
  blk_ext! [iblk, V, idx5 t]

/-- At a point, the newer state row of the row's sequence. -/
theorem blk6 (c : Dev nD) (t : Fin cfg0.N) (y : S64x512.Idx) (i : S8x2x5632.Idx)
    (h0 : (i 0).val = (y 0).val / 8) (h1 : (i 1).val = 1) (h2 : (i 2).val = 512 * t.val + (y 1).val) :
    (iblk m c 6 t : Vec I S64x512 .f32) y = m ((c : Thread nD τ).loc main_arg5) i := by
  have y0 : (y 0).val < 64 := (y 0).isLt
  blk_ext! [iblk, V, idx6 t]

/-! ## The arrays -/

/-- The product of the rows with the first layer's weights, at a row and a column. -/
def prd (h : Vec I S64x2048 .bf16) (w : Vec I S2x2048x5632 .f32) (r : Fin 64) (q : Fin 5632) : EReal :=
  ∑ k : Fin 2048, h (ix2 r k) * w (ix3 0 k q)

/-- A row of a sequence `d` rows up: the product there, or above the sequence's first row the state's row `s`. -/
def up (h : Vec I S64x2048 .bf16) (w : Vec I S2x2048x5632 .f32) (st : Vec I S8x2x5632 .f32) (d : ℕ) (r : Fin 64) (q : Fin 5632) : EReal :=
  have hr : r.val < 64 := r.isLt
  if d ≤ r.val % 8 then prd h w ⟨r.val - d, by omega⟩ q
  else st (ix3 ⟨r.val / 8, by omega⟩ ⟨(r.val % 8 + 2 - d) % 2, by omega⟩ q)

/-- The hidden array. -/
def hidden (h : Vec I S64x2048 .bf16) (wa wb : Vec I S2x2048x5632 .f32) (cw : Vec I S2x3x5632 .f32) (cb : Vec I S2x5632 .f32)
    (st : Vec I S8x2x5632 .f32) : Vec I S64x5632 .bf16 := fun i =>
  (gel (up h wa st 2 (i 0) (i 1) * cw (ix3 0 0 (i 1)) + up h wa st 1 (i 0) (i 1) * cw (ix3 0 1 (i 1)) +
    prd h wa (i 0) (i 1) * cw (ix3 0 2 (i 1)) + cb (ix2 0 (i 1))) * prd h wb (i 0) (i 1) : EReal)

/-- The product array. -/
def prods (h : Vec I S64x2048 .bf16) (wa : Vec I S2x2048x5632 .f32) : Vec I S1x64x5632 .f32 := fun i => prd h wa (i 1) (i 2)

/-- A row by column product of blocks. -/
def dotp (x : Vec I S64x2048 .bf16) (w : Vec I S2048x512 .bf16) (r : Fin 64) (q : Fin 512) : EReal :=
  ∑ k : Fin 2048, x (ix2 r k) * w (ix2 k q)

/-- A product of a point's block is the product at the point's column. -/
theorem sum1 (c : Dev nD) (t : Fin cfg0.N) (r : Fin 64) (q : Fin 512) (C : Fin 5632) (hC : C.val = 512 * t.val + q.val) :
    dotp (iblk m c 0 t) (wcols (iblk m c 1 t)) r q =
      prd (m ((c : Thread nD τ).loc main_arg0)) (m ((c : Thread nD τ).loc main_arg1)) r C := by
  unfold prd dotp
  refine Finset.sum_congr rfl fun k _ => ?_
  rw [blk0 m c t (ix2 r k)]
  refine congrArg _ ?_
  unfold wcols
  exact blk1 m c t (ix3 0 k q) (ix3 0 k C) rfl rfl hC

/-- The same of the second weights. -/
theorem sum2 (c : Dev nD) (t : Fin cfg0.N) (r : Fin 64) (q : Fin 512) (C : Fin 5632) (hC : C.val = 512 * t.val + q.val) :
    dotp (iblk m c 0 t) (wcols (iblk m c 2 t)) r q =
      prd (m ((c : Thread nD τ).loc main_arg0)) (m ((c : Thread nD τ).loc main_arg2)) r C := by
  unfold prd dotp
  refine Finset.sum_congr rfl fun k _ => ?_
  rw [blk0 m c t (ix2 r k)]
  refine congrArg _ ?_
  unfold wcols
  exact blk2 m c t (ix3 0 k q) (ix3 0 k C) rfl rfl hC

/-- A row of the buffer at or below the eighth is a product. -/
theorem ab_prd (c : Dev nD) (t : Fin cfg0.N) (p : Fin 72) (q : Fin 512) (R : Fin 64) (C : Fin 5632) (hp : p.val = 8 + R.val)
    (hC : C.val = 512 * t.val + q.val) :
    (ab (iblk m c 0 t) (wcols (iblk m c 1 t)) (ix2 p q) : EReal) =
      prd (m ((c : Thread nD τ).loc main_arg0)) (m ((c : Thread nD τ).loc main_arg1)) R C := by
  unfold ab
  rw [dif_pos (by show 8 ≤ p.val; omega)]
  have e : ∀ h : p.val - 8 < 64, (⟨p.val - 8, h⟩ : Fin 64) = R := fun h => Fin.ext (by show p.val - 8 = R.val; omega)
  refine Eq.trans ?_ (sum1 m c t R q C hC)
  exact congrArg (fun r => dotp (iblk m c 0 t) (wcols (iblk m c 1 t)) r q) (e _)

/-- The convolution of a point at the array's coordinates. -/
theorem conv_eq (c : Dev nD) (t : Fin cfg0.N) (z : S64x512.Idx) (R : Fin 64) (C : Fin 5632) (hR : R.val = (z 0).val)
    (hC : C.val = 512 * t.val + (z 1).val) :
    conv (iblk m c 0 t) (wcols (iblk m c 1 t)) (iblk m c 3 t) (iblk m c 4 t) (iblk m c 5 t) (iblk m c 6 t) z =
      up (m ((c : Thread nD τ).loc main_arg0)) (m ((c : Thread nD τ).loc main_arg1)) (m ((c : Thread nD τ).loc main_arg5)) 2 R C *
        m ((c : Thread nD τ).loc main_arg3) (ix3 0 0 C) +
      up (m ((c : Thread nD τ).loc main_arg0)) (m ((c : Thread nD τ).loc main_arg1)) (m ((c : Thread nD τ).loc main_arg5)) 1 R C *
        m ((c : Thread nD τ).loc main_arg3) (ix3 0 1 C) +
      prd (m ((c : Thread nD τ).loc main_arg0)) (m ((c : Thread nD τ).loc main_arg1)) R C *
        m ((c : Thread nD τ).loc main_arg3) (ix3 0 2 C) + m ((c : Thread nD τ).loc main_arg4) (ix2 0 C) := by
  have hz : (z 0).val < 64 := (z 0).isLt
  have hRl : R.val < 64 := R.isLt
  unfold conv
  have b3 : ∀ k : Fin 3, (iblk m c 3 t : Vec I S1x3x512 .f32) (ix3 0 k (z 1)) = m ((c : Thread nD τ).loc main_arg3) (ix3 0 k C) :=
    fun k => blk3 m c t (ix3 0 k (z 1)) (ix3 0 k C) rfl rfl hC
  have b4 : (iblk m c 4 t : Vec I S1x1x512 .f32) (ix3 0 0 (z 1)) = m ((c : Thread nD τ).loc main_arg4) (ix2 0 C) :=
    blk4 m c t (ix3 0 0 (z 1)) (ix2 0 C) rfl hC
  have b0 : dotp (iblk m c 0 t) (wcols (iblk m c 1 t)) (z 0) (z 1) =
      prd (m ((c : Thread nD τ).loc main_arg0)) (m ((c : Thread nD τ).loc main_arg1)) R C := by
    have e : R = z 0 := Fin.ext hR
    rw [e]
    exact sum1 m c t (z 0) (z 1) C hC
  have u1 : ((if (z 0).val % 8 = 0 then (iblk m c 6 t : Vec I S64x512 .f32) z
      else ab (iblk m c 0 t) (wcols (iblk m c 1 t)) (ix2 ⟨7 + (z 0).val, by omega⟩ (z 1))) : EReal) =
      up (m ((c : Thread nD τ).loc main_arg0)) (m ((c : Thread nD τ).loc main_arg1)) (m ((c : Thread nD τ).loc main_arg5)) 1 R C := by
    unfold up
    by_cases h : (z 0).val % 8 = 0
    · rw [if_pos h, if_neg (by omega)]
      exact blk6 m c t z (ix3 _ _ C) (by show R.val / 8 = (z 0).val / 8; omega) (by show (R.val % 8 + 2 - 1) % 2 = 1; omega) hC
    · rw [if_neg h, if_pos (by omega)]
      exact ab_prd m c t _ (z 1) _ C (by show 7 + (z 0).val = 8 + (R.val - 1); omega) hC
  have u2 : ((if (z 0).val % 8 = 0 then (iblk m c 5 t : Vec I S64x512 .f32) z
      else if (z 0).val % 8 = 1 then (iblk m c 6 t : Vec I S64x512 .f32) z
      else ab (iblk m c 0 t) (wcols (iblk m c 1 t)) (ix2 ⟨6 + (z 0).val, by omega⟩ (z 1))) : EReal) =
      up (m ((c : Thread nD τ).loc main_arg0)) (m ((c : Thread nD τ).loc main_arg1)) (m ((c : Thread nD τ).loc main_arg5)) 2 R C := by
    unfold up
    by_cases h : (z 0).val % 8 = 0
    · rw [if_pos h, if_neg (by omega)]
      exact blk5 m c t z (ix3 _ _ C) (by show R.val / 8 = (z 0).val / 8; omega) (by show (R.val % 8 + 2 - 2) % 2 = 0; omega) hC
    · by_cases h1 : (z 0).val % 8 = 1
      · rw [if_neg h, if_pos h1, if_neg (by omega)]
        exact blk6 m c t z (ix3 _ _ C) (by show R.val / 8 = (z 0).val / 8; omega) (by show (R.val % 8 + 2 - 2) % 2 = 1; omega) hC
      · rw [if_neg h, if_neg h1, if_pos (by omega)]
        exact ab_prd m c t _ (z 1) _ C (by show 6 + (z 0).val = 8 + (R.val - 2); omega) hC
  exact congrArg₂ (· + ·) (congrArg₂ (· + ·) (congrArg₂ (· + ·) (congrArg₂ (· * ·) u2 (b3 0)) (congrArg₂ (· * ·) u1 (b3 1)))
    (congrArg₂ (· * ·) b0 (b3 2))) b4

/-- What the hidden array holds, of the arguments of the core. -/
def G7 (c : Dev nD) : Buf (Elt I) ((c : Thread nD τ).loc main_v9_0) := hidden (m ((c : Thread nD τ).loc main_arg0))
  (m ((c : Thread nD τ).loc main_arg1)) (m ((c : Thread nD τ).loc main_arg2)) (m ((c : Thread nD τ).loc main_arg3))
  (m ((c : Thread nD τ).loc main_arg4)) (m ((c : Thread nD τ).loc main_arg5))

/-- What the product array holds, of the arguments of the core. -/
def G8 (c : Dev nD) : Buf (Elt I) ((c : Thread nD τ).loc main_v9_1) := prods (m ((c : Thread nD τ).loc main_arg0))
  (m ((c : Thread nD τ).loc main_arg1))

/-- What a point writes back to the hidden array is its block of `G7`. -/
theorem flushed7_eq (c : Dev nD) (t : Fin cfg0.N) :
    (dats m 0 c).flushed 7 t = ((cfg0.win 7).blk t).view.read (Elt I) (G7 m c) := by
  rw [flushed7_A, hid_A]
  funext y
  have hN : cfg0.N = 11 := N_0
  have ht := t.isLt
  have hy0 : (y 0).val < 64 := (y 0).isLt
  have hy1 : (y 1).val < 512 := (y 1).isLt
  have hb0 : (((cfg0.win 7).blk t).view.emb y 0).val = win0_7.index t (0 : Fin 2) * 64 + 1 * (y 0).val := rfl
  have hb1 : (((cfg0.win 7).blk t).view.emb y 1).val = win0_7.index t (1 : Fin 2) * 512 + 1 * (y 1).val := rfl
  have e0 : (((cfg0.win 7).blk t).view.emb y 0).val = (y 0).val := by
    rw [hb0, show win0_7.index t (0 : Fin 2) = 0 from congrFun (idx7 t) 0]; omega
  have e1 : (((cfg0.win 7).blk t).view.emb y 1).val = 512 * t.val + (y 1).val := by
    rw [hb1, show win0_7.index t (1 : Fin 2) = t.val from congrFun (idx7 t) 1]; omega
  generalize hj : (((cfg0.win 7).blk t).view.emb y : S64x5632.Idx) = j at e0 e1
  show hidT (iblk m c 0 t) (wcols (iblk m c 1 t)) (wcols (iblk m c 2 t)) (iblk m c 3 t) (iblk m c 4 t) (iblk m c 5 t) (iblk m c 6 t)
    ((cfg0.win 7).xinj (grid0.coords t) y) = G7 m c (((cfg0.win 7).blk t).view.emb y)
  rw [hj]
  generalize hz : ((cfg0.win 7).xinj (grid0.coords t) y : S64x512.Idx) = z
  have z0 : (z 0).val = (y 0).val := by rw [← hz]
  have z1 : (z 1).val = (y 1).val := by rw [← hz]
  unfold hidT G7 hidden
  have ez : (z 0 : Fin 64) = (j 0 : Fin 64) := Fin.ext (by omega)
  refine congrArg₂ (· * ·) (congrArg gel (conv_eq m c t z (j 0) (j 1) (by omega) (by omega))) ?_
  refine (sum2 m c t (z 0) (z 1) (j 1) (by omega)).trans ?_
  exact congrArg (fun r => prd (m ((c : Thread nD τ).loc main_arg0)) (m ((c : Thread nD τ).loc main_arg2)) r (j 1)) ez

/-- What a point writes back to the product array is its block of `G8`. -/
theorem flushed8_eq (c : Dev nD) (t : Fin cfg0.N) :
    (dats m 0 c).flushed 8 t = ((cfg0.win 8).blk t).view.read (Elt I) (G8 m c) := by
  rw [flushed8_A, prd_A]
  funext y
  have hN : cfg0.N = 11 := N_0
  have ht := t.isLt
  have hy1 : (y 1).val < 64 := (y 1).isLt
  have hy2 : (y 2).val < 512 := (y 2).isLt
  have hb1 : (((cfg0.win 8).blk t).view.emb y 1).val = win0_8.index t (1 : Fin 3) * 64 + 1 * (y 1).val := rfl
  have hb2 : (((cfg0.win 8).blk t).view.emb y 2).val = win0_8.index t (2 : Fin 3) * 512 + 1 * (y 2).val := rfl
  have e1 : (((cfg0.win 8).blk t).view.emb y 1).val = (y 1).val := by
    rw [hb1, show win0_8.index t (1 : Fin 3) = 0 from congrFun (idx8 t) 1]; omega
  have e2 : (((cfg0.win 8).blk t).view.emb y 2).val = 512 * t.val + (y 2).val := by
    rw [hb2, show win0_8.index t (2 : Fin 3) = t.val from congrFun (idx8 t) 2]; omega
  generalize hj : (((cfg0.win 8).blk t).view.emb y : S1x64x5632.Idx) = j at e1 e2
  show prdT (iblk m c 0 t) (wcols (iblk m c 1 t)) ((cfg0.win 8).xinj (grid0.coords t) y) = G8 m c (((cfg0.win 8).blk t).view.emb y)
  rw [hj]
  generalize hz : ((cfg0.win 8).xinj (grid0.coords t) y : S1x64x512.Idx) = z
  have z1 : (z 1).val = (y 1).val := by rw [← hz]
  have z2 : (z 2).val = (y 2).val := by rw [← hz]
  unfold prdT G8 prods
  have ez : (z 1 : Fin 64) = (j 1 : Fin 64) := Fin.ext (by omega)
  refine (sum1 m c t (z 1) (z 2) (j 2) (by omega)).trans ?_
  exact congrArg (fun r => prd (m ((c : Thread nD τ).loc main_arg0)) (m ((c : Thread nD τ).loc main_arg1)) r (j 2)) ez

/-- The indices of a hidden block. -/
theorem mem_blk7 (t : Fin cfg0.N) (i : S64x5632.Idx) :
    i ∈ ((cfg0.win 7).blk t).view.set ↔ ∀ a : Fin 2, win0_7.index t a * S64x512.size a ≤ (i a).val ∧ (i a).val < win0_7.index t a * S64x512.size a + S64x512.size a := by
  show i ∈ ((View.whole main_v9_0).slice (win0_7.rect t)).set ↔ _
  rw [View.set_slice_whole, Rect.mem_set_unit]
  exact Iff.rfl

/-- The indices of a product block. -/
theorem mem_blk8 (t : Fin cfg0.N) (i : S1x64x5632.Idx) :
    i ∈ ((cfg0.win 8).blk t).view.set ↔ ∀ a : Fin 3, win0_8.index t a * S1x64x512.size a ≤ (i a).val ∧ (i a).val < win0_8.index t a * S1x64x512.size a + S1x64x512.size a := by
  show i ∈ ((View.whole main_v9_1).slice (win0_8.rect t)).set ↔ _
  rw [View.set_slice_whole, Rect.mem_set_unit]
  exact Iff.rfl

theorem flush7 : ∀ t : Fin cfg0.N, (cfg0.win 7).flush t = true := by decide +kernel
theorem flush8 : ∀ t : Fin cfg0.N, (cfg0.win 8).flush t = true := by decide +kernel

/-- Every index of the hidden array is in the block of a point that writes back. -/
theorem covered7 (i : S64x5632.Idx) : ∃ t : Fin cfg0.N, (cfg0.win 7).flush t = true ∧ i ∈ ((cfg0.win 7).blk t).view.set := by
  have h0 : (i 0).val < 64 := (i 0).isLt
  have h1 : (i 1).val < 5632 := (i 1).isLt
  have hN : cfg0.N = 11 := N_0
  have ht : (i 1).val / 512 < cfg0.N := by omega
  refine ⟨⟨(i 1).val / 512, ht⟩, flush7 _, ?_⟩
  rw [mem_blk7]
  have q := idx7 ⟨(i 1).val / 512, ht⟩
  have q0 : win0_7.index ⟨(i 1).val / 512, ht⟩ (0 : Fin 2) = 0 := congrFun q 0
  have q1 : win0_7.index ⟨(i 1).val / 512, ht⟩ (1 : Fin 2) = (i 1).val / 512 := congrFun q 1
  intro a
  match a with
  | ⟨0, _⟩ => show win0_7.index _ (0 : Fin 2) * 64 ≤ (i 0).val ∧ (i 0).val < win0_7.index _ (0 : Fin 2) * 64 + 64; omega
  | ⟨1, _⟩ => show win0_7.index _ (1 : Fin 2) * 512 ≤ (i 1).val ∧ (i 1).val < win0_7.index _ (1 : Fin 2) * 512 + 512; omega

/-- Every index of the product array is in the block of a point that writes back. -/
theorem covered8 (i : S1x64x5632.Idx) : ∃ t : Fin cfg0.N, (cfg0.win 8).flush t = true ∧ i ∈ ((cfg0.win 8).blk t).view.set := by
  have h0 : (i 0).val < 1 := (i 0).isLt
  have h1 : (i 1).val < 64 := (i 1).isLt
  have h2 : (i 2).val < 5632 := (i 2).isLt
  have hN : cfg0.N = 11 := N_0
  have ht : (i 2).val / 512 < cfg0.N := by omega
  refine ⟨⟨(i 2).val / 512, ht⟩, flush8 _, ?_⟩
  rw [mem_blk8]
  have q := idx8 ⟨(i 2).val / 512, ht⟩
  have q0 : win0_8.index ⟨(i 2).val / 512, ht⟩ (0 : Fin 3) = 0 := congrFun q 0
  have q1 : win0_8.index ⟨(i 2).val / 512, ht⟩ (1 : Fin 3) = 0 := congrFun q 1
  have q2 : win0_8.index ⟨(i 2).val / 512, ht⟩ (2 : Fin 3) = (i 2).val / 512 := congrFun q 2
  intro a
  match a with
  | ⟨0, _⟩ => show win0_8.index _ (0 : Fin 3) * 1 ≤ (i 0).val ∧ (i 0).val < win0_8.index _ (0 : Fin 3) * 1 + 1; omega
  | ⟨1, _⟩ => show win0_8.index _ (1 : Fin 3) * 64 ≤ (i 1).val ∧ (i 1).val < win0_8.index _ (1 : Fin 3) * 64 + 64; omega
  | ⟨2, _⟩ => show win0_8.index _ (2 : Fin 3) * 512 ≤ (i 2).val ∧ (i 2).val < win0_8.index _ (2 : Fin 3) * 512 + 512; omega

/-- The run: the hidden array ends as `G7`, the product array as `G8`, and the arguments end unchanged. -/
theorem run : θ_run defs (onTc (τ := τ) (main (F := I))) ⟨m, fun _ => 0, ρ⟩ fun r => ∀ c : Dev nD,
      r.2.mem ((c : Thread nD τ).loc main_v9_0) = G7 m c
      ∧ r.2.mem ((c : Thread nD τ).loc main_v9_1) = G8 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans ((dats m 0 c).arrAt_eq_of_cover 7 _ (fun t _ => flushed7_eq m c t) (fun i => covered7 i)),
    (h c).2.1.trans ((dats m 0 c).arrAt_eq_of_cover 8 _ (fun t _ => flushed8_eq m c t) (fun i => covered8 i)), (h c).2.2⟩) (run_blocks m ρ)

end Cert.UpsampleIdeal.Value
-- ==== Proof.UpsampleTie.lean ====
module

public import proofs.«01_k».proof.Defs
public import proofs.«01_k».proof.Proof.UpsampleValue
public import proofs.«01_k».proof.Proof.Gen.RefUpsampleIdeal.Run
public import Idealize.ShloMosaic.Lib.Quiescent
public import Idealize.ShloMosaic.Lib.Tactic.ValueTie

@[expose] public section

set_option maxRecDepth 16384

noncomputable section

namespace Cert.Proof

open Idealize.ShloMosaic Idealize.SL.Sem Cert.UpsampleIdeal.Value

/-- The reference of the feed-forward up projection of the sample rows leaves its semaphores at zero and its arguments as they were. -/
theorem quiescent_RefUpsampleIdeal : quiescent_RefUpsampleIdeal := fun m ρ _ =>
  (θ_run Cert.RefUpsampleIdeal.defs _ _).mono (fun r h => ⟨fun c => (h c).2.2, sem_eq_zero_of_no_sems (by decide) r.2⟩)
    (Cert.RefUpsampleIdeal.Value.run (F := Ideal) m ρ)

/-- From equal arguments the feed-forward up projection kernel on the sample rows and its reference leave the same two arrays. -/
theorem algebraic_UpsampleIdeal_RefUpsampleIdeal : algebraic_UpsampleIdeal_RefUpsampleIdeal := by
  intro m ρ m' ρ' _ hagree
  refine ⟨_, _, Cert.UpsampleIdeal.Value.run m ρ, ?_⟩
  refine (θ_run Cert.RefUpsampleIdeal.defs _ _).mono (fun _ h c => ⟨?_, ?_, (h c).2.2⟩) (Cert.RefUpsampleIdeal.Value.run (F := Ideal) m' ρ')
  · rw [(h c).1]
    unfold Cert.RefUpsampleIdeal.Value.res_main_v51
    obtain ⟨a0, a1, a2, a3, a4, a5⟩ := hagree c
    unfold G7
    revert a0 a1 a2 a3 a4 a5
    generalize m' ((c.tc : Thread _ _).loc Cert.RefUpsampleIdeal.main_arg0) = u0
    generalize m' ((c.tc : Thread _ _).loc Cert.RefUpsampleIdeal.main_arg1) = u1
    generalize m' ((c.tc : Thread _ _).loc Cert.RefUpsampleIdeal.main_arg2) = u2
    generalize m' ((c.tc : Thread _ _).loc Cert.RefUpsampleIdeal.main_arg3) = u3
    generalize m' ((c.tc : Thread _ _).loc Cert.RefUpsampleIdeal.main_arg4) = u4
    generalize m' ((c.tc : Thread _ _).loc Cert.RefUpsampleIdeal.main_arg5) = u5
    intro a0 a1 a2 a3 a4 a5
    subst a0 a1 a2 a3 a4 a5
    refine funext fun i => ?_
    have hi : (i 0).val < 64 := (i 0).isLt
    unfold Cert.UpsampleIdeal.Value.hidden
    simp only [gel_comm]
    unfold up prd
    clean_types
    pointwise
    by_cases h2 : 2 ≤ (i 0).val % 8
    · have e2 : (i 0).val / 8 * 8 + ((i 0).val % 8 - 2) = (i 0).val - 2 := by omega
      have e1 : (i 0).val / 8 * 8 + (1 + (i 0).val % 8 - 2) = (i 0).val - 1 := by omega
      simp only [dif_neg (show ¬(i 0).val % 8 < 2 by omega), dif_neg (show ¬1 + (i 0).val % 8 < 2 by omega), if_pos h2,
        if_pos (show 1 ≤ (i 0).val % 8 by omega), e1, e2]
    · by_cases h1 : 1 ≤ (i 0).val % 8
      · have e1 : (i 0).val / 8 * 8 + (1 + (i 0).val % 8 - 2) = (i 0).val - 1 := by omega
        have e2 : ((i 0).val % 8 + 2 - 2) % 2 = (i 0).val % 8 := by omega
        simp only [dif_pos (show (i 0).val % 8 < 2 by omega), dif_neg (show ¬1 + (i 0).val % 8 < 2 by omega), if_neg h2,
          if_pos h1, e1, e2]
      · have e2 : ((i 0).val % 8 + 2 - 2) % 2 = (i 0).val % 8 := by omega
        have e1 : ((i 0).val % 8 + 2 - 1) % 2 = 1 + (i 0).val % 8 := by omega
        simp only [dif_pos (show (i 0).val % 8 < 2 by omega), dif_pos (show 1 + (i 0).val % 8 < 2 by omega), if_neg h2,
          if_neg h1, e1, e2]
  · rw [(h c).2.1]
    simp only [hagree c]
    refine funext fun i => ?_
    have h0 : (i 0).val < 1 := (i 0).isLt
    have h1 : (i 1).val < 64 := (i 1).isLt
    unfold G8 prods prd
    clean_types
    pointwise

end Cert.Proof

end
-- ==== Proof.lean ====
module

public import proofs.«01_k».proof.Defs
public import proofs.«01_k».proof.Proof.Gen.Branch.Frame
public import proofs.«01_k».proof.Proof.BranchTie
public import proofs.«01_k».proof.Proof.Gen.Outnorm.Frame
public import proofs.«01_k».proof.Proof.OutnormTie
public import proofs.«01_k».proof.Proof.Gen.Ffnup.Frame
public import proofs.«01_k».proof.Proof.FfnupTie
public import proofs.«01_k».proof.Proof.Gen.Ffndown.Frame
public import proofs.«01_k».proof.Proof.FfndownTie
public import proofs.«01_k».proof.Proof.Gen.Inproj
public import proofs.«01_k».proof.Proof.InprojTie
public import proofs.«01_k».proof.Proof.Gen.Downsample.Frame
public import proofs.«01_k».proof.Proof.DownsampleTie
public import proofs.«01_k».proof.Proof.Gen.Insample
public import proofs.«01_k».proof.Proof.InsampleTie
public import proofs.«01_k».proof.Proof.Gen.Upsample.Frame
public import proofs.«01_k».proof.Proof.UpsampleTie
public import Idealize.ShloMosaic.Adequacy
public import Idealize.ShloMosaic.Init

@[expose] public section

noncomputable section

namespace Cert.Proof

open Idealize.ShloMosaic Idealize.SL.Sem

/-- Every claim of the certificate: the frames of each kernel and its idealization, the references' frames, that idealizing
    preserves each kernel, and that each kernel and its reference leave the same arrays. -/
theorem claim : Cert.Claim := ⟨Cert.Branch.Gen.facts, Cert.BranchIdeal.Gen.facts, Cert.RefBranchIdeal.Gen.facts, Cert.Outnorm.Gen.facts, Cert.OutnormIdeal.Gen.facts, Cert.RefOutnormIdeal.Gen.facts, Cert.Ffnup.Gen.facts, Cert.FfnupIdeal.Gen.facts, Cert.RefFfnupIdeal.Gen.facts, Cert.Ffndown.Gen.facts, Cert.FfndownIdeal.Gen.facts, Cert.RefFfndownIdeal.Gen.facts, Cert.Inproj.Gen.facts, Cert.InprojIdeal.Gen.facts, Cert.RefInprojIdeal.Gen.facts, Cert.Downsample.Gen.facts, Cert.DownsampleIdeal.Gen.facts, Cert.RefDownsampleIdeal.Gen.facts, Cert.Insample.Gen.facts, Cert.InsampleIdeal.Gen.facts, Cert.RefInsampleIdeal.Gen.facts, Cert.Upsample.Gen.facts, Cert.UpsampleIdeal.Gen.facts, Cert.RefUpsampleIdeal.Gen.facts, finite_facts, finite_sample_facts,
  fun m ρ _ => Cert.Branch.Gen.frame m ρ,
  fun m ρ _ => Cert.BranchIdeal.Gen.frame m ρ,
  quiescent_RefBranchIdeal,
  fun m ρ _ => Cert.Outnorm.Gen.frame m ρ,
  fun m ρ _ => Cert.OutnormIdeal.Gen.frame m ρ,
  quiescent_RefOutnormIdeal,
  fun m ρ _ => Cert.Ffnup.Gen.frame m ρ,
  fun m ρ _ => Cert.FfnupIdeal.Gen.frame m ρ,
  quiescent_RefFfnupIdeal,
  fun m ρ _ => Cert.Ffndown.Gen.frame m ρ,
  fun m ρ _ => Cert.FfndownIdeal.Gen.frame m ρ,
  quiescent_RefFfndownIdeal,
  quiescent_Inproj,
  quiescent_InprojIdeal,
  @quiescent_InprojIdeal_pre_finite finite_facts,
  quiescent_RefInprojIdeal,
  @quiescent_RefInprojIdeal_pre_finite finite_facts,
  fun m ρ _ => Cert.Downsample.Gen.frame m ρ,
  fun m ρ _ => Cert.DownsampleIdeal.Gen.frame m ρ,
  quiescent_RefDownsampleIdeal,
  quiescent_Insample,
  quiescent_InsampleIdeal,
  @quiescent_InsampleIdeal_pre_finite_sample finite_sample_facts,
  quiescent_RefInsampleIdeal,
  @quiescent_RefInsampleIdeal_pre_finite_sample finite_sample_facts,
  fun m ρ _ => Cert.Upsample.Gen.frame m ρ,
  fun m ρ _ => Cert.UpsampleIdeal.Gen.frame m ρ,
  quiescent_RefUpsampleIdeal,
  (trivial : preserves_Branch_BranchIdeal),
  algebraic_BranchIdeal_RefBranchIdeal,
  (trivial : preserves_Outnorm_OutnormIdeal),
  algebraic_OutnormIdeal_RefOutnormIdeal,
  (trivial : preserves_Ffnup_FfnupIdeal),
  algebraic_FfnupIdeal_RefFfnupIdeal,
  (trivial : preserves_Ffndown_FfndownIdeal),
  algebraic_FfndownIdeal_RefFfndownIdeal,
  (trivial : preserves_Inproj_InprojIdeal),
  @algebraic_InprojIdeal_RefInprojIdeal_pre_finite finite_facts,
  (trivial : preserves_Downsample_DownsampleIdeal),
  algebraic_DownsampleIdeal_RefDownsampleIdeal,
  (trivial : preserves_Insample_InsampleIdeal),
  @algebraic_InsampleIdeal_RefInsampleIdeal_pre_finite_sample finite_sample_facts,
  (trivial : preserves_Upsample_UpsampleIdeal),
  algebraic_UpsampleIdeal_RefUpsampleIdeal⟩

end Cert.Proof

end
